-- ==== Defs.lean ====
def Pre_Kernel [hPre_even_Kernel : Cert.Pre_even_Kernel.Facts] (m : (ℓ : Loc Cert.Kernel.nD Cert.Kernel.τ Cert.Kernel.sig) → Buf (Elt Bits) ℓ) : Prop :=
  ∀ c : Dev Cert.Kernel.nD,
    (Cert.Pre_even_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_even_Kernel : Cert.Pre_even_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_even_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_ReferenceIdeal [hPre_even_ReferenceIdeal : Cert.Pre_even_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_even_Kernel : Cert.Pre_even_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even_ReferenceIdeal [hReferenceIdeal : Cert.ReferenceIdeal.Facts] [hPre_even_ReferenceIdeal : Cert.Pre_even_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨3, ![2048, 8, 128]⟩ ⟨3, ![4096, 8, 128]⟩ (Layout.meshBlock [2, 2, 4] ![[1], [], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![2048, 8, 128]⟩ ⟨3, ![4096, 8, 128]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_even_Kernel : Cert.Pre_even_Kernel.Facts) (hPre_even_ReferenceIdeal : Cert.Pre_even_ReferenceIdeal.Facts),
    quiescent_Kernel (hKernel := hKernel) (hPre_even_Kernel := hPre_even_Kernel)
    ∧ quiescent_KernelIdeal (hKernelIdeal := hKernelIdeal) (hPre_even_Kernel := hPre_even_Kernel)
    ∧ quiescent_ReferenceIdeal (hReferenceIdeal := hReferenceIdeal)
    ∧ quiescent_ReferenceIdeal_pre_even_ReferenceIdeal (hReferenceIdeal := hReferenceIdeal) (hPre_even_ReferenceIdeal := hPre_even_ReferenceIdeal)
    ∧ preserves_Kernel_KernelIdeal
    ∧ algebraic_KernelIdeal_ReferenceIdeal (hKernelIdeal := hKernelIdeal) (hReferenceIdeal := hReferenceIdeal) (hPre_even_Kernel := hPre_even_Kernel)
-- ==== Pre_even_Kernel.lean ====
abbrev S2x7 : Shape := ⟨2, ![2, 7]⟩
abbrev S2048x8x128 : Shape := ⟨3, ![2048, 8, 128]⟩
abbrev S1x1 : Shape := ⟨2, ![1, 1]⟩
abbrev S_ : Shape := ⟨0, ![]⟩
abbrev S1 : Shape := ⟨1, ![1]⟩
abbrev S7 : Shape := ⟨1, ![7]⟩
abbrev S1x7 : Shape := ⟨2, ![1, 7]⟩

class Facts : Prop where
  slices_S2x7_S1x1_0_3 : S2x7.Slices ![0, 3] S1x1
  shapeCasts_S1x1_S_ : S1x1.ShapeCasts S_
  slices_S2x7_S1x1_0_6 : S2x7.Slices ![0, 6] S1x1
  bcast_S_S1 : S_.BroadcastsInDim S1 (![] : Fin 0 → Fin S1.rank)
  concatenates_S1_S1_S1_S1_S1_S1_S1_S7_d0 : Shape.Concatenates [S1, S1, S1, S1, S1, S1, S1] S7 0
  slices_S2x7_S1x7_0_0 : S2x7.Slices ![0, 0] S1x7
  shapeCasts_S1x7_S7 : S1x7.ShapeCasts S7
  reducesTo_S7_S_d0 : S7.ReducesTo [0] S_
  h_S_ : 0 < S_.numel
  slices_S2x7_S1x7_1_0 : S2x7.Slices ![1, 0] S1x7

variable [Facts]

def fn_part2 {F : FTy → Type} [FloatOps F] (main_v1 : IVec S_ 32) (main_v3 : IVec S_ 32) (main_v32 : IVec S_ 1) (main_v33 : IVec S_ 1) (main_v34 : IVec S_ 32) : IVec S_ 1 :=
  let main_c_12 : IVec S_ 32 := constantI S_ 32 1024#32
  let main_v35 : IVec S_ 1 := cmpi .sgt main_v34 main_c_12
  let main_v36 : IVec S_ 1 := andi main_v33 main_v35
  let main_c_13 : IVec S_ 32 := constantI S_ 32 0#32
  let main_v37 : IVec S_ 1 := cmpi .sge main_v3 main_c_13
  let main_c_14 : IVec S_ 32 := constantI S_ 32 32#32
  let main_v38 : IVec S_ 1 := cmpi .sle main_v3 main_c_14
  let main_v39 : IVec S_ 1 := andi main_v37 main_v38
  let main_c_15 : IVec S_ 32 := constantI S_ 32 2048#32
  let main_v40 : IVec S_ 32 := subi main_c_15 main_v1
  let main_c_16 : IVec S_ 32 := constantI S_ 32 64#32
  let main_v41 : IVec S_ 32 := muli main_v3 main_c_16
  let main_v42 : IVec S_ 1 := cmpi .sle main_v40 main_v41
  let main_v43 : IVec S_ 1 := andi main_v39 main_v42
  let main_c_17 : IVec S_ 32 := constantI S_ 32 64#32
  let main_v44 : IVec S_ 32 := muli main_v3 main_c_17
  let main_c_18 : IVec S_ 32 := constantI S_ 32 2048#32
  let main_v45 : IVec S_ 32 := subi main_c_18 main_v1
  let main_c_19 : IVec S_ 32 := constantI S_ 32 64#32
  let main_v46 : IVec S_ 32 := addi main_v45 main_c_19
  let main_v47 : IVec S_ 1 := cmpi .slt main_v44 main_v46
  let main_v48 : IVec S_ 1 := andi main_v43 main_v47
  let main_v49 : IVec S_ 1 := andi main_v32 main_v36
  let main_v50 : IVec S_ 1 := andi main_v49 main_v48
  main_v50

def fn_part1 {F : FTy → Type} [FloatOps F] (main_arg0 : IVec S2x7 32) (main_v1 : IVec S_ 32) (main_v3 : IVec S_ 32) (main_v13 : IVec S7 32) (main_v14 : IVec S_ 32) (main_v15 : IVec S_ 32) (main_c_6 : IVec S_ 32) : IVec S_ 1 :=
  let main_c_7 : IVec S_ 32 := constantI S_ 32 0#32
  let main_v16 : IVec S1 32 := broadcastInDim S1 ![] bcast_S_S1 main_c_6
  let main_v17 : IVec S1 32 := broadcastInDim S1 ![] bcast_S_S1 main_c_7
  let main_v18 : IVec S1 32 := broadcastInDim S1 ![] bcast_S_S1 main_v14
  let main_v19 : IVec S1 32 := broadcastInDim S1 ![] bcast_S_S1 main_v1
  let main_v20 : IVec S1 32 := broadcastInDim S1 ![] bcast_S_S1 main_v1
  let main_v21 : IVec S1 32 := broadcastInDim S1 ![] bcast_S_S1 main_v15
  let main_v22 : IVec S1 32 := broadcastInDim S1 ![] bcast_S_S1 main_v3
  let main_v23 : IVec S7 32 := concatenate S7 0 [⟨S1, main_v16⟩, ⟨S1, main_v17⟩, ⟨S1, main_v18⟩, ⟨S1, main_v19⟩, ⟨S1, main_v20⟩, ⟨S1, main_v21⟩, ⟨S1, main_v22⟩] concatenates_S1_S1_S1_S1_S1_S1_S1_S7_d0
  let main_v24 : IVec S1x7 32 := (extractStridedSlice S1x7 ![0, 0] · slices_S2x7_S1x7_0_0) main_arg0
  let main_v25 : IVec S7 32 := shapeCast S7 main_v24 shapeCasts_S1x7_S7
  let main_v26 : IVec S7 1 := cmpi .eq main_v25 main_v13
  let main_c_8 : IVec S_ 1 := constantI S_ 1 1#1
  let main_v27 : IVec S_ 1 := (fun x v => Host.reduce IntOp.andi x v reducesTo_S7_S_d0 h_S_) main_v26 main_c_8
  let main_v28 : IVec S1x7 32 := (extractStridedSlice S1x7 ![1, 0] · slices_S2x7_S1x7_1_0) main_arg0
  let main_v29 : IVec S7 32 := shapeCast S7 main_v28 shapeCasts_S1x7_S7
  let main_v30 : IVec S7 1 := cmpi .eq main_v29 main_v23
  let main_c_9 : IVec S_ 1 := constantI S_ 1 1#1
  let main_v31 : IVec S_ 1 := (fun x v => Host.reduce IntOp.andi x v reducesTo_S7_S_d0 h_S_) main_v30 main_c_9
  let main_v32 : IVec S_ 1 := andi main_v27 main_v31
  let main_c_10 : IVec S_ 32 := constantI S_ 32 1024#32
  let main_v33 : IVec S_ 1 := cmpi .sle main_v1 main_c_10
  let main_c_11 : IVec S_ 32 := constantI S_ 32 64#32
  let main_v34 : IVec S_ 32 := addi main_v1 main_c_11
  fn_part2 (F := F) main_v1 main_v3 main_v32 main_v33 main_v34

def fn {F : FTy → Type} [FloatOps F] (main_arg0 : IVec S2x7 32) (main_arg1 : FVec F S2048x8x128 .bf16) : IVec S_ 1 :=
  let main_v0 : IVec S1x1 32 := (extractStridedSlice S1x1 ![0, 3] · slices_S2x7_S1x1_0_3) main_arg0
  let main_v1 : IVec S_ 32 := shapeCast S_ main_v0 shapeCasts_S1x1_S_
  let main_v2 : IVec S1x1 32 := (extractStridedSlice S1x1 ![0, 6] · slices_S2x7_S1x1_0_6) main_arg0
  let main_v3 : IVec S_ 32 := shapeCast S_ main_v2 shapeCasts_S1x1_S_
  let main_c : IVec S_ 32 := constantI S_ 32 2048#32
  let main_v4 : IVec S_ 32 := subi main_c main_v1
  let main_c_0 : IVec S_ 32 := constantI S_ 32 2048#32
  let main_v5 : IVec S_ 32 := subi main_c_0 main_v1
  let main_c_1 : IVec S_ 32 := constantI S_ 32 16#32
  let main_c_2 : IVec S_ 32 := constantI S_ 32 0#32
  let main_c_3 : IVec S_ 32 := constantI S_ 32 0#32
  let main_v6 : IVec S1 32 := broadcastInDim S1 ![] bcast_S_S1 main_c_1
  let main_v7 : IVec S1 32 := broadcastInDim S1 ![] bcast_S_S1 main_v4
  let main_v8 : IVec S1 32 := broadcastInDim S1 ![] bcast_S_S1 main_c_2
  let main_v9 : IVec S1 32 := broadcastInDim S1 ![] bcast_S_S1 main_v1
  let main_v10 : IVec S1 32 := broadcastInDim S1 ![] bcast_S_S1 main_c_3
  let main_v11 : IVec S1 32 := broadcastInDim S1 ![] bcast_S_S1 main_v5
  let main_v12 : IVec S1 32 := broadcastInDim S1 ![] bcast_S_S1 main_v3
  let main_v13 : IVec S7 32 := concatenate S7 0 [⟨S1, main_v6⟩, ⟨S1, main_v7⟩, ⟨S1, main_v8⟩, ⟨S1, main_v9⟩, ⟨S1, main_v10⟩, ⟨S1, main_v11⟩, ⟨S1, main_v12⟩] concatenates_S1_S1_S1_S1_S1_S1_S1_S7_d0
  let main_c_4 : IVec S_ 32 := constantI S_ 32 2048#32
  let main_v14 : IVec S_ 32 := subi main_c_4 main_v1
  let main_c_5 : IVec S_ 32 := constantI S_ 32 2048#32
  let main_v15 : IVec S_ 32 := subi main_c_5 main_v1
  let main_c_6 : IVec S_ 32 := constantI S_ 32 16#32
  fn_part1 (F := F) main_arg0 main_v1 main_v3 main_v13 main_v14 main_v15 main_c_6
-- ==== Pre_even_ReferenceIdeal.lean ====
abbrev S2x7 : Shape := ⟨2, ![2, 7]⟩
abbrev S4096x8x128 : Shape := ⟨3, ![4096, 8, 128]⟩
abbrev S1x1 : Shape := ⟨2, ![1, 1]⟩
abbrev S_ : Shape := ⟨0, ![]⟩
abbrev S1 : Shape := ⟨1, ![1]⟩
abbrev S7 : Shape := ⟨1, ![7]⟩
abbrev S1x7 : Shape := ⟨2, ![1, 7]⟩

class Facts : Prop where
  slices_S2x7_S1x1_0_3 : S2x7.Slices ![0, 3] S1x1
  shapeCasts_S1x1_S_ : S1x1.ShapeCasts S_
  slices_S2x7_S1x1_0_6 : S2x7.Slices ![0, 6] S1x1
  bcast_S_S1 : S_.BroadcastsInDim S1 (![] : Fin 0 → Fin S1.rank)
  concatenates_S1_S1_S1_S1_S1_S1_S1_S7_d0 : Shape.Concatenates [S1, S1, S1, S1, S1, S1, S1] S7 0
  slices_S2x7_S1x7_0_0 : S2x7.Slices ![0, 0] S1x7
  shapeCasts_S1x7_S7 : S1x7.ShapeCasts S7
  reducesTo_S7_S_d0 : S7.ReducesTo [0] S_
  h_S_ : 0 < S_.numel
  slices_S2x7_S1x7_1_0 : S2x7.Slices ![1, 0] S1x7

variable [Facts]

def fn_part2 {F : FTy → Type} [FloatOps F] (main_v1 : IVec S_ 32) (main_v3 : IVec S_ 32) (main_v32 : IVec S_ 1) (main_v33 : IVec S_ 1) (main_v34 : IVec S_ 32) : IVec S_ 1 :=
  let main_c_12 : IVec S_ 32 := constantI S_ 32 1024#32
  let main_v35 : IVec S_ 1 := cmpi .sgt main_v34 main_c_12
  let main_v36 : IVec S_ 1 := andi main_v33 main_v35
  let main_c_13 : IVec S_ 32 := constantI S_ 32 0#32
  let main_v37 : IVec S_ 1 := cmpi .sge main_v3 main_c_13
  let main_c_14 : IVec S_ 32 := constantI S_ 32 32#32
  let main_v38 : IVec S_ 1 := cmpi .sle main_v3 main_c_14
  let main_v39 : IVec S_ 1 := andi main_v37 main_v38
  let main_c_15 : IVec S_ 32 := constantI S_ 32 2048#32
  let main_v40 : IVec S_ 32 := subi main_c_15 main_v1
  let main_c_16 : IVec S_ 32 := constantI S_ 32 64#32
  let main_v41 : IVec S_ 32 := muli main_v3 main_c_16
  let main_v42 : IVec S_ 1 := cmpi .sle main_v40 main_v41
  let main_v43 : IVec S_ 1 := andi main_v39 main_v42
  let main_c_17 : IVec S_ 32 := constantI S_ 32 64#32
  let main_v44 : IVec S_ 32 := muli main_v3 main_c_17
  let main_c_18 : IVec S_ 32 := constantI S_ 32 2048#32
  let main_v45 : IVec S_ 32 := subi main_c_18 main_v1
  let main_c_19 : IVec S_ 32 := constantI S_ 32 64#32
  let main_v46 : IVec S_ 32 := addi main_v45 main_c_19
  let main_v47 : IVec S_ 1 := cmpi .slt main_v44 main_v46
  let main_v48 : IVec S_ 1 := andi main_v43 main_v47
  let main_v49 : IVec S_ 1 := andi main_v32 main_v36
  let main_v50 : IVec S_ 1 := andi main_v49 main_v48
  main_v50

def fn_part1 {F : FTy → Type} [FloatOps F] (main_arg0 : IVec S2x7 32) (main_v1 : IVec S_ 32) (main_v3 : IVec S_ 32) (main_v13 : IVec S7 32) (main_v14 : IVec S_ 32) (main_v15 : IVec S_ 32) (main_c_6 : IVec S_ 32) : IVec S_ 1 :=
  let main_c_7 : IVec S_ 32 := constantI S_ 32 0#32
  let main_v16 : IVec S1 32 := broadcastInDim S1 ![] bcast_S_S1 main_c_6
  let main_v17 : IVec S1 32 := broadcastInDim S1 ![] bcast_S_S1 main_c_7
  let main_v18 : IVec S1 32 := broadcastInDim S1 ![] bcast_S_S1 main_v14
  let main_v19 : IVec S1 32 := broadcastInDim S1 ![] bcast_S_S1 main_v1
  let main_v20 : IVec S1 32 := broadcastInDim S1 ![] bcast_S_S1 main_v1
  let main_v21 : IVec S1 32 := broadcastInDim S1 ![] bcast_S_S1 main_v15
  let main_v22 : IVec S1 32 := broadcastInDim S1 ![] bcast_S_S1 main_v3
  let main_v23 : IVec S7 32 := concatenate S7 0 [⟨S1, main_v16⟩, ⟨S1, main_v17⟩, ⟨S1, main_v18⟩, ⟨S1, main_v19⟩, ⟨S1, main_v20⟩, ⟨S1, main_v21⟩, ⟨S1, main_v22⟩] concatenates_S1_S1_S1_S1_S1_S1_S1_S7_d0
  let main_v24 : IVec S1x7 32 := (extractStridedSlice S1x7 ![0, 0] · slices_S2x7_S1x7_0_0) main_arg0
  let main_v25 : IVec S7 32 := shapeCast S7 main_v24 shapeCasts_S1x7_S7
  let main_v26 : IVec S7 1 := cmpi .eq main_v25 main_v13
  let main_c_8 : IVec S_ 1 := constantI S_ 1 1#1
  let main_v27 : IVec S_ 1 := (fun x v => Host.reduce IntOp.andi x v reducesTo_S7_S_d0 h_S_) main_v26 main_c_8
  let main_v28 : IVec S1x7 32 := (extractStridedSlice S1x7 ![1, 0] · slices_S2x7_S1x7_1_0) main_arg0
  let main_v29 : IVec S7 32 := shapeCast S7 main_v28 shapeCasts_S1x7_S7
  let main_v30 : IVec S7 1 := cmpi .eq main_v29 main_v23
  let main_c_9 : IVec S_ 1 := constantI S_ 1 1#1
  let main_v31 : IVec S_ 1 := (fun x v => Host.reduce IntOp.andi x v reducesTo_S7_S_d0 h_S_) main_v30 main_c_9
  let main_v32 : IVec S_ 1 := andi main_v27 main_v31
  let main_c_10 : IVec S_ 32 := constantI S_ 32 1024#32
  let main_v33 : IVec S_ 1 := cmpi .sle main_v1 main_c_10
  let main_c_11 : IVec S_ 32 := constantI S_ 32 64#32
  let main_v34 : IVec S_ 32 := addi main_v1 main_c_11
  fn_part2 (F := F) main_v1 main_v3 main_v32 main_v33 main_v34

def fn {F : FTy → Type} [FloatOps F] (main_arg0 : IVec S2x7 32) (main_arg1 : FVec F S4096x8x128 .bf16) : IVec S_ 1 :=
  let main_v0 : IVec S1x1 32 := (extractStridedSlice S1x1 ![0, 3] · slices_S2x7_S1x1_0_3) main_arg0
  let main_v1 : IVec S_ 32 := shapeCast S_ main_v0 shapeCasts_S1x1_S_
  let main_v2 : IVec S1x1 32 := (extractStridedSlice S1x1 ![0, 6] · slices_S2x7_S1x1_0_6) main_arg0
  let main_v3 : IVec S_ 32 := shapeCast S_ main_v2 shapeCasts_S1x1_S_
  let main_c : IVec S_ 32 := constantI S_ 32 2048#32
  let main_v4 : IVec S_ 32 := subi main_c main_v1
  let main_c_0 : IVec S_ 32 := constantI S_ 32 2048#32
  let main_v5 : IVec S_ 32 := subi main_c_0 main_v1
  let main_c_1 : IVec S_ 32 := constantI S_ 32 16#32
  let main_c_2 : IVec S_ 32 := constantI S_ 32 0#32
  let main_c_3 : IVec S_ 32 := constantI S_ 32 0#32
  let main_v6 : IVec S1 32 := broadcastInDim S1 ![] bcast_S_S1 main_c_1
  let main_v7 : IVec S1 32 := broadcastInDim S1 ![] bcast_S_S1 main_v4
  let main_v8 : IVec S1 32 := broadcastInDim S1 ![] bcast_S_S1 main_c_2
  let main_v9 : IVec S1 32 := broadcastInDim S1 ![] bcast_S_S1 main_v1
  let main_v10 : IVec S1 32 := broadcastInDim S1 ![] bcast_S_S1 main_c_3
  let main_v11 : IVec S1 32 := broadcastInDim S1 ![] bcast_S_S1 main_v5
  let main_v12 : IVec S1 32 := broadcastInDim S1 ![] bcast_S_S1 main_v3
  let main_v13 : IVec S7 32 := concatenate S7 0 [⟨S1, main_v6⟩, ⟨S1, main_v7⟩, ⟨S1, main_v8⟩, ⟨S1, main_v9⟩, ⟨S1, main_v10⟩, ⟨S1, main_v11⟩, ⟨S1, main_v12⟩] concatenates_S1_S1_S1_S1_S1_S1_S1_S7_d0
  let main_c_4 : IVec S_ 32 := constantI S_ 32 2048#32
  let main_v14 : IVec S_ 32 := subi main_c_4 main_v1
  let main_c_5 : IVec S_ 32 := constantI S_ 32 2048#32
  let main_v15 : IVec S_ 32 := subi main_c_5 main_v1
  let main_c_6 : IVec S_ 32 := constantI S_ 32 16#32
  fn_part1 (F := F) main_arg0 main_v1 main_v3 main_v13 main_v14 main_v15 main_c_6
-- ==== Kernel.lean ====
abbrev S2x7 : Shape := ⟨2, ![2, 7]⟩
abbrev S2048x8x128 : Shape := ⟨3, ![2048, 8, 128]⟩
abbrev S32 : Shape := ⟨1, ![32]⟩
abbrev S_ : Shape := ⟨0, ![]⟩
abbrev S1x1 : Shape := ⟨2, ![1, 1]⟩
abbrev S1 : Shape := ⟨1, ![1]⟩
abbrev S64x8x128 : Shape := ⟨3, ![64, 8, 128]⟩

abbrev nBuf : Space → Nat
  | .hbm => 3
  | .vmem => 2
  | .smem => 1
  | _ => 0

abbrev bufTy : (tb : Table) → Fin (tcTables nBuf tb) → BufTy
  | .hbm, ⟨0, _⟩ => ⟨S2x7, .i32⟩
  | .hbm, ⟨1, _⟩ => ⟨S2048x8x128, .bf16⟩
  | .hbm, ⟨2, _⟩ => ⟨S2048x8x128, .bf16⟩
  | .local _ .vmem, ⟨0, _⟩ => ⟨S2048x8x128, .bf16⟩
  | .local _ .vmem, ⟨1, _⟩ => ⟨S2048x8x128, .bf16⟩
  | .local _ .smem, ⟨0, _⟩ => ⟨S2x7, .i32⟩
  | _, _ => ⟨S2x7, .i32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => true
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 1 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 16
abbrev τ : Topo := Topo.v7x

variable {F : FTy → Type} [FloatOps F]

abbrev grid0 : Pipeline.Grid := .none

def k0_off1 (d1_r0 : Dev nD) : Fin 2 → Nat :=
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v11_r0 : Index := Scalar.indexCast v6_r0
  let c0_r0 : Index := 0#32
  ![v11_r0.toNat, 0]
def k0_off2 (d1_r0 : Dev nD) : Fin 2 → Nat :=
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v13_r0 : Index := Scalar.indexCast v6_r0
  let c1_r0 : Index := 1#32
  ![v13_r0.toNat, 1]
def k0_off3 (d1_r0 : Dev nD) : Fin 2 → Nat :=
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v15_r0 : Index := Scalar.indexCast v6_r0
  let c2_r0 : Index := 2#32
  ![v15_r0.toNat, 2]
def k0_off4 (d1_r0 : Dev nD) : Fin 2 → Nat :=
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v17_r0 : Index := Scalar.indexCast v6_r0
  let c3_r0 : Index := 3#32
  ![v17_r0.toNat, 3]
def k0_off5 (d1_r0 : Dev nD) : Fin 2 → Nat :=
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v19_r0 : Index := Scalar.indexCast v6_r0
  let c4_r0 : Index := 4#32
  ![v19_r0.toNat, 4]
def k0_off6 (d1_r0 : Dev nD) : Fin 2 → Nat :=
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v21_r0 : Index := Scalar.indexCast v6_r0
  let c5_r0 : Index := 5#32
  ![v21_r0.toNat, 5]
def k0_off7 (d1_r0 : Dev nD) : Fin 2 → Nat :=
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v23_r0 : Index := Scalar.indexCast v6_r0
  let c6_r0 : Index := 6#32
  ![v23_r0.toNat, 6]
def k0_off8 (v20_r0 : BitVec 32) (v22_r0 : BitVec 32) : Fin 3 → Nat :=
  let c0_i32_237_r0 : BitVec 32 := 0#32
  let c64_i32_r0 : BitVec 32 := 64#32
  let v415_r0 : BitVec 32 := Scalar.subi v22_r0 c64_i32_r0
  let v416_r0 : BitVec 32 := Scalar.minsi c0_i32_237_r0 v415_r0
  let c0_i32_238_r0 : BitVec 32 := 0#32
  let v417_r0 : BitVec 32 := Scalar.maxsi v416_r0 c0_i32_238_r0
  let v419_r0 : BitVec 32 := Scalar.addi v20_r0 v417_r0
  let c0_i32_240_r0 : BitVec 32 := 0#32
  let c0_i32_241_r0 : BitVec 32 := 0#32
  ![v419_r0.toNat, 0, 0]
def k0_cond1 (v24_r0 : BitVec 32) : BitVec 1 :=
  let c0_i32_r0 : BitVec 32 := 0#32
  let v25_r0 : BitVec 1 := Scalar.cmpi .sgt v24_r0 c0_i32_r0
  let v26_r0 : BitVec 32 := Scalar.extui v25_r0
  let c0_i32_3_r0 : BitVec 32 := 0#32
  let v27_r0 : BitVec 1 := Scalar.cmpi .ne v26_r0 c0_i32_3_r0
  v27_r0

def k0_off9 (v20_r0 : BitVec 32) (v22_r0 : BitVec 32) : Fin 3 → Nat :=
  let c64_i32_237_r0 : BitVec 32 := 64#32
  let c64_i32_r0 : BitVec 32 := 64#32
  let v415_r0 : BitVec 32 := Scalar.subi v22_r0 c64_i32_r0
  let v416_r0 : BitVec 32 := Scalar.minsi c64_i32_237_r0 v415_r0
  let c0_i32_238_r0 : BitVec 32 := 0#32
  let v417_r0 : BitVec 32 := Scalar.maxsi v416_r0 c0_i32_238_r0
  let v419_r0 : BitVec 32 := Scalar.addi v20_r0 v417_r0
  let c0_i32_240_r0 : BitVec 32 := 0#32
  let c0_i32_241_r0 : BitVec 32 := 0#32
  ![v419_r0.toNat, 0, 0]
def k0_cond2 (v24_r0 : BitVec 32) : BitVec 1 :=
  let c1_i32_4_r0 : BitVec 32 := 1#32
  let v28_r0 : BitVec 1 := Scalar.cmpi .sgt v24_r0 c1_i32_4_r0
  let v29_r0 : BitVec 32 := Scalar.extui v28_r0
  let c0_i32_5_r0 : BitVec 32 := 0#32
  let v30_r0 : BitVec 1 := Scalar.cmpi .ne v29_r0 c0_i32_5_r0
  v30_r0

def k0_off10 (v20_r0 : BitVec 32) (v22_r0 : BitVec 32) : Fin 3 → Nat :=
  let c128_i32_r0 : BitVec 32 := 128#32
  let c64_i32_r0 : BitVec 32 := 64#32
  let v415_r0 : BitVec 32 := Scalar.subi v22_r0 c64_i32_r0
  let v416_r0 : BitVec 32 := Scalar.minsi c128_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond3 (v24_r0 : BitVec 32) : BitVec 1 :=
  let c2_i32_6_r0 : BitVec 32 := 2#32
  let v31_r0 : BitVec 1 := Scalar.cmpi .sgt v24_r0 c2_i32_6_r0
  let v32_r0 : BitVec 32 := Scalar.extui v31_r0
  let c0_i32_7_r0 : BitVec 32 := 0#32
  let v33_r0 : BitVec 1 := Scalar.cmpi .ne v32_r0 c0_i32_7_r0
  v33_r0

def k0_off11 (v20_r0 : BitVec 32) (v22_r0 : BitVec 32) : Fin 3 → Nat :=
  let c192_i32_r0 : BitVec 32 := 192#32
  let c64_i32_r0 : BitVec 32 := 64#32
  let v415_r0 : BitVec 32 := Scalar.subi v22_r0 c64_i32_r0
  let v416_r0 : BitVec 32 := Scalar.minsi c192_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond4 (v24_r0 : BitVec 32) : BitVec 1 :=
  let c3_i32_r0 : BitVec 32 := 3#32
  let v34_r0 : BitVec 1 := Scalar.cmpi .sgt v24_r0 c3_i32_r0
  let v35_r0 : BitVec 32 := Scalar.extui v34_r0
  let c0_i32_8_r0 : BitVec 32 := 0#32
  let v36_r0 : BitVec 1 := Scalar.cmpi .ne v35_r0 c0_i32_8_r0
  v36_r0

def k0_off12 (v20_r0 : BitVec 32) (v22_r0 : BitVec 32) : Fin 3 → Nat :=
  let c256_i32_r0 : BitVec 32 := 256#32
  let c64_i32_r0 : BitVec 32 := 64#32
  let v415_r0 : BitVec 32 := Scalar.subi v22_r0 c64_i32_r0
  let v416_r0 : BitVec 32 := Scalar.minsi c256_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond5 (v24_r0 : BitVec 32) : BitVec 1 :=
  let c4_i32_9_r0 : BitVec 32 := 4#32
  let v37_r0 : BitVec 1 := Scalar.cmpi .sgt v24_r0 c4_i32_9_r0
  let v38_r0 : BitVec 32 := Scalar.extui v37_r0
  let c0_i32_10_r0 : BitVec 32 := 0#32
  let v39_r0 : BitVec 1 := Scalar.cmpi .ne v38_r0 c0_i32_10_r0
  v39_r0

def k0_off13 (v20_r0 : BitVec 32) (v22_r0 : BitVec 32) : Fin 3 → Nat :=
  let c320_i32_r0 : BitVec 32 := 320#32
  let c64_i32_r0 : BitVec 32 := 64#32
  let v415_r0 : BitVec 32 := Scalar.subi v22_r0 c64_i32_r0
  let v416_r0 : BitVec 32 := Scalar.minsi c320_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond6 (v24_r0 : BitVec 32) : BitVec 1 :=
  let c5_i32_r0 : BitVec 32 := 5#32
  let v40_r0 : BitVec 1 := Scalar.cmpi .sgt v24_r0 c5_i32_r0
  let v41_r0 : BitVec 32 := Scalar.extui v40_r0
  let c0_i32_11_r0 : BitVec 32 := 0#32
  let v42_r0 : BitVec 1 := Scalar.cmpi .ne v41_r0 c0_i32_11_r0
  v42_r0

def k0_off14 (v20_r0 : BitVec 32) (v22_r0 : BitVec 32) : Fin 3 → Nat :=
  let c384_i32_r0 : BitVec 32 := 384#32
  let c64_i32_r0 : BitVec 32 := 64#32
  let v415_r0 : BitVec 32 := Scalar.subi v22_r0 c64_i32_r0
  let v416_r0 : BitVec 32 := Scalar.minsi c384_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond7 (v24_r0 : BitVec 32) : BitVec 1 :=
  let c6_i32_r0 : BitVec 32 := 6#32
  let v43_r0 : BitVec 1 := Scalar.cmpi .sgt v24_r0 c6_i32_r0
  let v44_r0 : BitVec 32 := Scalar.extui v43_r0
  let c0_i32_12_r0 : BitVec 32 := 0#32
  let v45_r0 : BitVec 1 := Scalar.cmpi .ne v44_r0 c0_i32_12_r0
  v45_r0

def k0_off15 (v20_r0 : BitVec 32) (v22_r0 : BitVec 32) : Fin 3 → Nat :=
  let c448_i32_r0 : BitVec 32 := 448#32
  let c64_i32_r0 : BitVec 32 := 64#32
  let v415_r0 : BitVec 32 := Scalar.subi v22_r0 c64_i32_r0
  let v416_r0 : BitVec 32 := Scalar.minsi c448_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond8 (v24_r0 : BitVec 32) : BitVec 1 :=
  let c7_i32_r0 : BitVec 32 := 7#32
  let v46_r0 : BitVec 1 := Scalar.cmpi .sgt v24_r0 c7_i32_r0
  let v47_r0 : BitVec 32 := Scalar.extui v46_r0
  let c0_i32_13_r0 : BitVec 32 := 0#32
  let v48_r0 : BitVec 1 := Scalar.cmpi .ne v47_r0 c0_i32_13_r0
  v48_r0

def k0_off16 (v20_r0 : BitVec 32) (v22_r0 : BitVec 32) : Fin 3 → Nat :=
  let c512_i32_r0 : BitVec 32 := 512#32
  let c64_i32_r0 : BitVec 32 := 64#32
  let v415_r0 : BitVec 32 := Scalar.subi v22_r0 c64_i32_r0
  let v416_r0 : BitVec 32 := Scalar.minsi c512_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond9 (v24_r0 : BitVec 32) : BitVec 1 :=
  let c8_i32_14_r0 : BitVec 32 := 8#32
  let v49_r0 : BitVec 1 := Scalar.cmpi .sgt v24_r0 c8_i32_14_r0
  let v50_r0 : BitVec 32 := Scalar.extui v49_r0
  let c0_i32_15_r0 : BitVec 32 := 0#32
  let v51_r0 : BitVec 1 := Scalar.cmpi .ne v50_r0 c0_i32_15_r0
  v51_r0

def k0_off17 (v20_r0 : BitVec 32) (v22_r0 : BitVec 32) : Fin 3 → Nat :=
  let c576_i32_r0 : BitVec 32 := 576#32
  let c64_i32_r0 : BitVec 32 := 64#32
  let v415_r0 : BitVec 32 := Scalar.subi v22_r0 c64_i32_r0
  let v416_r0 : BitVec 32 := Scalar.minsi c576_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond10 (v24_r0 : BitVec 32) : BitVec 1 :=
  let c9_i32_r0 : BitVec 32 := 9#32
  let v52_r0 : BitVec 1 := Scalar.cmpi .sgt v24_r0 c9_i32_r0
  let v53_r0 : BitVec 32 := Scalar.extui v52_r0
  let c0_i32_16_r0 : BitVec 32 := 0#32
  let v54_r0 : BitVec 1 := Scalar.cmpi .ne v53_r0 c0_i32_16_r0
  v54_r0

def k0_off18 (v20_r0 : BitVec 32) (v22_r0 : BitVec 32) : Fin 3 → Nat :=
  let c640_i32_r0 : BitVec 32 := 640#32
  let c64_i32_r0 : BitVec 32 := 64#32
  let v415_r0 : BitVec 32 := Scalar.subi v22_r0 c64_i32_r0
  let v416_r0 : BitVec 32 := Scalar.minsi c640_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond11 (v24_r0 : BitVec 32) : BitVec 1 :=
  let c10_i32_r0 : BitVec 32 := 10#32
  let v55_r0 : BitVec 1 := Scalar.cmpi .sgt v24_r0 c10_i32_r0
  let v56_r0 : BitVec 32 := Scalar.extui v55_r0
  let c0_i32_17_r0 : BitVec 32 := 0#32
  let v57_r0 : BitVec 1 := Scalar.cmpi .ne v56_r0 c0_i32_17_r0
  v57_r0

def k0_off19 (v20_r0 : BitVec 32) (v22_r0 : BitVec 32) : Fin 3 → Nat :=
  let c704_i32_r0 : BitVec 32 := 704#32
  let c64_i32_r0 : BitVec 32 := 64#32
  let v415_r0 : BitVec 32 := Scalar.subi v22_r0 c64_i32_r0
  let v416_r0 : BitVec 32 := Scalar.minsi c704_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond12 (v24_r0 : BitVec 32) : BitVec 1 :=
  let c11_i32_r0 : BitVec 32 := 11#32
  let v58_r0 : BitVec 1 := Scalar.cmpi .sgt v24_r0 c11_i32_r0
  let v59_r0 : BitVec 32 := Scalar.extui v58_r0
  let c0_i32_18_r0 : BitVec 32 := 0#32
  let v60_r0 : BitVec 1 := Scalar.cmpi .ne v59_r0 c0_i32_18_r0
  v60_r0

def k0_off20 (v20_r0 : BitVec 32) (v22_r0 : BitVec 32) : Fin 3 → Nat :=
  let c768_i32_r0 : BitVec 32 := 768#32
  let c64_i32_r0 : BitVec 32 := 64#32
  let v415_r0 : BitVec 32 := Scalar.subi v22_r0 c64_i32_r0
  let v416_r0 : BitVec 32 := Scalar.minsi c768_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond13 (v24_r0 : BitVec 32) : BitVec 1 :=
  let c12_i32_r0 : BitVec 32 := 12#32
  let v61_r0 : BitVec 1 := Scalar.cmpi .sgt v24_r0 c12_i32_r0
  let v62_r0 : BitVec 32 := Scalar.extui v61_r0
  let c0_i32_19_r0 : BitVec 32 := 0#32
  let v63_r0 : BitVec 1 := Scalar.cmpi .ne v62_r0 c0_i32_19_r0
  v63_r0

def k0_off21 (v20_r0 : BitVec 32) (v22_r0 : BitVec 32) : Fin 3 → Nat :=
  let c832_i32_r0 : BitVec 32 := 832#32
  let c64_i32_r0 : BitVec 32 := 64#32
  let v415_r0 : BitVec 32 := Scalar.subi v22_r0 c64_i32_r0
  let v416_r0 : BitVec 32 := Scalar.minsi c832_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond14 (v24_r0 : BitVec 32) : BitVec 1 :=
  let c13_i32_r0 : BitVec 32 := 13#32
  let v64_r0 : BitVec 1 := Scalar.cmpi .sgt v24_r0 c13_i32_r0
  let v65_r0 : BitVec 32 := Scalar.extui v64_r0
  let c0_i32_20_r0 : BitVec 32 := 0#32
  let v66_r0 : BitVec 1 := Scalar.cmpi .ne v65_r0 c0_i32_20_r0
  v66_r0

def k0_off22 (v20_r0 : BitVec 32) (v22_r0 : BitVec 32) : Fin 3 → Nat :=
  let c896_i32_r0 : BitVec 32 := 896#32
  let c64_i32_r0 : BitVec 32 := 64#32
  let v415_r0 : BitVec 32 := Scalar.subi v22_r0 c64_i32_r0
  let v416_r0 : BitVec 32 := Scalar.minsi c896_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond15 (v24_r0 : BitVec 32) : BitVec 1 :=
  let c14_i32_r0 : BitVec 32 := 14#32
  let v67_r0 : BitVec 1 := Scalar.cmpi .sgt v24_r0 c14_i32_r0
  let v68_r0 : BitVec 32 := Scalar.extui v67_r0
  let c0_i32_21_r0 : BitVec 32 := 0#32
  let v69_r0 : BitVec 1 := Scalar.cmpi .ne v68_r0 c0_i32_21_r0
  v69_r0

def k0_off23 (v20_r0 : BitVec 32) (v22_r0 : BitVec 32) : Fin 3 → Nat :=
  let c960_i32_r0 : BitVec 32 := 960#32
  let c64_i32_r0 : BitVec 32 := 64#32
  let v415_r0 : BitVec 32 := Scalar.subi v22_r0 c64_i32_r0
  let v416_r0 : BitVec 32 := Scalar.minsi c960_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond16 (v24_r0 : BitVec 32) : BitVec 1 :=
  let c15_i32_r0 : BitVec 32 := 15#32
  let v70_r0 : BitVec 1 := Scalar.cmpi .sgt v24_r0 c15_i32_r0
  let v71_r0 : BitVec 32 := Scalar.extui v70_r0
  let c0_i32_22_r0 : BitVec 32 := 0#32
  let v72_r0 : BitVec 1 := Scalar.cmpi .ne v71_r0 c0_i32_22_r0
  v72_r0

def k0_off24 (v20_r0 : BitVec 32) (v22_r0 : BitVec 32) : Fin 3 → Nat :=
  let c1024_i32_r0 : BitVec 32 := 1024#32
  let c64_i32_r0 : BitVec 32 := 64#32
  let v415_r0 : BitVec 32 := Scalar.subi v22_r0 c64_i32_r0
  let v416_r0 : BitVec 32 := Scalar.minsi c1024_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond17 (v24_r0 : BitVec 32) : BitVec 1 :=
  let c16_i32_r0 : BitVec 32 := 16#32
  let v73_r0 : BitVec 1 := Scalar.cmpi .sgt v24_r0 c16_i32_r0
  let v74_r0 : BitVec 32 := Scalar.extui v73_r0
  let c0_i32_23_r0 : BitVec 32 := 0#32
  let v75_r0 : BitVec 1 := Scalar.cmpi .ne v74_r0 c0_i32_23_r0
  v75_r0

def k0_off25 (v20_r0 : BitVec 32) (v22_r0 : BitVec 32) : Fin 3 → Nat :=
  let c1088_i32_r0 : BitVec 32 := 1088#32
  let c64_i32_r0 : BitVec 32 := 64#32
  let v415_r0 : BitVec 32 := Scalar.subi v22_r0 c64_i32_r0
  let v416_r0 : BitVec 32 := Scalar.minsi c1088_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond18 (v24_r0 : BitVec 32) : BitVec 1 :=
  let c17_i32_r0 : BitVec 32 := 17#32
  let v76_r0 : BitVec 1 := Scalar.cmpi .sgt v24_r0 c17_i32_r0
  let v77_r0 : BitVec 32 := Scalar.extui v76_r0
  let c0_i32_24_r0 : BitVec 32 := 0#32
  let v78_r0 : BitVec 1 := Scalar.cmpi .ne v77_r0 c0_i32_24_r0
  v78_r0

def k0_off26 (v20_r0 : BitVec 32) (v22_r0 : BitVec 32) : Fin 3 → Nat :=
  let c1152_i32_r0 : BitVec 32 := 1152#32
  let c64_i32_r0 : BitVec 32 := 64#32
  let v415_r0 : BitVec 32 := Scalar.subi v22_r0 c64_i32_r0
  let v416_r0 : BitVec 32 := Scalar.minsi c1152_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond19 (v24_r0 : BitVec 32) : BitVec 1 :=
  let c18_i32_r0 : BitVec 32 := 18#32
  let v79_r0 : BitVec 1 := Scalar.cmpi .sgt v24_r0 c18_i32_r0
  let v80_r0 : BitVec 32 := Scalar.extui v79_r0
  let c0_i32_25_r0 : BitVec 32 := 0#32
  let v81_r0 : BitVec 1 := Scalar.cmpi .ne v80_r0 c0_i32_25_r0
  v81_r0

def k0_off27 (v20_r0 : BitVec 32) (v22_r0 : BitVec 32) : Fin 3 → Nat :=
  let c1216_i32_r0 : BitVec 32 := 1216#32
  let c64_i32_r0 : BitVec 32 := 64#32
  let v415_r0 : BitVec 32 := Scalar.subi v22_r0 c64_i32_r0
  let v416_r0 : BitVec 32 := Scalar.minsi c1216_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond20 (v24_r0 : BitVec 32) : BitVec 1 :=
  let c19_i32_r0 : BitVec 32 := 19#32
  let v82_r0 : BitVec 1 := Scalar.cmpi .sgt v24_r0 c19_i32_r0
  let v83_r0 : BitVec 32 := Scalar.extui v82_r0
  let c0_i32_26_r0 : BitVec 32 := 0#32
  let v84_r0 : BitVec 1 := Scalar.cmpi .ne v83_r0 c0_i32_26_r0
  v84_r0

def k0_off28 (v20_r0 : BitVec 32) (v22_r0 : BitVec 32) : Fin 3 → Nat :=
  let c1280_i32_r0 : BitVec 32 := 1280#32
  let c64_i32_r0 : BitVec 32 := 64#32
  let v415_r0 : BitVec 32 := Scalar.subi v22_r0 c64_i32_r0
  let v416_r0 : BitVec 32 := Scalar.minsi c1280_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond21 (v24_r0 : BitVec 32) : BitVec 1 :=
  let c20_i32_r0 : BitVec 32 := 20#32
  let v85_r0 : BitVec 1 := Scalar.cmpi .sgt v24_r0 c20_i32_r0
  let v86_r0 : BitVec 32 := Scalar.extui v85_r0
  let c0_i32_27_r0 : BitVec 32 := 0#32
  let v87_r0 : BitVec 1 := Scalar.cmpi .ne v86_r0 c0_i32_27_r0
  v87_r0

def k0_off29 (v20_r0 : BitVec 32) (v22_r0 : BitVec 32) : Fin 3 → Nat :=
  let c1344_i32_r0 : BitVec 32 := 1344#32
  let c64_i32_r0 : BitVec 32 := 64#32
  let v415_r0 : BitVec 32 := Scalar.subi v22_r0 c64_i32_r0
  let v416_r0 : BitVec 32 := Scalar.minsi c1344_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond22 (v24_r0 : BitVec 32) : BitVec 1 :=
  let c21_i32_r0 : BitVec 32 := 21#32
  let v88_r0 : BitVec 1 := Scalar.cmpi .sgt v24_r0 c21_i32_r0
  let v89_r0 : BitVec 32 := Scalar.extui v88_r0
  let c0_i32_28_r0 : BitVec 32 := 0#32
  let v90_r0 : BitVec 1 := Scalar.cmpi .ne v89_r0 c0_i32_28_r0
  v90_r0

def k0_off30 (v20_r0 : BitVec 32) (v22_r0 : BitVec 32) : Fin 3 → Nat :=
  let c1408_i32_r0 : BitVec 32 := 1408#32
  let c64_i32_r0 : BitVec 32 := 64#32
  let v415_r0 : BitVec 32 := Scalar.subi v22_r0 c64_i32_r0
  let v416_r0 : BitVec 32 := Scalar.minsi c1408_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond23 (v24_r0 : BitVec 32) : BitVec 1 :=
  let c22_i32_r0 : BitVec 32 := 22#32
  let v91_r0 : BitVec 1 := Scalar.cmpi .sgt v24_r0 c22_i32_r0
  let v92_r0 : BitVec 32 := Scalar.extui v91_r0
  let c0_i32_29_r0 : BitVec 32 := 0#32
  let v93_r0 : BitVec 1 := Scalar.cmpi .ne v92_r0 c0_i32_29_r0
  v93_r0

def k0_off31 (v20_r0 : BitVec 32) (v22_r0 : BitVec 32) : Fin 3 → Nat :=
  let c1472_i32_r0 : BitVec 32 := 1472#32
  let c64_i32_r0 : BitVec 32 := 64#32
  let v415_r0 : BitVec 32 := Scalar.subi v22_r0 c64_i32_r0
  let v416_r0 : BitVec 32 := Scalar.minsi c1472_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond24 (v24_r0 : BitVec 32) : BitVec 1 :=
  let c23_i32_r0 : BitVec 32 := 23#32
  let v94_r0 : BitVec 1 := Scalar.cmpi .sgt v24_r0 c23_i32_r0
  let v95_r0 : BitVec 32 := Scalar.extui v94_r0
  let c0_i32_30_r0 : BitVec 32 := 0#32
  let v96_r0 : BitVec 1 := Scalar.cmpi .ne v95_r0 c0_i32_30_r0
  v96_r0

def k0_off32 (v20_r0 : BitVec 32) (v22_r0 : BitVec 32) : Fin 3 → Nat :=
  let c1536_i32_r0 : BitVec 32 := 1536#32
  let c64_i32_r0 : BitVec 32 := 64#32
  let v415_r0 : BitVec 32 := Scalar.subi v22_r0 c64_i32_r0
  let v416_r0 : BitVec 32 := Scalar.minsi c1536_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond25 (v24_r0 : BitVec 32) : BitVec 1 :=
  let c24_i32_r0 : BitVec 32 := 24#32
  let v97_r0 : BitVec 1 := Scalar.cmpi .sgt v24_r0 c24_i32_r0
  let v98_r0 : BitVec 32 := Scalar.extui v97_r0
  let c0_i32_31_r0 : BitVec 32 := 0#32
  let v99_r0 : BitVec 1 := Scalar.cmpi .ne v98_r0 c0_i32_31_r0
  v99_r0

def k0_off33 (v20_r0 : BitVec 32) (v22_r0 : BitVec 32) : Fin 3 → Nat :=
  let c1600_i32_r0 : BitVec 32 := 1600#32
  let c64_i32_r0 : BitVec 32 := 64#32
  let v415_r0 : BitVec 32 := Scalar.subi v22_r0 c64_i32_r0
  let v416_r0 : BitVec 32 := Scalar.minsi c1600_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond26 (v24_r0 : BitVec 32) : BitVec 1 :=
  let c25_i32_r0 : BitVec 32 := 25#32
  let v100_r0 : BitVec 1 := Scalar.cmpi .sgt v24_r0 c25_i32_r0
  let v101_r0 : BitVec 32 := Scalar.extui v100_r0
  let c0_i32_32_r0 : BitVec 32 := 0#32
  let v102_r0 : BitVec 1 := Scalar.cmpi .ne v101_r0 c0_i32_32_r0
  v102_r0

def k0_off34 (v20_r0 : BitVec 32) (v22_r0 : BitVec 32) : Fin 3 → Nat :=
  let c1664_i32_r0 : BitVec 32 := 1664#32
  let c64_i32_r0 : BitVec 32 := 64#32
  let v415_r0 : BitVec 32 := Scalar.subi v22_r0 c64_i32_r0
  let v416_r0 : BitVec 32 := Scalar.minsi c1664_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond27 (v24_r0 : BitVec 32) : BitVec 1 :=
  let c26_i32_r0 : BitVec 32 := 26#32
  let v103_r0 : BitVec 1 := Scalar.cmpi .sgt v24_r0 c26_i32_r0
  let v104_r0 : BitVec 32 := Scalar.extui v103_r0
  let c0_i32_33_r0 : BitVec 32 := 0#32
  let v105_r0 : BitVec 1 := Scalar.cmpi .ne v104_r0 c0_i32_33_r0
  v105_r0

def k0_off35 (v20_r0 : BitVec 32) (v22_r0 : BitVec 32) : Fin 3 → Nat :=
  let c1728_i32_r0 : BitVec 32 := 1728#32
  let c64_i32_r0 : BitVec 32 := 64#32
  let v415_r0 : BitVec 32 := Scalar.subi v22_r0 c64_i32_r0
  let v416_r0 : BitVec 32 := Scalar.minsi c1728_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond28 (v24_r0 : BitVec 32) : BitVec 1 :=
  let c27_i32_r0 : BitVec 32 := 27#32
  let v106_r0 : BitVec 1 := Scalar.cmpi .sgt v24_r0 c27_i32_r0
  let v107_r0 : BitVec 32 := Scalar.extui v106_r0
  let c0_i32_34_r0 : BitVec 32 := 0#32
  let v108_r0 : BitVec 1 := Scalar.cmpi .ne v107_r0 c0_i32_34_r0
  v108_r0

def k0_off36 (v20_r0 : BitVec 32) (v22_r0 : BitVec 32) : Fin 3 → Nat :=
  let c1792_i32_r0 : BitVec 32 := 1792#32
  let c64_i32_r0 : BitVec 32 := 64#32
  let v415_r0 : BitVec 32 := Scalar.subi v22_r0 c64_i32_r0
  let v416_r0 : BitVec 32 := Scalar.minsi c1792_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond29 (v24_r0 : BitVec 32) : BitVec 1 :=
  let c28_i32_r0 : BitVec 32 := 28#32
  let v109_r0 : BitVec 1 := Scalar.cmpi .sgt v24_r0 c28_i32_r0
  let v110_r0 : BitVec 32 := Scalar.extui v109_r0
  let c0_i32_35_r0 : BitVec 32 := 0#32
  let v111_r0 : BitVec 1 := Scalar.cmpi .ne v110_r0 c0_i32_35_r0
  v111_r0

def k0_off37 (v20_r0 : BitVec 32) (v22_r0 : BitVec 32) : Fin 3 → Nat :=
  let c1856_i32_r0 : BitVec 32 := 1856#32
  let c64_i32_r0 : BitVec 32 := 64#32
  let v415_r0 : BitVec 32 := Scalar.subi v22_r0 c64_i32_r0
  let v416_r0 : BitVec 32 := Scalar.minsi c1856_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond30 (v24_r0 : BitVec 32) : BitVec 1 :=
  let c29_i32_r0 : BitVec 32 := 29#32
  let v112_r0 : BitVec 1 := Scalar.cmpi .sgt v24_r0 c29_i32_r0
  let v113_r0 : BitVec 32 := Scalar.extui v112_r0
  let c0_i32_36_r0 : BitVec 32 := 0#32
  let v114_r0 : BitVec 1 := Scalar.cmpi .ne v113_r0 c0_i32_36_r0
  v114_r0

def k0_off38 (v20_r0 : BitVec 32) (v22_r0 : BitVec 32) : Fin 3 → Nat :=
  let c1920_i32_r0 : BitVec 32 := 1920#32
  let c64_i32_r0 : BitVec 32 := 64#32
  let v415_r0 : BitVec 32 := Scalar.subi v22_r0 c64_i32_r0
  let v416_r0 : BitVec 32 := Scalar.minsi c1920_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond31 (v24_r0 : BitVec 32) : BitVec 1 :=
  let c30_i32_r0 : BitVec 32 := 30#32
  let v115_r0 : BitVec 1 := Scalar.cmpi .sgt v24_r0 c30_i32_r0
  let v116_r0 : BitVec 32 := Scalar.extui v115_r0
  let c0_i32_37_r0 : BitVec 32 := 0#32
  let v117_r0 : BitVec 1 := Scalar.cmpi .ne v116_r0 c0_i32_37_r0
  v117_r0

def k0_off39 (v20_r0 : BitVec 32) (v22_r0 : BitVec 32) : Fin 3 → Nat :=
  let c1984_i32_r0 : BitVec 32 := 1984#32
  let c64_i32_r0 : BitVec 32 := 64#32
  let v415_r0 : BitVec 32 := Scalar.subi v22_r0 c64_i32_r0
  let v416_r0 : BitVec 32 := Scalar.minsi c1984_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond32 (v24_r0 : BitVec 32) : BitVec 1 :=
  let c31_i32_r0 : BitVec 32 := 31#32
  let v118_r0 : BitVec 1 := Scalar.cmpi .sgt v24_r0 c31_i32_r0
  let v119_r0 : BitVec 32 := Scalar.extui v118_r0
  let c0_i32_38_r0 : BitVec 32 := 0#32
  let v120_r0 : BitVec 1 := Scalar.cmpi .ne v119_r0 c0_i32_38_r0
  v120_r0

def k0_off40 (v20_r0 : BitVec 32) (v22_r0 : BitVec 32) : Fin 3 → Nat :=
  let c0_i32_237_r0 : BitVec 32 := 0#32
  let c64_i32_r0 : BitVec 32 := 64#32
  let v415_r0 : BitVec 32 := Scalar.subi v22_r0 c64_i32_r0
  let v416_r0 : BitVec 32 := Scalar.minsi c0_i32_237_r0 v415_r0
  let c0_i32_238_r0 : BitVec 32 := 0#32
  let v417_r0 : BitVec 32 := Scalar.maxsi v416_r0 c0_i32_238_r0
  let v419_r0 : BitVec 32 := Scalar.addi v20_r0 v417_r0
  let c0_i32_240_r0 : BitVec 32 := 0#32
  let c0_i32_241_r0 : BitVec 32 := 0#32
  ![v419_r0.toNat, 0, 0]
def k0_cond33 (v24_r0 : BitVec 32) : BitVec 1 :=
  let c0_i32_39_r0 : BitVec 32 := 0#32
  let v121_r0 : BitVec 1 := Scalar.cmpi .sgt v24_r0 c0_i32_39_r0
  let v122_r0 : BitVec 32 := Scalar.extui v121_r0
  let c0_i32_40_r0 : BitVec 32 := 0#32
  let v123_r0 : BitVec 1 := Scalar.cmpi .ne v122_r0 c0_i32_40_r0
  v123_r0

def k0_off41 (v20_r0 : BitVec 32) (v22_r0 : BitVec 32) : Fin 3 → Nat :=
  let c64_i32_237_r0 : BitVec 32 := 64#32
  let c64_i32_r0 : BitVec 32 := 64#32
  let v415_r0 : BitVec 32 := Scalar.subi v22_r0 c64_i32_r0
  let v416_r0 : BitVec 32 := Scalar.minsi c64_i32_237_r0 v415_r0
  let c0_i32_238_r0 : BitVec 32 := 0#32
  let v417_r0 : BitVec 32 := Scalar.maxsi v416_r0 c0_i32_238_r0
  let v419_r0 : BitVec 32 := Scalar.addi v20_r0 v417_r0
  let c0_i32_240_r0 : BitVec 32 := 0#32
  let c0_i32_241_r0 : BitVec 32 := 0#32
  ![v419_r0.toNat, 0, 0]
def k0_cond34 (v24_r0 : BitVec 32) : BitVec 1 :=
  let c1_i32_41_r0 : BitVec 32 := 1#32
  let v124_r0 : BitVec 1 := Scalar.cmpi .sgt v24_r0 c1_i32_41_r0
  let v125_r0 : BitVec 32 := Scalar.extui v124_r0
  let c0_i32_42_r0 : BitVec 32 := 0#32
  let v126_r0 : BitVec 1 := Scalar.cmpi .ne v125_r0 c0_i32_42_r0
  v126_r0

def k0_off42 (v20_r0 : BitVec 32) (v22_r0 : BitVec 32) : Fin 3 → Nat :=
  let c128_i32_r0 : BitVec 32 := 128#32
  let c64_i32_r0 : BitVec 32 := 64#32
  let v415_r0 : BitVec 32 := Scalar.subi v22_r0 c64_i32_r0
  let v416_r0 : BitVec 32 := Scalar.minsi c128_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond35 (v24_r0 : BitVec 32) : BitVec 1 :=
  let c2_i32_43_r0 : BitVec 32 := 2#32
  let v127_r0 : BitVec 1 := Scalar.cmpi .sgt v24_r0 c2_i32_43_r0
  let v128_r0 : BitVec 32 := Scalar.extui v127_r0
  let c0_i32_44_r0 : BitVec 32 := 0#32
  let v129_r0 : BitVec 1 := Scalar.cmpi .ne v128_r0 c0_i32_44_r0
  v129_r0

def k0_off43 (v20_r0 : BitVec 32) (v22_r0 : BitVec 32) : Fin 3 → Nat :=
  let c192_i32_r0 : BitVec 32 := 192#32
  let c64_i32_r0 : BitVec 32 := 64#32
  let v415_r0 : BitVec 32 := Scalar.subi v22_r0 c64_i32_r0
  let v416_r0 : BitVec 32 := Scalar.minsi c192_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond36 (v24_r0 : BitVec 32) : BitVec 1 :=
  let c3_i32_45_r0 : BitVec 32 := 3#32
  let v130_r0 : BitVec 1 := Scalar.cmpi .sgt v24_r0 c3_i32_45_r0
  let v131_r0 : BitVec 32 := Scalar.extui v130_r0
  let c0_i32_46_r0 : BitVec 32 := 0#32
  let v132_r0 : BitVec 1 := Scalar.cmpi .ne v131_r0 c0_i32_46_r0
  v132_r0

def k0_off44 (v20_r0 : BitVec 32) (v22_r0 : BitVec 32) : Fin 3 → Nat :=
  let c256_i32_r0 : BitVec 32 := 256#32
  let c64_i32_r0 : BitVec 32 := 64#32
  let v415_r0 : BitVec 32 := Scalar.subi v22_r0 c64_i32_r0
  let v416_r0 : BitVec 32 := Scalar.minsi c256_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond37 (v24_r0 : BitVec 32) : BitVec 1 :=
  let c4_i32_47_r0 : BitVec 32 := 4#32
  let v133_r0 : BitVec 1 := Scalar.cmpi .sgt v24_r0 c4_i32_47_r0
  let v134_r0 : BitVec 32 := Scalar.extui v133_r0
  let c0_i32_48_r0 : BitVec 32 := 0#32
  let v135_r0 : BitVec 1 := Scalar.cmpi .ne v134_r0 c0_i32_48_r0
  v135_r0

def k0_off45 (v20_r0 : BitVec 32) (v22_r0 : BitVec 32) : Fin 3 → Nat :=
  let c320_i32_r0 : BitVec 32 := 320#32
  let c64_i32_r0 : BitVec 32 := 64#32
  let v415_r0 : BitVec 32 := Scalar.subi v22_r0 c64_i32_r0
  let v416_r0 : BitVec 32 := Scalar.minsi c320_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond38 (v24_r0 : BitVec 32) : BitVec 1 :=
  let c5_i32_49_r0 : BitVec 32 := 5#32
  let v136_r0 : BitVec 1 := Scalar.cmpi .sgt v24_r0 c5_i32_49_r0
  let v137_r0 : BitVec 32 := Scalar.extui v136_r0
  let c0_i32_50_r0 : BitVec 32 := 0#32
  let v138_r0 : BitVec 1 := Scalar.cmpi .ne v137_r0 c0_i32_50_r0
  v138_r0

def k0_off46 (v20_r0 : BitVec 32) (v22_r0 : BitVec 32) : Fin 3 → Nat :=
  let c384_i32_r0 : BitVec 32 := 384#32
  let c64_i32_r0 : BitVec 32 := 64#32
  let v415_r0 : BitVec 32 := Scalar.subi v22_r0 c64_i32_r0
  let v416_r0 : BitVec 32 := Scalar.minsi c384_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond39 (v24_r0 : BitVec 32) : BitVec 1 :=
  let c6_i32_51_r0 : BitVec 32 := 6#32
  let v139_r0 : BitVec 1 := Scalar.cmpi .sgt v24_r0 c6_i32_51_r0
  let v140_r0 : BitVec 32 := Scalar.extui v139_r0
  let c0_i32_52_r0 : BitVec 32 := 0#32
  let v141_r0 : BitVec 1 := Scalar.cmpi .ne v140_r0 c0_i32_52_r0
  v141_r0

def k0_off47 (v20_r0 : BitVec 32) (v22_r0 : BitVec 32) : Fin 3 → Nat :=
  let c448_i32_r0 : BitVec 32 := 448#32
  let c64_i32_r0 : BitVec 32 := 64#32
  let v415_r0 : BitVec 32 := Scalar.subi v22_r0 c64_i32_r0
  let v416_r0 : BitVec 32 := Scalar.minsi c448_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond40 (v24_r0 : BitVec 32) : BitVec 1 :=
  let c7_i32_53_r0 : BitVec 32 := 7#32
  let v142_r0 : BitVec 1 := Scalar.cmpi .sgt v24_r0 c7_i32_53_r0
  let v143_r0 : BitVec 32 := Scalar.extui v142_r0
  let c0_i32_54_r0 : BitVec 32 := 0#32
  let v144_r0 : BitVec 1 := Scalar.cmpi .ne v143_r0 c0_i32_54_r0
  v144_r0

def k0_off48 (v20_r0 : BitVec 32) (v22_r0 : BitVec 32) : Fin 3 → Nat :=
  let c512_i32_r0 : BitVec 32 := 512#32
  let c64_i32_r0 : BitVec 32 := 64#32
  let v415_r0 : BitVec 32 := Scalar.subi v22_r0 c64_i32_r0
  let v416_r0 : BitVec 32 := Scalar.minsi c512_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond41 (v24_r0 : BitVec 32) : BitVec 1 :=
  let c8_i32_55_r0 : BitVec 32 := 8#32
  let v145_r0 : BitVec 1 := Scalar.cmpi .sgt v24_r0 c8_i32_55_r0
  let v146_r0 : BitVec 32 := Scalar.extui v145_r0
  let c0_i32_56_r0 : BitVec 32 := 0#32
  let v147_r0 : BitVec 1 := Scalar.cmpi .ne v146_r0 c0_i32_56_r0
  v147_r0

def k0_off49 (v20_r0 : BitVec 32) (v22_r0 : BitVec 32) : Fin 3 → Nat :=
  let c576_i32_r0 : BitVec 32 := 576#32
  let c64_i32_r0 : BitVec 32 := 64#32
  let v415_r0 : BitVec 32 := Scalar.subi v22_r0 c64_i32_r0
  let v416_r0 : BitVec 32 := Scalar.minsi c576_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond42 (v24_r0 : BitVec 32) : BitVec 1 :=
  let c9_i32_57_r0 : BitVec 32 := 9#32
  let v148_r0 : BitVec 1 := Scalar.cmpi .sgt v24_r0 c9_i32_57_r0
  let v149_r0 : BitVec 32 := Scalar.extui v148_r0
  let c0_i32_58_r0 : BitVec 32 := 0#32
  let v150_r0 : BitVec 1 := Scalar.cmpi .ne v149_r0 c0_i32_58_r0
  v150_r0

def k0_off50 (v20_r0 : BitVec 32) (v22_r0 : BitVec 32) : Fin 3 → Nat :=
  let c640_i32_r0 : BitVec 32 := 640#32
  let c64_i32_r0 : BitVec 32 := 64#32
  let v415_r0 : BitVec 32 := Scalar.subi v22_r0 c64_i32_r0
  let v416_r0 : BitVec 32 := Scalar.minsi c640_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond43 (v24_r0 : BitVec 32) : BitVec 1 :=
  let c10_i32_59_r0 : BitVec 32 := 10#32
  let v151_r0 : BitVec 1 := Scalar.cmpi .sgt v24_r0 c10_i32_59_r0
  let v152_r0 : BitVec 32 := Scalar.extui v151_r0
  let c0_i32_60_r0 : BitVec 32 := 0#32
  let v153_r0 : BitVec 1 := Scalar.cmpi .ne v152_r0 c0_i32_60_r0
  v153_r0

def k0_off51 (v20_r0 : BitVec 32) (v22_r0 : BitVec 32) : Fin 3 → Nat :=
  let c704_i32_r0 : BitVec 32 := 704#32
  let c64_i32_r0 : BitVec 32 := 64#32
  let v415_r0 : BitVec 32 := Scalar.subi v22_r0 c64_i32_r0
  let v416_r0 : BitVec 32 := Scalar.minsi c704_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond44 (v24_r0 : BitVec 32) : BitVec 1 :=
  let c11_i32_61_r0 : BitVec 32 := 11#32
  let v154_r0 : BitVec 1 := Scalar.cmpi .sgt v24_r0 c11_i32_61_r0
  let v155_r0 : BitVec 32 := Scalar.extui v154_r0
  let c0_i32_62_r0 : BitVec 32 := 0#32
  let v156_r0 : BitVec 1 := Scalar.cmpi .ne v155_r0 c0_i32_62_r0
  v156_r0

def k0_off52 (v20_r0 : BitVec 32) (v22_r0 : BitVec 32) : Fin 3 → Nat :=
  let c768_i32_r0 : BitVec 32 := 768#32
  let c64_i32_r0 : BitVec 32 := 64#32
  let v415_r0 : BitVec 32 := Scalar.subi v22_r0 c64_i32_r0
  let v416_r0 : BitVec 32 := Scalar.minsi c768_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond45 (v24_r0 : BitVec 32) : BitVec 1 :=
  let c12_i32_63_r0 : BitVec 32 := 12#32
  let v157_r0 : BitVec 1 := Scalar.cmpi .sgt v24_r0 c12_i32_63_r0
  let v158_r0 : BitVec 32 := Scalar.extui v157_r0
  let c0_i32_64_r0 : BitVec 32 := 0#32
  let v159_r0 : BitVec 1 := Scalar.cmpi .ne v158_r0 c0_i32_64_r0
  v159_r0

def k0_off53 (v20_r0 : BitVec 32) (v22_r0 : BitVec 32) : Fin 3 → Nat :=
  let c832_i32_r0 : BitVec 32 := 832#32
  let c64_i32_r0 : BitVec 32 := 64#32
  let v415_r0 : BitVec 32 := Scalar.subi v22_r0 c64_i32_r0
  let v416_r0 : BitVec 32 := Scalar.minsi c832_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond46 (v24_r0 : BitVec 32) : BitVec 1 :=
  let c13_i32_65_r0 : BitVec 32 := 13#32
  let v160_r0 : BitVec 1 := Scalar.cmpi .sgt v24_r0 c13_i32_65_r0
  let v161_r0 : BitVec 32 := Scalar.extui v160_r0
  let c0_i32_66_r0 : BitVec 32 := 0#32
  let v162_r0 : BitVec 1 := Scalar.cmpi .ne v161_r0 c0_i32_66_r0
  v162_r0

def k0_off54 (v20_r0 : BitVec 32) (v22_r0 : BitVec 32) : Fin 3 → Nat :=
  let c896_i32_r0 : BitVec 32 := 896#32
  let c64_i32_r0 : BitVec 32 := 64#32
  let v415_r0 : BitVec 32 := Scalar.subi v22_r0 c64_i32_r0
  let v416_r0 : BitVec 32 := Scalar.minsi c896_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond47 (v24_r0 : BitVec 32) : BitVec 1 :=
  let c14_i32_67_r0 : BitVec 32 := 14#32
  let v163_r0 : BitVec 1 := Scalar.cmpi .sgt v24_r0 c14_i32_67_r0
  let v164_r0 : BitVec 32 := Scalar.extui v163_r0
  let c0_i32_68_r0 : BitVec 32 := 0#32
  let v165_r0 : BitVec 1 := Scalar.cmpi .ne v164_r0 c0_i32_68_r0
  v165_r0

def k0_off55 (v20_r0 : BitVec 32) (v22_r0 : BitVec 32) : Fin 3 → Nat :=
  let c960_i32_r0 : BitVec 32 := 960#32
  let c64_i32_r0 : BitVec 32 := 64#32
  let v415_r0 : BitVec 32 := Scalar.subi v22_r0 c64_i32_r0
  let v416_r0 : BitVec 32 := Scalar.minsi c960_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond48 (v24_r0 : BitVec 32) : BitVec 1 :=
  let c15_i32_69_r0 : BitVec 32 := 15#32
  let v166_r0 : BitVec 1 := Scalar.cmpi .sgt v24_r0 c15_i32_69_r0
  let v167_r0 : BitVec 32 := Scalar.extui v166_r0
  let c0_i32_70_r0 : BitVec 32 := 0#32
  let v168_r0 : BitVec 1 := Scalar.cmpi .ne v167_r0 c0_i32_70_r0
  v168_r0

def k0_off56 (v20_r0 : BitVec 32) (v22_r0 : BitVec 32) : Fin 3 → Nat :=
  let c1024_i32_r0 : BitVec 32 := 1024#32
  let c64_i32_r0 : BitVec 32 := 64#32
  let v415_r0 : BitVec 32 := Scalar.subi v22_r0 c64_i32_r0
  let v416_r0 : BitVec 32 := Scalar.minsi c1024_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond49 (v24_r0 : BitVec 32) : BitVec 1 :=
  let c16_i32_71_r0 : BitVec 32 := 16#32
  let v169_r0 : BitVec 1 := Scalar.cmpi .sgt v24_r0 c16_i32_71_r0
  let v170_r0 : BitVec 32 := Scalar.extui v169_r0
  let c0_i32_72_r0 : BitVec 32 := 0#32
  let v171_r0 : BitVec 1 := Scalar.cmpi .ne v170_r0 c0_i32_72_r0
  v171_r0

def k0_off57 (v20_r0 : BitVec 32) (v22_r0 : BitVec 32) : Fin 3 → Nat :=
  let c1088_i32_r0 : BitVec 32 := 1088#32
  let c64_i32_r0 : BitVec 32 := 64#32
  let v415_r0 : BitVec 32 := Scalar.subi v22_r0 c64_i32_r0
  let v416_r0 : BitVec 32 := Scalar.minsi c1088_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond50 (v24_r0 : BitVec 32) : BitVec 1 :=
  let c17_i32_73_r0 : BitVec 32 := 17#32
  let v172_r0 : BitVec 1 := Scalar.cmpi .sgt v24_r0 c17_i32_73_r0
  let v173_r0 : BitVec 32 := Scalar.extui v172_r0
  let c0_i32_74_r0 : BitVec 32 := 0#32
  let v174_r0 : BitVec 1 := Scalar.cmpi .ne v173_r0 c0_i32_74_r0
  v174_r0

def k0_off58 (v20_r0 : BitVec 32) (v22_r0 : BitVec 32) : Fin 3 → Nat :=
  let c1152_i32_r0 : BitVec 32 := 1152#32
  let c64_i32_r0 : BitVec 32 := 64#32
  let v415_r0 : BitVec 32 := Scalar.subi v22_r0 c64_i32_r0
  let v416_r0 : BitVec 32 := Scalar.minsi c1152_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond51 (v24_r0 : BitVec 32) : BitVec 1 :=
  let c18_i32_75_r0 : BitVec 32 := 18#32
  let v175_r0 : BitVec 1 := Scalar.cmpi .sgt v24_r0 c18_i32_75_r0
  let v176_r0 : BitVec 32 := Scalar.extui v175_r0
  let c0_i32_76_r0 : BitVec 32 := 0#32
  let v177_r0 : BitVec 1 := Scalar.cmpi .ne v176_r0 c0_i32_76_r0
  v177_r0

def k0_off59 (v20_r0 : BitVec 32) (v22_r0 : BitVec 32) : Fin 3 → Nat :=
  let c1216_i32_r0 : BitVec 32 := 1216#32
  let c64_i32_r0 : BitVec 32 := 64#32
  let v415_r0 : BitVec 32 := Scalar.subi v22_r0 c64_i32_r0
  let v416_r0 : BitVec 32 := Scalar.minsi c1216_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond52 (v24_r0 : BitVec 32) : BitVec 1 :=
  let c19_i32_77_r0 : BitVec 32 := 19#32
  let v178_r0 : BitVec 1 := Scalar.cmpi .sgt v24_r0 c19_i32_77_r0
  let v179_r0 : BitVec 32 := Scalar.extui v178_r0
  let c0_i32_78_r0 : BitVec 32 := 0#32
  let v180_r0 : BitVec 1 := Scalar.cmpi .ne v179_r0 c0_i32_78_r0
  v180_r0

def k0_off60 (v20_r0 : BitVec 32) (v22_r0 : BitVec 32) : Fin 3 → Nat :=
  let c1280_i32_r0 : BitVec 32 := 1280#32
  let c64_i32_r0 : BitVec 32 := 64#32
  let v415_r0 : BitVec 32 := Scalar.subi v22_r0 c64_i32_r0
  let v416_r0 : BitVec 32 := Scalar.minsi c1280_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond53 (v24_r0 : BitVec 32) : BitVec 1 :=
  let c20_i32_79_r0 : BitVec 32 := 20#32
  let v181_r0 : BitVec 1 := Scalar.cmpi .sgt v24_r0 c20_i32_79_r0
  let v182_r0 : BitVec 32 := Scalar.extui v181_r0
  let c0_i32_80_r0 : BitVec 32 := 0#32
  let v183_r0 : BitVec 1 := Scalar.cmpi .ne v182_r0 c0_i32_80_r0
  v183_r0

def k0_off61 (v20_r0 : BitVec 32) (v22_r0 : BitVec 32) : Fin 3 → Nat :=
  let c1344_i32_r0 : BitVec 32 := 1344#32
  let c64_i32_r0 : BitVec 32 := 64#32
  let v415_r0 : BitVec 32 := Scalar.subi v22_r0 c64_i32_r0
  let v416_r0 : BitVec 32 := Scalar.minsi c1344_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond54 (v24_r0 : BitVec 32) : BitVec 1 :=
  let c21_i32_81_r0 : BitVec 32 := 21#32
  let v184_r0 : BitVec 1 := Scalar.cmpi .sgt v24_r0 c21_i32_81_r0
  let v185_r0 : BitVec 32 := Scalar.extui v184_r0
  let c0_i32_82_r0 : BitVec 32 := 0#32
  let v186_r0 : BitVec 1 := Scalar.cmpi .ne v185_r0 c0_i32_82_r0
  v186_r0

def k0_off62 (v20_r0 : BitVec 32) (v22_r0 : BitVec 32) : Fin 3 → Nat :=
  let c1408_i32_r0 : BitVec 32 := 1408#32
  let c64_i32_r0 : BitVec 32 := 64#32
  let v415_r0 : BitVec 32 := Scalar.subi v22_r0 c64_i32_r0
  let v416_r0 : BitVec 32 := Scalar.minsi c1408_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond55 (v24_r0 : BitVec 32) : BitVec 1 :=
  let c22_i32_83_r0 : BitVec 32 := 22#32
  let v187_r0 : BitVec 1 := Scalar.cmpi .sgt v24_r0 c22_i32_83_r0
  let v188_r0 : BitVec 32 := Scalar.extui v187_r0
  let c0_i32_84_r0 : BitVec 32 := 0#32
  let v189_r0 : BitVec 1 := Scalar.cmpi .ne v188_r0 c0_i32_84_r0
  v189_r0

def k0_off63 (v20_r0 : BitVec 32) (v22_r0 : BitVec 32) : Fin 3 → Nat :=
  let c1472_i32_r0 : BitVec 32 := 1472#32
  let c64_i32_r0 : BitVec 32 := 64#32
  let v415_r0 : BitVec 32 := Scalar.subi v22_r0 c64_i32_r0
  let v416_r0 : BitVec 32 := Scalar.minsi c1472_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond56 (v24_r0 : BitVec 32) : BitVec 1 :=
  let c23_i32_85_r0 : BitVec 32 := 23#32
  let v190_r0 : BitVec 1 := Scalar.cmpi .sgt v24_r0 c23_i32_85_r0
  let v191_r0 : BitVec 32 := Scalar.extui v190_r0
  let c0_i32_86_r0 : BitVec 32 := 0#32
  let v192_r0 : BitVec 1 := Scalar.cmpi .ne v191_r0 c0_i32_86_r0
  v192_r0

def k0_off64 (v20_r0 : BitVec 32) (v22_r0 : BitVec 32) : Fin 3 → Nat :=
  let c1536_i32_r0 : BitVec 32 := 1536#32
  let c64_i32_r0 : BitVec 32 := 64#32
  let v415_r0 : BitVec 32 := Scalar.subi v22_r0 c64_i32_r0
  let v416_r0 : BitVec 32 := Scalar.minsi c1536_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond57 (v24_r0 : BitVec 32) : BitVec 1 :=
  let c24_i32_87_r0 : BitVec 32 := 24#32
  let v193_r0 : BitVec 1 := Scalar.cmpi .sgt v24_r0 c24_i32_87_r0
  let v194_r0 : BitVec 32 := Scalar.extui v193_r0
  let c0_i32_88_r0 : BitVec 32 := 0#32
  let v195_r0 : BitVec 1 := Scalar.cmpi .ne v194_r0 c0_i32_88_r0
  v195_r0

def k0_off65 (v20_r0 : BitVec 32) (v22_r0 : BitVec 32) : Fin 3 → Nat :=
  let c1600_i32_r0 : BitVec 32 := 1600#32
  let c64_i32_r0 : BitVec 32 := 64#32
  let v415_r0 : BitVec 32 := Scalar.subi v22_r0 c64_i32_r0
  let v416_r0 : BitVec 32 := Scalar.minsi c1600_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond58 (v24_r0 : BitVec 32) : BitVec 1 :=
  let c25_i32_89_r0 : BitVec 32 := 25#32
  let v196_r0 : BitVec 1 := Scalar.cmpi .sgt v24_r0 c25_i32_89_r0
  let v197_r0 : BitVec 32 := Scalar.extui v196_r0
  let c0_i32_90_r0 : BitVec 32 := 0#32
  let v198_r0 : BitVec 1 := Scalar.cmpi .ne v197_r0 c0_i32_90_r0
  v198_r0

def k0_off66 (v20_r0 : BitVec 32) (v22_r0 : BitVec 32) : Fin 3 → Nat :=
  let c1664_i32_r0 : BitVec 32 := 1664#32
  let c64_i32_r0 : BitVec 32 := 64#32
  let v415_r0 : BitVec 32 := Scalar.subi v22_r0 c64_i32_r0
  let v416_r0 : BitVec 32 := Scalar.minsi c1664_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond59 (v24_r0 : BitVec 32) : BitVec 1 :=
  let c26_i32_91_r0 : BitVec 32 := 26#32
  let v199_r0 : BitVec 1 := Scalar.cmpi .sgt v24_r0 c26_i32_91_r0
  let v200_r0 : BitVec 32 := Scalar.extui v199_r0
  let c0_i32_92_r0 : BitVec 32 := 0#32
  let v201_r0 : BitVec 1 := Scalar.cmpi .ne v200_r0 c0_i32_92_r0
  v201_r0

def k0_off67 (v20_r0 : BitVec 32) (v22_r0 : BitVec 32) : Fin 3 → Nat :=
  let c1728_i32_r0 : BitVec 32 := 1728#32
  let c64_i32_r0 : BitVec 32 := 64#32
  let v415_r0 : BitVec 32 := Scalar.subi v22_r0 c64_i32_r0
  let v416_r0 : BitVec 32 := Scalar.minsi c1728_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond60 (v24_r0 : BitVec 32) : BitVec 1 :=
  let c27_i32_93_r0 : BitVec 32 := 27#32
  let v202_r0 : BitVec 1 := Scalar.cmpi .sgt v24_r0 c27_i32_93_r0
  let v203_r0 : BitVec 32 := Scalar.extui v202_r0
  let c0_i32_94_r0 : BitVec 32 := 0#32
  let v204_r0 : BitVec 1 := Scalar.cmpi .ne v203_r0 c0_i32_94_r0
  v204_r0

def k0_off68 (v20_r0 : BitVec 32) (v22_r0 : BitVec 32) : Fin 3 → Nat :=
  let c1792_i32_r0 : BitVec 32 := 1792#32
  let c64_i32_r0 : BitVec 32 := 64#32
  let v415_r0 : BitVec 32 := Scalar.subi v22_r0 c64_i32_r0
  let v416_r0 : BitVec 32 := Scalar.minsi c1792_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond61 (v24_r0 : BitVec 32) : BitVec 1 :=
  let c28_i32_95_r0 : BitVec 32 := 28#32
  let v205_r0 : BitVec 1 := Scalar.cmpi .sgt v24_r0 c28_i32_95_r0
  let v206_r0 : BitVec 32 := Scalar.extui v205_r0
  let c0_i32_96_r0 : BitVec 32 := 0#32
  let v207_r0 : BitVec 1 := Scalar.cmpi .ne v206_r0 c0_i32_96_r0
  v207_r0

def k0_off69 (v20_r0 : BitVec 32) (v22_r0 : BitVec 32) : Fin 3 → Nat :=
  let c1856_i32_r0 : BitVec 32 := 1856#32
  let c64_i32_r0 : BitVec 32 := 64#32
  let v415_r0 : BitVec 32 := Scalar.subi v22_r0 c64_i32_r0
  let v416_r0 : BitVec 32 := Scalar.minsi c1856_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond62 (v24_r0 : BitVec 32) : BitVec 1 :=
  let c29_i32_97_r0 : BitVec 32 := 29#32
  let v208_r0 : BitVec 1 := Scalar.cmpi .sgt v24_r0 c29_i32_97_r0
  let v209_r0 : BitVec 32 := Scalar.extui v208_r0
  let c0_i32_98_r0 : BitVec 32 := 0#32
  let v210_r0 : BitVec 1 := Scalar.cmpi .ne v209_r0 c0_i32_98_r0
  v210_r0

def k0_off70 (v20_r0 : BitVec 32) (v22_r0 : BitVec 32) : Fin 3 → Nat :=
  let c1920_i32_r0 : BitVec 32 := 1920#32
  let c64_i32_r0 : BitVec 32 := 64#32
  let v415_r0 : BitVec 32 := Scalar.subi v22_r0 c64_i32_r0
  let v416_r0 : BitVec 32 := Scalar.minsi c1920_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond63 (v24_r0 : BitVec 32) : BitVec 1 :=
  let c30_i32_99_r0 : BitVec 32 := 30#32
  let v211_r0 : BitVec 1 := Scalar.cmpi .sgt v24_r0 c30_i32_99_r0
  let v212_r0 : BitVec 32 := Scalar.extui v211_r0
  let c0_i32_100_r0 : BitVec 32 := 0#32
  let v213_r0 : BitVec 1 := Scalar.cmpi .ne v212_r0 c0_i32_100_r0
  v213_r0

def k0_off71 (v20_r0 : BitVec 32) (v22_r0 : BitVec 32) : Fin 3 → Nat :=
  let c1984_i32_r0 : BitVec 32 := 1984#32
  let c64_i32_r0 : BitVec 32 := 64#32
  let v415_r0 : BitVec 32 := Scalar.subi v22_r0 c64_i32_r0
  let v416_r0 : BitVec 32 := Scalar.minsi c1984_i32_r0 v415_r0
  let c0_i32_237_r0 : BitVec 32 := 0#32
  let v417_r0 : BitVec 32 := Scalar.maxsi v416_r0 c0_i32_237_r0
  let v419_r0 : BitVec 32 := Scalar.addi v20_r0 v417_r0
  let c0_i32_239_r0 : BitVec 32 := 0#32
  let c0_i32_240_r0 : BitVec 32 := 0#32
  ![v419_r0.toNat, 0, 0]
def k0_cond64 (v24_r0 : BitVec 32) : BitVec 1 :=
  let c31_i32_101_r0 : BitVec 32 := 31#32
  let v214_r0 : BitVec 1 := Scalar.cmpi .sgt v24_r0 c31_i32_101_r0
  let v215_r0 : BitVec 32 := Scalar.extui v214_r0
  let c0_i32_102_r0 : BitVec 32 := 0#32
  let v216_r0 : BitVec 1 := Scalar.cmpi .ne v215_r0 c0_i32_102_r0
  v216_r0

def k0_chk1_0 (v20_r0 : BitVec 32) (v22_r0 : BitVec 32) (v24_r0 : BitVec 32) : Prop :=
  (∀ (k0_h1 : k0_cond1 v24_r0 = 1#1), ∀ a, (k0_off8 v20_r0 v22_r0) a + S64x8x128.size a ≤ S2048x8x128.size a) ∧
  (∀ (k0_h1 : k0_cond1 v24_r0 = 1#1), ∀ (hinb : ∀ a, (k0_off8 v20_r0 v22_r0) a + S64x8x128.size a ≤ S2048x8x128.size a), (Rect.unit (s := S2048x8x128) (k0_off8 v20_r0 v22_r0) S64x8x128.size hinb).WholeWords (EltTy.packing .bf16)) ∧
  (∀ (k0_h2 : k0_cond2 v24_r0 = 1#1), ∀ a, (k0_off9 v20_r0 v22_r0) a + S64x8x128.size a ≤ S2048x8x128.size a) ∧
  (∀ (k0_h2 : k0_cond2 v24_r0 = 1#1), ∀ (hinb : ∀ a, (k0_off9 v20_r0 v22_r0) a + S64x8x128.size a ≤ S2048x8x128.size a), (Rect.unit (s := S2048x8x128) (k0_off9 v20_r0 v22_r0) S64x8x128.size hinb).WholeWords (EltTy.packing .bf16)) ∧
  (∀ (k0_h3 : k0_cond3 v24_r0 = 1#1), ∀ a, (k0_off10 v20_r0 v22_r0) a + S64x8x128.size a ≤ S2048x8x128.size a) ∧
  (∀ (k0_h3 : k0_cond3 v24_r0 = 1#1), ∀ (hinb : ∀ a, (k0_off10 v20_r0 v22_r0) a + S64x8x128.size a ≤ S2048x8x128.size a), (Rect.unit (s := S2048x8x128) (k0_off10 v20_r0 v22_r0) S64x8x128.size hinb).WholeWords (EltTy.packing .bf16)) ∧
  (∀ (k0_h4 : k0_cond4 v24_r0 = 1#1), ∀ a, (k0_off11 v20_r0 v22_r0) a + S64x8x128.size a ≤ S2048x8x128.size a) ∧
  (∀ (k0_h4 : k0_cond4 v24_r0 = 1#1), ∀ (hinb : ∀ a, (k0_off11 v20_r0 v22_r0) a + S64x8x128.size a ≤ S2048x8x128.size a), (Rect.unit (s := S2048x8x128) (k0_off11 v20_r0 v22_r0) S64x8x128.size hinb).WholeWords (EltTy.packing .bf16)) ∧
  (∀ (k0_h5 : k0_cond5 v24_r0 = 1#1), ∀ a, (k0_off12 v20_r0 v22_r0) a + S64x8x128.size a ≤ S2048x8x128.size a) ∧
  (∀ (k0_h5 : k0_cond5 v24_r0 = 1#1), ∀ (hinb : ∀ a, (k0_off12 v20_r0 v22_r0) a + S64x8x128.size a ≤ S2048x8x128.size a), (Rect.unit (s := S2048x8x128) (k0_off12 v20_r0 v22_r0) S64x8x128.size hinb).WholeWords (EltTy.packing .bf16)) ∧
  (∀ (k0_h6 : k0_cond6 v24_r0 = 1#1), ∀ a, (k0_off13 v20_r0 v22_r0) a + S64x8x128.size a ≤ S2048x8x128.size a) ∧
  (∀ (k0_h6 : k0_cond6 v24_r0 = 1#1), ∀ (hinb : ∀ a, (k0_off13 v20_r0 v22_r0) a + S64x8x128.size a ≤ S2048x8x128.size a), (Rect.unit (s := S2048x8x128) (k0_off13 v20_r0 v22_r0) S64x8x128.size hinb).WholeWords (EltTy.packing .bf16)) ∧
  (∀ (k0_h7 : k0_cond7 v24_r0 = 1#1), ∀ a, (k0_off14 v20_r0 v22_r0) a + S64x8x128.size a ≤ S2048x8x128.size a) ∧
  (∀ (k0_h7 : k0_cond7 v24_r0 = 1#1), ∀ (hinb : ∀ a, (k0_off14 v20_r0 v22_r0) a + S64x8x128.size a ≤ S2048x8x128.size a), (Rect.unit (s := S2048x8x128) (k0_off14 v20_r0 v22_r0) S64x8x128.size hinb).WholeWords (EltTy.packing .bf16)) ∧
  (∀ (k0_h8 : k0_cond8 v24_r0 = 1#1), ∀ a, (k0_off15 v20_r0 v22_r0) a + S64x8x128.size a ≤ S2048x8x128.size a) ∧
  (∀ (k0_h8 : k0_cond8 v24_r0 = 1#1), ∀ (hinb : ∀ a, (k0_off15 v20_r0 v22_r0) a + S64x8x128.size a ≤ S2048x8x128.size a), (Rect.unit (s := S2048x8x128) (k0_off15 v20_r0 v22_r0) S64x8x128.size hinb).WholeWords (EltTy.packing .bf16)) ∧
  (∀ (k0_h9 : k0_cond9 v24_r0 = 1#1), ∀ a, (k0_off16 v20_r0 v22_r0) a + S64x8x128.size a ≤ S2048x8x128.size a) ∧
  (∀ (k0_h9 : k0_cond9 v24_r0 = 1#1), ∀ (hinb : ∀ a, (k0_off16 v20_r0 v22_r0) a + S64x8x128.size a ≤ S2048x8x128.size a), (Rect.unit (s := S2048x8x128) (k0_off16 v20_r0 v22_r0) S64x8x128.size hinb).WholeWords (EltTy.packing .bf16)) ∧
  (∀ (k0_h10 : k0_cond10 v24_r0 = 1#1), ∀ a, (k0_off17 v20_r0 v22_r0) a + S64x8x128.size a ≤ S2048x8x128.size a) ∧
  (∀ (k0_h10 : k0_cond10 v24_r0 = 1#1), ∀ (hinb : ∀ a, (k0_off17 v20_r0 v22_r0) a + S64x8x128.size a ≤ S2048x8x128.size a), (Rect.unit (s := S2048x8x128) (k0_off17 v20_r0 v22_r0) S64x8x128.size hinb).WholeWords (EltTy.packing .bf16)) ∧
  (∀ (k0_h11 : k0_cond11 v24_r0 = 1#1), ∀ a, (k0_off18 v20_r0 v22_r0) a + S64x8x128.size a ≤ S2048x8x128.size a) ∧
  (∀ (k0_h11 : k0_cond11 v24_r0 = 1#1), ∀ (hinb : ∀ a, (k0_off18 v20_r0 v22_r0) a + S64x8x128.size a ≤ S2048x8x128.size a), (Rect.unit (s := S2048x8x128) (k0_off18 v20_r0 v22_r0) S64x8x128.size hinb).WholeWords (EltTy.packing .bf16)) ∧
  (∀ (k0_h12 : k0_cond12 v24_r0 = 1#1), ∀ a, (k0_off19 v20_r0 v22_r0) a + S64x8x128.size a ≤ S2048x8x128.size a) ∧
  (∀ (k0_h12 : k0_cond12 v24_r0 = 1#1), ∀ (hinb : ∀ a, (k0_off19 v20_r0 v22_r0) a + S64x8x128.size a ≤ S2048x8x128.size a), (Rect.unit (s := S2048x8x128) (k0_off19 v20_r0 v22_r0) S64x8x128.size hinb).WholeWords (EltTy.packing .bf16)) ∧
  (∀ (k0_h13 : k0_cond13 v24_r0 = 1#1), ∀ a, (k0_off20 v20_r0 v22_r0) a + S64x8x128.size a ≤ S2048x8x128.size a) ∧
  (∀ (k0_h13 : k0_cond13 v24_r0 = 1#1), ∀ (hinb : ∀ a, (k0_off20 v20_r0 v22_r0) a + S64x8x128.size a ≤ S2048x8x128.size a), (Rect.unit (s := S2048x8x128) (k0_off20 v20_r0 v22_r0) S64x8x128.size hinb).WholeWords (EltTy.packing .bf16)) ∧
  (∀ (k0_h14 : k0_cond14 v24_r0 = 1#1), ∀ a, (k0_off21 v20_r0 v22_r0) a + S64x8x128.size a ≤ S2048x8x128.size a) ∧
  (∀ (k0_h14 : k0_cond14 v24_r0 = 1#1), ∀ (hinb : ∀ a, (k0_off21 v20_r0 v22_r0) a + S64x8x128.size a ≤ S2048x8x128.size a), (Rect.unit (s := S2048x8x128) (k0_off21 v20_r0 v22_r0) S64x8x128.size hinb).WholeWords (EltTy.packing .bf16)) ∧
  (∀ (k0_h15 : k0_cond15 v24_r0 = 1#1), ∀ a, (k0_off22 v20_r0 v22_r0) a + S64x8x128.size a ≤ S2048x8x128.size a) ∧
  (∀ (k0_h15 : k0_cond15 v24_r0 = 1#1), ∀ (hinb : ∀ a, (k0_off22 v20_r0 v22_r0) a + S64x8x128.size a ≤ S2048x8x128.size a), (Rect.unit (s := S2048x8x128) (k0_off22 v20_r0 v22_r0) S64x8x128.size hinb).WholeWords (EltTy.packing .bf16)) ∧
  (∀ (k0_h16 : k0_cond16 v24_r0 = 1#1), ∀ a, (k0_off23 v20_r0 v22_r0) a + S64x8x128.size a ≤ S2048x8x128.size a) ∧
  (∀ (k0_h16 : k0_cond16 v24_r0 = 1#1), ∀ (hinb : ∀ a, (k0_off23 v20_r0 v22_r0) a + S64x8x128.size a ≤ S2048x8x128.size a), (Rect.unit (s := S2048x8x128) (k0_off23 v20_r0 v22_r0) S64x8x128.size hinb).WholeWords (EltTy.packing .bf16))
def k0_chk1_1 (v20_r0 : BitVec 32) (v22_r0 : BitVec 32) (v24_r0 : BitVec 32) : Prop :=
  (∀ (k0_h17 : k0_cond17 v24_r0 = 1#1), ∀ a, (k0_off24 v20_r0 v22_r0) a + S64x8x128.size a ≤ S2048x8x128.size a) ∧
  (∀ (k0_h17 : k0_cond17 v24_r0 = 1#1), ∀ (hinb : ∀ a, (k0_off24 v20_r0 v22_r0) a + S64x8x128.size a ≤ S2048x8x128.size a), (Rect.unit (s := S2048x8x128) (k0_off24 v20_r0 v22_r0) S64x8x128.size hinb).WholeWords (EltTy.packing .bf16)) ∧
  (∀ (k0_h18 : k0_cond18 v24_r0 = 1#1), ∀ a, (k0_off25 v20_r0 v22_r0) a + S64x8x128.size a ≤ S2048x8x128.size a) ∧
  (∀ (k0_h18 : k0_cond18 v24_r0 = 1#1), ∀ (hinb : ∀ a, (k0_off25 v20_r0 v22_r0) a + S64x8x128.size a ≤ S2048x8x128.size a), (Rect.unit (s := S2048x8x128) (k0_off25 v20_r0 v22_r0) S64x8x128.size hinb).WholeWords (EltTy.packing .bf16)) ∧
  (∀ (k0_h19 : k0_cond19 v24_r0 = 1#1), ∀ a, (k0_off26 v20_r0 v22_r0) a + S64x8x128.size a ≤ S2048x8x128.size a) ∧
  (∀ (k0_h19 : k0_cond19 v24_r0 = 1#1), ∀ (hinb : ∀ a, (k0_off26 v20_r0 v22_r0) a + S64x8x128.size a ≤ S2048x8x128.size a), (Rect.unit (s := S2048x8x128) (k0_off26 v20_r0 v22_r0) S64x8x128.size hinb).WholeWords (EltTy.packing .bf16)) ∧
  (∀ (k0_h20 : k0_cond20 v24_r0 = 1#1), ∀ a, (k0_off27 v20_r0 v22_r0) a + S64x8x128.size a ≤ S2048x8x128.size a) ∧
  (∀ (k0_h20 : k0_cond20 v24_r0 = 1#1), ∀ (hinb : ∀ a, (k0_off27 v20_r0 v22_r0) a + S64x8x128.size a ≤ S2048x8x128.size a), (Rect.unit (s := S2048x8x128) (k0_off27 v20_r0 v22_r0) S64x8x128.size hinb).WholeWords (EltTy.packing .bf16)) ∧
  (∀ (k0_h21 : k0_cond21 v24_r0 = 1#1), ∀ a, (k0_off28 v20_r0 v22_r0) a + S64x8x128.size a ≤ S2048x8x128.size a) ∧
  (∀ (k0_h21 : k0_cond21 v24_r0 = 1#1), ∀ (hinb : ∀ a, (k0_off28 v20_r0 v22_r0) a + S64x8x128.size a ≤ S2048x8x128.size a), (Rect.unit (s := S2048x8x128) (k0_off28 v20_r0 v22_r0) S64x8x128.size hinb).WholeWords (EltTy.packing .bf16)) ∧
  (∀ (k0_h22 : k0_cond22 v24_r0 = 1#1), ∀ a, (k0_off29 v20_r0 v22_r0) a + S64x8x128.size a ≤ S2048x8x128.size a) ∧
  (∀ (k0_h22 : k0_cond22 v24_r0 = 1#1), ∀ (hinb : ∀ a, (k0_off29 v20_r0 v22_r0) a + S64x8x128.size a ≤ S2048x8x128.size a), (Rect.unit (s := S2048x8x128) (k0_off29 v20_r0 v22_r0) S64x8x128.size hinb).WholeWords (EltTy.packing .bf16)) ∧
  (∀ (k0_h23 : k0_cond23 v24_r0 = 1#1), ∀ a, (k0_off30 v20_r0 v22_r0) a + S64x8x128.size a ≤ S2048x8x128.size a) ∧
  (∀ (k0_h23 : k0_cond23 v24_r0 = 1#1), ∀ (hinb : ∀ a, (k0_off30 v20_r0 v22_r0) a + S64x8x128.size a ≤ S2048x8x128.size a), (Rect.unit (s := S2048x8x128) (k0_off30 v20_r0 v22_r0) S64x8x128.size hinb).WholeWords (EltTy.packing .bf16)) ∧
  (∀ (k0_h24 : k0_cond24 v24_r0 = 1#1), ∀ a, (k0_off31 v20_r0 v22_r0) a + S64x8x128.size a ≤ S2048x8x128.size a) ∧
  (∀ (k0_h24 : k0_cond24 v24_r0 = 1#1), ∀ (hinb : ∀ a, (k0_off31 v20_r0 v22_r0) a + S64x8x128.size a ≤ S2048x8x128.size a), (Rect.unit (s := S2048x8x128) (k0_off31 v20_r0 v22_r0) S64x8x128.size hinb).WholeWords (EltTy.packing .bf16)) ∧
  (∀ (k0_h25 : k0_cond25 v24_r0 = 1#1), ∀ a, (k0_off32 v20_r0 v22_r0) a + S64x8x128.size a ≤ S2048x8x128.size a) ∧
  (∀ (k0_h25 : k0_cond25 v24_r0 = 1#1), ∀ (hinb : ∀ a, (k0_off32 v20_r0 v22_r0) a + S64x8x128.size a ≤ S2048x8x128.size a), (Rect.unit (s := S2048x8x128) (k0_off32 v20_r0 v22_r0) S64x8x128.size hinb).WholeWords (EltTy.packing .bf16)) ∧
  (∀ (k0_h26 : k0_cond26 v24_r0 = 1#1), ∀ a, (k0_off33 v20_r0 v22_r0) a + S64x8x128.size a ≤ S2048x8x128.size a) ∧
  (∀ (k0_h26 : k0_cond26 v24_r0 = 1#1), ∀ (hinb : ∀ a, (k0_off33 v20_r0 v22_r0) a + S64x8x128.size a ≤ S2048x8x128.size a), (Rect.unit (s := S2048x8x128) (k0_off33 v20_r0 v22_r0) S64x8x128.size hinb).WholeWords (EltTy.packing .bf16)) ∧
  (∀ (k0_h27 : k0_cond27 v24_r0 = 1#1), ∀ a, (k0_off34 v20_r0 v22_r0) a + S64x8x128.size a ≤ S2048x8x128.size a) ∧
  (∀ (k0_h27 : k0_cond27 v24_r0 = 1#1), ∀ (hinb : ∀ a, (k0_off34 v20_r0 v22_r0) a + S64x8x128.size a ≤ S2048x8x128.size a), (Rect.unit (s := S2048x8x128) (k0_off34 v20_r0 v22_r0) S64x8x128.size hinb).WholeWords (EltTy.packing .bf16)) ∧
  (∀ (k0_h28 : k0_cond28 v24_r0 = 1#1), ∀ a, (k0_off35 v20_r0 v22_r0) a + S64x8x128.size a ≤ S2048x8x128.size a) ∧
  (∀ (k0_h28 : k0_cond28 v24_r0 = 1#1), ∀ (hinb : ∀ a, (k0_off35 v20_r0 v22_r0) a + S64x8x128.size a ≤ S2048x8x128.size a), (Rect.unit (s := S2048x8x128) (k0_off35 v20_r0 v22_r0) S64x8x128.size hinb).WholeWords (EltTy.packing .bf16)) ∧
  (∀ (k0_h29 : k0_cond29 v24_r0 = 1#1), ∀ a, (k0_off36 v20_r0 v22_r0) a + S64x8x128.size a ≤ S2048x8x128.size a) ∧
  (∀ (k0_h29 : k0_cond29 v24_r0 = 1#1), ∀ (hinb : ∀ a, (k0_off36 v20_r0 v22_r0) a + S64x8x128.size a ≤ S2048x8x128.size a), (Rect.unit (s := S2048x8x128) (k0_off36 v20_r0 v22_r0) S64x8x128.size hinb).WholeWords (EltTy.packing .bf16)) ∧
  (∀ (k0_h30 : k0_cond30 v24_r0 = 1#1), ∀ a, (k0_off37 v20_r0 v22_r0) a + S64x8x128.size a ≤ S2048x8x128.size a) ∧
  (∀ (k0_h30 : k0_cond30 v24_r0 = 1#1), ∀ (hinb : ∀ a, (k0_off37 v20_r0 v22_r0) a + S64x8x128.size a ≤ S2048x8x128.size a), (Rect.unit (s := S2048x8x128) (k0_off37 v20_r0 v22_r0) S64x8x128.size hinb).WholeWords (EltTy.packing .bf16)) ∧
  (∀ (k0_h31 : k0_cond31 v24_r0 = 1#1), ∀ a, (k0_off38 v20_r0 v22_r0) a + S64x8x128.size a ≤ S2048x8x128.size a) ∧
  (∀ (k0_h31 : k0_cond31 v24_r0 = 1#1), ∀ (hinb : ∀ a, (k0_off38 v20_r0 v22_r0) a + S64x8x128.size a ≤ S2048x8x128.size a), (Rect.unit (s := S2048x8x128) (k0_off38 v20_r0 v22_r0) S64x8x128.size hinb).WholeWords (EltTy.packing .bf16)) ∧
  (∀ (k0_h32 : k0_cond32 v24_r0 = 1#1), ∀ a, (k0_off39 v20_r0 v22_r0) a + S64x8x128.size a ≤ S2048x8x128.size a) ∧
  (∀ (k0_h32 : k0_cond32 v24_r0 = 1#1), ∀ (hinb : ∀ a, (k0_off39 v20_r0 v22_r0) a + S64x8x128.size a ≤ S2048x8x128.size a), (Rect.unit (s := S2048x8x128) (k0_off39 v20_r0 v22_r0) S64x8x128.size hinb).WholeWords (EltTy.packing .bf16))
def k0_chk1_2 (v20_r0 : BitVec 32) (v22_r0 : BitVec 32) (v24_r0 : BitVec 32) : Prop :=
  (∀ (k0_h33 : k0_cond33 v24_r0 = 1#1), ∀ a, (k0_off40 v20_r0 v22_r0) a + S64x8x128.size a ≤ S2048x8x128.size a) ∧
  (∀ (k0_h33 : k0_cond33 v24_r0 = 1#1), ∀ (hinb : ∀ a, (k0_off40 v20_r0 v22_r0) a + S64x8x128.size a ≤ S2048x8x128.size a), (Rect.unit (s := S2048x8x128) (k0_off40 v20_r0 v22_r0) S64x8x128.size hinb).WholeWords (EltTy.packing .bf16)) ∧
  (∀ (k0_h34 : k0_cond34 v24_r0 = 1#1), ∀ a, (k0_off41 v20_r0 v22_r0) a + S64x8x128.size a ≤ S2048x8x128.size a) ∧
  (∀ (k0_h34 : k0_cond34 v24_r0 = 1#1), ∀ (hinb : ∀ a, (k0_off41 v20_r0 v22_r0) a + S64x8x128.size a ≤ S2048x8x128.size a), (Rect.unit (s := S2048x8x128) (k0_off41 v20_r0 v22_r0) S64x8x128.size hinb).WholeWords (EltTy.packing .bf16)) ∧
  (∀ (k0_h35 : k0_cond35 v24_r0 = 1#1), ∀ a, (k0_off42 v20_r0 v22_r0) a + S64x8x128.size a ≤ S2048x8x128.size a) ∧
  (∀ (k0_h35 : k0_cond35 v24_r0 = 1#1), ∀ (hinb : ∀ a, (k0_off42 v20_r0 v22_r0) a + S64x8x128.size a ≤ S2048x8x128.size a), (Rect.unit (s := S2048x8x128) (k0_off42 v20_r0 v22_r0) S64x8x128.size hinb).WholeWords (EltTy.packing .bf16)) ∧
  (∀ (k0_h36 : k0_cond36 v24_r0 = 1#1), ∀ a, (k0_off43 v20_r0 v22_r0) a + S64x8x128.size a ≤ S2048x8x128.size a) ∧
  (∀ (k0_h36 : k0_cond36 v24_r0 = 1#1), ∀ (hinb : ∀ a, (k0_off43 v20_r0 v22_r0) a + S64x8x128.size a ≤ S2048x8x128.size a), (Rect.unit (s := S2048x8x128) (k0_off43 v20_r0 v22_r0) S64x8x128.size hinb).WholeWords (EltTy.packing .bf16)) ∧
  (∀ (k0_h37 : k0_cond37 v24_r0 = 1#1), ∀ a, (k0_off44 v20_r0 v22_r0) a + S64x8x128.size a ≤ S2048x8x128.size a) ∧
  (∀ (k0_h37 : k0_cond37 v24_r0 = 1#1), ∀ (hinb : ∀ a, (k0_off44 v20_r0 v22_r0) a + S64x8x128.size a ≤ S2048x8x128.size a), (Rect.unit (s := S2048x8x128) (k0_off44 v20_r0 v22_r0) S64x8x128.size hinb).WholeWords (EltTy.packing .bf16)) ∧
  (∀ (k0_h38 : k0_cond38 v24_r0 = 1#1), ∀ a, (k0_off45 v20_r0 v22_r0) a + S64x8x128.size a ≤ S2048x8x128.size a) ∧
  (∀ (k0_h38 : k0_cond38 v24_r0 = 1#1), ∀ (hinb : ∀ a, (k0_off45 v20_r0 v22_r0) a + S64x8x128.size a ≤ S2048x8x128.size a), (Rect.unit (s := S2048x8x128) (k0_off45 v20_r0 v22_r0) S64x8x128.size hinb).WholeWords (EltTy.packing .bf16)) ∧
  (∀ (k0_h39 : k0_cond39 v24_r0 = 1#1), ∀ a, (k0_off46 v20_r0 v22_r0) a + S64x8x128.size a ≤ S2048x8x128.size a) ∧
  (∀ (k0_h39 : k0_cond39 v24_r0 = 1#1), ∀ (hinb : ∀ a, (k0_off46 v20_r0 v22_r0) a + S64x8x128.size a ≤ S2048x8x128.size a), (Rect.unit (s := S2048x8x128) (k0_off46 v20_r0 v22_r0) S64x8x128.size hinb).WholeWords (EltTy.packing .bf16)) ∧
  (∀ (k0_h40 : k0_cond40 v24_r0 = 1#1), ∀ a, (k0_off47 v20_r0 v22_r0) a + S64x8x128.size a ≤ S2048x8x128.size a) ∧
  (∀ (k0_h40 : k0_cond40 v24_r0 = 1#1), ∀ (hinb : ∀ a, (k0_off47 v20_r0 v22_r0) a + S64x8x128.size a ≤ S2048x8x128.size a), (Rect.unit (s := S2048x8x128) (k0_off47 v20_r0 v22_r0) S64x8x128.size hinb).WholeWords (EltTy.packing .bf16)) ∧
  (∀ (k0_h41 : k0_cond41 v24_r0 = 1#1), ∀ a, (k0_off48 v20_r0 v22_r0) a + S64x8x128.size a ≤ S2048x8x128.size a) ∧
  (∀ (k0_h41 : k0_cond41 v24_r0 = 1#1), ∀ (hinb : ∀ a, (k0_off48 v20_r0 v22_r0) a + S64x8x128.size a ≤ S2048x8x128.size a), (Rect.unit (s := S2048x8x128) (k0_off48 v20_r0 v22_r0) S64x8x128.size hinb).WholeWords (EltTy.packing .bf16)) ∧
  (∀ (k0_h42 : k0_cond42 v24_r0 = 1#1), ∀ a, (k0_off49 v20_r0 v22_r0) a + S64x8x128.size a ≤ S2048x8x128.size a) ∧
  (∀ (k0_h42 : k0_cond42 v24_r0 = 1#1), ∀ (hinb : ∀ a, (k0_off49 v20_r0 v22_r0) a + S64x8x128.size a ≤ S2048x8x128.size a), (Rect.unit (s := S2048x8x128) (k0_off49 v20_r0 v22_r0) S64x8x128.size hinb).WholeWords (EltTy.packing .bf16)) ∧
  (∀ (k0_h43 : k0_cond43 v24_r0 = 1#1), ∀ a, (k0_off50 v20_r0 v22_r0) a + S64x8x128.size a ≤ S2048x8x128.size a) ∧
  (∀ (k0_h43 : k0_cond43 v24_r0 = 1#1), ∀ (hinb : ∀ a, (k0_off50 v20_r0 v22_r0) a + S64x8x128.size a ≤ S2048x8x128.size a), (Rect.unit (s := S2048x8x128) (k0_off50 v20_r0 v22_r0) S64x8x128.size hinb).WholeWords (EltTy.packing .bf16)) ∧
  (∀ (k0_h44 : k0_cond44 v24_r0 = 1#1), ∀ a, (k0_off51 v20_r0 v22_r0) a + S64x8x128.size a ≤ S2048x8x128.size a) ∧
  (∀ (k0_h44 : k0_cond44 v24_r0 = 1#1), ∀ (hinb : ∀ a, (k0_off51 v20_r0 v22_r0) a + S64x8x128.size a ≤ S2048x8x128.size a), (Rect.unit (s := S2048x8x128) (k0_off51 v20_r0 v22_r0) S64x8x128.size hinb).WholeWords (EltTy.packing .bf16)) ∧
  (∀ (k0_h45 : k0_cond45 v24_r0 = 1#1), ∀ a, (k0_off52 v20_r0 v22_r0) a + S64x8x128.size a ≤ S2048x8x128.size a) ∧
  (∀ (k0_h45 : k0_cond45 v24_r0 = 1#1), ∀ (hinb : ∀ a, (k0_off52 v20_r0 v22_r0) a + S64x8x128.size a ≤ S2048x8x128.size a), (Rect.unit (s := S2048x8x128) (k0_off52 v20_r0 v22_r0) S64x8x128.size hinb).WholeWords (EltTy.packing .bf16)) ∧
  (∀ (k0_h46 : k0_cond46 v24_r0 = 1#1), ∀ a, (k0_off53 v20_r0 v22_r0) a + S64x8x128.size a ≤ S2048x8x128.size a) ∧
  (∀ (k0_h46 : k0_cond46 v24_r0 = 1#1), ∀ (hinb : ∀ a, (k0_off53 v20_r0 v22_r0) a + S64x8x128.size a ≤ S2048x8x128.size a), (Rect.unit (s := S2048x8x128) (k0_off53 v20_r0 v22_r0) S64x8x128.size hinb).WholeWords (EltTy.packing .bf16)) ∧
  (∀ (k0_h47 : k0_cond47 v24_r0 = 1#1), ∀ a, (k0_off54 v20_r0 v22_r0) a + S64x8x128.size a ≤ S2048x8x128.size a) ∧
  (∀ (k0_h47 : k0_cond47 v24_r0 = 1#1), ∀ (hinb : ∀ a, (k0_off54 v20_r0 v22_r0) a + S64x8x128.size a ≤ S2048x8x128.size a), (Rect.unit (s := S2048x8x128) (k0_off54 v20_r0 v22_r0) S64x8x128.size hinb).WholeWords (EltTy.packing .bf16)) ∧
  (∀ (k0_h48 : k0_cond48 v24_r0 = 1#1), ∀ a, (k0_off55 v20_r0 v22_r0) a + S64x8x128.size a ≤ S2048x8x128.size a) ∧
  (∀ (k0_h48 : k0_cond48 v24_r0 = 1#1), ∀ (hinb : ∀ a, (k0_off55 v20_r0 v22_r0) a + S64x8x128.size a ≤ S2048x8x128.size a), (Rect.unit (s := S2048x8x128) (k0_off55 v20_r0 v22_r0) S64x8x128.size hinb).WholeWords (EltTy.packing .bf16))
def k0_chk1_3 (v20_r0 : BitVec 32) (v22_r0 : BitVec 32) (v24_r0 : BitVec 32) : Prop :=
  (∀ (k0_h49 : k0_cond49 v24_r0 = 1#1), ∀ a, (k0_off56 v20_r0 v22_r0) a + S64x8x128.size a ≤ S2048x8x128.size a) ∧
  (∀ (k0_h49 : k0_cond49 v24_r0 = 1#1), ∀ (hinb : ∀ a, (k0_off56 v20_r0 v22_r0) a + S64x8x128.size a ≤ S2048x8x128.size a), (Rect.unit (s := S2048x8x128) (k0_off56 v20_r0 v22_r0) S64x8x128.size hinb).WholeWords (EltTy.packing .bf16)) ∧
  (∀ (k0_h50 : k0_cond50 v24_r0 = 1#1), ∀ a, (k0_off57 v20_r0 v22_r0) a + S64x8x128.size a ≤ S2048x8x128.size a) ∧
  (∀ (k0_h50 : k0_cond50 v24_r0 = 1#1), ∀ (hinb : ∀ a, (k0_off57 v20_r0 v22_r0) a + S64x8x128.size a ≤ S2048x8x128.size a), (Rect.unit (s := S2048x8x128) (k0_off57 v20_r0 v22_r0) S64x8x128.size hinb).WholeWords (EltTy.packing .bf16)) ∧
  (∀ (k0_h51 : k0_cond51 v24_r0 = 1#1), ∀ a, (k0_off58 v20_r0 v22_r0) a + S64x8x128.size a ≤ S2048x8x128.size a) ∧
  (∀ (k0_h51 : k0_cond51 v24_r0 = 1#1), ∀ (hinb : ∀ a, (k0_off58 v20_r0 v22_r0) a + S64x8x128.size a ≤ S2048x8x128.size a), (Rect.unit (s := S2048x8x128) (k0_off58 v20_r0 v22_r0) S64x8x128.size hinb).WholeWords (EltTy.packing .bf16)) ∧
  (∀ (k0_h52 : k0_cond52 v24_r0 = 1#1), ∀ a, (k0_off59 v20_r0 v22_r0) a + S64x8x128.size a ≤ S2048x8x128.size a) ∧
  (∀ (k0_h52 : k0_cond52 v24_r0 = 1#1), ∀ (hinb : ∀ a, (k0_off59 v20_r0 v22_r0) a + S64x8x128.size a ≤ S2048x8x128.size a), (Rect.unit (s := S2048x8x128) (k0_off59 v20_r0 v22_r0) S64x8x128.size hinb).WholeWords (EltTy.packing .bf16)) ∧
  (∀ (k0_h53 : k0_cond53 v24_r0 = 1#1), ∀ a, (k0_off60 v20_r0 v22_r0) a + S64x8x128.size a ≤ S2048x8x128.size a) ∧
  (∀ (k0_h53 : k0_cond53 v24_r0 = 1#1), ∀ (hinb : ∀ a, (k0_off60 v20_r0 v22_r0) a + S64x8x128.size a ≤ S2048x8x128.size a), (Rect.unit (s := S2048x8x128) (k0_off60 v20_r0 v22_r0) S64x8x128.size hinb).WholeWords (EltTy.packing .bf16)) ∧
  (∀ (k0_h54 : k0_cond54 v24_r0 = 1#1), ∀ a, (k0_off61 v20_r0 v22_r0) a + S64x8x128.size a ≤ S2048x8x128.size a) ∧
  (∀ (k0_h54 : k0_cond54 v24_r0 = 1#1), ∀ (hinb : ∀ a, (k0_off61 v20_r0 v22_r0) a + S64x8x128.size a ≤ S2048x8x128.size a), (Rect.unit (s := S2048x8x128) (k0_off61 v20_r0 v22_r0) S64x8x128.size hinb).WholeWords (EltTy.packing .bf16)) ∧
  (∀ (k0_h55 : k0_cond55 v24_r0 = 1#1), ∀ a, (k0_off62 v20_r0 v22_r0) a + S64x8x128.size a ≤ S2048x8x128.size a) ∧
  (∀ (k0_h55 : k0_cond55 v24_r0 = 1#1), ∀ (hinb : ∀ a, (k0_off62 v20_r0 v22_r0) a + S64x8x128.size a ≤ S2048x8x128.size a), (Rect.unit (s := S2048x8x128) (k0_off62 v20_r0 v22_r0) S64x8x128.size hinb).WholeWords (EltTy.packing .bf16)) ∧
  (∀ (k0_h56 : k0_cond56 v24_r0 = 1#1), ∀ a, (k0_off63 v20_r0 v22_r0) a + S64x8x128.size a ≤ S2048x8x128.size a) ∧
  (∀ (k0_h56 : k0_cond56 v24_r0 = 1#1), ∀ (hinb : ∀ a, (k0_off63 v20_r0 v22_r0) a + S64x8x128.size a ≤ S2048x8x128.size a), (Rect.unit (s := S2048x8x128) (k0_off63 v20_r0 v22_r0) S64x8x128.size hinb).WholeWords (EltTy.packing .bf16)) ∧
  (∀ (k0_h57 : k0_cond57 v24_r0 = 1#1), ∀ a, (k0_off64 v20_r0 v22_r0) a + S64x8x128.size a ≤ S2048x8x128.size a) ∧
  (∀ (k0_h57 : k0_cond57 v24_r0 = 1#1), ∀ (hinb : ∀ a, (k0_off64 v20_r0 v22_r0) a + S64x8x128.size a ≤ S2048x8x128.size a), (Rect.unit (s := S2048x8x128) (k0_off64 v20_r0 v22_r0) S64x8x128.size hinb).WholeWords (EltTy.packing .bf16)) ∧
  (∀ (k0_h58 : k0_cond58 v24_r0 = 1#1), ∀ a, (k0_off65 v20_r0 v22_r0) a + S64x8x128.size a ≤ S2048x8x128.size a) ∧
  (∀ (k0_h58 : k0_cond58 v24_r0 = 1#1), ∀ (hinb : ∀ a, (k0_off65 v20_r0 v22_r0) a + S64x8x128.size a ≤ S2048x8x128.size a), (Rect.unit (s := S2048x8x128) (k0_off65 v20_r0 v22_r0) S64x8x128.size hinb).WholeWords (EltTy.packing .bf16)) ∧
  (∀ (k0_h59 : k0_cond59 v24_r0 = 1#1), ∀ a, (k0_off66 v20_r0 v22_r0) a + S64x8x128.size a ≤ S2048x8x128.size a) ∧
  (∀ (k0_h59 : k0_cond59 v24_r0 = 1#1), ∀ (hinb : ∀ a, (k0_off66 v20_r0 v22_r0) a + S64x8x128.size a ≤ S2048x8x128.size a), (Rect.unit (s := S2048x8x128) (k0_off66 v20_r0 v22_r0) S64x8x128.size hinb).WholeWords (EltTy.packing .bf16)) ∧
  (∀ (k0_h60 : k0_cond60 v24_r0 = 1#1), ∀ a, (k0_off67 v20_r0 v22_r0) a + S64x8x128.size a ≤ S2048x8x128.size a) ∧
  (∀ (k0_h60 : k0_cond60 v24_r0 = 1#1), ∀ (hinb : ∀ a, (k0_off67 v20_r0 v22_r0) a + S64x8x128.size a ≤ S2048x8x128.size a), (Rect.unit (s := S2048x8x128) (k0_off67 v20_r0 v22_r0) S64x8x128.size hinb).WholeWords (EltTy.packing .bf16)) ∧
  (∀ (k0_h61 : k0_cond61 v24_r0 = 1#1), ∀ a, (k0_off68 v20_r0 v22_r0) a + S64x8x128.size a ≤ S2048x8x128.size a) ∧
  (∀ (k0_h61 : k0_cond61 v24_r0 = 1#1), ∀ (hinb : ∀ a, (k0_off68 v20_r0 v22_r0) a + S64x8x128.size a ≤ S2048x8x128.size a), (Rect.unit (s := S2048x8x128) (k0_off68 v20_r0 v22_r0) S64x8x128.size hinb).WholeWords (EltTy.packing .bf16)) ∧
  (∀ (k0_h62 : k0_cond62 v24_r0 = 1#1), ∀ a, (k0_off69 v20_r0 v22_r0) a + S64x8x128.size a ≤ S2048x8x128.size a) ∧
  (∀ (k0_h62 : k0_cond62 v24_r0 = 1#1), ∀ (hinb : ∀ a, (k0_off69 v20_r0 v22_r0) a + S64x8x128.size a ≤ S2048x8x128.size a), (Rect.unit (s := S2048x8x128) (k0_off69 v20_r0 v22_r0) S64x8x128.size hinb).WholeWords (EltTy.packing .bf16)) ∧
  (∀ (k0_h63 : k0_cond63 v24_r0 = 1#1), ∀ a, (k0_off70 v20_r0 v22_r0) a + S64x8x128.size a ≤ S2048x8x128.size a) ∧
  (∀ (k0_h63 : k0_cond63 v24_r0 = 1#1), ∀ (hinb : ∀ a, (k0_off70 v20_r0 v22_r0) a + S64x8x128.size a ≤ S2048x8x128.size a), (Rect.unit (s := S2048x8x128) (k0_off70 v20_r0 v22_r0) S64x8x128.size hinb).WholeWords (EltTy.packing .bf16)) ∧
  (∀ (k0_h64 : k0_cond64 v24_r0 = 1#1), ∀ a, (k0_off71 v20_r0 v22_r0) a + S64x8x128.size a ≤ S2048x8x128.size a) ∧
  (∀ (k0_h64 : k0_cond64 v24_r0 = 1#1), ∀ (hinb : ∀ a, (k0_off71 v20_r0 v22_r0) a + S64x8x128.size a ≤ S2048x8x128.size a), (Rect.unit (s := S2048x8x128) (k0_off71 v20_r0 v22_r0) S64x8x128.size hinb).WholeWords (EltTy.packing .bf16))
def k0_chk1 (v20_r0 : BitVec 32) (v22_r0 : BitVec 32) (v24_r0 : BitVec 32) : Prop :=
  k0_chk1_0 v20_r0 v22_r0 v24_r0 ∧
  k0_chk1_1 v20_r0 v22_r0 v24_r0 ∧
  k0_chk1_2 v20_r0 v22_r0 v24_r0 ∧
  k0_chk1_3 v20_r0 v22_r0 v24_r0
theorem k0_off8_inb : ∀ (v20_r0 : BitVec 32) (v22_r0 : BitVec 32) (v24_r0 : BitVec 32) (k0_hw1 : k0_chk1 v20_r0 v22_r0 v24_r0), ∀ (k0_h1 : k0_cond1 v24_r0 = 1#1), ∀ a, (k0_off8 v20_r0 v22_r0) a + S64x8x128.size a ≤ S2048x8x128.size a := fun v20_r0 v22_r0 v24_r0 k0_hw1 k0_h1 => k0_hw1.1.1 k0_h1
theorem k0_off8_wordsbf16 : ∀ (v20_r0 : BitVec 32) (v22_r0 : BitVec 32) (v24_r0 : BitVec 32) (k0_hw1 : k0_chk1 v20_r0 v22_r0 v24_r0), ∀ (k0_h1 : k0_cond1 v24_r0 = 1#1), (Rect.unit (s := S2048x8x128) (k0_off8 v20_r0 v22_r0) S64x8x128.size (k0_off8_inb v20_r0 v22_r0 v24_r0 k0_hw1 k0_h1)).WholeWords (EltTy.packing .bf16) := fun v20_r0 v22_r0 v24_r0 k0_hw1 k0_h1 => k0_hw1.1.2.1 k0_h1 (k0_off8_inb v20_r0 v22_r0 v24_r0 k0_hw1 k0_h1)
theorem k0_off9_inb : ∀ (v20_r0 : BitVec 32) (v22_r0 : BitVec 32) (v24_r0 : BitVec 32) (k0_hw1 : k0_chk1 v20_r0 v22_r0 v24_r0), ∀ (k0_h2 : k0_cond2 v24_r0 = 1#1), ∀ a, (k0_off9 v20_r0 v22_r0) a + S64x8x128.size a ≤ S2048x8x128.size a := fun v20_r0 v22_r0 v24_r0 k0_hw1 k0_h2 => k0_hw1.1.2.2.1 k0_h2
theorem k0_off9_wordsbf16 : ∀ (v20_r0 : BitVec 32) (v22_r0 : BitVec 32) (v24_r0 : BitVec 32) (k0_hw1 : k0_chk1 v20_r0 v22_r0 v24_r0), ∀ (k0_h2 : k0_cond2 v24_r0 = 1#1), (Rect.unit (s := S2048x8x128) (k0_off9 v20_r0 v22_r0) S64x8x128.size (k0_off9_inb v20_r0 v22_r0 v24_r0 k0_hw1 k0_h2)).WholeWords (EltTy.packing .bf16) := fun v20_r0 v22_r0 v24_r0 k0_hw1 k0_h2 => k0_hw1.1.2.2.2.1 k0_h2 (k0_off9_inb v20_r0 v22_r0 v24_r0 k0_hw1 k0_h2)
theorem k0_off10_inb : ∀ (v20_r0 : BitVec 32) (v22_r0 : BitVec 32) (v24_r0 : BitVec 32) (k0_hw1 : k0_chk1 v20_r0 v22_r0 v24_r0), ∀ (k0_h3 : k0_cond3 v24_r0 = 1#1), ∀ a, (k0_off10 v20_r0 v22_r0) a + S64x8x128.size a ≤ S2048x8x128.size a := fun v20_r0 v22_r0 v24_r0 k0_hw1 k0_h3 => k0_hw1.1.2.2.2.2.1 k0_h3
theorem k0_off10_wordsbf16 : ∀ (v20_r0 : BitVec 32) (v22_r0 : BitVec 32) (v24_r0 : BitVec 32) (k0_hw1 : k0_chk1 v20_r0 v22_r0 v24_r0), ∀ (k0_h3 : k0_cond3 v24_r0 = 1#1), (Rect.unit (s := S2048x8x128) (k0_off10 v20_r0 v22_r0) S64x8x128.size (k0_off10_inb v20_r0 v22_r0 v24_r0 k0_hw1 k0_h3)).WholeWords (EltTy.packing .bf16) := fun v20_r0 v22_r0 v24_r0 k0_hw1 k0_h3 => k0_hw1.1.2.2.2.2.2.1 k0_h3 (k0_off10_inb v20_r0 v22_r0 v24_r0 k0_hw1 k0_h3)
theorem k0_off11_inb : ∀ (v20_r0 : BitVec 32) (v22_r0 : BitVec 32) (v24_r0 : BitVec 32) (k0_hw1 : k0_chk1 v20_r0 v22_r0 v24_r0), ∀ (k0_h4 : k0_cond4 v24_r0 = 1#1), ∀ a, (k0_off11 v20_r0 v22_r0) a + S64x8x128.size a ≤ S2048x8x128.size a := fun v20_r0 v22_r0 v24_r0 k0_hw1 k0_h4 => k0_hw1.1.2.2.2.2.2.2.1 k0_h4
theorem k0_off11_wordsbf16 : ∀ (v20_r0 : BitVec 32) (v22_r0 : BitVec 32) (v24_r0 : BitVec 32) (k0_hw1 : k0_chk1 v20_r0 v22_r0 v24_r0), ∀ (k0_h4 : k0_cond4 v24_r0 = 1#1), (Rect.unit (s := S2048x8x128) (k0_off11 v20_r0 v22_r0) S64x8x128.size (k0_off11_inb v20_r0 v22_r0 v24_r0 k0_hw1 k0_h4)).WholeWords (EltTy.packing .bf16) := fun v20_r0 v22_r0 v24_r0 k0_hw1 k0_h4 => k0_hw1.1.2.2.2.2.2.2.2.1 k0_h4 (k0_off11_inb v20_r0 v22_r0 v24_r0 k0_hw1 k0_h4)
theorem k0_off12_inb : ∀ (v20_r0 : BitVec 32) (v22_r0 : BitVec 32) (v24_r0 : BitVec 32) (k0_hw1 : k0_chk1 v20_r0 v22_r0 v24_r0), ∀ (k0_h5 : k0_cond5 v24_r0 = 1#1), ∀ a, (k0_off12 v20_r0 v22_r0) a + S64x8x128.size a ≤ S2048x8x128.size a := fun v20_r0 v22_r0 v24_r0 k0_hw1 k0_h5 => k0_hw1.1.2.2.2.2.2.2.2.2.1 k0_h5
theorem k0_off12_wordsbf16 : ∀ (v20_r0 : BitVec 32) (v22_r0 : BitVec 32) (v24_r0 : BitVec 32) (k0_hw1 : k0_chk1 v20_r0 v22_r0 v24_r0), ∀ (k0_h5 : k0_cond5 v24_r0 = 1#1), (Rect.unit (s := S2048x8x128) (k0_off12 v20_r0 v22_r0) S64x8x128.size (k0_off12_inb v20_r0 v22_r0 v24_r0 k0_hw1 k0_h5)).WholeWords (EltTy.packing .bf16) := fun v20_r0 v22_r0 v24_r0 k0_hw1 k0_h5 => k0_hw1.1.2.2.2.2.2.2.2.2.2.1 k0_h5 (k0_off12_inb v20_r0 v22_r0 v24_r0 k0_hw1 k0_h5)
theorem k0_off13_inb : ∀ (v20_r0 : BitVec 32) (v22_r0 : BitVec 32) (v24_r0 : BitVec 32) (k0_hw1 : k0_chk1 v20_r0 v22_r0 v24_r0), ∀ (k0_h6 : k0_cond6 v24_r0 = 1#1), ∀ a, (k0_off13 v20_r0 v22_r0) a + S64x8x128.size a ≤ S2048x8x128.size a := fun v20_r0 v22_r0 v24_r0 k0_hw1 k0_h6 => k0_hw1.1.2.2.2.2.2.2.2.2.2.2.1 k0_h6
theorem k0_off13_wordsbf16 : ∀ (v20_r0 : BitVec 32) (v22_r0 : BitVec 32) (v24_r0 : BitVec 32) (k0_hw1 : k0_chk1 v20_r0 v22_r0 v24_r0), ∀ (k0_h6 : k0_cond6 v24_r0 = 1#1), (Rect.unit (s := S2048x8x128) (k0_off13 v20_r0 v22_r0) S64x8x128.size (k0_off13_inb v20_r0 v22_r0 v24_r0 k0_hw1 k0_h6)).WholeWords (EltTy.packing .bf16) := fun v20_r0 v22_r0 v24_r0 k0_hw1 k0_h6 => k0_hw1.1.2.2.2.2.2.2.2.2.2.2.2.1 k0_h6 (k0_off13_inb v20_r0 v22_r0 v24_r0 k0_hw1 k0_h6)
theorem k0_off14_inb : ∀ (v20_r0 : BitVec 32) (v22_r0 : BitVec 32) (v24_r0 : BitVec 32) (k0_hw1 : k0_chk1 v20_r0 v22_r0 v24_r0), ∀ (k0_h7 : k0_cond7 v24_r0 = 1#1), ∀ a, (k0_off14 v20_r0 v22_r0) a + S64x8x128.size a ≤ S2048x8x128.size a := fun v20_r0 v22_r0 v24_r0 k0_hw1 k0_h7 => k0_hw1.1.2.2.2.2.2.2.2.2.2.2.2.2.1 k0_h7
theorem k0_off14_wordsbf16 : ∀ (v20_r0 : BitVec 32) (v22_r0 : BitVec 32) (v24_r0 : BitVec 32) (k0_hw1 : k0_chk1 v20_r0 v22_r0 v24_r0), ∀ (k0_h7 : k0_cond7 v24_r0 = 1#1), (Rect.unit (s := S2048x8x128) (k0_off14 v20_r0 v22_r0) S64x8x128.size (k0_off14_inb v20_r0 v22_r0 v24_r0 k0_hw1 k0_h7)).WholeWords (EltTy.packing .bf16) := fun v20_r0 v22_r0 v24_r0 k0_hw1 k0_h7 => k0_hw1.1.2.2.2.2.2.2.2.2.2.2.2.2.2.1 k0_h7 (k0_off14_inb v20_r0 v22_r0 v24_r0 k0_hw1 k0_h7)
theorem k0_off15_inb : ∀ (v20_r0 : BitVec 32) (v22_r0 : BitVec 32) (v24_r0 : BitVec 32) (k0_hw1 : k0_chk1 v20_r0 v22_r0 v24_r0), ∀ (k0_h8 : k0_cond8 v24_r0 = 1#1), ∀ a, (k0_off15 v20_r0 v22_r0) a + S64x8x128.size a ≤ S2048x8x128.size a := fun v20_r0 v22_r0 v24_r0 k0_hw1 k0_h8 => k0_hw1.1.2.2.2.2.2.2.2.2.2.2.2.2.2.2.1 k0_h8
theorem k0_off15_wordsbf16 : ∀ (v20_r0 : BitVec 32) (v22_r0 : BitVec 32) (v24_r0 : BitVec 32) (k0_hw1 : k0_chk1 v20_r0 v22_r0 v24_r0), ∀ (k0_h8 : k0_cond8 v24_r0 = 1#1), (Rect.unit (s := S2048x8x128) (k0_off15 v20_r0 v22_r0) S64x8x128.size (k0_off15_inb v20_r0 v22_r0 v24_r0 k0_hw1 k0_h8)).WholeWords (EltTy.packing .bf16) := fun v20_r0 v22_r0 v24_r0 k0_hw1 k0_h8 => k0_hw1.1.2.2.2.2.2.2.2.2.2.2.2.2.2.2.2.1 k0_h8 (k0_off15_inb v20_r0 v22_r0 v24_r0 k0_hw1 k0_h8)
theorem k0_off16_inb : ∀ (v20_r0 : BitVec 32) (v22_r0 : BitVec 32) (v24_r0 : BitVec 32) (k0_hw1 : k0_chk1 v20_r0 v22_r0 v24_r0), ∀ (k0_h9 : k0_cond9 v24_r0 = 1#1), ∀ a, (k0_off16 v20_r0 v22_r0) a + S64x8x128.size a ≤ S2048x8x128.size a := fun v20_r0 v22_r0 v24_r0 k0_hw1 k0_h9 => k0_hw1.1.2.2.2.2.2.2.2.2.2.2.2.2.2.2.2.2.1 k0_h9
theorem k0_off16_wordsbf16 : ∀ (v20_r0 : BitVec 32) (v22_r0 : BitVec 32) (v24_r0 : BitVec 32) (k0_hw1 : k0_chk1 v20_r0 v22_r0 v24_r0), ∀ (k0_h9 : k0_cond9 v24_r0 = 1#1), (Rect.unit (s := S2048x8x128) (k0_off16 v20_r0 v22_r0) S64x8x128.size (k0_off16_inb v20_r0 v22_r0 v24_r0 k0_hw1 k0_h9)).WholeWords (EltTy.packing .bf16) := fun v20_r0 v22_r0 v24_r0 k0_hw1 k0_h9 => k0_hw1.1.2.2.2.2.2.2.2.2.2.2.2.2.2.2.2.2.2.1 k0_h9 (k0_off16_inb v20_r0 v22_r0 v24_r0 k0_hw1 k0_h9)
theorem k0_off17_inb : ∀ (v20_r0 : BitVec 32) (v22_r0 : BitVec 32) (v24_r0 : BitVec 32) (k0_hw1 : k0_chk1 v20_r0 v22_r0 v24_r0), ∀ (k0_h10 : k0_cond10 v24_r0 = 1#1), ∀ a, (k0_off17 v20_r0 v22_r0) a + S64x8x128.size a ≤ S2048x8x128.size a := fun v20_r0 v22_r0 v24_r0 k0_hw1 k0_h10 => k0_hw1.1.2.2.2.2.2.2.2.2.2.2.2.2.2.2.2.2.2.2.1 k0_h10
theorem k0_off17_wordsbf16 : ∀ (v20_r0 : BitVec 32) (v22_r0 : BitVec 32) (v24_r0 : BitVec 32) (k0_hw1 : k0_chk1 v20_r0 v22_r0 v24_r0), ∀ (k0_h10 : k0_cond10 v24_r0 = 1#1), (Rect.unit (s := S2048x8x128) (k0_off17 v20_r0 v22_r0) S64x8x128.size (k0_off17_inb v20_r0 v22_r0 v24_r0 k0_hw1 k0_h10)).WholeWords (EltTy.packing .bf16) := fun v20_r0 v22_r0 v24_r0 k0_hw1 k0_h10 => k0_hw1.1.2.2.2.2.2.2.2.2.2.2.2.2.2.2.2.2.2.2.2.1 k0_h10 (k0_off17_inb v20_r0 v22_r0 v24_r0 k0_hw1 k0_h10)
theorem k0_off18_inb : ∀ (v20_r0 : BitVec 32) (v22_r0 : BitVec 32) (v24_r0 : BitVec 32) (k0_hw1 : k0_chk1 v20_r0 v22_r0 v24_r0), ∀ (k0_h11 : k0_cond11 v24_r0 = 1#1), ∀ a, (k0_off18 v20_r0 v22_r0) a + S64x8x128.size a ≤ S2048x8x128.size a := fun v20_r0 v22_r0 v24_r0 k0_hw1 k0_h11 => k0_hw1.1.2.2.2.2.2.2.2.2.2.2.2.2.2.2.2.2.2.2.2.2.1 k0_h11
theorem k0_off18_wordsbf16 : ∀ (v20_r0 : BitVec 32) (v22_r0 : BitVec 32) (v24_r0 : BitVec 32) (k0_hw1 : k0_chk1 v20_r0 v22_r0 v24_r0), ∀ (k0_h11 : k0_cond11 v24_r0 = 1#1), (Rect.unit (s := S2048x8x128) (k0_off18 v20_r0 v22_r0) S64x8x128.size (k0_off18_inb v20_r0 v22_r0 v24_r0 k0_hw1 k0_h11)).WholeWords (EltTy.packing .bf16) := fun v20_r0 v22_r0 v24_r0 k0_hw1 k0_h11 => k0_hw1.1.2.2.2.2.2.2.2.2.2.2.2.2.2.2.2.2.2.2.2.2.2.1 k0_h11 (k0_off18_inb v20_r0 v22_r0 v24_r0 k0_hw1 k0_h11)
theorem k0_off19_inb : ∀ (v20_r0 : BitVec 32) (v22_r0 : BitVec 32) (v24_r0 : BitVec 32) (k0_hw1 : k0_chk1 v20_r0 v22_r0 v24_r0), ∀ (k0_h12 : k0_cond12 v24_r0 = 1#1), ∀ a, (k0_off19 v20_r0 v22_r0) a + S64x8x128.size a ≤ S2048x8x128.size a := fun v20_r0 v22_r0 v24_r0 k0_hw1 k0_h12 => k0_hw1.1.2.2.2.2.2.2.2.2.2.2.2.2.2.2.2.2.2.2.2.2.2.2.1 k0_h12
theorem k0_off19_wordsbf16 : ∀ (v20_r0 : BitVec 32) (v22_r0 : BitVec 32) (v24_r0 : BitVec 32) (k0_hw1 : k0_chk1 v20_r0 v22_r0 v24_r0), ∀ (k0_h12 : k0_cond12 v24_r0 = 1#1), (Rect.unit (s := S2048x8x128) (k0_off19 v20_r0 v22_r0) S64x8x128.size (k0_off19_inb v20_r0 v22_r0 v24_r0 k0_hw1 k0_h12)).WholeWords (EltTy.packing .bf16) := fun v20_r0 v22_r0 v24_r0 k0_hw1 k0_h12 => k0_hw1.1.2.2.2.2.2.2.2.2.2.2.2.2.2.2.2.2.2.2.2.2.2.2.2.1 k0_h12 (k0_off19_inb v20_r0 v22_r0 v24_r0 k0_hw1 k0_h12)
theorem k0_off20_inb : ∀ (v20_r0 : BitVec 32) (v22_r0 : BitVec 32) (v24_r0 : BitVec 32) (k0_hw1 : k0_chk1 v20_r0 v22_r0 v24_r0), ∀ (k0_h13 : k0_cond13 v24_r0 = 1#1), ∀ a, (k0_off20 v20_r0 v22_r0) a + S64x8x128.size a ≤ S2048x8x128.size a := fun v20_r0 v22_r0 v24_r0 k0_hw1 k0_h13 => k0_hw1.1.2.2.2.2.2.2.2.2.2.2.2.2.2.2.2.2.2.2.2.2.2.2.2.2.1 k0_h13
theorem k0_off20_wordsbf16 : ∀ (v20_r0 : BitVec 32) (v22_r0 : BitVec 32) (v24_r0 : BitVec 32) (k0_hw1 : k0_chk1 v20_r0 v22_r0 v24_r0), ∀ (k0_h13 : k0_cond13 v24_r0 = 1#1), (Rect.unit (s := S2048x8x128) (k0_off20 v20_r0 v22_r0) S64x8x128.size (k0_off20_inb v20_r0 v22_r0 v24_r0 k0_hw1 k0_h13)).WholeWords (EltTy.packing .bf16) := fun v20_r0 v22_r0 v24_r0 k0_hw1 k0_h13 => k0_hw1.1.2.2.2.2.2.2.2.2.2.2.2.2.2.2.2.2.2.2.2.2.2.2.2.2.2.1 k0_h13 (k0_off20_inb v20_r0 v22_r0 v24_r0 k0_hw1 k0_h13)
theorem k0_off21_inb : ∀ (v20_r0 : BitVec 32) (v22_r0 : BitVec 32) (v24_r0 : BitVec 32) (k0_hw1 : k0_chk1 v20_r0 v22_r0 v24_r0), ∀ (k0_h14 : k0_cond14 v24_r0 = 1#1), ∀ a, (k0_off21 v20_r0 v22_r0) a + S64x8x128.size a ≤ S2048x8x128.size a := fun v20_r0 v22_r0 v24_r0 k0_hw1 k0_h14 => k0_hw1.1.2.2.2.2.2.2.2.2.2.2.2.2.2.2.2.2.2.2.2.2.2.2.2.2.2.2.1 k0_h14
theorem k0_off21_wordsbf16 : ∀ (v20_r0 : BitVec 32) (v22_r0 : BitVec 32) (v24_r0 : BitVec 32) (k0_hw1 : k0_chk1 v20_r0 v22_r0 v24_r0), ∀ (k0_h14 : k0_cond14 v24_r0 = 1#1), (Rect.unit (s := S2048x8x128) (k0_off21 v20_r0 v22_r0) S64x8x128.size (k0_off21_inb v20_r0 v22_r0 v24_r0 k0_hw1 k0_h14)).WholeWords (EltTy.packing .bf16) := fun v20_r0 v22_r0 v24_r0 k0_hw1 k0_h14 => k0_hw1.1.2.2.2.2.2.2.2.2.2.2.2.2.2.2.2.2.2.2.2.2.2.2.2.2.2.2.2.1 k0_h14 (k0_off21_inb v20_r0 v22_r0 v24_r0 k0_hw1 k0_h14)
theorem k0_off22_inb : ∀ (v20_r0 : BitVec 32) (v22_r0 : BitVec 32) (v24_r0 : BitVec 32) (k0_hw1 : k0_chk1 v20_r0 v22_r0 v24_r0), ∀ (k0_h15 : k0_cond15 v24_r0 = 1#1), ∀ a, (k0_off22 v20_r0 v22_r0) a + S64x8x128.size a ≤ S2048x8x128.size a := fun v20_r0 v22_r0 v24_r0 k0_hw1 k0_h15 => k0_hw1.1.2.2.2.2.2.2.2.2.2.2.2.2.2.2.2.2.2.2.2.2.2.2.2.2.2.2.2.2.1 k0_h15
theorem k0_off22_wordsbf16 : ∀ (v20_r0 : BitVec 32) (v22_r0 : BitVec 32) (v24_r0 : BitVec 32) (k0_hw1 : k0_chk1 v20_r0 v22_r0 v24_r0), ∀ (k0_h15 : k0_cond15 v24_r0 = 1#1), (Rect.unit (s := S2048x8x128) (k0_off22 v20_r0 v22_r0) S64x8x128.size (k0_off22_inb v20_r0 v22_r0 v24_r0 k0_hw1 k0_h15)).WholeWords (EltTy.packing .bf16) := fun v20_r0 v22_r0 v24_r0 k0_hw1 k0_h15 => k0_hw1.1.2.2.2.2.2.2.2.2.2.2.2.2.2.2.2.2.2.2.2.2.2.2.2.2.2.2.2.2.2.1 k0_h15 (k0_off22_inb v20_r0 v22_r0 v24_r0 k0_hw1 k0_h15)
theorem k0_off23_inb : ∀ (v20_r0 : BitVec 32) (v22_r0 : BitVec 32) (v24_r0 : BitVec 32) (k0_hw1 : k0_chk1 v20_r0 v22_r0 v24_r0), ∀ (k0_h16 : k0_cond16 v24_r0 = 1#1), ∀ a, (k0_off23 v20_r0 v22_r0) a + S64x8x128.size a ≤ S2048x8x128.size a := fun v20_r0 v22_r0 v24_r0 k0_hw1 k0_h16 => k0_hw1.1.2.2.2.2.2.2.2.2.2.2.2.2.2.2.2.2.2.2.2.2.2.2.2.2.2.2.2.2.2.2.1 k0_h16
theorem k0_off23_wordsbf16 : ∀ (v20_r0 : BitVec 32) (v22_r0 : BitVec 32) (v24_r0 : BitVec 32) (k0_hw1 : k0_chk1 v20_r0 v22_r0 v24_r0), ∀ (k0_h16 : k0_cond16 v24_r0 = 1#1), (Rect.unit (s := S2048x8x128) (k0_off23 v20_r0 v22_r0) S64x8x128.size (k0_off23_inb v20_r0 v22_r0 v24_r0 k0_hw1 k0_h16)).WholeWords (EltTy.packing .bf16) := fun v20_r0 v22_r0 v24_r0 k0_hw1 k0_h16 => k0_hw1.1.2.2.2.2.2.2.2.2.2.2.2.2.2.2.2.2.2.2.2.2.2.2.2.2.2.2.2.2.2.2.2 k0_h16 (k0_off23_inb v20_r0 v22_r0 v24_r0 k0_hw1 k0_h16)
theorem k0_off24_inb : ∀ (v20_r0 : BitVec 32) (v22_r0 : BitVec 32) (v24_r0 : BitVec 32) (k0_hw1 : k0_chk1 v20_r0 v22_r0 v24_r0), ∀ (k0_h17 : k0_cond17 v24_r0 = 1#1), ∀ a, (k0_off24 v20_r0 v22_r0) a + S64x8x128.size a ≤ S2048x8x128.size a := fun v20_r0 v22_r0 v24_r0 k0_hw1 k0_h17 => k0_hw1.2.1.1 k0_h17
theorem k0_off24_wordsbf16 : ∀ (v20_r0 : BitVec 32) (v22_r0 : BitVec 32) (v24_r0 : BitVec 32) (k0_hw1 : k0_chk1 v20_r0 v22_r0 v24_r0), ∀ (k0_h17 : k0_cond17 v24_r0 = 1#1), (Rect.unit (s := S2048x8x128) (k0_off24 v20_r0 v22_r0) S64x8x128.size (k0_off24_inb v20_r0 v22_r0 v24_r0 k0_hw1 k0_h17)).WholeWords (EltTy.packing .bf16) := fun v20_r0 v22_r0 v24_r0 k0_hw1 k0_h17 => k0_hw1.2.1.2.1 k0_h17 (k0_off24_inb v20_r0 v22_r0 v24_r0 k0_hw1 k0_h17)
theorem k0_off25_inb : ∀ (v20_r0 : BitVec 32) (v22_r0 : BitVec 32) (v24_r0 : BitVec 32) (k0_hw1 : k0_chk1 v20_r0 v22_r0 v24_r0), ∀ (k0_h18 : k0_cond18 v24_r0 = 1#1), ∀ a, (k0_off25 v20_r0 v22_r0) a + S64x8x128.size a ≤ S2048x8x128.size a := fun v20_r0 v22_r0 v24_r0 k0_hw1 k0_h18 => k0_hw1.2.1.2.2.1 k0_h18
theorem k0_off25_wordsbf16 : ∀ (v20_r0 : BitVec 32) (v22_r0 : BitVec 32) (v24_r0 : BitVec 32) (k0_hw1 : k0_chk1 v20_r0 v22_r0 v24_r0), ∀ (k0_h18 : k0_cond18 v24_r0 = 1#1), (Rect.unit (s := S2048x8x128) (k0_off25 v20_r0 v22_r0) S64x8x128.size (k0_off25_inb v20_r0 v22_r0 v24_r0 k0_hw1 k0_h18)).WholeWords (EltTy.packing .bf16) := fun v20_r0 v22_r0 v24_r0 k0_hw1 k0_h18 => k0_hw1.2.1.2.2.2.1 k0_h18 (k0_off25_inb v20_r0 v22_r0 v24_r0 k0_hw1 k0_h18)
theorem k0_off26_inb : ∀ (v20_r0 : BitVec 32) (v22_r0 : BitVec 32) (v24_r0 : BitVec 32) (k0_hw1 : k0_chk1 v20_r0 v22_r0 v24_r0), ∀ (k0_h19 : k0_cond19 v24_r0 = 1#1), ∀ a, (k0_off26 v20_r0 v22_r0) a + S64x8x128.size a ≤ S2048x8x128.size a := fun v20_r0 v22_r0 v24_r0 k0_hw1 k0_h19 => k0_hw1.2.1.2.2.2.2.1 k0_h19
theorem k0_off26_wordsbf16 : ∀ (v20_r0 : BitVec 32) (v22_r0 : BitVec 32) (v24_r0 : BitVec 32) (k0_hw1 : k0_chk1 v20_r0 v22_r0 v24_r0), ∀ (k0_h19 : k0_cond19 v24_r0 = 1#1), (Rect.unit (s := S2048x8x128) (k0_off26 v20_r0 v22_r0) S64x8x128.size (k0_off26_inb v20_r0 v22_r0 v24_r0 k0_hw1 k0_h19)).WholeWords (EltTy.packing .bf16) := fun v20_r0 v22_r0 v24_r0 k0_hw1 k0_h19 => k0_hw1.2.1.2.2.2.2.2.1 k0_h19 (k0_off26_inb v20_r0 v22_r0 v24_r0 k0_hw1 k0_h19)
theorem k0_off27_inb : ∀ (v20_r0 : BitVec 32) (v22_r0 : BitVec 32) (v24_r0 : BitVec 32) (k0_hw1 : k0_chk1 v20_r0 v22_r0 v24_r0), ∀ (k0_h20 : k0_cond20 v24_r0 = 1#1), ∀ a, (k0_off27 v20_r0 v22_r0) a + S64x8x128.size a ≤ S2048x8x128.size a := fun v20_r0 v22_r0 v24_r0 k0_hw1 k0_h20 => k0_hw1.2.1.2.2.2.2.2.2.1 k0_h20
theorem k0_off27_wordsbf16 : ∀ (v20_r0 : BitVec 32) (v22_r0 : BitVec 32) (v24_r0 : BitVec 32) (k0_hw1 : k0_chk1 v20_r0 v22_r0 v24_r0), ∀ (k0_h20 : k0_cond20 v24_r0 = 1#1), (Rect.unit (s := S2048x8x128) (k0_off27 v20_r0 v22_r0) S64x8x128.size (k0_off27_inb v20_r0 v22_r0 v24_r0 k0_hw1 k0_h20)).WholeWords (EltTy.packing .bf16) := fun v20_r0 v22_r0 v24_r0 k0_hw1 k0_h20 => k0_hw1.2.1.2.2.2.2.2.2.2.1 k0_h20 (k0_off27_inb v20_r0 v22_r0 v24_r0 k0_hw1 k0_h20)
theorem k0_off28_inb : ∀ (v20_r0 : BitVec 32) (v22_r0 : BitVec 32) (v24_r0 : BitVec 32) (k0_hw1 : k0_chk1 v20_r0 v22_r0 v24_r0), ∀ (k0_h21 : k0_cond21 v24_r0 = 1#1), ∀ a, (k0_off28 v20_r0 v22_r0) a + S64x8x128.size a ≤ S2048x8x128.size a := fun v20_r0 v22_r0 v24_r0 k0_hw1 k0_h21 => k0_hw1.2.1.2.2.2.2.2.2.2.2.1 k0_h21
theorem k0_off28_wordsbf16 : ∀ (v20_r0 : BitVec 32) (v22_r0 : BitVec 32) (v24_r0 : BitVec 32) (k0_hw1 : k0_chk1 v20_r0 v22_r0 v24_r0), ∀ (k0_h21 : k0_cond21 v24_r0 = 1#1), (Rect.unit (s := S2048x8x128) (k0_off28 v20_r0 v22_r0) S64x8x128.size (k0_off28_inb v20_r0 v22_r0 v24_r0 k0_hw1 k0_h21)).WholeWords (EltTy.packing .bf16) := fun v20_r0 v22_r0 v24_r0 k0_hw1 k0_h21 => k0_hw1.2.1.2.2.2.2.2.2.2.2.2.1 k0_h21 (k0_off28_inb v20_r0 v22_r0 v24_r0 k0_hw1 k0_h21)
theorem k0_off29_inb : ∀ (v20_r0 : BitVec 32) (v22_r0 : BitVec 32) (v24_r0 : BitVec 32) (k0_hw1 : k0_chk1 v20_r0 v22_r0 v24_r0), ∀ (k0_h22 : k0_cond22 v24_r0 = 1#1), ∀ a, (k0_off29 v20_r0 v22_r0) a + S64x8x128.size a ≤ S2048x8x128.size a := fun v20_r0 v22_r0 v24_r0 k0_hw1 k0_h22 => k0_hw1.2.1.2.2.2.2.2.2.2.2.2.2.1 k0_h22
theorem k0_off29_wordsbf16 : ∀ (v20_r0 : BitVec 32) (v22_r0 : BitVec 32) (v24_r0 : BitVec 32) (k0_hw1 : k0_chk1 v20_r0 v22_r0 v24_r0), ∀ (k0_h22 : k0_cond22 v24_r0 = 1#1), (Rect.unit (s := S2048x8x128) (k0_off29 v20_r0 v22_r0) S64x8x128.size (k0_off29_inb v20_r0 v22_r0 v24_r0 k0_hw1 k0_h22)).WholeWords (EltTy.packing .bf16) := fun v20_r0 v22_r0 v24_r0 k0_hw1 k0_h22 => k0_hw1.2.1.2.2.2.2.2.2.2.2.2.2.2.1 k0_h22 (k0_off29_inb v20_r0 v22_r0 v24_r0 k0_hw1 k0_h22)
theorem k0_off30_inb : ∀ (v20_r0 : BitVec 32) (v22_r0 : BitVec 32) (v24_r0 : BitVec 32) (k0_hw1 : k0_chk1 v20_r0 v22_r0 v24_r0), ∀ (k0_h23 : k0_cond23 v24_r0 = 1#1), ∀ a, (k0_off30 v20_r0 v22_r0) a + S64x8x128.size a ≤ S2048x8x128.size a := fun v20_r0 v22_r0 v24_r0 k0_hw1 k0_h23 => k0_hw1.2.1.2.2.2.2.2.2.2.2.2.2.2.2.1 k0_h23
theorem k0_off30_wordsbf16 : ∀ (v20_r0 : BitVec 32) (v22_r0 : BitVec 32) (v24_r0 : BitVec 32) (k0_hw1 : k0_chk1 v20_r0 v22_r0 v24_r0), ∀ (k0_h23 : k0_cond23 v24_r0 = 1#1), (Rect.unit (s := S2048x8x128) (k0_off30 v20_r0 v22_r0) S64x8x128.size (k0_off30_inb v20_r0 v22_r0 v24_r0 k0_hw1 k0_h23)).WholeWords (EltTy.packing .bf16) := fun v20_r0 v22_r0 v24_r0 k0_hw1 k0_h23 => k0_hw1.2.1.2.2.2.2.2.2.2.2.2.2.2.2.2.1 k0_h23 (k0_off30_inb v20_r0 v22_r0 v24_r0 k0_hw1 k0_h23)
theorem k0_off31_inb : ∀ (v20_r0 : BitVec 32) (v22_r0 : BitVec 32) (v24_r0 : BitVec 32) (k0_hw1 : k0_chk1 v20_r0 v22_r0 v24_r0), ∀ (k0_h24 : k0_cond24 v24_r0 = 1#1), ∀ a, (k0_off31 v20_r0 v22_r0) a + S64x8x128.size a ≤ S2048x8x128.size a := fun v20_r0 v22_r0 v24_r0 k0_hw1 k0_h24 => k0_hw1.2.1.2.2.2.2.2.2.2.2.2.2.2.2.2.2.1 k0_h24
theorem k0_off31_wordsbf16 : ∀ (v20_r0 : BitVec 32) (v22_r0 : BitVec 32) (v24_r0 : BitVec 32) (k0_hw1 : k0_chk1 v20_r0 v22_r0 v24_r0), ∀ (k0_h24 : k0_cond24 v24_r0 = 1#1), (Rect.unit (s := S2048x8x128) (k0_off31 v20_r0 v22_r0) S64x8x128.size (k0_off31_inb v20_r0 v22_r0 v24_r0 k0_hw1 k0_h24)).WholeWords (EltTy.packing .bf16) := fun v20_r0 v22_r0 v24_r0 k0_hw1 k0_h24 => k0_hw1.2.1.2.2.2.2.2.2.2.2.2.2.2.2.2.2.2.1 k0_h24 (k0_off31_inb v20_r0 v22_r0 v24_r0 k0_hw1 k0_h24)
theorem k0_off32_inb : ∀ (v20_r0 : BitVec 32) (v22_r0 : BitVec 32) (v24_r0 : BitVec 32) (k0_hw1 : k0_chk1 v20_r0 v22_r0 v24_r0), ∀ (k0_h25 : k0_cond25 v24_r0 = 1#1), ∀ a, (k0_off32 v20_r0 v22_r0) a + S64x8x128.size a ≤ S2048x8x128.size a := fun v20_r0 v22_r0 v24_r0 k0_hw1 k0_h25 => k0_hw1.2.1.2.2.2.2.2.2.2.2.2.2.2.2.2.2.2.2.1 k0_h25
theorem k0_off32_wordsbf16 : ∀ (v20_r0 : BitVec 32) (v22_r0 : BitVec 32) (v24_r0 : BitVec 32) (k0_hw1 : k0_chk1 v20_r0 v22_r0 v24_r0), ∀ (k0_h25 : k0_cond25 v24_r0 = 1#1), (Rect.unit (s := S2048x8x128) (k0_off32 v20_r0 v22_r0) S64x8x128.size (k0_off32_inb v20_r0 v22_r0 v24_r0 k0_hw1 k0_h25)).WholeWords (EltTy.packing .bf16) := fun v20_r0 v22_r0 v24_r0 k0_hw1 k0_h25 => k0_hw1.2.1.2.2.2.2.2.2.2.2.2.2.2.2.2.2.2.2.2.1 k0_h25 (k0_off32_inb v20_r0 v22_r0 v24_r0 k0_hw1 k0_h25)
theorem k0_off33_inb : ∀ (v20_r0 : BitVec 32) (v22_r0 : BitVec 32) (v24_r0 : BitVec 32) (k0_hw1 : k0_chk1 v20_r0 v22_r0 v24_r0), ∀ (k0_h26 : k0_cond26 v24_r0 = 1#1), ∀ a, (k0_off33 v20_r0 v22_r0) a + S64x8x128.size a ≤ S2048x8x128.size a := fun v20_r0 v22_r0 v24_r0 k0_hw1 k0_h26 => k0_hw1.2.1.2.2.2.2.2.2.2.2.2.2.2.2.2.2.2.2.2.2.1 k0_h26
theorem k0_off33_wordsbf16 : ∀ (v20_r0 : BitVec 32) (v22_r0 : BitVec 32) (v24_r0 : BitVec 32) (k0_hw1 : k0_chk1 v20_r0 v22_r0 v24_r0), ∀ (k0_h26 : k0_cond26 v24_r0 = 1#1), (Rect.unit (s := S2048x8x128) (k0_off33 v20_r0 v22_r0) S64x8x128.size (k0_off33_inb v20_r0 v22_r0 v24_r0 k0_hw1 k0_h26)).WholeWords (EltTy.packing .bf16) := fun v20_r0 v22_r0 v24_r0 k0_hw1 k0_h26 => k0_hw1.2.1.2.2.2.2.2.2.2.2.2.2.2.2.2.2.2.2.2.2.2.1 k0_h26 (k0_off33_inb v20_r0 v22_r0 v24_r0 k0_hw1 k0_h26)
theorem k0_off34_inb : ∀ (v20_r0 : BitVec 32) (v22_r0 : BitVec 32) (v24_r0 : BitVec 32) (k0_hw1 : k0_chk1 v20_r0 v22_r0 v24_r0), ∀ (k0_h27 : k0_cond27 v24_r0 = 1#1), ∀ a, (k0_off34 v20_r0 v22_r0) a + S64x8x128.size a ≤ S2048x8x128.size a := fun v20_r0 v22_r0 v24_r0 k0_hw1 k0_h27 => k0_hw1.2.1.2.2.2.2.2.2.2.2.2.2.2.2.2.2.2.2.2.2.2.2.1 k0_h27
theorem k0_off34_wordsbf16 : ∀ (v20_r0 : BitVec 32) (v22_r0 : BitVec 32) (v24_r0 : BitVec 32) (k0_hw1 : k0_chk1 v20_r0 v22_r0 v24_r0), ∀ (k0_h27 : k0_cond27 v24_r0 = 1#1), (Rect.unit (s := S2048x8x128) (k0_off34 v20_r0 v22_r0) S64x8x128.size (k0_off34_inb v20_r0 v22_r0 v24_r0 k0_hw1 k0_h27)).WholeWords (EltTy.packing .bf16) := fun v20_r0 v22_r0 v24_r0 k0_hw1 k0_h27 => k0_hw1.2.1.2.2.2.2.2.2.2.2.2.2.2.2.2.2.2.2.2.2.2.2.2.1 k0_h27 (k0_off34_inb v20_r0 v22_r0 v24_r0 k0_hw1 k0_h27)
theorem k0_off35_inb : ∀ (v20_r0 : BitVec 32) (v22_r0 : BitVec 32) (v24_r0 : BitVec 32) (k0_hw1 : k0_chk1 v20_r0 v22_r0 v24_r0), ∀ (k0_h28 : k0_cond28 v24_r0 = 1#1), ∀ a, (k0_off35 v20_r0 v22_r0) a + S64x8x128.size a ≤ S2048x8x128.size a := fun v20_r0 v22_r0 v24_r0 k0_hw1 k0_h28 => k0_hw1.2.1.2.2.2.2.2.2.2.2.2.2.2.2.2.2.2.2.2.2.2.2.2.2.1 k0_h28
theorem k0_off35_wordsbf16 : ∀ (v20_r0 : BitVec 32) (v22_r0 : BitVec 32) (v24_r0 : BitVec 32) (k0_hw1 : k0_chk1 v20_r0 v22_r0 v24_r0), ∀ (k0_h28 : k0_cond28 v24_r0 = 1#1), (Rect.unit (s := S2048x8x128) (k0_off35 v20_r0 v22_r0) S64x8x128.size (k0_off35_inb v20_r0 v22_r0 v24_r0 k0_hw1 k0_h28)).WholeWords (EltTy.packing .bf16) := fun v20_r0 v22_r0 v24_r0 k0_hw1 k0_h28 => k0_hw1.2.1.2.2.2.2.2.2.2.2.2.2.2.2.2.2.2.2.2.2.2.2.2.2.2.1 k0_h28 (k0_off35_inb v20_r0 v22_r0 v24_r0 k0_hw1 k0_h28)
theorem k0_off36_inb : ∀ (v20_r0 : BitVec 32) (v22_r0 : BitVec 32) (v24_r0 : BitVec 32) (k0_hw1 : k0_chk1 v20_r0 v22_r0 v24_r0), ∀ (k0_h29 : k0_cond29 v24_r0 = 1#1), ∀ a, (k0_off36 v20_r0 v22_r0) a + S64x8x128.size a ≤ S2048x8x128.size a := fun v20_r0 v22_r0 v24_r0 k0_hw1 k0_h29 => k0_hw1.2.1.2.2.2.2.2.2.2.2.2.2.2.2.2.2.2.2.2.2.2.2.2.2.2.2.1 k0_h29
theorem k0_off36_wordsbf16 : ∀ (v20_r0 : BitVec 32) (v22_r0 : BitVec 32) (v24_r0 : BitVec 32) (k0_hw1 : k0_chk1 v20_r0 v22_r0 v24_r0), ∀ (k0_h29 : k0_cond29 v24_r0 = 1#1), (Rect.unit (s := S2048x8x128) (k0_off36 v20_r0 v22_r0) S64x8x128.size (k0_off36_inb v20_r0 v22_r0 v24_r0 k0_hw1 k0_h29)).WholeWords (EltTy.packing .bf16) := fun v20_r0 v22_r0 v24_r0 k0_hw1 k0_h29 => k0_hw1.2.1.2.2.2.2.2.2.2.2.2.2.2.2.2.2.2.2.2.2.2.2.2.2.2.2.2.1 k0_h29 (k0_off36_inb v20_r0 v22_r0 v24_r0 k0_hw1 k0_h29)
theorem k0_off37_inb : ∀ (v20_r0 : BitVec 32) (v22_r0 : BitVec 32) (v24_r0 : BitVec 32) (k0_hw1 : k0_chk1 v20_r0 v22_r0 v24_r0), ∀ (k0_h30 : k0_cond30 v24_r0 = 1#1), ∀ a, (k0_off37 v20_r0 v22_r0) a + S64x8x128.size a ≤ S2048x8x128.size a := fun v20_r0 v22_r0 v24_r0 k0_hw1 k0_h30 => k0_hw1.2.1.2.2.2.2.2.2.2.2.2.2.2.2.2.2.2.2.2.2.2.2.2.2.2.2.2.2.1 k0_h30
theorem k0_off37_wordsbf16 : ∀ (v20_r0 : BitVec 32) (v22_r0 : BitVec 32) (v24_r0 : BitVec 32) (k0_hw1 : k0_chk1 v20_r0 v22_r0 v24_r0), ∀ (k0_h30 : k0_cond30 v24_r0 = 1#1), (Rect.unit (s := S2048x8x128) (k0_off37 v20_r0 v22_r0) S64x8x128.size (k0_off37_inb v20_r0 v22_r0 v24_r0 k0_hw1 k0_h30)).WholeWords (EltTy.packing .bf16) := fun v20_r0 v22_r0 v24_r0 k0_hw1 k0_h30 => k0_hw1.2.1.2.2.2.2.2.2.2.2.2.2.2.2.2.2.2.2.2.2.2.2.2.2.2.2.2.2.2.1 k0_h30 (k0_off37_inb v20_r0 v22_r0 v24_r0 k0_hw1 k0_h30)
theorem k0_off38_inb : ∀ (v20_r0 : BitVec 32) (v22_r0 : BitVec 32) (v24_r0 : BitVec 32) (k0_hw1 : k0_chk1 v20_r0 v22_r0 v24_r0), ∀ (k0_h31 : k0_cond31 v24_r0 = 1#1), ∀ a, (k0_off38 v20_r0 v22_r0) a + S64x8x128.size a ≤ S2048x8x128.size a := fun v20_r0 v22_r0 v24_r0 k0_hw1 k0_h31 => k0_hw1.2.1.2.2.2.2.2.2.2.2.2.2.2.2.2.2.2.2.2.2.2.2.2.2.2.2.2.2.2.2.1 k0_h31
theorem k0_off38_wordsbf16 : ∀ (v20_r0 : BitVec 32) (v22_r0 : BitVec 32) (v24_r0 : BitVec 32) (k0_hw1 : k0_chk1 v20_r0 v22_r0 v24_r0), ∀ (k0_h31 : k0_cond31 v24_r0 = 1#1), (Rect.unit (s := S2048x8x128) (k0_off38 v20_r0 v22_r0) S64x8x128.size (k0_off38_inb v20_r0 v22_r0 v24_r0 k0_hw1 k0_h31)).WholeWords (EltTy.packing .bf16) := fun v20_r0 v22_r0 v24_r0 k0_hw1 k0_h31 => k0_hw1.2.1.2.2.2.2.2.2.2.2.2.2.2.2.2.2.2.2.2.2.2.2.2.2.2.2.2.2.2.2.2.1 k0_h31 (k0_off38_inb v20_r0 v22_r0 v24_r0 k0_hw1 k0_h31)
theorem k0_off39_inb : ∀ (v20_r0 : BitVec 32) (v22_r0 : BitVec 32) (v24_r0 : BitVec 32) (k0_hw1 : k0_chk1 v20_r0 v22_r0 v24_r0), ∀ (k0_h32 : k0_cond32 v24_r0 = 1#1), ∀ a, (k0_off39 v20_r0 v22_r0) a + S64x8x128.size a ≤ S2048x8x128.size a := fun v20_r0 v22_r0 v24_r0 k0_hw1 k0_h32 => k0_hw1.2.1.2.2.2.2.2.2.2.2.2.2.2.2.2.2.2.2.2.2.2.2.2.2.2.2.2.2.2.2.2.2.1 k0_h32
theorem k0_off39_wordsbf16 : ∀ (v20_r0 : BitVec 32) (v22_r0 : BitVec 32) (v24_r0 : BitVec 32) (k0_hw1 : k0_chk1 v20_r0 v22_r0 v24_r0), ∀ (k0_h32 : k0_cond32 v24_r0 = 1#1), (Rect.unit (s := S2048x8x128) (k0_off39 v20_r0 v22_r0) S64x8x128.size (k0_off39_inb v20_r0 v22_r0 v24_r0 k0_hw1 k0_h32)).WholeWords (EltTy.packing .bf16) := fun v20_r0 v22_r0 v24_r0 k0_hw1 k0_h32 => k0_hw1.2.1.2.2.2.2.2.2.2.2.2.2.2.2.2.2.2.2.2.2.2.2.2.2.2.2.2.2.2.2.2.2.2 k0_h32 (k0_off39_inb v20_r0 v22_r0 v24_r0 k0_hw1 k0_h32)
theorem k0_off40_inb : ∀ (v20_r0 : BitVec 32) (v22_r0 : BitVec 32) (v24_r0 : BitVec 32) (k0_hw1 : k0_chk1 v20_r0 v22_r0 v24_r0), ∀ (k0_h33 : k0_cond33 v24_r0 = 1#1), ∀ a, (k0_off40 v20_r0 v22_r0) a + S64x8x128.size a ≤ S2048x8x128.size a := fun v20_r0 v22_r0 v24_r0 k0_hw1 k0_h33 => k0_hw1.2.2.1.1 k0_h33
theorem k0_off40_wordsbf16 : ∀ (v20_r0 : BitVec 32) (v22_r0 : BitVec 32) (v24_r0 : BitVec 32) (k0_hw1 : k0_chk1 v20_r0 v22_r0 v24_r0), ∀ (k0_h33 : k0_cond33 v24_r0 = 1#1), (Rect.unit (s := S2048x8x128) (k0_off40 v20_r0 v22_r0) S64x8x128.size (k0_off40_inb v20_r0 v22_r0 v24_r0 k0_hw1 k0_h33)).WholeWords (EltTy.packing .bf16) := fun v20_r0 v22_r0 v24_r0 k0_hw1 k0_h33 => k0_hw1.2.2.1.2.1 k0_h33 (k0_off40_inb v20_r0 v22_r0 v24_r0 k0_hw1 k0_h33)
theorem k0_off41_inb : ∀ (v20_r0 : BitVec 32) (v22_r0 : BitVec 32) (v24_r0 : BitVec 32) (k0_hw1 : k0_chk1 v20_r0 v22_r0 v24_r0), ∀ (k0_h34 : k0_cond34 v24_r0 = 1#1), ∀ a, (k0_off41 v20_r0 v22_r0) a + S64x8x128.size a ≤ S2048x8x128.size a := fun v20_r0 v22_r0 v24_r0 k0_hw1 k0_h34 => k0_hw1.2.2.1.2.2.1 k0_h34
theorem k0_off41_wordsbf16 : ∀ (v20_r0 : BitVec 32) (v22_r0 : BitVec 32) (v24_r0 : BitVec 32) (k0_hw1 : k0_chk1 v20_r0 v22_r0 v24_r0), ∀ (k0_h34 : k0_cond34 v24_r0 = 1#1), (Rect.unit (s := S2048x8x128) (k0_off41 v20_r0 v22_r0) S64x8x128.size (k0_off41_inb v20_r0 v22_r0 v24_r0 k0_hw1 k0_h34)).WholeWords (EltTy.packing .bf16) := fun v20_r0 v22_r0 v24_r0 k0_hw1 k0_h34 => k0_hw1.2.2.1.2.2.2.1 k0_h34 (k0_off41_inb v20_r0 v22_r0 v24_r0 k0_hw1 k0_h34)
theorem k0_off42_inb : ∀ (v20_r0 : BitVec 32) (v22_r0 : BitVec 32) (v24_r0 : BitVec 32) (k0_hw1 : k0_chk1 v20_r0 v22_r0 v24_r0), ∀ (k0_h35 : k0_cond35 v24_r0 = 1#1), ∀ a, (k0_off42 v20_r0 v22_r0) a + S64x8x128.size a ≤ S2048x8x128.size a := fun v20_r0 v22_r0 v24_r0 k0_hw1 k0_h35 => k0_hw1.2.2.1.2.2.2.2.1 k0_h35
theorem k0_off42_wordsbf16 : ∀ (v20_r0 : BitVec 32) (v22_r0 : BitVec 32) (v24_r0 : BitVec 32) (k0_hw1 : k0_chk1 v20_r0 v22_r0 v24_r0), ∀ (k0_h35 : k0_cond35 v24_r0 = 1#1), (Rect.unit (s := S2048x8x128) (k0_off42 v20_r0 v22_r0) S64x8x128.size (k0_off42_inb v20_r0 v22_r0 v24_r0 k0_hw1 k0_h35)).WholeWords (EltTy.packing .bf16) := fun v20_r0 v22_r0 v24_r0 k0_hw1 k0_h35 => k0_hw1.2.2.1.2.2.2.2.2.1 k0_h35 (k0_off42_inb v20_r0 v22_r0 v24_r0 k0_hw1 k0_h35)
theorem k0_off43_inb : ∀ (v20_r0 : BitVec 32) (v22_r0 : BitVec 32) (v24_r0 : BitVec 32) (k0_hw1 : k0_chk1 v20_r0 v22_r0 v24_r0), ∀ (k0_h36 : k0_cond36 v24_r0 = 1#1), ∀ a, (k0_off43 v20_r0 v22_r0) a + S64x8x128.size a ≤ S2048x8x128.size a := fun v20_r0 v22_r0 v24_r0 k0_hw1 k0_h36 => k0_hw1.2.2.1.2.2.2.2.2.2.1 k0_h36
theorem k0_off43_wordsbf16 : ∀ (v20_r0 : BitVec 32) (v22_r0 : BitVec 32) (v24_r0 : BitVec 32) (k0_hw1 : k0_chk1 v20_r0 v22_r0 v24_r0), ∀ (k0_h36 : k0_cond36 v24_r0 = 1#1), (Rect.unit (s := S2048x8x128) (k0_off43 v20_r0 v22_r0) S64x8x128.size (k0_off43_inb v20_r0 v22_r0 v24_r0 k0_hw1 k0_h36)).WholeWords (EltTy.packing .bf16) := fun v20_r0 v22_r0 v24_r0 k0_hw1 k0_h36 => k0_hw1.2.2.1.2.2.2.2.2.2.2.1 k0_h36 (k0_off43_inb v20_r0 v22_r0 v24_r0 k0_hw1 k0_h36)
theorem k0_off44_inb : ∀ (v20_r0 : BitVec 32) (v22_r0 : BitVec 32) (v24_r0 : BitVec 32) (k0_hw1 : k0_chk1 v20_r0 v22_r0 v24_r0), ∀ (k0_h37 : k0_cond37 v24_r0 = 1#1), ∀ a, (k0_off44 v20_r0 v22_r0) a + S64x8x128.size a ≤ S2048x8x128.size a := fun v20_r0 v22_r0 v24_r0 k0_hw1 k0_h37 => k0_hw1.2.2.1.2.2.2.2.2.2.2.2.1 k0_h37
theorem k0_off44_wordsbf16 : ∀ (v20_r0 : BitVec 32) (v22_r0 : BitVec 32) (v24_r0 : BitVec 32) (k0_hw1 : k0_chk1 v20_r0 v22_r0 v24_r0), ∀ (k0_h37 : k0_cond37 v24_r0 = 1#1), (Rect.unit (s := S2048x8x128) (k0_off44 v20_r0 v22_r0) S64x8x128.size (k0_off44_inb v20_r0 v22_r0 v24_r0 k0_hw1 k0_h37)).WholeWords (EltTy.packing .bf16) := fun v20_r0 v22_r0 v24_r0 k0_hw1 k0_h37 => k0_hw1.2.2.1.2.2.2.2.2.2.2.2.2.1 k0_h37 (k0_off44_inb v20_r0 v22_r0 v24_r0 k0_hw1 k0_h37)
theorem k0_off45_inb : ∀ (v20_r0 : BitVec 32) (v22_r0 : BitVec 32) (v24_r0 : BitVec 32) (k0_hw1 : k0_chk1 v20_r0 v22_r0 v24_r0), ∀ (k0_h38 : k0_cond38 v24_r0 = 1#1), ∀ a, (k0_off45 v20_r0 v22_r0) a + S64x8x128.size a ≤ S2048x8x128.size a := fun v20_r0 v22_r0 v24_r0 k0_hw1 k0_h38 => k0_hw1.2.2.1.2.2.2.2.2.2.2.2.2.2.1 k0_h38
theorem k0_off45_wordsbf16 : ∀ (v20_r0 : BitVec 32) (v22_r0 : BitVec 32) (v24_r0 : BitVec 32) (k0_hw1 : k0_chk1 v20_r0 v22_r0 v24_r0), ∀ (k0_h38 : k0_cond38 v24_r0 = 1#1), (Rect.unit (s := S2048x8x128) (k0_off45 v20_r0 v22_r0) S64x8x128.size (k0_off45_inb v20_r0 v22_r0 v24_r0 k0_hw1 k0_h38)).WholeWords (EltTy.packing .bf16) := fun v20_r0 v22_r0 v24_r0 k0_hw1 k0_h38 => k0_hw1.2.2.1.2.2.2.2.2.2.2.2.2.2.2.1 k0_h38 (k0_off45_inb v20_r0 v22_r0 v24_r0 k0_hw1 k0_h38)
theorem k0_off46_inb : ∀ (v20_r0 : BitVec 32) (v22_r0 : BitVec 32) (v24_r0 : BitVec 32) (k0_hw1 : k0_chk1 v20_r0 v22_r0 v24_r0), ∀ (k0_h39 : k0_cond39 v24_r0 = 1#1), ∀ a, (k0_off46 v20_r0 v22_r0) a + S64x8x128.size a ≤ S2048x8x128.size a := fun v20_r0 v22_r0 v24_r0 k0_hw1 k0_h39 => k0_hw1.2.2.1.2.2.2.2.2.2.2.2.2.2.2.2.1 k0_h39
theorem k0_off46_wordsbf16 : ∀ (v20_r0 : BitVec 32) (v22_r0 : BitVec 32) (v24_r0 : BitVec 32) (k0_hw1 : k0_chk1 v20_r0 v22_r0 v24_r0), ∀ (k0_h39 : k0_cond39 v24_r0 = 1#1), (Rect.unit (s := S2048x8x128) (k0_off46 v20_r0 v22_r0) S64x8x128.size (k0_off46_inb v20_r0 v22_r0 v24_r0 k0_hw1 k0_h39)).WholeWords (EltTy.packing .bf16) := fun v20_r0 v22_r0 v24_r0 k0_hw1 k0_h39 => k0_hw1.2.2.1.2.2.2.2.2.2.2.2.2.2.2.2.2.1 k0_h39 (k0_off46_inb v20_r0 v22_r0 v24_r0 k0_hw1 k0_h39)
theorem k0_off47_inb : ∀ (v20_r0 : BitVec 32) (v22_r0 : BitVec 32) (v24_r0 : BitVec 32) (k0_hw1 : k0_chk1 v20_r0 v22_r0 v24_r0), ∀ (k0_h40 : k0_cond40 v24_r0 = 1#1), ∀ a, (k0_off47 v20_r0 v22_r0) a + S64x8x128.size a ≤ S2048x8x128.size a := fun v20_r0 v22_r0 v24_r0 k0_hw1 k0_h40 => k0_hw1.2.2.1.2.2.2.2.2.2.2.2.2.2.2.2.2.2.1 k0_h40
theorem k0_off47_wordsbf16 : ∀ (v20_r0 : BitVec 32) (v22_r0 : BitVec 32) (v24_r0 : BitVec 32) (k0_hw1 : k0_chk1 v20_r0 v22_r0 v24_r0), ∀ (k0_h40 : k0_cond40 v24_r0 = 1#1), (Rect.unit (s := S2048x8x128) (k0_off47 v20_r0 v22_r0) S64x8x128.size (k0_off47_inb v20_r0 v22_r0 v24_r0 k0_hw1 k0_h40)).WholeWords (EltTy.packing .bf16) := fun v20_r0 v22_r0 v24_r0 k0_hw1 k0_h40 => k0_hw1.2.2.1.2.2.2.2.2.2.2.2.2.2.2.2.2.2.2.1 k0_h40 (k0_off47_inb v20_r0 v22_r0 v24_r0 k0_hw1 k0_h40)
theorem k0_off48_inb : ∀ (v20_r0 : BitVec 32) (v22_r0 : BitVec 32) (v24_r0 : BitVec 32) (k0_hw1 : k0_chk1 v20_r0 v22_r0 v24_r0), ∀ (k0_h41 : k0_cond41 v24_r0 = 1#1), ∀ a, (k0_off48 v20_r0 v22_r0) a + S64x8x128.size a ≤ S2048x8x128.size a := fun v20_r0 v22_r0 v24_r0 k0_hw1 k0_h41 => k0_hw1.2.2.1.2.2.2.2.2.2.2.2.2.2.2.2.2.2.2.2.1 k0_h41
theorem k0_off48_wordsbf16 : ∀ (v20_r0 : BitVec 32) (v22_r0 : BitVec 32) (v24_r0 : BitVec 32) (k0_hw1 : k0_chk1 v20_r0 v22_r0 v24_r0), ∀ (k0_h41 : k0_cond41 v24_r0 = 1#1), (Rect.unit (s := S2048x8x128) (k0_off48 v20_r0 v22_r0) S64x8x128.size (k0_off48_inb v20_r0 v22_r0 v24_r0 k0_hw1 k0_h41)).WholeWords (EltTy.packing .bf16) := fun v20_r0 v22_r0 v24_r0 k0_hw1 k0_h41 => k0_hw1.2.2.1.2.2.2.2.2.2.2.2.2.2.2.2.2.2.2.2.2.1 k0_h41 (k0_off48_inb v20_r0 v22_r0 v24_r0 k0_hw1 k0_h41)
theorem k0_off49_inb : ∀ (v20_r0 : BitVec 32) (v22_r0 : BitVec 32) (v24_r0 : BitVec 32) (k0_hw1 : k0_chk1 v20_r0 v22_r0 v24_r0), ∀ (k0_h42 : k0_cond42 v24_r0 = 1#1), ∀ a, (k0_off49 v20_r0 v22_r0) a + S64x8x128.size a ≤ S2048x8x128.size a := fun v20_r0 v22_r0 v24_r0 k0_hw1 k0_h42 => k0_hw1.2.2.1.2.2.2.2.2.2.2.2.2.2.2.2.2.2.2.2.2.2.1 k0_h42
theorem k0_off49_wordsbf16 : ∀ (v20_r0 : BitVec 32) (v22_r0 : BitVec 32) (v24_r0 : BitVec 32) (k0_hw1 : k0_chk1 v20_r0 v22_r0 v24_r0), ∀ (k0_h42 : k0_cond42 v24_r0 = 1#1), (Rect.unit (s := S2048x8x128) (k0_off49 v20_r0 v22_r0) S64x8x128.size (k0_off49_inb v20_r0 v22_r0 v24_r0 k0_hw1 k0_h42)).WholeWords (EltTy.packing .bf16) := fun v20_r0 v22_r0 v24_r0 k0_hw1 k0_h42 => k0_hw1.2.2.1.2.2.2.2.2.2.2.2.2.2.2.2.2.2.2.2.2.2.2.1 k0_h42 (k0_off49_inb v20_r0 v22_r0 v24_r0 k0_hw1 k0_h42)
theorem k0_off50_inb : ∀ (v20_r0 : BitVec 32) (v22_r0 : BitVec 32) (v24_r0 : BitVec 32) (k0_hw1 : k0_chk1 v20_r0 v22_r0 v24_r0), ∀ (k0_h43 : k0_cond43 v24_r0 = 1#1), ∀ a, (k0_off50 v20_r0 v22_r0) a + S64x8x128.size a ≤ S2048x8x128.size a := fun v20_r0 v22_r0 v24_r0 k0_hw1 k0_h43 => k0_hw1.2.2.1.2.2.2.2.2.2.2.2.2.2.2.2.2.2.2.2.2.2.2.2.1 k0_h43
theorem k0_off50_wordsbf16 : ∀ (v20_r0 : BitVec 32) (v22_r0 : BitVec 32) (v24_r0 : BitVec 32) (k0_hw1 : k0_chk1 v20_r0 v22_r0 v24_r0), ∀ (k0_h43 : k0_cond43 v24_r0 = 1#1), (Rect.unit (s := S2048x8x128) (k0_off50 v20_r0 v22_r0) S64x8x128.size (k0_off50_inb v20_r0 v22_r0 v24_r0 k0_hw1 k0_h43)).WholeWords (EltTy.packing .bf16) := fun v20_r0 v22_r0 v24_r0 k0_hw1 k0_h43 => k0_hw1.2.2.1.2.2.2.2.2.2.2.2.2.2.2.2.2.2.2.2.2.2.2.2.2.1 k0_h43 (k0_off50_inb v20_r0 v22_r0 v24_r0 k0_hw1 k0_h43)
theorem k0_off51_inb : ∀ (v20_r0 : BitVec 32) (v22_r0 : BitVec 32) (v24_r0 : BitVec 32) (k0_hw1 : k0_chk1 v20_r0 v22_r0 v24_r0), ∀ (k0_h44 : k0_cond44 v24_r0 = 1#1), ∀ a, (k0_off51 v20_r0 v22_r0) a + S64x8x128.size a ≤ S2048x8x128.size a := fun v20_r0 v22_r0 v24_r0 k0_hw1 k0_h44 => k0_hw1.2.2.1.2.2.2.2.2.2.2.2.2.2.2.2.2.2.2.2.2.2.2.2.2.2.1 k0_h44
theorem k0_off51_wordsbf16 : ∀ (v20_r0 : BitVec 32) (v22_r0 : BitVec 32) (v24_r0 : BitVec 32) (k0_hw1 : k0_chk1 v20_r0 v22_r0 v24_r0), ∀ (k0_h44 : k0_cond44 v24_r0 = 1#1), (Rect.unit (s := S2048x8x128) (k0_off51 v20_r0 v22_r0) S64x8x128.size (k0_off51_inb v20_r0 v22_r0 v24_r0 k0_hw1 k0_h44)).WholeWords (EltTy.packing .bf16) := fun v20_r0 v22_r0 v24_r0 k0_hw1 k0_h44 => k0_hw1.2.2.1.2.2.2.2.2.2.2.2.2.2.2.2.2.2.2.2.2.2.2.2.2.2.2.1 k0_h44 (k0_off51_inb v20_r0 v22_r0 v24_r0 k0_hw1 k0_h44)
theorem k0_off52_inb : ∀ (v20_r0 : BitVec 32) (v22_r0 : BitVec 32) (v24_r0 : BitVec 32) (k0_hw1 : k0_chk1 v20_r0 v22_r0 v24_r0), ∀ (k0_h45 : k0_cond45 v24_r0 = 1#1), ∀ a, (k0_off52 v20_r0 v22_r0) a + S64x8x128.size a ≤ S2048x8x128.size a := fun v20_r0 v22_r0 v24_r0 k0_hw1 k0_h45 => k0_hw1.2.2.1.2.2.2.2.2.2.2.2.2.2.2.2.2.2.2.2.2.2.2.2.2.2.2.2.1 k0_h45
theorem k0_off52_wordsbf16 : ∀ (v20_r0 : BitVec 32) (v22_r0 : BitVec 32) (v24_r0 : BitVec 32) (k0_hw1 : k0_chk1 v20_r0 v22_r0 v24_r0), ∀ (k0_h45 : k0_cond45 v24_r0 = 1#1), (Rect.unit (s := S2048x8x128) (k0_off52 v20_r0 v22_r0) S64x8x128.size (k0_off52_inb v20_r0 v22_r0 v24_r0 k0_hw1 k0_h45)).WholeWords (EltTy.packing .bf16) := fun v20_r0 v22_r0 v24_r0 k0_hw1 k0_h45 => k0_hw1.2.2.1.2.2.2.2.2.2.2.2.2.2.2.2.2.2.2.2.2.2.2.2.2.2.2.2.2.1 k0_h45 (k0_off52_inb v20_r0 v22_r0 v24_r0 k0_hw1 k0_h45)
theorem k0_off53_inb : ∀ (v20_r0 : BitVec 32) (v22_r0 : BitVec 32) (v24_r0 : BitVec 32) (k0_hw1 : k0_chk1 v20_r0 v22_r0 v24_r0), ∀ (k0_h46 : k0_cond46 v24_r0 = 1#1), ∀ a, (k0_off53 v20_r0 v22_r0) a + S64x8x128.size a ≤ S2048x8x128.size a := fun v20_r0 v22_r0 v24_r0 k0_hw1 k0_h46 => k0_hw1.2.2.1.2.2.2.2.2.2.2.2.2.2.2.2.2.2.2.2.2.2.2.2.2.2.2.2.2.2.1 k0_h46
theorem k0_off53_wordsbf16 : ∀ (v20_r0 : BitVec 32) (v22_r0 : BitVec 32) (v24_r0 : BitVec 32) (k0_hw1 : k0_chk1 v20_r0 v22_r0 v24_r0), ∀ (k0_h46 : k0_cond46 v24_r0 = 1#1), (Rect.unit (s := S2048x8x128) (k0_off53 v20_r0 v22_r0) S64x8x128.size (k0_off53_inb v20_r0 v22_r0 v24_r0 k0_hw1 k0_h46)).WholeWords (EltTy.packing .bf16) := fun v20_r0 v22_r0 v24_r0 k0_hw1 k0_h46 => k0_hw1.2.2.1.2.2.2.2.2.2.2.2.2.2.2.2.2.2.2.2.2.2.2.2.2.2.2.2.2.2.2.1 k0_h46 (k0_off53_inb v20_r0 v22_r0 v24_r0 k0_hw1 k0_h46)
theorem k0_off54_inb : ∀ (v20_r0 : BitVec 32) (v22_r0 : BitVec 32) (v24_r0 : BitVec 32) (k0_hw1 : k0_chk1 v20_r0 v22_r0 v24_r0), ∀ (k0_h47 : k0_cond47 v24_r0 = 1#1), ∀ a, (k0_off54 v20_r0 v22_r0) a + S64x8x128.size a ≤ S2048x8x128.size a := fun v20_r0 v22_r0 v24_r0 k0_hw1 k0_h47 => k0_hw1.2.2.1.2.2.2.2.2.2.2.2.2.2.2.2.2.2.2.2.2.2.2.2.2.2.2.2.2.2.2.2.1 k0_h47
theorem k0_off54_wordsbf16 : ∀ (v20_r0 : BitVec 32) (v22_r0 : BitVec 32) (v24_r0 : BitVec 32) (k0_hw1 : k0_chk1 v20_r0 v22_r0 v24_r0), ∀ (k0_h47 : k0_cond47 v24_r0 = 1#1), (Rect.unit (s := S2048x8x128) (k0_off54 v20_r0 v22_r0) S64x8x128.size (k0_off54_inb v20_r0 v22_r0 v24_r0 k0_hw1 k0_h47)).WholeWords (EltTy.packing .bf16) := fun v20_r0 v22_r0 v24_r0 k0_hw1 k0_h47 => k0_hw1.2.2.1.2.2.2.2.2.2.2.2.2.2.2.2.2.2.2.2.2.2.2.2.2.2.2.2.2.2.2.2.2.1 k0_h47 (k0_off54_inb v20_r0 v22_r0 v24_r0 k0_hw1 k0_h47)
theorem k0_off55_inb : ∀ (v20_r0 : BitVec 32) (v22_r0 : BitVec 32) (v24_r0 : BitVec 32) (k0_hw1 : k0_chk1 v20_r0 v22_r0 v24_r0), ∀ (k0_h48 : k0_cond48 v24_r0 = 1#1), ∀ a, (k0_off55 v20_r0 v22_r0) a + S64x8x128.size a ≤ S2048x8x128.size a := fun v20_r0 v22_r0 v24_r0 k0_hw1 k0_h48 => k0_hw1.2.2.1.2.2.2.2.2.2.2.2.2.2.2.2.2.2.2.2.2.2.2.2.2.2.2.2.2.2.2.2.2.2.1 k0_h48
theorem k0_off55_wordsbf16 : ∀ (v20_r0 : BitVec 32) (v22_r0 : BitVec 32) (v24_r0 : BitVec 32) (k0_hw1 : k0_chk1 v20_r0 v22_r0 v24_r0), ∀ (k0_h48 : k0_cond48 v24_r0 = 1#1), (Rect.unit (s := S2048x8x128) (k0_off55 v20_r0 v22_r0) S64x8x128.size (k0_off55_inb v20_r0 v22_r0 v24_r0 k0_hw1 k0_h48)).WholeWords (EltTy.packing .bf16) := fun v20_r0 v22_r0 v24_r0 k0_hw1 k0_h48 => k0_hw1.2.2.1.2.2.2.2.2.2.2.2.2.2.2.2.2.2.2.2.2.2.2.2.2.2.2.2.2.2.2.2.2.2.2 k0_h48 (k0_off55_inb v20_r0 v22_r0 v24_r0 k0_hw1 k0_h48)
theorem k0_off56_inb : ∀ (v20_r0 : BitVec 32) (v22_r0 : BitVec 32) (v24_r0 : BitVec 32) (k0_hw1 : k0_chk1 v20_r0 v22_r0 v24_r0), ∀ (k0_h49 : k0_cond49 v24_r0 = 1#1), ∀ a, (k0_off56 v20_r0 v22_r0) a + S64x8x128.size a ≤ S2048x8x128.size a := fun v20_r0 v22_r0 v24_r0 k0_hw1 k0_h49 => k0_hw1.2.2.2.1 k0_h49
theorem k0_off56_wordsbf16 : ∀ (v20_r0 : BitVec 32) (v22_r0 : BitVec 32) (v24_r0 : BitVec 32) (k0_hw1 : k0_chk1 v20_r0 v22_r0 v24_r0), ∀ (k0_h49 : k0_cond49 v24_r0 = 1#1), (Rect.unit (s := S2048x8x128) (k0_off56 v20_r0 v22_r0) S64x8x128.size (k0_off56_inb v20_r0 v22_r0 v24_r0 k0_hw1 k0_h49)).WholeWords (EltTy.packing .bf16) := fun v20_r0 v22_r0 v24_r0 k0_hw1 k0_h49 => k0_hw1.2.2.2.2.1 k0_h49 (k0_off56_inb v20_r0 v22_r0 v24_r0 k0_hw1 k0_h49)
theorem k0_off57_inb : ∀ (v20_r0 : BitVec 32) (v22_r0 : BitVec 32) (v24_r0 : BitVec 32) (k0_hw1 : k0_chk1 v20_r0 v22_r0 v24_r0), ∀ (k0_h50 : k0_cond50 v24_r0 = 1#1), ∀ a, (k0_off57 v20_r0 v22_r0) a + S64x8x128.size a ≤ S2048x8x128.size a := fun v20_r0 v22_r0 v24_r0 k0_hw1 k0_h50 => k0_hw1.2.2.2.2.2.1 k0_h50
theorem k0_off57_wordsbf16 : ∀ (v20_r0 : BitVec 32) (v22_r0 : BitVec 32) (v24_r0 : BitVec 32) (k0_hw1 : k0_chk1 v20_r0 v22_r0 v24_r0), ∀ (k0_h50 : k0_cond50 v24_r0 = 1#1), (Rect.unit (s := S2048x8x128) (k0_off57 v20_r0 v22_r0) S64x8x128.size (k0_off57_inb v20_r0 v22_r0 v24_r0 k0_hw1 k0_h50)).WholeWords (EltTy.packing .bf16) := fun v20_r0 v22_r0 v24_r0 k0_hw1 k0_h50 => k0_hw1.2.2.2.2.2.2.1 k0_h50 (k0_off57_inb v20_r0 v22_r0 v24_r0 k0_hw1 k0_h50)
theorem k0_off58_inb : ∀ (v20_r0 : BitVec 32) (v22_r0 : BitVec 32) (v24_r0 : BitVec 32) (k0_hw1 : k0_chk1 v20_r0 v22_r0 v24_r0), ∀ (k0_h51 : k0_cond51 v24_r0 = 1#1), ∀ a, (k0_off58 v20_r0 v22_r0) a + S64x8x128.size a ≤ S2048x8x128.size a := fun v20_r0 v22_r0 v24_r0 k0_hw1 k0_h51 => k0_hw1.2.2.2.2.2.2.2.1 k0_h51
theorem k0_off58_wordsbf16 : ∀ (v20_r0 : BitVec 32) (v22_r0 : BitVec 32) (v24_r0 : BitVec 32) (k0_hw1 : k0_chk1 v20_r0 v22_r0 v24_r0), ∀ (k0_h51 : k0_cond51 v24_r0 = 1#1), (Rect.unit (s := S2048x8x128) (k0_off58 v20_r0 v22_r0) S64x8x128.size (k0_off58_inb v20_r0 v22_r0 v24_r0 k0_hw1 k0_h51)).WholeWords (EltTy.packing .bf16) := fun v20_r0 v22_r0 v24_r0 k0_hw1 k0_h51 => k0_hw1.2.2.2.2.2.2.2.2.1 k0_h51 (k0_off58_inb v20_r0 v22_r0 v24_r0 k0_hw1 k0_h51)
theorem k0_off59_inb : ∀ (v20_r0 : BitVec 32) (v22_r0 : BitVec 32) (v24_r0 : BitVec 32) (k0_hw1 : k0_chk1 v20_r0 v22_r0 v24_r0), ∀ (k0_h52 : k0_cond52 v24_r0 = 1#1), ∀ a, (k0_off59 v20_r0 v22_r0) a + S64x8x128.size a ≤ S2048x8x128.size a := fun v20_r0 v22_r0 v24_r0 k0_hw1 k0_h52 => k0_hw1.2.2.2.2.2.2.2.2.2.1 k0_h52
theorem k0_off59_wordsbf16 : ∀ (v20_r0 : BitVec 32) (v22_r0 : BitVec 32) (v24_r0 : BitVec 32) (k0_hw1 : k0_chk1 v20_r0 v22_r0 v24_r0), ∀ (k0_h52 : k0_cond52 v24_r0 = 1#1), (Rect.unit (s := S2048x8x128) (k0_off59 v20_r0 v22_r0) S64x8x128.size (k0_off59_inb v20_r0 v22_r0 v24_r0 k0_hw1 k0_h52)).WholeWords (EltTy.packing .bf16) := fun v20_r0 v22_r0 v24_r0 k0_hw1 k0_h52 => k0_hw1.2.2.2.2.2.2.2.2.2.2.1 k0_h52 (k0_off59_inb v20_r0 v22_r0 v24_r0 k0_hw1 k0_h52)
theorem k0_off60_inb : ∀ (v20_r0 : BitVec 32) (v22_r0 : BitVec 32) (v24_r0 : BitVec 32) (k0_hw1 : k0_chk1 v20_r0 v22_r0 v24_r0), ∀ (k0_h53 : k0_cond53 v24_r0 = 1#1), ∀ a, (k0_off60 v20_r0 v22_r0) a + S64x8x128.size a ≤ S2048x8x128.size a := fun v20_r0 v22_r0 v24_r0 k0_hw1 k0_h53 => k0_hw1.2.2.2.2.2.2.2.2.2.2.2.1 k0_h53
theorem k0_off60_wordsbf16 : ∀ (v20_r0 : BitVec 32) (v22_r0 : BitVec 32) (v24_r0 : BitVec 32) (k0_hw1 : k0_chk1 v20_r0 v22_r0 v24_r0), ∀ (k0_h53 : k0_cond53 v24_r0 = 1#1), (Rect.unit (s := S2048x8x128) (k0_off60 v20_r0 v22_r0) S64x8x128.size (k0_off60_inb v20_r0 v22_r0 v24_r0 k0_hw1 k0_h53)).WholeWords (EltTy.packing .bf16) := fun v20_r0 v22_r0 v24_r0 k0_hw1 k0_h53 => k0_hw1.2.2.2.2.2.2.2.2.2.2.2.2.1 k0_h53 (k0_off60_inb v20_r0 v22_r0 v24_r0 k0_hw1 k0_h53)
theorem k0_off61_inb : ∀ (v20_r0 : BitVec 32) (v22_r0 : BitVec 32) (v24_r0 : BitVec 32) (k0_hw1 : k0_chk1 v20_r0 v22_r0 v24_r0), ∀ (k0_h54 : k0_cond54 v24_r0 = 1#1), ∀ a, (k0_off61 v20_r0 v22_r0) a + S64x8x128.size a ≤ S2048x8x128.size a := fun v20_r0 v22_r0 v24_r0 k0_hw1 k0_h54 => k0_hw1.2.2.2.2.2.2.2.2.2.2.2.2.2.1 k0_h54
theorem k0_off61_wordsbf16 : ∀ (v20_r0 : BitVec 32) (v22_r0 : BitVec 32) (v24_r0 : BitVec 32) (k0_hw1 : k0_chk1 v20_r0 v22_r0 v24_r0), ∀ (k0_h54 : k0_cond54 v24_r0 = 1#1), (Rect.unit (s := S2048x8x128) (k0_off61 v20_r0 v22_r0) S64x8x128.size (k0_off61_inb v20_r0 v22_r0 v24_r0 k0_hw1 k0_h54)).WholeWords (EltTy.packing .bf16) := fun v20_r0 v22_r0 v24_r0 k0_hw1 k0_h54 => k0_hw1.2.2.2.2.2.2.2.2.2.2.2.2.2.2.1 k0_h54 (k0_off61_inb v20_r0 v22_r0 v24_r0 k0_hw1 k0_h54)
theorem k0_off62_inb : ∀ (v20_r0 : BitVec 32) (v22_r0 : BitVec 32) (v24_r0 : BitVec 32) (k0_hw1 : k0_chk1 v20_r0 v22_r0 v24_r0), ∀ (k0_h55 : k0_cond55 v24_r0 = 1#1), ∀ a, (k0_off62 v20_r0 v22_r0) a + S64x8x128.size a ≤ S2048x8x128.size a := fun v20_r0 v22_r0 v24_r0 k0_hw1 k0_h55 => k0_hw1.2.2.2.2.2.2.2.2.2.2.2.2.2.2.2.1 k0_h55
theorem k0_off62_wordsbf16 : ∀ (v20_r0 : BitVec 32) (v22_r0 : BitVec 32) (v24_r0 : BitVec 32) (k0_hw1 : k0_chk1 v20_r0 v22_r0 v24_r0), ∀ (k0_h55 : k0_cond55 v24_r0 = 1#1), (Rect.unit (s := S2048x8x128) (k0_off62 v20_r0 v22_r0) S64x8x128.size (k0_off62_inb v20_r0 v22_r0 v24_r0 k0_hw1 k0_h55)).WholeWords (EltTy.packing .bf16) := fun v20_r0 v22_r0 v24_r0 k0_hw1 k0_h55 => k0_hw1.2.2.2.2.2.2.2.2.2.2.2.2.2.2.2.2.1 k0_h55 (k0_off62_inb v20_r0 v22_r0 v24_r0 k0_hw1 k0_h55)
theorem k0_off63_inb : ∀ (v20_r0 : BitVec 32) (v22_r0 : BitVec 32) (v24_r0 : BitVec 32) (k0_hw1 : k0_chk1 v20_r0 v22_r0 v24_r0), ∀ (k0_h56 : k0_cond56 v24_r0 = 1#1), ∀ a, (k0_off63 v20_r0 v22_r0) a + S64x8x128.size a ≤ S2048x8x128.size a := fun v20_r0 v22_r0 v24_r0 k0_hw1 k0_h56 => k0_hw1.2.2.2.2.2.2.2.2.2.2.2.2.2.2.2.2.2.1 k0_h56
theorem k0_off63_wordsbf16 : ∀ (v20_r0 : BitVec 32) (v22_r0 : BitVec 32) (v24_r0 : BitVec 32) (k0_hw1 : k0_chk1 v20_r0 v22_r0 v24_r0), ∀ (k0_h56 : k0_cond56 v24_r0 = 1#1), (Rect.unit (s := S2048x8x128) (k0_off63 v20_r0 v22_r0) S64x8x128.size (k0_off63_inb v20_r0 v22_r0 v24_r0 k0_hw1 k0_h56)).WholeWords (EltTy.packing .bf16) := fun v20_r0 v22_r0 v24_r0 k0_hw1 k0_h56 => k0_hw1.2.2.2.2.2.2.2.2.2.2.2.2.2.2.2.2.2.2.1 k0_h56 (k0_off63_inb v20_r0 v22_r0 v24_r0 k0_hw1 k0_h56)
theorem k0_off64_inb : ∀ (v20_r0 : BitVec 32) (v22_r0 : BitVec 32) (v24_r0 : BitVec 32) (k0_hw1 : k0_chk1 v20_r0 v22_r0 v24_r0), ∀ (k0_h57 : k0_cond57 v24_r0 = 1#1), ∀ a, (k0_off64 v20_r0 v22_r0) a + S64x8x128.size a ≤ S2048x8x128.size a := fun v20_r0 v22_r0 v24_r0 k0_hw1 k0_h57 => k0_hw1.2.2.2.2.2.2.2.2.2.2.2.2.2.2.2.2.2.2.2.1 k0_h57
theorem k0_off64_wordsbf16 : ∀ (v20_r0 : BitVec 32) (v22_r0 : BitVec 32) (v24_r0 : BitVec 32) (k0_hw1 : k0_chk1 v20_r0 v22_r0 v24_r0), ∀ (k0_h57 : k0_cond57 v24_r0 = 1#1), (Rect.unit (s := S2048x8x128) (k0_off64 v20_r0 v22_r0) S64x8x128.size (k0_off64_inb v20_r0 v22_r0 v24_r0 k0_hw1 k0_h57)).WholeWords (EltTy.packing .bf16) := fun v20_r0 v22_r0 v24_r0 k0_hw1 k0_h57 => k0_hw1.2.2.2.2.2.2.2.2.2.2.2.2.2.2.2.2.2.2.2.2.1 k0_h57 (k0_off64_inb v20_r0 v22_r0 v24_r0 k0_hw1 k0_h57)
theorem k0_off65_inb : ∀ (v20_r0 : BitVec 32) (v22_r0 : BitVec 32) (v24_r0 : BitVec 32) (k0_hw1 : k0_chk1 v20_r0 v22_r0 v24_r0), ∀ (k0_h58 : k0_cond58 v24_r0 = 1#1), ∀ a, (k0_off65 v20_r0 v22_r0) a + S64x8x128.size a ≤ S2048x8x128.size a := fun v20_r0 v22_r0 v24_r0 k0_hw1 k0_h58 => k0_hw1.2.2.2.2.2.2.2.2.2.2.2.2.2.2.2.2.2.2.2.2.2.1 k0_h58
theorem k0_off65_wordsbf16 : ∀ (v20_r0 : BitVec 32) (v22_r0 : BitVec 32) (v24_r0 : BitVec 32) (k0_hw1 : k0_chk1 v20_r0 v22_r0 v24_r0), ∀ (k0_h58 : k0_cond58 v24_r0 = 1#1), (Rect.unit (s := S2048x8x128) (k0_off65 v20_r0 v22_r0) S64x8x128.size (k0_off65_inb v20_r0 v22_r0 v24_r0 k0_hw1 k0_h58)).WholeWords (EltTy.packing .bf16) := fun v20_r0 v22_r0 v24_r0 k0_hw1 k0_h58 => k0_hw1.2.2.2.2.2.2.2.2.2.2.2.2.2.2.2.2.2.2.2.2.2.2.1 k0_h58 (k0_off65_inb v20_r0 v22_r0 v24_r0 k0_hw1 k0_h58)
theorem k0_off66_inb : ∀ (v20_r0 : BitVec 32) (v22_r0 : BitVec 32) (v24_r0 : BitVec 32) (k0_hw1 : k0_chk1 v20_r0 v22_r0 v24_r0), ∀ (k0_h59 : k0_cond59 v24_r0 = 1#1), ∀ a, (k0_off66 v20_r0 v22_r0) a + S64x8x128.size a ≤ S2048x8x128.size a := fun v20_r0 v22_r0 v24_r0 k0_hw1 k0_h59 => k0_hw1.2.2.2.2.2.2.2.2.2.2.2.2.2.2.2.2.2.2.2.2.2.2.2.1 k0_h59
theorem k0_off66_wordsbf16 : ∀ (v20_r0 : BitVec 32) (v22_r0 : BitVec 32) (v24_r0 : BitVec 32) (k0_hw1 : k0_chk1 v20_r0 v22_r0 v24_r0), ∀ (k0_h59 : k0_cond59 v24_r0 = 1#1), (Rect.unit (s := S2048x8x128) (k0_off66 v20_r0 v22_r0) S64x8x128.size (k0_off66_inb v20_r0 v22_r0 v24_r0 k0_hw1 k0_h59)).WholeWords (EltTy.packing .bf16) := fun v20_r0 v22_r0 v24_r0 k0_hw1 k0_h59 => k0_hw1.2.2.2.2.2.2.2.2.2.2.2.2.2.2.2.2.2.2.2.2.2.2.2.2.1 k0_h59 (k0_off66_inb v20_r0 v22_r0 v24_r0 k0_hw1 k0_h59)
theorem k0_off67_inb : ∀ (v20_r0 : BitVec 32) (v22_r0 : BitVec 32) (v24_r0 : BitVec 32) (k0_hw1 : k0_chk1 v20_r0 v22_r0 v24_r0), ∀ (k0_h60 : k0_cond60 v24_r0 = 1#1), ∀ a, (k0_off67 v20_r0 v22_r0) a + S64x8x128.size a ≤ S2048x8x128.size a := fun v20_r0 v22_r0 v24_r0 k0_hw1 k0_h60 => k0_hw1.2.2.2.2.2.2.2.2.2.2.2.2.2.2.2.2.2.2.2.2.2.2.2.2.2.1 k0_h60
theorem k0_off67_wordsbf16 : ∀ (v20_r0 : BitVec 32) (v22_r0 : BitVec 32) (v24_r0 : BitVec 32) (k0_hw1 : k0_chk1 v20_r0 v22_r0 v24_r0), ∀ (k0_h60 : k0_cond60 v24_r0 = 1#1), (Rect.unit (s := S2048x8x128) (k0_off67 v20_r0 v22_r0) S64x8x128.size (k0_off67_inb v20_r0 v22_r0 v24_r0 k0_hw1 k0_h60)).WholeWords (EltTy.packing .bf16) := fun v20_r0 v22_r0 v24_r0 k0_hw1 k0_h60 => k0_hw1.2.2.2.2.2.2.2.2.2.2.2.2.2.2.2.2.2.2.2.2.2.2.2.2.2.2.1 k0_h60 (k0_off67_inb v20_r0 v22_r0 v24_r0 k0_hw1 k0_h60)
theorem k0_off68_inb : ∀ (v20_r0 : BitVec 32) (v22_r0 : BitVec 32) (v24_r0 : BitVec 32) (k0_hw1 : k0_chk1 v20_r0 v22_r0 v24_r0), ∀ (k0_h61 : k0_cond61 v24_r0 = 1#1), ∀ a, (k0_off68 v20_r0 v22_r0) a + S64x8x128.size a ≤ S2048x8x128.size a := fun v20_r0 v22_r0 v24_r0 k0_hw1 k0_h61 => k0_hw1.2.2.2.2.2.2.2.2.2.2.2.2.2.2.2.2.2.2.2.2.2.2.2.2.2.2.2.1 k0_h61
theorem k0_off68_wordsbf16 : ∀ (v20_r0 : BitVec 32) (v22_r0 : BitVec 32) (v24_r0 : BitVec 32) (k0_hw1 : k0_chk1 v20_r0 v22_r0 v24_r0), ∀ (k0_h61 : k0_cond61 v24_r0 = 1#1), (Rect.unit (s := S2048x8x128) (k0_off68 v20_r0 v22_r0) S64x8x128.size (k0_off68_inb v20_r0 v22_r0 v24_r0 k0_hw1 k0_h61)).WholeWords (EltTy.packing .bf16) := fun v20_r0 v22_r0 v24_r0 k0_hw1 k0_h61 => k0_hw1.2.2.2.2.2.2.2.2.2.2.2.2.2.2.2.2.2.2.2.2.2.2.2.2.2.2.2.2.1 k0_h61 (k0_off68_inb v20_r0 v22_r0 v24_r0 k0_hw1 k0_h61)
theorem k0_off69_inb : ∀ (v20_r0 : BitVec 32) (v22_r0 : BitVec 32) (v24_r0 : BitVec 32) (k0_hw1 : k0_chk1 v20_r0 v22_r0 v24_r0), ∀ (k0_h62 : k0_cond62 v24_r0 = 1#1), ∀ a, (k0_off69 v20_r0 v22_r0) a + S64x8x128.size a ≤ S2048x8x128.size a := fun v20_r0 v22_r0 v24_r0 k0_hw1 k0_h62 => k0_hw1.2.2.2.2.2.2.2.2.2.2.2.2.2.2.2.2.2.2.2.2.2.2.2.2.2.2.2.2.2.1 k0_h62
theorem k0_off69_wordsbf16 : ∀ (v20_r0 : BitVec 32) (v22_r0 : BitVec 32) (v24_r0 : BitVec 32) (k0_hw1 : k0_chk1 v20_r0 v22_r0 v24_r0), ∀ (k0_h62 : k0_cond62 v24_r0 = 1#1), (Rect.unit (s := S2048x8x128) (k0_off69 v20_r0 v22_r0) S64x8x128.size (k0_off69_inb v20_r0 v22_r0 v24_r0 k0_hw1 k0_h62)).WholeWords (EltTy.packing .bf16) := fun v20_r0 v22_r0 v24_r0 k0_hw1 k0_h62 => k0_hw1.2.2.2.2.2.2.2.2.2.2.2.2.2.2.2.2.2.2.2.2.2.2.2.2.2.2.2.2.2.2.1 k0_h62 (k0_off69_inb v20_r0 v22_r0 v24_r0 k0_hw1 k0_h62)
theorem k0_off70_inb : ∀ (v20_r0 : BitVec 32) (v22_r0 : BitVec 32) (v24_r0 : BitVec 32) (k0_hw1 : k0_chk1 v20_r0 v22_r0 v24_r0), ∀ (k0_h63 : k0_cond63 v24_r0 = 1#1), ∀ a, (k0_off70 v20_r0 v22_r0) a + S64x8x128.size a ≤ S2048x8x128.size a := fun v20_r0 v22_r0 v24_r0 k0_hw1 k0_h63 => k0_hw1.2.2.2.2.2.2.2.2.2.2.2.2.2.2.2.2.2.2.2.2.2.2.2.2.2.2.2.2.2.2.2.1 k0_h63
theorem k0_off70_wordsbf16 : ∀ (v20_r0 : BitVec 32) (v22_r0 : BitVec 32) (v24_r0 : BitVec 32) (k0_hw1 : k0_chk1 v20_r0 v22_r0 v24_r0), ∀ (k0_h63 : k0_cond63 v24_r0 = 1#1), (Rect.unit (s := S2048x8x128) (k0_off70 v20_r0 v22_r0) S64x8x128.size (k0_off70_inb v20_r0 v22_r0 v24_r0 k0_hw1 k0_h63)).WholeWords (EltTy.packing .bf16) := fun v20_r0 v22_r0 v24_r0 k0_hw1 k0_h63 => k0_hw1.2.2.2.2.2.2.2.2.2.2.2.2.2.2.2.2.2.2.2.2.2.2.2.2.2.2.2.2.2.2.2.2.1 k0_h63 (k0_off70_inb v20_r0 v22_r0 v24_r0 k0_hw1 k0_h63)
theorem k0_off71_inb : ∀ (v20_r0 : BitVec 32) (v22_r0 : BitVec 32) (v24_r0 : BitVec 32) (k0_hw1 : k0_chk1 v20_r0 v22_r0 v24_r0), ∀ (k0_h64 : k0_cond64 v24_r0 = 1#1), ∀ a, (k0_off71 v20_r0 v22_r0) a + S64x8x128.size a ≤ S2048x8x128.size a := fun v20_r0 v22_r0 v24_r0 k0_hw1 k0_h64 => k0_hw1.2.2.2.2.2.2.2.2.2.2.2.2.2.2.2.2.2.2.2.2.2.2.2.2.2.2.2.2.2.2.2.2.2.1 k0_h64
theorem k0_off71_wordsbf16 : ∀ (v20_r0 : BitVec 32) (v22_r0 : BitVec 32) (v24_r0 : BitVec 32) (k0_hw1 : k0_chk1 v20_r0 v22_r0 v24_r0), ∀ (k0_h64 : k0_cond64 v24_r0 = 1#1), (Rect.unit (s := S2048x8x128) (k0_off71 v20_r0 v22_r0) S64x8x128.size (k0_off71_inb v20_r0 v22_r0 v24_r0 k0_hw1 k0_h64)).WholeWords (EltTy.packing .bf16) := fun v20_r0 v22_r0 v24_r0 k0_hw1 k0_h64 => k0_hw1.2.2.2.2.2.2.2.2.2.2.2.2.2.2.2.2.2.2.2.2.2.2.2.2.2.2.2.2.2.2.2.2.2.2 k0_h64 (k0_off71_inb v20_r0 v22_r0 v24_r0 k0_hw1 k0_h64)

def k0_dev1 (d1_r0 : Dev nD) : Nat :=
  let c0_i32_105_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_104_r0 : BitVec 32 := 8#32
  let v217_r0 : BitVec 32 := Scalar.muli v3_r0 c8_i32_104_r0
  let v218_r0 : BitVec 32 := Scalar.addi c0_i32_105_r0 v217_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_106_r0 : BitVec 32 := 4#32
  let v219_r0 : BitVec 32 := Scalar.muli v10_r0 c4_i32_106_r0
  let v220_r0 : BitVec 32 := Scalar.addi v218_r0 v219_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_107_r0 : BitVec 32 := 1#32
  let v221_r0 : BitVec 32 := Scalar.muli v9_r0 c1_i32_107_r0
  let v222_r0 : BitVec 32 := Scalar.addi v220_r0 v221_r0
  v222_r0.toNat
def k0_off72 (v16_r0 : BitVec 32) (v18_r0 : BitVec 32) : Fin 3 → Nat :=
  let c0_i32_237_r0 : BitVec 32 := 0#32
  let c64_i32_r0 : BitVec 32 := 64#32
  let v415_r0 : BitVec 32 := Scalar.subi v18_r0 c64_i32_r0
  let v416_r0 : BitVec 32 := Scalar.minsi c0_i32_237_r0 v415_r0
  let c0_i32_238_r0 : BitVec 32 := 0#32
  let v417_r0 : BitVec 32 := Scalar.maxsi v416_r0 c0_i32_238_r0
  let v419_r0 : BitVec 32 := Scalar.addi v16_r0 v417_r0
  let c0_i32_245_r0 : BitVec 32 := 0#32
  let c0_i32_246_r0 : BitVec 32 := 0#32
  ![v419_r0.toNat, 0, 0]
def k0_cond65 (v12_r0 : BitVec 32) : BitVec 1 :=
  let c0_i32_109_r0 : BitVec 32 := 0#32
  let v223_r0 : BitVec 1 := Scalar.cmpi .sgt v12_r0 c0_i32_109_r0
  let v224_r0 : BitVec 32 := Scalar.extui v223_r0
  let c0_i32_110_r0 : BitVec 32 := 0#32
  let v225_r0 : BitVec 1 := Scalar.cmpi .ne v224_r0 c0_i32_110_r0
  v225_r0

def k0_off73 (v14_r0 : BitVec 32) (v18_r0 : BitVec 32) : Fin 3 → Nat :=
  let c0_i32_237_r0 : BitVec 32 := 0#32
  let c64_i32_r0 : BitVec 32 := 64#32
  let v415_r0 : BitVec 32 := Scalar.subi v18_r0 c64_i32_r0
  let v416_r0 : BitVec 32 := Scalar.minsi c0_i32_237_r0 v415_r0
  let c0_i32_238_r0 : BitVec 32 := 0#32
  let v417_r0 : BitVec 32 := Scalar.maxsi v416_r0 c0_i32_238_r0
  let v418_r0 : BitVec 32 := Scalar.addi v14_r0 v417_r0
  let c0_i32_247_r0 : BitVec 32 := 0#32
  let c0_i32_248_r0 : BitVec 32 := 0#32
  ![v418_r0.toNat, 0, 0]
def k0_dev2 (d1_r0 : Dev nD) : Nat :=
  let c0_i32_242_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_241_r0 : BitVec 32 := 8#32
  let v420_r0 : BitVec 32 := Scalar.muli v3_r0 c8_i32_241_r0
  let v421_r0 : BitVec 32 := Scalar.addi c0_i32_242_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_243_r0 : BitVec 32 := 4#32
  let v422_r0 : BitVec 32 := Scalar.muli v10_r0 c4_i32_243_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_244_r0 : BitVec 32 := 1#32
  let v424_r0 : BitVec 32 := Scalar.muli v9_r0 c1_i32_244_r0
  let v425_r0 : BitVec 32 := Scalar.addi v423_r0 v424_r0
  v425_r0.toNat
def k0_off74 (v16_r0 : BitVec 32) (v18_r0 : BitVec 32) : Fin 3 → Nat :=
  let c64_i32_237_r0 : BitVec 32 := 64#32
  let c64_i32_r0 : BitVec 32 := 64#32
  let v415_r0 : BitVec 32 := Scalar.subi v18_r0 c64_i32_r0
  let v416_r0 : BitVec 32 := Scalar.minsi c64_i32_237_r0 v415_r0
  let c0_i32_238_r0 : BitVec 32 := 0#32
  let v417_r0 : BitVec 32 := Scalar.maxsi v416_r0 c0_i32_238_r0
  let v419_r0 : BitVec 32 := Scalar.addi v16_r0 v417_r0
  let c0_i32_245_r0 : BitVec 32 := 0#32
  let c0_i32_246_r0 : BitVec 32 := 0#32
  ![v419_r0.toNat, 0, 0]
def k0_cond66 (v12_r0 : BitVec 32) : BitVec 1 :=
  let c1_i32_111_r0 : BitVec 32 := 1#32
  let v226_r0 : BitVec 1 := Scalar.cmpi .sgt v12_r0 c1_i32_111_r0
  let v227_r0 : BitVec 32 := Scalar.extui v226_r0
  let c0_i32_112_r0 : BitVec 32 := 0#32
  let v228_r0 : BitVec 1 := Scalar.cmpi .ne v227_r0 c0_i32_112_r0
  v228_r0

def k0_off75 (v14_r0 : BitVec 32) (v18_r0 : BitVec 32) : Fin 3 → Nat :=
  let c64_i32_237_r0 : BitVec 32 := 64#32
  let c64_i32_r0 : BitVec 32 := 64#32
  let v415_r0 : BitVec 32 := Scalar.subi v18_r0 c64_i32_r0
  let v416_r0 : BitVec 32 := Scalar.minsi c64_i32_237_r0 v415_r0
  let c0_i32_238_r0 : BitVec 32 := 0#32
  let v417_r0 : BitVec 32 := Scalar.maxsi v416_r0 c0_i32_238_r0
  let v418_r0 : BitVec 32 := Scalar.addi v14_r0 v417_r0
  let c0_i32_247_r0 : BitVec 32 := 0#32
  let c0_i32_248_r0 : BitVec 32 := 0#32
  ![v418_r0.toNat, 0, 0]
def k0_dev3 (d1_r0 : Dev nD) : Nat :=
  let c0_i32_242_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_241_r0 : BitVec 32 := 8#32
  let v420_r0 : BitVec 32 := Scalar.muli v3_r0 c8_i32_241_r0
  let v421_r0 : BitVec 32 := Scalar.addi c0_i32_242_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_243_r0 : BitVec 32 := 4#32
  let v422_r0 : BitVec 32 := Scalar.muli v10_r0 c4_i32_243_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_244_r0 : BitVec 32 := 1#32
  let v424_r0 : BitVec 32 := Scalar.muli v9_r0 c1_i32_244_r0
  let v425_r0 : BitVec 32 := Scalar.addi v423_r0 v424_r0
  v425_r0.toNat
def k0_off76 (v16_r0 : BitVec 32) (v18_r0 : BitVec 32) : Fin 3 → Nat :=
  let c128_i32_r0 : BitVec 32 := 128#32
  let c64_i32_r0 : BitVec 32 := 64#32
  let v415_r0 : BitVec 32 := Scalar.subi v18_r0 c64_i32_r0
  let v416_r0 : BitVec 32 := Scalar.minsi c128_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond67 (v12_r0 : BitVec 32) : BitVec 1 :=
  let c2_i32_113_r0 : BitVec 32 := 2#32
  let v229_r0 : BitVec 1 := Scalar.cmpi .sgt v12_r0 c2_i32_113_r0
  let v230_r0 : BitVec 32 := Scalar.extui v229_r0
  let c0_i32_114_r0 : BitVec 32 := 0#32
  let v231_r0 : BitVec 1 := Scalar.cmpi .ne v230_r0 c0_i32_114_r0
  v231_r0

def k0_off77 (v14_r0 : BitVec 32) (v18_r0 : BitVec 32) : Fin 3 → Nat :=
  let c128_i32_r0 : BitVec 32 := 128#32
  let c64_i32_r0 : BitVec 32 := 64#32
  let v415_r0 : BitVec 32 := Scalar.subi v18_r0 c64_i32_r0
  let v416_r0 : BitVec 32 := Scalar.minsi c128_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev4 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off78 (v16_r0 : BitVec 32) (v18_r0 : BitVec 32) : Fin 3 → Nat :=
  let c192_i32_r0 : BitVec 32 := 192#32
  let c64_i32_r0 : BitVec 32 := 64#32
  let v415_r0 : BitVec 32 := Scalar.subi v18_r0 c64_i32_r0
  let v416_r0 : BitVec 32 := Scalar.minsi c192_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond68 (v12_r0 : BitVec 32) : BitVec 1 :=
  let c3_i32_115_r0 : BitVec 32 := 3#32
  let v232_r0 : BitVec 1 := Scalar.cmpi .sgt v12_r0 c3_i32_115_r0
  let v233_r0 : BitVec 32 := Scalar.extui v232_r0
  let c0_i32_116_r0 : BitVec 32 := 0#32
  let v234_r0 : BitVec 1 := Scalar.cmpi .ne v233_r0 c0_i32_116_r0
  v234_r0

def k0_off79 (v14_r0 : BitVec 32) (v18_r0 : BitVec 32) : Fin 3 → Nat :=
  let c192_i32_r0 : BitVec 32 := 192#32
  let c64_i32_r0 : BitVec 32 := 64#32
  let v415_r0 : BitVec 32 := Scalar.subi v18_r0 c64_i32_r0
  let v416_r0 : BitVec 32 := Scalar.minsi c192_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev5 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off80 (v16_r0 : BitVec 32) (v18_r0 : BitVec 32) : Fin 3 → Nat :=
  let c256_i32_r0 : BitVec 32 := 256#32
  let c64_i32_r0 : BitVec 32 := 64#32
  let v415_r0 : BitVec 32 := Scalar.subi v18_r0 c64_i32_r0
  let v416_r0 : BitVec 32 := Scalar.minsi c256_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond69 (v12_r0 : BitVec 32) : BitVec 1 :=
  let c4_i32_117_r0 : BitVec 32 := 4#32
  let v235_r0 : BitVec 1 := Scalar.cmpi .sgt v12_r0 c4_i32_117_r0
  let v236_r0 : BitVec 32 := Scalar.extui v235_r0
  let c0_i32_118_r0 : BitVec 32 := 0#32
  let v237_r0 : BitVec 1 := Scalar.cmpi .ne v236_r0 c0_i32_118_r0
  v237_r0

def k0_off81 (v14_r0 : BitVec 32) (v18_r0 : BitVec 32) : Fin 3 → Nat :=
  let c256_i32_r0 : BitVec 32 := 256#32
  let c64_i32_r0 : BitVec 32 := 64#32
  let v415_r0 : BitVec 32 := Scalar.subi v18_r0 c64_i32_r0
  let v416_r0 : BitVec 32 := Scalar.minsi c256_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev6 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off82 (v16_r0 : BitVec 32) (v18_r0 : BitVec 32) : Fin 3 → Nat :=
  let c320_i32_r0 : BitVec 32 := 320#32
  let c64_i32_r0 : BitVec 32 := 64#32
  let v415_r0 : BitVec 32 := Scalar.subi v18_r0 c64_i32_r0
  let v416_r0 : BitVec 32 := Scalar.minsi c320_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond70 (v12_r0 : BitVec 32) : BitVec 1 :=
  let c5_i32_119_r0 : BitVec 32 := 5#32
  let v238_r0 : BitVec 1 := Scalar.cmpi .sgt v12_r0 c5_i32_119_r0
  let v239_r0 : BitVec 32 := Scalar.extui v238_r0
  let c0_i32_120_r0 : BitVec 32 := 0#32
  let v240_r0 : BitVec 1 := Scalar.cmpi .ne v239_r0 c0_i32_120_r0
  v240_r0

def k0_off83 (v14_r0 : BitVec 32) (v18_r0 : BitVec 32) : Fin 3 → Nat :=
  let c320_i32_r0 : BitVec 32 := 320#32
  let c64_i32_r0 : BitVec 32 := 64#32
  let v415_r0 : BitVec 32 := Scalar.subi v18_r0 c64_i32_r0
  let v416_r0 : BitVec 32 := Scalar.minsi c320_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev7 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off84 (v16_r0 : BitVec 32) (v18_r0 : BitVec 32) : Fin 3 → Nat :=
  let c384_i32_r0 : BitVec 32 := 384#32
  let c64_i32_r0 : BitVec 32 := 64#32
  let v415_r0 : BitVec 32 := Scalar.subi v18_r0 c64_i32_r0
  let v416_r0 : BitVec 32 := Scalar.minsi c384_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond71 (v12_r0 : BitVec 32) : BitVec 1 :=
  let c6_i32_121_r0 : BitVec 32 := 6#32
  let v241_r0 : BitVec 1 := Scalar.cmpi .sgt v12_r0 c6_i32_121_r0
  let v242_r0 : BitVec 32 := Scalar.extui v241_r0
  let c0_i32_122_r0 : BitVec 32 := 0#32
  let v243_r0 : BitVec 1 := Scalar.cmpi .ne v242_r0 c0_i32_122_r0
  v243_r0

def k0_off85 (v14_r0 : BitVec 32) (v18_r0 : BitVec 32) : Fin 3 → Nat :=
  let c384_i32_r0 : BitVec 32 := 384#32
  let c64_i32_r0 : BitVec 32 := 64#32
  let v415_r0 : BitVec 32 := Scalar.subi v18_r0 c64_i32_r0
  let v416_r0 : BitVec 32 := Scalar.minsi c384_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev8 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off86 (v16_r0 : BitVec 32) (v18_r0 : BitVec 32) : Fin 3 → Nat :=
  let c448_i32_r0 : BitVec 32 := 448#32
  let c64_i32_r0 : BitVec 32 := 64#32
  let v415_r0 : BitVec 32 := Scalar.subi v18_r0 c64_i32_r0
  let v416_r0 : BitVec 32 := Scalar.minsi c448_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond72 (v12_r0 : BitVec 32) : BitVec 1 :=
  let c7_i32_123_r0 : BitVec 32 := 7#32
  let v244_r0 : BitVec 1 := Scalar.cmpi .sgt v12_r0 c7_i32_123_r0
  let v245_r0 : BitVec 32 := Scalar.extui v244_r0
  let c0_i32_124_r0 : BitVec 32 := 0#32
  let v246_r0 : BitVec 1 := Scalar.cmpi .ne v245_r0 c0_i32_124_r0
  v246_r0

def k0_off87 (v14_r0 : BitVec 32) (v18_r0 : BitVec 32) : Fin 3 → Nat :=
  let c448_i32_r0 : BitVec 32 := 448#32
  let c64_i32_r0 : BitVec 32 := 64#32
  let v415_r0 : BitVec 32 := Scalar.subi v18_r0 c64_i32_r0
  let v416_r0 : BitVec 32 := Scalar.minsi c448_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev9 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off88 (v16_r0 : BitVec 32) (v18_r0 : BitVec 32) : Fin 3 → Nat :=
  let c512_i32_r0 : BitVec 32 := 512#32
  let c64_i32_r0 : BitVec 32 := 64#32
  let v415_r0 : BitVec 32 := Scalar.subi v18_r0 c64_i32_r0
  let v416_r0 : BitVec 32 := Scalar.minsi c512_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond73 (v12_r0 : BitVec 32) : BitVec 1 :=
  let c8_i32_125_r0 : BitVec 32 := 8#32
  let v247_r0 : BitVec 1 := Scalar.cmpi .sgt v12_r0 c8_i32_125_r0
  let v248_r0 : BitVec 32 := Scalar.extui v247_r0
  let c0_i32_126_r0 : BitVec 32 := 0#32
  let v249_r0 : BitVec 1 := Scalar.cmpi .ne v248_r0 c0_i32_126_r0
  v249_r0

def k0_off89 (v14_r0 : BitVec 32) (v18_r0 : BitVec 32) : Fin 3 → Nat :=
  let c512_i32_r0 : BitVec 32 := 512#32
  let c64_i32_r0 : BitVec 32 := 64#32
  let v415_r0 : BitVec 32 := Scalar.subi v18_r0 c64_i32_r0
  let v416_r0 : BitVec 32 := Scalar.minsi c512_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev10 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off90 (v16_r0 : BitVec 32) (v18_r0 : BitVec 32) : Fin 3 → Nat :=
  let c576_i32_r0 : BitVec 32 := 576#32
  let c64_i32_r0 : BitVec 32 := 64#32
  let v415_r0 : BitVec 32 := Scalar.subi v18_r0 c64_i32_r0
  let v416_r0 : BitVec 32 := Scalar.minsi c576_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond74 (v12_r0 : BitVec 32) : BitVec 1 :=
  let c9_i32_127_r0 : BitVec 32 := 9#32
  let v250_r0 : BitVec 1 := Scalar.cmpi .sgt v12_r0 c9_i32_127_r0
  let v251_r0 : BitVec 32 := Scalar.extui v250_r0
  let c0_i32_128_r0 : BitVec 32 := 0#32
  let v252_r0 : BitVec 1 := Scalar.cmpi .ne v251_r0 c0_i32_128_r0
  v252_r0

def k0_off91 (v14_r0 : BitVec 32) (v18_r0 : BitVec 32) : Fin 3 → Nat :=
  let c576_i32_r0 : BitVec 32 := 576#32
  let c64_i32_r0 : BitVec 32 := 64#32
  let v415_r0 : BitVec 32 := Scalar.subi v18_r0 c64_i32_r0
  let v416_r0 : BitVec 32 := Scalar.minsi c576_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev11 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off92 (v16_r0 : BitVec 32) (v18_r0 : BitVec 32) : Fin 3 → Nat :=
  let c640_i32_r0 : BitVec 32 := 640#32
  let c64_i32_r0 : BitVec 32 := 64#32
  let v415_r0 : BitVec 32 := Scalar.subi v18_r0 c64_i32_r0
  let v416_r0 : BitVec 32 := Scalar.minsi c640_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond75 (v12_r0 : BitVec 32) : BitVec 1 :=
  let c10_i32_129_r0 : BitVec 32 := 10#32
  let v253_r0 : BitVec 1 := Scalar.cmpi .sgt v12_r0 c10_i32_129_r0
  let v254_r0 : BitVec 32 := Scalar.extui v253_r0
  let c0_i32_130_r0 : BitVec 32 := 0#32
  let v255_r0 : BitVec 1 := Scalar.cmpi .ne v254_r0 c0_i32_130_r0
  v255_r0

def k0_off93 (v14_r0 : BitVec 32) (v18_r0 : BitVec 32) : Fin 3 → Nat :=
  let c640_i32_r0 : BitVec 32 := 640#32
  let c64_i32_r0 : BitVec 32 := 64#32
  let v415_r0 : BitVec 32 := Scalar.subi v18_r0 c64_i32_r0
  let v416_r0 : BitVec 32 := Scalar.minsi c640_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev12 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off94 (v16_r0 : BitVec 32) (v18_r0 : BitVec 32) : Fin 3 → Nat :=
  let c704_i32_r0 : BitVec 32 := 704#32
  let c64_i32_r0 : BitVec 32 := 64#32
  let v415_r0 : BitVec 32 := Scalar.subi v18_r0 c64_i32_r0
  let v416_r0 : BitVec 32 := Scalar.minsi c704_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond76 (v12_r0 : BitVec 32) : BitVec 1 :=
  let c11_i32_131_r0 : BitVec 32 := 11#32
  let v256_r0 : BitVec 1 := Scalar.cmpi .sgt v12_r0 c11_i32_131_r0
  let v257_r0 : BitVec 32 := Scalar.extui v256_r0
  let c0_i32_132_r0 : BitVec 32 := 0#32
  let v258_r0 : BitVec 1 := Scalar.cmpi .ne v257_r0 c0_i32_132_r0
  v258_r0

def k0_off95 (v14_r0 : BitVec 32) (v18_r0 : BitVec 32) : Fin 3 → Nat :=
  let c704_i32_r0 : BitVec 32 := 704#32
  let c64_i32_r0 : BitVec 32 := 64#32
  let v415_r0 : BitVec 32 := Scalar.subi v18_r0 c64_i32_r0
  let v416_r0 : BitVec 32 := Scalar.minsi c704_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev13 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off96 (v16_r0 : BitVec 32) (v18_r0 : BitVec 32) : Fin 3 → Nat :=
  let c768_i32_r0 : BitVec 32 := 768#32
  let c64_i32_r0 : BitVec 32 := 64#32
  let v415_r0 : BitVec 32 := Scalar.subi v18_r0 c64_i32_r0
  let v416_r0 : BitVec 32 := Scalar.minsi c768_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond77 (v12_r0 : BitVec 32) : BitVec 1 :=
  let c12_i32_133_r0 : BitVec 32 := 12#32
  let v259_r0 : BitVec 1 := Scalar.cmpi .sgt v12_r0 c12_i32_133_r0
  let v260_r0 : BitVec 32 := Scalar.extui v259_r0
  let c0_i32_134_r0 : BitVec 32 := 0#32
  let v261_r0 : BitVec 1 := Scalar.cmpi .ne v260_r0 c0_i32_134_r0
  v261_r0

def k0_off97 (v14_r0 : BitVec 32) (v18_r0 : BitVec 32) : Fin 3 → Nat :=
  let c768_i32_r0 : BitVec 32 := 768#32
  let c64_i32_r0 : BitVec 32 := 64#32
  let v415_r0 : BitVec 32 := Scalar.subi v18_r0 c64_i32_r0
  let v416_r0 : BitVec 32 := Scalar.minsi c768_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev14 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off98 (v16_r0 : BitVec 32) (v18_r0 : BitVec 32) : Fin 3 → Nat :=
  let c832_i32_r0 : BitVec 32 := 832#32
  let c64_i32_r0 : BitVec 32 := 64#32
  let v415_r0 : BitVec 32 := Scalar.subi v18_r0 c64_i32_r0
  let v416_r0 : BitVec 32 := Scalar.minsi c832_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond78 (v12_r0 : BitVec 32) : BitVec 1 :=
  let c13_i32_135_r0 : BitVec 32 := 13#32
  let v262_r0 : BitVec 1 := Scalar.cmpi .sgt v12_r0 c13_i32_135_r0
  let v263_r0 : BitVec 32 := Scalar.extui v262_r0
  let c0_i32_136_r0 : BitVec 32 := 0#32
  let v264_r0 : BitVec 1 := Scalar.cmpi .ne v263_r0 c0_i32_136_r0
  v264_r0

def k0_off99 (v14_r0 : BitVec 32) (v18_r0 : BitVec 32) : Fin 3 → Nat :=
  let c832_i32_r0 : BitVec 32 := 832#32
  let c64_i32_r0 : BitVec 32 := 64#32
  let v415_r0 : BitVec 32 := Scalar.subi v18_r0 c64_i32_r0
  let v416_r0 : BitVec 32 := Scalar.minsi c832_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev15 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off100 (v16_r0 : BitVec 32) (v18_r0 : BitVec 32) : Fin 3 → Nat :=
  let c896_i32_r0 : BitVec 32 := 896#32
  let c64_i32_r0 : BitVec 32 := 64#32
  let v415_r0 : BitVec 32 := Scalar.subi v18_r0 c64_i32_r0
  let v416_r0 : BitVec 32 := Scalar.minsi c896_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond79 (v12_r0 : BitVec 32) : BitVec 1 :=
  let c14_i32_137_r0 : BitVec 32 := 14#32
  let v265_r0 : BitVec 1 := Scalar.cmpi .sgt v12_r0 c14_i32_137_r0
  let v266_r0 : BitVec 32 := Scalar.extui v265_r0
  let c0_i32_138_r0 : BitVec 32 := 0#32
  let v267_r0 : BitVec 1 := Scalar.cmpi .ne v266_r0 c0_i32_138_r0
  v267_r0

def k0_off101 (v14_r0 : BitVec 32) (v18_r0 : BitVec 32) : Fin 3 → Nat :=
  let c896_i32_r0 : BitVec 32 := 896#32
  let c64_i32_r0 : BitVec 32 := 64#32
  let v415_r0 : BitVec 32 := Scalar.subi v18_r0 c64_i32_r0
  let v416_r0 : BitVec 32 := Scalar.minsi c896_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev16 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off102 (v16_r0 : BitVec 32) (v18_r0 : BitVec 32) : Fin 3 → Nat :=
  let c960_i32_r0 : BitVec 32 := 960#32
  let c64_i32_r0 : BitVec 32 := 64#32
  let v415_r0 : BitVec 32 := Scalar.subi v18_r0 c64_i32_r0
  let v416_r0 : BitVec 32 := Scalar.minsi c960_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond80 (v12_r0 : BitVec 32) : BitVec 1 :=
  let c15_i32_139_r0 : BitVec 32 := 15#32
  let v268_r0 : BitVec 1 := Scalar.cmpi .sgt v12_r0 c15_i32_139_r0
  let v269_r0 : BitVec 32 := Scalar.extui v268_r0
  let c0_i32_140_r0 : BitVec 32 := 0#32
  let v270_r0 : BitVec 1 := Scalar.cmpi .ne v269_r0 c0_i32_140_r0
  v270_r0

def k0_off103 (v14_r0 : BitVec 32) (v18_r0 : BitVec 32) : Fin 3 → Nat :=
  let c960_i32_r0 : BitVec 32 := 960#32
  let c64_i32_r0 : BitVec 32 := 64#32
  let v415_r0 : BitVec 32 := Scalar.subi v18_r0 c64_i32_r0
  let v416_r0 : BitVec 32 := Scalar.minsi c960_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev17 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off104 (v16_r0 : BitVec 32) (v18_r0 : BitVec 32) : Fin 3 → Nat :=
  let c1024_i32_r0 : BitVec 32 := 1024#32
  let c64_i32_r0 : BitVec 32 := 64#32
  let v415_r0 : BitVec 32 := Scalar.subi v18_r0 c64_i32_r0
  let v416_r0 : BitVec 32 := Scalar.minsi c1024_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond81 (v12_r0 : BitVec 32) : BitVec 1 :=
  let c16_i32_141_r0 : BitVec 32 := 16#32
  let v271_r0 : BitVec 1 := Scalar.cmpi .sgt v12_r0 c16_i32_141_r0
  let v272_r0 : BitVec 32 := Scalar.extui v271_r0
  let c0_i32_142_r0 : BitVec 32 := 0#32
  let v273_r0 : BitVec 1 := Scalar.cmpi .ne v272_r0 c0_i32_142_r0
  v273_r0

def k0_off105 (v14_r0 : BitVec 32) (v18_r0 : BitVec 32) : Fin 3 → Nat :=
  let c1024_i32_r0 : BitVec 32 := 1024#32
  let c64_i32_r0 : BitVec 32 := 64#32
  let v415_r0 : BitVec 32 := Scalar.subi v18_r0 c64_i32_r0
  let v416_r0 : BitVec 32 := Scalar.minsi c1024_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev18 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off106 (v16_r0 : BitVec 32) (v18_r0 : BitVec 32) : Fin 3 → Nat :=
  let c1088_i32_r0 : BitVec 32 := 1088#32
  let c64_i32_r0 : BitVec 32 := 64#32
  let v415_r0 : BitVec 32 := Scalar.subi v18_r0 c64_i32_r0
  let v416_r0 : BitVec 32 := Scalar.minsi c1088_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond82 (v12_r0 : BitVec 32) : BitVec 1 :=
  let c17_i32_143_r0 : BitVec 32 := 17#32
  let v274_r0 : BitVec 1 := Scalar.cmpi .sgt v12_r0 c17_i32_143_r0
  let v275_r0 : BitVec 32 := Scalar.extui v274_r0
  let c0_i32_144_r0 : BitVec 32 := 0#32
  let v276_r0 : BitVec 1 := Scalar.cmpi .ne v275_r0 c0_i32_144_r0
  v276_r0

def k0_off107 (v14_r0 : BitVec 32) (v18_r0 : BitVec 32) : Fin 3 → Nat :=
  let c1088_i32_r0 : BitVec 32 := 1088#32
  let c64_i32_r0 : BitVec 32 := 64#32
  let v415_r0 : BitVec 32 := Scalar.subi v18_r0 c64_i32_r0
  let v416_r0 : BitVec 32 := Scalar.minsi c1088_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev19 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off108 (v16_r0 : BitVec 32) (v18_r0 : BitVec 32) : Fin 3 → Nat :=
  let c1152_i32_r0 : BitVec 32 := 1152#32
  let c64_i32_r0 : BitVec 32 := 64#32
  let v415_r0 : BitVec 32 := Scalar.subi v18_r0 c64_i32_r0
  let v416_r0 : BitVec 32 := Scalar.minsi c1152_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond83 (v12_r0 : BitVec 32) : BitVec 1 :=
  let c18_i32_145_r0 : BitVec 32 := 18#32
  let v277_r0 : BitVec 1 := Scalar.cmpi .sgt v12_r0 c18_i32_145_r0
  let v278_r0 : BitVec 32 := Scalar.extui v277_r0
  let c0_i32_146_r0 : BitVec 32 := 0#32
  let v279_r0 : BitVec 1 := Scalar.cmpi .ne v278_r0 c0_i32_146_r0
  v279_r0

def k0_off109 (v14_r0 : BitVec 32) (v18_r0 : BitVec 32) : Fin 3 → Nat :=
  let c1152_i32_r0 : BitVec 32 := 1152#32
  let c64_i32_r0 : BitVec 32 := 64#32
  let v415_r0 : BitVec 32 := Scalar.subi v18_r0 c64_i32_r0
  let v416_r0 : BitVec 32 := Scalar.minsi c1152_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev20 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off110 (v16_r0 : BitVec 32) (v18_r0 : BitVec 32) : Fin 3 → Nat :=
  let c1216_i32_r0 : BitVec 32 := 1216#32
  let c64_i32_r0 : BitVec 32 := 64#32
  let v415_r0 : BitVec 32 := Scalar.subi v18_r0 c64_i32_r0
  let v416_r0 : BitVec 32 := Scalar.minsi c1216_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond84 (v12_r0 : BitVec 32) : BitVec 1 :=
  let c19_i32_147_r0 : BitVec 32 := 19#32
  let v280_r0 : BitVec 1 := Scalar.cmpi .sgt v12_r0 c19_i32_147_r0
  let v281_r0 : BitVec 32 := Scalar.extui v280_r0
  let c0_i32_148_r0 : BitVec 32 := 0#32
  let v282_r0 : BitVec 1 := Scalar.cmpi .ne v281_r0 c0_i32_148_r0
  v282_r0

def k0_off111 (v14_r0 : BitVec 32) (v18_r0 : BitVec 32) : Fin 3 → Nat :=
  let c1216_i32_r0 : BitVec 32 := 1216#32
  let c64_i32_r0 : BitVec 32 := 64#32
  let v415_r0 : BitVec 32 := Scalar.subi v18_r0 c64_i32_r0
  let v416_r0 : BitVec 32 := Scalar.minsi c1216_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev21 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off112 (v16_r0 : BitVec 32) (v18_r0 : BitVec 32) : Fin 3 → Nat :=
  let c1280_i32_r0 : BitVec 32 := 1280#32
  let c64_i32_r0 : BitVec 32 := 64#32
  let v415_r0 : BitVec 32 := Scalar.subi v18_r0 c64_i32_r0
  let v416_r0 : BitVec 32 := Scalar.minsi c1280_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond85 (v12_r0 : BitVec 32) : BitVec 1 :=
  let c20_i32_149_r0 : BitVec 32 := 20#32
  let v283_r0 : BitVec 1 := Scalar.cmpi .sgt v12_r0 c20_i32_149_r0
  let v284_r0 : BitVec 32 := Scalar.extui v283_r0
  let c0_i32_150_r0 : BitVec 32 := 0#32
  let v285_r0 : BitVec 1 := Scalar.cmpi .ne v284_r0 c0_i32_150_r0
  v285_r0

def k0_off113 (v14_r0 : BitVec 32) (v18_r0 : BitVec 32) : Fin 3 → Nat :=
  let c1280_i32_r0 : BitVec 32 := 1280#32
  let c64_i32_r0 : BitVec 32 := 64#32
  let v415_r0 : BitVec 32 := Scalar.subi v18_r0 c64_i32_r0
  let v416_r0 : BitVec 32 := Scalar.minsi c1280_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev22 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off114 (v16_r0 : BitVec 32) (v18_r0 : BitVec 32) : Fin 3 → Nat :=
  let c1344_i32_r0 : BitVec 32 := 1344#32
  let c64_i32_r0 : BitVec 32 := 64#32
  let v415_r0 : BitVec 32 := Scalar.subi v18_r0 c64_i32_r0
  let v416_r0 : BitVec 32 := Scalar.minsi c1344_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond86 (v12_r0 : BitVec 32) : BitVec 1 :=
  let c21_i32_151_r0 : BitVec 32 := 21#32
  let v286_r0 : BitVec 1 := Scalar.cmpi .sgt v12_r0 c21_i32_151_r0
  let v287_r0 : BitVec 32 := Scalar.extui v286_r0
  let c0_i32_152_r0 : BitVec 32 := 0#32
  let v288_r0 : BitVec 1 := Scalar.cmpi .ne v287_r0 c0_i32_152_r0
  v288_r0

def k0_off115 (v14_r0 : BitVec 32) (v18_r0 : BitVec 32) : Fin 3 → Nat :=
  let c1344_i32_r0 : BitVec 32 := 1344#32
  let c64_i32_r0 : BitVec 32 := 64#32
  let v415_r0 : BitVec 32 := Scalar.subi v18_r0 c64_i32_r0
  let v416_r0 : BitVec 32 := Scalar.minsi c1344_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev23 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off116 (v16_r0 : BitVec 32) (v18_r0 : BitVec 32) : Fin 3 → Nat :=
  let c1408_i32_r0 : BitVec 32 := 1408#32
  let c64_i32_r0 : BitVec 32 := 64#32
  let v415_r0 : BitVec 32 := Scalar.subi v18_r0 c64_i32_r0
  let v416_r0 : BitVec 32 := Scalar.minsi c1408_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond87 (v12_r0 : BitVec 32) : BitVec 1 :=
  let c22_i32_153_r0 : BitVec 32 := 22#32
  let v289_r0 : BitVec 1 := Scalar.cmpi .sgt v12_r0 c22_i32_153_r0
  let v290_r0 : BitVec 32 := Scalar.extui v289_r0
  let c0_i32_154_r0 : BitVec 32 := 0#32
  let v291_r0 : BitVec 1 := Scalar.cmpi .ne v290_r0 c0_i32_154_r0
  v291_r0

def k0_off117 (v14_r0 : BitVec 32) (v18_r0 : BitVec 32) : Fin 3 → Nat :=
  let c1408_i32_r0 : BitVec 32 := 1408#32
  let c64_i32_r0 : BitVec 32 := 64#32
  let v415_r0 : BitVec 32 := Scalar.subi v18_r0 c64_i32_r0
  let v416_r0 : BitVec 32 := Scalar.minsi c1408_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev24 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off118 (v16_r0 : BitVec 32) (v18_r0 : BitVec 32) : Fin 3 → Nat :=
  let c1472_i32_r0 : BitVec 32 := 1472#32
  let c64_i32_r0 : BitVec 32 := 64#32
  let v415_r0 : BitVec 32 := Scalar.subi v18_r0 c64_i32_r0
  let v416_r0 : BitVec 32 := Scalar.minsi c1472_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond88 (v12_r0 : BitVec 32) : BitVec 1 :=
  let c23_i32_155_r0 : BitVec 32 := 23#32
  let v292_r0 : BitVec 1 := Scalar.cmpi .sgt v12_r0 c23_i32_155_r0
  let v293_r0 : BitVec 32 := Scalar.extui v292_r0
  let c0_i32_156_r0 : BitVec 32 := 0#32
  let v294_r0 : BitVec 1 := Scalar.cmpi .ne v293_r0 c0_i32_156_r0
  v294_r0

def k0_off119 (v14_r0 : BitVec 32) (v18_r0 : BitVec 32) : Fin 3 → Nat :=
  let c1472_i32_r0 : BitVec 32 := 1472#32
  let c64_i32_r0 : BitVec 32 := 64#32
  let v415_r0 : BitVec 32 := Scalar.subi v18_r0 c64_i32_r0
  let v416_r0 : BitVec 32 := Scalar.minsi c1472_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev25 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off120 (v16_r0 : BitVec 32) (v18_r0 : BitVec 32) : Fin 3 → Nat :=
  let c1536_i32_r0 : BitVec 32 := 1536#32
  let c64_i32_r0 : BitVec 32 := 64#32
  let v415_r0 : BitVec 32 := Scalar.subi v18_r0 c64_i32_r0
  let v416_r0 : BitVec 32 := Scalar.minsi c1536_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond89 (v12_r0 : BitVec 32) : BitVec 1 :=
  let c24_i32_157_r0 : BitVec 32 := 24#32
  let v295_r0 : BitVec 1 := Scalar.cmpi .sgt v12_r0 c24_i32_157_r0
  let v296_r0 : BitVec 32 := Scalar.extui v295_r0
  let c0_i32_158_r0 : BitVec 32 := 0#32
  let v297_r0 : BitVec 1 := Scalar.cmpi .ne v296_r0 c0_i32_158_r0
  v297_r0

def k0_off121 (v14_r0 : BitVec 32) (v18_r0 : BitVec 32) : Fin 3 → Nat :=
  let c1536_i32_r0 : BitVec 32 := 1536#32
  let c64_i32_r0 : BitVec 32 := 64#32
  let v415_r0 : BitVec 32 := Scalar.subi v18_r0 c64_i32_r0
  let v416_r0 : BitVec 32 := Scalar.minsi c1536_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev26 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off122 (v16_r0 : BitVec 32) (v18_r0 : BitVec 32) : Fin 3 → Nat :=
  let c1600_i32_r0 : BitVec 32 := 1600#32
  let c64_i32_r0 : BitVec 32 := 64#32
  let v415_r0 : BitVec 32 := Scalar.subi v18_r0 c64_i32_r0
  let v416_r0 : BitVec 32 := Scalar.minsi c1600_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond90 (v12_r0 : BitVec 32) : BitVec 1 :=
  let c25_i32_159_r0 : BitVec 32 := 25#32
  let v298_r0 : BitVec 1 := Scalar.cmpi .sgt v12_r0 c25_i32_159_r0
  let v299_r0 : BitVec 32 := Scalar.extui v298_r0
  let c0_i32_160_r0 : BitVec 32 := 0#32
  let v300_r0 : BitVec 1 := Scalar.cmpi .ne v299_r0 c0_i32_160_r0
  v300_r0

def k0_off123 (v14_r0 : BitVec 32) (v18_r0 : BitVec 32) : Fin 3 → Nat :=
  let c1600_i32_r0 : BitVec 32 := 1600#32
  let c64_i32_r0 : BitVec 32 := 64#32
  let v415_r0 : BitVec 32 := Scalar.subi v18_r0 c64_i32_r0
  let v416_r0 : BitVec 32 := Scalar.minsi c1600_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev27 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off124 (v16_r0 : BitVec 32) (v18_r0 : BitVec 32) : Fin 3 → Nat :=
  let c1664_i32_r0 : BitVec 32 := 1664#32
  let c64_i32_r0 : BitVec 32 := 64#32
  let v415_r0 : BitVec 32 := Scalar.subi v18_r0 c64_i32_r0
  let v416_r0 : BitVec 32 := Scalar.minsi c1664_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond91 (v12_r0 : BitVec 32) : BitVec 1 :=
  let c26_i32_161_r0 : BitVec 32 := 26#32
  let v301_r0 : BitVec 1 := Scalar.cmpi .sgt v12_r0 c26_i32_161_r0
  let v302_r0 : BitVec 32 := Scalar.extui v301_r0
  let c0_i32_162_r0 : BitVec 32 := 0#32
  let v303_r0 : BitVec 1 := Scalar.cmpi .ne v302_r0 c0_i32_162_r0
  v303_r0

def k0_off125 (v14_r0 : BitVec 32) (v18_r0 : BitVec 32) : Fin 3 → Nat :=
  let c1664_i32_r0 : BitVec 32 := 1664#32
  let c64_i32_r0 : BitVec 32 := 64#32
  let v415_r0 : BitVec 32 := Scalar.subi v18_r0 c64_i32_r0
  let v416_r0 : BitVec 32 := Scalar.minsi c1664_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev28 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off126 (v16_r0 : BitVec 32) (v18_r0 : BitVec 32) : Fin 3 → Nat :=
  let c1728_i32_r0 : BitVec 32 := 1728#32
  let c64_i32_r0 : BitVec 32 := 64#32
  let v415_r0 : BitVec 32 := Scalar.subi v18_r0 c64_i32_r0
  let v416_r0 : BitVec 32 := Scalar.minsi c1728_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond92 (v12_r0 : BitVec 32) : BitVec 1 :=
  let c27_i32_163_r0 : BitVec 32 := 27#32
  let v304_r0 : BitVec 1 := Scalar.cmpi .sgt v12_r0 c27_i32_163_r0
  let v305_r0 : BitVec 32 := Scalar.extui v304_r0
  let c0_i32_164_r0 : BitVec 32 := 0#32
  let v306_r0 : BitVec 1 := Scalar.cmpi .ne v305_r0 c0_i32_164_r0
  v306_r0

def k0_off127 (v14_r0 : BitVec 32) (v18_r0 : BitVec 32) : Fin 3 → Nat :=
  let c1728_i32_r0 : BitVec 32 := 1728#32
  let c64_i32_r0 : BitVec 32 := 64#32
  let v415_r0 : BitVec 32 := Scalar.subi v18_r0 c64_i32_r0
  let v416_r0 : BitVec 32 := Scalar.minsi c1728_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev29 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off128 (v16_r0 : BitVec 32) (v18_r0 : BitVec 32) : Fin 3 → Nat :=
  let c1792_i32_r0 : BitVec 32 := 1792#32
  let c64_i32_r0 : BitVec 32 := 64#32
  let v415_r0 : BitVec 32 := Scalar.subi v18_r0 c64_i32_r0
  let v416_r0 : BitVec 32 := Scalar.minsi c1792_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond93 (v12_r0 : BitVec 32) : BitVec 1 :=
  let c28_i32_165_r0 : BitVec 32 := 28#32
  let v307_r0 : BitVec 1 := Scalar.cmpi .sgt v12_r0 c28_i32_165_r0
  let v308_r0 : BitVec 32 := Scalar.extui v307_r0
  let c0_i32_166_r0 : BitVec 32 := 0#32
  let v309_r0 : BitVec 1 := Scalar.cmpi .ne v308_r0 c0_i32_166_r0
  v309_r0

def k0_off129 (v14_r0 : BitVec 32) (v18_r0 : BitVec 32) : Fin 3 → Nat :=
  let c1792_i32_r0 : BitVec 32 := 1792#32
  let c64_i32_r0 : BitVec 32 := 64#32
  let v415_r0 : BitVec 32 := Scalar.subi v18_r0 c64_i32_r0
  let v416_r0 : BitVec 32 := Scalar.minsi c1792_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev30 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off130 (v16_r0 : BitVec 32) (v18_r0 : BitVec 32) : Fin 3 → Nat :=
  let c1856_i32_r0 : BitVec 32 := 1856#32
  let c64_i32_r0 : BitVec 32 := 64#32
  let v415_r0 : BitVec 32 := Scalar.subi v18_r0 c64_i32_r0
  let v416_r0 : BitVec 32 := Scalar.minsi c1856_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond94 (v12_r0 : BitVec 32) : BitVec 1 :=
  let c29_i32_167_r0 : BitVec 32 := 29#32
  let v310_r0 : BitVec 1 := Scalar.cmpi .sgt v12_r0 c29_i32_167_r0
  let v311_r0 : BitVec 32 := Scalar.extui v310_r0
  let c0_i32_168_r0 : BitVec 32 := 0#32
  let v312_r0 : BitVec 1 := Scalar.cmpi .ne v311_r0 c0_i32_168_r0
  v312_r0

def k0_off131 (v14_r0 : BitVec 32) (v18_r0 : BitVec 32) : Fin 3 → Nat :=
  let c1856_i32_r0 : BitVec 32 := 1856#32
  let c64_i32_r0 : BitVec 32 := 64#32
  let v415_r0 : BitVec 32 := Scalar.subi v18_r0 c64_i32_r0
  let v416_r0 : BitVec 32 := Scalar.minsi c1856_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev31 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off132 (v16_r0 : BitVec 32) (v18_r0 : BitVec 32) : Fin 3 → Nat :=
  let c1920_i32_r0 : BitVec 32 := 1920#32
  let c64_i32_r0 : BitVec 32 := 64#32
  let v415_r0 : BitVec 32 := Scalar.subi v18_r0 c64_i32_r0
  let v416_r0 : BitVec 32 := Scalar.minsi c1920_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond95 (v12_r0 : BitVec 32) : BitVec 1 :=
  let c30_i32_169_r0 : BitVec 32 := 30#32
  let v313_r0 : BitVec 1 := Scalar.cmpi .sgt v12_r0 c30_i32_169_r0
  let v314_r0 : BitVec 32 := Scalar.extui v313_r0
  let c0_i32_170_r0 : BitVec 32 := 0#32
  let v315_r0 : BitVec 1 := Scalar.cmpi .ne v314_r0 c0_i32_170_r0
  v315_r0

def k0_off133 (v14_r0 : BitVec 32) (v18_r0 : BitVec 32) : Fin 3 → Nat :=
  let c1920_i32_r0 : BitVec 32 := 1920#32
  let c64_i32_r0 : BitVec 32 := 64#32
  let v415_r0 : BitVec 32 := Scalar.subi v18_r0 c64_i32_r0
  let v416_r0 : BitVec 32 := Scalar.minsi c1920_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev32 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off134 (v16_r0 : BitVec 32) (v18_r0 : BitVec 32) : Fin 3 → Nat :=
  let c1984_i32_r0 : BitVec 32 := 1984#32
  let c64_i32_r0 : BitVec 32 := 64#32
  let v415_r0 : BitVec 32 := Scalar.subi v18_r0 c64_i32_r0
  let v416_r0 : BitVec 32 := Scalar.minsi c1984_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_244_r0 : BitVec 32 := 0#32
  let c0_i32_245_r0 : BitVec 32 := 0#32
  ![v419_r0.toNat, 0, 0]
def k0_cond96 (v12_r0 : BitVec 32) : BitVec 1 :=
  let c31_i32_171_r0 : BitVec 32 := 31#32
  let v316_r0 : BitVec 1 := Scalar.cmpi .sgt v12_r0 c31_i32_171_r0
  let v317_r0 : BitVec 32 := Scalar.extui v316_r0
  let c0_i32_172_r0 : BitVec 32 := 0#32
  let v318_r0 : BitVec 1 := Scalar.cmpi .ne v317_r0 c0_i32_172_r0
  v318_r0

def k0_off135 (v14_r0 : BitVec 32) (v18_r0 : BitVec 32) : Fin 3 → Nat :=
  let c1984_i32_r0 : BitVec 32 := 1984#32
  let c64_i32_r0 : BitVec 32 := 64#32
  let v415_r0 : BitVec 32 := Scalar.subi v18_r0 c64_i32_r0
  let v416_r0 : BitVec 32 := Scalar.minsi c1984_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_246_r0 : BitVec 32 := 0#32
  let c0_i32_247_r0 : BitVec 32 := 0#32
  ![v418_r0.toNat, 0, 0]
def k0_dev33 (d1_r0 : Dev nD) : Nat :=
  let c0_i32_241_r0 : BitVec 32 := 0#32
  let v1_r0 : BitVec 32 := Dev.word d1_r0
  let c8_i32_r0 : BitVec 32 := 8#32
  let v2_r0 : BitVec 32 := Scalar.divsi v1_r0 c8_i32_r0
  let c2_i32_r0 : BitVec 32 := 2#32
  let v3_r0 : BitVec 32 := Scalar.remsi v2_r0 c2_i32_r0
  let c8_i32_240_r0 : BitVec 32 := 8#32
  let v420_r0 : BitVec 32 := Scalar.muli v3_r0 c8_i32_240_r0
  let v421_r0 : BitVec 32 := Scalar.addi c0_i32_241_r0 v420_r0
  let c1_i32_2_r0 : BitVec 32 := 1#32
  let v4_r0 : BitVec 32 := Dev.word d1_r0
  let c4_i32_r0 : BitVec 32 := 4#32
  let v5_r0 : BitVec 32 := Scalar.divsi v4_r0 c4_i32_r0
  let c2_i32_0_r0 : BitVec 32 := 2#32
  let v6_r0 : BitVec 32 := Scalar.remsi v5_r0 c2_i32_0_r0
  let v10_r0 : BitVec 32 := Scalar.subi c1_i32_2_r0 v6_r0
  let c4_i32_242_r0 : BitVec 32 := 4#32
  let v422_r0 : BitVec 32 := Scalar.muli v10_r0 c4_i32_242_r0
  let v423_r0 : BitVec 32 := Scalar.addi v421_r0 v422_r0
  let v7_r0 : BitVec 32 := Dev.word d1_r0
  let c1_i32_r0 : BitVec 32 := 1#32
  let v8_r0 : BitVec 32 := Scalar.divsi v7_r0 c1_i32_r0
  let c4_i32_1_r0 : BitVec 32 := 4#32
  let v9_r0 : BitVec 32 := Scalar.remsi v8_r0 c4_i32_1_r0
  let c1_i32_243_r0 : BitVec 32 := 1#32
  let v424_r0 : BitVec 32 := Scalar.muli v9_r0 c1_i32_243_r0
  let v425_r0 : BitVec 32 := Scalar.addi v423_r0 v424_r0
  v425_r0.toNat
def k0_off136 (v14_r0 : BitVec 32) (v18_r0 : BitVec 32) : Fin 3 → Nat :=
  let c0_i32_237_r0 : BitVec 32 := 0#32
  let c64_i32_r0 : BitVec 32 := 64#32
  let v415_r0 : BitVec 32 := Scalar.subi v18_r0 c64_i32_r0
  let v416_r0 : BitVec 32 := Scalar.minsi c0_i32_237_r0 v415_r0
  let c0_i32_238_r0 : BitVec 32 := 0#32
  let v417_r0 : BitVec 32 := Scalar.maxsi v416_r0 c0_i32_238_r0
  let v418_r0 : BitVec 32 := Scalar.addi v14_r0 v417_r0
  let c0_i32_242_r0 : BitVec 32 := 0#32
  let c0_i32_243_r0 : BitVec 32 := 0#32
  ![v418_r0.toNat, 0, 0]
def k0_cond97 (v12_r0 : BitVec 32) : BitVec 1 :=
  let c0_i32_173_r0 : BitVec 32 := 0#32
  let v319_r0 : BitVec 1 := Scalar.cmpi .sgt v12_r0 c0_i32_173_r0
  let v320_r0 : BitVec 32 := Scalar.extui v319_r0
  let c0_i32_174_r0 : BitVec 32 := 0#32
  let v321_r0 : BitVec 1 := Scalar.cmpi .ne v320_r0 c0_i32_174_r0
  v321_r0

def k0_off137 (v16_r0 : BitVec 32) (v18_r0 : BitVec 32) : Fin 3 → Nat :=
  let c0_i32_237_r0 : BitVec 32 := 0#32
  let c64_i32_r0 : BitVec 32 := 64#32
  let v415_r0 : BitVec 32 := Scalar.subi v18_r0 c64_i32_r0
  let v416_r0 : BitVec 32 := Scalar.minsi c0_i32_237_r0 v415_r0
  let c0_i32_238_r0 : BitVec 32 := 0#32
  let v417_r0 : BitVec 32 := Scalar.maxsi v416_r0 c0_i32_238_r0
  let v419_r0 : BitVec 32 := Scalar.addi v16_r0 v417_r0
  let c0_i32_244_r0 : BitVec 32 := 0#32
  let c0_i32_245_r0 : BitVec 32 := 0#32
  ![v419_r0.toNat, 0, 0]
def k0_off138 (v14_r0 : BitVec 32) (v18_r0 : BitVec 32) : Fin 3 → Nat :=
  let c64_i32_237_r0 : BitVec 32 := 64#32
  let c64_i32_r0 : BitVec 32 := 64#32
  let v415_r0 : BitVec 32 := Scalar.subi v18_r0 c64_i32_r0
  let v416_r0 : BitVec 32 := Scalar.minsi c64_i32_237_r0 v415_r0
  let c0_i32_238_r0 : BitVec 32 := 0#32
  let v417_r0 : BitVec 32 := Scalar.maxsi v416_r0 c0_i32_238_r0
  let v418_r0 : BitVec 32 := Scalar.addi v14_r0 v417_r0
  let c0_i32_242_r0 : BitVec 32 := 0#32
  let c0_i32_243_r0 : BitVec 32 := 0#32
  ![v418_r0.toNat, 0, 0]
def k0_cond98 (v12_r0 : BitVec 32) : BitVec 1 :=
  let c1_i32_175_r0 : BitVec 32 := 1#32
  let v322_r0 : BitVec 1 := Scalar.cmpi .sgt v12_r0 c1_i32_175_r0
  let v323_r0 : BitVec 32 := Scalar.extui v322_r0
  let c0_i32_176_r0 : BitVec 32 := 0#32
  let v324_r0 : BitVec 1 := Scalar.cmpi .ne v323_r0 c0_i32_176_r0
  v324_r0

def k0_off139 (v16_r0 : BitVec 32) (v18_r0 : BitVec 32) : Fin 3 → Nat :=
  let c64_i32_237_r0 : BitVec 32 := 64#32
  let c64_i32_r0 : BitVec 32 := 64#32
  let v415_r0 : BitVec 32 := Scalar.subi v18_r0 c64_i32_r0
  let v416_r0 : BitVec 32 := Scalar.minsi c64_i32_237_r0 v415_r0
  let c0_i32_238_r0 : BitVec 32 := 0#32
  let v417_r0 : BitVec 32 := Scalar.maxsi v416_r0 c0_i32_238_r0
  let v419_r0 : BitVec 32 := Scalar.addi v16_r0 v417_r0
  let c0_i32_244_r0 : BitVec 32 := 0#32
  let c0_i32_245_r0 : BitVec 32 := 0#32
  ![v419_r0.toNat, 0, 0]
def k0_off140 (v14_r0 : BitVec 32) (v18_r0 : BitVec 32) : Fin 3 → Nat :=
  let c128_i32_r0 : BitVec 32 := 128#32
  let c64_i32_r0 : BitVec 32 := 64#32
  let v415_r0 : BitVec 32 := Scalar.subi v18_r0 c64_i32_r0
  let v416_r0 : BitVec 32 := Scalar.minsi c128_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond99 (v12_r0 : BitVec 32) : BitVec 1 :=
  let c2_i32_177_r0 : BitVec 32 := 2#32
  let v325_r0 : BitVec 1 := Scalar.cmpi .sgt v12_r0 c2_i32_177_r0
  let v326_r0 : BitVec 32 := Scalar.extui v325_r0
  let c0_i32_178_r0 : BitVec 32 := 0#32
  let v327_r0 : BitVec 1 := Scalar.cmpi .ne v326_r0 c0_i32_178_r0
  v327_r0

def k0_off141 (v16_r0 : BitVec 32) (v18_r0 : BitVec 32) : Fin 3 → Nat :=
  let c128_i32_r0 : BitVec 32 := 128#32
  let c64_i32_r0 : BitVec 32 := 64#32
  let v415_r0 : BitVec 32 := Scalar.subi v18_r0 c64_i32_r0
  let v416_r0 : BitVec 32 := Scalar.minsi c128_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off142 (v14_r0 : BitVec 32) (v18_r0 : BitVec 32) : Fin 3 → Nat :=
  let c192_i32_r0 : BitVec 32 := 192#32
  let c64_i32_r0 : BitVec 32 := 64#32
  let v415_r0 : BitVec 32 := Scalar.subi v18_r0 c64_i32_r0
  let v416_r0 : BitVec 32 := Scalar.minsi c192_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond100 (v12_r0 : BitVec 32) : BitVec 1 :=
  let c3_i32_179_r0 : BitVec 32 := 3#32
  let v328_r0 : BitVec 1 := Scalar.cmpi .sgt v12_r0 c3_i32_179_r0
  let v329_r0 : BitVec 32 := Scalar.extui v328_r0
  let c0_i32_180_r0 : BitVec 32 := 0#32
  let v330_r0 : BitVec 1 := Scalar.cmpi .ne v329_r0 c0_i32_180_r0
  v330_r0

def k0_off143 (v16_r0 : BitVec 32) (v18_r0 : BitVec 32) : Fin 3 → Nat :=
  let c192_i32_r0 : BitVec 32 := 192#32
  let c64_i32_r0 : BitVec 32 := 64#32
  let v415_r0 : BitVec 32 := Scalar.subi v18_r0 c64_i32_r0
  let v416_r0 : BitVec 32 := Scalar.minsi c192_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off144 (v14_r0 : BitVec 32) (v18_r0 : BitVec 32) : Fin 3 → Nat :=
  let c256_i32_r0 : BitVec 32 := 256#32
  let c64_i32_r0 : BitVec 32 := 64#32
  let v415_r0 : BitVec 32 := Scalar.subi v18_r0 c64_i32_r0
  let v416_r0 : BitVec 32 := Scalar.minsi c256_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond101 (v12_r0 : BitVec 32) : BitVec 1 :=
  let c4_i32_181_r0 : BitVec 32 := 4#32
  let v331_r0 : BitVec 1 := Scalar.cmpi .sgt v12_r0 c4_i32_181_r0
  let v332_r0 : BitVec 32 := Scalar.extui v331_r0
  let c0_i32_182_r0 : BitVec 32 := 0#32
  let v333_r0 : BitVec 1 := Scalar.cmpi .ne v332_r0 c0_i32_182_r0
  v333_r0

def k0_off145 (v16_r0 : BitVec 32) (v18_r0 : BitVec 32) : Fin 3 → Nat :=
  let c256_i32_r0 : BitVec 32 := 256#32
  let c64_i32_r0 : BitVec 32 := 64#32
  let v415_r0 : BitVec 32 := Scalar.subi v18_r0 c64_i32_r0
  let v416_r0 : BitVec 32 := Scalar.minsi c256_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off146 (v14_r0 : BitVec 32) (v18_r0 : BitVec 32) : Fin 3 → Nat :=
  let c320_i32_r0 : BitVec 32 := 320#32
  let c64_i32_r0 : BitVec 32 := 64#32
  let v415_r0 : BitVec 32 := Scalar.subi v18_r0 c64_i32_r0
  let v416_r0 : BitVec 32 := Scalar.minsi c320_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond102 (v12_r0 : BitVec 32) : BitVec 1 :=
  let c5_i32_183_r0 : BitVec 32 := 5#32
  let v334_r0 : BitVec 1 := Scalar.cmpi .sgt v12_r0 c5_i32_183_r0
  let v335_r0 : BitVec 32 := Scalar.extui v334_r0
  let c0_i32_184_r0 : BitVec 32 := 0#32
  let v336_r0 : BitVec 1 := Scalar.cmpi .ne v335_r0 c0_i32_184_r0
  v336_r0

def k0_off147 (v16_r0 : BitVec 32) (v18_r0 : BitVec 32) : Fin 3 → Nat :=
  let c320_i32_r0 : BitVec 32 := 320#32
  let c64_i32_r0 : BitVec 32 := 64#32
  let v415_r0 : BitVec 32 := Scalar.subi v18_r0 c64_i32_r0
  let v416_r0 : BitVec 32 := Scalar.minsi c320_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off148 (v14_r0 : BitVec 32) (v18_r0 : BitVec 32) : Fin 3 → Nat :=
  let c384_i32_r0 : BitVec 32 := 384#32
  let c64_i32_r0 : BitVec 32 := 64#32
  let v415_r0 : BitVec 32 := Scalar.subi v18_r0 c64_i32_r0
  let v416_r0 : BitVec 32 := Scalar.minsi c384_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond103 (v12_r0 : BitVec 32) : BitVec 1 :=
  let c6_i32_185_r0 : BitVec 32 := 6#32
  let v337_r0 : BitVec 1 := Scalar.cmpi .sgt v12_r0 c6_i32_185_r0
  let v338_r0 : BitVec 32 := Scalar.extui v337_r0
  let c0_i32_186_r0 : BitVec 32 := 0#32
  let v339_r0 : BitVec 1 := Scalar.cmpi .ne v338_r0 c0_i32_186_r0
  v339_r0

def k0_off149 (v16_r0 : BitVec 32) (v18_r0 : BitVec 32) : Fin 3 → Nat :=
  let c384_i32_r0 : BitVec 32 := 384#32
  let c64_i32_r0 : BitVec 32 := 64#32
  let v415_r0 : BitVec 32 := Scalar.subi v18_r0 c64_i32_r0
  let v416_r0 : BitVec 32 := Scalar.minsi c384_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off150 (v14_r0 : BitVec 32) (v18_r0 : BitVec 32) : Fin 3 → Nat :=
  let c448_i32_r0 : BitVec 32 := 448#32
  let c64_i32_r0 : BitVec 32 := 64#32
  let v415_r0 : BitVec 32 := Scalar.subi v18_r0 c64_i32_r0
  let v416_r0 : BitVec 32 := Scalar.minsi c448_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond104 (v12_r0 : BitVec 32) : BitVec 1 :=
  let c7_i32_187_r0 : BitVec 32 := 7#32
  let v340_r0 : BitVec 1 := Scalar.cmpi .sgt v12_r0 c7_i32_187_r0
  let v341_r0 : BitVec 32 := Scalar.extui v340_r0
  let c0_i32_188_r0 : BitVec 32 := 0#32
  let v342_r0 : BitVec 1 := Scalar.cmpi .ne v341_r0 c0_i32_188_r0
  v342_r0

def k0_off151 (v16_r0 : BitVec 32) (v18_r0 : BitVec 32) : Fin 3 → Nat :=
  let c448_i32_r0 : BitVec 32 := 448#32
  let c64_i32_r0 : BitVec 32 := 64#32
  let v415_r0 : BitVec 32 := Scalar.subi v18_r0 c64_i32_r0
  let v416_r0 : BitVec 32 := Scalar.minsi c448_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off152 (v14_r0 : BitVec 32) (v18_r0 : BitVec 32) : Fin 3 → Nat :=
  let c512_i32_r0 : BitVec 32 := 512#32
  let c64_i32_r0 : BitVec 32 := 64#32
  let v415_r0 : BitVec 32 := Scalar.subi v18_r0 c64_i32_r0
  let v416_r0 : BitVec 32 := Scalar.minsi c512_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond105 (v12_r0 : BitVec 32) : BitVec 1 :=
  let c8_i32_189_r0 : BitVec 32 := 8#32
  let v343_r0 : BitVec 1 := Scalar.cmpi .sgt v12_r0 c8_i32_189_r0
  let v344_r0 : BitVec 32 := Scalar.extui v343_r0
  let c0_i32_190_r0 : BitVec 32 := 0#32
  let v345_r0 : BitVec 1 := Scalar.cmpi .ne v344_r0 c0_i32_190_r0
  v345_r0

def k0_off153 (v16_r0 : BitVec 32) (v18_r0 : BitVec 32) : Fin 3 → Nat :=
  let c512_i32_r0 : BitVec 32 := 512#32
  let c64_i32_r0 : BitVec 32 := 64#32
  let v415_r0 : BitVec 32 := Scalar.subi v18_r0 c64_i32_r0
  let v416_r0 : BitVec 32 := Scalar.minsi c512_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off154 (v14_r0 : BitVec 32) (v18_r0 : BitVec 32) : Fin 3 → Nat :=
  let c576_i32_r0 : BitVec 32 := 576#32
  let c64_i32_r0 : BitVec 32 := 64#32
  let v415_r0 : BitVec 32 := Scalar.subi v18_r0 c64_i32_r0
  let v416_r0 : BitVec 32 := Scalar.minsi c576_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond106 (v12_r0 : BitVec 32) : BitVec 1 :=
  let c9_i32_191_r0 : BitVec 32 := 9#32
  let v346_r0 : BitVec 1 := Scalar.cmpi .sgt v12_r0 c9_i32_191_r0
  let v347_r0 : BitVec 32 := Scalar.extui v346_r0
  let c0_i32_192_r0 : BitVec 32 := 0#32
  let v348_r0 : BitVec 1 := Scalar.cmpi .ne v347_r0 c0_i32_192_r0
  v348_r0

def k0_off155 (v16_r0 : BitVec 32) (v18_r0 : BitVec 32) : Fin 3 → Nat :=
  let c576_i32_r0 : BitVec 32 := 576#32
  let c64_i32_r0 : BitVec 32 := 64#32
  let v415_r0 : BitVec 32 := Scalar.subi v18_r0 c64_i32_r0
  let v416_r0 : BitVec 32 := Scalar.minsi c576_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off156 (v14_r0 : BitVec 32) (v18_r0 : BitVec 32) : Fin 3 → Nat :=
  let c640_i32_r0 : BitVec 32 := 640#32
  let c64_i32_r0 : BitVec 32 := 64#32
  let v415_r0 : BitVec 32 := Scalar.subi v18_r0 c64_i32_r0
  let v416_r0 : BitVec 32 := Scalar.minsi c640_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond107 (v12_r0 : BitVec 32) : BitVec 1 :=
  let c10_i32_193_r0 : BitVec 32 := 10#32
  let v349_r0 : BitVec 1 := Scalar.cmpi .sgt v12_r0 c10_i32_193_r0
  let v350_r0 : BitVec 32 := Scalar.extui v349_r0
  let c0_i32_194_r0 : BitVec 32 := 0#32
  let v351_r0 : BitVec 1 := Scalar.cmpi .ne v350_r0 c0_i32_194_r0
  v351_r0

def k0_off157 (v16_r0 : BitVec 32) (v18_r0 : BitVec 32) : Fin 3 → Nat :=
  let c640_i32_r0 : BitVec 32 := 640#32
  let c64_i32_r0 : BitVec 32 := 64#32
  let v415_r0 : BitVec 32 := Scalar.subi v18_r0 c64_i32_r0
  let v416_r0 : BitVec 32 := Scalar.minsi c640_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off158 (v14_r0 : BitVec 32) (v18_r0 : BitVec 32) : Fin 3 → Nat :=
  let c704_i32_r0 : BitVec 32 := 704#32
  let c64_i32_r0 : BitVec 32 := 64#32
  let v415_r0 : BitVec 32 := Scalar.subi v18_r0 c64_i32_r0
  let v416_r0 : BitVec 32 := Scalar.minsi c704_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond108 (v12_r0 : BitVec 32) : BitVec 1 :=
  let c11_i32_195_r0 : BitVec 32 := 11#32
  let v352_r0 : BitVec 1 := Scalar.cmpi .sgt v12_r0 c11_i32_195_r0
  let v353_r0 : BitVec 32 := Scalar.extui v352_r0
  let c0_i32_196_r0 : BitVec 32 := 0#32
  let v354_r0 : BitVec 1 := Scalar.cmpi .ne v353_r0 c0_i32_196_r0
  v354_r0

def k0_off159 (v16_r0 : BitVec 32) (v18_r0 : BitVec 32) : Fin 3 → Nat :=
  let c704_i32_r0 : BitVec 32 := 704#32
  let c64_i32_r0 : BitVec 32 := 64#32
  let v415_r0 : BitVec 32 := Scalar.subi v18_r0 c64_i32_r0
  let v416_r0 : BitVec 32 := Scalar.minsi c704_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off160 (v14_r0 : BitVec 32) (v18_r0 : BitVec 32) : Fin 3 → Nat :=
  let c768_i32_r0 : BitVec 32 := 768#32
  let c64_i32_r0 : BitVec 32 := 64#32
  let v415_r0 : BitVec 32 := Scalar.subi v18_r0 c64_i32_r0
  let v416_r0 : BitVec 32 := Scalar.minsi c768_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond109 (v12_r0 : BitVec 32) : BitVec 1 :=
  let c12_i32_197_r0 : BitVec 32 := 12#32
  let v355_r0 : BitVec 1 := Scalar.cmpi .sgt v12_r0 c12_i32_197_r0
  let v356_r0 : BitVec 32 := Scalar.extui v355_r0
  let c0_i32_198_r0 : BitVec 32 := 0#32
  let v357_r0 : BitVec 1 := Scalar.cmpi .ne v356_r0 c0_i32_198_r0
  v357_r0

def k0_off161 (v16_r0 : BitVec 32) (v18_r0 : BitVec 32) : Fin 3 → Nat :=
  let c768_i32_r0 : BitVec 32 := 768#32
  let c64_i32_r0 : BitVec 32 := 64#32
  let v415_r0 : BitVec 32 := Scalar.subi v18_r0 c64_i32_r0
  let v416_r0 : BitVec 32 := Scalar.minsi c768_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off162 (v14_r0 : BitVec 32) (v18_r0 : BitVec 32) : Fin 3 → Nat :=
  let c832_i32_r0 : BitVec 32 := 832#32
  let c64_i32_r0 : BitVec 32 := 64#32
  let v415_r0 : BitVec 32 := Scalar.subi v18_r0 c64_i32_r0
  let v416_r0 : BitVec 32 := Scalar.minsi c832_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond110 (v12_r0 : BitVec 32) : BitVec 1 :=
  let c13_i32_199_r0 : BitVec 32 := 13#32
  let v358_r0 : BitVec 1 := Scalar.cmpi .sgt v12_r0 c13_i32_199_r0
  let v359_r0 : BitVec 32 := Scalar.extui v358_r0
  let c0_i32_200_r0 : BitVec 32 := 0#32
  let v360_r0 : BitVec 1 := Scalar.cmpi .ne v359_r0 c0_i32_200_r0
  v360_r0

def k0_off163 (v16_r0 : BitVec 32) (v18_r0 : BitVec 32) : Fin 3 → Nat :=
  let c832_i32_r0 : BitVec 32 := 832#32
  let c64_i32_r0 : BitVec 32 := 64#32
  let v415_r0 : BitVec 32 := Scalar.subi v18_r0 c64_i32_r0
  let v416_r0 : BitVec 32 := Scalar.minsi c832_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off164 (v14_r0 : BitVec 32) (v18_r0 : BitVec 32) : Fin 3 → Nat :=
  let c896_i32_r0 : BitVec 32 := 896#32
  let c64_i32_r0 : BitVec 32 := 64#32
  let v415_r0 : BitVec 32 := Scalar.subi v18_r0 c64_i32_r0
  let v416_r0 : BitVec 32 := Scalar.minsi c896_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond111 (v12_r0 : BitVec 32) : BitVec 1 :=
  let c14_i32_201_r0 : BitVec 32 := 14#32
  let v361_r0 : BitVec 1 := Scalar.cmpi .sgt v12_r0 c14_i32_201_r0
  let v362_r0 : BitVec 32 := Scalar.extui v361_r0
  let c0_i32_202_r0 : BitVec 32 := 0#32
  let v363_r0 : BitVec 1 := Scalar.cmpi .ne v362_r0 c0_i32_202_r0
  v363_r0

def k0_off165 (v16_r0 : BitVec 32) (v18_r0 : BitVec 32) : Fin 3 → Nat :=
  let c896_i32_r0 : BitVec 32 := 896#32
  let c64_i32_r0 : BitVec 32 := 64#32
  let v415_r0 : BitVec 32 := Scalar.subi v18_r0 c64_i32_r0
  let v416_r0 : BitVec 32 := Scalar.minsi c896_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off166 (v14_r0 : BitVec 32) (v18_r0 : BitVec 32) : Fin 3 → Nat :=
  let c960_i32_r0 : BitVec 32 := 960#32
  let c64_i32_r0 : BitVec 32 := 64#32
  let v415_r0 : BitVec 32 := Scalar.subi v18_r0 c64_i32_r0
  let v416_r0 : BitVec 32 := Scalar.minsi c960_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond112 (v12_r0 : BitVec 32) : BitVec 1 :=
  let c15_i32_203_r0 : BitVec 32 := 15#32
  let v364_r0 : BitVec 1 := Scalar.cmpi .sgt v12_r0 c15_i32_203_r0
  let v365_r0 : BitVec 32 := Scalar.extui v364_r0
  let c0_i32_204_r0 : BitVec 32 := 0#32
  let v366_r0 : BitVec 1 := Scalar.cmpi .ne v365_r0 c0_i32_204_r0
  v366_r0

def k0_off167 (v16_r0 : BitVec 32) (v18_r0 : BitVec 32) : Fin 3 → Nat :=
  let c960_i32_r0 : BitVec 32 := 960#32
  let c64_i32_r0 : BitVec 32 := 64#32
  let v415_r0 : BitVec 32 := Scalar.subi v18_r0 c64_i32_r0
  let v416_r0 : BitVec 32 := Scalar.minsi c960_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off168 (v14_r0 : BitVec 32) (v18_r0 : BitVec 32) : Fin 3 → Nat :=
  let c1024_i32_r0 : BitVec 32 := 1024#32
  let c64_i32_r0 : BitVec 32 := 64#32
  let v415_r0 : BitVec 32 := Scalar.subi v18_r0 c64_i32_r0
  let v416_r0 : BitVec 32 := Scalar.minsi c1024_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond113 (v12_r0 : BitVec 32) : BitVec 1 :=
  let c16_i32_205_r0 : BitVec 32 := 16#32
  let v367_r0 : BitVec 1 := Scalar.cmpi .sgt v12_r0 c16_i32_205_r0
  let v368_r0 : BitVec 32 := Scalar.extui v367_r0
  let c0_i32_206_r0 : BitVec 32 := 0#32
  let v369_r0 : BitVec 1 := Scalar.cmpi .ne v368_r0 c0_i32_206_r0
  v369_r0

def k0_off169 (v16_r0 : BitVec 32) (v18_r0 : BitVec 32) : Fin 3 → Nat :=
  let c1024_i32_r0 : BitVec 32 := 1024#32
  let c64_i32_r0 : BitVec 32 := 64#32
  let v415_r0 : BitVec 32 := Scalar.subi v18_r0 c64_i32_r0
  let v416_r0 : BitVec 32 := Scalar.minsi c1024_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off170 (v14_r0 : BitVec 32) (v18_r0 : BitVec 32) : Fin 3 → Nat :=
  let c1088_i32_r0 : BitVec 32 := 1088#32
  let c64_i32_r0 : BitVec 32 := 64#32
  let v415_r0 : BitVec 32 := Scalar.subi v18_r0 c64_i32_r0
  let v416_r0 : BitVec 32 := Scalar.minsi c1088_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond114 (v12_r0 : BitVec 32) : BitVec 1 :=
  let c17_i32_207_r0 : BitVec 32 := 17#32
  let v370_r0 : BitVec 1 := Scalar.cmpi .sgt v12_r0 c17_i32_207_r0
  let v371_r0 : BitVec 32 := Scalar.extui v370_r0
  let c0_i32_208_r0 : BitVec 32 := 0#32
  let v372_r0 : BitVec 1 := Scalar.cmpi .ne v371_r0 c0_i32_208_r0
  v372_r0

def k0_off171 (v16_r0 : BitVec 32) (v18_r0 : BitVec 32) : Fin 3 → Nat :=
  let c1088_i32_r0 : BitVec 32 := 1088#32
  let c64_i32_r0 : BitVec 32 := 64#32
  let v415_r0 : BitVec 32 := Scalar.subi v18_r0 c64_i32_r0
  let v416_r0 : BitVec 32 := Scalar.minsi c1088_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off172 (v14_r0 : BitVec 32) (v18_r0 : BitVec 32) : Fin 3 → Nat :=
  let c1152_i32_r0 : BitVec 32 := 1152#32
  let c64_i32_r0 : BitVec 32 := 64#32
  let v415_r0 : BitVec 32 := Scalar.subi v18_r0 c64_i32_r0
  let v416_r0 : BitVec 32 := Scalar.minsi c1152_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond115 (v12_r0 : BitVec 32) : BitVec 1 :=
  let c18_i32_209_r0 : BitVec 32 := 18#32
  let v373_r0 : BitVec 1 := Scalar.cmpi .sgt v12_r0 c18_i32_209_r0
  let v374_r0 : BitVec 32 := Scalar.extui v373_r0
  let c0_i32_210_r0 : BitVec 32 := 0#32
  let v375_r0 : BitVec 1 := Scalar.cmpi .ne v374_r0 c0_i32_210_r0
  v375_r0

def k0_off173 (v16_r0 : BitVec 32) (v18_r0 : BitVec 32) : Fin 3 → Nat :=
  let c1152_i32_r0 : BitVec 32 := 1152#32
  let c64_i32_r0 : BitVec 32 := 64#32
  let v415_r0 : BitVec 32 := Scalar.subi v18_r0 c64_i32_r0
  let v416_r0 : BitVec 32 := Scalar.minsi c1152_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off174 (v14_r0 : BitVec 32) (v18_r0 : BitVec 32) : Fin 3 → Nat :=
  let c1216_i32_r0 : BitVec 32 := 1216#32
  let c64_i32_r0 : BitVec 32 := 64#32
  let v415_r0 : BitVec 32 := Scalar.subi v18_r0 c64_i32_r0
  let v416_r0 : BitVec 32 := Scalar.minsi c1216_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond116 (v12_r0 : BitVec 32) : BitVec 1 :=
  let c19_i32_211_r0 : BitVec 32 := 19#32
  let v376_r0 : BitVec 1 := Scalar.cmpi .sgt v12_r0 c19_i32_211_r0
  let v377_r0 : BitVec 32 := Scalar.extui v376_r0
  let c0_i32_212_r0 : BitVec 32 := 0#32
  let v378_r0 : BitVec 1 := Scalar.cmpi .ne v377_r0 c0_i32_212_r0
  v378_r0

def k0_off175 (v16_r0 : BitVec 32) (v18_r0 : BitVec 32) : Fin 3 → Nat :=
  let c1216_i32_r0 : BitVec 32 := 1216#32
  let c64_i32_r0 : BitVec 32 := 64#32
  let v415_r0 : BitVec 32 := Scalar.subi v18_r0 c64_i32_r0
  let v416_r0 : BitVec 32 := Scalar.minsi c1216_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off176 (v14_r0 : BitVec 32) (v18_r0 : BitVec 32) : Fin 3 → Nat :=
  let c1280_i32_r0 : BitVec 32 := 1280#32
  let c64_i32_r0 : BitVec 32 := 64#32
  let v415_r0 : BitVec 32 := Scalar.subi v18_r0 c64_i32_r0
  let v416_r0 : BitVec 32 := Scalar.minsi c1280_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond117 (v12_r0 : BitVec 32) : BitVec 1 :=
  let c20_i32_213_r0 : BitVec 32 := 20#32
  let v379_r0 : BitVec 1 := Scalar.cmpi .sgt v12_r0 c20_i32_213_r0
  let v380_r0 : BitVec 32 := Scalar.extui v379_r0
  let c0_i32_214_r0 : BitVec 32 := 0#32
  let v381_r0 : BitVec 1 := Scalar.cmpi .ne v380_r0 c0_i32_214_r0
  v381_r0

def k0_off177 (v16_r0 : BitVec 32) (v18_r0 : BitVec 32) : Fin 3 → Nat :=
  let c1280_i32_r0 : BitVec 32 := 1280#32
  let c64_i32_r0 : BitVec 32 := 64#32
  let v415_r0 : BitVec 32 := Scalar.subi v18_r0 c64_i32_r0
  let v416_r0 : BitVec 32 := Scalar.minsi c1280_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off178 (v14_r0 : BitVec 32) (v18_r0 : BitVec 32) : Fin 3 → Nat :=
  let c1344_i32_r0 : BitVec 32 := 1344#32
  let c64_i32_r0 : BitVec 32 := 64#32
  let v415_r0 : BitVec 32 := Scalar.subi v18_r0 c64_i32_r0
  let v416_r0 : BitVec 32 := Scalar.minsi c1344_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond118 (v12_r0 : BitVec 32) : BitVec 1 :=
  let c21_i32_215_r0 : BitVec 32 := 21#32
  let v382_r0 : BitVec 1 := Scalar.cmpi .sgt v12_r0 c21_i32_215_r0
  let v383_r0 : BitVec 32 := Scalar.extui v382_r0
  let c0_i32_216_r0 : BitVec 32 := 0#32
  let v384_r0 : BitVec 1 := Scalar.cmpi .ne v383_r0 c0_i32_216_r0
  v384_r0

def k0_off179 (v16_r0 : BitVec 32) (v18_r0 : BitVec 32) : Fin 3 → Nat :=
  let c1344_i32_r0 : BitVec 32 := 1344#32
  let c64_i32_r0 : BitVec 32 := 64#32
  let v415_r0 : BitVec 32 := Scalar.subi v18_r0 c64_i32_r0
  let v416_r0 : BitVec 32 := Scalar.minsi c1344_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off180 (v14_r0 : BitVec 32) (v18_r0 : BitVec 32) : Fin 3 → Nat :=
  let c1408_i32_r0 : BitVec 32 := 1408#32
  let c64_i32_r0 : BitVec 32 := 64#32
  let v415_r0 : BitVec 32 := Scalar.subi v18_r0 c64_i32_r0
  let v416_r0 : BitVec 32 := Scalar.minsi c1408_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond119 (v12_r0 : BitVec 32) : BitVec 1 :=
  let c22_i32_217_r0 : BitVec 32 := 22#32
  let v385_r0 : BitVec 1 := Scalar.cmpi .sgt v12_r0 c22_i32_217_r0
  let v386_r0 : BitVec 32 := Scalar.extui v385_r0
  let c0_i32_218_r0 : BitVec 32 := 0#32
  let v387_r0 : BitVec 1 := Scalar.cmpi .ne v386_r0 c0_i32_218_r0
  v387_r0

def k0_off181 (v16_r0 : BitVec 32) (v18_r0 : BitVec 32) : Fin 3 → Nat :=
  let c1408_i32_r0 : BitVec 32 := 1408#32
  let c64_i32_r0 : BitVec 32 := 64#32
  let v415_r0 : BitVec 32 := Scalar.subi v18_r0 c64_i32_r0
  let v416_r0 : BitVec 32 := Scalar.minsi c1408_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off182 (v14_r0 : BitVec 32) (v18_r0 : BitVec 32) : Fin 3 → Nat :=
  let c1472_i32_r0 : BitVec 32 := 1472#32
  let c64_i32_r0 : BitVec 32 := 64#32
  let v415_r0 : BitVec 32 := Scalar.subi v18_r0 c64_i32_r0
  let v416_r0 : BitVec 32 := Scalar.minsi c1472_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond120 (v12_r0 : BitVec 32) : BitVec 1 :=
  let c23_i32_219_r0 : BitVec 32 := 23#32
  let v388_r0 : BitVec 1 := Scalar.cmpi .sgt v12_r0 c23_i32_219_r0
  let v389_r0 : BitVec 32 := Scalar.extui v388_r0
  let c0_i32_220_r0 : BitVec 32 := 0#32
  let v390_r0 : BitVec 1 := Scalar.cmpi .ne v389_r0 c0_i32_220_r0
  v390_r0

def k0_off183 (v16_r0 : BitVec 32) (v18_r0 : BitVec 32) : Fin 3 → Nat :=
  let c1472_i32_r0 : BitVec 32 := 1472#32
  let c64_i32_r0 : BitVec 32 := 64#32
  let v415_r0 : BitVec 32 := Scalar.subi v18_r0 c64_i32_r0
  let v416_r0 : BitVec 32 := Scalar.minsi c1472_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off184 (v14_r0 : BitVec 32) (v18_r0 : BitVec 32) : Fin 3 → Nat :=
  let c1536_i32_r0 : BitVec 32 := 1536#32
  let c64_i32_r0 : BitVec 32 := 64#32
  let v415_r0 : BitVec 32 := Scalar.subi v18_r0 c64_i32_r0
  let v416_r0 : BitVec 32 := Scalar.minsi c1536_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond121 (v12_r0 : BitVec 32) : BitVec 1 :=
  let c24_i32_221_r0 : BitVec 32 := 24#32
  let v391_r0 : BitVec 1 := Scalar.cmpi .sgt v12_r0 c24_i32_221_r0
  let v392_r0 : BitVec 32 := Scalar.extui v391_r0
  let c0_i32_222_r0 : BitVec 32 := 0#32
  let v393_r0 : BitVec 1 := Scalar.cmpi .ne v392_r0 c0_i32_222_r0
  v393_r0

def k0_off185 (v16_r0 : BitVec 32) (v18_r0 : BitVec 32) : Fin 3 → Nat :=
  let c1536_i32_r0 : BitVec 32 := 1536#32
  let c64_i32_r0 : BitVec 32 := 64#32
  let v415_r0 : BitVec 32 := Scalar.subi v18_r0 c64_i32_r0
  let v416_r0 : BitVec 32 := Scalar.minsi c1536_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off186 (v14_r0 : BitVec 32) (v18_r0 : BitVec 32) : Fin 3 → Nat :=
  let c1600_i32_r0 : BitVec 32 := 1600#32
  let c64_i32_r0 : BitVec 32 := 64#32
  let v415_r0 : BitVec 32 := Scalar.subi v18_r0 c64_i32_r0
  let v416_r0 : BitVec 32 := Scalar.minsi c1600_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond122 (v12_r0 : BitVec 32) : BitVec 1 :=
  let c25_i32_223_r0 : BitVec 32 := 25#32
  let v394_r0 : BitVec 1 := Scalar.cmpi .sgt v12_r0 c25_i32_223_r0
  let v395_r0 : BitVec 32 := Scalar.extui v394_r0
  let c0_i32_224_r0 : BitVec 32 := 0#32
  let v396_r0 : BitVec 1 := Scalar.cmpi .ne v395_r0 c0_i32_224_r0
  v396_r0

def k0_off187 (v16_r0 : BitVec 32) (v18_r0 : BitVec 32) : Fin 3 → Nat :=
  let c1600_i32_r0 : BitVec 32 := 1600#32
  let c64_i32_r0 : BitVec 32 := 64#32
  let v415_r0 : BitVec 32 := Scalar.subi v18_r0 c64_i32_r0
  let v416_r0 : BitVec 32 := Scalar.minsi c1600_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off188 (v14_r0 : BitVec 32) (v18_r0 : BitVec 32) : Fin 3 → Nat :=
  let c1664_i32_r0 : BitVec 32 := 1664#32
  let c64_i32_r0 : BitVec 32 := 64#32
  let v415_r0 : BitVec 32 := Scalar.subi v18_r0 c64_i32_r0
  let v416_r0 : BitVec 32 := Scalar.minsi c1664_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond123 (v12_r0 : BitVec 32) : BitVec 1 :=
  let c26_i32_225_r0 : BitVec 32 := 26#32
  let v397_r0 : BitVec 1 := Scalar.cmpi .sgt v12_r0 c26_i32_225_r0
  let v398_r0 : BitVec 32 := Scalar.extui v397_r0
  let c0_i32_226_r0 : BitVec 32 := 0#32
  let v399_r0 : BitVec 1 := Scalar.cmpi .ne v398_r0 c0_i32_226_r0
  v399_r0

def k0_off189 (v16_r0 : BitVec 32) (v18_r0 : BitVec 32) : Fin 3 → Nat :=
  let c1664_i32_r0 : BitVec 32 := 1664#32
  let c64_i32_r0 : BitVec 32 := 64#32
  let v415_r0 : BitVec 32 := Scalar.subi v18_r0 c64_i32_r0
  let v416_r0 : BitVec 32 := Scalar.minsi c1664_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off190 (v14_r0 : BitVec 32) (v18_r0 : BitVec 32) : Fin 3 → Nat :=
  let c1728_i32_r0 : BitVec 32 := 1728#32
  let c64_i32_r0 : BitVec 32 := 64#32
  let v415_r0 : BitVec 32 := Scalar.subi v18_r0 c64_i32_r0
  let v416_r0 : BitVec 32 := Scalar.minsi c1728_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond124 (v12_r0 : BitVec 32) : BitVec 1 :=
  let c27_i32_227_r0 : BitVec 32 := 27#32
  let v400_r0 : BitVec 1 := Scalar.cmpi .sgt v12_r0 c27_i32_227_r0
  let v401_r0 : BitVec 32 := Scalar.extui v400_r0
  let c0_i32_228_r0 : BitVec 32 := 0#32
  let v402_r0 : BitVec 1 := Scalar.cmpi .ne v401_r0 c0_i32_228_r0
  v402_r0

def k0_off191 (v16_r0 : BitVec 32) (v18_r0 : BitVec 32) : Fin 3 → Nat :=
  let c1728_i32_r0 : BitVec 32 := 1728#32
  let c64_i32_r0 : BitVec 32 := 64#32
  let v415_r0 : BitVec 32 := Scalar.subi v18_r0 c64_i32_r0
  let v416_r0 : BitVec 32 := Scalar.minsi c1728_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off192 (v14_r0 : BitVec 32) (v18_r0 : BitVec 32) : Fin 3 → Nat :=
  let c1792_i32_r0 : BitVec 32 := 1792#32
  let c64_i32_r0 : BitVec 32 := 64#32
  let v415_r0 : BitVec 32 := Scalar.subi v18_r0 c64_i32_r0
  let v416_r0 : BitVec 32 := Scalar.minsi c1792_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond125 (v12_r0 : BitVec 32) : BitVec 1 :=
  let c28_i32_229_r0 : BitVec 32 := 28#32
  let v403_r0 : BitVec 1 := Scalar.cmpi .sgt v12_r0 c28_i32_229_r0
  let v404_r0 : BitVec 32 := Scalar.extui v403_r0
  let c0_i32_230_r0 : BitVec 32 := 0#32
  let v405_r0 : BitVec 1 := Scalar.cmpi .ne v404_r0 c0_i32_230_r0
  v405_r0

def k0_off193 (v16_r0 : BitVec 32) (v18_r0 : BitVec 32) : Fin 3 → Nat :=
  let c1792_i32_r0 : BitVec 32 := 1792#32
  let c64_i32_r0 : BitVec 32 := 64#32
  let v415_r0 : BitVec 32 := Scalar.subi v18_r0 c64_i32_r0
  let v416_r0 : BitVec 32 := Scalar.minsi c1792_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off194 (v14_r0 : BitVec 32) (v18_r0 : BitVec 32) : Fin 3 → Nat :=
  let c1856_i32_r0 : BitVec 32 := 1856#32
  let c64_i32_r0 : BitVec 32 := 64#32
  let v415_r0 : BitVec 32 := Scalar.subi v18_r0 c64_i32_r0
  let v416_r0 : BitVec 32 := Scalar.minsi c1856_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond126 (v12_r0 : BitVec 32) : BitVec 1 :=
  let c29_i32_231_r0 : BitVec 32 := 29#32
  let v406_r0 : BitVec 1 := Scalar.cmpi .sgt v12_r0 c29_i32_231_r0
  let v407_r0 : BitVec 32 := Scalar.extui v406_r0
  let c0_i32_232_r0 : BitVec 32 := 0#32
  let v408_r0 : BitVec 1 := Scalar.cmpi .ne v407_r0 c0_i32_232_r0
  v408_r0

def k0_off195 (v16_r0 : BitVec 32) (v18_r0 : BitVec 32) : Fin 3 → Nat :=
  let c1856_i32_r0 : BitVec 32 := 1856#32
  let c64_i32_r0 : BitVec 32 := 64#32
  let v415_r0 : BitVec 32 := Scalar.subi v18_r0 c64_i32_r0
  let v416_r0 : BitVec 32 := Scalar.minsi c1856_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off196 (v14_r0 : BitVec 32) (v18_r0 : BitVec 32) : Fin 3 → Nat :=
  let c1920_i32_r0 : BitVec 32 := 1920#32
  let c64_i32_r0 : BitVec 32 := 64#32
  let v415_r0 : BitVec 32 := Scalar.subi v18_r0 c64_i32_r0
  let v416_r0 : BitVec 32 := Scalar.minsi c1920_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond127 (v12_r0 : BitVec 32) : BitVec 1 :=
  let c30_i32_233_r0 : BitVec 32 := 30#32
  let v409_r0 : BitVec 1 := Scalar.cmpi .sgt v12_r0 c30_i32_233_r0
  let v410_r0 : BitVec 32 := Scalar.extui v409_r0
  let c0_i32_234_r0 : BitVec 32 := 0#32
  let v411_r0 : BitVec 1 := Scalar.cmpi .ne v410_r0 c0_i32_234_r0
  v411_r0

def k0_off197 (v16_r0 : BitVec 32) (v18_r0 : BitVec 32) : Fin 3 → Nat :=
  let c1920_i32_r0 : BitVec 32 := 1920#32
  let c64_i32_r0 : BitVec 32 := 64#32
  let v415_r0 : BitVec 32 := Scalar.subi v18_r0 c64_i32_r0
  let v416_r0 : BitVec 32 := Scalar.minsi c1920_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]
def k0_off198 (v14_r0 : BitVec 32) (v18_r0 : BitVec 32) : Fin 3 → Nat :=
  let c1984_i32_r0 : BitVec 32 := 1984#32
  let c64_i32_r0 : BitVec 32 := 64#32
  let v415_r0 : BitVec 32 := Scalar.subi v18_r0 c64_i32_r0
  let v416_r0 : BitVec 32 := Scalar.minsi c1984_i32_r0 v415_r0
  let c0_i32_237_r0 : BitVec 32 := 0#32
  let v417_r0 : BitVec 32 := Scalar.maxsi v416_r0 c0_i32_237_r0
  let v418_r0 : BitVec 32 := Scalar.addi v14_r0 v417_r0
  let c0_i32_241_r0 : BitVec 32 := 0#32
  let c0_i32_242_r0 : BitVec 32 := 0#32
  ![v418_r0.toNat, 0, 0]
def k0_cond128 (v12_r0 : BitVec 32) : BitVec 1 :=
  let c31_i32_235_r0 : BitVec 32 := 31#32
  let v412_r0 : BitVec 1 := Scalar.cmpi .sgt v12_r0 c31_i32_235_r0
  let v413_r0 : BitVec 32 := Scalar.extui v412_r0
  let c0_i32_236_r0 : BitVec 32 := 0#32
  let v414_r0 : BitVec 1 := Scalar.cmpi .ne v413_r0 c0_i32_236_r0
  v414_r0

def k0_off199 (v16_r0 : BitVec 32) (v18_r0 : BitVec 32) : Fin 3 → Nat :=
  let c1984_i32_r0 : BitVec 32 := 1984#32
  let c64_i32_r0 : BitVec 32 := 64#32
  let v415_r0 : BitVec 32 := Scalar.subi v18_r0 c64_i32_r0
  let v416_r0 : BitVec 32 := Scalar.minsi c1984_i32_r0 v415_r0
  let c0_i32_237_r0 : BitVec 32 := 0#32
  let v417_r0 : BitVec 32 := Scalar.maxsi v416_r0 c0_i32_237_r0
  let v419_r0 : BitVec 32 := Scalar.addi v16_r0 v417_r0
  let c0_i32_243_r0 : BitVec 32 := 0#32
  let c0_i32_244_r0 : BitVec 32 := 0#32
  ![v419_r0.toNat, 0, 0]

def k0_chk2_0 (v12_r0 : BitVec 32) (v14_r0 : BitVec 32) (v16_r0 : BitVec 32) (v18_r0 : BitVec 32) : Prop :=
  (∀ (k0_h65 : k0_cond65 v12_r0 = 1#1), ∀ a, (k0_off72 v16_r0 v18_r0) a + S64x8x128.size a ≤ S2048x8x128.size a) ∧
  (∀ (k0_h65 : k0_cond65 v12_r0 = 1#1), ∀ a, (k0_off73 v14_r0 v18_r0) a + S64x8x128.size a ≤ S2048x8x128.size a) ∧
  (∀ (k0_h65 : k0_cond65 v12_r0 = 1#1), ∀ (hinb : ∀ a, (k0_off73 v14_r0 v18_r0) a + S64x8x128.size a ≤ S2048x8x128.size a), (Rect.unit (s := S2048x8x128) (k0_off73 v14_r0 v18_r0) S64x8x128.size hinb).WholeWords (EltTy.packing .bf16)) ∧
  (∀ (k0_h65 : k0_cond65 v12_r0 = 1#1), ∀ (hinb : ∀ a, (k0_off72 v16_r0 v18_r0) a + S64x8x128.size a ≤ S2048x8x128.size a), (Rect.unit (s := S2048x8x128) (k0_off72 v16_r0 v18_r0) S64x8x128.size hinb).WholeWords (EltTy.packing .bf16)) ∧
  (∀ (k0_h66 : k0_cond66 v12_r0 = 1#1), ∀ a, (k0_off74 v16_r0 v18_r0) a + S64x8x128.size a ≤ S2048x8x128.size a) ∧
  (∀ (k0_h66 : k0_cond66 v12_r0 = 1#1), ∀ a, (k0_off75 v14_r0 v18_r0) a + S64x8x128.size a ≤ S2048x8x128.size a) ∧
  (∀ (k0_h66 : k0_cond66 v12_r0 = 1#1), ∀ (hinb : ∀ a, (k0_off75 v14_r0 v18_r0) a + S64x8x128.size a ≤ S2048x8x128.size a), (Rect.unit (s := S2048x8x128) (k0_off75 v14_r0 v18_r0) S64x8x128.size hinb).WholeWords (EltTy.packing .bf16)) ∧
  (∀ (k0_h66 : k0_cond66 v12_r0 = 1#1), ∀ (hinb : ∀ a, (k0_off74 v16_r0 v18_r0) a + S64x8x128.size a ≤ S2048x8x128.size a), (Rect.unit (s := S2048x8x128) (k0_off74 v16_r0 v18_r0) S64x8x128.size hinb).WholeWords (EltTy.packing .bf16)) ∧
  (∀ (k0_h67 : k0_cond67 v12_r0 = 1#1), ∀ a, (k0_off76 v16_r0 v18_r0) a + S64x8x128.size a ≤ S2048x8x128.size a) ∧
  (∀ (k0_h67 : k0_cond67 v12_r0 = 1#1), ∀ a, (k0_off77 v14_r0 v18_r0) a + S64x8x128.size a ≤ S2048x8x128.size a) ∧
  (∀ (k0_h67 : k0_cond67 v12_r0 = 1#1), ∀ (hinb : ∀ a, (k0_off77 v14_r0 v18_r0) a + S64x8x128.size a ≤ S2048x8x128.size a), (Rect.unit (s := S2048x8x128) (k0_off77 v14_r0 v18_r0) S64x8x128.size hinb).WholeWords (EltTy.packing .bf16)) ∧
  (∀ (k0_h67 : k0_cond67 v12_r0 = 1#1), ∀ (hinb : ∀ a, (k0_off76 v16_r0 v18_r0) a + S64x8x128.size a ≤ S2048x8x128.size a), (Rect.unit (s := S2048x8x128) (k0_off76 v16_r0 v18_r0) S64x8x128.size hinb).WholeWords (EltTy.packing .bf16)) ∧
  (∀ (k0_h68 : k0_cond68 v12_r0 = 1#1), ∀ a, (k0_off78 v16_r0 v18_r0) a + S64x8x128.size a ≤ S2048x8x128.size a) ∧
  (∀ (k0_h68 : k0_cond68 v12_r0 = 1#1), ∀ a, (k0_off79 v14_r0 v18_r0) a + S64x8x128.size a ≤ S2048x8x128.size a) ∧
  (∀ (k0_h68 : k0_cond68 v12_r0 = 1#1), ∀ (hinb : ∀ a, (k0_off79 v14_r0 v18_r0) a + S64x8x128.size a ≤ S2048x8x128.size a), (Rect.unit (s := S2048x8x128) (k0_off79 v14_r0 v18_r0) S64x8x128.size hinb).WholeWords (EltTy.packing .bf16)) ∧
  (∀ (k0_h68 : k0_cond68 v12_r0 = 1#1), ∀ (hinb : ∀ a, (k0_off78 v16_r0 v18_r0) a + S64x8x128.size a ≤ S2048x8x128.size a), (Rect.unit (s := S2048x8x128) (k0_off78 v16_r0 v18_r0) S64x8x128.size hinb).WholeWords (EltTy.packing .bf16)) ∧
  (∀ (k0_h69 : k0_cond69 v12_r0 = 1#1), ∀ a, (k0_off80 v16_r0 v18_r0) a + S64x8x128.size a ≤ S2048x8x128.size a) ∧
  (∀ (k0_h69 : k0_cond69 v12_r0 = 1#1), ∀ a, (k0_off81 v14_r0 v18_r0) a + S64x8x128.size a ≤ S2048x8x128.size a) ∧
  (∀ (k0_h69 : k0_cond69 v12_r0 = 1#1), ∀ (hinb : ∀ a, (k0_off81 v14_r0 v18_r0) a + S64x8x128.size a ≤ S2048x8x128.size a), (Rect.unit (s := S2048x8x128) (k0_off81 v14_r0 v18_r0) S64x8x128.size hinb).WholeWords (EltTy.packing .bf16)) ∧
  (∀ (k0_h69 : k0_cond69 v12_r0 = 1#1), ∀ (hinb : ∀ a, (k0_off80 v16_r0 v18_r0) a + S64x8x128.size a ≤ S2048x8x128.size a), (Rect.unit (s := S2048x8x128) (k0_off80 v16_r0 v18_r0) S64x8x128.size hinb).WholeWords (EltTy.packing .bf16)) ∧
  (∀ (k0_h70 : k0_cond70 v12_r0 = 1#1), ∀ a, (k0_off82 v16_r0 v18_r0) a + S64x8x128.size a ≤ S2048x8x128.size a) ∧
  (∀ (k0_h70 : k0_cond70 v12_r0 = 1#1), ∀ a, (k0_off83 v14_r0 v18_r0) a + S64x8x128.size a ≤ S2048x8x128.size a) ∧
  (∀ (k0_h70 : k0_cond70 v12_r0 = 1#1), ∀ (hinb : ∀ a, (k0_off83 v14_r0 v18_r0) a + S64x8x128.size a ≤ S2048x8x128.size a), (Rect.unit (s := S2048x8x128) (k0_off83 v14_r0 v18_r0) S64x8x128.size hinb).WholeWords (EltTy.packing .bf16)) ∧
  (∀ (k0_h70 : k0_cond70 v12_r0 = 1#1), ∀ (hinb : ∀ a, (k0_off82 v16_r0 v18_r0) a + S64x8x128.size a ≤ S2048x8x128.size a), (Rect.unit (s := S2048x8x128) (k0_off82 v16_r0 v18_r0) S64x8x128.size hinb).WholeWords (EltTy.packing .bf16)) ∧
  (∀ (k0_h71 : k0_cond71 v12_r0 = 1#1), ∀ a, (k0_off84 v16_r0 v18_r0) a + S64x8x128.size a ≤ S2048x8x128.size a) ∧
  (∀ (k0_h71 : k0_cond71 v12_r0 = 1#1), ∀ a, (k0_off85 v14_r0 v18_r0) a + S64x8x128.size a ≤ S2048x8x128.size a) ∧
  (∀ (k0_h71 : k0_cond71 v12_r0 = 1#1), ∀ (hinb : ∀ a, (k0_off85 v14_r0 v18_r0) a + S64x8x128.size a ≤ S2048x8x128.size a), (Rect.unit (s := S2048x8x128) (k0_off85 v14_r0 v18_r0) S64x8x128.size hinb).WholeWords (EltTy.packing .bf16)) ∧
  (∀ (k0_h71 : k0_cond71 v12_r0 = 1#1), ∀ (hinb : ∀ a, (k0_off84 v16_r0 v18_r0) a + S64x8x128.size a ≤ S2048x8x128.size a), (Rect.unit (s := S2048x8x128) (k0_off84 v16_r0 v18_r0) S64x8x128.size hinb).WholeWords (EltTy.packing .bf16)) ∧
  (∀ (k0_h72 : k0_cond72 v12_r0 = 1#1), ∀ a, (k0_off86 v16_r0 v18_r0) a + S64x8x128.size a ≤ S2048x8x128.size a) ∧
  (∀ (k0_h72 : k0_cond72 v12_r0 = 1#1), ∀ a, (k0_off87 v14_r0 v18_r0) a + S64x8x128.size a ≤ S2048x8x128.size a) ∧
  (∀ (k0_h72 : k0_cond72 v12_r0 = 1#1), ∀ (hinb : ∀ a, (k0_off87 v14_r0 v18_r0) a + S64x8x128.size a ≤ S2048x8x128.size a), (Rect.unit (s := S2048x8x128) (k0_off87 v14_r0 v18_r0) S64x8x128.size hinb).WholeWords (EltTy.packing .bf16)) ∧
  (∀ (k0_h72 : k0_cond72 v12_r0 = 1#1), ∀ (hinb : ∀ a, (k0_off86 v16_r0 v18_r0) a + S64x8x128.size a ≤ S2048x8x128.size a), (Rect.unit (s := S2048x8x128) (k0_off86 v16_r0 v18_r0) S64x8x128.size hinb).WholeWords (EltTy.packing .bf16))
def k0_chk2_1 (v12_r0 : BitVec 32) (v14_r0 : BitVec 32) (v16_r0 : BitVec 32) (v18_r0 : BitVec 32) : Prop :=
  (∀ (k0_h73 : k0_cond73 v12_r0 = 1#1), ∀ a, (k0_off88 v16_r0 v18_r0) a + S64x8x128.size a ≤ S2048x8x128.size a) ∧
  (∀ (k0_h73 : k0_cond73 v12_r0 = 1#1), ∀ a, (k0_off89 v14_r0 v18_r0) a + S64x8x128.size a ≤ S2048x8x128.size a) ∧
  (∀ (k0_h73 : k0_cond73 v12_r0 = 1#1), ∀ (hinb : ∀ a, (k0_off89 v14_r0 v18_r0) a + S64x8x128.size a ≤ S2048x8x128.size a), (Rect.unit (s := S2048x8x128) (k0_off89 v14_r0 v18_r0) S64x8x128.size hinb).WholeWords (EltTy.packing .bf16)) ∧
  (∀ (k0_h73 : k0_cond73 v12_r0 = 1#1), ∀ (hinb : ∀ a, (k0_off88 v16_r0 v18_r0) a + S64x8x128.size a ≤ S2048x8x128.size a), (Rect.unit (s := S2048x8x128) (k0_off88 v16_r0 v18_r0) S64x8x128.size hinb).WholeWords (EltTy.packing .bf16)) ∧
  (∀ (k0_h74 : k0_cond74 v12_r0 = 1#1), ∀ a, (k0_off90 v16_r0 v18_r0) a + S64x8x128.size a ≤ S2048x8x128.size a) ∧
  (∀ (k0_h74 : k0_cond74 v12_r0 = 1#1), ∀ a, (k0_off91 v14_r0 v18_r0) a + S64x8x128.size a ≤ S2048x8x128.size a) ∧
  (∀ (k0_h74 : k0_cond74 v12_r0 = 1#1), ∀ (hinb : ∀ a, (k0_off91 v14_r0 v18_r0) a + S64x8x128.size a ≤ S2048x8x128.size a), (Rect.unit (s := S2048x8x128) (k0_off91 v14_r0 v18_r0) S64x8x128.size hinb).WholeWords (EltTy.packing .bf16)) ∧
  (∀ (k0_h74 : k0_cond74 v12_r0 = 1#1), ∀ (hinb : ∀ a, (k0_off90 v16_r0 v18_r0) a + S64x8x128.size a ≤ S2048x8x128.size a), (Rect.unit (s := S2048x8x128) (k0_off90 v16_r0 v18_r0) S64x8x128.size hinb).WholeWords (EltTy.packing .bf16)) ∧
  (∀ (k0_h75 : k0_cond75 v12_r0 = 1#1), ∀ a, (k0_off92 v16_r0 v18_r0) a + S64x8x128.size a ≤ S2048x8x128.size a) ∧
  (∀ (k0_h75 : k0_cond75 v12_r0 = 1#1), ∀ a, (k0_off93 v14_r0 v18_r0) a + S64x8x128.size a ≤ S2048x8x128.size a) ∧
  (∀ (k0_h75 : k0_cond75 v12_r0 = 1#1), ∀ (hinb : ∀ a, (k0_off93 v14_r0 v18_r0) a + S64x8x128.size a ≤ S2048x8x128.size a), (Rect.unit (s := S2048x8x128) (k0_off93 v14_r0 v18_r0) S64x8x128.size hinb).WholeWords (EltTy.packing .bf16)) ∧
  (∀ (k0_h75 : k0_cond75 v12_r0 = 1#1), ∀ (hinb : ∀ a, (k0_off92 v16_r0 v18_r0) a + S64x8x128.size a ≤ S2048x8x128.size a), (Rect.unit (s := S2048x8x128) (k0_off92 v16_r0 v18_r0) S64x8x128.size hinb).WholeWords (EltTy.packing .bf16)) ∧
  (∀ (k0_h76 : k0_cond76 v12_r0 = 1#1), ∀ a, (k0_off94 v16_r0 v18_r0) a + S64x8x128.size a ≤ S2048x8x128.size a) ∧
  (∀ (k0_h76 : k0_cond76 v12_r0 = 1#1), ∀ a, (k0_off95 v14_r0 v18_r0) a + S64x8x128.size a ≤ S2048x8x128.size a) ∧
  (∀ (k0_h76 : k0_cond76 v12_r0 = 1#1), ∀ (hinb : ∀ a, (k0_off95 v14_r0 v18_r0) a + S64x8x128.size a ≤ S2048x8x128.size a), (Rect.unit (s := S2048x8x128) (k0_off95 v14_r0 v18_r0) S64x8x128.size hinb).WholeWords (EltTy.packing .bf16)) ∧
  (∀ (k0_h76 : k0_cond76 v12_r0 = 1#1), ∀ (hinb : ∀ a, (k0_off94 v16_r0 v18_r0) a + S64x8x128.size a ≤ S2048x8x128.size a), (Rect.unit (s := S2048x8x128) (k0_off94 v16_r0 v18_r0) S64x8x128.size hinb).WholeWords (EltTy.packing .bf16)) ∧
  (∀ (k0_h77 : k0_cond77 v12_r0 = 1#1), ∀ a, (k0_off96 v16_r0 v18_r0) a + S64x8x128.size a ≤ S2048x8x128.size a) ∧
  (∀ (k0_h77 : k0_cond77 v12_r0 = 1#1), ∀ a, (k0_off97 v14_r0 v18_r0) a + S64x8x128.size a ≤ S2048x8x128.size a) ∧
  (∀ (k0_h77 : k0_cond77 v12_r0 = 1#1), ∀ (hinb : ∀ a, (k0_off97 v14_r0 v18_r0) a + S64x8x128.size a ≤ S2048x8x128.size a), (Rect.unit (s := S2048x8x128) (k0_off97 v14_r0 v18_r0) S64x8x128.size hinb).WholeWords (EltTy.packing .bf16)) ∧
  (∀ (k0_h77 : k0_cond77 v12_r0 = 1#1), ∀ (hinb : ∀ a, (k0_off96 v16_r0 v18_r0) a + S64x8x128.size a ≤ S2048x8x128.size a), (Rect.unit (s := S2048x8x128) (k0_off96 v16_r0 v18_r0) S64x8x128.size hinb).WholeWords (EltTy.packing .bf16)) ∧
  (∀ (k0_h78 : k0_cond78 v12_r0 = 1#1), ∀ a, (k0_off98 v16_r0 v18_r0) a + S64x8x128.size a ≤ S2048x8x128.size a) ∧
  (∀ (k0_h78 : k0_cond78 v12_r0 = 1#1), ∀ a, (k0_off99 v14_r0 v18_r0) a + S64x8x128.size a ≤ S2048x8x128.size a) ∧
  (∀ (k0_h78 : k0_cond78 v12_r0 = 1#1), ∀ (hinb : ∀ a, (k0_off99 v14_r0 v18_r0) a + S64x8x128.size a ≤ S2048x8x128.size a), (Rect.unit (s := S2048x8x128) (k0_off99 v14_r0 v18_r0) S64x8x128.size hinb).WholeWords (EltTy.packing .bf16)) ∧
  (∀ (k0_h78 : k0_cond78 v12_r0 = 1#1), ∀ (hinb : ∀ a, (k0_off98 v16_r0 v18_r0) a + S64x8x128.size a ≤ S2048x8x128.size a), (Rect.unit (s := S2048x8x128) (k0_off98 v16_r0 v18_r0) S64x8x128.size hinb).WholeWords (EltTy.packing .bf16)) ∧
  (∀ (k0_h79 : k0_cond79 v12_r0 = 1#1), ∀ a, (k0_off100 v16_r0 v18_r0) a + S64x8x128.size a ≤ S2048x8x128.size a) ∧
  (∀ (k0_h79 : k0_cond79 v12_r0 = 1#1), ∀ a, (k0_off101 v14_r0 v18_r0) a + S64x8x128.size a ≤ S2048x8x128.size a) ∧
  (∀ (k0_h79 : k0_cond79 v12_r0 = 1#1), ∀ (hinb : ∀ a, (k0_off101 v14_r0 v18_r0) a + S64x8x128.size a ≤ S2048x8x128.size a), (Rect.unit (s := S2048x8x128) (k0_off101 v14_r0 v18_r0) S64x8x128.size hinb).WholeWords (EltTy.packing .bf16)) ∧
  (∀ (k0_h79 : k0_cond79 v12_r0 = 1#1), ∀ (hinb : ∀ a, (k0_off100 v16_r0 v18_r0) a + S64x8x128.size a ≤ S2048x8x128.size a), (Rect.unit (s := S2048x8x128) (k0_off100 v16_r0 v18_r0) S64x8x128.size hinb).WholeWords (EltTy.packing .bf16)) ∧
  (∀ (k0_h80 : k0_cond80 v12_r0 = 1#1), ∀ a, (k0_off102 v16_r0 v18_r0) a + S64x8x128.size a ≤ S2048x8x128.size a) ∧
  (∀ (k0_h80 : k0_cond80 v12_r0 = 1#1), ∀ a, (k0_off103 v14_r0 v18_r0) a + S64x8x128.size a ≤ S2048x8x128.size a) ∧
  (∀ (k0_h80 : k0_cond80 v12_r0 = 1#1), ∀ (hinb : ∀ a, (k0_off103 v14_r0 v18_r0) a + S64x8x128.size a ≤ S2048x8x128.size a), (Rect.unit (s := S2048x8x128) (k0_off103 v14_r0 v18_r0) S64x8x128.size hinb).WholeWords (EltTy.packing .bf16)) ∧
  (∀ (k0_h80 : k0_cond80 v12_r0 = 1#1), ∀ (hinb : ∀ a, (k0_off102 v16_r0 v18_r0) a + S64x8x128.size a ≤ S2048x8x128.size a), (Rect.unit (s := S2048x8x128) (k0_off102 v16_r0 v18_r0) S64x8x128.size hinb).WholeWords (EltTy.packing .bf16))
def k0_chk2_2 (v12_r0 : BitVec 32) (v14_r0 : BitVec 32) (v16_r0 : BitVec 32) (v18_r0 : BitVec 32) : Prop :=
  (∀ (k0_h81 : k0_cond81 v12_r0 = 1#1), ∀ a, (k0_off104 v16_r0 v18_r0) a + S64x8x128.size a ≤ S2048x8x128.size a) ∧
  (∀ (k0_h81 : k0_cond81 v12_r0 = 1#1), ∀ a, (k0_off105 v14_r0 v18_r0) a + S64x8x128.size a ≤ S2048x8x128.size a) ∧
  (∀ (k0_h81 : k0_cond81 v12_r0 = 1#1), ∀ (hinb : ∀ a, (k0_off105 v14_r0 v18_r0) a + S64x8x128.size a ≤ S2048x8x128.size a), (Rect.unit (s := S2048x8x128) (k0_off105 v14_r0 v18_r0) S64x8x128.size hinb).WholeWords (EltTy.packing .bf16)) ∧
  (∀ (k0_h81 : k0_cond81 v12_r0 = 1#1), ∀ (hinb : ∀ a, (k0_off104 v16_r0 v18_r0) a + S64x8x128.size a ≤ S2048x8x128.size a), (Rect.unit (s := S2048x8x128) (k0_off104 v16_r0 v18_r0) S64x8x128.size hinb).WholeWords (EltTy.packing .bf16)) ∧
  (∀ (k0_h82 : k0_cond82 v12_r0 = 1#1), ∀ a, (k0_off106 v16_r0 v18_r0) a + S64x8x128.size a ≤ S2048x8x128.size a) ∧
  (∀ (k0_h82 : k0_cond82 v12_r0 = 1#1), ∀ a, (k0_off107 v14_r0 v18_r0) a + S64x8x128.size a ≤ S2048x8x128.size a) ∧
  (∀ (k0_h82 : k0_cond82 v12_r0 = 1#1), ∀ (hinb : ∀ a, (k0_off107 v14_r0 v18_r0) a + S64x8x128.size a ≤ S2048x8x128.size a), (Rect.unit (s := S2048x8x128) (k0_off107 v14_r0 v18_r0) S64x8x128.size hinb).WholeWords (EltTy.packing .bf16)) ∧
  (∀ (k0_h82 : k0_cond82 v12_r0 = 1#1), ∀ (hinb : ∀ a, (k0_off106 v16_r0 v18_r0) a + S64x8x128.size a ≤ S2048x8x128.size a), (Rect.unit (s := S2048x8x128) (k0_off106 v16_r0 v18_r0) S64x8x128.size hinb).WholeWords (EltTy.packing .bf16)) ∧
  (∀ (k0_h83 : k0_cond83 v12_r0 = 1#1), ∀ a, (k0_off108 v16_r0 v18_r0) a + S64x8x128.size a ≤ S2048x8x128.size a) ∧
  (∀ (k0_h83 : k0_cond83 v12_r0 = 1#1), ∀ a, (k0_off109 v14_r0 v18_r0) a + S64x8x128.size a ≤ S2048x8x128.size a) ∧
  (∀ (k0_h83 : k0_cond83 v12_r0 = 1#1), ∀ (hinb : ∀ a, (k0_off109 v14_r0 v18_r0) a + S64x8x128.size a ≤ S2048x8x128.size a), (Rect.unit (s := S2048x8x128) (k0_off109 v14_r0 v18_r0) S64x8x128.size hinb).WholeWords (EltTy.packing .bf16)) ∧
  (∀ (k0_h83 : k0_cond83 v12_r0 = 1#1), ∀ (hinb : ∀ a, (k0_off108 v16_r0 v18_r0) a + S64x8x128.size a ≤ S2048x8x128.size a), (Rect.unit (s := S2048x8x128) (k0_off108 v16_r0 v18_r0) S64x8x128.size hinb).WholeWords (EltTy.packing .bf16)) ∧
  (∀ (k0_h84 : k0_cond84 v12_r0 = 1#1), ∀ a, (k0_off110 v16_r0 v18_r0) a + S64x8x128.size a ≤ S2048x8x128.size a) ∧
  (∀ (k0_h84 : k0_cond84 v12_r0 = 1#1), ∀ a, (k0_off111 v14_r0 v18_r0) a + S64x8x128.size a ≤ S2048x8x128.size a) ∧
  (∀ (k0_h84 : k0_cond84 v12_r0 = 1#1), ∀ (hinb : ∀ a, (k0_off111 v14_r0 v18_r0) a + S64x8x128.size a ≤ S2048x8x128.size a), (Rect.unit (s := S2048x8x128) (k0_off111 v14_r0 v18_r0) S64x8x128.size hinb).WholeWords (EltTy.packing .bf16)) ∧
  (∀ (k0_h84 : k0_cond84 v12_r0 = 1#1), ∀ (hinb : ∀ a, (k0_off110 v16_r0 v18_r0) a + S64x8x128.size a ≤ S2048x8x128.size a), (Rect.unit (s := S2048x8x128) (k0_off110 v16_r0 v18_r0) S64x8x128.size hinb).WholeWords (EltTy.packing .bf16)) ∧
  (∀ (k0_h85 : k0_cond85 v12_r0 = 1#1), ∀ a, (k0_off112 v16_r0 v18_r0) a + S64x8x128.size a ≤ S2048x8x128.size a) ∧
  (∀ (k0_h85 : k0_cond85 v12_r0 = 1#1), ∀ a, (k0_off113 v14_r0 v18_r0) a + S64x8x128.size a ≤ S2048x8x128.size a) ∧
  (∀ (k0_h85 : k0_cond85 v12_r0 = 1#1), ∀ (hinb : ∀ a, (k0_off113 v14_r0 v18_r0) a + S64x8x128.size a ≤ S2048x8x128.size a), (Rect.unit (s := S2048x8x128) (k0_off113 v14_r0 v18_r0) S64x8x128.size hinb).WholeWords (EltTy.packing .bf16)) ∧
  (∀ (k0_h85 : k0_cond85 v12_r0 = 1#1), ∀ (hinb : ∀ a, (k0_off112 v16_r0 v18_r0) a + S64x8x128.size a ≤ S2048x8x128.size a), (Rect.unit (s := S2048x8x128) (k0_off112 v16_r0 v18_r0) S64x8x128.size hinb).WholeWords (EltTy.packing .bf16)) ∧
  (∀ (k0_h86 : k0_cond86 v12_r0 = 1#1), ∀ a, (k0_off114 v16_r0 v18_r0) a + S64x8x128.size a ≤ S2048x8x128.size a) ∧
  (∀ (k0_h86 : k0_cond86 v12_r0 = 1#1), ∀ a, (k0_off115 v14_r0 v18_r0) a + S64x8x128.size a ≤ S2048x8x128.size a) ∧
  (∀ (k0_h86 : k0_cond86 v12_r0 = 1#1), ∀ (hinb : ∀ a, (k0_off115 v14_r0 v18_r0) a + S64x8x128.size a ≤ S2048x8x128.size a), (Rect.unit (s := S2048x8x128) (k0_off115 v14_r0 v18_r0) S64x8x128.size hinb).WholeWords (EltTy.packing .bf16)) ∧
  (∀ (k0_h86 : k0_cond86 v12_r0 = 1#1), ∀ (hinb : ∀ a, (k0_off114 v16_r0 v18_r0) a + S64x8x128.size a ≤ S2048x8x128.size a), (Rect.unit (s := S2048x8x128) (k0_off114 v16_r0 v18_r0) S64x8x128.size hinb).WholeWords (EltTy.packing .bf16)) ∧
  (∀ (k0_h87 : k0_cond87 v12_r0 = 1#1), ∀ a, (k0_off116 v16_r0 v18_r0) a + S64x8x128.size a ≤ S2048x8x128.size a) ∧
  (∀ (k0_h87 : k0_cond87 v12_r0 = 1#1), ∀ a, (k0_off117 v14_r0 v18_r0) a + S64x8x128.size a ≤ S2048x8x128.size a) ∧
  (∀ (k0_h87 : k0_cond87 v12_r0 = 1#1), ∀ (hinb : ∀ a, (k0_off117 v14_r0 v18_r0) a + S64x8x128.size a ≤ S2048x8x128.size a), (Rect.unit (s := S2048x8x128) (k0_off117 v14_r0 v18_r0) S64x8x128.size hinb).WholeWords (EltTy.packing .bf16)) ∧
  (∀ (k0_h87 : k0_cond87 v12_r0 = 1#1), ∀ (hinb : ∀ a, (k0_off116 v16_r0 v18_r0) a + S64x8x128.size a ≤ S2048x8x128.size a), (Rect.unit (s := S2048x8x128) (k0_off116 v16_r0 v18_r0) S64x8x128.size hinb).WholeWords (EltTy.packing .bf16)) ∧
  (∀ (k0_h88 : k0_cond88 v12_r0 = 1#1), ∀ a, (k0_off118 v16_r0 v18_r0) a + S64x8x128.size a ≤ S2048x8x128.size a) ∧
  (∀ (k0_h88 : k0_cond88 v12_r0 = 1#1), ∀ a, (k0_off119 v14_r0 v18_r0) a + S64x8x128.size a ≤ S2048x8x128.size a) ∧
  (∀ (k0_h88 : k0_cond88 v12_r0 = 1#1), ∀ (hinb : ∀ a, (k0_off119 v14_r0 v18_r0) a + S64x8x128.size a ≤ S2048x8x128.size a), (Rect.unit (s := S2048x8x128) (k0_off119 v14_r0 v18_r0) S64x8x128.size hinb).WholeWords (EltTy.packing .bf16)) ∧
  (∀ (k0_h88 : k0_cond88 v12_r0 = 1#1), ∀ (hinb : ∀ a, (k0_off118 v16_r0 v18_r0) a + S64x8x128.size a ≤ S2048x8x128.size a), (Rect.unit (s := S2048x8x128) (k0_off118 v16_r0 v18_r0) S64x8x128.size hinb).WholeWords (EltTy.packing .bf16))
def k0_chk2_3 (v12_r0 : BitVec 32) (v14_r0 : BitVec 32) (v16_r0 : BitVec 32) (v18_r0 : BitVec 32) : Prop :=
  (∀ (k0_h89 : k0_cond89 v12_r0 = 1#1), ∀ a, (k0_off120 v16_r0 v18_r0) a + S64x8x128.size a ≤ S2048x8x128.size a) ∧
  (∀ (k0_h89 : k0_cond89 v12_r0 = 1#1), ∀ a, (k0_off121 v14_r0 v18_r0) a + S64x8x128.size a ≤ S2048x8x128.size a) ∧
  (∀ (k0_h89 : k0_cond89 v12_r0 = 1#1), ∀ (hinb : ∀ a, (k0_off121 v14_r0 v18_r0) a + S64x8x128.size a ≤ S2048x8x128.size a), (Rect.unit (s := S2048x8x128) (k0_off121 v14_r0 v18_r0) S64x8x128.size hinb).WholeWords (EltTy.packing .bf16)) ∧
  (∀ (k0_h89 : k0_cond89 v12_r0 = 1#1), ∀ (hinb : ∀ a, (k0_off120 v16_r0 v18_r0) a + S64x8x128.size a ≤ S2048x8x128.size a), (Rect.unit (s := S2048x8x128) (k0_off120 v16_r0 v18_r0) S64x8x128.size hinb).WholeWords (EltTy.packing .bf16)) ∧
  (∀ (k0_h90 : k0_cond90 v12_r0 = 1#1), ∀ a, (k0_off122 v16_r0 v18_r0) a + S64x8x128.size a ≤ S2048x8x128.size a) ∧
  (∀ (k0_h90 : k0_cond90 v12_r0 = 1#1), ∀ a, (k0_off123 v14_r0 v18_r0) a + S64x8x128.size a ≤ S2048x8x128.size a) ∧
  (∀ (k0_h90 : k0_cond90 v12_r0 = 1#1), ∀ (hinb : ∀ a, (k0_off123 v14_r0 v18_r0) a + S64x8x128.size a ≤ S2048x8x128.size a), (Rect.unit (s := S2048x8x128) (k0_off123 v14_r0 v18_r0) S64x8x128.size hinb).WholeWords (EltTy.packing .bf16)) ∧
  (∀ (k0_h90 : k0_cond90 v12_r0 = 1#1), ∀ (hinb : ∀ a, (k0_off122 v16_r0 v18_r0) a + S64x8x128.size a ≤ S2048x8x128.size a), (Rect.unit (s := S2048x8x128) (k0_off122 v16_r0 v18_r0) S64x8x128.size hinb).WholeWords (EltTy.packing .bf16)) ∧
  (∀ (k0_h91 : k0_cond91 v12_r0 = 1#1), ∀ a, (k0_off124 v16_r0 v18_r0) a + S64x8x128.size a ≤ S2048x8x128.size a) ∧
  (∀ (k0_h91 : k0_cond91 v12_r0 = 1#1), ∀ a, (k0_off125 v14_r0 v18_r0) a + S64x8x128.size a ≤ S2048x8x128.size a) ∧
  (∀ (k0_h91 : k0_cond91 v12_r0 = 1#1), ∀ (hinb : ∀ a, (k0_off125 v14_r0 v18_r0) a + S64x8x128.size a ≤ S2048x8x128.size a), (Rect.unit (s := S2048x8x128) (k0_off125 v14_r0 v18_r0) S64x8x128.size hinb).WholeWords (EltTy.packing .bf16)) ∧
  (∀ (k0_h91 : k0_cond91 v12_r0 = 1#1), ∀ (hinb : ∀ a, (k0_off124 v16_r0 v18_r0) a + S64x8x128.size a ≤ S2048x8x128.size a), (Rect.unit (s := S2048x8x128) (k0_off124 v16_r0 v18_r0) S64x8x128.size hinb).WholeWords (EltTy.packing .bf16)) ∧
  (∀ (k0_h92 : k0_cond92 v12_r0 = 1#1), ∀ a, (k0_off126 v16_r0 v18_r0) a + S64x8x128.size a ≤ S2048x8x128.size a) ∧
  (∀ (k0_h92 : k0_cond92 v12_r0 = 1#1), ∀ a, (k0_off127 v14_r0 v18_r0) a + S64x8x128.size a ≤ S2048x8x128.size a) ∧
  (∀ (k0_h92 : k0_cond92 v12_r0 = 1#1), ∀ (hinb : ∀ a, (k0_off127 v14_r0 v18_r0) a + S64x8x128.size a ≤ S2048x8x128.size a), (Rect.unit (s := S2048x8x128) (k0_off127 v14_r0 v18_r0) S64x8x128.size hinb).WholeWords (EltTy.packing .bf16)) ∧
  (∀ (k0_h92 : k0_cond92 v12_r0 = 1#1), ∀ (hinb : ∀ a, (k0_off126 v16_r0 v18_r0) a + S64x8x128.size a ≤ S2048x8x128.size a), (Rect.unit (s := S2048x8x128) (k0_off126 v16_r0 v18_r0) S64x8x128.size hinb).WholeWords (EltTy.packing .bf16)) ∧
  (∀ (k0_h93 : k0_cond93 v12_r0 = 1#1), ∀ a, (k0_off128 v16_r0 v18_r0) a + S64x8x128.size a ≤ S2048x8x128.size a) ∧
  (∀ (k0_h93 : k0_cond93 v12_r0 = 1#1), ∀ a, (k0_off129 v14_r0 v18_r0) a + S64x8x128.size a ≤ S2048x8x128.size a) ∧
  (∀ (k0_h93 : k0_cond93 v12_r0 = 1#1), ∀ (hinb : ∀ a, (k0_off129 v14_r0 v18_r0) a + S64x8x128.size a ≤ S2048x8x128.size a), (Rect.unit (s := S2048x8x128) (k0_off129 v14_r0 v18_r0) S64x8x128.size hinb).WholeWords (EltTy.packing .bf16)) ∧
  (∀ (k0_h93 : k0_cond93 v12_r0 = 1#1), ∀ (hinb : ∀ a, (k0_off128 v16_r0 v18_r0) a + S64x8x128.size a ≤ S2048x8x128.size a), (Rect.unit (s := S2048x8x128) (k0_off128 v16_r0 v18_r0) S64x8x128.size hinb).WholeWords (EltTy.packing .bf16)) ∧
  (∀ (k0_h94 : k0_cond94 v12_r0 = 1#1), ∀ a, (k0_off130 v16_r0 v18_r0) a + S64x8x128.size a ≤ S2048x8x128.size a) ∧
  (∀ (k0_h94 : k0_cond94 v12_r0 = 1#1), ∀ a, (k0_off131 v14_r0 v18_r0) a + S64x8x128.size a ≤ S2048x8x128.size a) ∧
  (∀ (k0_h94 : k0_cond94 v12_r0 = 1#1), ∀ (hinb : ∀ a, (k0_off131 v14_r0 v18_r0) a + S64x8x128.size a ≤ S2048x8x128.size a), (Rect.unit (s := S2048x8x128) (k0_off131 v14_r0 v18_r0) S64x8x128.size hinb).WholeWords (EltTy.packing .bf16)) ∧
  (∀ (k0_h94 : k0_cond94 v12_r0 = 1#1), ∀ (hinb : ∀ a, (k0_off130 v16_r0 v18_r0) a + S64x8x128.size a ≤ S2048x8x128.size a), (Rect.unit (s := S2048x8x128) (k0_off130 v16_r0 v18_r0) S64x8x128.size hinb).WholeWords (EltTy.packing .bf16)) ∧
  (∀ (k0_h95 : k0_cond95 v12_r0 = 1#1), ∀ a, (k0_off132 v16_r0 v18_r0) a + S64x8x128.size a ≤ S2048x8x128.size a) ∧
  (∀ (k0_h95 : k0_cond95 v12_r0 = 1#1), ∀ a, (k0_off133 v14_r0 v18_r0) a + S64x8x128.size a ≤ S2048x8x128.size a) ∧
  (∀ (k0_h95 : k0_cond95 v12_r0 = 1#1), ∀ (hinb : ∀ a, (k0_off133 v14_r0 v18_r0) a + S64x8x128.size a ≤ S2048x8x128.size a), (Rect.unit (s := S2048x8x128) (k0_off133 v14_r0 v18_r0) S64x8x128.size hinb).WholeWords (EltTy.packing .bf16)) ∧
  (∀ (k0_h95 : k0_cond95 v12_r0 = 1#1), ∀ (hinb : ∀ a, (k0_off132 v16_r0 v18_r0) a + S64x8x128.size a ≤ S2048x8x128.size a), (Rect.unit (s := S2048x8x128) (k0_off132 v16_r0 v18_r0) S64x8x128.size hinb).WholeWords (EltTy.packing .bf16)) ∧
  (∀ (k0_h96 : k0_cond96 v12_r0 = 1#1), ∀ a, (k0_off134 v16_r0 v18_r0) a + S64x8x128.size a ≤ S2048x8x128.size a) ∧
  (∀ (k0_h96 : k0_cond96 v12_r0 = 1#1), ∀ a, (k0_off135 v14_r0 v18_r0) a + S64x8x128.size a ≤ S2048x8x128.size a) ∧
  (∀ (k0_h96 : k0_cond96 v12_r0 = 1#1), ∀ (hinb : ∀ a, (k0_off135 v14_r0 v18_r0) a + S64x8x128.size a ≤ S2048x8x128.size a), (Rect.unit (s := S2048x8x128) (k0_off135 v14_r0 v18_r0) S64x8x128.size hinb).WholeWords (EltTy.packing .bf16)) ∧
  (∀ (k0_h96 : k0_cond96 v12_r0 = 1#1), ∀ (hinb : ∀ a, (k0_off134 v16_r0 v18_r0) a + S64x8x128.size a ≤ S2048x8x128.size a), (Rect.unit (s := S2048x8x128) (k0_off134 v16_r0 v18_r0) S64x8x128.size hinb).WholeWords (EltTy.packing .bf16))
def k0_chk2_4 (v12_r0 : BitVec 32) (v14_r0 : BitVec 32) (v16_r0 : BitVec 32) (v18_r0 : BitVec 32) : Prop :=
  (∀ (k0_h97 : k0_cond97 v12_r0 = 1#1), ∀ a, (k0_off136 v14_r0 v18_r0) a + S64x8x128.size a ≤ S2048x8x128.size a) ∧
  (∀ (k0_h97 : k0_cond97 v12_r0 = 1#1), ∀ a, (k0_off137 v16_r0 v18_r0) a + S64x8x128.size a ≤ S2048x8x128.size a) ∧
  (∀ (k0_h97 : k0_cond97 v12_r0 = 1#1), ∀ (hinb : ∀ a, (k0_off137 v16_r0 v18_r0) a + S64x8x128.size a ≤ S2048x8x128.size a), (Rect.unit (s := S2048x8x128) (k0_off137 v16_r0 v18_r0) S64x8x128.size hinb).WholeWords (EltTy.packing .bf16)) ∧
  (∀ (k0_h97 : k0_cond97 v12_r0 = 1#1), ∀ (hinb : ∀ a, (k0_off136 v14_r0 v18_r0) a + S64x8x128.size a ≤ S2048x8x128.size a), (Rect.unit (s := S2048x8x128) (k0_off136 v14_r0 v18_r0) S64x8x128.size hinb).WholeWords (EltTy.packing .bf16)) ∧
  (∀ (k0_h98 : k0_cond98 v12_r0 = 1#1), ∀ a, (k0_off138 v14_r0 v18_r0) a + S64x8x128.size a ≤ S2048x8x128.size a) ∧
  (∀ (k0_h98 : k0_cond98 v12_r0 = 1#1), ∀ a, (k0_off139 v16_r0 v18_r0) a + S64x8x128.size a ≤ S2048x8x128.size a) ∧
  (∀ (k0_h98 : k0_cond98 v12_r0 = 1#1), ∀ (hinb : ∀ a, (k0_off139 v16_r0 v18_r0) a + S64x8x128.size a ≤ S2048x8x128.size a), (Rect.unit (s := S2048x8x128) (k0_off139 v16_r0 v18_r0) S64x8x128.size hinb).WholeWords (EltTy.packing .bf16)) ∧
  (∀ (k0_h98 : k0_cond98 v12_r0 = 1#1), ∀ (hinb : ∀ a, (k0_off138 v14_r0 v18_r0) a + S64x8x128.size a ≤ S2048x8x128.size a), (Rect.unit (s := S2048x8x128) (k0_off138 v14_r0 v18_r0) S64x8x128.size hinb).WholeWords (EltTy.packing .bf16)) ∧
  (∀ (k0_h99 : k0_cond99 v12_r0 = 1#1), ∀ a, (k0_off140 v14_r0 v18_r0) a + S64x8x128.size a ≤ S2048x8x128.size a) ∧
  (∀ (k0_h99 : k0_cond99 v12_r0 = 1#1), ∀ a, (k0_off141 v16_r0 v18_r0) a + S64x8x128.size a ≤ S2048x8x128.size a) ∧
  (∀ (k0_h99 : k0_cond99 v12_r0 = 1#1), ∀ (hinb : ∀ a, (k0_off141 v16_r0 v18_r0) a + S64x8x128.size a ≤ S2048x8x128.size a), (Rect.unit (s := S2048x8x128) (k0_off141 v16_r0 v18_r0) S64x8x128.size hinb).WholeWords (EltTy.packing .bf16)) ∧
  (∀ (k0_h99 : k0_cond99 v12_r0 = 1#1), ∀ (hinb : ∀ a, (k0_off140 v14_r0 v18_r0) a + S64x8x128.size a ≤ S2048x8x128.size a), (Rect.unit (s := S2048x8x128) (k0_off140 v14_r0 v18_r0) S64x8x128.size hinb).WholeWords (EltTy.packing .bf16)) ∧
  (∀ (k0_h100 : k0_cond100 v12_r0 = 1#1), ∀ a, (k0_off142 v14_r0 v18_r0) a + S64x8x128.size a ≤ S2048x8x128.size a) ∧
  (∀ (k0_h100 : k0_cond100 v12_r0 = 1#1), ∀ a, (k0_off143 v16_r0 v18_r0) a + S64x8x128.size a ≤ S2048x8x128.size a) ∧
  (∀ (k0_h100 : k0_cond100 v12_r0 = 1#1), ∀ (hinb : ∀ a, (k0_off143 v16_r0 v18_r0) a + S64x8x128.size a ≤ S2048x8x128.size a), (Rect.unit (s := S2048x8x128) (k0_off143 v16_r0 v18_r0) S64x8x128.size hinb).WholeWords (EltTy.packing .bf16)) ∧
  (∀ (k0_h100 : k0_cond100 v12_r0 = 1#1), ∀ (hinb : ∀ a, (k0_off142 v14_r0 v18_r0) a + S64x8x128.size a ≤ S2048x8x128.size a), (Rect.unit (s := S2048x8x128) (k0_off142 v14_r0 v18_r0) S64x8x128.size hinb).WholeWords (EltTy.packing .bf16)) ∧
  (∀ (k0_h101 : k0_cond101 v12_r0 = 1#1), ∀ a, (k0_off144 v14_r0 v18_r0) a + S64x8x128.size a ≤ S2048x8x128.size a) ∧
  (∀ (k0_h101 : k0_cond101 v12_r0 = 1#1), ∀ a, (k0_off145 v16_r0 v18_r0) a + S64x8x128.size a ≤ S2048x8x128.size a) ∧
  (∀ (k0_h101 : k0_cond101 v12_r0 = 1#1), ∀ (hinb : ∀ a, (k0_off145 v16_r0 v18_r0) a + S64x8x128.size a ≤ S2048x8x128.size a), (Rect.unit (s := S2048x8x128) (k0_off145 v16_r0 v18_r0) S64x8x128.size hinb).WholeWords (EltTy.packing .bf16)) ∧
  (∀ (k0_h101 : k0_cond101 v12_r0 = 1#1), ∀ (hinb : ∀ a, (k0_off144 v14_r0 v18_r0) a + S64x8x128.size a ≤ S2048x8x128.size a), (Rect.unit (s := S2048x8x128) (k0_off144 v14_r0 v18_r0) S64x8x128.size hinb).WholeWords (EltTy.packing .bf16)) ∧
  (∀ (k0_h102 : k0_cond102 v12_r0 = 1#1), ∀ a, (k0_off146 v14_r0 v18_r0) a + S64x8x128.size a ≤ S2048x8x128.size a) ∧
  (∀ (k0_h102 : k0_cond102 v12_r0 = 1#1), ∀ a, (k0_off147 v16_r0 v18_r0) a + S64x8x128.size a ≤ S2048x8x128.size a) ∧
  (∀ (k0_h102 : k0_cond102 v12_r0 = 1#1), ∀ (hinb : ∀ a, (k0_off147 v16_r0 v18_r0) a + S64x8x128.size a ≤ S2048x8x128.size a), (Rect.unit (s := S2048x8x128) (k0_off147 v16_r0 v18_r0) S64x8x128.size hinb).WholeWords (EltTy.packing .bf16)) ∧
  (∀ (k0_h102 : k0_cond102 v12_r0 = 1#1), ∀ (hinb : ∀ a, (k0_off146 v14_r0 v18_r0) a + S64x8x128.size a ≤ S2048x8x128.size a), (Rect.unit (s := S2048x8x128) (k0_off146 v14_r0 v18_r0) S64x8x128.size hinb).WholeWords (EltTy.packing .bf16)) ∧
  (∀ (k0_h103 : k0_cond103 v12_r0 = 1#1), ∀ a, (k0_off148 v14_r0 v18_r0) a + S64x8x128.size a ≤ S2048x8x128.size a) ∧
  (∀ (k0_h103 : k0_cond103 v12_r0 = 1#1), ∀ a, (k0_off149 v16_r0 v18_r0) a + S64x8x128.size a ≤ S2048x8x128.size a) ∧
  (∀ (k0_h103 : k0_cond103 v12_r0 = 1#1), ∀ (hinb : ∀ a, (k0_off149 v16_r0 v18_r0) a + S64x8x128.size a ≤ S2048x8x128.size a), (Rect.unit (s := S2048x8x128) (k0_off149 v16_r0 v18_r0) S64x8x128.size hinb).WholeWords (EltTy.packing .bf16)) ∧
  (∀ (k0_h103 : k0_cond103 v12_r0 = 1#1), ∀ (hinb : ∀ a, (k0_off148 v14_r0 v18_r0) a + S64x8x128.size a ≤ S2048x8x128.size a), (Rect.unit (s := S2048x8x128) (k0_off148 v14_r0 v18_r0) S64x8x128.size hinb).WholeWords (EltTy.packing .bf16)) ∧
  (∀ (k0_h104 : k0_cond104 v12_r0 = 1#1), ∀ a, (k0_off150 v14_r0 v18_r0) a + S64x8x128.size a ≤ S2048x8x128.size a) ∧
  (∀ (k0_h104 : k0_cond104 v12_r0 = 1#1), ∀ a, (k0_off151 v16_r0 v18_r0) a + S64x8x128.size a ≤ S2048x8x128.size a) ∧
  (∀ (k0_h104 : k0_cond104 v12_r0 = 1#1), ∀ (hinb : ∀ a, (k0_off151 v16_r0 v18_r0) a + S64x8x128.size a ≤ S2048x8x128.size a), (Rect.unit (s := S2048x8x128) (k0_off151 v16_r0 v18_r0) S64x8x128.size hinb).WholeWords (EltTy.packing .bf16)) ∧
  (∀ (k0_h104 : k0_cond104 v12_r0 = 1#1), ∀ (hinb : ∀ a, (k0_off150 v14_r0 v18_r0) a + S64x8x128.size a ≤ S2048x8x128.size a), (Rect.unit (s := S2048x8x128) (k0_off150 v14_r0 v18_r0) S64x8x128.size hinb).WholeWords (EltTy.packing .bf16))
def k0_chk2_5 (v12_r0 : BitVec 32) (v14_r0 : BitVec 32) (v16_r0 : BitVec 32) (v18_r0 : BitVec 32) : Prop :=
  (∀ (k0_h105 : k0_cond105 v12_r0 = 1#1), ∀ a, (k0_off152 v14_r0 v18_r0) a + S64x8x128.size a ≤ S2048x8x128.size a) ∧
  (∀ (k0_h105 : k0_cond105 v12_r0 = 1#1), ∀ a, (k0_off153 v16_r0 v18_r0) a + S64x8x128.size a ≤ S2048x8x128.size a) ∧
  (∀ (k0_h105 : k0_cond105 v12_r0 = 1#1), ∀ (hinb : ∀ a, (k0_off153 v16_r0 v18_r0) a + S64x8x128.size a ≤ S2048x8x128.size a), (Rect.unit (s := S2048x8x128) (k0_off153 v16_r0 v18_r0) S64x8x128.size hinb).WholeWords (EltTy.packing .bf16)) ∧
  (∀ (k0_h105 : k0_cond105 v12_r0 = 1#1), ∀ (hinb : ∀ a, (k0_off152 v14_r0 v18_r0) a + S64x8x128.size a ≤ S2048x8x128.size a), (Rect.unit (s := S2048x8x128) (k0_off152 v14_r0 v18_r0) S64x8x128.size hinb).WholeWords (EltTy.packing .bf16)) ∧
  (∀ (k0_h106 : k0_cond106 v12_r0 = 1#1), ∀ a, (k0_off154 v14_r0 v18_r0) a + S64x8x128.size a ≤ S2048x8x128.size a) ∧
  (∀ (k0_h106 : k0_cond106 v12_r0 = 1#1), ∀ a, (k0_off155 v16_r0 v18_r0) a + S64x8x128.size a ≤ S2048x8x128.size a) ∧
  (∀ (k0_h106 : k0_cond106 v12_r0 = 1#1), ∀ (hinb : ∀ a, (k0_off155 v16_r0 v18_r0) a + S64x8x128.size a ≤ S2048x8x128.size a), (Rect.unit (s := S2048x8x128) (k0_off155 v16_r0 v18_r0) S64x8x128.size hinb).WholeWords (EltTy.packing .bf16)) ∧
  (∀ (k0_h106 : k0_cond106 v12_r0 = 1#1), ∀ (hinb : ∀ a, (k0_off154 v14_r0 v18_r0) a + S64x8x128.size a ≤ S2048x8x128.size a), (Rect.unit (s := S2048x8x128) (k0_off154 v14_r0 v18_r0) S64x8x128.size hinb).WholeWords (EltTy.packing .bf16)) ∧
  (∀ (k0_h107 : k0_cond107 v12_r0 = 1#1), ∀ a, (k0_off156 v14_r0 v18_r0) a + S64x8x128.size a ≤ S2048x8x128.size a) ∧
  (∀ (k0_h107 : k0_cond107 v12_r0 = 1#1), ∀ a, (k0_off157 v16_r0 v18_r0) a + S64x8x128.size a ≤ S2048x8x128.size a) ∧
  (∀ (k0_h107 : k0_cond107 v12_r0 = 1#1), ∀ (hinb : ∀ a, (k0_off157 v16_r0 v18_r0) a + S64x8x128.size a ≤ S2048x8x128.size a), (Rect.unit (s := S2048x8x128) (k0_off157 v16_r0 v18_r0) S64x8x128.size hinb).WholeWords (EltTy.packing .bf16)) ∧
  (∀ (k0_h107 : k0_cond107 v12_r0 = 1#1), ∀ (hinb : ∀ a, (k0_off156 v14_r0 v18_r0) a + S64x8x128.size a ≤ S2048x8x128.size a), (Rect.unit (s := S2048x8x128) (k0_off156 v14_r0 v18_r0) S64x8x128.size hinb).WholeWords (EltTy.packing .bf16)) ∧
  (∀ (k0_h108 : k0_cond108 v12_r0 = 1#1), ∀ a, (k0_off158 v14_r0 v18_r0) a + S64x8x128.size a ≤ S2048x8x128.size a) ∧
  (∀ (k0_h108 : k0_cond108 v12_r0 = 1#1), ∀ a, (k0_off159 v16_r0 v18_r0) a + S64x8x128.size a ≤ S2048x8x128.size a) ∧
  (∀ (k0_h108 : k0_cond108 v12_r0 = 1#1), ∀ (hinb : ∀ a, (k0_off159 v16_r0 v18_r0) a + S64x8x128.size a ≤ S2048x8x128.size a), (Rect.unit (s := S2048x8x128) (k0_off159 v16_r0 v18_r0) S64x8x128.size hinb).WholeWords (EltTy.packing .bf16)) ∧
  (∀ (k0_h108 : k0_cond108 v12_r0 = 1#1), ∀ (hinb : ∀ a, (k0_off158 v14_r0 v18_r0) a + S64x8x128.size a ≤ S2048x8x128.size a), (Rect.unit (s := S2048x8x128) (k0_off158 v14_r0 v18_r0) S64x8x128.size hinb).WholeWords (EltTy.packing .bf16)) ∧
  (∀ (k0_h109 : k0_cond109 v12_r0 = 1#1), ∀ a, (k0_off160 v14_r0 v18_r0) a + S64x8x128.size a ≤ S2048x8x128.size a) ∧
  (∀ (k0_h109 : k0_cond109 v12_r0 = 1#1), ∀ a, (k0_off161 v16_r0 v18_r0) a + S64x8x128.size a ≤ S2048x8x128.size a) ∧
  (∀ (k0_h109 : k0_cond109 v12_r0 = 1#1), ∀ (hinb : ∀ a, (k0_off161 v16_r0 v18_r0) a + S64x8x128.size a ≤ S2048x8x128.size a), (Rect.unit (s := S2048x8x128) (k0_off161 v16_r0 v18_r0) S64x8x128.size hinb).WholeWords (EltTy.packing .bf16)) ∧
  (∀ (k0_h109 : k0_cond109 v12_r0 = 1#1), ∀ (hinb : ∀ a, (k0_off160 v14_r0 v18_r0) a + S64x8x128.size a ≤ S2048x8x128.size a), (Rect.unit (s := S2048x8x128) (k0_off160 v14_r0 v18_r0) S64x8x128.size hinb).WholeWords (EltTy.packing .bf16)) ∧
  (∀ (k0_h110 : k0_cond110 v12_r0 = 1#1), ∀ a, (k0_off162 v14_r0 v18_r0) a + S64x8x128.size a ≤ S2048x8x128.size a) ∧
  (∀ (k0_h110 : k0_cond110 v12_r0 = 1#1), ∀ a, (k0_off163 v16_r0 v18_r0) a + S64x8x128.size a ≤ S2048x8x128.size a) ∧
  (∀ (k0_h110 : k0_cond110 v12_r0 = 1#1), ∀ (hinb : ∀ a, (k0_off163 v16_r0 v18_r0) a + S64x8x128.size a ≤ S2048x8x128.size a), (Rect.unit (s := S2048x8x128) (k0_off163 v16_r0 v18_r0) S64x8x128.size hinb).WholeWords (EltTy.packing .bf16)) ∧
  (∀ (k0_h110 : k0_cond110 v12_r0 = 1#1), ∀ (hinb : ∀ a, (k0_off162 v14_r0 v18_r0) a + S64x8x128.size a ≤ S2048x8x128.size a), (Rect.unit (s := S2048x8x128) (k0_off162 v14_r0 v18_r0) S64x8x128.size hinb).WholeWords (EltTy.packing .bf16)) ∧
  (∀ (k0_h111 : k0_cond111 v12_r0 = 1#1), ∀ a, (k0_off164 v14_r0 v18_r0) a + S64x8x128.size a ≤ S2048x8x128.size a) ∧
  (∀ (k0_h111 : k0_cond111 v12_r0 = 1#1), ∀ a, (k0_off165 v16_r0 v18_r0) a + S64x8x128.size a ≤ S2048x8x128.size a) ∧
  (∀ (k0_h111 : k0_cond111 v12_r0 = 1#1), ∀ (hinb : ∀ a, (k0_off165 v16_r0 v18_r0) a + S64x8x128.size a ≤ S2048x8x128.size a), (Rect.unit (s := S2048x8x128) (k0_off165 v16_r0 v18_r0) S64x8x128.size hinb).WholeWords (EltTy.packing .bf16)) ∧
  (∀ (k0_h111 : k0_cond111 v12_r0 = 1#1), ∀ (hinb : ∀ a, (k0_off164 v14_r0 v18_r0) a + S64x8x128.size a ≤ S2048x8x128.size a), (Rect.unit (s := S2048x8x128) (k0_off164 v14_r0 v18_r0) S64x8x128.size hinb).WholeWords (EltTy.packing .bf16)) ∧
  (∀ (k0_h112 : k0_cond112 v12_r0 = 1#1), ∀ a, (k0_off166 v14_r0 v18_r0) a + S64x8x128.size a ≤ S2048x8x128.size a) ∧
  (∀ (k0_h112 : k0_cond112 v12_r0 = 1#1), ∀ a, (k0_off167 v16_r0 v18_r0) a + S64x8x128.size a ≤ S2048x8x128.size a) ∧
  (∀ (k0_h112 : k0_cond112 v12_r0 = 1#1), ∀ (hinb : ∀ a, (k0_off167 v16_r0 v18_r0) a + S64x8x128.size a ≤ S2048x8x128.size a), (Rect.unit (s := S2048x8x128) (k0_off167 v16_r0 v18_r0) S64x8x128.size hinb).WholeWords (EltTy.packing .bf16)) ∧
  (∀ (k0_h112 : k0_cond112 v12_r0 = 1#1), ∀ (hinb : ∀ a, (k0_off166 v14_r0 v18_r0) a + S64x8x128.size a ≤ S2048x8x128.size a), (Rect.unit (s := S2048x8x128) (k0_off166 v14_r0 v18_r0) S64x8x128.size hinb).WholeWords (EltTy.packing .bf16))
def k0_chk2_6 (v12_r0 : BitVec 32) (v14_r0 : BitVec 32) (v16_r0 : BitVec 32) (v18_r0 : BitVec 32) : Prop :=
  (∀ (k0_h113 : k0_cond113 v12_r0 = 1#1), ∀ a, (k0_off168 v14_r0 v18_r0) a + S64x8x128.size a ≤ S2048x8x128.size a) ∧
  (∀ (k0_h113 : k0_cond113 v12_r0 = 1#1), ∀ a, (k0_off169 v16_r0 v18_r0) a + S64x8x128.size a ≤ S2048x8x128.size a) ∧
  (∀ (k0_h113 : k0_cond113 v12_r0 = 1#1), ∀ (hinb : ∀ a, (k0_off169 v16_r0 v18_r0) a + S64x8x128.size a ≤ S2048x8x128.size a), (Rect.unit (s := S2048x8x128) (k0_off169 v16_r0 v18_r0) S64x8x128.size hinb).WholeWords (EltTy.packing .bf16)) ∧
  (∀ (k0_h113 : k0_cond113 v12_r0 = 1#1), ∀ (hinb : ∀ a, (k0_off168 v14_r0 v18_r0) a + S64x8x128.size a ≤ S2048x8x128.size a), (Rect.unit (s := S2048x8x128) (k0_off168 v14_r0 v18_r0) S64x8x128.size hinb).WholeWords (EltTy.packing .bf16)) ∧
  (∀ (k0_h114 : k0_cond114 v12_r0 = 1#1), ∀ a, (k0_off170 v14_r0 v18_r0) a + S64x8x128.size a ≤ S2048x8x128.size a) ∧
  (∀ (k0_h114 : k0_cond114 v12_r0 = 1#1), ∀ a, (k0_off171 v16_r0 v18_r0) a + S64x8x128.size a ≤ S2048x8x128.size a) ∧
  (∀ (k0_h114 : k0_cond114 v12_r0 = 1#1), ∀ (hinb : ∀ a, (k0_off171 v16_r0 v18_r0) a + S64x8x128.size a ≤ S2048x8x128.size a), (Rect.unit (s := S2048x8x128) (k0_off171 v16_r0 v18_r0) S64x8x128.size hinb).WholeWords (EltTy.packing .bf16)) ∧
  (∀ (k0_h114 : k0_cond114 v12_r0 = 1#1), ∀ (hinb : ∀ a, (k0_off170 v14_r0 v18_r0) a + S64x8x128.size a ≤ S2048x8x128.size a), (Rect.unit (s := S2048x8x128) (k0_off170 v14_r0 v18_r0) S64x8x128.size hinb).WholeWords (EltTy.packing .bf16)) ∧
  (∀ (k0_h115 : k0_cond115 v12_r0 = 1#1), ∀ a, (k0_off172 v14_r0 v18_r0) a + S64x8x128.size a ≤ S2048x8x128.size a) ∧
  (∀ (k0_h115 : k0_cond115 v12_r0 = 1#1), ∀ a, (k0_off173 v16_r0 v18_r0) a + S64x8x128.size a ≤ S2048x8x128.size a) ∧
  (∀ (k0_h115 : k0_cond115 v12_r0 = 1#1), ∀ (hinb : ∀ a, (k0_off173 v16_r0 v18_r0) a + S64x8x128.size a ≤ S2048x8x128.size a), (Rect.unit (s := S2048x8x128) (k0_off173 v16_r0 v18_r0) S64x8x128.size hinb).WholeWords (EltTy.packing .bf16)) ∧
  (∀ (k0_h115 : k0_cond115 v12_r0 = 1#1), ∀ (hinb : ∀ a, (k0_off172 v14_r0 v18_r0) a + S64x8x128.size a ≤ S2048x8x128.size a), (Rect.unit (s := S2048x8x128) (k0_off172 v14_r0 v18_r0) S64x8x128.size hinb).WholeWords (EltTy.packing .bf16)) ∧
  (∀ (k0_h116 : k0_cond116 v12_r0 = 1#1), ∀ a, (k0_off174 v14_r0 v18_r0) a + S64x8x128.size a ≤ S2048x8x128.size a) ∧
  (∀ (k0_h116 : k0_cond116 v12_r0 = 1#1), ∀ a, (k0_off175 v16_r0 v18_r0) a + S64x8x128.size a ≤ S2048x8x128.size a) ∧
  (∀ (k0_h116 : k0_cond116 v12_r0 = 1#1), ∀ (hinb : ∀ a, (k0_off175 v16_r0 v18_r0) a + S64x8x128.size a ≤ S2048x8x128.size a), (Rect.unit (s := S2048x8x128) (k0_off175 v16_r0 v18_r0) S64x8x128.size hinb).WholeWords (EltTy.packing .bf16)) ∧
  (∀ (k0_h116 : k0_cond116 v12_r0 = 1#1), ∀ (hinb : ∀ a, (k0_off174 v14_r0 v18_r0) a + S64x8x128.size a ≤ S2048x8x128.size a), (Rect.unit (s := S2048x8x128) (k0_off174 v14_r0 v18_r0) S64x8x128.size hinb).WholeWords (EltTy.packing .bf16)) ∧
  (∀ (k0_h117 : k0_cond117 v12_r0 = 1#1), ∀ a, (k0_off176 v14_r0 v18_r0) a + S64x8x128.size a ≤ S2048x8x128.size a) ∧
  (∀ (k0_h117 : k0_cond117 v12_r0 = 1#1), ∀ a, (k0_off177 v16_r0 v18_r0) a + S64x8x128.size a ≤ S2048x8x128.size a) ∧
  (∀ (k0_h117 : k0_cond117 v12_r0 = 1#1), ∀ (hinb : ∀ a, (k0_off177 v16_r0 v18_r0) a + S64x8x128.size a ≤ S2048x8x128.size a), (Rect.unit (s := S2048x8x128) (k0_off177 v16_r0 v18_r0) S64x8x128.size hinb).WholeWords (EltTy.packing .bf16)) ∧
  (∀ (k0_h117 : k0_cond117 v12_r0 = 1#1), ∀ (hinb : ∀ a, (k0_off176 v14_r0 v18_r0) a + S64x8x128.size a ≤ S2048x8x128.size a), (Rect.unit (s := S2048x8x128) (k0_off176 v14_r0 v18_r0) S64x8x128.size hinb).WholeWords (EltTy.packing .bf16)) ∧
  (∀ (k0_h118 : k0_cond118 v12_r0 = 1#1), ∀ a, (k0_off178 v14_r0 v18_r0) a + S64x8x128.size a ≤ S2048x8x128.size a) ∧
  (∀ (k0_h118 : k0_cond118 v12_r0 = 1#1), ∀ a, (k0_off179 v16_r0 v18_r0) a + S64x8x128.size a ≤ S2048x8x128.size a) ∧
  (∀ (k0_h118 : k0_cond118 v12_r0 = 1#1), ∀ (hinb : ∀ a, (k0_off179 v16_r0 v18_r0) a + S64x8x128.size a ≤ S2048x8x128.size a), (Rect.unit (s := S2048x8x128) (k0_off179 v16_r0 v18_r0) S64x8x128.size hinb).WholeWords (EltTy.packing .bf16)) ∧
  (∀ (k0_h118 : k0_cond118 v12_r0 = 1#1), ∀ (hinb : ∀ a, (k0_off178 v14_r0 v18_r0) a + S64x8x128.size a ≤ S2048x8x128.size a), (Rect.unit (s := S2048x8x128) (k0_off178 v14_r0 v18_r0) S64x8x128.size hinb).WholeWords (EltTy.packing .bf16)) ∧
  (∀ (k0_h119 : k0_cond119 v12_r0 = 1#1), ∀ a, (k0_off180 v14_r0 v18_r0) a + S64x8x128.size a ≤ S2048x8x128.size a) ∧
  (∀ (k0_h119 : k0_cond119 v12_r0 = 1#1), ∀ a, (k0_off181 v16_r0 v18_r0) a + S64x8x128.size a ≤ S2048x8x128.size a) ∧
  (∀ (k0_h119 : k0_cond119 v12_r0 = 1#1), ∀ (hinb : ∀ a, (k0_off181 v16_r0 v18_r0) a + S64x8x128.size a ≤ S2048x8x128.size a), (Rect.unit (s := S2048x8x128) (k0_off181 v16_r0 v18_r0) S64x8x128.size hinb).WholeWords (EltTy.packing .bf16)) ∧
  (∀ (k0_h119 : k0_cond119 v12_r0 = 1#1), ∀ (hinb : ∀ a, (k0_off180 v14_r0 v18_r0) a + S64x8x128.size a ≤ S2048x8x128.size a), (Rect.unit (s := S2048x8x128) (k0_off180 v14_r0 v18_r0) S64x8x128.size hinb).WholeWords (EltTy.packing .bf16)) ∧
  (∀ (k0_h120 : k0_cond120 v12_r0 = 1#1), ∀ a, (k0_off182 v14_r0 v18_r0) a + S64x8x128.size a ≤ S2048x8x128.size a) ∧
  (∀ (k0_h120 : k0_cond120 v12_r0 = 1#1), ∀ a, (k0_off183 v16_r0 v18_r0) a + S64x8x128.size a ≤ S2048x8x128.size a) ∧
  (∀ (k0_h120 : k0_cond120 v12_r0 = 1#1), ∀ (hinb : ∀ a, (k0_off183 v16_r0 v18_r0) a + S64x8x128.size a ≤ S2048x8x128.size a), (Rect.unit (s := S2048x8x128) (k0_off183 v16_r0 v18_r0) S64x8x128.size hinb).WholeWords (EltTy.packing .bf16)) ∧
  (∀ (k0_h120 : k0_cond120 v12_r0 = 1#1), ∀ (hinb : ∀ a, (k0_off182 v14_r0 v18_r0) a + S64x8x128.size a ≤ S2048x8x128.size a), (Rect.unit (s := S2048x8x128) (k0_off182 v14_r0 v18_r0) S64x8x128.size hinb).WholeWords (EltTy.packing .bf16))
def k0_chk2_7 (v12_r0 : BitVec 32) (v14_r0 : BitVec 32) (v16_r0 : BitVec 32) (v18_r0 : BitVec 32) : Prop :=
  (∀ (k0_h121 : k0_cond121 v12_r0 = 1#1), ∀ a, (k0_off184 v14_r0 v18_r0) a + S64x8x128.size a ≤ S2048x8x128.size a) ∧
  (∀ (k0_h121 : k0_cond121 v12_r0 = 1#1), ∀ a, (k0_off185 v16_r0 v18_r0) a + S64x8x128.size a ≤ S2048x8x128.size a) ∧
  (∀ (k0_h121 : k0_cond121 v12_r0 = 1#1), ∀ (hinb : ∀ a, (k0_off185 v16_r0 v18_r0) a + S64x8x128.size a ≤ S2048x8x128.size a), (Rect.unit (s := S2048x8x128) (k0_off185 v16_r0 v18_r0) S64x8x128.size hinb).WholeWords (EltTy.packing .bf16)) ∧
  (∀ (k0_h121 : k0_cond121 v12_r0 = 1#1), ∀ (hinb : ∀ a, (k0_off184 v14_r0 v18_r0) a + S64x8x128.size a ≤ S2048x8x128.size a), (Rect.unit (s := S2048x8x128) (k0_off184 v14_r0 v18_r0) S64x8x128.size hinb).WholeWords (EltTy.packing .bf16)) ∧
  (∀ (k0_h122 : k0_cond122 v12_r0 = 1#1), ∀ a, (k0_off186 v14_r0 v18_r0) a + S64x8x128.size a ≤ S2048x8x128.size a) ∧
  (∀ (k0_h122 : k0_cond122 v12_r0 = 1#1), ∀ a, (k0_off187 v16_r0 v18_r0) a + S64x8x128.size a ≤ S2048x8x128.size a) ∧
  (∀ (k0_h122 : k0_cond122 v12_r0 = 1#1), ∀ (hinb : ∀ a, (k0_off187 v16_r0 v18_r0) a + S64x8x128.size a ≤ S2048x8x128.size a), (Rect.unit (s := S2048x8x128) (k0_off187 v16_r0 v18_r0) S64x8x128.size hinb).WholeWords (EltTy.packing .bf16)) ∧
  (∀ (k0_h122 : k0_cond122 v12_r0 = 1#1), ∀ (hinb : ∀ a, (k0_off186 v14_r0 v18_r0) a + S64x8x128.size a ≤ S2048x8x128.size a), (Rect.unit (s := S2048x8x128) (k0_off186 v14_r0 v18_r0) S64x8x128.size hinb).WholeWords (EltTy.packing .bf16)) ∧
  (∀ (k0_h123 : k0_cond123 v12_r0 = 1#1), ∀ a, (k0_off188 v14_r0 v18_r0) a + S64x8x128.size a ≤ S2048x8x128.size a) ∧
  (∀ (k0_h123 : k0_cond123 v12_r0 = 1#1), ∀ a, (k0_off189 v16_r0 v18_r0) a + S64x8x128.size a ≤ S2048x8x128.size a) ∧
  (∀ (k0_h123 : k0_cond123 v12_r0 = 1#1), ∀ (hinb : ∀ a, (k0_off189 v16_r0 v18_r0) a + S64x8x128.size a ≤ S2048x8x128.size a), (Rect.unit (s := S2048x8x128) (k0_off189 v16_r0 v18_r0) S64x8x128.size hinb).WholeWords (EltTy.packing .bf16)) ∧
  (∀ (k0_h123 : k0_cond123 v12_r0 = 1#1), ∀ (hinb : ∀ a, (k0_off188 v14_r0 v18_r0) a + S64x8x128.size a ≤ S2048x8x128.size a), (Rect.unit (s := S2048x8x128) (k0_off188 v14_r0 v18_r0) S64x8x128.size hinb).WholeWords (EltTy.packing .bf16)) ∧
  (∀ (k0_h124 : k0_cond124 v12_r0 = 1#1), ∀ a, (k0_off190 v14_r0 v18_r0) a + S64x8x128.size a ≤ S2048x8x128.size a) ∧
  (∀ (k0_h124 : k0_cond124 v12_r0 = 1#1), ∀ a, (k0_off191 v16_r0 v18_r0) a + S64x8x128.size a ≤ S2048x8x128.size a) ∧
  (∀ (k0_h124 : k0_cond124 v12_r0 = 1#1), ∀ (hinb : ∀ a, (k0_off191 v16_r0 v18_r0) a + S64x8x128.size a ≤ S2048x8x128.size a), (Rect.unit (s := S2048x8x128) (k0_off191 v16_r0 v18_r0) S64x8x128.size hinb).WholeWords (EltTy.packing .bf16)) ∧
  (∀ (k0_h124 : k0_cond124 v12_r0 = 1#1), ∀ (hinb : ∀ a, (k0_off190 v14_r0 v18_r0) a + S64x8x128.size a ≤ S2048x8x128.size a), (Rect.unit (s := S2048x8x128) (k0_off190 v14_r0 v18_r0) S64x8x128.size hinb).WholeWords (EltTy.packing .bf16)) ∧
  (∀ (k0_h125 : k0_cond125 v12_r0 = 1#1), ∀ a, (k0_off192 v14_r0 v18_r0) a + S64x8x128.size a ≤ S2048x8x128.size a) ∧
  (∀ (k0_h125 : k0_cond125 v12_r0 = 1#1), ∀ a, (k0_off193 v16_r0 v18_r0) a + S64x8x128.size a ≤ S2048x8x128.size a) ∧
  (∀ (k0_h125 : k0_cond125 v12_r0 = 1#1), ∀ (hinb : ∀ a, (k0_off193 v16_r0 v18_r0) a + S64x8x128.size a ≤ S2048x8x128.size a), (Rect.unit (s := S2048x8x128) (k0_off193 v16_r0 v18_r0) S64x8x128.size hinb).WholeWords (EltTy.packing .bf16)) ∧
  (∀ (k0_h125 : k0_cond125 v12_r0 = 1#1), ∀ (hinb : ∀ a, (k0_off192 v14_r0 v18_r0) a + S64x8x128.size a ≤ S2048x8x128.size a), (Rect.unit (s := S2048x8x128) (k0_off192 v14_r0 v18_r0) S64x8x128.size hinb).WholeWords (EltTy.packing .bf16)) ∧
  (∀ (k0_h126 : k0_cond126 v12_r0 = 1#1), ∀ a, (k0_off194 v14_r0 v18_r0) a + S64x8x128.size a ≤ S2048x8x128.size a) ∧
  (∀ (k0_h126 : k0_cond126 v12_r0 = 1#1), ∀ a, (k0_off195 v16_r0 v18_r0) a + S64x8x128.size a ≤ S2048x8x128.size a) ∧
  (∀ (k0_h126 : k0_cond126 v12_r0 = 1#1), ∀ (hinb : ∀ a, (k0_off195 v16_r0 v18_r0) a + S64x8x128.size a ≤ S2048x8x128.size a), (Rect.unit (s := S2048x8x128) (k0_off195 v16_r0 v18_r0) S64x8x128.size hinb).WholeWords (EltTy.packing .bf16)) ∧
  (∀ (k0_h126 : k0_cond126 v12_r0 = 1#1), ∀ (hinb : ∀ a, (k0_off194 v14_r0 v18_r0) a + S64x8x128.size a ≤ S2048x8x128.size a), (Rect.unit (s := S2048x8x128) (k0_off194 v14_r0 v18_r0) S64x8x128.size hinb).WholeWords (EltTy.packing .bf16)) ∧
  (∀ (k0_h127 : k0_cond127 v12_r0 = 1#1), ∀ a, (k0_off196 v14_r0 v18_r0) a + S64x8x128.size a ≤ S2048x8x128.size a) ∧
  (∀ (k0_h127 : k0_cond127 v12_r0 = 1#1), ∀ a, (k0_off197 v16_r0 v18_r0) a + S64x8x128.size a ≤ S2048x8x128.size a) ∧
  (∀ (k0_h127 : k0_cond127 v12_r0 = 1#1), ∀ (hinb : ∀ a, (k0_off197 v16_r0 v18_r0) a + S64x8x128.size a ≤ S2048x8x128.size a), (Rect.unit (s := S2048x8x128) (k0_off197 v16_r0 v18_r0) S64x8x128.size hinb).WholeWords (EltTy.packing .bf16)) ∧
  (∀ (k0_h127 : k0_cond127 v12_r0 = 1#1), ∀ (hinb : ∀ a, (k0_off196 v14_r0 v18_r0) a + S64x8x128.size a ≤ S2048x8x128.size a), (Rect.unit (s := S2048x8x128) (k0_off196 v14_r0 v18_r0) S64x8x128.size hinb).WholeWords (EltTy.packing .bf16)) ∧
  (∀ (k0_h128 : k0_cond128 v12_r0 = 1#1), ∀ a, (k0_off198 v14_r0 v18_r0) a + S64x8x128.size a ≤ S2048x8x128.size a) ∧
  (∀ (k0_h128 : k0_cond128 v12_r0 = 1#1), ∀ a, (k0_off199 v16_r0 v18_r0) a + S64x8x128.size a ≤ S2048x8x128.size a) ∧
  (∀ (k0_h128 : k0_cond128 v12_r0 = 1#1), ∀ (hinb : ∀ a, (k0_off199 v16_r0 v18_r0) a + S64x8x128.size a ≤ S2048x8x128.size a), (Rect.unit (s := S2048x8x128) (k0_off199 v16_r0 v18_r0) S64x8x128.size hinb).WholeWords (EltTy.packing .bf16)) ∧
  (∀ (k0_h128 : k0_cond128 v12_r0 = 1#1), ∀ (hinb : ∀ a, (k0_off198 v14_r0 v18_r0) a + S64x8x128.size a ≤ S2048x8x128.size a), (Rect.unit (s := S2048x8x128) (k0_off198 v14_r0 v18_r0) S64x8x128.size hinb).WholeWords (EltTy.packing .bf16))
def k0_chk2 (v12_r0 : BitVec 32) (v14_r0 : BitVec 32) (v16_r0 : BitVec 32) (v18_r0 : BitVec 32) : Prop :=
  k0_chk2_0 v12_r0 v14_r0 v16_r0 v18_r0 ∧
  k0_chk2_1 v12_r0 v14_r0 v16_r0 v18_r0 ∧
  k0_chk2_2 v12_r0 v14_r0 v16_r0 v18_r0 ∧
  k0_chk2_3 v12_r0 v14_r0 v16_r0 v18_r0 ∧
  k0_chk2_4 v12_r0 v14_r0 v16_r0 v18_r0 ∧
  k0_chk2_5 v12_r0 v14_r0 v16_r0 v18_r0 ∧
  k0_chk2_6 v12_r0 v14_r0 v16_r0 v18_r0 ∧
  k0_chk2_7 v12_r0 v14_r0 v16_r0 v18_r0
theorem k0_off72_inb : ∀ (v12_r0 : BitVec 32) (v14_r0 : BitVec 32) (v16_r0 : BitVec 32) (v18_r0 : BitVec 32) (k0_hw2 : k0_chk2 v12_r0 v14_r0 v16_r0 v18_r0), ∀ (k0_h65 : k0_cond65 v12_r0 = 1#1), ∀ a, (k0_off72 v16_r0 v18_r0) a + S64x8x128.size a ≤ S2048x8x128.size a := fun v12_r0 v14_r0 v16_r0 v18_r0 k0_hw2 k0_h65 => k0_hw2.1.1 k0_h65
theorem k0_off73_inb : ∀ (v12_r0 : BitVec 32) (v14_r0 : BitVec 32) (v16_r0 : BitVec 32) (v18_r0 : BitVec 32) (k0_hw2 : k0_chk2 v12_r0 v14_r0 v16_r0 v18_r0), ∀ (k0_h65 : k0_cond65 v12_r0 = 1#1), ∀ a, (k0_off73 v14_r0 v18_r0) a + S64x8x128.size a ≤ S2048x8x128.size a := fun v12_r0 v14_r0 v16_r0 v18_r0 k0_hw2 k0_h65 => k0_hw2.1.2.1 k0_h65
theorem k0_off73_wordsbf16 : ∀ (v12_r0 : BitVec 32) (v14_r0 : BitVec 32) (v16_r0 : BitVec 32) (v18_r0 : BitVec 32) (k0_hw2 : k0_chk2 v12_r0 v14_r0 v16_r0 v18_r0), ∀ (k0_h65 : k0_cond65 v12_r0 = 1#1), (Rect.unit (s := S2048x8x128) (k0_off73 v14_r0 v18_r0) S64x8x128.size (k0_off73_inb v12_r0 v14_r0 v16_r0 v18_r0 k0_hw2 k0_h65)).WholeWords (EltTy.packing .bf16) := fun v12_r0 v14_r0 v16_r0 v18_r0 k0_hw2 k0_h65 => k0_hw2.1.2.2.1 k0_h65 (k0_off73_inb v12_r0 v14_r0 v16_r0 v18_r0 k0_hw2 k0_h65)
theorem k0_off72_wordsbf16 : ∀ (v12_r0 : BitVec 32) (v14_r0 : BitVec 32) (v16_r0 : BitVec 32) (v18_r0 : BitVec 32) (k0_hw2 : k0_chk2 v12_r0 v14_r0 v16_r0 v18_r0), ∀ (k0_h65 : k0_cond65 v12_r0 = 1#1), (Rect.unit (s := S2048x8x128) (k0_off72 v16_r0 v18_r0) S64x8x128.size (k0_off72_inb v12_r0 v14_r0 v16_r0 v18_r0 k0_hw2 k0_h65)).WholeWords (EltTy.packing .bf16) := fun v12_r0 v14_r0 v16_r0 v18_r0 k0_hw2 k0_h65 => k0_hw2.1.2.2.2.1 k0_h65 (k0_off72_inb v12_r0 v14_r0 v16_r0 v18_r0 k0_hw2 k0_h65)
theorem k0_off74_inb : ∀ (v12_r0 : BitVec 32) (v14_r0 : BitVec 32) (v16_r0 : BitVec 32) (v18_r0 : BitVec 32) (k0_hw2 : k0_chk2 v12_r0 v14_r0 v16_r0 v18_r0), ∀ (k0_h66 : k0_cond66 v12_r0 = 1#1), ∀ a, (k0_off74 v16_r0 v18_r0) a + S64x8x128.size a ≤ S2048x8x128.size a := fun v12_r0 v14_r0 v16_r0 v18_r0 k0_hw2 k0_h66 => k0_hw2.1.2.2.2.2.1 k0_h66
theorem k0_off75_inb : ∀ (v12_r0 : BitVec 32) (v14_r0 : BitVec 32) (v16_r0 : BitVec 32) (v18_r0 : BitVec 32) (k0_hw2 : k0_chk2 v12_r0 v14_r0 v16_r0 v18_r0), ∀ (k0_h66 : k0_cond66 v12_r0 = 1#1), ∀ a, (k0_off75 v14_r0 v18_r0) a + S64x8x128.size a ≤ S2048x8x128.size a := fun v12_r0 v14_r0 v16_r0 v18_r0 k0_hw2 k0_h66 => k0_hw2.1.2.2.2.2.2.1 k0_h66
theorem k0_off75_wordsbf16 : ∀ (v12_r0 : BitVec 32) (v14_r0 : BitVec 32) (v16_r0 : BitVec 32) (v18_r0 : BitVec 32) (k0_hw2 : k0_chk2 v12_r0 v14_r0 v16_r0 v18_r0), ∀ (k0_h66 : k0_cond66 v12_r0 = 1#1), (Rect.unit (s := S2048x8x128) (k0_off75 v14_r0 v18_r0) S64x8x128.size (k0_off75_inb v12_r0 v14_r0 v16_r0 v18_r0 k0_hw2 k0_h66)).WholeWords (EltTy.packing .bf16) := fun v12_r0 v14_r0 v16_r0 v18_r0 k0_hw2 k0_h66 => k0_hw2.1.2.2.2.2.2.2.1 k0_h66 (k0_off75_inb v12_r0 v14_r0 v16_r0 v18_r0 k0_hw2 k0_h66)
theorem k0_off74_wordsbf16 : ∀ (v12_r0 : BitVec 32) (v14_r0 : BitVec 32) (v16_r0 : BitVec 32) (v18_r0 : BitVec 32) (k0_hw2 : k0_chk2 v12_r0 v14_r0 v16_r0 v18_r0), ∀ (k0_h66 : k0_cond66 v12_r0 = 1#1), (Rect.unit (s := S2048x8x128) (k0_off74 v16_r0 v18_r0) S64x8x128.size (k0_off74_inb v12_r0 v14_r0 v16_r0 v18_r0 k0_hw2 k0_h66)).WholeWords (EltTy.packing .bf16) := fun v12_r0 v14_r0 v16_r0 v18_r0 k0_hw2 k0_h66 => k0_hw2.1.2.2.2.2.2.2.2.1 k0_h66 (k0_off74_inb v12_r0 v14_r0 v16_r0 v18_r0 k0_hw2 k0_h66)
theorem k0_off76_inb : ∀ (v12_r0 : BitVec 32) (v14_r0 : BitVec 32) (v16_r0 : BitVec 32) (v18_r0 : BitVec 32) (k0_hw2 : k0_chk2 v12_r0 v14_r0 v16_r0 v18_r0), ∀ (k0_h67 : k0_cond67 v12_r0 = 1#1), ∀ a, (k0_off76 v16_r0 v18_r0) a + S64x8x128.size a ≤ S2048x8x128.size a := fun v12_r0 v14_r0 v16_r0 v18_r0 k0_hw2 k0_h67 => k0_hw2.1.2.2.2.2.2.2.2.2.1 k0_h67
theorem k0_off77_inb : ∀ (v12_r0 : BitVec 32) (v14_r0 : BitVec 32) (v16_r0 : BitVec 32) (v18_r0 : BitVec 32) (k0_hw2 : k0_chk2 v12_r0 v14_r0 v16_r0 v18_r0), ∀ (k0_h67 : k0_cond67 v12_r0 = 1#1), ∀ a, (k0_off77 v14_r0 v18_r0) a + S64x8x128.size a ≤ S2048x8x128.size a := fun v12_r0 v14_r0 v16_r0 v18_r0 k0_hw2 k0_h67 => k0_hw2.1.2.2.2.2.2.2.2.2.2.1 k0_h67
theorem k0_off77_wordsbf16 : ∀ (v12_r0 : BitVec 32) (v14_r0 : BitVec 32) (v16_r0 : BitVec 32) (v18_r0 : BitVec 32) (k0_hw2 : k0_chk2 v12_r0 v14_r0 v16_r0 v18_r0), ∀ (k0_h67 : k0_cond67 v12_r0 = 1#1), (Rect.unit (s := S2048x8x128) (k0_off77 v14_r0 v18_r0) S64x8x128.size (k0_off77_inb v12_r0 v14_r0 v16_r0 v18_r0 k0_hw2 k0_h67)).WholeWords (EltTy.packing .bf16) := fun v12_r0 v14_r0 v16_r0 v18_r0 k0_hw2 k0_h67 => k0_hw2.1.2.2.2.2.2.2.2.2.2.2.1 k0_h67 (k0_off77_inb v12_r0 v14_r0 v16_r0 v18_r0 k0_hw2 k0_h67)
theorem k0_off76_wordsbf16 : ∀ (v12_r0 : BitVec 32) (v14_r0 : BitVec 32) (v16_r0 : BitVec 32) (v18_r0 : BitVec 32) (k0_hw2 : k0_chk2 v12_r0 v14_r0 v16_r0 v18_r0), ∀ (k0_h67 : k0_cond67 v12_r0 = 1#1), (Rect.unit (s := S2048x8x128) (k0_off76 v16_r0 v18_r0) S64x8x128.size (k0_off76_inb v12_r0 v14_r0 v16_r0 v18_r0 k0_hw2 k0_h67)).WholeWords (EltTy.packing .bf16) := fun v12_r0 v14_r0 v16_r0 v18_r0 k0_hw2 k0_h67 => k0_hw2.1.2.2.2.2.2.2.2.2.2.2.2.1 k0_h67 (k0_off76_inb v12_r0 v14_r0 v16_r0 v18_r0 k0_hw2 k0_h67)
theorem k0_off78_inb : ∀ (v12_r0 : BitVec 32) (v14_r0 : BitVec 32) (v16_r0 : BitVec 32) (v18_r0 : BitVec 32) (k0_hw2 : k0_chk2 v12_r0 v14_r0 v16_r0 v18_r0), ∀ (k0_h68 : k0_cond68 v12_r0 = 1#1), ∀ a, (k0_off78 v16_r0 v18_r0) a + S64x8x128.size a ≤ S2048x8x128.size a := fun v12_r0 v14_r0 v16_r0 v18_r0 k0_hw2 k0_h68 => k0_hw2.1.2.2.2.2.2.2.2.2.2.2.2.2.1 k0_h68
theorem k0_off79_inb : ∀ (v12_r0 : BitVec 32) (v14_r0 : BitVec 32) (v16_r0 : BitVec 32) (v18_r0 : BitVec 32) (k0_hw2 : k0_chk2 v12_r0 v14_r0 v16_r0 v18_r0), ∀ (k0_h68 : k0_cond68 v12_r0 = 1#1), ∀ a, (k0_off79 v14_r0 v18_r0) a + S64x8x128.size a ≤ S2048x8x128.size a := fun v12_r0 v14_r0 v16_r0 v18_r0 k0_hw2 k0_h68 => k0_hw2.1.2.2.2.2.2.2.2.2.2.2.2.2.2.1 k0_h68
theorem k0_off79_wordsbf16 : ∀ (v12_r0 : BitVec 32) (v14_r0 : BitVec 32) (v16_r0 : BitVec 32) (v18_r0 : BitVec 32) (k0_hw2 : k0_chk2 v12_r0 v14_r0 v16_r0 v18_r0), ∀ (k0_h68 : k0_cond68 v12_r0 = 1#1), (Rect.unit (s := S2048x8x128) (k0_off79 v14_r0 v18_r0) S64x8x128.size (k0_off79_inb v12_r0 v14_r0 v16_r0 v18_r0 k0_hw2 k0_h68)).WholeWords (EltTy.packing .bf16) := fun v12_r0 v14_r0 v16_r0 v18_r0 k0_hw2 k0_h68 => k0_hw2.1.2.2.2.2.2.2.2.2.2.2.2.2.2.2.1 k0_h68 (k0_off79_inb v12_r0 v14_r0 v16_r0 v18_r0 k0_hw2 k0_h68)
theorem k0_off78_wordsbf16 : ∀ (v12_r0 : BitVec 32) (v14_r0 : BitVec 32) (v16_r0 : BitVec 32) (v18_r0 : BitVec 32) (k0_hw2 : k0_chk2 v12_r0 v14_r0 v16_r0 v18_r0), ∀ (k0_h68 : k0_cond68 v12_r0 = 1#1), (Rect.unit (s := S2048x8x128) (k0_off78 v16_r0 v18_r0) S64x8x128.size (k0_off78_inb v12_r0 v14_r0 v16_r0 v18_r0 k0_hw2 k0_h68)).WholeWords (EltTy.packing .bf16) := fun v12_r0 v14_r0 v16_r0 v18_r0 k0_hw2 k0_h68 => k0_hw2.1.2.2.2.2.2.2.2.2.2.2.2.2.2.2.2.1 k0_h68 (k0_off78_inb v12_r0 v14_r0 v16_r0 v18_r0 k0_hw2 k0_h68)
theorem k0_off80_inb : ∀ (v12_r0 : BitVec 32) (v14_r0 : BitVec 32) (v16_r0 : BitVec 32) (v18_r0 : BitVec 32) (k0_hw2 : k0_chk2 v12_r0 v14_r0 v16_r0 v18_r0), ∀ (k0_h69 : k0_cond69 v12_r0 = 1#1), ∀ a, (k0_off80 v16_r0 v18_r0) a + S64x8x128.size a ≤ S2048x8x128.size a := fun v12_r0 v14_r0 v16_r0 v18_r0 k0_hw2 k0_h69 => k0_hw2.1.2.2.2.2.2.2.2.2.2.2.2.2.2.2.2.2.1 k0_h69
theorem k0_off81_inb : ∀ (v12_r0 : BitVec 32) (v14_r0 : BitVec 32) (v16_r0 : BitVec 32) (v18_r0 : BitVec 32) (k0_hw2 : k0_chk2 v12_r0 v14_r0 v16_r0 v18_r0), ∀ (k0_h69 : k0_cond69 v12_r0 = 1#1), ∀ a, (k0_off81 v14_r0 v18_r0) a + S64x8x128.size a ≤ S2048x8x128.size a := fun v12_r0 v14_r0 v16_r0 v18_r0 k0_hw2 k0_h69 => k0_hw2.1.2.2.2.2.2.2.2.2.2.2.2.2.2.2.2.2.2.1 k0_h69
theorem k0_off81_wordsbf16 : ∀ (v12_r0 : BitVec 32) (v14_r0 : BitVec 32) (v16_r0 : BitVec 32) (v18_r0 : BitVec 32) (k0_hw2 : k0_chk2 v12_r0 v14_r0 v16_r0 v18_r0), ∀ (k0_h69 : k0_cond69 v12_r0 = 1#1), (Rect.unit (s := S2048x8x128) (k0_off81 v14_r0 v18_r0) S64x8x128.size (k0_off81_inb v12_r0 v14_r0 v16_r0 v18_r0 k0_hw2 k0_h69)).WholeWords (EltTy.packing .bf16) := fun v12_r0 v14_r0 v16_r0 v18_r0 k0_hw2 k0_h69 => k0_hw2.1.2.2.2.2.2.2.2.2.2.2.2.2.2.2.2.2.2.2.1 k0_h69 (k0_off81_inb v12_r0 v14_r0 v16_r0 v18_r0 k0_hw2 k0_h69)
theorem k0_off80_wordsbf16 : ∀ (v12_r0 : BitVec 32) (v14_r0 : BitVec 32) (v16_r0 : BitVec 32) (v18_r0 : BitVec 32) (k0_hw2 : k0_chk2 v12_r0 v14_r0 v16_r0 v18_r0), ∀ (k0_h69 : k0_cond69 v12_r0 = 1#1), (Rect.unit (s := S2048x8x128) (k0_off80 v16_r0 v18_r0) S64x8x128.size (k0_off80_inb v12_r0 v14_r0 v16_r0 v18_r0 k0_hw2 k0_h69)).WholeWords (EltTy.packing .bf16) := fun v12_r0 v14_r0 v16_r0 v18_r0 k0_hw2 k0_h69 => k0_hw2.1.2.2.2.2.2.2.2.2.2.2.2.2.2.2.2.2.2.2.2.1 k0_h69 (k0_off80_inb v12_r0 v14_r0 v16_r0 v18_r0 k0_hw2 k0_h69)
theorem k0_off82_inb : ∀ (v12_r0 : BitVec 32) (v14_r0 : BitVec 32) (v16_r0 : BitVec 32) (v18_r0 : BitVec 32) (k0_hw2 : k0_chk2 v12_r0 v14_r0 v16_r0 v18_r0), ∀ (k0_h70 : k0_cond70 v12_r0 = 1#1), ∀ a, (k0_off82 v16_r0 v18_r0) a + S64x8x128.size a ≤ S2048x8x128.size a := fun v12_r0 v14_r0 v16_r0 v18_r0 k0_hw2 k0_h70 => k0_hw2.1.2.2.2.2.2.2.2.2.2.2.2.2.2.2.2.2.2.2.2.2.1 k0_h70
theorem k0_off83_inb : ∀ (v12_r0 : BitVec 32) (v14_r0 : BitVec 32) (v16_r0 : BitVec 32) (v18_r0 : BitVec 32) (k0_hw2 : k0_chk2 v12_r0 v14_r0 v16_r0 v18_r0), ∀ (k0_h70 : k0_cond70 v12_r0 = 1#1), ∀ a, (k0_off83 v14_r0 v18_r0) a + S64x8x128.size a ≤ S2048x8x128.size a := fun v12_r0 v14_r0 v16_r0 v18_r0 k0_hw2 k0_h70 => k0_hw2.1.2.2.2.2.2.2.2.2.2.2.2.2.2.2.2.2.2.2.2.2.2.1 k0_h70
theorem k0_off83_wordsbf16 : ∀ (v12_r0 : BitVec 32) (v14_r0 : BitVec 32) (v16_r0 : BitVec 32) (v18_r0 : BitVec 32) (k0_hw2 : k0_chk2 v12_r0 v14_r0 v16_r0 v18_r0), ∀ (k0_h70 : k0_cond70 v12_r0 = 1#1), (Rect.unit (s := S2048x8x128) (k0_off83 v14_r0 v18_r0) S64x8x128.size (k0_off83_inb v12_r0 v14_r0 v16_r0 v18_r0 k0_hw2 k0_h70)).WholeWords (EltTy.packing .bf16) := fun v12_r0 v14_r0 v16_r0 v18_r0 k0_hw2 k0_h70 => k0_hw2.1.2.2.2.2.2.2.2.2.2.2.2.2.2.2.2.2.2.2.2.2.2.2.1 k0_h70 (k0_off83_inb v12_r0 v14_r0 v16_r0 v18_r0 k0_hw2 k0_h70)
theorem k0_off82_wordsbf16 : ∀ (v12_r0 : BitVec 32) (v14_r0 : BitVec 32) (v16_r0 : BitVec 32) (v18_r0 : BitVec 32) (k0_hw2 : k0_chk2 v12_r0 v14_r0 v16_r0 v18_r0), ∀ (k0_h70 : k0_cond70 v12_r0 = 1#1), (Rect.unit (s := S2048x8x128) (k0_off82 v16_r0 v18_r0) S64x8x128.size (k0_off82_inb v12_r0 v14_r0 v16_r0 v18_r0 k0_hw2 k0_h70)).WholeWords (EltTy.packing .bf16) := fun v12_r0 v14_r0 v16_r0 v18_r0 k0_hw2 k0_h70 => k0_hw2.1.2.2.2.2.2.2.2.2.2.2.2.2.2.2.2.2.2.2.2.2.2.2.2.1 k0_h70 (k0_off82_inb v12_r0 v14_r0 v16_r0 v18_r0 k0_hw2 k0_h70)
theorem k0_off84_inb : ∀ (v12_r0 : BitVec 32) (v14_r0 : BitVec 32) (v16_r0 : BitVec 32) (v18_r0 : BitVec 32) (k0_hw2 : k0_chk2 v12_r0 v14_r0 v16_r0 v18_r0), ∀ (k0_h71 : k0_cond71 v12_r0 = 1#1), ∀ a, (k0_off84 v16_r0 v18_r0) a + S64x8x128.size a ≤ S2048x8x128.size a := fun v12_r0 v14_r0 v16_r0 v18_r0 k0_hw2 k0_h71 => k0_hw2.1.2.2.2.2.2.2.2.2.2.2.2.2.2.2.2.2.2.2.2.2.2.2.2.2.1 k0_h71
theorem k0_off85_inb : ∀ (v12_r0 : BitVec 32) (v14_r0 : BitVec 32) (v16_r0 : BitVec 32) (v18_r0 : BitVec 32) (k0_hw2 : k0_chk2 v12_r0 v14_r0 v16_r0 v18_r0), ∀ (k0_h71 : k0_cond71 v12_r0 = 1#1), ∀ a, (k0_off85 v14_r0 v18_r0) a + S64x8x128.size a ≤ S2048x8x128.size a := fun v12_r0 v14_r0 v16_r0 v18_r0 k0_hw2 k0_h71 => k0_hw2.1.2.2.2.2.2.2.2.2.2.2.2.2.2.2.2.2.2.2.2.2.2.2.2.2.2.1 k0_h71
theorem k0_off85_wordsbf16 : ∀ (v12_r0 : BitVec 32) (v14_r0 : BitVec 32) (v16_r0 : BitVec 32) (v18_r0 : BitVec 32) (k0_hw2 : k0_chk2 v12_r0 v14_r0 v16_r0 v18_r0), ∀ (k0_h71 : k0_cond71 v12_r0 = 1#1), (Rect.unit (s := S2048x8x128) (k0_off85 v14_r0 v18_r0) S64x8x128.size (k0_off85_inb v12_r0 v14_r0 v16_r0 v18_r0 k0_hw2 k0_h71)).WholeWords (EltTy.packing .bf16) := fun v12_r0 v14_r0 v16_r0 v18_r0 k0_hw2 k0_h71 => k0_hw2.1.2.2.2.2.2.2.2.2.2.2.2.2.2.2.2.2.2.2.2.2.2.2.2.2.2.2.1 k0_h71 (k0_off85_inb v12_r0 v14_r0 v16_r0 v18_r0 k0_hw2 k0_h71)
theorem k0_off84_wordsbf16 : ∀ (v12_r0 : BitVec 32) (v14_r0 : BitVec 32) (v16_r0 : BitVec 32) (v18_r0 : BitVec 32) (k0_hw2 : k0_chk2 v12_r0 v14_r0 v16_r0 v18_r0), ∀ (k0_h71 : k0_cond71 v12_r0 = 1#1), (Rect.unit (s := S2048x8x128) (k0_off84 v16_r0 v18_r0) S64x8x128.size (k0_off84_inb v12_r0 v14_r0 v16_r0 v18_r0 k0_hw2 k0_h71)).WholeWords (EltTy.packing .bf16) := fun v12_r0 v14_r0 v16_r0 v18_r0 k0_hw2 k0_h71 => k0_hw2.1.2.2.2.2.2.2.2.2.2.2.2.2.2.2.2.2.2.2.2.2.2.2.2.2.2.2.2.1 k0_h71 (k0_off84_inb v12_r0 v14_r0 v16_r0 v18_r0 k0_hw2 k0_h71)
theorem k0_off86_inb : ∀ (v12_r0 : BitVec 32) (v14_r0 : BitVec 32) (v16_r0 : BitVec 32) (v18_r0 : BitVec 32) (k0_hw2 : k0_chk2 v12_r0 v14_r0 v16_r0 v18_r0), ∀ (k0_h72 : k0_cond72 v12_r0 = 1#1), ∀ a, (k0_off86 v16_r0 v18_r0) a + S64x8x128.size a ≤ S2048x8x128.size a := fun v12_r0 v14_r0 v16_r0 v18_r0 k0_hw2 k0_h72 => k0_hw2.1.2.2.2.2.2.2.2.2.2.2.2.2.2.2.2.2.2.2.2.2.2.2.2.2.2.2.2.2.1 k0_h72
theorem k0_off87_inb : ∀ (v12_r0 : BitVec 32) (v14_r0 : BitVec 32) (v16_r0 : BitVec 32) (v18_r0 : BitVec 32) (k0_hw2 : k0_chk2 v12_r0 v14_r0 v16_r0 v18_r0), ∀ (k0_h72 : k0_cond72 v12_r0 = 1#1), ∀ a, (k0_off87 v14_r0 v18_r0) a + S64x8x128.size a ≤ S2048x8x128.size a := fun v12_r0 v14_r0 v16_r0 v18_r0 k0_hw2 k0_h72 => k0_hw2.1.2.2.2.2.2.2.2.2.2.2.2.2.2.2.2.2.2.2.2.2.2.2.2.2.2.2.2.2.2.1 k0_h72
theorem k0_off87_wordsbf16 : ∀ (v12_r0 : BitVec 32) (v14_r0 : BitVec 32) (v16_r0 : BitVec 32) (v18_r0 : BitVec 32) (k0_hw2 : k0_chk2 v12_r0 v14_r0 v16_r0 v18_r0), ∀ (k0_h72 : k0_cond72 v12_r0 = 1#1), (Rect.unit (s := S2048x8x128) (k0_off87 v14_r0 v18_r0) S64x8x128.size (k0_off87_inb v12_r0 v14_r0 v16_r0 v18_r0 k0_hw2 k0_h72)).WholeWords (EltTy.packing .bf16) := fun v12_r0 v14_r0 v16_r0 v18_r0 k0_hw2 k0_h72 => k0_hw2.1.2.2.2.2.2.2.2.2.2.2.2.2.2.2.2.2.2.2.2.2.2.2.2.2.2.2.2.2.2.2.1 k0_h72 (k0_off87_inb v12_r0 v14_r0 v16_r0 v18_r0 k0_hw2 k0_h72)
theorem k0_off86_wordsbf16 : ∀ (v12_r0 : BitVec 32) (v14_r0 : BitVec 32) (v16_r0 : BitVec 32) (v18_r0 : BitVec 32) (k0_hw2 : k0_chk2 v12_r0 v14_r0 v16_r0 v18_r0), ∀ (k0_h72 : k0_cond72 v12_r0 = 1#1), (Rect.unit (s := S2048x8x128) (k0_off86 v16_r0 v18_r0) S64x8x128.size (k0_off86_inb v12_r0 v14_r0 v16_r0 v18_r0 k0_hw2 k0_h72)).WholeWords (EltTy.packing .bf16) := fun v12_r0 v14_r0 v16_r0 v18_r0 k0_hw2 k0_h72 => k0_hw2.1.2.2.2.2.2.2.2.2.2.2.2.2.2.2.2.2.2.2.2.2.2.2.2.2.2.2.2.2.2.2.2 k0_h72 (k0_off86_inb v12_r0 v14_r0 v16_r0 v18_r0 k0_hw2 k0_h72)
theorem k0_off88_inb : ∀ (v12_r0 : BitVec 32) (v14_r0 : BitVec 32) (v16_r0 : BitVec 32) (v18_r0 : BitVec 32) (k0_hw2 : k0_chk2 v12_r0 v14_r0 v16_r0 v18_r0), ∀ (k0_h73 : k0_cond73 v12_r0 = 1#1), ∀ a, (k0_off88 v16_r0 v18_r0) a + S64x8x128.size a ≤ S2048x8x128.size a := fun v12_r0 v14_r0 v16_r0 v18_r0 k0_hw2 k0_h73 => k0_hw2.2.1.1 k0_h73
theorem k0_off89_inb : ∀ (v12_r0 : BitVec 32) (v14_r0 : BitVec 32) (v16_r0 : BitVec 32) (v18_r0 : BitVec 32) (k0_hw2 : k0_chk2 v12_r0 v14_r0 v16_r0 v18_r0), ∀ (k0_h73 : k0_cond73 v12_r0 = 1#1), ∀ a, (k0_off89 v14_r0 v18_r0) a + S64x8x128.size a ≤ S2048x8x128.size a := fun v12_r0 v14_r0 v16_r0 v18_r0 k0_hw2 k0_h73 => k0_hw2.2.1.2.1 k0_h73
theorem k0_off89_wordsbf16 : ∀ (v12_r0 : BitVec 32) (v14_r0 : BitVec 32) (v16_r0 : BitVec 32) (v18_r0 : BitVec 32) (k0_hw2 : k0_chk2 v12_r0 v14_r0 v16_r0 v18_r0), ∀ (k0_h73 : k0_cond73 v12_r0 = 1#1), (Rect.unit (s := S2048x8x128) (k0_off89 v14_r0 v18_r0) S64x8x128.size (k0_off89_inb v12_r0 v14_r0 v16_r0 v18_r0 k0_hw2 k0_h73)).WholeWords (EltTy.packing .bf16) := fun v12_r0 v14_r0 v16_r0 v18_r0 k0_hw2 k0_h73 => k0_hw2.2.1.2.2.1 k0_h73 (k0_off89_inb v12_r0 v14_r0 v16_r0 v18_r0 k0_hw2 k0_h73)
theorem k0_off88_wordsbf16 : ∀ (v12_r0 : BitVec 32) (v14_r0 : BitVec 32) (v16_r0 : BitVec 32) (v18_r0 : BitVec 32) (k0_hw2 : k0_chk2 v12_r0 v14_r0 v16_r0 v18_r0), ∀ (k0_h73 : k0_cond73 v12_r0 = 1#1), (Rect.unit (s := S2048x8x128) (k0_off88 v16_r0 v18_r0) S64x8x128.size (k0_off88_inb v12_r0 v14_r0 v16_r0 v18_r0 k0_hw2 k0_h73)).WholeWords (EltTy.packing .bf16) := fun v12_r0 v14_r0 v16_r0 v18_r0 k0_hw2 k0_h73 => k0_hw2.2.1.2.2.2.1 k0_h73 (k0_off88_inb v12_r0 v14_r0 v16_r0 v18_r0 k0_hw2 k0_h73)
theorem k0_off90_inb : ∀ (v12_r0 : BitVec 32) (v14_r0 : BitVec 32) (v16_r0 : BitVec 32) (v18_r0 : BitVec 32) (k0_hw2 : k0_chk2 v12_r0 v14_r0 v16_r0 v18_r0), ∀ (k0_h74 : k0_cond74 v12_r0 = 1#1), ∀ a, (k0_off90 v16_r0 v18_r0) a + S64x8x128.size a ≤ S2048x8x128.size a := fun v12_r0 v14_r0 v16_r0 v18_r0 k0_hw2 k0_h74 => k0_hw2.2.1.2.2.2.2.1 k0_h74
theorem k0_off91_inb : ∀ (v12_r0 : BitVec 32) (v14_r0 : BitVec 32) (v16_r0 : BitVec 32) (v18_r0 : BitVec 32) (k0_hw2 : k0_chk2 v12_r0 v14_r0 v16_r0 v18_r0), ∀ (k0_h74 : k0_cond74 v12_r0 = 1#1), ∀ a, (k0_off91 v14_r0 v18_r0) a + S64x8x128.size a ≤ S2048x8x128.size a := fun v12_r0 v14_r0 v16_r0 v18_r0 k0_hw2 k0_h74 => k0_hw2.2.1.2.2.2.2.2.1 k0_h74
theorem k0_off91_wordsbf16 : ∀ (v12_r0 : BitVec 32) (v14_r0 : BitVec 32) (v16_r0 : BitVec 32) (v18_r0 : BitVec 32) (k0_hw2 : k0_chk2 v12_r0 v14_r0 v16_r0 v18_r0), ∀ (k0_h74 : k0_cond74 v12_r0 = 1#1), (Rect.unit (s := S2048x8x128) (k0_off91 v14_r0 v18_r0) S64x8x128.size (k0_off91_inb v12_r0 v14_r0 v16_r0 v18_r0 k0_hw2 k0_h74)).WholeWords (EltTy.packing .bf16) := fun v12_r0 v14_r0 v16_r0 v18_r0 k0_hw2 k0_h74 => k0_hw2.2.1.2.2.2.2.2.2.1 k0_h74 (k0_off91_inb v12_r0 v14_r0 v16_r0 v18_r0 k0_hw2 k0_h74)
theorem k0_off90_wordsbf16 : ∀ (v12_r0 : BitVec 32) (v14_r0 : BitVec 32) (v16_r0 : BitVec 32) (v18_r0 : BitVec 32) (k0_hw2 : k0_chk2 v12_r0 v14_r0 v16_r0 v18_r0), ∀ (k0_h74 : k0_cond74 v12_r0 = 1#1), (Rect.unit (s := S2048x8x128) (k0_off90 v16_r0 v18_r0) S64x8x128.size (k0_off90_inb v12_r0 v14_r0 v16_r0 v18_r0 k0_hw2 k0_h74)).WholeWords (EltTy.packing .bf16) := fun v12_r0 v14_r0 v16_r0 v18_r0 k0_hw2 k0_h74 => k0_hw2.2.1.2.2.2.2.2.2.2.1 k0_h74 (k0_off90_inb v12_r0 v14_r0 v16_r0 v18_r0 k0_hw2 k0_h74)
theorem k0_off92_inb : ∀ (v12_r0 : BitVec 32) (v14_r0 : BitVec 32) (v16_r0 : BitVec 32) (v18_r0 : BitVec 32) (k0_hw2 : k0_chk2 v12_r0 v14_r0 v16_r0 v18_r0), ∀ (k0_h75 : k0_cond75 v12_r0 = 1#1), ∀ a, (k0_off92 v16_r0 v18_r0) a + S64x8x128.size a ≤ S2048x8x128.size a := fun v12_r0 v14_r0 v16_r0 v18_r0 k0_hw2 k0_h75 => k0_hw2.2.1.2.2.2.2.2.2.2.2.1 k0_h75
theorem k0_off93_inb : ∀ (v12_r0 : BitVec 32) (v14_r0 : BitVec 32) (v16_r0 : BitVec 32) (v18_r0 : BitVec 32) (k0_hw2 : k0_chk2 v12_r0 v14_r0 v16_r0 v18_r0), ∀ (k0_h75 : k0_cond75 v12_r0 = 1#1), ∀ a, (k0_off93 v14_r0 v18_r0) a + S64x8x128.size a ≤ S2048x8x128.size a := fun v12_r0 v14_r0 v16_r0 v18_r0 k0_hw2 k0_h75 => k0_hw2.2.1.2.2.2.2.2.2.2.2.2.1 k0_h75
theorem k0_off93_wordsbf16 : ∀ (v12_r0 : BitVec 32) (v14_r0 : BitVec 32) (v16_r0 : BitVec 32) (v18_r0 : BitVec 32) (k0_hw2 : k0_chk2 v12_r0 v14_r0 v16_r0 v18_r0), ∀ (k0_h75 : k0_cond75 v12_r0 = 1#1), (Rect.unit (s := S2048x8x128) (k0_off93 v14_r0 v18_r0) S64x8x128.size (k0_off93_inb v12_r0 v14_r0 v16_r0 v18_r0 k0_hw2 k0_h75)).WholeWords (EltTy.packing .bf16) := fun v12_r0 v14_r0 v16_r0 v18_r0 k0_hw2 k0_h75 => k0_hw2.2.1.2.2.2.2.2.2.2.2.2.2.1 k0_h75 (k0_off93_inb v12_r0 v14_r0 v16_r0 v18_r0 k0_hw2 k0_h75)
theorem k0_off92_wordsbf16 : ∀ (v12_r0 : BitVec 32) (v14_r0 : BitVec 32) (v16_r0 : BitVec 32) (v18_r0 : BitVec 32) (k0_hw2 : k0_chk2 v12_r0 v14_r0 v16_r0 v18_r0), ∀ (k0_h75 : k0_cond75 v12_r0 = 1#1), (Rect.unit (s := S2048x8x128) (k0_off92 v16_r0 v18_r0) S64x8x128.size (k0_off92_inb v12_r0 v14_r0 v16_r0 v18_r0 k0_hw2 k0_h75)).WholeWords (EltTy.packing .bf16) := fun v12_r0 v14_r0 v16_r0 v18_r0 k0_hw2 k0_h75 => k0_hw2.2.1.2.2.2.2.2.2.2.2.2.2.2.1 k0_h75 (k0_off92_inb v12_r0 v14_r0 v16_r0 v18_r0 k0_hw2 k0_h75)
theorem k0_off94_inb : ∀ (v12_r0 : BitVec 32) (v14_r0 : BitVec 32) (v16_r0 : BitVec 32) (v18_r0 : BitVec 32) (k0_hw2 : k0_chk2 v12_r0 v14_r0 v16_r0 v18_r0), ∀ (k0_h76 : k0_cond76 v12_r0 = 1#1), ∀ a, (k0_off94 v16_r0 v18_r0) a + S64x8x128.size a ≤ S2048x8x128.size a := fun v12_r0 v14_r0 v16_r0 v18_r0 k0_hw2 k0_h76 => k0_hw2.2.1.2.2.2.2.2.2.2.2.2.2.2.2.1 k0_h76
theorem k0_off95_inb : ∀ (v12_r0 : BitVec 32) (v14_r0 : BitVec 32) (v16_r0 : BitVec 32) (v18_r0 : BitVec 32) (k0_hw2 : k0_chk2 v12_r0 v14_r0 v16_r0 v18_r0), ∀ (k0_h76 : k0_cond76 v12_r0 = 1#1), ∀ a, (k0_off95 v14_r0 v18_r0) a + S64x8x128.size a ≤ S2048x8x128.size a := fun v12_r0 v14_r0 v16_r0 v18_r0 k0_hw2 k0_h76 => k0_hw2.2.1.2.2.2.2.2.2.2.2.2.2.2.2.2.1 k0_h76
theorem k0_off95_wordsbf16 : ∀ (v12_r0 : BitVec 32) (v14_r0 : BitVec 32) (v16_r0 : BitVec 32) (v18_r0 : BitVec 32) (k0_hw2 : k0_chk2 v12_r0 v14_r0 v16_r0 v18_r0), ∀ (k0_h76 : k0_cond76 v12_r0 = 1#1), (Rect.unit (s := S2048x8x128) (k0_off95 v14_r0 v18_r0) S64x8x128.size (k0_off95_inb v12_r0 v14_r0 v16_r0 v18_r0 k0_hw2 k0_h76)).WholeWords (EltTy.packing .bf16) := fun v12_r0 v14_r0 v16_r0 v18_r0 k0_hw2 k0_h76 => k0_hw2.2.1.2.2.2.2.2.2.2.2.2.2.2.2.2.2.1 k0_h76 (k0_off95_inb v12_r0 v14_r0 v16_r0 v18_r0 k0_hw2 k0_h76)
theorem k0_off94_wordsbf16 : ∀ (v12_r0 : BitVec 32) (v14_r0 : BitVec 32) (v16_r0 : BitVec 32) (v18_r0 : BitVec 32) (k0_hw2 : k0_chk2 v12_r0 v14_r0 v16_r0 v18_r0), ∀ (k0_h76 : k0_cond76 v12_r0 = 1#1), (Rect.unit (s := S2048x8x128) (k0_off94 v16_r0 v18_r0) S64x8x128.size (k0_off94_inb v12_r0 v14_r0 v16_r0 v18_r0 k0_hw2 k0_h76)).WholeWords (EltTy.packing .bf16) := fun v12_r0 v14_r0 v16_r0 v18_r0 k0_hw2 k0_h76 => k0_hw2.2.1.2.2.2.2.2.2.2.2.2.2.2.2.2.2.2.1 k0_h76 (k0_off94_inb v12_r0 v14_r0 v16_r0 v18_r0 k0_hw2 k0_h76)
theorem k0_off96_inb : ∀ (v12_r0 : BitVec 32) (v14_r0 : BitVec 32) (v16_r0 : BitVec 32) (v18_r0 : BitVec 32) (k0_hw2 : k0_chk2 v12_r0 v14_r0 v16_r0 v18_r0), ∀ (k0_h77 : k0_cond77 v12_r0 = 1#1), ∀ a, (k0_off96 v16_r0 v18_r0) a + S64x8x128.size a ≤ S2048x8x128.size a := fun v12_r0 v14_r0 v16_r0 v18_r0 k0_hw2 k0_h77 => k0_hw2.2.1.2.2.2.2.2.2.2.2.2.2.2.2.2.2.2.2.1 k0_h77
theorem k0_off97_inb : ∀ (v12_r0 : BitVec 32) (v14_r0 : BitVec 32) (v16_r0 : BitVec 32) (v18_r0 : BitVec 32) (k0_hw2 : k0_chk2 v12_r0 v14_r0 v16_r0 v18_r0), ∀ (k0_h77 : k0_cond77 v12_r0 = 1#1), ∀ a, (k0_off97 v14_r0 v18_r0) a + S64x8x128.size a ≤ S2048x8x128.size a := fun v12_r0 v14_r0 v16_r0 v18_r0 k0_hw2 k0_h77 => k0_hw2.2.1.2.2.2.2.2.2.2.2.2.2.2.2.2.2.2.2.2.1 k0_h77
theorem k0_off97_wordsbf16 : ∀ (v12_r0 : BitVec 32) (v14_r0 : BitVec 32) (v16_r0 : BitVec 32) (v18_r0 : BitVec 32) (k0_hw2 : k0_chk2 v12_r0 v14_r0 v16_r0 v18_r0), ∀ (k0_h77 : k0_cond77 v12_r0 = 1#1), (Rect.unit (s := S2048x8x128) (k0_off97 v14_r0 v18_r0) S64x8x128.size (k0_off97_inb v12_r0 v14_r0 v16_r0 v18_r0 k0_hw2 k0_h77)).WholeWords (EltTy.packing .bf16) := fun v12_r0 v14_r0 v16_r0 v18_r0 k0_hw2 k0_h77 => k0_hw2.2.1.2.2.2.2.2.2.2.2.2.2.2.2.2.2.2.2.2.2.1 k0_h77 (k0_off97_inb v12_r0 v14_r0 v16_r0 v18_r0 k0_hw2 k0_h77)
theorem k0_off96_wordsbf16 : ∀ (v12_r0 : BitVec 32) (v14_r0 : BitVec 32) (v16_r0 : BitVec 32) (v18_r0 : BitVec 32) (k0_hw2 : k0_chk2 v12_r0 v14_r0 v16_r0 v18_r0), ∀ (k0_h77 : k0_cond77 v12_r0 = 1#1), (Rect.unit (s := S2048x8x128) (k0_off96 v16_r0 v18_r0) S64x8x128.size (k0_off96_inb v12_r0 v14_r0 v16_r0 v18_r0 k0_hw2 k0_h77)).WholeWords (EltTy.packing .bf16) := fun v12_r0 v14_r0 v16_r0 v18_r0 k0_hw2 k0_h77 => k0_hw2.2.1.2.2.2.2.2.2.2.2.2.2.2.2.2.2.2.2.2.2.2.1 k0_h77 (k0_off96_inb v12_r0 v14_r0 v16_r0 v18_r0 k0_hw2 k0_h77)
theorem k0_off98_inb : ∀ (v12_r0 : BitVec 32) (v14_r0 : BitVec 32) (v16_r0 : BitVec 32) (v18_r0 : BitVec 32) (k0_hw2 : k0_chk2 v12_r0 v14_r0 v16_r0 v18_r0), ∀ (k0_h78 : k0_cond78 v12_r0 = 1#1), ∀ a, (k0_off98 v16_r0 v18_r0) a + S64x8x128.size a ≤ S2048x8x128.size a := fun v12_r0 v14_r0 v16_r0 v18_r0 k0_hw2 k0_h78 => k0_hw2.2.1.2.2.2.2.2.2.2.2.2.2.2.2.2.2.2.2.2.2.2.2.1 k0_h78
theorem k0_off99_inb : ∀ (v12_r0 : BitVec 32) (v14_r0 : BitVec 32) (v16_r0 : BitVec 32) (v18_r0 : BitVec 32) (k0_hw2 : k0_chk2 v12_r0 v14_r0 v16_r0 v18_r0), ∀ (k0_h78 : k0_cond78 v12_r0 = 1#1), ∀ a, (k0_off99 v14_r0 v18_r0) a + S64x8x128.size a ≤ S2048x8x128.size a := fun v12_r0 v14_r0 v16_r0 v18_r0 k0_hw2 k0_h78 => k0_hw2.2.1.2.2.2.2.2.2.2.2.2.2.2.2.2.2.2.2.2.2.2.2.2.1 k0_h78
theorem k0_off99_wordsbf16 : ∀ (v12_r0 : BitVec 32) (v14_r0 : BitVec 32) (v16_r0 : BitVec 32) (v18_r0 : BitVec 32) (k0_hw2 : k0_chk2 v12_r0 v14_r0 v16_r0 v18_r0), ∀ (k0_h78 : k0_cond78 v12_r0 = 1#1), (Rect.unit (s := S2048x8x128) (k0_off99 v14_r0 v18_r0) S64x8x128.size (k0_off99_inb v12_r0 v14_r0 v16_r0 v18_r0 k0_hw2 k0_h78)).WholeWords (EltTy.packing .bf16) := fun v12_r0 v14_r0 v16_r0 v18_r0 k0_hw2 k0_h78 => k0_hw2.2.1.2.2.2.2.2.2.2.2.2.2.2.2.2.2.2.2.2.2.2.2.2.2.1 k0_h78 (k0_off99_inb v12_r0 v14_r0 v16_r0 v18_r0 k0_hw2 k0_h78)
theorem k0_off98_wordsbf16 : ∀ (v12_r0 : BitVec 32) (v14_r0 : BitVec 32) (v16_r0 : BitVec 32) (v18_r0 : BitVec 32) (k0_hw2 : k0_chk2 v12_r0 v14_r0 v16_r0 v18_r0), ∀ (k0_h78 : k0_cond78 v12_r0 = 1#1), (Rect.unit (s := S2048x8x128) (k0_off98 v16_r0 v18_r0) S64x8x128.size (k0_off98_inb v12_r0 v14_r0 v16_r0 v18_r0 k0_hw2 k0_h78)).WholeWords (EltTy.packing .bf16) := fun v12_r0 v14_r0 v16_r0 v18_r0 k0_hw2 k0_h78 => k0_hw2.2.1.2.2.2.2.2.2.2.2.2.2.2.2.2.2.2.2.2.2.2.2.2.2.2.1 k0_h78 (k0_off98_inb v12_r0 v14_r0 v16_r0 v18_r0 k0_hw2 k0_h78)
theorem k0_off100_inb : ∀ (v12_r0 : BitVec 32) (v14_r0 : BitVec 32) (v16_r0 : BitVec 32) (v18_r0 : BitVec 32) (k0_hw2 : k0_chk2 v12_r0 v14_r0 v16_r0 v18_r0), ∀ (k0_h79 : k0_cond79 v12_r0 = 1#1), ∀ a, (k0_off100 v16_r0 v18_r0) a + S64x8x128.size a ≤ S2048x8x128.size a := fun v12_r0 v14_r0 v16_r0 v18_r0 k0_hw2 k0_h79 => k0_hw2.2.1.2.2.2.2.2.2.2.2.2.2.2.2.2.2.2.2.2.2.2.2.2.2.2.2.1 k0_h79
theorem k0_off101_inb : ∀ (v12_r0 : BitVec 32) (v14_r0 : BitVec 32) (v16_r0 : BitVec 32) (v18_r0 : BitVec 32) (k0_hw2 : k0_chk2 v12_r0 v14_r0 v16_r0 v18_r0), ∀ (k0_h79 : k0_cond79 v12_r0 = 1#1), ∀ a, (k0_off101 v14_r0 v18_r0) a + S64x8x128.size a ≤ S2048x8x128.size a := fun v12_r0 v14_r0 v16_r0 v18_r0 k0_hw2 k0_h79 => k0_hw2.2.1.2.2.2.2.2.2.2.2.2.2.2.2.2.2.2.2.2.2.2.2.2.2.2.2.2.1 k0_h79
theorem k0_off101_wordsbf16 : ∀ (v12_r0 : BitVec 32) (v14_r0 : BitVec 32) (v16_r0 : BitVec 32) (v18_r0 : BitVec 32) (k0_hw2 : k0_chk2 v12_r0 v14_r0 v16_r0 v18_r0), ∀ (k0_h79 : k0_cond79 v12_r0 = 1#1), (Rect.unit (s := S2048x8x128) (k0_off101 v14_r0 v18_r0) S64x8x128.size (k0_off101_inb v12_r0 v14_r0 v16_r0 v18_r0 k0_hw2 k0_h79)).WholeWords (EltTy.packing .bf16) := fun v12_r0 v14_r0 v16_r0 v18_r0 k0_hw2 k0_h79 => k0_hw2.2.1.2.2.2.2.2.2.2.2.2.2.2.2.2.2.2.2.2.2.2.2.2.2.2.2.2.2.1 k0_h79 (k0_off101_inb v12_r0 v14_r0 v16_r0 v18_r0 k0_hw2 k0_h79)
theorem k0_off100_wordsbf16 : ∀ (v12_r0 : BitVec 32) (v14_r0 : BitVec 32) (v16_r0 : BitVec 32) (v18_r0 : BitVec 32) (k0_hw2 : k0_chk2 v12_r0 v14_r0 v16_r0 v18_r0), ∀ (k0_h79 : k0_cond79 v12_r0 = 1#1), (Rect.unit (s := S2048x8x128) (k0_off100 v16_r0 v18_r0) S64x8x128.size (k0_off100_inb v12_r0 v14_r0 v16_r0 v18_r0 k0_hw2 k0_h79)).WholeWords (EltTy.packing .bf16) := fun v12_r0 v14_r0 v16_r0 v18_r0 k0_hw2 k0_h79 => k0_hw2.2.1.2.2.2.2.2.2.2.2.2.2.2.2.2.2.2.2.2.2.2.2.2.2.2.2.2.2.2.1 k0_h79 (k0_off100_inb v12_r0 v14_r0 v16_r0 v18_r0 k0_hw2 k0_h79)
theorem k0_off102_inb : ∀ (v12_r0 : BitVec 32) (v14_r0 : BitVec 32) (v16_r0 : BitVec 32) (v18_r0 : BitVec 32) (k0_hw2 : k0_chk2 v12_r0 v14_r0 v16_r0 v18_r0), ∀ (k0_h80 : k0_cond80 v12_r0 = 1#1), ∀ a, (k0_off102 v16_r0 v18_r0) a + S64x8x128.size a ≤ S2048x8x128.size a := fun v12_r0 v14_r0 v16_r0 v18_r0 k0_hw2 k0_h80 => k0_hw2.2.1.2.2.2.2.2.2.2.2.2.2.2.2.2.2.2.2.2.2.2.2.2.2.2.2.2.2.2.2.1 k0_h80
theorem k0_off103_inb : ∀ (v12_r0 : BitVec 32) (v14_r0 : BitVec 32) (v16_r0 : BitVec 32) (v18_r0 : BitVec 32) (k0_hw2 : k0_chk2 v12_r0 v14_r0 v16_r0 v18_r0), ∀ (k0_h80 : k0_cond80 v12_r0 = 1#1), ∀ a, (k0_off103 v14_r0 v18_r0) a + S64x8x128.size a ≤ S2048x8x128.size a := fun v12_r0 v14_r0 v16_r0 v18_r0 k0_hw2 k0_h80 => k0_hw2.2.1.2.2.2.2.2.2.2.2.2.2.2.2.2.2.2.2.2.2.2.2.2.2.2.2.2.2.2.2.2.1 k0_h80
theorem k0_off103_wordsbf16 : ∀ (v12_r0 : BitVec 32) (v14_r0 : BitVec 32) (v16_r0 : BitVec 32) (v18_r0 : BitVec 32) (k0_hw2 : k0_chk2 v12_r0 v14_r0 v16_r0 v18_r0), ∀ (k0_h80 : k0_cond80 v12_r0 = 1#1), (Rect.unit (s := S2048x8x128) (k0_off103 v14_r0 v18_r0) S64x8x128.size (k0_off103_inb v12_r0 v14_r0 v16_r0 v18_r0 k0_hw2 k0_h80)).WholeWords (EltTy.packing .bf16) := fun v12_r0 v14_r0 v16_r0 v18_r0 k0_hw2 k0_h80 => k0_hw2.2.1.2.2.2.2.2.2.2.2.2.2.2.2.2.2.2.2.2.2.2.2.2.2.2.2.2.2.2.2.2.2.1 k0_h80 (k0_off103_inb v12_r0 v14_r0 v16_r0 v18_r0 k0_hw2 k0_h80)
theorem k0_off102_wordsbf16 : ∀ (v12_r0 : BitVec 32) (v14_r0 : BitVec 32) (v16_r0 : BitVec 32) (v18_r0 : BitVec 32) (k0_hw2 : k0_chk2 v12_r0 v14_r0 v16_r0 v18_r0), ∀ (k0_h80 : k0_cond80 v12_r0 = 1#1), (Rect.unit (s := S2048x8x128) (k0_off102 v16_r0 v18_r0) S64x8x128.size (k0_off102_inb v12_r0 v14_r0 v16_r0 v18_r0 k0_hw2 k0_h80)).WholeWords (EltTy.packing .bf16) := fun v12_r0 v14_r0 v16_r0 v18_r0 k0_hw2 k0_h80 => k0_hw2.2.1.2.2.2.2.2.2.2.2.2.2.2.2.2.2.2.2.2.2.2.2.2.2.2.2.2.2.2.2.2.2.2 k0_h80 (k0_off102_inb v12_r0 v14_r0 v16_r0 v18_r0 k0_hw2 k0_h80)
theorem k0_off104_inb : ∀ (v12_r0 : BitVec 32) (v14_r0 : BitVec 32) (v16_r0 : BitVec 32) (v18_r0 : BitVec 32) (k0_hw2 : k0_chk2 v12_r0 v14_r0 v16_r0 v18_r0), ∀ (k0_h81 : k0_cond81 v12_r0 = 1#1), ∀ a, (k0_off104 v16_r0 v18_r0) a + S64x8x128.size a ≤ S2048x8x128.size a := fun v12_r0 v14_r0 v16_r0 v18_r0 k0_hw2 k0_h81 => k0_hw2.2.2.1.1 k0_h81
theorem k0_off105_inb : ∀ (v12_r0 : BitVec 32) (v14_r0 : BitVec 32) (v16_r0 : BitVec 32) (v18_r0 : BitVec 32) (k0_hw2 : k0_chk2 v12_r0 v14_r0 v16_r0 v18_r0), ∀ (k0_h81 : k0_cond81 v12_r0 = 1#1), ∀ a, (k0_off105 v14_r0 v18_r0) a + S64x8x128.size a ≤ S2048x8x128.size a := fun v12_r0 v14_r0 v16_r0 v18_r0 k0_hw2 k0_h81 => k0_hw2.2.2.1.2.1 k0_h81
theorem k0_off105_wordsbf16 : ∀ (v12_r0 : BitVec 32) (v14_r0 : BitVec 32) (v16_r0 : BitVec 32) (v18_r0 : BitVec 32) (k0_hw2 : k0_chk2 v12_r0 v14_r0 v16_r0 v18_r0), ∀ (k0_h81 : k0_cond81 v12_r0 = 1#1), (Rect.unit (s := S2048x8x128) (k0_off105 v14_r0 v18_r0) S64x8x128.size (k0_off105_inb v12_r0 v14_r0 v16_r0 v18_r0 k0_hw2 k0_h81)).WholeWords (EltTy.packing .bf16) := fun v12_r0 v14_r0 v16_r0 v18_r0 k0_hw2 k0_h81 => k0_hw2.2.2.1.2.2.1 k0_h81 (k0_off105_inb v12_r0 v14_r0 v16_r0 v18_r0 k0_hw2 k0_h81)
theorem k0_off104_wordsbf16 : ∀ (v12_r0 : BitVec 32) (v14_r0 : BitVec 32) (v16_r0 : BitVec 32) (v18_r0 : BitVec 32) (k0_hw2 : k0_chk2 v12_r0 v14_r0 v16_r0 v18_r0), ∀ (k0_h81 : k0_cond81 v12_r0 = 1#1), (Rect.unit (s := S2048x8x128) (k0_off104 v16_r0 v18_r0) S64x8x128.size (k0_off104_inb v12_r0 v14_r0 v16_r0 v18_r0 k0_hw2 k0_h81)).WholeWords (EltTy.packing .bf16) := fun v12_r0 v14_r0 v16_r0 v18_r0 k0_hw2 k0_h81 => k0_hw2.2.2.1.2.2.2.1 k0_h81 (k0_off104_inb v12_r0 v14_r0 v16_r0 v18_r0 k0_hw2 k0_h81)
theorem k0_off106_inb : ∀ (v12_r0 : BitVec 32) (v14_r0 : BitVec 32) (v16_r0 : BitVec 32) (v18_r0 : BitVec 32) (k0_hw2 : k0_chk2 v12_r0 v14_r0 v16_r0 v18_r0), ∀ (k0_h82 : k0_cond82 v12_r0 = 1#1), ∀ a, (k0_off106 v16_r0 v18_r0) a + S64x8x128.size a ≤ S2048x8x128.size a := fun v12_r0 v14_r0 v16_r0 v18_r0 k0_hw2 k0_h82 => k0_hw2.2.2.1.2.2.2.2.1 k0_h82
theorem k0_off107_inb : ∀ (v12_r0 : BitVec 32) (v14_r0 : BitVec 32) (v16_r0 : BitVec 32) (v18_r0 : BitVec 32) (k0_hw2 : k0_chk2 v12_r0 v14_r0 v16_r0 v18_r0), ∀ (k0_h82 : k0_cond82 v12_r0 = 1#1), ∀ a, (k0_off107 v14_r0 v18_r0) a + S64x8x128.size a ≤ S2048x8x128.size a := fun v12_r0 v14_r0 v16_r0 v18_r0 k0_hw2 k0_h82 => k0_hw2.2.2.1.2.2.2.2.2.1 k0_h82
theorem k0_off107_wordsbf16 : ∀ (v12_r0 : BitVec 32) (v14_r0 : BitVec 32) (v16_r0 : BitVec 32) (v18_r0 : BitVec 32) (k0_hw2 : k0_chk2 v12_r0 v14_r0 v16_r0 v18_r0), ∀ (k0_h82 : k0_cond82 v12_r0 = 1#1), (Rect.unit (s := S2048x8x128) (k0_off107 v14_r0 v18_r0) S64x8x128.size (k0_off107_inb v12_r0 v14_r0 v16_r0 v18_r0 k0_hw2 k0_h82)).WholeWords (EltTy.packing .bf16) := fun v12_r0 v14_r0 v16_r0 v18_r0 k0_hw2 k0_h82 => k0_hw2.2.2.1.2.2.2.2.2.2.1 k0_h82 (k0_off107_inb v12_r0 v14_r0 v16_r0 v18_r0 k0_hw2 k0_h82)
theorem k0_off106_wordsbf16 : ∀ (v12_r0 : BitVec 32) (v14_r0 : BitVec 32) (v16_r0 : BitVec 32) (v18_r0 : BitVec 32) (k0_hw2 : k0_chk2 v12_r0 v14_r0 v16_r0 v18_r0), ∀ (k0_h82 : k0_cond82 v12_r0 = 1#1), (Rect.unit (s := S2048x8x128) (k0_off106 v16_r0 v18_r0) S64x8x128.size (k0_off106_inb v12_r0 v14_r0 v16_r0 v18_r0 k0_hw2 k0_h82)).WholeWords (EltTy.packing .bf16) := fun v12_r0 v14_r0 v16_r0 v18_r0 k0_hw2 k0_h82 => k0_hw2.2.2.1.2.2.2.2.2.2.2.1 k0_h82 (k0_off106_inb v12_r0 v14_r0 v16_r0 v18_r0 k0_hw2 k0_h82)
theorem k0_off108_inb : ∀ (v12_r0 : BitVec 32) (v14_r0 : BitVec 32) (v16_r0 : BitVec 32) (v18_r0 : BitVec 32) (k0_hw2 : k0_chk2 v12_r0 v14_r0 v16_r0 v18_r0), ∀ (k0_h83 : k0_cond83 v12_r0 = 1#1), ∀ a, (k0_off108 v16_r0 v18_r0) a + S64x8x128.size a ≤ S2048x8x128.size a := fun v12_r0 v14_r0 v16_r0 v18_r0 k0_hw2 k0_h83 => k0_hw2.2.2.1.2.2.2.2.2.2.2.2.1 k0_h83
theorem k0_off109_inb : ∀ (v12_r0 : BitVec 32) (v14_r0 : BitVec 32) (v16_r0 : BitVec 32) (v18_r0 : BitVec 32) (k0_hw2 : k0_chk2 v12_r0 v14_r0 v16_r0 v18_r0), ∀ (k0_h83 : k0_cond83 v12_r0 = 1#1), ∀ a, (k0_off109 v14_r0 v18_r0) a + S64x8x128.size a ≤ S2048x8x128.size a := fun v12_r0 v14_r0 v16_r0 v18_r0 k0_hw2 k0_h83 => k0_hw2.2.2.1.2.2.2.2.2.2.2.2.2.1 k0_h83
theorem k0_off109_wordsbf16 : ∀ (v12_r0 : BitVec 32) (v14_r0 : BitVec 32) (v16_r0 : BitVec 32) (v18_r0 : BitVec 32) (k0_hw2 : k0_chk2 v12_r0 v14_r0 v16_r0 v18_r0), ∀ (k0_h83 : k0_cond83 v12_r0 = 1#1), (Rect.unit (s := S2048x8x128) (k0_off109 v14_r0 v18_r0) S64x8x128.size (k0_off109_inb v12_r0 v14_r0 v16_r0 v18_r0 k0_hw2 k0_h83)).WholeWords (EltTy.packing .bf16) := fun v12_r0 v14_r0 v16_r0 v18_r0 k0_hw2 k0_h83 => k0_hw2.2.2.1.2.2.2.2.2.2.2.2.2.2.1 k0_h83 (k0_off109_inb v12_r0 v14_r0 v16_r0 v18_r0 k0_hw2 k0_h83)
theorem k0_off108_wordsbf16 : ∀ (v12_r0 : BitVec 32) (v14_r0 : BitVec 32) (v16_r0 : BitVec 32) (v18_r0 : BitVec 32) (k0_hw2 : k0_chk2 v12_r0 v14_r0 v16_r0 v18_r0), ∀ (k0_h83 : k0_cond83 v12_r0 = 1#1), (Rect.unit (s := S2048x8x128) (k0_off108 v16_r0 v18_r0) S64x8x128.size (k0_off108_inb v12_r0 v14_r0 v16_r0 v18_r0 k0_hw2 k0_h83)).WholeWords (EltTy.packing .bf16) := fun v12_r0 v14_r0 v16_r0 v18_r0 k0_hw2 k0_h83 => k0_hw2.2.2.1.2.2.2.2.2.2.2.2.2.2.2.1 k0_h83 (k0_off108_inb v12_r0 v14_r0 v16_r0 v18_r0 k0_hw2 k0_h83)
theorem k0_off110_inb : ∀ (v12_r0 : BitVec 32) (v14_r0 : BitVec 32) (v16_r0 : BitVec 32) (v18_r0 : BitVec 32) (k0_hw2 : k0_chk2 v12_r0 v14_r0 v16_r0 v18_r0), ∀ (k0_h84 : k0_cond84 v12_r0 = 1#1), ∀ a, (k0_off110 v16_r0 v18_r0) a + S64x8x128.size a ≤ S2048x8x128.size a := fun v12_r0 v14_r0 v16_r0 v18_r0 k0_hw2 k0_h84 => k0_hw2.2.2.1.2.2.2.2.2.2.2.2.2.2.2.2.1 k0_h84
theorem k0_off111_inb : ∀ (v12_r0 : BitVec 32) (v14_r0 : BitVec 32) (v16_r0 : BitVec 32) (v18_r0 : BitVec 32) (k0_hw2 : k0_chk2 v12_r0 v14_r0 v16_r0 v18_r0), ∀ (k0_h84 : k0_cond84 v12_r0 = 1#1), ∀ a, (k0_off111 v14_r0 v18_r0) a + S64x8x128.size a ≤ S2048x8x128.size a := fun v12_r0 v14_r0 v16_r0 v18_r0 k0_hw2 k0_h84 => k0_hw2.2.2.1.2.2.2.2.2.2.2.2.2.2.2.2.2.1 k0_h84
theorem k0_off111_wordsbf16 : ∀ (v12_r0 : BitVec 32) (v14_r0 : BitVec 32) (v16_r0 : BitVec 32) (v18_r0 : BitVec 32) (k0_hw2 : k0_chk2 v12_r0 v14_r0 v16_r0 v18_r0), ∀ (k0_h84 : k0_cond84 v12_r0 = 1#1), (Rect.unit (s := S2048x8x128) (k0_off111 v14_r0 v18_r0) S64x8x128.size (k0_off111_inb v12_r0 v14_r0 v16_r0 v18_r0 k0_hw2 k0_h84)).WholeWords (EltTy.packing .bf16) := fun v12_r0 v14_r0 v16_r0 v18_r0 k0_hw2 k0_h84 => k0_hw2.2.2.1.2.2.2.2.2.2.2.2.2.2.2.2.2.2.1 k0_h84 (k0_off111_inb v12_r0 v14_r0 v16_r0 v18_r0 k0_hw2 k0_h84)
theorem k0_off110_wordsbf16 : ∀ (v12_r0 : BitVec 32) (v14_r0 : BitVec 32) (v16_r0 : BitVec 32) (v18_r0 : BitVec 32) (k0_hw2 : k0_chk2 v12_r0 v14_r0 v16_r0 v18_r0), ∀ (k0_h84 : k0_cond84 v12_r0 = 1#1), (Rect.unit (s := S2048x8x128) (k0_off110 v16_r0 v18_r0) S64x8x128.size (k0_off110_inb v12_r0 v14_r0 v16_r0 v18_r0 k0_hw2 k0_h84)).WholeWords (EltTy.packing .bf16) := fun v12_r0 v14_r0 v16_r0 v18_r0 k0_hw2 k0_h84 => k0_hw2.2.2.1.2.2.2.2.2.2.2.2.2.2.2.2.2.2.2.1 k0_h84 (k0_off110_inb v12_r0 v14_r0 v16_r0 v18_r0 k0_hw2 k0_h84)
theorem k0_off112_inb : ∀ (v12_r0 : BitVec 32) (v14_r0 : BitVec 32) (v16_r0 : BitVec 32) (v18_r0 : BitVec 32) (k0_hw2 : k0_chk2 v12_r0 v14_r0 v16_r0 v18_r0), ∀ (k0_h85 : k0_cond85 v12_r0 = 1#1), ∀ a, (k0_off112 v16_r0 v18_r0) a + S64x8x128.size a ≤ S2048x8x128.size a := fun v12_r0 v14_r0 v16_r0 v18_r0 k0_hw2 k0_h85 => k0_hw2.2.2.1.2.2.2.2.2.2.2.2.2.2.2.2.2.2.2.2.1 k0_h85
theorem k0_off113_inb : ∀ (v12_r0 : BitVec 32) (v14_r0 : BitVec 32) (v16_r0 : BitVec 32) (v18_r0 : BitVec 32) (k0_hw2 : k0_chk2 v12_r0 v14_r0 v16_r0 v18_r0), ∀ (k0_h85 : k0_cond85 v12_r0 = 1#1), ∀ a, (k0_off113 v14_r0 v18_r0) a + S64x8x128.size a ≤ S2048x8x128.size a := fun v12_r0 v14_r0 v16_r0 v18_r0 k0_hw2 k0_h85 => k0_hw2.2.2.1.2.2.2.2.2.2.2.2.2.2.2.2.2.2.2.2.2.1 k0_h85
theorem k0_off113_wordsbf16 : ∀ (v12_r0 : BitVec 32) (v14_r0 : BitVec 32) (v16_r0 : BitVec 32) (v18_r0 : BitVec 32) (k0_hw2 : k0_chk2 v12_r0 v14_r0 v16_r0 v18_r0), ∀ (k0_h85 : k0_cond85 v12_r0 = 1#1), (Rect.unit (s := S2048x8x128) (k0_off113 v14_r0 v18_r0) S64x8x128.size (k0_off113_inb v12_r0 v14_r0 v16_r0 v18_r0 k0_hw2 k0_h85)).WholeWords (EltTy.packing .bf16) := fun v12_r0 v14_r0 v16_r0 v18_r0 k0_hw2 k0_h85 => k0_hw2.2.2.1.2.2.2.2.2.2.2.2.2.2.2.2.2.2.2.2.2.2.1 k0_h85 (k0_off113_inb v12_r0 v14_r0 v16_r0 v18_r0 k0_hw2 k0_h85)
theorem k0_off112_wordsbf16 : ∀ (v12_r0 : BitVec 32) (v14_r0 : BitVec 32) (v16_r0 : BitVec 32) (v18_r0 : BitVec 32) (k0_hw2 : k0_chk2 v12_r0 v14_r0 v16_r0 v18_r0), ∀ (k0_h85 : k0_cond85 v12_r0 = 1#1), (Rect.unit (s := S2048x8x128) (k0_off112 v16_r0 v18_r0) S64x8x128.size (k0_off112_inb v12_r0 v14_r0 v16_r0 v18_r0 k0_hw2 k0_h85)).WholeWords (EltTy.packing .bf16) := fun v12_r0 v14_r0 v16_r0 v18_r0 k0_hw2 k0_h85 => k0_hw2.2.2.1.2.2.2.2.2.2.2.2.2.2.2.2.2.2.2.2.2.2.2.1 k0_h85 (k0_off112_inb v12_r0 v14_r0 v16_r0 v18_r0 k0_hw2 k0_h85)
theorem k0_off114_inb : ∀ (v12_r0 : BitVec 32) (v14_r0 : BitVec 32) (v16_r0 : BitVec 32) (v18_r0 : BitVec 32) (k0_hw2 : k0_chk2 v12_r0 v14_r0 v16_r0 v18_r0), ∀ (k0_h86 : k0_cond86 v12_r0 = 1#1), ∀ a, (k0_off114 v16_r0 v18_r0) a + S64x8x128.size a ≤ S2048x8x128.size a := fun v12_r0 v14_r0 v16_r0 v18_r0 k0_hw2 k0_h86 => k0_hw2.2.2.1.2.2.2.2.2.2.2.2.2.2.2.2.2.2.2.2.2.2.2.2.1 k0_h86
theorem k0_off115_inb : ∀ (v12_r0 : BitVec 32) (v14_r0 : BitVec 32) (v16_r0 : BitVec 32) (v18_r0 : BitVec 32) (k0_hw2 : k0_chk2 v12_r0 v14_r0 v16_r0 v18_r0), ∀ (k0_h86 : k0_cond86 v12_r0 = 1#1), ∀ a, (k0_off115 v14_r0 v18_r0) a + S64x8x128.size a ≤ S2048x8x128.size a := fun v12_r0 v14_r0 v16_r0 v18_r0 k0_hw2 k0_h86 => k0_hw2.2.2.1.2.2.2.2.2.2.2.2.2.2.2.2.2.2.2.2.2.2.2.2.2.1 k0_h86
theorem k0_off115_wordsbf16 : ∀ (v12_r0 : BitVec 32) (v14_r0 : BitVec 32) (v16_r0 : BitVec 32) (v18_r0 : BitVec 32) (k0_hw2 : k0_chk2 v12_r0 v14_r0 v16_r0 v18_r0), ∀ (k0_h86 : k0_cond86 v12_r0 = 1#1), (Rect.unit (s := S2048x8x128) (k0_off115 v14_r0 v18_r0) S64x8x128.size (k0_off115_inb v12_r0 v14_r0 v16_r0 v18_r0 k0_hw2 k0_h86)).WholeWords (EltTy.packing .bf16) := fun v12_r0 v14_r0 v16_r0 v18_r0 k0_hw2 k0_h86 => k0_hw2.2.2.1.2.2.2.2.2.2.2.2.2.2.2.2.2.2.2.2.2.2.2.2.2.2.1 k0_h86 (k0_off115_inb v12_r0 v14_r0 v16_r0 v18_r0 k0_hw2 k0_h86)
theorem k0_off114_wordsbf16 : ∀ (v12_r0 : BitVec 32) (v14_r0 : BitVec 32) (v16_r0 : BitVec 32) (v18_r0 : BitVec 32) (k0_hw2 : k0_chk2 v12_r0 v14_r0 v16_r0 v18_r0), ∀ (k0_h86 : k0_cond86 v12_r0 = 1#1), (Rect.unit (s := S2048x8x128) (k0_off114 v16_r0 v18_r0) S64x8x128.size (k0_off114_inb v12_r0 v14_r0 v16_r0 v18_r0 k0_hw2 k0_h86)).WholeWords (EltTy.packing .bf16) := fun v12_r0 v14_r0 v16_r0 v18_r0 k0_hw2 k0_h86 => k0_hw2.2.2.1.2.2.2.2.2.2.2.2.2.2.2.2.2.2.2.2.2.2.2.2.2.2.2.1 k0_h86 (k0_off114_inb v12_r0 v14_r0 v16_r0 v18_r0 k0_hw2 k0_h86)
theorem k0_off116_inb : ∀ (v12_r0 : BitVec 32) (v14_r0 : BitVec 32) (v16_r0 : BitVec 32) (v18_r0 : BitVec 32) (k0_hw2 : k0_chk2 v12_r0 v14_r0 v16_r0 v18_r0), ∀ (k0_h87 : k0_cond87 v12_r0 = 1#1), ∀ a, (k0_off116 v16_r0 v18_r0) a + S64x8x128.size a ≤ S2048x8x128.size a := fun v12_r0 v14_r0 v16_r0 v18_r0 k0_hw2 k0_h87 => k0_hw2.2.2.1.2.2.2.2.2.2.2.2.2.2.2.2.2.2.2.2.2.2.2.2.2.2.2.2.1 k0_h87
theorem k0_off117_inb : ∀ (v12_r0 : BitVec 32) (v14_r0 : BitVec 32) (v16_r0 : BitVec 32) (v18_r0 : BitVec 32) (k0_hw2 : k0_chk2 v12_r0 v14_r0 v16_r0 v18_r0), ∀ (k0_h87 : k0_cond87 v12_r0 = 1#1), ∀ a, (k0_off117 v14_r0 v18_r0) a + S64x8x128.size a ≤ S2048x8x128.size a := fun v12_r0 v14_r0 v16_r0 v18_r0 k0_hw2 k0_h87 => k0_hw2.2.2.1.2.2.2.2.2.2.2.2.2.2.2.2.2.2.2.2.2.2.2.2.2.2.2.2.2.1 k0_h87
theorem k0_off117_wordsbf16 : ∀ (v12_r0 : BitVec 32) (v14_r0 : BitVec 32) (v16_r0 : BitVec 32) (v18_r0 : BitVec 32) (k0_hw2 : k0_chk2 v12_r0 v14_r0 v16_r0 v18_r0), ∀ (k0_h87 : k0_cond87 v12_r0 = 1#1), (Rect.unit (s := S2048x8x128) (k0_off117 v14_r0 v18_r0) S64x8x128.size (k0_off117_inb v12_r0 v14_r0 v16_r0 v18_r0 k0_hw2 k0_h87)).WholeWords (EltTy.packing .bf16) := fun v12_r0 v14_r0 v16_r0 v18_r0 k0_hw2 k0_h87 => k0_hw2.2.2.1.2.2.2.2.2.2.2.2.2.2.2.2.2.2.2.2.2.2.2.2.2.2.2.2.2.2.1 k0_h87 (k0_off117_inb v12_r0 v14_r0 v16_r0 v18_r0 k0_hw2 k0_h87)
theorem k0_off116_wordsbf16 : ∀ (v12_r0 : BitVec 32) (v14_r0 : BitVec 32) (v16_r0 : BitVec 32) (v18_r0 : BitVec 32) (k0_hw2 : k0_chk2 v12_r0 v14_r0 v16_r0 v18_r0), ∀ (k0_h87 : k0_cond87 v12_r0 = 1#1), (Rect.unit (s := S2048x8x128) (k0_off116 v16_r0 v18_r0) S64x8x128.size (k0_off116_inb v12_r0 v14_r0 v16_r0 v18_r0 k0_hw2 k0_h87)).WholeWords (EltTy.packing .bf16) := fun v12_r0 v14_r0 v16_r0 v18_r0 k0_hw2 k0_h87 => k0_hw2.2.2.1.2.2.2.2.2.2.2.2.2.2.2.2.2.2.2.2.2.2.2.2.2.2.2.2.2.2.2.1 k0_h87 (k0_off116_inb v12_r0 v14_r0 v16_r0 v18_r0 k0_hw2 k0_h87)
theorem k0_off118_inb : ∀ (v12_r0 : BitVec 32) (v14_r0 : BitVec 32) (v16_r0 : BitVec 32) (v18_r0 : BitVec 32) (k0_hw2 : k0_chk2 v12_r0 v14_r0 v16_r0 v18_r0), ∀ (k0_h88 : k0_cond88 v12_r0 = 1#1), ∀ a, (k0_off118 v16_r0 v18_r0) a + S64x8x128.size a ≤ S2048x8x128.size a := fun v12_r0 v14_r0 v16_r0 v18_r0 k0_hw2 k0_h88 => k0_hw2.2.2.1.2.2.2.2.2.2.2.2.2.2.2.2.2.2.2.2.2.2.2.2.2.2.2.2.2.2.2.2.1 k0_h88
theorem k0_off119_inb : ∀ (v12_r0 : BitVec 32) (v14_r0 : BitVec 32) (v16_r0 : BitVec 32) (v18_r0 : BitVec 32) (k0_hw2 : k0_chk2 v12_r0 v14_r0 v16_r0 v18_r0), ∀ (k0_h88 : k0_cond88 v12_r0 = 1#1), ∀ a, (k0_off119 v14_r0 v18_r0) a + S64x8x128.size a ≤ S2048x8x128.size a := fun v12_r0 v14_r0 v16_r0 v18_r0 k0_hw2 k0_h88 => k0_hw2.2.2.1.2.2.2.2.2.2.2.2.2.2.2.2.2.2.2.2.2.2.2.2.2.2.2.2.2.2.2.2.2.1 k0_h88
theorem k0_off119_wordsbf16 : ∀ (v12_r0 : BitVec 32) (v14_r0 : BitVec 32) (v16_r0 : BitVec 32) (v18_r0 : BitVec 32) (k0_hw2 : k0_chk2 v12_r0 v14_r0 v16_r0 v18_r0), ∀ (k0_h88 : k0_cond88 v12_r0 = 1#1), (Rect.unit (s := S2048x8x128) (k0_off119 v14_r0 v18_r0) S64x8x128.size (k0_off119_inb v12_r0 v14_r0 v16_r0 v18_r0 k0_hw2 k0_h88)).WholeWords (EltTy.packing .bf16) := fun v12_r0 v14_r0 v16_r0 v18_r0 k0_hw2 k0_h88 => k0_hw2.2.2.1.2.2.2.2.2.2.2.2.2.2.2.2.2.2.2.2.2.2.2.2.2.2.2.2.2.2.2.2.2.2.1 k0_h88 (k0_off119_inb v12_r0 v14_r0 v16_r0 v18_r0 k0_hw2 k0_h88)
theorem k0_off118_wordsbf16 : ∀ (v12_r0 : BitVec 32) (v14_r0 : BitVec 32) (v16_r0 : BitVec 32) (v18_r0 : BitVec 32) (k0_hw2 : k0_chk2 v12_r0 v14_r0 v16_r0 v18_r0), ∀ (k0_h88 : k0_cond88 v12_r0 = 1#1), (Rect.unit (s := S2048x8x128) (k0_off118 v16_r0 v18_r0) S64x8x128.size (k0_off118_inb v12_r0 v14_r0 v16_r0 v18_r0 k0_hw2 k0_h88)).WholeWords (EltTy.packing .bf16) := fun v12_r0 v14_r0 v16_r0 v18_r0 k0_hw2 k0_h88 => k0_hw2.2.2.1.2.2.2.2.2.2.2.2.2.2.2.2.2.2.2.2.2.2.2.2.2.2.2.2.2.2.2.2.2.2.2 k0_h88 (k0_off118_inb v12_r0 v14_r0 v16_r0 v18_r0 k0_hw2 k0_h88)
theorem k0_off120_inb : ∀ (v12_r0 : BitVec 32) (v14_r0 : BitVec 32) (v16_r0 : BitVec 32) (v18_r0 : BitVec 32) (k0_hw2 : k0_chk2 v12_r0 v14_r0 v16_r0 v18_r0), ∀ (k0_h89 : k0_cond89 v12_r0 = 1#1), ∀ a, (k0_off120 v16_r0 v18_r0) a + S64x8x128.size a ≤ S2048x8x128.size a := fun v12_r0 v14_r0 v16_r0 v18_r0 k0_hw2 k0_h89 => k0_hw2.2.2.2.1.1 k0_h89
theorem k0_off121_inb : ∀ (v12_r0 : BitVec 32) (v14_r0 : BitVec 32) (v16_r0 : BitVec 32) (v18_r0 : BitVec 32) (k0_hw2 : k0_chk2 v12_r0 v14_r0 v16_r0 v18_r0), ∀ (k0_h89 : k0_cond89 v12_r0 = 1#1), ∀ a, (k0_off121 v14_r0 v18_r0) a + S64x8x128.size a ≤ S2048x8x128.size a := fun v12_r0 v14_r0 v16_r0 v18_r0 k0_hw2 k0_h89 => k0_hw2.2.2.2.1.2.1 k0_h89
theorem k0_off121_wordsbf16 : ∀ (v12_r0 : BitVec 32) (v14_r0 : BitVec 32) (v16_r0 : BitVec 32) (v18_r0 : BitVec 32) (k0_hw2 : k0_chk2 v12_r0 v14_r0 v16_r0 v18_r0), ∀ (k0_h89 : k0_cond89 v12_r0 = 1#1), (Rect.unit (s := S2048x8x128) (k0_off121 v14_r0 v18_r0) S64x8x128.size (k0_off121_inb v12_r0 v14_r0 v16_r0 v18_r0 k0_hw2 k0_h89)).WholeWords (EltTy.packing .bf16) := fun v12_r0 v14_r0 v16_r0 v18_r0 k0_hw2 k0_h89 => k0_hw2.2.2.2.1.2.2.1 k0_h89 (k0_off121_inb v12_r0 v14_r0 v16_r0 v18_r0 k0_hw2 k0_h89)
theorem k0_off120_wordsbf16 : ∀ (v12_r0 : BitVec 32) (v14_r0 : BitVec 32) (v16_r0 : BitVec 32) (v18_r0 : BitVec 32) (k0_hw2 : k0_chk2 v12_r0 v14_r0 v16_r0 v18_r0), ∀ (k0_h89 : k0_cond89 v12_r0 = 1#1), (Rect.unit (s := S2048x8x128) (k0_off120 v16_r0 v18_r0) S64x8x128.size (k0_off120_inb v12_r0 v14_r0 v16_r0 v18_r0 k0_hw2 k0_h89)).WholeWords (EltTy.packing .bf16) := fun v12_r0 v14_r0 v16_r0 v18_r0 k0_hw2 k0_h89 => k0_hw2.2.2.2.1.2.2.2.1 k0_h89 (k0_off120_inb v12_r0 v14_r0 v16_r0 v18_r0 k0_hw2 k0_h89)
theorem k0_off122_inb : ∀ (v12_r0 : BitVec 32) (v14_r0 : BitVec 32) (v16_r0 : BitVec 32) (v18_r0 : BitVec 32) (k0_hw2 : k0_chk2 v12_r0 v14_r0 v16_r0 v18_r0), ∀ (k0_h90 : k0_cond90 v12_r0 = 1#1), ∀ a, (k0_off122 v16_r0 v18_r0) a + S64x8x128.size a ≤ S2048x8x128.size a := fun v12_r0 v14_r0 v16_r0 v18_r0 k0_hw2 k0_h90 => k0_hw2.2.2.2.1.2.2.2.2.1 k0_h90
theorem k0_off123_inb : ∀ (v12_r0 : BitVec 32) (v14_r0 : BitVec 32) (v16_r0 : BitVec 32) (v18_r0 : BitVec 32) (k0_hw2 : k0_chk2 v12_r0 v14_r0 v16_r0 v18_r0), ∀ (k0_h90 : k0_cond90 v12_r0 = 1#1), ∀ a, (k0_off123 v14_r0 v18_r0) a + S64x8x128.size a ≤ S2048x8x128.size a := fun v12_r0 v14_r0 v16_r0 v18_r0 k0_hw2 k0_h90 => k0_hw2.2.2.2.1.2.2.2.2.2.1 k0_h90
theorem k0_off123_wordsbf16 : ∀ (v12_r0 : BitVec 32) (v14_r0 : BitVec 32) (v16_r0 : BitVec 32) (v18_r0 : BitVec 32) (k0_hw2 : k0_chk2 v12_r0 v14_r0 v16_r0 v18_r0), ∀ (k0_h90 : k0_cond90 v12_r0 = 1#1), (Rect.unit (s := S2048x8x128) (k0_off123 v14_r0 v18_r0) S64x8x128.size (k0_off123_inb v12_r0 v14_r0 v16_r0 v18_r0 k0_hw2 k0_h90)).WholeWords (EltTy.packing .bf16) := fun v12_r0 v14_r0 v16_r0 v18_r0 k0_hw2 k0_h90 => k0_hw2.2.2.2.1.2.2.2.2.2.2.1 k0_h90 (k0_off123_inb v12_r0 v14_r0 v16_r0 v18_r0 k0_hw2 k0_h90)
theorem k0_off122_wordsbf16 : ∀ (v12_r0 : BitVec 32) (v14_r0 : BitVec 32) (v16_r0 : BitVec 32) (v18_r0 : BitVec 32) (k0_hw2 : k0_chk2 v12_r0 v14_r0 v16_r0 v18_r0), ∀ (k0_h90 : k0_cond90 v12_r0 = 1#1), (Rect.unit (s := S2048x8x128) (k0_off122 v16_r0 v18_r0) S64x8x128.size (k0_off122_inb v12_r0 v14_r0 v16_r0 v18_r0 k0_hw2 k0_h90)).WholeWords (EltTy.packing .bf16) := fun v12_r0 v14_r0 v16_r0 v18_r0 k0_hw2 k0_h90 => k0_hw2.2.2.2.1.2.2.2.2.2.2.2.1 k0_h90 (k0_off122_inb v12_r0 v14_r0 v16_r0 v18_r0 k0_hw2 k0_h90)
theorem k0_off124_inb : ∀ (v12_r0 : BitVec 32) (v14_r0 : BitVec 32) (v16_r0 : BitVec 32) (v18_r0 : BitVec 32) (k0_hw2 : k0_chk2 v12_r0 v14_r0 v16_r0 v18_r0), ∀ (k0_h91 : k0_cond91 v12_r0 = 1#1), ∀ a, (k0_off124 v16_r0 v18_r0) a + S64x8x128.size a ≤ S2048x8x128.size a := fun v12_r0 v14_r0 v16_r0 v18_r0 k0_hw2 k0_h91 => k0_hw2.2.2.2.1.2.2.2.2.2.2.2.2.1 k0_h91
theorem k0_off125_inb : ∀ (v12_r0 : BitVec 32) (v14_r0 : BitVec 32) (v16_r0 : BitVec 32) (v18_r0 : BitVec 32) (k0_hw2 : k0_chk2 v12_r0 v14_r0 v16_r0 v18_r0), ∀ (k0_h91 : k0_cond91 v12_r0 = 1#1), ∀ a, (k0_off125 v14_r0 v18_r0) a + S64x8x128.size a ≤ S2048x8x128.size a := fun v12_r0 v14_r0 v16_r0 v18_r0 k0_hw2 k0_h91 => k0_hw2.2.2.2.1.2.2.2.2.2.2.2.2.2.1 k0_h91
theorem k0_off125_wordsbf16 : ∀ (v12_r0 : BitVec 32) (v14_r0 : BitVec 32) (v16_r0 : BitVec 32) (v18_r0 : BitVec 32) (k0_hw2 : k0_chk2 v12_r0 v14_r0 v16_r0 v18_r0), ∀ (k0_h91 : k0_cond91 v12_r0 = 1#1), (Rect.unit (s := S2048x8x128) (k0_off125 v14_r0 v18_r0) S64x8x128.size (k0_off125_inb v12_r0 v14_r0 v16_r0 v18_r0 k0_hw2 k0_h91)).WholeWords (EltTy.packing .bf16) := fun v12_r0 v14_r0 v16_r0 v18_r0 k0_hw2 k0_h91 => k0_hw2.2.2.2.1.2.2.2.2.2.2.2.2.2.2.1 k0_h91 (k0_off125_inb v12_r0 v14_r0 v16_r0 v18_r0 k0_hw2 k0_h91)
theorem k0_off124_wordsbf16 : ∀ (v12_r0 : BitVec 32) (v14_r0 : BitVec 32) (v16_r0 : BitVec 32) (v18_r0 : BitVec 32) (k0_hw2 : k0_chk2 v12_r0 v14_r0 v16_r0 v18_r0), ∀ (k0_h91 : k0_cond91 v12_r0 = 1#1), (Rect.unit (s := S2048x8x128) (k0_off124 v16_r0 v18_r0) S64x8x128.size (k0_off124_inb v12_r0 v14_r0 v16_r0 v18_r0 k0_hw2 k0_h91)).WholeWords (EltTy.packing .bf16) := fun v12_r0 v14_r0 v16_r0 v18_r0 k0_hw2 k0_h91 => k0_hw2.2.2.2.1.2.2.2.2.2.2.2.2.2.2.2.1 k0_h91 (k0_off124_inb v12_r0 v14_r0 v16_r0 v18_r0 k0_hw2 k0_h91)
theorem k0_off126_inb : ∀ (v12_r0 : BitVec 32) (v14_r0 : BitVec 32) (v16_r0 : BitVec 32) (v18_r0 : BitVec 32) (k0_hw2 : k0_chk2 v12_r0 v14_r0 v16_r0 v18_r0), ∀ (k0_h92 : k0_cond92 v12_r0 = 1#1), ∀ a, (k0_off126 v16_r0 v18_r0) a + S64x8x128.size a ≤ S2048x8x128.size a := fun v12_r0 v14_r0 v16_r0 v18_r0 k0_hw2 k0_h92 => k0_hw2.2.2.2.1.2.2.2.2.2.2.2.2.2.2.2.2.1 k0_h92
theorem k0_off127_inb : ∀ (v12_r0 : BitVec 32) (v14_r0 : BitVec 32) (v16_r0 : BitVec 32) (v18_r0 : BitVec 32) (k0_hw2 : k0_chk2 v12_r0 v14_r0 v16_r0 v18_r0), ∀ (k0_h92 : k0_cond92 v12_r0 = 1#1), ∀ a, (k0_off127 v14_r0 v18_r0) a + S64x8x128.size a ≤ S2048x8x128.size a := fun v12_r0 v14_r0 v16_r0 v18_r0 k0_hw2 k0_h92 => k0_hw2.2.2.2.1.2.2.2.2.2.2.2.2.2.2.2.2.2.1 k0_h92
theorem k0_off127_wordsbf16 : ∀ (v12_r0 : BitVec 32) (v14_r0 : BitVec 32) (v16_r0 : BitVec 32) (v18_r0 : BitVec 32) (k0_hw2 : k0_chk2 v12_r0 v14_r0 v16_r0 v18_r0), ∀ (k0_h92 : k0_cond92 v12_r0 = 1#1), (Rect.unit (s := S2048x8x128) (k0_off127 v14_r0 v18_r0) S64x8x128.size (k0_off127_inb v12_r0 v14_r0 v16_r0 v18_r0 k0_hw2 k0_h92)).WholeWords (EltTy.packing .bf16) := fun v12_r0 v14_r0 v16_r0 v18_r0 k0_hw2 k0_h92 => k0_hw2.2.2.2.1.2.2.2.2.2.2.2.2.2.2.2.2.2.2.1 k0_h92 (k0_off127_inb v12_r0 v14_r0 v16_r0 v18_r0 k0_hw2 k0_h92)
theorem k0_off126_wordsbf16 : ∀ (v12_r0 : BitVec 32) (v14_r0 : BitVec 32) (v16_r0 : BitVec 32) (v18_r0 : BitVec 32) (k0_hw2 : k0_chk2 v12_r0 v14_r0 v16_r0 v18_r0), ∀ (k0_h92 : k0_cond92 v12_r0 = 1#1), (Rect.unit (s := S2048x8x128) (k0_off126 v16_r0 v18_r0) S64x8x128.size (k0_off126_inb v12_r0 v14_r0 v16_r0 v18_r0 k0_hw2 k0_h92)).WholeWords (EltTy.packing .bf16) := fun v12_r0 v14_r0 v16_r0 v18_r0 k0_hw2 k0_h92 => k0_hw2.2.2.2.1.2.2.2.2.2.2.2.2.2.2.2.2.2.2.2.1 k0_h92 (k0_off126_inb v12_r0 v14_r0 v16_r0 v18_r0 k0_hw2 k0_h92)
theorem k0_off128_inb : ∀ (v12_r0 : BitVec 32) (v14_r0 : BitVec 32) (v16_r0 : BitVec 32) (v18_r0 : BitVec 32) (k0_hw2 : k0_chk2 v12_r0 v14_r0 v16_r0 v18_r0), ∀ (k0_h93 : k0_cond93 v12_r0 = 1#1), ∀ a, (k0_off128 v16_r0 v18_r0) a + S64x8x128.size a ≤ S2048x8x128.size a := fun v12_r0 v14_r0 v16_r0 v18_r0 k0_hw2 k0_h93 => k0_hw2.2.2.2.1.2.2.2.2.2.2.2.2.2.2.2.2.2.2.2.2.1 k0_h93
theorem k0_off129_inb : ∀ (v12_r0 : BitVec 32) (v14_r0 : BitVec 32) (v16_r0 : BitVec 32) (v18_r0 : BitVec 32) (k0_hw2 : k0_chk2 v12_r0 v14_r0 v16_r0 v18_r0), ∀ (k0_h93 : k0_cond93 v12_r0 = 1#1), ∀ a, (k0_off129 v14_r0 v18_r0) a + S64x8x128.size a ≤ S2048x8x128.size a := fun v12_r0 v14_r0 v16_r0 v18_r0 k0_hw2 k0_h93 => k0_hw2.2.2.2.1.2.2.2.2.2.2.2.2.2.2.2.2.2.2.2.2.2.1 k0_h93
theorem k0_off129_wordsbf16 : ∀ (v12_r0 : BitVec 32) (v14_r0 : BitVec 32) (v16_r0 : BitVec 32) (v18_r0 : BitVec 32) (k0_hw2 : k0_chk2 v12_r0 v14_r0 v16_r0 v18_r0), ∀ (k0_h93 : k0_cond93 v12_r0 = 1#1), (Rect.unit (s := S2048x8x128) (k0_off129 v14_r0 v18_r0) S64x8x128.size (k0_off129_inb v12_r0 v14_r0 v16_r0 v18_r0 k0_hw2 k0_h93)).WholeWords (EltTy.packing .bf16) := fun v12_r0 v14_r0 v16_r0 v18_r0 k0_hw2 k0_h93 => k0_hw2.2.2.2.1.2.2.2.2.2.2.2.2.2.2.2.2.2.2.2.2.2.2.1 k0_h93 (k0_off129_inb v12_r0 v14_r0 v16_r0 v18_r0 k0_hw2 k0_h93)
theorem k0_off128_wordsbf16 : ∀ (v12_r0 : BitVec 32) (v14_r0 : BitVec 32) (v16_r0 : BitVec 32) (v18_r0 : BitVec 32) (k0_hw2 : k0_chk2 v12_r0 v14_r0 v16_r0 v18_r0), ∀ (k0_h93 : k0_cond93 v12_r0 = 1#1), (Rect.unit (s := S2048x8x128) (k0_off128 v16_r0 v18_r0) S64x8x128.size (k0_off128_inb v12_r0 v14_r0 v16_r0 v18_r0 k0_hw2 k0_h93)).WholeWords (EltTy.packing .bf16) := fun v12_r0 v14_r0 v16_r0 v18_r0 k0_hw2 k0_h93 => k0_hw2.2.2.2.1.2.2.2.2.2.2.2.2.2.2.2.2.2.2.2.2.2.2.2.1 k0_h93 (k0_off128_inb v12_r0 v14_r0 v16_r0 v18_r0 k0_hw2 k0_h93)
theorem k0_off130_inb : ∀ (v12_r0 : BitVec 32) (v14_r0 : BitVec 32) (v16_r0 : BitVec 32) (v18_r0 : BitVec 32) (k0_hw2 : k0_chk2 v12_r0 v14_r0 v16_r0 v18_r0), ∀ (k0_h94 : k0_cond94 v12_r0 = 1#1), ∀ a, (k0_off130 v16_r0 v18_r0) a + S64x8x128.size a ≤ S2048x8x128.size a := fun v12_r0 v14_r0 v16_r0 v18_r0 k0_hw2 k0_h94 => k0_hw2.2.2.2.1.2.2.2.2.2.2.2.2.2.2.2.2.2.2.2.2.2.2.2.2.1 k0_h94
theorem k0_off131_inb : ∀ (v12_r0 : BitVec 32) (v14_r0 : BitVec 32) (v16_r0 : BitVec 32) (v18_r0 : BitVec 32) (k0_hw2 : k0_chk2 v12_r0 v14_r0 v16_r0 v18_r0), ∀ (k0_h94 : k0_cond94 v12_r0 = 1#1), ∀ a, (k0_off131 v14_r0 v18_r0) a + S64x8x128.size a ≤ S2048x8x128.size a := fun v12_r0 v14_r0 v16_r0 v18_r0 k0_hw2 k0_h94 => k0_hw2.2.2.2.1.2.2.2.2.2.2.2.2.2.2.2.2.2.2.2.2.2.2.2.2.2.1 k0_h94
theorem k0_off131_wordsbf16 : ∀ (v12_r0 : BitVec 32) (v14_r0 : BitVec 32) (v16_r0 : BitVec 32) (v18_r0 : BitVec 32) (k0_hw2 : k0_chk2 v12_r0 v14_r0 v16_r0 v18_r0), ∀ (k0_h94 : k0_cond94 v12_r0 = 1#1), (Rect.unit (s := S2048x8x128) (k0_off131 v14_r0 v18_r0) S64x8x128.size (k0_off131_inb v12_r0 v14_r0 v16_r0 v18_r0 k0_hw2 k0_h94)).WholeWords (EltTy.packing .bf16) := fun v12_r0 v14_r0 v16_r0 v18_r0 k0_hw2 k0_h94 => k0_hw2.2.2.2.1.2.2.2.2.2.2.2.2.2.2.2.2.2.2.2.2.2.2.2.2.2.2.1 k0_h94 (k0_off131_inb v12_r0 v14_r0 v16_r0 v18_r0 k0_hw2 k0_h94)
theorem k0_off130_wordsbf16 : ∀ (v12_r0 : BitVec 32) (v14_r0 : BitVec 32) (v16_r0 : BitVec 32) (v18_r0 : BitVec 32) (k0_hw2 : k0_chk2 v12_r0 v14_r0 v16_r0 v18_r0), ∀ (k0_h94 : k0_cond94 v12_r0 = 1#1), (Rect.unit (s := S2048x8x128) (k0_off130 v16_r0 v18_r0) S64x8x128.size (k0_off130_inb v12_r0 v14_r0 v16_r0 v18_r0 k0_hw2 k0_h94)).WholeWords (EltTy.packing .bf16) := fun v12_r0 v14_r0 v16_r0 v18_r0 k0_hw2 k0_h94 => k0_hw2.2.2.2.1.2.2.2.2.2.2.2.2.2.2.2.2.2.2.2.2.2.2.2.2.2.2.2.1 k0_h94 (k0_off130_inb v12_r0 v14_r0 v16_r0 v18_r0 k0_hw2 k0_h94)
theorem k0_off132_inb : ∀ (v12_r0 : BitVec 32) (v14_r0 : BitVec 32) (v16_r0 : BitVec 32) (v18_r0 : BitVec 32) (k0_hw2 : k0_chk2 v12_r0 v14_r0 v16_r0 v18_r0), ∀ (k0_h95 : k0_cond95 v12_r0 = 1#1), ∀ a, (k0_off132 v16_r0 v18_r0) a + S64x8x128.size a ≤ S2048x8x128.size a := fun v12_r0 v14_r0 v16_r0 v18_r0 k0_hw2 k0_h95 => k0_hw2.2.2.2.1.2.2.2.2.2.2.2.2.2.2.2.2.2.2.2.2.2.2.2.2.2.2.2.2.1 k0_h95
theorem k0_off133_inb : ∀ (v12_r0 : BitVec 32) (v14_r0 : BitVec 32) (v16_r0 : BitVec 32) (v18_r0 : BitVec 32) (k0_hw2 : k0_chk2 v12_r0 v14_r0 v16_r0 v18_r0), ∀ (k0_h95 : k0_cond95 v12_r0 = 1#1), ∀ a, (k0_off133 v14_r0 v18_r0) a + S64x8x128.size a ≤ S2048x8x128.size a := fun v12_r0 v14_r0 v16_r0 v18_r0 k0_hw2 k0_h95 => k0_hw2.2.2.2.1.2.2.2.2.2.2.2.2.2.2.2.2.2.2.2.2.2.2.2.2.2.2.2.2.2.1 k0_h95
theorem k0_off133_wordsbf16 : ∀ (v12_r0 : BitVec 32) (v14_r0 : BitVec 32) (v16_r0 : BitVec 32) (v18_r0 : BitVec 32) (k0_hw2 : k0_chk2 v12_r0 v14_r0 v16_r0 v18_r0), ∀ (k0_h95 : k0_cond95 v12_r0 = 1#1), (Rect.unit (s := S2048x8x128) (k0_off133 v14_r0 v18_r0) S64x8x128.size (k0_off133_inb v12_r0 v14_r0 v16_r0 v18_r0 k0_hw2 k0_h95)).WholeWords (EltTy.packing .bf16) := fun v12_r0 v14_r0 v16_r0 v18_r0 k0_hw2 k0_h95 => k0_hw2.2.2.2.1.2.2.2.2.2.2.2.2.2.2.2.2.2.2.2.2.2.2.2.2.2.2.2.2.2.2.1 k0_h95 (k0_off133_inb v12_r0 v14_r0 v16_r0 v18_r0 k0_hw2 k0_h95)
theorem k0_off132_wordsbf16 : ∀ (v12_r0 : BitVec 32) (v14_r0 : BitVec 32) (v16_r0 : BitVec 32) (v18_r0 : BitVec 32) (k0_hw2 : k0_chk2 v12_r0 v14_r0 v16_r0 v18_r0), ∀ (k0_h95 : k0_cond95 v12_r0 = 1#1), (Rect.unit (s := S2048x8x128) (k0_off132 v16_r0 v18_r0) S64x8x128.size (k0_off132_inb v12_r0 v14_r0 v16_r0 v18_r0 k0_hw2 k0_h95)).WholeWords (EltTy.packing .bf16) := fun v12_r0 v14_r0 v16_r0 v18_r0 k0_hw2 k0_h95 => k0_hw2.2.2.2.1.2.2.2.2.2.2.2.2.2.2.2.2.2.2.2.2.2.2.2.2.2.2.2.2.2.2.2.1 k0_h95 (k0_off132_inb v12_r0 v14_r0 v16_r0 v18_r0 k0_hw2 k0_h95)
theorem k0_off134_inb : ∀ (v12_r0 : BitVec 32) (v14_r0 : BitVec 32) (v16_r0 : BitVec 32) (v18_r0 : BitVec 32) (k0_hw2 : k0_chk2 v12_r0 v14_r0 v16_r0 v18_r0), ∀ (k0_h96 : k0_cond96 v12_r0 = 1#1), ∀ a, (k0_off134 v16_r0 v18_r0) a + S64x8x128.size a ≤ S2048x8x128.size a := fun v12_r0 v14_r0 v16_r0 v18_r0 k0_hw2 k0_h96 => k0_hw2.2.2.2.1.2.2.2.2.2.2.2.2.2.2.2.2.2.2.2.2.2.2.2.2.2.2.2.2.2.2.2.2.1 k0_h96
theorem k0_off135_inb : ∀ (v12_r0 : BitVec 32) (v14_r0 : BitVec 32) (v16_r0 : BitVec 32) (v18_r0 : BitVec 32) (k0_hw2 : k0_chk2 v12_r0 v14_r0 v16_r0 v18_r0), ∀ (k0_h96 : k0_cond96 v12_r0 = 1#1), ∀ a, (k0_off135 v14_r0 v18_r0) a + S64x8x128.size a ≤ S2048x8x128.size a := fun v12_r0 v14_r0 v16_r0 v18_r0 k0_hw2 k0_h96 => k0_hw2.2.2.2.1.2.2.2.2.2.2.2.2.2.2.2.2.2.2.2.2.2.2.2.2.2.2.2.2.2.2.2.2.2.1 k0_h96
theorem k0_off135_wordsbf16 : ∀ (v12_r0 : BitVec 32) (v14_r0 : BitVec 32) (v16_r0 : BitVec 32) (v18_r0 : BitVec 32) (k0_hw2 : k0_chk2 v12_r0 v14_r0 v16_r0 v18_r0), ∀ (k0_h96 : k0_cond96 v12_r0 = 1#1), (Rect.unit (s := S2048x8x128) (k0_off135 v14_r0 v18_r0) S64x8x128.size (k0_off135_inb v12_r0 v14_r0 v16_r0 v18_r0 k0_hw2 k0_h96)).WholeWords (EltTy.packing .bf16) := fun v12_r0 v14_r0 v16_r0 v18_r0 k0_hw2 k0_h96 => k0_hw2.2.2.2.1.2.2.2.2.2.2.2.2.2.2.2.2.2.2.2.2.2.2.2.2.2.2.2.2.2.2.2.2.2.2.1 k0_h96 (k0_off135_inb v12_r0 v14_r0 v16_r0 v18_r0 k0_hw2 k0_h96)
theorem k0_off134_wordsbf16 : ∀ (v12_r0 : BitVec 32) (v14_r0 : BitVec 32) (v16_r0 : BitVec 32) (v18_r0 : BitVec 32) (k0_hw2 : k0_chk2 v12_r0 v14_r0 v16_r0 v18_r0), ∀ (k0_h96 : k0_cond96 v12_r0 = 1#1), (Rect.unit (s := S2048x8x128) (k0_off134 v16_r0 v18_r0) S64x8x128.size (k0_off134_inb v12_r0 v14_r0 v16_r0 v18_r0 k0_hw2 k0_h96)).WholeWords (EltTy.packing .bf16) := fun v12_r0 v14_r0 v16_r0 v18_r0 k0_hw2 k0_h96 => k0_hw2.2.2.2.1.2.2.2.2.2.2.2.2.2.2.2.2.2.2.2.2.2.2.2.2.2.2.2.2.2.2.2.2.2.2.2 k0_h96 (k0_off134_inb v12_r0 v14_r0 v16_r0 v18_r0 k0_hw2 k0_h96)
theorem k0_off136_inb : ∀ (v12_r0 : BitVec 32) (v14_r0 : BitVec 32) (v16_r0 : BitVec 32) (v18_r0 : BitVec 32) (k0_hw2 : k0_chk2 v12_r0 v14_r0 v16_r0 v18_r0), ∀ (k0_h97 : k0_cond97 v12_r0 = 1#1), ∀ a, (k0_off136 v14_r0 v18_r0) a + S64x8x128.size a ≤ S2048x8x128.size a := fun v12_r0 v14_r0 v16_r0 v18_r0 k0_hw2 k0_h97 => k0_hw2.2.2.2.2.1.1 k0_h97
theorem k0_off137_inb : ∀ (v12_r0 : BitVec 32) (v14_r0 : BitVec 32) (v16_r0 : BitVec 32) (v18_r0 : BitVec 32) (k0_hw2 : k0_chk2 v12_r0 v14_r0 v16_r0 v18_r0), ∀ (k0_h97 : k0_cond97 v12_r0 = 1#1), ∀ a, (k0_off137 v16_r0 v18_r0) a + S64x8x128.size a ≤ S2048x8x128.size a := fun v12_r0 v14_r0 v16_r0 v18_r0 k0_hw2 k0_h97 => k0_hw2.2.2.2.2.1.2.1 k0_h97
theorem k0_off137_wordsbf16 : ∀ (v12_r0 : BitVec 32) (v14_r0 : BitVec 32) (v16_r0 : BitVec 32) (v18_r0 : BitVec 32) (k0_hw2 : k0_chk2 v12_r0 v14_r0 v16_r0 v18_r0), ∀ (k0_h97 : k0_cond97 v12_r0 = 1#1), (Rect.unit (s := S2048x8x128) (k0_off137 v16_r0 v18_r0) S64x8x128.size (k0_off137_inb v12_r0 v14_r0 v16_r0 v18_r0 k0_hw2 k0_h97)).WholeWords (EltTy.packing .bf16) := fun v12_r0 v14_r0 v16_r0 v18_r0 k0_hw2 k0_h97 => k0_hw2.2.2.2.2.1.2.2.1 k0_h97 (k0_off137_inb v12_r0 v14_r0 v16_r0 v18_r0 k0_hw2 k0_h97)
theorem k0_off136_wordsbf16 : ∀ (v12_r0 : BitVec 32) (v14_r0 : BitVec 32) (v16_r0 : BitVec 32) (v18_r0 : BitVec 32) (k0_hw2 : k0_chk2 v12_r0 v14_r0 v16_r0 v18_r0), ∀ (k0_h97 : k0_cond97 v12_r0 = 1#1), (Rect.unit (s := S2048x8x128) (k0_off136 v14_r0 v18_r0) S64x8x128.size (k0_off136_inb v12_r0 v14_r0 v16_r0 v18_r0 k0_hw2 k0_h97)).WholeWords (EltTy.packing .bf16) := fun v12_r0 v14_r0 v16_r0 v18_r0 k0_hw2 k0_h97 => k0_hw2.2.2.2.2.1.2.2.2.1 k0_h97 (k0_off136_inb v12_r0 v14_r0 v16_r0 v18_r0 k0_hw2 k0_h97)
theorem k0_off138_inb : ∀ (v12_r0 : BitVec 32) (v14_r0 : BitVec 32) (v16_r0 : BitVec 32) (v18_r0 : BitVec 32) (k0_hw2 : k0_chk2 v12_r0 v14_r0 v16_r0 v18_r0), ∀ (k0_h98 : k0_cond98 v12_r0 = 1#1), ∀ a, (k0_off138 v14_r0 v18_r0) a + S64x8x128.size a ≤ S2048x8x128.size a := fun v12_r0 v14_r0 v16_r0 v18_r0 k0_hw2 k0_h98 => k0_hw2.2.2.2.2.1.2.2.2.2.1 k0_h98
theorem k0_off139_inb : ∀ (v12_r0 : BitVec 32) (v14_r0 : BitVec 32) (v16_r0 : BitVec 32) (v18_r0 : BitVec 32) (k0_hw2 : k0_chk2 v12_r0 v14_r0 v16_r0 v18_r0), ∀ (k0_h98 : k0_cond98 v12_r0 = 1#1), ∀ a, (k0_off139 v16_r0 v18_r0) a + S64x8x128.size a ≤ S2048x8x128.size a := fun v12_r0 v14_r0 v16_r0 v18_r0 k0_hw2 k0_h98 => k0_hw2.2.2.2.2.1.2.2.2.2.2.1 k0_h98
theorem k0_off139_wordsbf16 : ∀ (v12_r0 : BitVec 32) (v14_r0 : BitVec 32) (v16_r0 : BitVec 32) (v18_r0 : BitVec 32) (k0_hw2 : k0_chk2 v12_r0 v14_r0 v16_r0 v18_r0), ∀ (k0_h98 : k0_cond98 v12_r0 = 1#1), (Rect.unit (s := S2048x8x128) (k0_off139 v16_r0 v18_r0) S64x8x128.size (k0_off139_inb v12_r0 v14_r0 v16_r0 v18_r0 k0_hw2 k0_h98)).WholeWords (EltTy.packing .bf16) := fun v12_r0 v14_r0 v16_r0 v18_r0 k0_hw2 k0_h98 => k0_hw2.2.2.2.2.1.2.2.2.2.2.2.1 k0_h98 (k0_off139_inb v12_r0 v14_r0 v16_r0 v18_r0 k0_hw2 k0_h98)
theorem k0_off138_wordsbf16 : ∀ (v12_r0 : BitVec 32) (v14_r0 : BitVec 32) (v16_r0 : BitVec 32) (v18_r0 : BitVec 32) (k0_hw2 : k0_chk2 v12_r0 v14_r0 v16_r0 v18_r0), ∀ (k0_h98 : k0_cond98 v12_r0 = 1#1), (Rect.unit (s := S2048x8x128) (k0_off138 v14_r0 v18_r0) S64x8x128.size (k0_off138_inb v12_r0 v14_r0 v16_r0 v18_r0 k0_hw2 k0_h98)).WholeWords (EltTy.packing .bf16) := fun v12_r0 v14_r0 v16_r0 v18_r0 k0_hw2 k0_h98 => k0_hw2.2.2.2.2.1.2.2.2.2.2.2.2.1 k0_h98 (k0_off138_inb v12_r0 v14_r0 v16_r0 v18_r0 k0_hw2 k0_h98)
theorem k0_off140_inb : ∀ (v12_r0 : BitVec 32) (v14_r0 : BitVec 32) (v16_r0 : BitVec 32) (v18_r0 : BitVec 32) (k0_hw2 : k0_chk2 v12_r0 v14_r0 v16_r0 v18_r0), ∀ (k0_h99 : k0_cond99 v12_r0 = 1#1), ∀ a, (k0_off140 v14_r0 v18_r0) a + S64x8x128.size a ≤ S2048x8x128.size a := fun v12_r0 v14_r0 v16_r0 v18_r0 k0_hw2 k0_h99 => k0_hw2.2.2.2.2.1.2.2.2.2.2.2.2.2.1 k0_h99
theorem k0_off141_inb : ∀ (v12_r0 : BitVec 32) (v14_r0 : BitVec 32) (v16_r0 : BitVec 32) (v18_r0 : BitVec 32) (k0_hw2 : k0_chk2 v12_r0 v14_r0 v16_r0 v18_r0), ∀ (k0_h99 : k0_cond99 v12_r0 = 1#1), ∀ a, (k0_off141 v16_r0 v18_r0) a + S64x8x128.size a ≤ S2048x8x128.size a := fun v12_r0 v14_r0 v16_r0 v18_r0 k0_hw2 k0_h99 => k0_hw2.2.2.2.2.1.2.2.2.2.2.2.2.2.2.1 k0_h99
theorem k0_off141_wordsbf16 : ∀ (v12_r0 : BitVec 32) (v14_r0 : BitVec 32) (v16_r0 : BitVec 32) (v18_r0 : BitVec 32) (k0_hw2 : k0_chk2 v12_r0 v14_r0 v16_r0 v18_r0), ∀ (k0_h99 : k0_cond99 v12_r0 = 1#1), (Rect.unit (s := S2048x8x128) (k0_off141 v16_r0 v18_r0) S64x8x128.size (k0_off141_inb v12_r0 v14_r0 v16_r0 v18_r0 k0_hw2 k0_h99)).WholeWords (EltTy.packing .bf16) := fun v12_r0 v14_r0 v16_r0 v18_r0 k0_hw2 k0_h99 => k0_hw2.2.2.2.2.1.2.2.2.2.2.2.2.2.2.2.1 k0_h99 (k0_off141_inb v12_r0 v14_r0 v16_r0 v18_r0 k0_hw2 k0_h99)
theorem k0_off140_wordsbf16 : ∀ (v12_r0 : BitVec 32) (v14_r0 : BitVec 32) (v16_r0 : BitVec 32) (v18_r0 : BitVec 32) (k0_hw2 : k0_chk2 v12_r0 v14_r0 v16_r0 v18_r0), ∀ (k0_h99 : k0_cond99 v12_r0 = 1#1), (Rect.unit (s := S2048x8x128) (k0_off140 v14_r0 v18_r0) S64x8x128.size (k0_off140_inb v12_r0 v14_r0 v16_r0 v18_r0 k0_hw2 k0_h99)).WholeWords (EltTy.packing .bf16) := fun v12_r0 v14_r0 v16_r0 v18_r0 k0_hw2 k0_h99 => k0_hw2.2.2.2.2.1.2.2.2.2.2.2.2.2.2.2.2.1 k0_h99 (k0_off140_inb v12_r0 v14_r0 v16_r0 v18_r0 k0_hw2 k0_h99)
theorem k0_off142_inb : ∀ (v12_r0 : BitVec 32) (v14_r0 : BitVec 32) (v16_r0 : BitVec 32) (v18_r0 : BitVec 32) (k0_hw2 : k0_chk2 v12_r0 v14_r0 v16_r0 v18_r0), ∀ (k0_h100 : k0_cond100 v12_r0 = 1#1), ∀ a, (k0_off142 v14_r0 v18_r0) a + S64x8x128.size a ≤ S2048x8x128.size a := fun v12_r0 v14_r0 v16_r0 v18_r0 k0_hw2 k0_h100 => k0_hw2.2.2.2.2.1.2.2.2.2.2.2.2.2.2.2.2.2.1 k0_h100
theorem k0_off143_inb : ∀ (v12_r0 : BitVec 32) (v14_r0 : BitVec 32) (v16_r0 : BitVec 32) (v18_r0 : BitVec 32) (k0_hw2 : k0_chk2 v12_r0 v14_r0 v16_r0 v18_r0), ∀ (k0_h100 : k0_cond100 v12_r0 = 1#1), ∀ a, (k0_off143 v16_r0 v18_r0) a + S64x8x128.size a ≤ S2048x8x128.size a := fun v12_r0 v14_r0 v16_r0 v18_r0 k0_hw2 k0_h100 => k0_hw2.2.2.2.2.1.2.2.2.2.2.2.2.2.2.2.2.2.2.1 k0_h100
theorem k0_off143_wordsbf16 : ∀ (v12_r0 : BitVec 32) (v14_r0 : BitVec 32) (v16_r0 : BitVec 32) (v18_r0 : BitVec 32) (k0_hw2 : k0_chk2 v12_r0 v14_r0 v16_r0 v18_r0), ∀ (k0_h100 : k0_cond100 v12_r0 = 1#1), (Rect.unit (s := S2048x8x128) (k0_off143 v16_r0 v18_r0) S64x8x128.size (k0_off143_inb v12_r0 v14_r0 v16_r0 v18_r0 k0_hw2 k0_h100)).WholeWords (EltTy.packing .bf16) := fun v12_r0 v14_r0 v16_r0 v18_r0 k0_hw2 k0_h100 => k0_hw2.2.2.2.2.1.2.2.2.2.2.2.2.2.2.2.2.2.2.2.1 k0_h100 (k0_off143_inb v12_r0 v14_r0 v16_r0 v18_r0 k0_hw2 k0_h100)
theorem k0_off142_wordsbf16 : ∀ (v12_r0 : BitVec 32) (v14_r0 : BitVec 32) (v16_r0 : BitVec 32) (v18_r0 : BitVec 32) (k0_hw2 : k0_chk2 v12_r0 v14_r0 v16_r0 v18_r0), ∀ (k0_h100 : k0_cond100 v12_r0 = 1#1), (Rect.unit (s := S2048x8x128) (k0_off142 v14_r0 v18_r0) S64x8x128.size (k0_off142_inb v12_r0 v14_r0 v16_r0 v18_r0 k0_hw2 k0_h100)).WholeWords (EltTy.packing .bf16) := fun v12_r0 v14_r0 v16_r0 v18_r0 k0_hw2 k0_h100 => k0_hw2.2.2.2.2.1.2.2.2.2.2.2.2.2.2.2.2.2.2.2.2.1 k0_h100 (k0_off142_inb v12_r0 v14_r0 v16_r0 v18_r0 k0_hw2 k0_h100)
theorem k0_off144_inb : ∀ (v12_r0 : BitVec 32) (v14_r0 : BitVec 32) (v16_r0 : BitVec 32) (v18_r0 : BitVec 32) (k0_hw2 : k0_chk2 v12_r0 v14_r0 v16_r0 v18_r0), ∀ (k0_h101 : k0_cond101 v12_r0 = 1#1), ∀ a, (k0_off144 v14_r0 v18_r0) a + S64x8x128.size a ≤ S2048x8x128.size a := fun v12_r0 v14_r0 v16_r0 v18_r0 k0_hw2 k0_h101 => k0_hw2.2.2.2.2.1.2.2.2.2.2.2.2.2.2.2.2.2.2.2.2.2.1 k0_h101
theorem k0_off145_inb : ∀ (v12_r0 : BitVec 32) (v14_r0 : BitVec 32) (v16_r0 : BitVec 32) (v18_r0 : BitVec 32) (k0_hw2 : k0_chk2 v12_r0 v14_r0 v16_r0 v18_r0), ∀ (k0_h101 : k0_cond101 v12_r0 = 1#1), ∀ a, (k0_off145 v16_r0 v18_r0) a + S64x8x128.size a ≤ S2048x8x128.size a := fun v12_r0 v14_r0 v16_r0 v18_r0 k0_hw2 k0_h101 => k0_hw2.2.2.2.2.1.2.2.2.2.2.2.2.2.2.2.2.2.2.2.2.2.2.1 k0_h101
theorem k0_off145_wordsbf16 : ∀ (v12_r0 : BitVec 32) (v14_r0 : BitVec 32) (v16_r0 : BitVec 32) (v18_r0 : BitVec 32) (k0_hw2 : k0_chk2 v12_r0 v14_r0 v16_r0 v18_r0), ∀ (k0_h101 : k0_cond101 v12_r0 = 1#1), (Rect.unit (s := S2048x8x128) (k0_off145 v16_r0 v18_r0) S64x8x128.size (k0_off145_inb v12_r0 v14_r0 v16_r0 v18_r0 k0_hw2 k0_h101)).WholeWords (EltTy.packing .bf16) := fun v12_r0 v14_r0 v16_r0 v18_r0 k0_hw2 k0_h101 => k0_hw2.2.2.2.2.1.2.2.2.2.2.2.2.2.2.2.2.2.2.2.2.2.2.2.1 k0_h101 (k0_off145_inb v12_r0 v14_r0 v16_r0 v18_r0 k0_hw2 k0_h101)
theorem k0_off144_wordsbf16 : ∀ (v12_r0 : BitVec 32) (v14_r0 : BitVec 32) (v16_r0 : BitVec 32) (v18_r0 : BitVec 32) (k0_hw2 : k0_chk2 v12_r0 v14_r0 v16_r0 v18_r0), ∀ (k0_h101 : k0_cond101 v12_r0 = 1#1), (Rect.unit (s := S2048x8x128) (k0_off144 v14_r0 v18_r0) S64x8x128.size (k0_off144_inb v12_r0 v14_r0 v16_r0 v18_r0 k0_hw2 k0_h101)).WholeWords (EltTy.packing .bf16) := fun v12_r0 v14_r0 v16_r0 v18_r0 k0_hw2 k0_h101 => k0_hw2.2.2.2.2.1.2.2.2.2.2.2.2.2.2.2.2.2.2.2.2.2.2.2.2.1 k0_h101 (k0_off144_inb v12_r0 v14_r0 v16_r0 v18_r0 k0_hw2 k0_h101)
theorem k0_off146_inb : ∀ (v12_r0 : BitVec 32) (v14_r0 : BitVec 32) (v16_r0 : BitVec 32) (v18_r0 : BitVec 32) (k0_hw2 : k0_chk2 v12_r0 v14_r0 v16_r0 v18_r0), ∀ (k0_h102 : k0_cond102 v12_r0 = 1#1), ∀ a, (k0_off146 v14_r0 v18_r0) a + S64x8x128.size a ≤ S2048x8x128.size a := fun v12_r0 v14_r0 v16_r0 v18_r0 k0_hw2 k0_h102 => k0_hw2.2.2.2.2.1.2.2.2.2.2.2.2.2.2.2.2.2.2.2.2.2.2.2.2.2.1 k0_h102
theorem k0_off147_inb : ∀ (v12_r0 : BitVec 32) (v14_r0 : BitVec 32) (v16_r0 : BitVec 32) (v18_r0 : BitVec 32) (k0_hw2 : k0_chk2 v12_r0 v14_r0 v16_r0 v18_r0), ∀ (k0_h102 : k0_cond102 v12_r0 = 1#1), ∀ a, (k0_off147 v16_r0 v18_r0) a + S64x8x128.size a ≤ S2048x8x128.size a := fun v12_r0 v14_r0 v16_r0 v18_r0 k0_hw2 k0_h102 => k0_hw2.2.2.2.2.1.2.2.2.2.2.2.2.2.2.2.2.2.2.2.2.2.2.2.2.2.2.1 k0_h102
theorem k0_off147_wordsbf16 : ∀ (v12_r0 : BitVec 32) (v14_r0 : BitVec 32) (v16_r0 : BitVec 32) (v18_r0 : BitVec 32) (k0_hw2 : k0_chk2 v12_r0 v14_r0 v16_r0 v18_r0), ∀ (k0_h102 : k0_cond102 v12_r0 = 1#1), (Rect.unit (s := S2048x8x128) (k0_off147 v16_r0 v18_r0) S64x8x128.size (k0_off147_inb v12_r0 v14_r0 v16_r0 v18_r0 k0_hw2 k0_h102)).WholeWords (EltTy.packing .bf16) := fun v12_r0 v14_r0 v16_r0 v18_r0 k0_hw2 k0_h102 => k0_hw2.2.2.2.2.1.2.2.2.2.2.2.2.2.2.2.2.2.2.2.2.2.2.2.2.2.2.2.1 k0_h102 (k0_off147_inb v12_r0 v14_r0 v16_r0 v18_r0 k0_hw2 k0_h102)
theorem k0_off146_wordsbf16 : ∀ (v12_r0 : BitVec 32) (v14_r0 : BitVec 32) (v16_r0 : BitVec 32) (v18_r0 : BitVec 32) (k0_hw2 : k0_chk2 v12_r0 v14_r0 v16_r0 v18_r0), ∀ (k0_h102 : k0_cond102 v12_r0 = 1#1), (Rect.unit (s := S2048x8x128) (k0_off146 v14_r0 v18_r0) S64x8x128.size (k0_off146_inb v12_r0 v14_r0 v16_r0 v18_r0 k0_hw2 k0_h102)).WholeWords (EltTy.packing .bf16) := fun v12_r0 v14_r0 v16_r0 v18_r0 k0_hw2 k0_h102 => k0_hw2.2.2.2.2.1.2.2.2.2.2.2.2.2.2.2.2.2.2.2.2.2.2.2.2.2.2.2.2.1 k0_h102 (k0_off146_inb v12_r0 v14_r0 v16_r0 v18_r0 k0_hw2 k0_h102)
theorem k0_off148_inb : ∀ (v12_r0 : BitVec 32) (v14_r0 : BitVec 32) (v16_r0 : BitVec 32) (v18_r0 : BitVec 32) (k0_hw2 : k0_chk2 v12_r0 v14_r0 v16_r0 v18_r0), ∀ (k0_h103 : k0_cond103 v12_r0 = 1#1), ∀ a, (k0_off148 v14_r0 v18_r0) a + S64x8x128.size a ≤ S2048x8x128.size a := fun v12_r0 v14_r0 v16_r0 v18_r0 k0_hw2 k0_h103 => k0_hw2.2.2.2.2.1.2.2.2.2.2.2.2.2.2.2.2.2.2.2.2.2.2.2.2.2.2.2.2.2.1 k0_h103
theorem k0_off149_inb : ∀ (v12_r0 : BitVec 32) (v14_r0 : BitVec 32) (v16_r0 : BitVec 32) (v18_r0 : BitVec 32) (k0_hw2 : k0_chk2 v12_r0 v14_r0 v16_r0 v18_r0), ∀ (k0_h103 : k0_cond103 v12_r0 = 1#1), ∀ a, (k0_off149 v16_r0 v18_r0) a + S64x8x128.size a ≤ S2048x8x128.size a := fun v12_r0 v14_r0 v16_r0 v18_r0 k0_hw2 k0_h103 => k0_hw2.2.2.2.2.1.2.2.2.2.2.2.2.2.2.2.2.2.2.2.2.2.2.2.2.2.2.2.2.2.2.1 k0_h103
theorem k0_off149_wordsbf16 : ∀ (v12_r0 : BitVec 32) (v14_r0 : BitVec 32) (v16_r0 : BitVec 32) (v18_r0 : BitVec 32) (k0_hw2 : k0_chk2 v12_r0 v14_r0 v16_r0 v18_r0), ∀ (k0_h103 : k0_cond103 v12_r0 = 1#1), (Rect.unit (s := S2048x8x128) (k0_off149 v16_r0 v18_r0) S64x8x128.size (k0_off149_inb v12_r0 v14_r0 v16_r0 v18_r0 k0_hw2 k0_h103)).WholeWords (EltTy.packing .bf16) := fun v12_r0 v14_r0 v16_r0 v18_r0 k0_hw2 k0_h103 => k0_hw2.2.2.2.2.1.2.2.2.2.2.2.2.2.2.2.2.2.2.2.2.2.2.2.2.2.2.2.2.2.2.2.1 k0_h103 (k0_off149_inb v12_r0 v14_r0 v16_r0 v18_r0 k0_hw2 k0_h103)
theorem k0_off148_wordsbf16 : ∀ (v12_r0 : BitVec 32) (v14_r0 : BitVec 32) (v16_r0 : BitVec 32) (v18_r0 : BitVec 32) (k0_hw2 : k0_chk2 v12_r0 v14_r0 v16_r0 v18_r0), ∀ (k0_h103 : k0_cond103 v12_r0 = 1#1), (Rect.unit (s := S2048x8x128) (k0_off148 v14_r0 v18_r0) S64x8x128.size (k0_off148_inb v12_r0 v14_r0 v16_r0 v18_r0 k0_hw2 k0_h103)).WholeWords (EltTy.packing .bf16) := fun v12_r0 v14_r0 v16_r0 v18_r0 k0_hw2 k0_h103 => k0_hw2.2.2.2.2.1.2.2.2.2.2.2.2.2.2.2.2.2.2.2.2.2.2.2.2.2.2.2.2.2.2.2.2.1 k0_h103 (k0_off148_inb v12_r0 v14_r0 v16_r0 v18_r0 k0_hw2 k0_h103)
theorem k0_off150_inb : ∀ (v12_r0 : BitVec 32) (v14_r0 : BitVec 32) (v16_r0 : BitVec 32) (v18_r0 : BitVec 32) (k0_hw2 : k0_chk2 v12_r0 v14_r0 v16_r0 v18_r0), ∀ (k0_h104 : k0_cond104 v12_r0 = 1#1), ∀ a, (k0_off150 v14_r0 v18_r0) a + S64x8x128.size a ≤ S2048x8x128.size a := fun v12_r0 v14_r0 v16_r0 v18_r0 k0_hw2 k0_h104 => k0_hw2.2.2.2.2.1.2.2.2.2.2.2.2.2.2.2.2.2.2.2.2.2.2.2.2.2.2.2.2.2.2.2.2.2.1 k0_h104
theorem k0_off151_inb : ∀ (v12_r0 : BitVec 32) (v14_r0 : BitVec 32) (v16_r0 : BitVec 32) (v18_r0 : BitVec 32) (k0_hw2 : k0_chk2 v12_r0 v14_r0 v16_r0 v18_r0), ∀ (k0_h104 : k0_cond104 v12_r0 = 1#1), ∀ a, (k0_off151 v16_r0 v18_r0) a + S64x8x128.size a ≤ S2048x8x128.size a := fun v12_r0 v14_r0 v16_r0 v18_r0 k0_hw2 k0_h104 => k0_hw2.2.2.2.2.1.2.2.2.2.2.2.2.2.2.2.2.2.2.2.2.2.2.2.2.2.2.2.2.2.2.2.2.2.2.1 k0_h104
theorem k0_off151_wordsbf16 : ∀ (v12_r0 : BitVec 32) (v14_r0 : BitVec 32) (v16_r0 : BitVec 32) (v18_r0 : BitVec 32) (k0_hw2 : k0_chk2 v12_r0 v14_r0 v16_r0 v18_r0), ∀ (k0_h104 : k0_cond104 v12_r0 = 1#1), (Rect.unit (s := S2048x8x128) (k0_off151 v16_r0 v18_r0) S64x8x128.size (k0_off151_inb v12_r0 v14_r0 v16_r0 v18_r0 k0_hw2 k0_h104)).WholeWords (EltTy.packing .bf16) := fun v12_r0 v14_r0 v16_r0 v18_r0 k0_hw2 k0_h104 => k0_hw2.2.2.2.2.1.2.2.2.2.2.2.2.2.2.2.2.2.2.2.2.2.2.2.2.2.2.2.2.2.2.2.2.2.2.2.1 k0_h104 (k0_off151_inb v12_r0 v14_r0 v16_r0 v18_r0 k0_hw2 k0_h104)
theorem k0_off150_wordsbf16 : ∀ (v12_r0 : BitVec 32) (v14_r0 : BitVec 32) (v16_r0 : BitVec 32) (v18_r0 : BitVec 32) (k0_hw2 : k0_chk2 v12_r0 v14_r0 v16_r0 v18_r0), ∀ (k0_h104 : k0_cond104 v12_r0 = 1#1), (Rect.unit (s := S2048x8x128) (k0_off150 v14_r0 v18_r0) S64x8x128.size (k0_off150_inb v12_r0 v14_r0 v16_r0 v18_r0 k0_hw2 k0_h104)).WholeWords (EltTy.packing .bf16) := fun v12_r0 v14_r0 v16_r0 v18_r0 k0_hw2 k0_h104 => k0_hw2.2.2.2.2.1.2.2.2.2.2.2.2.2.2.2.2.2.2.2.2.2.2.2.2.2.2.2.2.2.2.2.2.2.2.2.2 k0_h104 (k0_off150_inb v12_r0 v14_r0 v16_r0 v18_r0 k0_hw2 k0_h104)
theorem k0_off152_inb : ∀ (v12_r0 : BitVec 32) (v14_r0 : BitVec 32) (v16_r0 : BitVec 32) (v18_r0 : BitVec 32) (k0_hw2 : k0_chk2 v12_r0 v14_r0 v16_r0 v18_r0), ∀ (k0_h105 : k0_cond105 v12_r0 = 1#1), ∀ a, (k0_off152 v14_r0 v18_r0) a + S64x8x128.size a ≤ S2048x8x128.size a := fun v12_r0 v14_r0 v16_r0 v18_r0 k0_hw2 k0_h105 => k0_hw2.2.2.2.2.2.1.1 k0_h105
theorem k0_off153_inb : ∀ (v12_r0 : BitVec 32) (v14_r0 : BitVec 32) (v16_r0 : BitVec 32) (v18_r0 : BitVec 32) (k0_hw2 : k0_chk2 v12_r0 v14_r0 v16_r0 v18_r0), ∀ (k0_h105 : k0_cond105 v12_r0 = 1#1), ∀ a, (k0_off153 v16_r0 v18_r0) a + S64x8x128.size a ≤ S2048x8x128.size a := fun v12_r0 v14_r0 v16_r0 v18_r0 k0_hw2 k0_h105 => k0_hw2.2.2.2.2.2.1.2.1 k0_h105
theorem k0_off153_wordsbf16 : ∀ (v12_r0 : BitVec 32) (v14_r0 : BitVec 32) (v16_r0 : BitVec 32) (v18_r0 : BitVec 32) (k0_hw2 : k0_chk2 v12_r0 v14_r0 v16_r0 v18_r0), ∀ (k0_h105 : k0_cond105 v12_r0 = 1#1), (Rect.unit (s := S2048x8x128) (k0_off153 v16_r0 v18_r0) S64x8x128.size (k0_off153_inb v12_r0 v14_r0 v16_r0 v18_r0 k0_hw2 k0_h105)).WholeWords (EltTy.packing .bf16) := fun v12_r0 v14_r0 v16_r0 v18_r0 k0_hw2 k0_h105 => k0_hw2.2.2.2.2.2.1.2.2.1 k0_h105 (k0_off153_inb v12_r0 v14_r0 v16_r0 v18_r0 k0_hw2 k0_h105)
theorem k0_off152_wordsbf16 : ∀ (v12_r0 : BitVec 32) (v14_r0 : BitVec 32) (v16_r0 : BitVec 32) (v18_r0 : BitVec 32) (k0_hw2 : k0_chk2 v12_r0 v14_r0 v16_r0 v18_r0), ∀ (k0_h105 : k0_cond105 v12_r0 = 1#1), (Rect.unit (s := S2048x8x128) (k0_off152 v14_r0 v18_r0) S64x8x128.size (k0_off152_inb v12_r0 v14_r0 v16_r0 v18_r0 k0_hw2 k0_h105)).WholeWords (EltTy.packing .bf16) := fun v12_r0 v14_r0 v16_r0 v18_r0 k0_hw2 k0_h105 => k0_hw2.2.2.2.2.2.1.2.2.2.1 k0_h105 (k0_off152_inb v12_r0 v14_r0 v16_r0 v18_r0 k0_hw2 k0_h105)
theorem k0_off154_inb : ∀ (v12_r0 : BitVec 32) (v14_r0 : BitVec 32) (v16_r0 : BitVec 32) (v18_r0 : BitVec 32) (k0_hw2 : k0_chk2 v12_r0 v14_r0 v16_r0 v18_r0), ∀ (k0_h106 : k0_cond106 v12_r0 = 1#1), ∀ a, (k0_off154 v14_r0 v18_r0) a + S64x8x128.size a ≤ S2048x8x128.size a := fun v12_r0 v14_r0 v16_r0 v18_r0 k0_hw2 k0_h106 => k0_hw2.2.2.2.2.2.1.2.2.2.2.1 k0_h106
theorem k0_off155_inb : ∀ (v12_r0 : BitVec 32) (v14_r0 : BitVec 32) (v16_r0 : BitVec 32) (v18_r0 : BitVec 32) (k0_hw2 : k0_chk2 v12_r0 v14_r0 v16_r0 v18_r0), ∀ (k0_h106 : k0_cond106 v12_r0 = 1#1), ∀ a, (k0_off155 v16_r0 v18_r0) a + S64x8x128.size a ≤ S2048x8x128.size a := fun v12_r0 v14_r0 v16_r0 v18_r0 k0_hw2 k0_h106 => k0_hw2.2.2.2.2.2.1.2.2.2.2.2.1 k0_h106
theorem k0_off155_wordsbf16 : ∀ (v12_r0 : BitVec 32) (v14_r0 : BitVec 32) (v16_r0 : BitVec 32) (v18_r0 : BitVec 32) (k0_hw2 : k0_chk2 v12_r0 v14_r0 v16_r0 v18_r0), ∀ (k0_h106 : k0_cond106 v12_r0 = 1#1), (Rect.unit (s := S2048x8x128) (k0_off155 v16_r0 v18_r0) S64x8x128.size (k0_off155_inb v12_r0 v14_r0 v16_r0 v18_r0 k0_hw2 k0_h106)).WholeWords (EltTy.packing .bf16) := fun v12_r0 v14_r0 v16_r0 v18_r0 k0_hw2 k0_h106 => k0_hw2.2.2.2.2.2.1.2.2.2.2.2.2.1 k0_h106 (k0_off155_inb v12_r0 v14_r0 v16_r0 v18_r0 k0_hw2 k0_h106)
theorem k0_off154_wordsbf16 : ∀ (v12_r0 : BitVec 32) (v14_r0 : BitVec 32) (v16_r0 : BitVec 32) (v18_r0 : BitVec 32) (k0_hw2 : k0_chk2 v12_r0 v14_r0 v16_r0 v18_r0), ∀ (k0_h106 : k0_cond106 v12_r0 = 1#1), (Rect.unit (s := S2048x8x128) (k0_off154 v14_r0 v18_r0) S64x8x128.size (k0_off154_inb v12_r0 v14_r0 v16_r0 v18_r0 k0_hw2 k0_h106)).WholeWords (EltTy.packing .bf16) := fun v12_r0 v14_r0 v16_r0 v18_r0 k0_hw2 k0_h106 => k0_hw2.2.2.2.2.2.1.2.2.2.2.2.2.2.1 k0_h106 (k0_off154_inb v12_r0 v14_r0 v16_r0 v18_r0 k0_hw2 k0_h106)
theorem k0_off156_inb : ∀ (v12_r0 : BitVec 32) (v14_r0 : BitVec 32) (v16_r0 : BitVec 32) (v18_r0 : BitVec 32) (k0_hw2 : k0_chk2 v12_r0 v14_r0 v16_r0 v18_r0), ∀ (k0_h107 : k0_cond107 v12_r0 = 1#1), ∀ a, (k0_off156 v14_r0 v18_r0) a + S64x8x128.size a ≤ S2048x8x128.size a := fun v12_r0 v14_r0 v16_r0 v18_r0 k0_hw2 k0_h107 => k0_hw2.2.2.2.2.2.1.2.2.2.2.2.2.2.2.1 k0_h107
theorem k0_off157_inb : ∀ (v12_r0 : BitVec 32) (v14_r0 : BitVec 32) (v16_r0 : BitVec 32) (v18_r0 : BitVec 32) (k0_hw2 : k0_chk2 v12_r0 v14_r0 v16_r0 v18_r0), ∀ (k0_h107 : k0_cond107 v12_r0 = 1#1), ∀ a, (k0_off157 v16_r0 v18_r0) a + S64x8x128.size a ≤ S2048x8x128.size a := fun v12_r0 v14_r0 v16_r0 v18_r0 k0_hw2 k0_h107 => k0_hw2.2.2.2.2.2.1.2.2.2.2.2.2.2.2.2.1 k0_h107
theorem k0_off157_wordsbf16 : ∀ (v12_r0 : BitVec 32) (v14_r0 : BitVec 32) (v16_r0 : BitVec 32) (v18_r0 : BitVec 32) (k0_hw2 : k0_chk2 v12_r0 v14_r0 v16_r0 v18_r0), ∀ (k0_h107 : k0_cond107 v12_r0 = 1#1), (Rect.unit (s := S2048x8x128) (k0_off157 v16_r0 v18_r0) S64x8x128.size (k0_off157_inb v12_r0 v14_r0 v16_r0 v18_r0 k0_hw2 k0_h107)).WholeWords (EltTy.packing .bf16) := fun v12_r0 v14_r0 v16_r0 v18_r0 k0_hw2 k0_h107 => k0_hw2.2.2.2.2.2.1.2.2.2.2.2.2.2.2.2.2.1 k0_h107 (k0_off157_inb v12_r0 v14_r0 v16_r0 v18_r0 k0_hw2 k0_h107)
theorem k0_off156_wordsbf16 : ∀ (v12_r0 : BitVec 32) (v14_r0 : BitVec 32) (v16_r0 : BitVec 32) (v18_r0 : BitVec 32) (k0_hw2 : k0_chk2 v12_r0 v14_r0 v16_r0 v18_r0), ∀ (k0_h107 : k0_cond107 v12_r0 = 1#1), (Rect.unit (s := S2048x8x128) (k0_off156 v14_r0 v18_r0) S64x8x128.size (k0_off156_inb v12_r0 v14_r0 v16_r0 v18_r0 k0_hw2 k0_h107)).WholeWords (EltTy.packing .bf16) := fun v12_r0 v14_r0 v16_r0 v18_r0 k0_hw2 k0_h107 => k0_hw2.2.2.2.2.2.1.2.2.2.2.2.2.2.2.2.2.2.1 k0_h107 (k0_off156_inb v12_r0 v14_r0 v16_r0 v18_r0 k0_hw2 k0_h107)
theorem k0_off158_inb : ∀ (v12_r0 : BitVec 32) (v14_r0 : BitVec 32) (v16_r0 : BitVec 32) (v18_r0 : BitVec 32) (k0_hw2 : k0_chk2 v12_r0 v14_r0 v16_r0 v18_r0), ∀ (k0_h108 : k0_cond108 v12_r0 = 1#1), ∀ a, (k0_off158 v14_r0 v18_r0) a + S64x8x128.size a ≤ S2048x8x128.size a := fun v12_r0 v14_r0 v16_r0 v18_r0 k0_hw2 k0_h108 => k0_hw2.2.2.2.2.2.1.2.2.2.2.2.2.2.2.2.2.2.2.1 k0_h108
theorem k0_off159_inb : ∀ (v12_r0 : BitVec 32) (v14_r0 : BitVec 32) (v16_r0 : BitVec 32) (v18_r0 : BitVec 32) (k0_hw2 : k0_chk2 v12_r0 v14_r0 v16_r0 v18_r0), ∀ (k0_h108 : k0_cond108 v12_r0 = 1#1), ∀ a, (k0_off159 v16_r0 v18_r0) a + S64x8x128.size a ≤ S2048x8x128.size a := fun v12_r0 v14_r0 v16_r0 v18_r0 k0_hw2 k0_h108 => k0_hw2.2.2.2.2.2.1.2.2.2.2.2.2.2.2.2.2.2.2.2.1 k0_h108
theorem k0_off159_wordsbf16 : ∀ (v12_r0 : BitVec 32) (v14_r0 : BitVec 32) (v16_r0 : BitVec 32) (v18_r0 : BitVec 32) (k0_hw2 : k0_chk2 v12_r0 v14_r0 v16_r0 v18_r0), ∀ (k0_h108 : k0_cond108 v12_r0 = 1#1), (Rect.unit (s := S2048x8x128) (k0_off159 v16_r0 v18_r0) S64x8x128.size (k0_off159_inb v12_r0 v14_r0 v16_r0 v18_r0 k0_hw2 k0_h108)).WholeWords (EltTy.packing .bf16) := fun v12_r0 v14_r0 v16_r0 v18_r0 k0_hw2 k0_h108 => k0_hw2.2.2.2.2.2.1.2.2.2.2.2.2.2.2.2.2.2.2.2.2.1 k0_h108 (k0_off159_inb v12_r0 v14_r0 v16_r0 v18_r0 k0_hw2 k0_h108)
theorem k0_off158_wordsbf16 : ∀ (v12_r0 : BitVec 32) (v14_r0 : BitVec 32) (v16_r0 : BitVec 32) (v18_r0 : BitVec 32) (k0_hw2 : k0_chk2 v12_r0 v14_r0 v16_r0 v18_r0), ∀ (k0_h108 : k0_cond108 v12_r0 = 1#1), (Rect.unit (s := S2048x8x128) (k0_off158 v14_r0 v18_r0) S64x8x128.size (k0_off158_inb v12_r0 v14_r0 v16_r0 v18_r0 k0_hw2 k0_h108)).WholeWords (EltTy.packing .bf16) := fun v12_r0 v14_r0 v16_r0 v18_r0 k0_hw2 k0_h108 => k0_hw2.2.2.2.2.2.1.2.2.2.2.2.2.2.2.2.2.2.2.2.2.2.1 k0_h108 (k0_off158_inb v12_r0 v14_r0 v16_r0 v18_r0 k0_hw2 k0_h108)
theorem k0_off160_inb : ∀ (v12_r0 : BitVec 32) (v14_r0 : BitVec 32) (v16_r0 : BitVec 32) (v18_r0 : BitVec 32) (k0_hw2 : k0_chk2 v12_r0 v14_r0 v16_r0 v18_r0), ∀ (k0_h109 : k0_cond109 v12_r0 = 1#1), ∀ a, (k0_off160 v14_r0 v18_r0) a + S64x8x128.size a ≤ S2048x8x128.size a := fun v12_r0 v14_r0 v16_r0 v18_r0 k0_hw2 k0_h109 => k0_hw2.2.2.2.2.2.1.2.2.2.2.2.2.2.2.2.2.2.2.2.2.2.2.1 k0_h109
theorem k0_off161_inb : ∀ (v12_r0 : BitVec 32) (v14_r0 : BitVec 32) (v16_r0 : BitVec 32) (v18_r0 : BitVec 32) (k0_hw2 : k0_chk2 v12_r0 v14_r0 v16_r0 v18_r0), ∀ (k0_h109 : k0_cond109 v12_r0 = 1#1), ∀ a, (k0_off161 v16_r0 v18_r0) a + S64x8x128.size a ≤ S2048x8x128.size a := fun v12_r0 v14_r0 v16_r0 v18_r0 k0_hw2 k0_h109 => k0_hw2.2.2.2.2.2.1.2.2.2.2.2.2.2.2.2.2.2.2.2.2.2.2.2.1 k0_h109
theorem k0_off161_wordsbf16 : ∀ (v12_r0 : BitVec 32) (v14_r0 : BitVec 32) (v16_r0 : BitVec 32) (v18_r0 : BitVec 32) (k0_hw2 : k0_chk2 v12_r0 v14_r0 v16_r0 v18_r0), ∀ (k0_h109 : k0_cond109 v12_r0 = 1#1), (Rect.unit (s := S2048x8x128) (k0_off161 v16_r0 v18_r0) S64x8x128.size (k0_off161_inb v12_r0 v14_r0 v16_r0 v18_r0 k0_hw2 k0_h109)).WholeWords (EltTy.packing .bf16) := fun v12_r0 v14_r0 v16_r0 v18_r0 k0_hw2 k0_h109 => k0_hw2.2.2.2.2.2.1.2.2.2.2.2.2.2.2.2.2.2.2.2.2.2.2.2.2.1 k0_h109 (k0_off161_inb v12_r0 v14_r0 v16_r0 v18_r0 k0_hw2 k0_h109)
theorem k0_off160_wordsbf16 : ∀ (v12_r0 : BitVec 32) (v14_r0 : BitVec 32) (v16_r0 : BitVec 32) (v18_r0 : BitVec 32) (k0_hw2 : k0_chk2 v12_r0 v14_r0 v16_r0 v18_r0), ∀ (k0_h109 : k0_cond109 v12_r0 = 1#1), (Rect.unit (s := S2048x8x128) (k0_off160 v14_r0 v18_r0) S64x8x128.size (k0_off160_inb v12_r0 v14_r0 v16_r0 v18_r0 k0_hw2 k0_h109)).WholeWords (EltTy.packing .bf16) := fun v12_r0 v14_r0 v16_r0 v18_r0 k0_hw2 k0_h109 => k0_hw2.2.2.2.2.2.1.2.2.2.2.2.2.2.2.2.2.2.2.2.2.2.2.2.2.2.1 k0_h109 (k0_off160_inb v12_r0 v14_r0 v16_r0 v18_r0 k0_hw2 k0_h109)
theorem k0_off162_inb : ∀ (v12_r0 : BitVec 32) (v14_r0 : BitVec 32) (v16_r0 : BitVec 32) (v18_r0 : BitVec 32) (k0_hw2 : k0_chk2 v12_r0 v14_r0 v16_r0 v18_r0), ∀ (k0_h110 : k0_cond110 v12_r0 = 1#1), ∀ a, (k0_off162 v14_r0 v18_r0) a + S64x8x128.size a ≤ S2048x8x128.size a := fun v12_r0 v14_r0 v16_r0 v18_r0 k0_hw2 k0_h110 => k0_hw2.2.2.2.2.2.1.2.2.2.2.2.2.2.2.2.2.2.2.2.2.2.2.2.2.2.2.1 k0_h110
theorem k0_off163_inb : ∀ (v12_r0 : BitVec 32) (v14_r0 : BitVec 32) (v16_r0 : BitVec 32) (v18_r0 : BitVec 32) (k0_hw2 : k0_chk2 v12_r0 v14_r0 v16_r0 v18_r0), ∀ (k0_h110 : k0_cond110 v12_r0 = 1#1), ∀ a, (k0_off163 v16_r0 v18_r0) a + S64x8x128.size a ≤ S2048x8x128.size a := fun v12_r0 v14_r0 v16_r0 v18_r0 k0_hw2 k0_h110 => k0_hw2.2.2.2.2.2.1.2.2.2.2.2.2.2.2.2.2.2.2.2.2.2.2.2.2.2.2.2.1 k0_h110
theorem k0_off163_wordsbf16 : ∀ (v12_r0 : BitVec 32) (v14_r0 : BitVec 32) (v16_r0 : BitVec 32) (v18_r0 : BitVec 32) (k0_hw2 : k0_chk2 v12_r0 v14_r0 v16_r0 v18_r0), ∀ (k0_h110 : k0_cond110 v12_r0 = 1#1), (Rect.unit (s := S2048x8x128) (k0_off163 v16_r0 v18_r0) S64x8x128.size (k0_off163_inb v12_r0 v14_r0 v16_r0 v18_r0 k0_hw2 k0_h110)).WholeWords (EltTy.packing .bf16) := fun v12_r0 v14_r0 v16_r0 v18_r0 k0_hw2 k0_h110 => k0_hw2.2.2.2.2.2.1.2.2.2.2.2.2.2.2.2.2.2.2.2.2.2.2.2.2.2.2.2.2.1 k0_h110 (k0_off163_inb v12_r0 v14_r0 v16_r0 v18_r0 k0_hw2 k0_h110)
theorem k0_off162_wordsbf16 : ∀ (v12_r0 : BitVec 32) (v14_r0 : BitVec 32) (v16_r0 : BitVec 32) (v18_r0 : BitVec 32) (k0_hw2 : k0_chk2 v12_r0 v14_r0 v16_r0 v18_r0), ∀ (k0_h110 : k0_cond110 v12_r0 = 1#1), (Rect.unit (s := S2048x8x128) (k0_off162 v14_r0 v18_r0) S64x8x128.size (k0_off162_inb v12_r0 v14_r0 v16_r0 v18_r0 k0_hw2 k0_h110)).WholeWords (EltTy.packing .bf16) := fun v12_r0 v14_r0 v16_r0 v18_r0 k0_hw2 k0_h110 => k0_hw2.2.2.2.2.2.1.2.2.2.2.2.2.2.2.2.2.2.2.2.2.2.2.2.2.2.2.2.2.2.1 k0_h110 (k0_off162_inb v12_r0 v14_r0 v16_r0 v18_r0 k0_hw2 k0_h110)
theorem k0_off164_inb : ∀ (v12_r0 : BitVec 32) (v14_r0 : BitVec 32) (v16_r0 : BitVec 32) (v18_r0 : BitVec 32) (k0_hw2 : k0_chk2 v12_r0 v14_r0 v16_r0 v18_r0), ∀ (k0_h111 : k0_cond111 v12_r0 = 1#1), ∀ a, (k0_off164 v14_r0 v18_r0) a + S64x8x128.size a ≤ S2048x8x128.size a := fun v12_r0 v14_r0 v16_r0 v18_r0 k0_hw2 k0_h111 => k0_hw2.2.2.2.2.2.1.2.2.2.2.2.2.2.2.2.2.2.2.2.2.2.2.2.2.2.2.2.2.2.2.1 k0_h111
theorem k0_off165_inb : ∀ (v12_r0 : BitVec 32) (v14_r0 : BitVec 32) (v16_r0 : BitVec 32) (v18_r0 : BitVec 32) (k0_hw2 : k0_chk2 v12_r0 v14_r0 v16_r0 v18_r0), ∀ (k0_h111 : k0_cond111 v12_r0 = 1#1), ∀ a, (k0_off165 v16_r0 v18_r0) a + S64x8x128.size a ≤ S2048x8x128.size a := fun v12_r0 v14_r0 v16_r0 v18_r0 k0_hw2 k0_h111 => k0_hw2.2.2.2.2.2.1.2.2.2.2.2.2.2.2.2.2.2.2.2.2.2.2.2.2.2.2.2.2.2.2.2.1 k0_h111
theorem k0_off165_wordsbf16 : ∀ (v12_r0 : BitVec 32) (v14_r0 : BitVec 32) (v16_r0 : BitVec 32) (v18_r0 : BitVec 32) (k0_hw2 : k0_chk2 v12_r0 v14_r0 v16_r0 v18_r0), ∀ (k0_h111 : k0_cond111 v12_r0 = 1#1), (Rect.unit (s := S2048x8x128) (k0_off165 v16_r0 v18_r0) S64x8x128.size (k0_off165_inb v12_r0 v14_r0 v16_r0 v18_r0 k0_hw2 k0_h111)).WholeWords (EltTy.packing .bf16) := fun v12_r0 v14_r0 v16_r0 v18_r0 k0_hw2 k0_h111 => k0_hw2.2.2.2.2.2.1.2.2.2.2.2.2.2.2.2.2.2.2.2.2.2.2.2.2.2.2.2.2.2.2.2.2.1 k0_h111 (k0_off165_inb v12_r0 v14_r0 v16_r0 v18_r0 k0_hw2 k0_h111)
theorem k0_off164_wordsbf16 : ∀ (v12_r0 : BitVec 32) (v14_r0 : BitVec 32) (v16_r0 : BitVec 32) (v18_r0 : BitVec 32) (k0_hw2 : k0_chk2 v12_r0 v14_r0 v16_r0 v18_r0), ∀ (k0_h111 : k0_cond111 v12_r0 = 1#1), (Rect.unit (s := S2048x8x128) (k0_off164 v14_r0 v18_r0) S64x8x128.size (k0_off164_inb v12_r0 v14_r0 v16_r0 v18_r0 k0_hw2 k0_h111)).WholeWords (EltTy.packing .bf16) := fun v12_r0 v14_r0 v16_r0 v18_r0 k0_hw2 k0_h111 => k0_hw2.2.2.2.2.2.1.2.2.2.2.2.2.2.2.2.2.2.2.2.2.2.2.2.2.2.2.2.2.2.2.2.2.2.1 k0_h111 (k0_off164_inb v12_r0 v14_r0 v16_r0 v18_r0 k0_hw2 k0_h111)
theorem k0_off166_inb : ∀ (v12_r0 : BitVec 32) (v14_r0 : BitVec 32) (v16_r0 : BitVec 32) (v18_r0 : BitVec 32) (k0_hw2 : k0_chk2 v12_r0 v14_r0 v16_r0 v18_r0), ∀ (k0_h112 : k0_cond112 v12_r0 = 1#1), ∀ a, (k0_off166 v14_r0 v18_r0) a + S64x8x128.size a ≤ S2048x8x128.size a := fun v12_r0 v14_r0 v16_r0 v18_r0 k0_hw2 k0_h112 => k0_hw2.2.2.2.2.2.1.2.2.2.2.2.2.2.2.2.2.2.2.2.2.2.2.2.2.2.2.2.2.2.2.2.2.2.2.1 k0_h112
theorem k0_off167_inb : ∀ (v12_r0 : BitVec 32) (v14_r0 : BitVec 32) (v16_r0 : BitVec 32) (v18_r0 : BitVec 32) (k0_hw2 : k0_chk2 v12_r0 v14_r0 v16_r0 v18_r0), ∀ (k0_h112 : k0_cond112 v12_r0 = 1#1), ∀ a, (k0_off167 v16_r0 v18_r0) a + S64x8x128.size a ≤ S2048x8x128.size a := fun v12_r0 v14_r0 v16_r0 v18_r0 k0_hw2 k0_h112 => k0_hw2.2.2.2.2.2.1.2.2.2.2.2.2.2.2.2.2.2.2.2.2.2.2.2.2.2.2.2.2.2.2.2.2.2.2.2.1 k0_h112
theorem k0_off167_wordsbf16 : ∀ (v12_r0 : BitVec 32) (v14_r0 : BitVec 32) (v16_r0 : BitVec 32) (v18_r0 : BitVec 32) (k0_hw2 : k0_chk2 v12_r0 v14_r0 v16_r0 v18_r0), ∀ (k0_h112 : k0_cond112 v12_r0 = 1#1), (Rect.unit (s := S2048x8x128) (k0_off167 v16_r0 v18_r0) S64x8x128.size (k0_off167_inb v12_r0 v14_r0 v16_r0 v18_r0 k0_hw2 k0_h112)).WholeWords (EltTy.packing .bf16) := fun v12_r0 v14_r0 v16_r0 v18_r0 k0_hw2 k0_h112 => k0_hw2.2.2.2.2.2.1.2.2.2.2.2.2.2.2.2.2.2.2.2.2.2.2.2.2.2.2.2.2.2.2.2.2.2.2.2.2.1 k0_h112 (k0_off167_inb v12_r0 v14_r0 v16_r0 v18_r0 k0_hw2 k0_h112)
theorem k0_off166_wordsbf16 : ∀ (v12_r0 : BitVec 32) (v14_r0 : BitVec 32) (v16_r0 : BitVec 32) (v18_r0 : BitVec 32) (k0_hw2 : k0_chk2 v12_r0 v14_r0 v16_r0 v18_r0), ∀ (k0_h112 : k0_cond112 v12_r0 = 1#1), (Rect.unit (s := S2048x8x128) (k0_off166 v14_r0 v18_r0) S64x8x128.size (k0_off166_inb v12_r0 v14_r0 v16_r0 v18_r0 k0_hw2 k0_h112)).WholeWords (EltTy.packing .bf16) := fun v12_r0 v14_r0 v16_r0 v18_r0 k0_hw2 k0_h112 => k0_hw2.2.2.2.2.2.1.2.2.2.2.2.2.2.2.2.2.2.2.2.2.2.2.2.2.2.2.2.2.2.2.2.2.2.2.2.2.2 k0_h112 (k0_off166_inb v12_r0 v14_r0 v16_r0 v18_r0 k0_hw2 k0_h112)
theorem k0_off168_inb : ∀ (v12_r0 : BitVec 32) (v14_r0 : BitVec 32) (v16_r0 : BitVec 32) (v18_r0 : BitVec 32) (k0_hw2 : k0_chk2 v12_r0 v14_r0 v16_r0 v18_r0), ∀ (k0_h113 : k0_cond113 v12_r0 = 1#1), ∀ a, (k0_off168 v14_r0 v18_r0) a + S64x8x128.size a ≤ S2048x8x128.size a := fun v12_r0 v14_r0 v16_r0 v18_r0 k0_hw2 k0_h113 => k0_hw2.2.2.2.2.2.2.1.1 k0_h113
theorem k0_off169_inb : ∀ (v12_r0 : BitVec 32) (v14_r0 : BitVec 32) (v16_r0 : BitVec 32) (v18_r0 : BitVec 32) (k0_hw2 : k0_chk2 v12_r0 v14_r0 v16_r0 v18_r0), ∀ (k0_h113 : k0_cond113 v12_r0 = 1#1), ∀ a, (k0_off169 v16_r0 v18_r0) a + S64x8x128.size a ≤ S2048x8x128.size a := fun v12_r0 v14_r0 v16_r0 v18_r0 k0_hw2 k0_h113 => k0_hw2.2.2.2.2.2.2.1.2.1 k0_h113
theorem k0_off169_wordsbf16 : ∀ (v12_r0 : BitVec 32) (v14_r0 : BitVec 32) (v16_r0 : BitVec 32) (v18_r0 : BitVec 32) (k0_hw2 : k0_chk2 v12_r0 v14_r0 v16_r0 v18_r0), ∀ (k0_h113 : k0_cond113 v12_r0 = 1#1), (Rect.unit (s := S2048x8x128) (k0_off169 v16_r0 v18_r0) S64x8x128.size (k0_off169_inb v12_r0 v14_r0 v16_r0 v18_r0 k0_hw2 k0_h113)).WholeWords (EltTy.packing .bf16) := fun v12_r0 v14_r0 v16_r0 v18_r0 k0_hw2 k0_h113 => k0_hw2.2.2.2.2.2.2.1.2.2.1 k0_h113 (k0_off169_inb v12_r0 v14_r0 v16_r0 v18_r0 k0_hw2 k0_h113)
theorem k0_off168_wordsbf16 : ∀ (v12_r0 : BitVec 32) (v14_r0 : BitVec 32) (v16_r0 : BitVec 32) (v18_r0 : BitVec 32) (k0_hw2 : k0_chk2 v12_r0 v14_r0 v16_r0 v18_r0), ∀ (k0_h113 : k0_cond113 v12_r0 = 1#1), (Rect.unit (s := S2048x8x128) (k0_off168 v14_r0 v18_r0) S64x8x128.size (k0_off168_inb v12_r0 v14_r0 v16_r0 v18_r0 k0_hw2 k0_h113)).WholeWords (EltTy.packing .bf16) := fun v12_r0 v14_r0 v16_r0 v18_r0 k0_hw2 k0_h113 => k0_hw2.2.2.2.2.2.2.1.2.2.2.1 k0_h113 (k0_off168_inb v12_r0 v14_r0 v16_r0 v18_r0 k0_hw2 k0_h113)
theorem k0_off170_inb : ∀ (v12_r0 : BitVec 32) (v14_r0 : BitVec 32) (v16_r0 : BitVec 32) (v18_r0 : BitVec 32) (k0_hw2 : k0_chk2 v12_r0 v14_r0 v16_r0 v18_r0), ∀ (k0_h114 : k0_cond114 v12_r0 = 1#1), ∀ a, (k0_off170 v14_r0 v18_r0) a + S64x8x128.size a ≤ S2048x8x128.size a := fun v12_r0 v14_r0 v16_r0 v18_r0 k0_hw2 k0_h114 => k0_hw2.2.2.2.2.2.2.1.2.2.2.2.1 k0_h114
theorem k0_off171_inb : ∀ (v12_r0 : BitVec 32) (v14_r0 : BitVec 32) (v16_r0 : BitVec 32) (v18_r0 : BitVec 32) (k0_hw2 : k0_chk2 v12_r0 v14_r0 v16_r0 v18_r0), ∀ (k0_h114 : k0_cond114 v12_r0 = 1#1), ∀ a, (k0_off171 v16_r0 v18_r0) a + S64x8x128.size a ≤ S2048x8x128.size a := fun v12_r0 v14_r0 v16_r0 v18_r0 k0_hw2 k0_h114 => k0_hw2.2.2.2.2.2.2.1.2.2.2.2.2.1 k0_h114
theorem k0_off171_wordsbf16 : ∀ (v12_r0 : BitVec 32) (v14_r0 : BitVec 32) (v16_r0 : BitVec 32) (v18_r0 : BitVec 32) (k0_hw2 : k0_chk2 v12_r0 v14_r0 v16_r0 v18_r0), ∀ (k0_h114 : k0_cond114 v12_r0 = 1#1), (Rect.unit (s := S2048x8x128) (k0_off171 v16_r0 v18_r0) S64x8x128.size (k0_off171_inb v12_r0 v14_r0 v16_r0 v18_r0 k0_hw2 k0_h114)).WholeWords (EltTy.packing .bf16) := fun v12_r0 v14_r0 v16_r0 v18_r0 k0_hw2 k0_h114 => k0_hw2.2.2.2.2.2.2.1.2.2.2.2.2.2.1 k0_h114 (k0_off171_inb v12_r0 v14_r0 v16_r0 v18_r0 k0_hw2 k0_h114)
theorem k0_off170_wordsbf16 : ∀ (v12_r0 : BitVec 32) (v14_r0 : BitVec 32) (v16_r0 : BitVec 32) (v18_r0 : BitVec 32) (k0_hw2 : k0_chk2 v12_r0 v14_r0 v16_r0 v18_r0), ∀ (k0_h114 : k0_cond114 v12_r0 = 1#1), (Rect.unit (s := S2048x8x128) (k0_off170 v14_r0 v18_r0) S64x8x128.size (k0_off170_inb v12_r0 v14_r0 v16_r0 v18_r0 k0_hw2 k0_h114)).WholeWords (EltTy.packing .bf16) := fun v12_r0 v14_r0 v16_r0 v18_r0 k0_hw2 k0_h114 => k0_hw2.2.2.2.2.2.2.1.2.2.2.2.2.2.2.1 k0_h114 (k0_off170_inb v12_r0 v14_r0 v16_r0 v18_r0 k0_hw2 k0_h114)
theorem k0_off172_inb : ∀ (v12_r0 : BitVec 32) (v14_r0 : BitVec 32) (v16_r0 : BitVec 32) (v18_r0 : BitVec 32) (k0_hw2 : k0_chk2 v12_r0 v14_r0 v16_r0 v18_r0), ∀ (k0_h115 : k0_cond115 v12_r0 = 1#1), ∀ a, (k0_off172 v14_r0 v18_r0) a + S64x8x128.size a ≤ S2048x8x128.size a := fun v12_r0 v14_r0 v16_r0 v18_r0 k0_hw2 k0_h115 => k0_hw2.2.2.2.2.2.2.1.2.2.2.2.2.2.2.2.1 k0_h115
theorem k0_off173_inb : ∀ (v12_r0 : BitVec 32) (v14_r0 : BitVec 32) (v16_r0 : BitVec 32) (v18_r0 : BitVec 32) (k0_hw2 : k0_chk2 v12_r0 v14_r0 v16_r0 v18_r0), ∀ (k0_h115 : k0_cond115 v12_r0 = 1#1), ∀ a, (k0_off173 v16_r0 v18_r0) a + S64x8x128.size a ≤ S2048x8x128.size a := fun v12_r0 v14_r0 v16_r0 v18_r0 k0_hw2 k0_h115 => k0_hw2.2.2.2.2.2.2.1.2.2.2.2.2.2.2.2.2.1 k0_h115
theorem k0_off173_wordsbf16 : ∀ (v12_r0 : BitVec 32) (v14_r0 : BitVec 32) (v16_r0 : BitVec 32) (v18_r0 : BitVec 32) (k0_hw2 : k0_chk2 v12_r0 v14_r0 v16_r0 v18_r0), ∀ (k0_h115 : k0_cond115 v12_r0 = 1#1), (Rect.unit (s := S2048x8x128) (k0_off173 v16_r0 v18_r0) S64x8x128.size (k0_off173_inb v12_r0 v14_r0 v16_r0 v18_r0 k0_hw2 k0_h115)).WholeWords (EltTy.packing .bf16) := fun v12_r0 v14_r0 v16_r0 v18_r0 k0_hw2 k0_h115 => k0_hw2.2.2.2.2.2.2.1.2.2.2.2.2.2.2.2.2.2.1 k0_h115 (k0_off173_inb v12_r0 v14_r0 v16_r0 v18_r0 k0_hw2 k0_h115)
theorem k0_off172_wordsbf16 : ∀ (v12_r0 : BitVec 32) (v14_r0 : BitVec 32) (v16_r0 : BitVec 32) (v18_r0 : BitVec 32) (k0_hw2 : k0_chk2 v12_r0 v14_r0 v16_r0 v18_r0), ∀ (k0_h115 : k0_cond115 v12_r0 = 1#1), (Rect.unit (s := S2048x8x128) (k0_off172 v14_r0 v18_r0) S64x8x128.size (k0_off172_inb v12_r0 v14_r0 v16_r0 v18_r0 k0_hw2 k0_h115)).WholeWords (EltTy.packing .bf16) := fun v12_r0 v14_r0 v16_r0 v18_r0 k0_hw2 k0_h115 => k0_hw2.2.2.2.2.2.2.1.2.2.2.2.2.2.2.2.2.2.2.1 k0_h115 (k0_off172_inb v12_r0 v14_r0 v16_r0 v18_r0 k0_hw2 k0_h115)
theorem k0_off174_inb : ∀ (v12_r0 : BitVec 32) (v14_r0 : BitVec 32) (v16_r0 : BitVec 32) (v18_r0 : BitVec 32) (k0_hw2 : k0_chk2 v12_r0 v14_r0 v16_r0 v18_r0), ∀ (k0_h116 : k0_cond116 v12_r0 = 1#1), ∀ a, (k0_off174 v14_r0 v18_r0) a + S64x8x128.size a ≤ S2048x8x128.size a := fun v12_r0 v14_r0 v16_r0 v18_r0 k0_hw2 k0_h116 => k0_hw2.2.2.2.2.2.2.1.2.2.2.2.2.2.2.2.2.2.2.2.1 k0_h116
theorem k0_off175_inb : ∀ (v12_r0 : BitVec 32) (v14_r0 : BitVec 32) (v16_r0 : BitVec 32) (v18_r0 : BitVec 32) (k0_hw2 : k0_chk2 v12_r0 v14_r0 v16_r0 v18_r0), ∀ (k0_h116 : k0_cond116 v12_r0 = 1#1), ∀ a, (k0_off175 v16_r0 v18_r0) a + S64x8x128.size a ≤ S2048x8x128.size a := fun v12_r0 v14_r0 v16_r0 v18_r0 k0_hw2 k0_h116 => k0_hw2.2.2.2.2.2.2.1.2.2.2.2.2.2.2.2.2.2.2.2.2.1 k0_h116
theorem k0_off175_wordsbf16 : ∀ (v12_r0 : BitVec 32) (v14_r0 : BitVec 32) (v16_r0 : BitVec 32) (v18_r0 : BitVec 32) (k0_hw2 : k0_chk2 v12_r0 v14_r0 v16_r0 v18_r0), ∀ (k0_h116 : k0_cond116 v12_r0 = 1#1), (Rect.unit (s := S2048x8x128) (k0_off175 v16_r0 v18_r0) S64x8x128.size (k0_off175_inb v12_r0 v14_r0 v16_r0 v18_r0 k0_hw2 k0_h116)).WholeWords (EltTy.packing .bf16) := fun v12_r0 v14_r0 v16_r0 v18_r0 k0_hw2 k0_h116 => k0_hw2.2.2.2.2.2.2.1.2.2.2.2.2.2.2.2.2.2.2.2.2.2.1 k0_h116 (k0_off175_inb v12_r0 v14_r0 v16_r0 v18_r0 k0_hw2 k0_h116)
theorem k0_off174_wordsbf16 : ∀ (v12_r0 : BitVec 32) (v14_r0 : BitVec 32) (v16_r0 : BitVec 32) (v18_r0 : BitVec 32) (k0_hw2 : k0_chk2 v12_r0 v14_r0 v16_r0 v18_r0), ∀ (k0_h116 : k0_cond116 v12_r0 = 1#1), (Rect.unit (s := S2048x8x128) (k0_off174 v14_r0 v18_r0) S64x8x128.size (k0_off174_inb v12_r0 v14_r0 v16_r0 v18_r0 k0_hw2 k0_h116)).WholeWords (EltTy.packing .bf16) := fun v12_r0 v14_r0 v16_r0 v18_r0 k0_hw2 k0_h116 => k0_hw2.2.2.2.2.2.2.1.2.2.2.2.2.2.2.2.2.2.2.2.2.2.2.1 k0_h116 (k0_off174_inb v12_r0 v14_r0 v16_r0 v18_r0 k0_hw2 k0_h116)
theorem k0_off176_inb : ∀ (v12_r0 : BitVec 32) (v14_r0 : BitVec 32) (v16_r0 : BitVec 32) (v18_r0 : BitVec 32) (k0_hw2 : k0_chk2 v12_r0 v14_r0 v16_r0 v18_r0), ∀ (k0_h117 : k0_cond117 v12_r0 = 1#1), ∀ a, (k0_off176 v14_r0 v18_r0) a + S64x8x128.size a ≤ S2048x8x128.size a := fun v12_r0 v14_r0 v16_r0 v18_r0 k0_hw2 k0_h117 => k0_hw2.2.2.2.2.2.2.1.2.2.2.2.2.2.2.2.2.2.2.2.2.2.2.2.1 k0_h117
theorem k0_off177_inb : ∀ (v12_r0 : BitVec 32) (v14_r0 : BitVec 32) (v16_r0 : BitVec 32) (v18_r0 : BitVec 32) (k0_hw2 : k0_chk2 v12_r0 v14_r0 v16_r0 v18_r0), ∀ (k0_h117 : k0_cond117 v12_r0 = 1#1), ∀ a, (k0_off177 v16_r0 v18_r0) a + S64x8x128.size a ≤ S2048x8x128.size a := fun v12_r0 v14_r0 v16_r0 v18_r0 k0_hw2 k0_h117 => k0_hw2.2.2.2.2.2.2.1.2.2.2.2.2.2.2.2.2.2.2.2.2.2.2.2.2.1 k0_h117
theorem k0_off177_wordsbf16 : ∀ (v12_r0 : BitVec 32) (v14_r0 : BitVec 32) (v16_r0 : BitVec 32) (v18_r0 : BitVec 32) (k0_hw2 : k0_chk2 v12_r0 v14_r0 v16_r0 v18_r0), ∀ (k0_h117 : k0_cond117 v12_r0 = 1#1), (Rect.unit (s := S2048x8x128) (k0_off177 v16_r0 v18_r0) S64x8x128.size (k0_off177_inb v12_r0 v14_r0 v16_r0 v18_r0 k0_hw2 k0_h117)).WholeWords (EltTy.packing .bf16) := fun v12_r0 v14_r0 v16_r0 v18_r0 k0_hw2 k0_h117 => k0_hw2.2.2.2.2.2.2.1.2.2.2.2.2.2.2.2.2.2.2.2.2.2.2.2.2.2.1 k0_h117 (k0_off177_inb v12_r0 v14_r0 v16_r0 v18_r0 k0_hw2 k0_h117)
theorem k0_off176_wordsbf16 : ∀ (v12_r0 : BitVec 32) (v14_r0 : BitVec 32) (v16_r0 : BitVec 32) (v18_r0 : BitVec 32) (k0_hw2 : k0_chk2 v12_r0 v14_r0 v16_r0 v18_r0), ∀ (k0_h117 : k0_cond117 v12_r0 = 1#1), (Rect.unit (s := S2048x8x128) (k0_off176 v14_r0 v18_r0) S64x8x128.size (k0_off176_inb v12_r0 v14_r0 v16_r0 v18_r0 k0_hw2 k0_h117)).WholeWords (EltTy.packing .bf16) := fun v12_r0 v14_r0 v16_r0 v18_r0 k0_hw2 k0_h117 => k0_hw2.2.2.2.2.2.2.1.2.2.2.2.2.2.2.2.2.2.2.2.2.2.2.2.2.2.2.1 k0_h117 (k0_off176_inb v12_r0 v14_r0 v16_r0 v18_r0 k0_hw2 k0_h117)
theorem k0_off178_inb : ∀ (v12_r0 : BitVec 32) (v14_r0 : BitVec 32) (v16_r0 : BitVec 32) (v18_r0 : BitVec 32) (k0_hw2 : k0_chk2 v12_r0 v14_r0 v16_r0 v18_r0), ∀ (k0_h118 : k0_cond118 v12_r0 = 1#1), ∀ a, (k0_off178 v14_r0 v18_r0) a + S64x8x128.size a ≤ S2048x8x128.size a := fun v12_r0 v14_r0 v16_r0 v18_r0 k0_hw2 k0_h118 => k0_hw2.2.2.2.2.2.2.1.2.2.2.2.2.2.2.2.2.2.2.2.2.2.2.2.2.2.2.2.1 k0_h118
theorem k0_off179_inb : ∀ (v12_r0 : BitVec 32) (v14_r0 : BitVec 32) (v16_r0 : BitVec 32) (v18_r0 : BitVec 32) (k0_hw2 : k0_chk2 v12_r0 v14_r0 v16_r0 v18_r0), ∀ (k0_h118 : k0_cond118 v12_r0 = 1#1), ∀ a, (k0_off179 v16_r0 v18_r0) a + S64x8x128.size a ≤ S2048x8x128.size a := fun v12_r0 v14_r0 v16_r0 v18_r0 k0_hw2 k0_h118 => k0_hw2.2.2.2.2.2.2.1.2.2.2.2.2.2.2.2.2.2.2.2.2.2.2.2.2.2.2.2.2.1 k0_h118
theorem k0_off179_wordsbf16 : ∀ (v12_r0 : BitVec 32) (v14_r0 : BitVec 32) (v16_r0 : BitVec 32) (v18_r0 : BitVec 32) (k0_hw2 : k0_chk2 v12_r0 v14_r0 v16_r0 v18_r0), ∀ (k0_h118 : k0_cond118 v12_r0 = 1#1), (Rect.unit (s := S2048x8x128) (k0_off179 v16_r0 v18_r0) S64x8x128.size (k0_off179_inb v12_r0 v14_r0 v16_r0 v18_r0 k0_hw2 k0_h118)).WholeWords (EltTy.packing .bf16) := fun v12_r0 v14_r0 v16_r0 v18_r0 k0_hw2 k0_h118 => k0_hw2.2.2.2.2.2.2.1.2.2.2.2.2.2.2.2.2.2.2.2.2.2.2.2.2.2.2.2.2.2.1 k0_h118 (k0_off179_inb v12_r0 v14_r0 v16_r0 v18_r0 k0_hw2 k0_h118)
theorem k0_off178_wordsbf16 : ∀ (v12_r0 : BitVec 32) (v14_r0 : BitVec 32) (v16_r0 : BitVec 32) (v18_r0 : BitVec 32) (k0_hw2 : k0_chk2 v12_r0 v14_r0 v16_r0 v18_r0), ∀ (k0_h118 : k0_cond118 v12_r0 = 1#1), (Rect.unit (s := S2048x8x128) (k0_off178 v14_r0 v18_r0) S64x8x128.size (k0_off178_inb v12_r0 v14_r0 v16_r0 v18_r0 k0_hw2 k0_h118)).WholeWords (EltTy.packing .bf16) := fun v12_r0 v14_r0 v16_r0 v18_r0 k0_hw2 k0_h118 => k0_hw2.2.2.2.2.2.2.1.2.2.2.2.2.2.2.2.2.2.2.2.2.2.2.2.2.2.2.2.2.2.2.1 k0_h118 (k0_off178_inb v12_r0 v14_r0 v16_r0 v18_r0 k0_hw2 k0_h118)
theorem k0_off180_inb : ∀ (v12_r0 : BitVec 32) (v14_r0 : BitVec 32) (v16_r0 : BitVec 32) (v18_r0 : BitVec 32) (k0_hw2 : k0_chk2 v12_r0 v14_r0 v16_r0 v18_r0), ∀ (k0_h119 : k0_cond119 v12_r0 = 1#1), ∀ a, (k0_off180 v14_r0 v18_r0) a + S64x8x128.size a ≤ S2048x8x128.size a := fun v12_r0 v14_r0 v16_r0 v18_r0 k0_hw2 k0_h119 => k0_hw2.2.2.2.2.2.2.1.2.2.2.2.2.2.2.2.2.2.2.2.2.2.2.2.2.2.2.2.2.2.2.2.1 k0_h119
theorem k0_off181_inb : ∀ (v12_r0 : BitVec 32) (v14_r0 : BitVec 32) (v16_r0 : BitVec 32) (v18_r0 : BitVec 32) (k0_hw2 : k0_chk2 v12_r0 v14_r0 v16_r0 v18_r0), ∀ (k0_h119 : k0_cond119 v12_r0 = 1#1), ∀ a, (k0_off181 v16_r0 v18_r0) a + S64x8x128.size a ≤ S2048x8x128.size a := fun v12_r0 v14_r0 v16_r0 v18_r0 k0_hw2 k0_h119 => k0_hw2.2.2.2.2.2.2.1.2.2.2.2.2.2.2.2.2.2.2.2.2.2.2.2.2.2.2.2.2.2.2.2.2.1 k0_h119
theorem k0_off181_wordsbf16 : ∀ (v12_r0 : BitVec 32) (v14_r0 : BitVec 32) (v16_r0 : BitVec 32) (v18_r0 : BitVec 32) (k0_hw2 : k0_chk2 v12_r0 v14_r0 v16_r0 v18_r0), ∀ (k0_h119 : k0_cond119 v12_r0 = 1#1), (Rect.unit (s := S2048x8x128) (k0_off181 v16_r0 v18_r0) S64x8x128.size (k0_off181_inb v12_r0 v14_r0 v16_r0 v18_r0 k0_hw2 k0_h119)).WholeWords (EltTy.packing .bf16) := fun v12_r0 v14_r0 v16_r0 v18_r0 k0_hw2 k0_h119 => k0_hw2.2.2.2.2.2.2.1.2.2.2.2.2.2.2.2.2.2.2.2.2.2.2.2.2.2.2.2.2.2.2.2.2.2.1 k0_h119 (k0_off181_inb v12_r0 v14_r0 v16_r0 v18_r0 k0_hw2 k0_h119)
theorem k0_off180_wordsbf16 : ∀ (v12_r0 : BitVec 32) (v14_r0 : BitVec 32) (v16_r0 : BitVec 32) (v18_r0 : BitVec 32) (k0_hw2 : k0_chk2 v12_r0 v14_r0 v16_r0 v18_r0), ∀ (k0_h119 : k0_cond119 v12_r0 = 1#1), (Rect.unit (s := S2048x8x128) (k0_off180 v14_r0 v18_r0) S64x8x128.size (k0_off180_inb v12_r0 v14_r0 v16_r0 v18_r0 k0_hw2 k0_h119)).WholeWords (EltTy.packing .bf16) := fun v12_r0 v14_r0 v16_r0 v18_r0 k0_hw2 k0_h119 => k0_hw2.2.2.2.2.2.2.1.2.2.2.2.2.2.2.2.2.2.2.2.2.2.2.2.2.2.2.2.2.2.2.2.2.2.2.1 k0_h119 (k0_off180_inb v12_r0 v14_r0 v16_r0 v18_r0 k0_hw2 k0_h119)
theorem k0_off182_inb : ∀ (v12_r0 : BitVec 32) (v14_r0 : BitVec 32) (v16_r0 : BitVec 32) (v18_r0 : BitVec 32) (k0_hw2 : k0_chk2 v12_r0 v14_r0 v16_r0 v18_r0), ∀ (k0_h120 : k0_cond120 v12_r0 = 1#1), ∀ a, (k0_off182 v14_r0 v18_r0) a + S64x8x128.size a ≤ S2048x8x128.size a := fun v12_r0 v14_r0 v16_r0 v18_r0 k0_hw2 k0_h120 => k0_hw2.2.2.2.2.2.2.1.2.2.2.2.2.2.2.2.2.2.2.2.2.2.2.2.2.2.2.2.2.2.2.2.2.2.2.2.1 k0_h120
theorem k0_off183_inb : ∀ (v12_r0 : BitVec 32) (v14_r0 : BitVec 32) (v16_r0 : BitVec 32) (v18_r0 : BitVec 32) (k0_hw2 : k0_chk2 v12_r0 v14_r0 v16_r0 v18_r0), ∀ (k0_h120 : k0_cond120 v12_r0 = 1#1), ∀ a, (k0_off183 v16_r0 v18_r0) a + S64x8x128.size a ≤ S2048x8x128.size a := fun v12_r0 v14_r0 v16_r0 v18_r0 k0_hw2 k0_h120 => k0_hw2.2.2.2.2.2.2.1.2.2.2.2.2.2.2.2.2.2.2.2.2.2.2.2.2.2.2.2.2.2.2.2.2.2.2.2.2.1 k0_h120
theorem k0_off183_wordsbf16 : ∀ (v12_r0 : BitVec 32) (v14_r0 : BitVec 32) (v16_r0 : BitVec 32) (v18_r0 : BitVec 32) (k0_hw2 : k0_chk2 v12_r0 v14_r0 v16_r0 v18_r0), ∀ (k0_h120 : k0_cond120 v12_r0 = 1#1), (Rect.unit (s := S2048x8x128) (k0_off183 v16_r0 v18_r0) S64x8x128.size (k0_off183_inb v12_r0 v14_r0 v16_r0 v18_r0 k0_hw2 k0_h120)).WholeWords (EltTy.packing .bf16) := fun v12_r0 v14_r0 v16_r0 v18_r0 k0_hw2 k0_h120 => k0_hw2.2.2.2.2.2.2.1.2.2.2.2.2.2.2.2.2.2.2.2.2.2.2.2.2.2.2.2.2.2.2.2.2.2.2.2.2.2.1 k0_h120 (k0_off183_inb v12_r0 v14_r0 v16_r0 v18_r0 k0_hw2 k0_h120)
theorem k0_off182_wordsbf16 : ∀ (v12_r0 : BitVec 32) (v14_r0 : BitVec 32) (v16_r0 : BitVec 32) (v18_r0 : BitVec 32) (k0_hw2 : k0_chk2 v12_r0 v14_r0 v16_r0 v18_r0), ∀ (k0_h120 : k0_cond120 v12_r0 = 1#1), (Rect.unit (s := S2048x8x128) (k0_off182 v14_r0 v18_r0) S64x8x128.size (k0_off182_inb v12_r0 v14_r0 v16_r0 v18_r0 k0_hw2 k0_h120)).WholeWords (EltTy.packing .bf16) := fun v12_r0 v14_r0 v16_r0 v18_r0 k0_hw2 k0_h120 => k0_hw2.2.2.2.2.2.2.1.2.2.2.2.2.2.2.2.2.2.2.2.2.2.2.2.2.2.2.2.2.2.2.2.2.2.2.2.2.2.2 k0_h120 (k0_off182_inb v12_r0 v14_r0 v16_r0 v18_r0 k0_hw2 k0_h120)
theorem k0_off184_inb : ∀ (v12_r0 : BitVec 32) (v14_r0 : BitVec 32) (v16_r0 : BitVec 32) (v18_r0 : BitVec 32) (k0_hw2 : k0_chk2 v12_r0 v14_r0 v16_r0 v18_r0), ∀ (k0_h121 : k0_cond121 v12_r0 = 1#1), ∀ a, (k0_off184 v14_r0 v18_r0) a + S64x8x128.size a ≤ S2048x8x128.size a := fun v12_r0 v14_r0 v16_r0 v18_r0 k0_hw2 k0_h121 => k0_hw2.2.2.2.2.2.2.2.1 k0_h121
theorem k0_off185_inb : ∀ (v12_r0 : BitVec 32) (v14_r0 : BitVec 32) (v16_r0 : BitVec 32) (v18_r0 : BitVec 32) (k0_hw2 : k0_chk2 v12_r0 v14_r0 v16_r0 v18_r0), ∀ (k0_h121 : k0_cond121 v12_r0 = 1#1), ∀ a, (k0_off185 v16_r0 v18_r0) a + S64x8x128.size a ≤ S2048x8x128.size a := fun v12_r0 v14_r0 v16_r0 v18_r0 k0_hw2 k0_h121 => k0_hw2.2.2.2.2.2.2.2.2.1 k0_h121
theorem k0_off185_wordsbf16 : ∀ (v12_r0 : BitVec 32) (v14_r0 : BitVec 32) (v16_r0 : BitVec 32) (v18_r0 : BitVec 32) (k0_hw2 : k0_chk2 v12_r0 v14_r0 v16_r0 v18_r0), ∀ (k0_h121 : k0_cond121 v12_r0 = 1#1), (Rect.unit (s := S2048x8x128) (k0_off185 v16_r0 v18_r0) S64x8x128.size (k0_off185_inb v12_r0 v14_r0 v16_r0 v18_r0 k0_hw2 k0_h121)).WholeWords (EltTy.packing .bf16) := fun v12_r0 v14_r0 v16_r0 v18_r0 k0_hw2 k0_h121 => k0_hw2.2.2.2.2.2.2.2.2.2.1 k0_h121 (k0_off185_inb v12_r0 v14_r0 v16_r0 v18_r0 k0_hw2 k0_h121)
theorem k0_off184_wordsbf16 : ∀ (v12_r0 : BitVec 32) (v14_r0 : BitVec 32) (v16_r0 : BitVec 32) (v18_r0 : BitVec 32) (k0_hw2 : k0_chk2 v12_r0 v14_r0 v16_r0 v18_r0), ∀ (k0_h121 : k0_cond121 v12_r0 = 1#1), (Rect.unit (s := S2048x8x128) (k0_off184 v14_r0 v18_r0) S64x8x128.size (k0_off184_inb v12_r0 v14_r0 v16_r0 v18_r0 k0_hw2 k0_h121)).WholeWords (EltTy.packing .bf16) := fun v12_r0 v14_r0 v16_r0 v18_r0 k0_hw2 k0_h121 => k0_hw2.2.2.2.2.2.2.2.2.2.2.1 k0_h121 (k0_off184_inb v12_r0 v14_r0 v16_r0 v18_r0 k0_hw2 k0_h121)
theorem k0_off186_inb : ∀ (v12_r0 : BitVec 32) (v14_r0 : BitVec 32) (v16_r0 : BitVec 32) (v18_r0 : BitVec 32) (k0_hw2 : k0_chk2 v12_r0 v14_r0 v16_r0 v18_r0), ∀ (k0_h122 : k0_cond122 v12_r0 = 1#1), ∀ a, (k0_off186 v14_r0 v18_r0) a + S64x8x128.size a ≤ S2048x8x128.size a := fun v12_r0 v14_r0 v16_r0 v18_r0 k0_hw2 k0_h122 => k0_hw2.2.2.2.2.2.2.2.2.2.2.2.1 k0_h122
theorem k0_off187_inb : ∀ (v12_r0 : BitVec 32) (v14_r0 : BitVec 32) (v16_r0 : BitVec 32) (v18_r0 : BitVec 32) (k0_hw2 : k0_chk2 v12_r0 v14_r0 v16_r0 v18_r0), ∀ (k0_h122 : k0_cond122 v12_r0 = 1#1), ∀ a, (k0_off187 v16_r0 v18_r0) a + S64x8x128.size a ≤ S2048x8x128.size a := fun v12_r0 v14_r0 v16_r0 v18_r0 k0_hw2 k0_h122 => k0_hw2.2.2.2.2.2.2.2.2.2.2.2.2.1 k0_h122
theorem k0_off187_wordsbf16 : ∀ (v12_r0 : BitVec 32) (v14_r0 : BitVec 32) (v16_r0 : BitVec 32) (v18_r0 : BitVec 32) (k0_hw2 : k0_chk2 v12_r0 v14_r0 v16_r0 v18_r0), ∀ (k0_h122 : k0_cond122 v12_r0 = 1#1), (Rect.unit (s := S2048x8x128) (k0_off187 v16_r0 v18_r0) S64x8x128.size (k0_off187_inb v12_r0 v14_r0 v16_r0 v18_r0 k0_hw2 k0_h122)).WholeWords (EltTy.packing .bf16) := fun v12_r0 v14_r0 v16_r0 v18_r0 k0_hw2 k0_h122 => k0_hw2.2.2.2.2.2.2.2.2.2.2.2.2.2.1 k0_h122 (k0_off187_inb v12_r0 v14_r0 v16_r0 v18_r0 k0_hw2 k0_h122)
theorem k0_off186_wordsbf16 : ∀ (v12_r0 : BitVec 32) (v14_r0 : BitVec 32) (v16_r0 : BitVec 32) (v18_r0 : BitVec 32) (k0_hw2 : k0_chk2 v12_r0 v14_r0 v16_r0 v18_r0), ∀ (k0_h122 : k0_cond122 v12_r0 = 1#1), (Rect.unit (s := S2048x8x128) (k0_off186 v14_r0 v18_r0) S64x8x128.size (k0_off186_inb v12_r0 v14_r0 v16_r0 v18_r0 k0_hw2 k0_h122)).WholeWords (EltTy.packing .bf16) := fun v12_r0 v14_r0 v16_r0 v18_r0 k0_hw2 k0_h122 => k0_hw2.2.2.2.2.2.2.2.2.2.2.2.2.2.2.1 k0_h122 (k0_off186_inb v12_r0 v14_r0 v16_r0 v18_r0 k0_hw2 k0_h122)
theorem k0_off188_inb : ∀ (v12_r0 : BitVec 32) (v14_r0 : BitVec 32) (v16_r0 : BitVec 32) (v18_r0 : BitVec 32) (k0_hw2 : k0_chk2 v12_r0 v14_r0 v16_r0 v18_r0), ∀ (k0_h123 : k0_cond123 v12_r0 = 1#1), ∀ a, (k0_off188 v14_r0 v18_r0) a + S64x8x128.size a ≤ S2048x8x128.size a := fun v12_r0 v14_r0 v16_r0 v18_r0 k0_hw2 k0_h123 => k0_hw2.2.2.2.2.2.2.2.2.2.2.2.2.2.2.2.1 k0_h123
theorem k0_off189_inb : ∀ (v12_r0 : BitVec 32) (v14_r0 : BitVec 32) (v16_r0 : BitVec 32) (v18_r0 : BitVec 32) (k0_hw2 : k0_chk2 v12_r0 v14_r0 v16_r0 v18_r0), ∀ (k0_h123 : k0_cond123 v12_r0 = 1#1), ∀ a, (k0_off189 v16_r0 v18_r0) a + S64x8x128.size a ≤ S2048x8x128.size a := fun v12_r0 v14_r0 v16_r0 v18_r0 k0_hw2 k0_h123 => k0_hw2.2.2.2.2.2.2.2.2.2.2.2.2.2.2.2.2.1 k0_h123
theorem k0_off189_wordsbf16 : ∀ (v12_r0 : BitVec 32) (v14_r0 : BitVec 32) (v16_r0 : BitVec 32) (v18_r0 : BitVec 32) (k0_hw2 : k0_chk2 v12_r0 v14_r0 v16_r0 v18_r0), ∀ (k0_h123 : k0_cond123 v12_r0 = 1#1), (Rect.unit (s := S2048x8x128) (k0_off189 v16_r0 v18_r0) S64x8x128.size (k0_off189_inb v12_r0 v14_r0 v16_r0 v18_r0 k0_hw2 k0_h123)).WholeWords (EltTy.packing .bf16) := fun v12_r0 v14_r0 v16_r0 v18_r0 k0_hw2 k0_h123 => k0_hw2.2.2.2.2.2.2.2.2.2.2.2.2.2.2.2.2.2.1 k0_h123 (k0_off189_inb v12_r0 v14_r0 v16_r0 v18_r0 k0_hw2 k0_h123)
theorem k0_off188_wordsbf16 : ∀ (v12_r0 : BitVec 32) (v14_r0 : BitVec 32) (v16_r0 : BitVec 32) (v18_r0 : BitVec 32) (k0_hw2 : k0_chk2 v12_r0 v14_r0 v16_r0 v18_r0), ∀ (k0_h123 : k0_cond123 v12_r0 = 1#1), (Rect.unit (s := S2048x8x128) (k0_off188 v14_r0 v18_r0) S64x8x128.size (k0_off188_inb v12_r0 v14_r0 v16_r0 v18_r0 k0_hw2 k0_h123)).WholeWords (EltTy.packing .bf16) := fun v12_r0 v14_r0 v16_r0 v18_r0 k0_hw2 k0_h123 => k0_hw2.2.2.2.2.2.2.2.2.2.2.2.2.2.2.2.2.2.2.1 k0_h123 (k0_off188_inb v12_r0 v14_r0 v16_r0 v18_r0 k0_hw2 k0_h123)
theorem k0_off190_inb : ∀ (v12_r0 : BitVec 32) (v14_r0 : BitVec 32) (v16_r0 : BitVec 32) (v18_r0 : BitVec 32) (k0_hw2 : k0_chk2 v12_r0 v14_r0 v16_r0 v18_r0), ∀ (k0_h124 : k0_cond124 v12_r0 = 1#1), ∀ a, (k0_off190 v14_r0 v18_r0) a + S64x8x128.size a ≤ S2048x8x128.size a := fun v12_r0 v14_r0 v16_r0 v18_r0 k0_hw2 k0_h124 => k0_hw2.2.2.2.2.2.2.2.2.2.2.2.2.2.2.2.2.2.2.2.1 k0_h124
theorem k0_off191_inb : ∀ (v12_r0 : BitVec 32) (v14_r0 : BitVec 32) (v16_r0 : BitVec 32) (v18_r0 : BitVec 32) (k0_hw2 : k0_chk2 v12_r0 v14_r0 v16_r0 v18_r0), ∀ (k0_h124 : k0_cond124 v12_r0 = 1#1), ∀ a, (k0_off191 v16_r0 v18_r0) a + S64x8x128.size a ≤ S2048x8x128.size a := fun v12_r0 v14_r0 v16_r0 v18_r0 k0_hw2 k0_h124 => k0_hw2.2.2.2.2.2.2.2.2.2.2.2.2.2.2.2.2.2.2.2.2.1 k0_h124
theorem k0_off191_wordsbf16 : ∀ (v12_r0 : BitVec 32) (v14_r0 : BitVec 32) (v16_r0 : BitVec 32) (v18_r0 : BitVec 32) (k0_hw2 : k0_chk2 v12_r0 v14_r0 v16_r0 v18_r0), ∀ (k0_h124 : k0_cond124 v12_r0 = 1#1), (Rect.unit (s := S2048x8x128) (k0_off191 v16_r0 v18_r0) S64x8x128.size (k0_off191_inb v12_r0 v14_r0 v16_r0 v18_r0 k0_hw2 k0_h124)).WholeWords (EltTy.packing .bf16) := fun v12_r0 v14_r0 v16_r0 v18_r0 k0_hw2 k0_h124 => k0_hw2.2.2.2.2.2.2.2.2.2.2.2.2.2.2.2.2.2.2.2.2.2.1 k0_h124 (k0_off191_inb v12_r0 v14_r0 v16_r0 v18_r0 k0_hw2 k0_h124)
theorem k0_off190_wordsbf16 : ∀ (v12_r0 : BitVec 32) (v14_r0 : BitVec 32) (v16_r0 : BitVec 32) (v18_r0 : BitVec 32) (k0_hw2 : k0_chk2 v12_r0 v14_r0 v16_r0 v18_r0), ∀ (k0_h124 : k0_cond124 v12_r0 = 1#1), (Rect.unit (s := S2048x8x128) (k0_off190 v14_r0 v18_r0) S64x8x128.size (k0_off190_inb v12_r0 v14_r0 v16_r0 v18_r0 k0_hw2 k0_h124)).WholeWords (EltTy.packing .bf16) := fun v12_r0 v14_r0 v16_r0 v18_r0 k0_hw2 k0_h124 => k0_hw2.2.2.2.2.2.2.2.2.2.2.2.2.2.2.2.2.2.2.2.2.2.2.1 k0_h124 (k0_off190_inb v12_r0 v14_r0 v16_r0 v18_r0 k0_hw2 k0_h124)
theorem k0_off192_inb : ∀ (v12_r0 : BitVec 32) (v14_r0 : BitVec 32) (v16_r0 : BitVec 32) (v18_r0 : BitVec 32) (k0_hw2 : k0_chk2 v12_r0 v14_r0 v16_r0 v18_r0), ∀ (k0_h125 : k0_cond125 v12_r0 = 1#1), ∀ a, (k0_off192 v14_r0 v18_r0) a + S64x8x128.size a ≤ S2048x8x128.size a := fun v12_r0 v14_r0 v16_r0 v18_r0 k0_hw2 k0_h125 => k0_hw2.2.2.2.2.2.2.2.2.2.2.2.2.2.2.2.2.2.2.2.2.2.2.2.1 k0_h125
theorem k0_off193_inb : ∀ (v12_r0 : BitVec 32) (v14_r0 : BitVec 32) (v16_r0 : BitVec 32) (v18_r0 : BitVec 32) (k0_hw2 : k0_chk2 v12_r0 v14_r0 v16_r0 v18_r0), ∀ (k0_h125 : k0_cond125 v12_r0 = 1#1), ∀ a, (k0_off193 v16_r0 v18_r0) a + S64x8x128.size a ≤ S2048x8x128.size a := fun v12_r0 v14_r0 v16_r0 v18_r0 k0_hw2 k0_h125 => k0_hw2.2.2.2.2.2.2.2.2.2.2.2.2.2.2.2.2.2.2.2.2.2.2.2.2.1 k0_h125
theorem k0_off193_wordsbf16 : ∀ (v12_r0 : BitVec 32) (v14_r0 : BitVec 32) (v16_r0 : BitVec 32) (v18_r0 : BitVec 32) (k0_hw2 : k0_chk2 v12_r0 v14_r0 v16_r0 v18_r0), ∀ (k0_h125 : k0_cond125 v12_r0 = 1#1), (Rect.unit (s := S2048x8x128) (k0_off193 v16_r0 v18_r0) S64x8x128.size (k0_off193_inb v12_r0 v14_r0 v16_r0 v18_r0 k0_hw2 k0_h125)).WholeWords (EltTy.packing .bf16) := fun v12_r0 v14_r0 v16_r0 v18_r0 k0_hw2 k0_h125 => k0_hw2.2.2.2.2.2.2.2.2.2.2.2.2.2.2.2.2.2.2.2.2.2.2.2.2.2.1 k0_h125 (k0_off193_inb v12_r0 v14_r0 v16_r0 v18_r0 k0_hw2 k0_h125)
theorem k0_off192_wordsbf16 : ∀ (v12_r0 : BitVec 32) (v14_r0 : BitVec 32) (v16_r0 : BitVec 32) (v18_r0 : BitVec 32) (k0_hw2 : k0_chk2 v12_r0 v14_r0 v16_r0 v18_r0), ∀ (k0_h125 : k0_cond125 v12_r0 = 1#1), (Rect.unit (s := S2048x8x128) (k0_off192 v14_r0 v18_r0) S64x8x128.size (k0_off192_inb v12_r0 v14_r0 v16_r0 v18_r0 k0_hw2 k0_h125)).WholeWords (EltTy.packing .bf16) := fun v12_r0 v14_r0 v16_r0 v18_r0 k0_hw2 k0_h125 => k0_hw2.2.2.2.2.2.2.2.2.2.2.2.2.2.2.2.2.2.2.2.2.2.2.2.2.2.2.1 k0_h125 (k0_off192_inb v12_r0 v14_r0 v16_r0 v18_r0 k0_hw2 k0_h125)
theorem k0_off194_inb : ∀ (v12_r0 : BitVec 32) (v14_r0 : BitVec 32) (v16_r0 : BitVec 32) (v18_r0 : BitVec 32) (k0_hw2 : k0_chk2 v12_r0 v14_r0 v16_r0 v18_r0), ∀ (k0_h126 : k0_cond126 v12_r0 = 1#1), ∀ a, (k0_off194 v14_r0 v18_r0) a + S64x8x128.size a ≤ S2048x8x128.size a := fun v12_r0 v14_r0 v16_r0 v18_r0 k0_hw2 k0_h126 => k0_hw2.2.2.2.2.2.2.2.2.2.2.2.2.2.2.2.2.2.2.2.2.2.2.2.2.2.2.2.1 k0_h126
theorem k0_off195_inb : ∀ (v12_r0 : BitVec 32) (v14_r0 : BitVec 32) (v16_r0 : BitVec 32) (v18_r0 : BitVec 32) (k0_hw2 : k0_chk2 v12_r0 v14_r0 v16_r0 v18_r0), ∀ (k0_h126 : k0_cond126 v12_r0 = 1#1), ∀ a, (k0_off195 v16_r0 v18_r0) a + S64x8x128.size a ≤ S2048x8x128.size a := fun v12_r0 v14_r0 v16_r0 v18_r0 k0_hw2 k0_h126 => k0_hw2.2.2.2.2.2.2.2.2.2.2.2.2.2.2.2.2.2.2.2.2.2.2.2.2.2.2.2.2.1 k0_h126
theorem k0_off195_wordsbf16 : ∀ (v12_r0 : BitVec 32) (v14_r0 : BitVec 32) (v16_r0 : BitVec 32) (v18_r0 : BitVec 32) (k0_hw2 : k0_chk2 v12_r0 v14_r0 v16_r0 v18_r0), ∀ (k0_h126 : k0_cond126 v12_r0 = 1#1), (Rect.unit (s := S2048x8x128) (k0_off195 v16_r0 v18_r0) S64x8x128.size (k0_off195_inb v12_r0 v14_r0 v16_r0 v18_r0 k0_hw2 k0_h126)).WholeWords (EltTy.packing .bf16) := fun v12_r0 v14_r0 v16_r0 v18_r0 k0_hw2 k0_h126 => k0_hw2.2.2.2.2.2.2.2.2.2.2.2.2.2.2.2.2.2.2.2.2.2.2.2.2.2.2.2.2.2.1 k0_h126 (k0_off195_inb v12_r0 v14_r0 v16_r0 v18_r0 k0_hw2 k0_h126)
theorem k0_off194_wordsbf16 : ∀ (v12_r0 : BitVec 32) (v14_r0 : BitVec 32) (v16_r0 : BitVec 32) (v18_r0 : BitVec 32) (k0_hw2 : k0_chk2 v12_r0 v14_r0 v16_r0 v18_r0), ∀ (k0_h126 : k0_cond126 v12_r0 = 1#1), (Rect.unit (s := S2048x8x128) (k0_off194 v14_r0 v18_r0) S64x8x128.size (k0_off194_inb v12_r0 v14_r0 v16_r0 v18_r0 k0_hw2 k0_h126)).WholeWords (EltTy.packing .bf16) := fun v12_r0 v14_r0 v16_r0 v18_r0 k0_hw2 k0_h126 => k0_hw2.2.2.2.2.2.2.2.2.2.2.2.2.2.2.2.2.2.2.2.2.2.2.2.2.2.2.2.2.2.2.1 k0_h126 (k0_off194_inb v12_r0 v14_r0 v16_r0 v18_r0 k0_hw2 k0_h126)
theorem k0_off196_inb : ∀ (v12_r0 : BitVec 32) (v14_r0 : BitVec 32) (v16_r0 : BitVec 32) (v18_r0 : BitVec 32) (k0_hw2 : k0_chk2 v12_r0 v14_r0 v16_r0 v18_r0), ∀ (k0_h127 : k0_cond127 v12_r0 = 1#1), ∀ a, (k0_off196 v14_r0 v18_r0) a + S64x8x128.size a ≤ S2048x8x128.size a := fun v12_r0 v14_r0 v16_r0 v18_r0 k0_hw2 k0_h127 => k0_hw2.2.2.2.2.2.2.2.2.2.2.2.2.2.2.2.2.2.2.2.2.2.2.2.2.2.2.2.2.2.2.2.1 k0_h127
theorem k0_off197_inb : ∀ (v12_r0 : BitVec 32) (v14_r0 : BitVec 32) (v16_r0 : BitVec 32) (v18_r0 : BitVec 32) (k0_hw2 : k0_chk2 v12_r0 v14_r0 v16_r0 v18_r0), ∀ (k0_h127 : k0_cond127 v12_r0 = 1#1), ∀ a, (k0_off197 v16_r0 v18_r0) a + S64x8x128.size a ≤ S2048x8x128.size a := fun v12_r0 v14_r0 v16_r0 v18_r0 k0_hw2 k0_h127 => k0_hw2.2.2.2.2.2.2.2.2.2.2.2.2.2.2.2.2.2.2.2.2.2.2.2.2.2.2.2.2.2.2.2.2.1 k0_h127
theorem k0_off197_wordsbf16 : ∀ (v12_r0 : BitVec 32) (v14_r0 : BitVec 32) (v16_r0 : BitVec 32) (v18_r0 : BitVec 32) (k0_hw2 : k0_chk2 v12_r0 v14_r0 v16_r0 v18_r0), ∀ (k0_h127 : k0_cond127 v12_r0 = 1#1), (Rect.unit (s := S2048x8x128) (k0_off197 v16_r0 v18_r0) S64x8x128.size (k0_off197_inb v12_r0 v14_r0 v16_r0 v18_r0 k0_hw2 k0_h127)).WholeWords (EltTy.packing .bf16) := fun v12_r0 v14_r0 v16_r0 v18_r0 k0_hw2 k0_h127 => k0_hw2.2.2.2.2.2.2.2.2.2.2.2.2.2.2.2.2.2.2.2.2.2.2.2.2.2.2.2.2.2.2.2.2.2.1 k0_h127 (k0_off197_inb v12_r0 v14_r0 v16_r0 v18_r0 k0_hw2 k0_h127)
theorem k0_off196_wordsbf16 : ∀ (v12_r0 : BitVec 32) (v14_r0 : BitVec 32) (v16_r0 : BitVec 32) (v18_r0 : BitVec 32) (k0_hw2 : k0_chk2 v12_r0 v14_r0 v16_r0 v18_r0), ∀ (k0_h127 : k0_cond127 v12_r0 = 1#1), (Rect.unit (s := S2048x8x128) (k0_off196 v14_r0 v18_r0) S64x8x128.size (k0_off196_inb v12_r0 v14_r0 v16_r0 v18_r0 k0_hw2 k0_h127)).WholeWords (EltTy.packing .bf16) := fun v12_r0 v14_r0 v16_r0 v18_r0 k0_hw2 k0_h127 => k0_hw2.2.2.2.2.2.2.2.2.2.2.2.2.2.2.2.2.2.2.2.2.2.2.2.2.2.2.2.2.2.2.2.2.2.2.1 k0_h127 (k0_off196_inb v12_r0 v14_r0 v16_r0 v18_r0 k0_hw2 k0_h127)
theorem k0_off198_inb : ∀ (v12_r0 : BitVec 32) (v14_r0 : BitVec 32) (v16_r0 : BitVec 32) (v18_r0 : BitVec 32) (k0_hw2 : k0_chk2 v12_r0 v14_r0 v16_r0 v18_r0), ∀ (k0_h128 : k0_cond128 v12_r0 = 1#1), ∀ a, (k0_off198 v14_r0 v18_r0) a + S64x8x128.size a ≤ S2048x8x128.size a := fun v12_r0 v14_r0 v16_r0 v18_r0 k0_hw2 k0_h128 => k0_hw2.2.2.2.2.2.2.2.2.2.2.2.2.2.2.2.2.2.2.2.2.2.2.2.2.2.2.2.2.2.2.2.2.2.2.2.1 k0_h128
theorem k0_off199_inb : ∀ (v12_r0 : BitVec 32) (v14_r0 : BitVec 32) (v16_r0 : BitVec 32) (v18_r0 : BitVec 32) (k0_hw2 : k0_chk2 v12_r0 v14_r0 v16_r0 v18_r0), ∀ (k0_h128 : k0_cond128 v12_r0 = 1#1), ∀ a, (k0_off199 v16_r0 v18_r0) a + S64x8x128.size a ≤ S2048x8x128.size a := fun v12_r0 v14_r0 v16_r0 v18_r0 k0_hw2 k0_h128 => k0_hw2.2.2.2.2.2.2.2.2.2.2.2.2.2.2.2.2.2.2.2.2.2.2.2.2.2.2.2.2.2.2.2.2.2.2.2.2.1 k0_h128
theorem k0_off199_wordsbf16 : ∀ (v12_r0 : BitVec 32) (v14_r0 : BitVec 32) (v16_r0 : BitVec 32) (v18_r0 : BitVec 32) (k0_hw2 : k0_chk2 v12_r0 v14_r0 v16_r0 v18_r0), ∀ (k0_h128 : k0_cond128 v12_r0 = 1#1), (Rect.unit (s := S2048x8x128) (k0_off199 v16_r0 v18_r0) S64x8x128.size (k0_off199_inb v12_r0 v14_r0 v16_r0 v18_r0 k0_hw2 k0_h128)).WholeWords (EltTy.packing .bf16) := fun v12_r0 v14_r0 v16_r0 v18_r0 k0_hw2 k0_h128 => k0_hw2.2.2.2.2.2.2.2.2.2.2.2.2.2.2.2.2.2.2.2.2.2.2.2.2.2.2.2.2.2.2.2.2.2.2.2.2.2.1 k0_h128 (k0_off199_inb v12_r0 v14_r0 v16_r0 v18_r0 k0_hw2 k0_h128)
theorem k0_off198_wordsbf16 : ∀ (v12_r0 : BitVec 32) (v14_r0 : BitVec 32) (v16_r0 : BitVec 32) (v18_r0 : BitVec 32) (k0_hw2 : k0_chk2 v12_r0 v14_r0 v16_r0 v18_r0), ∀ (k0_h128 : k0_cond128 v12_r0 = 1#1), (Rect.unit (s := S2048x8x128) (k0_off198 v14_r0 v18_r0) S64x8x128.size (k0_off198_inb v12_r0 v14_r0 v16_r0 v18_r0 k0_hw2 k0_h128)).WholeWords (EltTy.packing .bf16) := fun v12_r0 v14_r0 v16_r0 v18_r0 k0_hw2 k0_h128 => k0_hw2.2.2.2.2.2.2.2.2.2.2.2.2.2.2.2.2.2.2.2.2.2.2.2.2.2.2.2.2.2.2.2.2.2.2.2.2.2.2 k0_h128 (k0_off198_inb v12_r0 v14_r0 v16_r0 v18_r0 k0_hw2 k0_h128)

abbrev stage0_0 : Fin 1 → Memref sig .tc .smem S2x7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x7 : Shape := ⟨2, ![2, 7]⟩
abbrev S4096x8x128 : Shape := ⟨3, ![4096, 8, 128]⟩
abbrev S1x1 : Shape := ⟨2, ![1, 1]⟩
abbrev S_ : Shape := ⟨0, ![]⟩
abbrev S1 : Shape := ⟨1, ![1]⟩
abbrev S2 : Shape := ⟨1, ![2]⟩
abbrev S4096 : Shape := ⟨1, ![4096]⟩
abbrev S2x2048 : Shape := ⟨2, ![2, 2048]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x7, .i32⟩
  | .hbm, ⟨1, _⟩ => ⟨S4096x8x128, .bf16⟩
  | .hbm, ⟨2, _⟩ => ⟨S1x1, .i32⟩
  | .hbm, ⟨3, _⟩ => ⟨S_, .i32⟩
  | .hbm, ⟨4, _⟩ => ⟨S1x1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S2, .i32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S_, .i1⟩
  | .hbm, ⟨26, _⟩ => ⟨S4096, .i1⟩
  | .hbm, ⟨27, _⟩ => ⟨S4096, .i1⟩
  | .hbm, ⟨28, _⟩ => ⟨S4096, .i1⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S2x2048, .i32⟩
  | .hbm, ⟨33, _⟩ => ⟨S4096, .i32⟩
  | .hbm, ⟨34, _⟩ => ⟨S4096, .i1⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x8x128, .bf16⟩
  | _, _ => ⟨S2x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call1_v0 : Ref sig .tc := ⟨.hbm, 36, rfl⟩
abbrev main_call1_v1_0 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩

abbrev nD : Nat := 1
abbrev τ : Topo := Topo.v7x

variable {F : FTy → Type} [FloatOps F]
-- ==== Proof.Shares.lean ====
/- A buffer's ownership dealt into 64 pieces of a share and gathered again, for 64 transfers that may
   read or write the same elements. -/
module

public import Idealize.ShloMosaic.Lib.WriteMode

@[expose] public section

noncomputable section

namespace Cert.Pieces

open Idealize.ShloMosaic Idealize.SL Idealize.SL.RA Idealize.SL.BI
open scoped Idealize.SL.BI
open Idealize.SL.BI.BIBase Idealize.SL.BI.Laws Idealize.SL.ProofMode Idealize.SL.Sem
open PCS URA Auth

/-- What is left of the full share after `n` pieces. -/
def rem : Nat → PosShare TreeShare
  | 0 => fullShare
  | n + 1 => (rem n).right

/-- Piece `n`: the left half of what was left. -/
def piece (n : Nat) : PosShare TreeShare := (rem n).left

theorem rem_mem (n : Nat) : rem n ∈ piece n ·? rem (n + 1) := PosShare.mem_left_op_right (rem n)

section Deal
variable {M : Type} [URA M]

/-- The indices from `n` on. -/
abbrev from_ (n : Nat) : Finset (Fin 32) := Finset.univ.filter fun j => n ≤ j.val

theorem from_zero : from_ 0 = Finset.univ := by ext; simp
theorem from_end : from_ 32 = ∅ := by
  ext j
  simp only [Finset.mem_filter, Finset.mem_univ, true_and, Finset.notMem_empty, iff_false]
  omega
theorem from_step (j : Fin 32) : from_ j.val = insert j (from_ (j.val + 1)) := by
  ext i
  simp only [Finset.mem_filter, Finset.mem_univ, true_and, Finset.mem_insert, Fin.ext_iff]
  omega
theorem from_notMem (j : Fin 32) : j ∉ from_ (j.val + 1) := by simp

/-- Thirty-two pieces off a remainder. -/
theorem deal (A B : Nat → sProp M) (h : ∀ n, A n ⊢ iprop(B n ∗ A (n + 1))) (o : Nat) :
    A o ⊢ iprop((bigSep Finset.univ fun j : Fin 32 => B (o + j.val)) ∗ A (o + 32)) := by
  have key : ∀ k : Nat, k ≤ 32 → A (o + (32 - k)) ⊢ iprop((bigSep (from_ (32 - k)) fun j : Fin 32 => B (o + j.val)) ∗ A (o + 32)) := by
    intro k
    induction k with
    | zero =>
      intro _
      show A (o + 32) ⊢ iprop((bigSep (from_ 32) fun j : Fin 32 => B (o + j.val)) ∗ A (o + 32))
      rw [from_end, bigSep_empty]; exact (emp_sep (PROP := sProp M)).2
    | succ k ih =>
      intro hk
      have hj : 32 - (k + 1) < 32 := by omega
      have e := from_step ⟨32 - (k + 1), hj⟩
      have e2 : 32 - (k + 1) + 1 = 32 - k := by omega
      simp only [] at e
      rw [e2] at e
      have hn := from_notMem ⟨32 - (k + 1), hj⟩
      simp only [] at hn
      rw [e2] at hn
      rw [e, bigSep_insert hn]
      have e3 : o + (32 - (k + 1)) + 1 = o + (32 - k) := by omega
      refine (h (o + (32 - (k + 1)))).trans ?_
      rw [e3]
      refine (sep_mono_right (ih (by omega))).trans ?_
      exact sep_assoc.2
  have := key 32 (le_refl _)
  simpa only [Nat.sub_self, Nat.add_zero, from_zero] using this

/-- Thirty-two pieces gathered into a remainder, each bringing what it has marked. -/
theorem gather {X : Type} [DecidableEq X] (A B : Nat → Finset X → sProp M)
    (h : ∀ n V V', iprop(B n V ∗ A (n + 1) V') ⊢ A n (V ∪ V')) (o : Nat) (W : Fin 32 → Finset X) (V : Finset X) :
    iprop((bigSep Finset.univ fun j : Fin 32 => B (o + j.val) (W j)) ∗ A (o + 32) V) ⊢ A o (Finset.univ.biUnion W ∪ V) := by
  have key : ∀ k : Nat, k ≤ 32 → iprop((bigSep (from_ (32 - k)) fun j : Fin 32 => B (o + j.val) (W j)) ∗ A (o + 32) V)
      ⊢ A (o + (32 - k)) ((from_ (32 - k)).biUnion W ∪ V) := by
    intro k
    induction k with
    | zero =>
      intro _
      show iprop((bigSep (from_ 32) fun j : Fin 32 => B (o + j.val) (W j)) ∗ A (o + 32) V) ⊢ A (o + 32) ((from_ 32).biUnion W ∪ V)
      rw [from_end, bigSep_empty, Finset.biUnion_empty, Finset.empty_union]; exact (emp_sep (PROP := sProp M)).1
    | succ k ih =>
      intro hk
      have hj : 32 - (k + 1) < 32 := by omega
      have e := from_step ⟨32 - (k + 1), hj⟩
      have e2 : 32 - (k + 1) + 1 = 32 - k := by omega
      simp only [] at e
      rw [e2] at e
      have hn := from_notMem ⟨32 - (k + 1), hj⟩
      simp only [] at hn
      rw [e2] at hn
      rw [e, bigSep_insert hn, Finset.biUnion_insert, Finset.union_assoc]
      have e3 : o + (32 - (k + 1)) + 1 = o + (32 - k) := by omega
      refine sep_assoc.1.trans ((sep_mono_right (ih (by omega))).trans ?_)
      have := h (o + (32 - (k + 1))) (W ⟨32 - (k + 1), hj⟩) ((from_ (32 - k)).biUnion W ∪ V)
      rw [e3] at this
      exact this
  have := key 32 (le_refl _)
  simpa only [Nat.sub_self, Nat.add_zero, from_zero] using this

end Deal

section Buf
variable {nD : Nat} {τ : Topo} {sig : RefSig} {Ix : Type} [DecidableEq Ix] {Val : EltTy → Type} {Name : Type} [DecidableEq Name]
variable {U : Type} [URA U] {Lvl : Type} [Preorder Lvl] {emb : UEmb (WmRA nD τ sig Val) U}

local notation "𝕄" => MT nD τ sig Ix Val Name U Lvl

variable {ℓ : Loc nD τ sig}

/-- A remainder of a whole buffer is a piece and a smaller remainder. -/
theorem pts_deal (f : Buf Val ℓ) (n : Nat) :
    (ℓ ↦[Finset.univ]{rem n} f : sProp 𝕄) ⊢ iprop((ℓ ↦[Finset.univ]{piece n} f) ∗ (ℓ ↦[Finset.univ]{rem (n + 1)} f)) :=
  (pointsTo_share (rem_mem n)).1

/-- Sixty-four pieces of a whole buffer and what is left. -/
theorem pts_split (f : Buf Val ℓ) :
    (ℓ ↦[Finset.univ]{fullShare} f : sProp 𝕄)
      ⊢ iprop((bigSep Finset.univ fun j : Fin 32 => (ℓ ↦[Finset.univ]{piece j.val} f))
        ∗ (bigSep Finset.univ fun j : Fin 32 => (ℓ ↦[Finset.univ]{piece (32 + j.val)} f)) ∗ (ℓ ↦[Finset.univ]{rem 64} f)) := by
  have h := deal (M := 𝕄) (fun n => (ℓ ↦[Finset.univ]{rem n} f)) (fun n => (ℓ ↦[Finset.univ]{piece n} f)) (pts_deal f)
  have h0 := h 0
  simp only [Nat.zero_add] at h0
  exact h0.trans (sep_mono_right (h 32))

/-- The pieces of a whole buffer gathered. -/
theorem pts_gather (f : Buf Val ℓ) :
    (iprop((bigSep Finset.univ fun j : Fin 32 => (ℓ ↦[Finset.univ]{piece j.val} f))
        ∗ (bigSep Finset.univ fun j : Fin 32 => (ℓ ↦[Finset.univ]{piece (32 + j.val)} f)) ∗ (ℓ ↦[Finset.univ]{rem 64} f)) : sProp 𝕄)
      ⊢ (ℓ ↦[Finset.univ]{fullShare} f) := by
  have h := gather (M := 𝕄) (X := Fin 1) (fun n _ => (ℓ ↦[Finset.univ]{rem n} f)) (fun n _ => (ℓ ↦[Finset.univ]{piece n} f))
    (fun n _ _ => (pointsTo_share (rem_mem n)).2)
  have h0 := h 0 (fun _ => ∅) ∅
  simp only [Nat.zero_add] at h0
  exact (sep_mono_right (h 32 (fun _ => ∅) ∅)).trans h0

variable (emb) in
/-- A share of a whole buffer in write mode, whatever it held before. -/
def wb (ℓ : Loc nD τ sig) (q : PosShare TreeShare) (g : Tgt Val ℓ) (W : Finset (Idx ℓ)) : sProp 𝕄 :=
  iprop(∃ f, willBeTo emb ℓ Finset.univ q f g W)

instance wb_storable (q : PosShare TreeShare) (g : Tgt Val ℓ) (W : Finset (Idx ℓ)) :
    Storable (upEmb : UEmb _ 𝕄) (wb emb ℓ q g W : sProp 𝕄) := by unfold wb; infer_instance

theorem wb_split {q q₁ q₂ : PosShare TreeShare} (h : q ∈ q₁ ·? q₂) (f : Buf Val ℓ) (g : Tgt Val ℓ) (W W' : Finset (Idx ℓ)) :
    (willBeTo emb ℓ Finset.univ q f g (W ∪ W') : sProp 𝕄)
      ⊣⊢ iprop(willBeTo emb ℓ Finset.univ q₁ f g W ∗ willBeTo emb ℓ Finset.univ q₂ f g W') :=
  BI.Region.held_share h fun i _ => by
    simp only [Finset.mem_union, Bool.decide_or]; exact Region.WB.mem_mk_op_mk _ _ _ _

theorem wb_deal (g : Tgt Val ℓ) (n : Nat) :
    (wb emb ℓ (rem n) g ∅ : sProp 𝕄) ⊢ iprop(wb emb ℓ (piece n) g ∅ ∗ wb emb ℓ (rem (n + 1)) g ∅) := by
  unfold wb
  iintro ⟨%f, H⟩
  have h := (wb_split (emb := emb) (Ix := Ix) (Name := Name) (Lvl := Lvl) (rem_mem n) f g ∅ ∅).1
  rw [Finset.union_empty] at h
  ihave H2 := h $$ H
  icases H2 with ⟨H1, H2⟩
  isplitl [H1]
  · iexists f; iexact H1
  · iexists f; iexact H2

theorem wb_join {q q₁ q₂ : PosShare TreeShare} (h : q ∈ q₁ ·? q₂) (g : Tgt Val ℓ) (W W' : Finset (Idx ℓ)) :
    (iprop(wb emb ℓ q₁ g W ∗ wb emb ℓ q₂ g W') : sProp 𝕄) ⊢ wb emb ℓ q g (W ∪ W') := by
  unfold wb
  iintro ⟨⟨%f, H1⟩, ⟨%f', H2⟩⟩
  icombine H1 H2 as H
  ihave %hag := BI.Region.willBe_agree $$ H
  icases H with ⟨H1, H2⟩
  have hf : f = f' := funext fun i => (hag i (Finset.mem_inter.mpr ⟨Finset.mem_univ _, Finset.mem_univ _⟩)).1.1
  subst hf
  iexists f
  iapply (wb_split (emb := emb) (Ix := Ix) (Name := Name) (Lvl := Lvl) h f g W W').2
  isplitl [H1] <;> iassumption

theorem wbs_split (g : Tgt Val ℓ) :
    (wb emb ℓ fullShare g ∅ : sProp 𝕄)
      ⊢ iprop((bigSep Finset.univ fun j : Fin 32 => wb emb ℓ (piece j.val) g ∅)
        ∗ (bigSep Finset.univ fun j : Fin 32 => wb emb ℓ (piece (32 + j.val)) g ∅) ∗ wb emb ℓ (rem 64) g ∅) := by
  have h := deal (M := 𝕄) (fun n => wb emb ℓ (rem n) g ∅) (fun n => wb emb ℓ (piece n) g ∅) (wb_deal g)
  have h0 := h 0
  simp only [Nat.zero_add] at h0
  exact h0.trans (sep_mono_right (h 32))

theorem wbs_gather (g : Tgt Val ℓ) (W W' : Fin 32 → Finset (Idx ℓ)) :
    (iprop((bigSep Finset.univ fun j : Fin 32 => wb emb ℓ (piece j.val) g (W j))
        ∗ (bigSep Finset.univ fun j : Fin 32 => wb emb ℓ (piece (32 + j.val)) g (W' j)) ∗ wb emb ℓ (rem 64) g ∅) : sProp 𝕄)
      ⊢ wb emb ℓ fullShare g (Finset.univ.biUnion W ∪ (Finset.univ.biUnion W' ∪ ∅)) := by
  have h := gather (M := 𝕄) (fun n V => wb emb ℓ (rem n) g V) (fun n V => wb emb ℓ (piece n) g V)
    (fun n V V' => wb_join (rem_mem n) g V V')
  have h0 := h 0 W (Finset.univ.biUnion W' ∪ ∅)
  simp only [Nat.zero_add] at h0
  exact (sep_mono_right (h 32 W' ∅)).trans h0

end Buf

end Cert.Pieces
end
-- ==== Proof.Words.lean ====
/- The precondition read back: the table's fourteen words, in terms of the boundary and of the chunks that
   stay, and the bounds these two words satisfy. -/
module

public import proofs.«01_k».proof.Pre_even_Kernel
public import proofs.«01_k».proof.Proof.Gen.Pre_even_Kernel
public import Idealize.ShloMosaic.Lib.ReduceAll
public import Idealize.ShloMosaic.Lib.WordCmp
public import Idealize.ShloMosaic.Lib.PointwiseCore

@[expose] public section

noncomputable section

namespace Cert.Table

open Idealize.ShloMosaic Cert.Pre_even_Kernel Cert.Pre_even_Kernel.Facts

/-- A table: a row of seven words per rank. -/
abbrev T : Shape := ⟨2, ![2, 7]⟩

/-- The rows of the table for boundary `K` and `q` chunks that stay. -/
def row (K q : BitVec 32) (r : Fin 2) : Fin 7 → BitVec 32 :=
  if r = 0 then ![16#32, 2048#32 - K, 0#32, K, 0#32, 2048#32 - K, q] else ![16#32, 0#32, 2048#32 - K, K, K, 2048#32 - K, q]

/-- What the precondition says of a table: its rows are those of a boundary `K` that sixteen chunks reach, and
    enough chunks to reach what stays. -/
structure Good (t : T.Idx → BitVec 32) (K q : BitVec 32) : Prop where
  words : ∀ r k, t (ix2 r k) = row K q r k
  lo : 961 ≤ K.toNat
  hi : K.toNat ≤ 1024
  reach : 2048 - K.toNat ≤ 64 * q.toNat
  near : 64 * q.toNat < 2048 - K.toNat + 64

theorem andi_at {s : Shape} (x y : IVec s 1) (i : s.Idx) : andi x y i = 1#1 ↔ x i = 1#1 ∧ y i = 1#1 := by
  show IntOp.andi (x i) (y i) = 1#1 ↔ _
  generalize x i = a; generalize y i = b; revert a b; decide

variable {F : FTy → Type} [FloatOps F]

theorem row_of (t : IVec S2x7 32) (r : Fin 2) (off : Fin 2 → Nat) (ho : off = ![r.val, 0]) (hs : S2x7.Slices off S1x7) (hc : S1x7.ShapeCasts S7)
    (w : IVec S7 32) (hr : S7.ReducesTo [0] S_) (hp : 0 < S_.numel) (i : S_.Idx)
    (h : Host.reduce IntOp.andi (cmpi .eq (shapeCast S7 (extractStridedSlice S1x7 off t hs) hc) w) (constantI S_ 1 1#1) hr hp i = 1#1) (k : Fin 7) :
    t (ix2 r k) = w (ix1 k) := by
  have : Subsingleton S_.Idx := ⟨fun a b => funext fun x => x.elim0⟩
  have h1 := Host.reduce_andi_all _ _ hr hp i h (ix1 k)
  have h2 : shapeCast S7 (extractStridedSlice S1x7 off t hs) hc (ix1 k) = w (ix1 k) := by
    have : IntOp.cmpi .eq (shapeCast S7 (extractStridedSlice S1x7 off t hs) hc (ix1 k)) (w (ix1 k)) = 1#1 := h1
    rw [WordCmp.cmpi_eq_eq, WordCmp.ofBool_decide_eq_one_iff] at this
    exact this
  rw [← h2]
  subst ho
  pointwise

theorem seven (p0 p1 p2 p3 p4 p5 p6 : IVec S1 32) (h) (k : Fin 7) :
    concatenate S7 0 [⟨S1, p0⟩, ⟨S1, p1⟩, ⟨S1, p2⟩, ⟨S1, p3⟩, ⟨S1, p4⟩, ⟨S1, p5⟩, ⟨S1, p6⟩] h (ix1 k)
      = (![p0 (ix1 0), p1 (ix1 0), p2 (ix1 0), p3 (ix1 0), p4 (ix1 0), p5 (ix1 0), p6 (ix1 0)] : Fin 7 → BitVec 32) k := by
  fin_cases k <;> pointwise <;> rfl

theorem bounds (K q : BitVec 32)
    (h : ((K.toInt ≤ (1024#32).toInt ∧ (1024#32).toInt < (K + 64#32).toInt) ∧
      ((((0#32).toInt ≤ q.toInt ∧ q.toInt ≤ (32#32).toInt) ∧ (2048#32 - K).toInt ≤ (q * 64#32).toInt) ∧
        (q * 64#32).toInt < (2048#32 - K + 64#32).toInt))) :
    961 ≤ K.toNat ∧ K.toNat ≤ 1024 ∧ 2048 - K.toNat ≤ 64 * q.toNat ∧ 64 * q.toNat < 2048 - K.toNat + 64 := by
  have := K.isLt
  have := q.isLt
  simp only [BitVec.toInt_eq_toNat_cond, BitVec.toNat_add, BitVec.toNat_sub, BitVec.toNat_mul, BitVec.toNat_ofNat] at h
  omega

theorem good_of {t : IVec S2x7 32} {s : FVec F S2048x8x128 .bf16} (h : fn (F := F) t s = fun _ => 1#1) :
    Good t (t (ix2 0 3)) (t (ix2 0 6)) := by
  have h0 := congrFun h (fun a => a.elim0)
  simp only [fn, fn_part1, fn_part2, andi_at] at h0
  obtain ⟨⟨⟨hr0, hr1⟩, hK⟩, hq⟩ := h0
  have r0 := row_of t 0 _ rfl _ _ _ _ _ _ hr0
  have r1 := row_of t 1 _ rfl _ _ _ _ _ _ hr1
  have eK : shapeCast S_ (extractStridedSlice S1x1 ![0, 3] t slices_S2x7_S1x1_0_3) shapeCasts_S1x1_S_ = fun _ => t (ix2 0 3) := by
    funext j; pointwise
  have eq : shapeCast S_ (extractStridedSlice S1x1 ![0, 6] t slices_S2x7_S1x1_0_6) shapeCasts_S1x1_S_ = fun _ => t (ix2 0 6) := by
    funext j; pointwise
  rw [eK] at r0 r1 hK hq
  rw [eq] at r0 r1 hq
  have hb := bounds (t (ix2 0 3)) (t (ix2 0 6)) (by
    simp only [cmpi, constantI, addi, subi, muli, WordCmp.cmpi_sle_eq, WordCmp.cmpi_sgt_eq, WordCmp.cmpi_sge_eq, WordCmp.cmpi_slt_eq, WordCmp.ofBool_decide_eq_one_iff] at hK hq
    exact ⟨hK, hq⟩)
  refine ⟨fun r k => ?_, hb.1, hb.2.1, hb.2.2.1, hb.2.2.2⟩
  fin_cases r
  · exact (r0 k).trans (seven _ _ _ _ _ _ _ _ k)
  · exact (r1 k).trans (seven _ _ _ _ _ _ _ _ k)

end Cert.Table
end
-- ==== Proof.Rows.lean ====
/- The rows the chunks of a run touch, as numbers, and where each row of a device's result comes from. -/
module

public import proofs.«01_k».proof.Proof.Words
public import Idealize.ShloMosaic.Lib.Affine
public import Idealize.ShloMosaic.Lib.WordCmp

@[expose] public section

namespace Cert.Table

open Idealize.ShloMosaic

/-! ## Chunks -/

/-- The first row of chunk `j` of a run of `b` rows from row `a`. -/
def firstRow (j : Nat) (a b : BitVec 32) : Nat :=
  (Scalar.addi a (Scalar.maxsi (Scalar.minsi (BitVec.ofNat 32 (64 * j)) (Scalar.subi b 64#32)) 0#32)).toNat

/-- Whether chunk `j` of a run of `n` is one of the run. -/
def live (j : Nat) (n : BitVec 32) : BitVec 1 :=
  Scalar.cmpi .ne (Scalar.extui (Scalar.cmpi .sgt n (BitVec.ofNat 32 j))) 0#32

theorem firstRow_eq {j : Nat} (hj : j < 32) {a b : BitVec 32} (ha : a.toNat ≤ 2048) (hb : 64 ≤ b.toNat) (hb' : b.toNat ≤ 2048) :
    firstRow j a b = a.toNat + min (64 * j) (b.toNat - 64) := by
  have e1 : (Scalar.subi b 64#32).toNat = b.toNat - 64 := by
    show (b - 64#32).toNat = _
    rw [BitVec.toNat_sub, BitVec.toNat_ofNat]; omega
  have e2 : (BitVec.ofNat 32 (64 * j)).toNat = 64 * j := by rw [BitVec.toNat_ofNat]; omega
  have e3 : (Scalar.minsi (BitVec.ofNat 32 (64 * j)) (Scalar.subi b 64#32)).toNat = min (64 * j) (b.toNat - 64) := by
    rw [Scalar.minsi, IntOp.minsi]
    have : (BitVec.ofNat 32 (64 * j)).slt (Scalar.subi b 64#32) = decide (64 * j < b.toNat - 64) := by
      rw [BitVec.slt, WordCmp.toInt_eq_toNat_of_lt_half (by rw [e2]; omega), WordCmp.toInt_eq_toNat_of_lt_half (by rw [e1]; omega), e1, e2]
      exact decide_eq_decide.mpr (by omega)
    rw [this]
    by_cases h : 64 * j < b.toNat - 64
    · rw [if_pos (decide_eq_true h), e2]; omega
    · rw [if_neg (by simpa using h), e1]; omega
  have e4 := Scalar.maxsi_zero_of_nonneg (v := Scalar.minsi (BitVec.ofNat 32 (64 * j)) (Scalar.subi b 64#32)) (by rw [e3]; omega)
  unfold firstRow
  rw [e4]
  show (a + _).toNat = _
  rw [BitVec.toNat_add, e3]; omega

theorem live_iff {j : Nat} (hj : j < 32) {n : BitVec 32} (hn : n.toNat ≤ 2048) : live j n = 1#1 ↔ j < n.toNat := by
  have e : IntOp.cmpi .sgt n (BitVec.ofNat 32 j) = BitVec.ofBool (decide (j < n.toNat)) := by
    rw [WordCmp.cmpi_sgt_eq, WordCmp.toInt_eq_toNat_of_lt_half (x := n) (by omega), WordCmp.toInt_ofNat_of_lt (w := 32) (a := j) (by omega)]
    congr 1
    exact decide_eq_decide.mpr (by omega)
  unfold live
  show IntOp.cmpi .ne ((IntOp.cmpi .sgt n (BitVec.ofNat 32 j)).setWidth 32) 0#32 = 1#1 ↔ _
  rw [e]
  by_cases h : j < n.toNat
  · rw [decide_eq_true h]; exact ⟨fun _ => h, fun _ => by decide⟩
  · rw [decide_eq_false h]; exact ⟨fun h' => absurd h' (by decide), fun h' => absurd h' h⟩

/-- Every row of a run that its chunks reach lies in one of them. -/
theorem covered {a b n : BitVec 32} (ha : a.toNat ≤ 2048) (hb : 64 ≤ b.toNat) (hb' : b.toNat ≤ 2048) (hn : n.toNat ≤ 2048)
    (hr : b.toNat ≤ 64 * n.toNat) {r : Nat} (h0 : a.toNat ≤ r) (h1 : r < a.toNat + b.toNat) :
    ∃ j : Fin 32, live j n = 1#1 ∧ firstRow j a b ≤ r ∧ r < firstRow j a b + 64 := by
  have hj : (r - a.toNat) / 64 < 32 := by omega
  refine ⟨⟨(r - a.toNat) / 64, hj⟩, (live_iff hj hn).mpr (by omega), ?_⟩
  rw [firstRow_eq hj ha hb hb']
  omega

/-! ## Rows -/

/-- Whether row `r` of the result of rank `y` is one that did not move. -/
def Own (K : Nat) (y : Fin 2) (r : Nat) : Prop := if y = 0 then r < 2048 - K else K ≤ r

instance (K : Nat) (y : Fin 2) (r : Nat) : Decidable (Own K y r) := by unfold Own; infer_instance

/-- Which row it was where it came from. -/
def old (K : Nat) (y : Fin 2) (r : Nat) : Nat :=
  if Own K y r then r else if y = 0 then r - (2048 - K) else r + (2048 - K)

end Cert.Table
-- ==== Proof.Sections.lean ====
/- The kernel body as four runs of one section each: the 128 guarded sections the program prints
   are the values of four functions of the chunk number. -/
module

public import proofs.«01_k».proof.Proof.Gen.KernelIdeal.Skeleton

@[expose] public section

noncomputable section

namespace Cert.KernelIdeal.Move

open Idealize.ShloMosaic Idealize.SL.Sem Cert.KernelIdeal.Gen

variable {F : FTy → Type} [FloatOps F]

/-- The programs a core of this kernel runs. -/
abbrev KProg (F : FTy → Type) (α : Type) := Prog (TpuEff nD τ sig (Elt F) Λ₀ .tc) α

/-- Where chunk `j` begins: `a` plus `64 * j`, pulled back so that the chunk ends inside `b` rows. -/
def off3 (j : Nat) (a b : BitVec 32) : Fin 3 → Nat :=
  ![(Scalar.addi a (Scalar.maxsi (Scalar.minsi (BitVec.ofNat 32 (64 * j)) (Scalar.subi b 64#32)) 0#32)).toNat, 0, 0]

/-- The guard of section `j` of a run of `n` chunks. -/
def gd (j : Nat) (n : BitVec 32) : BitVec 1 :=
  Scalar.cmpi .ne (Scalar.extui (Scalar.cmpi .sgt n (BitVec.ofNat 32 j))) 0#32

/-- A chunk at the offsets `off` lies inside the block of 2048 rows. -/
abbrev Inb (off : Fin 3 → Nat) : Prop := ∀ i, off i + S64x8x128.size i ≤ S2048x8x128.size i

/-- Every chunk a run of `n` sections touches lies inside the block. -/
def Fits (a b n : BitVec 32) : Prop := ∀ j : Fin 32, gd j n = 1#1 → Inb (off3 j a b)

theorem Fits.at {a b n : BitVec 32} (hf : Fits a b n) {j : Nat} (h : gd j n = 1#1) (hj : j < 32) : Inb (off3 j a b) :=
  hf ⟨j, hj⟩ h

/-- A chunk is made of whole words: the last two axes are taken whole. -/
theorem words (off : Fin 3 → Nat) (h1 : off 1 = 0) (h : Inb off) :
    (Rect.unit (s := S2048x8x128) off S64x8x128.size h).WholeWords (EltTy.packing .bf16) :=
  .inr ⟨by decide, rfl, h1, rfl⟩

/-- Chunk at `off` of a memref of 2048 rows. -/
abbrev chunk (a1 : Memref sig .tc .vmem S2048x8x128 .bf16) (off : Fin 3 → Nat) (h : Inb off) :
    Memref sig .tc .vmem S64x8x128 .bf16 :=
  a1.slice (Rect.unit (s := S2048x8x128) off S64x8x128.size h) (fun _ => rfl)

theorem inb32 (j : Fin 32) : ∀ a, (![j.val] : Fin 1 → Nat) a + S1.size a ≤ S32.size a := by
  revert j; decide

/-- Semaphore `j` of an array of 32. -/
abbrev semAt (a : DmaSems sig S32) (j : Fin 32) : DmaSem sig :=
  ((a.slice (Rect.unit (s := S32) ![j.val] S1.size (inb32 j))).squeeze S_ squeezes_S1_S_).sem

/-- Run `f` over `n` chunks from `a`, then go on as `k`. -/
def chunksK {α : Type} (f : Fin 32 → KProg F α → KProg F α) : (a n : Nat) → a + n ≤ 32 → KProg F α → KProg F α
  | _, 0, _, k => k
  | a, n + 1, h, k => f ⟨a, by omega⟩ (chunksK f (a + 1) n (by omega) k)

/-- Going on after a run. -/
theorem chunksK_bind {α β : Type} (f : Fin 32 → KProg F α → KProg F α) (f' : Fin 32 → KProg F β → KProg F β)
    (g : α → KProg F β) (hb : ∀ j k, (f j k >>= g) = f' j (k >>= g)) :
    ∀ (n a : Nat) (h : a + n ≤ 32) (k : KProg F α), (chunksK f a n h k >>= g) = chunksK f' a n h (k >>= g)
  | 0, _, _, _ => rfl
  | n + 1, a, h, k => by rw [chunksK, chunksK, hb, chunksK_bind f f' g hb n]

variable (arg1 : Memref sig .tc .vmem S2048x8x128 .bf16) (harg1 : arg1.IsWhole)
  (arg2 : Memref sig .tc .vmem S2048x8x128 .bf16) (harg2 : arg2.IsWhole)
  (arg3 arg4 arg5 : DmaSems sig S32)

/-- The device across the second axis. -/
abbrev nbr (d : Dev nD) : Dev nD := ⟨k0_dev1 d, k0_dev1_lt d⟩

/-- Start the local copy of chunk `j`. -/
def secL {α : Type} (a b n : BitVec 32) (hf : Fits a b n) (j : Fin 32) (k : KProg F α) : KProg F α :=
  if h : gd j n = 1#1 then
    .op (.enqueueDma (chunk arg1 (off3 j a b) (hf j h)) (.here (chunk arg2 (off3 j a b) (hf j h))) (.dma (semAt arg5 j)) (harg1.wordExact_slice rfl _ (words _ rfl (hf j h))) (harg2.wordExact_slice rfl _ (words _ rfl (hf j h))) ⟨Or.inl rfl, trivial⟩) fun _ => k
  else k

theorem secL_bind {α β : Type} (a b n : BitVec 32) (hf : Fits a b n) (j : Fin 32) (k : KProg F α) (g : α → KProg F β) :
    (secL arg1 harg1 arg2 harg2 arg5 a b n hf j k >>= g) = secL arg1 harg1 arg2 harg2 arg5 a b n hf j (k >>= g) := by
  by_cases h : gd j n = 1#1
  · rw [secL, secL, dif_pos h, dif_pos h]; rfl
  · rw [secL, secL, dif_neg h, dif_neg h]

/-- The first section of such a run, as the program prints it. -/
theorem stepL {α : Type} (a b n : BitVec 32) (hf : Fits a b n) (s c : Nat) (hc : s + (c + 1) ≤ 32) (k k' : KProg F α)
    (hk : k = chunksK (secL (F := F) arg1 harg1 arg2 harg2 arg5 a b n hf) (s + 1) c (by omega) k') :
    (if h : gd s n = 1#1 then do
      Prog.lift (.enqueueDma (chunk arg1 (off3 s a b) (hf ⟨s, by omega⟩ h)) (.here (chunk arg2 (off3 s a b) (hf ⟨s, by omega⟩ h))) (.dma (semAt arg5 ⟨s, by omega⟩)) (harg1.wordExact_slice rfl _ (words _ rfl (hf ⟨s, by omega⟩ h))) (harg2.wordExact_slice rfl _ (words _ rfl (hf ⟨s, by omega⟩ h))) ⟨Or.inl rfl, trivial⟩)
      k
     else k) = chunksK (secL (F := F) arg1 harg1 arg2 harg2 arg5 a b n hf) s (c + 1) hc k' := by
  subst hk; rfl

/-- Wait for the local copy of chunk `j`. -/
def secW {α : Type} (a b n : BitVec 32) (hf : Fits a b n) (j : Fin 32) (k : KProg F α) : KProg F α :=
  if h : gd j n = 1#1 then
    .op (.waitDma2 (semAt arg5 j) (chunk arg1 (off3 j a b) (hf j h)) (chunk arg2 (off3 j a b) (hf j h)) (harg1.wordExact_slice rfl _ (words _ rfl (hf j h))) (harg2.wordExact_slice rfl _ (words _ rfl (hf j h)))) fun _ => k
  else k

theorem secW_bind {α β : Type} (a b n : BitVec 32) (hf : Fits a b n) (j : Fin 32) (k : KProg F α) (g : α → KProg F β) :
    (secW arg1 harg1 arg2 harg2 arg5 a b n hf j k >>= g) = secW arg1 harg1 arg2 harg2 arg5 a b n hf j (k >>= g) := by
  by_cases h : gd j n = 1#1
  · rw [secW, secW, dif_pos h, dif_pos h]; rfl
  · rw [secW, secW, dif_neg h, dif_neg h]

/-- The first section of such a run, as the program prints it. -/
theorem stepW {α : Type} (a b n : BitVec 32) (hf : Fits a b n) (s c : Nat) (hc : s + (c + 1) ≤ 32) (k k' : KProg F α)
    (hk : k = chunksK (secW (F := F) arg1 harg1 arg2 harg2 arg5 a b n hf) (s + 1) c (by omega) k') :
    (if h : gd s n = 1#1 then do
      Prog.lift (.waitDma2 (semAt arg5 ⟨s, by omega⟩) (chunk arg1 (off3 s a b) (hf ⟨s, by omega⟩ h)) (chunk arg2 (off3 s a b) (hf ⟨s, by omega⟩ h)) (harg1.wordExact_slice rfl _ (words _ rfl (hf ⟨s, by omega⟩ h))) (harg2.wordExact_slice rfl _ (words _ rfl (hf ⟨s, by omega⟩ h))))
      k
     else k) = chunksK (secW (F := F) arg1 harg1 arg2 harg2 arg5 a b n hf) s (c + 1) hc k' := by
  subst hk; rfl

/-- Start the copy of chunk `j` to the neighbour. -/
def secR {α : Type} (d : Dev nD) (a e b n : BitVec 32) (hf : Fits a b n) (hg : Fits e b n) (j : Fin 32) (k : KProg F α) : KProg F α :=
  if h : gd j n = 1#1 then
    .op (.enqueueDma (chunk arg1 (off3 j a b) (hf j h)) (.remote (Dev.tc (nbr d)) (chunk arg2 (off3 j e b) (hg j h)) (.dma (semAt arg3 j))) (.dma (semAt arg4 j)) (harg1.wordExact_slice rfl _ (words _ rfl (hf j h))) (harg2.wordExact_slice rfl _ (words _ rfl (hg j h))) ⟨⟨rfl, Or.inl rfl⟩, trivial⟩) fun _ => k
  else k

theorem secR_bind {α β : Type} (d : Dev nD) (a e b n : BitVec 32) (hf : Fits a b n) (hg : Fits e b n) (j : Fin 32) (k : KProg F α) (g : α → KProg F β) :
    (secR arg1 harg1 arg2 harg2 arg3 arg4 d a e b n hf hg j k >>= g) = secR arg1 harg1 arg2 harg2 arg3 arg4 d a e b n hf hg j (k >>= g) := by
  by_cases h : gd j n = 1#1
  · rw [secR, secR, dif_pos h, dif_pos h]; rfl
  · rw [secR, secR, dif_neg h, dif_neg h]

/-- The first section of such a run, as the program prints it. -/
theorem stepR {α : Type} (d : Dev nD) (a e b n : BitVec 32) (hf : Fits a b n) (hg : Fits e b n) (s c : Nat) (hc : s + (c + 1) ≤ 32) (k k' : KProg F α)
    (hk : k = chunksK (secR (F := F) arg1 harg1 arg2 harg2 arg3 arg4 d a e b n hf hg) (s + 1) c (by omega) k') :
    (if h : gd s n = 1#1 then do
      Prog.lift (.enqueueDma (chunk arg1 (off3 s a b) (hf ⟨s, by omega⟩ h)) (.remote (Dev.tc (nbr d)) (chunk arg2 (off3 s e b) (hg ⟨s, by omega⟩ h)) (.dma (semAt arg3 ⟨s, by omega⟩))) (.dma (semAt arg4 ⟨s, by omega⟩)) (harg1.wordExact_slice rfl _ (words _ rfl (hf ⟨s, by omega⟩ h))) (harg2.wordExact_slice rfl _ (words _ rfl (hg ⟨s, by omega⟩ h))) ⟨⟨rfl, Or.inl rfl⟩, trivial⟩)
      k
     else k) = chunksK (secR (F := F) arg1 harg1 arg2 harg2 arg3 arg4 d a e b n hf hg) s (c + 1) hc k' := by
  subst hk; rfl

/-- Wait for chunk `j` to have left and for the neighbour's to have landed. -/
def secV {α : Type} (a e b n : BitVec 32) (hf : Fits a b n) (hg : Fits e b n) (j : Fin 32) (k : KProg F α) : KProg F α :=
  if h : gd j n = 1#1 then
    .op (.waitDma2 (semAt arg3 j) (chunk arg2 (off3 j e b) (hg j h)) (chunk arg1 (off3 j a b) (hf j h)) (harg2.wordExact_slice rfl _ (words _ rfl (hg j h))) (harg1.wordExact_slice rfl _ (words _ rfl (hf j h)))) fun _ =>
    .op (.waitDma2 (semAt arg4 j) (chunk arg1 (off3 j a b) (hf j h)) (chunk arg2 (off3 j e b) (hg j h)) (harg1.wordExact_slice rfl _ (words _ rfl (hf j h))) (harg2.wordExact_slice rfl _ (words _ rfl (hg j h)))) fun _ => k
  else k

theorem secV_bind {α β : Type} (a e b n : BitVec 32) (hf : Fits a b n) (hg : Fits e b n) (j : Fin 32) (k : KProg F α) (g : α → KProg F β) :
    (secV arg1 harg1 arg2 harg2 arg3 arg4 a e b n hf hg j k >>= g) = secV arg1 harg1 arg2 harg2 arg3 arg4 a e b n hf hg j (k >>= g) := by
  by_cases h : gd j n = 1#1
  · rw [secV, secV, dif_pos h, dif_pos h]; rfl
  · rw [secV, secV, dif_neg h, dif_neg h]

/-- The first section of such a run, as the program prints it. -/
theorem stepV {α : Type} (a e b n : BitVec 32) (hf : Fits a b n) (hg : Fits e b n) (s c : Nat) (hc : s + (c + 1) ≤ 32) (k k' : KProg F α)
    (hk : k = chunksK (secV (F := F) arg1 harg1 arg2 harg2 arg3 arg4 a e b n hf hg) (s + 1) c (by omega) k') :
    (if h : gd s n = 1#1 then do
      Prog.lift (.waitDma2 (semAt arg3 ⟨s, by omega⟩) (chunk arg2 (off3 s e b) (hg ⟨s, by omega⟩ h)) (chunk arg1 (off3 s a b) (hf ⟨s, by omega⟩ h)) (harg2.wordExact_slice rfl _ (words _ rfl (hg ⟨s, by omega⟩ h))) (harg1.wordExact_slice rfl _ (words _ rfl (hf ⟨s, by omega⟩ h))))
      Prog.lift (.waitDma2 (semAt arg4 ⟨s, by omega⟩) (chunk arg1 (off3 s a b) (hf ⟨s, by omega⟩ h)) (chunk arg2 (off3 s e b) (hg ⟨s, by omega⟩ h)) (harg1.wordExact_slice rfl _ (words _ rfl (hf ⟨s, by omega⟩ h))) (harg2.wordExact_slice rfl _ (words _ rfl (hg ⟨s, by omega⟩ h))))
      k
     else k) = chunksK (secV (F := F) arg1 harg1 arg2 harg2 arg3 arg4 a e b n hf hg) s (c + 1) hc k' := by
  subst hk; rfl

theorem part2 (arg0 : Memref sig .tc .smem S2x7 .i32) (harg0 : arg0.IsWhole) (v0 : Sems sig S_) (a b n : BitVec 32) (hc : k0_chk1 a b n) (hl : Fits a b n) (x : BitVec 32) :
    k0_part2 (F := F) arg0 harg0 arg1 harg1 arg2 harg2 arg3 arg4 arg5 v0 a b n hc x =
      (chunksK (secL (F := F) arg1 harg1 arg2 harg2 arg5 a b n hl) 3 10 (by decide) (pure 13#32)) := by
  rw [k0_part2_eq_skeleton]
  unfold k0_part2_skel
  iterate 10 refine stepL arg1 harg1 arg2 harg2 arg5 a b n hl _ _ _ _ _ ?_
  rfl

theorem part3 (arg0 : Memref sig .tc .smem S2x7 .i32) (harg0 : arg0.IsWhole) (v0 : Sems sig S_) (a b n : BitVec 32) (hc : k0_chk1 a b n) (hl : Fits a b n) (x : BitVec 32) :
    k0_part3 (F := F) arg0 harg0 arg1 harg1 arg2 harg2 arg3 arg4 arg5 v0 a b n hc x =
      (chunksK (secL (F := F) arg1 harg1 arg2 harg2 arg5 a b n hl) 13 10 (by decide) (pure 23#32)) := by
  rw [k0_part3_eq_skeleton]
  unfold k0_part3_skel
  iterate 10 refine stepL arg1 harg1 arg2 harg2 arg5 a b n hl _ _ _ _ _ ?_
  rfl

theorem part4 (arg0 : Memref sig .tc .smem S2x7 .i32) (harg0 : arg0.IsWhole) (v0 : Sems sig S_) (a b n : BitVec 32) (hc : k0_chk1 a b n) (hl : Fits a b n) (x : BitVec 32) :
    k0_part4 (F := F) arg0 harg0 arg1 harg1 arg2 harg2 arg3 arg4 arg5 v0 a b n hc x =
      (chunksK (secL (F := F) arg1 harg1 arg2 harg2 arg5 a b n hl) 23 9 (by decide) (chunksK (secW (F := F) arg1 harg1 arg2 harg2 arg5 a b n hl) 0 1 (by decide) (pure 1#32))) := by
  rw [k0_part4_eq_skeleton]
  unfold k0_part4_skel
  iterate 9 refine stepL arg1 harg1 arg2 harg2 arg5 a b n hl _ _ _ _ _ ?_
  show _ = chunksK (secW (F := F) arg1 harg1 arg2 harg2 arg5 a b n hl) 0 1 (by decide) _
  iterate 1 refine stepW arg1 harg1 arg2 harg2 arg5 a b n hl _ _ _ _ _ ?_
  rfl

theorem part5 (arg0 : Memref sig .tc .smem S2x7 .i32) (harg0 : arg0.IsWhole) (v0 : Sems sig S_) (a b n : BitVec 32) (hc : k0_chk1 a b n) (hl : Fits a b n) (x : BitVec 32) :
    k0_part5 (F := F) arg0 harg0 arg1 harg1 arg2 harg2 arg3 arg4 arg5 v0 a b n hc x =
      (chunksK (secW (F := F) arg1 harg1 arg2 harg2 arg5 a b n hl) 1 10 (by decide) (pure 11#32)) := by
  rw [k0_part5_eq_skeleton]
  unfold k0_part5_skel
  iterate 10 refine stepW arg1 harg1 arg2 harg2 arg5 a b n hl _ _ _ _ _ ?_
  rfl

theorem part6 (arg0 : Memref sig .tc .smem S2x7 .i32) (harg0 : arg0.IsWhole) (v0 : Sems sig S_) (a b n : BitVec 32) (hc : k0_chk1 a b n) (hl : Fits a b n) (x : BitVec 32) :
    k0_part6 (F := F) arg0 harg0 arg1 harg1 arg2 harg2 arg3 arg4 arg5 v0 a b n hc x =
      (chunksK (secW (F := F) arg1 harg1 arg2 harg2 arg5 a b n hl) 11 10 (by decide) (pure 21#32)) := by
  rw [k0_part6_eq_skeleton]
  unfold k0_part6_skel
  iterate 10 refine stepW arg1 harg1 arg2 harg2 arg5 a b n hl _ _ _ _ _ ?_
  rfl

theorem part7 (arg0 : Memref sig .tc .smem S2x7 .i32) (harg0 : arg0.IsWhole) (v0 : Sems sig S_) (a b n : BitVec 32) (hc : k0_chk1 a b n) (hl : Fits a b n) (x : BitVec 32) :
    k0_part7 (F := F) arg0 harg0 arg1 harg1 arg2 harg2 arg3 arg4 arg5 v0 a b n hc x =
      (chunksK (secW (F := F) arg1 harg1 arg2 harg2 arg5 a b n hl) 21 10 (by decide) (pure 31#32)) := by
  rw [k0_part7_eq_skeleton]
  unfold k0_part7_skel
  iterate 10 refine stepW arg1 harg1 arg2 harg2 arg5 a b n hl _ _ _ _ _ ?_
  rfl

theorem part8 (arg0 : Memref sig .tc .smem S2x7 .i32) (harg0 : arg0.IsWhole) (v0 : Sems sig S_) (d : Dev nD) (y3 y9 y10 : BitVec 32) (n' a' e' b' : BitVec 32) (hc2 : k0_chk2 n' a' e' b') (hf : Fits a' b' n') (hg : Fits e' b' n') (a b n : BitVec 32) (hc : k0_chk1 a b n) (hl : Fits a b n) (x : BitVec 32) :
    k0_part8 (F := F) arg0 harg0 arg1 harg1 arg2 harg2 arg3 arg4 arg5 v0 d y3 y9 y10 n' a' e' b' hc2 a b n hc x =
      (chunksK (secW (F := F) arg1 harg1 arg2 harg2 arg5 a b n hl) 31 1 (by decide) (semSignalWord (nbr d) v0.sem 1#32 >>= fun _ => semWaitWord v0.sem 1#32 >>= fun _ => (chunksK (secR (F := F) arg1 harg1 arg2 harg2 arg3 arg4 d a' e' b' n' hf hg) 0 6 (by decide) (pure ⟨Scalar.extui (Scalar.cmpi .sgt n' 6#32), 0#32⟩)))) := by
  rw [k0_part8_eq_skeleton]
  unfold k0_part8_skel
  iterate 1 refine stepW arg1 harg1 arg2 harg2 arg5 a b n hl _ _ _ _ _ ?_
  refine congrArg (semSignalWord (nbr d) v0.sem 1#32 >>= ·) (funext fun _ => ?_)
  refine congrArg (semWaitWord v0.sem 1#32 >>= ·) (funext fun _ => ?_)
  show _ = chunksK (secR (F := F) arg1 harg1 arg2 harg2 arg3 arg4 d a' e' b' n' hf hg) 0 6 (by decide) _
  iterate 6 refine stepR arg1 harg1 arg2 harg2 arg3 arg4 d a' e' b' n' hf hg _ _ _ _ _ ?_
  rfl

theorem part9 (arg0 : Memref sig .tc .smem S2x7 .i32) (harg0 : arg0.IsWhole) (v0 : Sems sig S_) (d : Dev nD) (y3 y9 y10 : BitVec 32) (n' a' e' b' : BitVec 32) (hc2 : k0_chk2 n' a' e' b') (hf : Fits a' b' n') (hg : Fits e' b' n') (x y : BitVec 32) :
    k0_part9 (F := F) arg0 harg0 arg1 harg1 arg2 harg2 arg3 arg4 arg5 v0 d y3 y9 y10 n' a' e' b' hc2 x y =
      (chunksK (secR (F := F) arg1 harg1 arg2 harg2 arg3 arg4 d a' e' b' n' hf hg) 6 10 (by decide) (pure ⟨Scalar.extui (Scalar.cmpi .sgt n' 16#32), 0#32⟩)) := by
  rw [k0_part9_eq_skeleton]
  unfold k0_part9_skel
  iterate 10 refine stepR arg1 harg1 arg2 harg2 arg3 arg4 d a' e' b' n' hf hg _ _ _ _ _ ?_
  rfl

theorem part10 (arg0 : Memref sig .tc .smem S2x7 .i32) (harg0 : arg0.IsWhole) (v0 : Sems sig S_) (d : Dev nD) (y3 y9 y10 : BitVec 32) (n' a' e' b' : BitVec 32) (hc2 : k0_chk2 n' a' e' b') (hf : Fits a' b' n') (hg : Fits e' b' n') (x y : BitVec 32) :
    k0_part10 (F := F) arg0 harg0 arg1 harg1 arg2 harg2 arg3 arg4 arg5 v0 d y3 y9 y10 n' a' e' b' hc2 x y =
      (chunksK (secR (F := F) arg1 harg1 arg2 harg2 arg3 arg4 d a' e' b' n' hf hg) 16 10 (by decide) (pure ⟨Scalar.extui (Scalar.cmpi .sgt n' 26#32), 0#32⟩)) := by
  rw [k0_part10_eq_skeleton]
  unfold k0_part10_skel
  iterate 10 refine stepR arg1 harg1 arg2 harg2 arg3 arg4 d a' e' b' n' hf hg _ _ _ _ _ ?_
  rfl

theorem part11 (arg0 : Memref sig .tc .smem S2x7 .i32) (harg0 : arg0.IsWhole) (v0 : Sems sig S_) (d : Dev nD) (y3 y9 y10 : BitVec 32) (n' a' e' b' : BitVec 32) (hc2 : k0_chk2 n' a' e' b') (hf : Fits a' b' n') (hg : Fits e' b' n') (x y : BitVec 32) :
    k0_part11 (F := F) arg0 harg0 arg1 harg1 arg2 harg2 arg3 arg4 arg5 v0 d y3 y9 y10 n' a' e' b' hc2 x y =
      (chunksK (secR (F := F) arg1 harg1 arg2 harg2 arg3 arg4 d a' e' b' n' hf hg) 26 6 (by decide) (chunksK (secV (F := F) arg1 harg1 arg2 harg2 arg3 arg4 a' e' b' n' hf hg) 0 4 (by decide) (pure ⟨Scalar.extui (Scalar.cmpi .sgt n' 4#32), 0#32⟩))) := by
  rw [k0_part11_eq_skeleton]
  unfold k0_part11_skel
  iterate 6 refine stepR arg1 harg1 arg2 harg2 arg3 arg4 d a' e' b' n' hf hg _ _ _ _ _ ?_
  show _ = chunksK (secV (F := F) arg1 harg1 arg2 harg2 arg3 arg4 a' e' b' n' hf hg) 0 4 (by decide) _
  iterate 4 refine stepV arg1 harg1 arg2 harg2 arg3 arg4 a' e' b' n' hf hg _ _ _ _ _ ?_
  rfl

theorem part12 (arg0 : Memref sig .tc .smem S2x7 .i32) (harg0 : arg0.IsWhole) (v0 : Sems sig S_) (y3 y9 y10 : BitVec 32) (n' a' e' b' : BitVec 32) (hc2 : k0_chk2 n' a' e' b') (hf : Fits a' b' n') (hg : Fits e' b' n') (x y : BitVec 32) :
    k0_part12 (F := F) arg0 harg0 arg1 harg1 arg2 harg2 arg3 arg4 arg5 v0 y3 y9 y10 n' a' e' b' hc2 x y =
      (chunksK (secV (F := F) arg1 harg1 arg2 harg2 arg3 arg4 a' e' b' n' hf hg) 4 10 (by decide) (pure ⟨Scalar.extui (Scalar.cmpi .sgt n' 14#32), 0#32⟩)) := by
  rw [k0_part12_eq_skeleton]
  unfold k0_part12_skel
  iterate 10 refine stepV arg1 harg1 arg2 harg2 arg3 arg4 a' e' b' n' hf hg _ _ _ _ _ ?_
  rfl

theorem part13 (arg0 : Memref sig .tc .smem S2x7 .i32) (harg0 : arg0.IsWhole) (v0 : Sems sig S_) (y3 y9 y10 : BitVec 32) (n' a' e' b' : BitVec 32) (hc2 : k0_chk2 n' a' e' b') (hf : Fits a' b' n') (hg : Fits e' b' n') (x y : BitVec 32) :
    k0_part13 (F := F) arg0 harg0 arg1 harg1 arg2 harg2 arg3 arg4 arg5 v0 y3 y9 y10 n' a' e' b' hc2 x y =
      (chunksK (secV (F := F) arg1 harg1 arg2 harg2 arg3 arg4 a' e' b' n' hf hg) 14 10 (by decide) (pure ⟨Scalar.extui (Scalar.cmpi .sgt n' 24#32), 0#32⟩)) := by
  rw [k0_part13_eq_skeleton]
  unfold k0_part13_skel
  iterate 10 refine stepV arg1 harg1 arg2 harg2 arg3 arg4 a' e' b' n' hf hg _ _ _ _ _ ?_
  rfl

/-- The check before the local copies holds when the chunks fit. -/
theorem chk1_of {a b n : BitVec 32} (hf : Fits a b n) : k0_chk1 a b n := by
  unfold k0_chk1 k0_chk1_0 k0_chk1_1 k0_chk1_2 k0_chk1_3
  repeat' apply And.intro
  all_goals first
    | exact fun _ hi => words _ rfl hi
    | (intro h; have e := hf.at h; exact e (by decide))

set_option maxHeartbeats 4000000 in
/-- The check before the exchange holds when the chunks fit on both sides. -/
theorem chk2_of {n a e b : BitVec 32} (hf : Fits a b n) (hg : Fits e b n) : k0_chk2 n a e b := by
  unfold k0_chk2 k0_chk2_0 k0_chk2_1 k0_chk2_2 k0_chk2_3 k0_chk2_4 k0_chk2_5 k0_chk2_6 k0_chk2_7
  repeat' apply And.intro
  all_goals first
    | exact fun _ hi => words _ rfl hi
    | (intro h; have e := hf.at h; exact e (by decide))
    | (intro h; have e := hg.at h; exact e (by decide))

set_option maxHeartbeats 4000000 in
theorem fits_of_chk1 {a b n : BitVec 32} (h : k0_chk1 a b n) : Fits a b n := by
  unfold k0_chk1 k0_chk1_0 k0_chk1_1 k0_chk1_2 k0_chk1_3 at h
  casesm* _ ∧ _
  intro j
  fin_cases j <;> assumption

set_option maxHeartbeats 8000000 in
theorem fits_of_chk2 {n a e b : BitVec 32} (h : k0_chk2 n a e b) : Fits a b n ∧ Fits e b n := by
  unfold k0_chk2 k0_chk2_0 k0_chk2_1 k0_chk2_2 k0_chk2_3 k0_chk2_4 k0_chk2_5 k0_chk2_6 k0_chk2_7 at h
  replace h := And.intro h.1 (And.intro h.2.1 (And.intro h.2.2.1 h.2.2.2.1))
  casesm* _ ∧ _
  constructor <;> intro j <;> fin_cases j <;> assumption

end Cert.KernelIdeal.Move
end
-- ==== Proof.Body.lean ====
/- The kernel body in four runs: what is read from the table, the local copies and their waits, the
   handshake with the neighbour, and the copies to it with theirs. -/
module

public import proofs.«01_k».proof.Proof.Sections

@[expose] public section

noncomputable section

namespace Cert.KernelIdeal.Move

open Idealize.ShloMosaic Idealize.SL.Sem Cert.KernelIdeal.Gen

variable {F : FTy → Type} [FloatOps F]

/-- What the body reads from its row of the table, with the two checks, before anything moves. -/
def headK {α : Type} (arg0 : Memref sig .tc .smem S2x7 .i32)
    (f : (d : Dev nD) → (n a e b : BitVec 32) → k0_chk2 n a e b → (a2 b2 n2 : BitVec 32) → k0_chk1 a2 b2 n2 → KProg F α) :
    KProg F α :=
  Prog.lift .deviceId >>= fun d =>
  smemLoad arg0 (Rect.unit (s := S2x7) (k0_off1 d) S1x1.size (k0_off1_inb d)) numel1_S1x1 rfl >>= fun n =>
  smemLoad arg0 (Rect.unit (s := S2x7) (k0_off2 d) S1x1.size (k0_off2_inb d)) numel1_S1x1 rfl >>= fun a =>
  smemLoad arg0 (Rect.unit (s := S2x7) (k0_off3 d) S1x1.size (k0_off3_inb d)) numel1_S1x1 rfl >>= fun e =>
  smemLoad arg0 (Rect.unit (s := S2x7) (k0_off4 d) S1x1.size (k0_off4_inb d)) numel1_S1x1 rfl >>= fun b =>
  Prog.lift (TpuEff.assume (k0_chk2 n a e b) (k0_chk2.dec n a e b)) >>= fun h2 =>
  smemLoad arg0 (Rect.unit (s := S2x7) (k0_off5 d) S1x1.size (k0_off5_inb d)) numel1_S1x1 rfl >>= fun a2 =>
  smemLoad arg0 (Rect.unit (s := S2x7) (k0_off6 d) S1x1.size (k0_off6_inb d)) numel1_S1x1 rfl >>= fun b2 =>
  smemLoad arg0 (Rect.unit (s := S2x7) (k0_off7 d) S1x1.size (k0_off7_inb d)) numel1_S1x1 rfl >>= fun n2 =>
  Prog.lift (TpuEff.assume (k0_chk1 a2 b2 n2) (k0_chk1.dec a2 b2 n2)) >>= fun h1 =>
  f d n a e b h2.down a2 b2 n2 h1.down

/-- Two programs that begin alike are equal when what follows is. -/
theorem bindK {α β : Type} (p : KProg F α) (f g : α → KProg F β) (h : ∀ x, f x = g x) : (p >>= f) = (p >>= g) :=
  congrArg (p >>= ·) (funext h)

theorem headK_bind {α β : Type} (arg0 : Memref sig .tc .smem S2x7 .i32)
    (f : (d : Dev nD) → (n a e b : BitVec 32) → k0_chk2 n a e b → (a2 b2 n2 : BitVec 32) → k0_chk1 a2 b2 n2 → KProg F α)
    (g : α → KProg F β) :
    (headK arg0 f >>= g) = headK arg0 fun d n a e b h2 a2 b2 n2 h1 => f d n a e b h2 a2 b2 n2 h1 >>= g := rfl

theorem headK_congr {α : Type} (arg0 : Memref sig .tc .smem S2x7 .i32)
    (f g : (d : Dev nD) → (n a e b : BitVec 32) → k0_chk2 n a e b → (a2 b2 n2 : BitVec 32) → k0_chk1 a2 b2 n2 → KProg F α)
    (h : ∀ d n a e b h2 a2 b2 n2 h1, f d n a e b h2 a2 b2 n2 h1 = g d n a e b h2 a2 b2 n2 h1) :
    headK arg0 f = headK arg0 g :=
  congrArg (headK arg0) (by funext d n a e b h2 a2 b2 n2 h1; exact h d n a e b h2 a2 b2 n2 h1)

variable (arg1 : Memref sig .tc .vmem S2048x8x128 .bf16) (harg1 : arg1.IsWhole)
  (arg2 : Memref sig .tc .vmem S2048x8x128 .bf16) (harg2 : arg2.IsWhole)
  (arg3 arg4 arg5 : DmaSems sig S32)

/-- What follows the reads. -/
def restK (v0 : Sems sig S_) (d : Dev nD) (n a e b : BitVec 32) (hf : Fits a b n) (hg : Fits e b n)
    (a2 b2 n2 : BitVec 32) (hl : Fits a2 b2 n2) : KProg F PUnit :=
  chunksK (secL (F := F) arg1 harg1 arg2 harg2 arg5 a2 b2 n2 hl) 0 32 (by decide) <|
  chunksK (secW (F := F) arg1 harg1 arg2 harg2 arg5 a2 b2 n2 hl) 0 32 (by decide) <|
  semSignalWord (nbr d) v0.sem 1#32 >>= fun _ =>
  semWaitWord v0.sem 1#32 >>= fun _ =>
  chunksK (secR (F := F) arg1 harg1 arg2 harg2 arg3 arg4 d a e b n hf hg) 0 32 (by decide) <|
  chunksK (secV (F := F) arg1 harg1 arg2 harg2 arg3 arg4 a e b n hf hg) 0 32 (by decide) <|
  pure ⟨⟩

/-- Two runs that follow on each other. -/
theorem runs_join {α : Type} (f : Fin 32 → KProg F α → KProg F α) (a n c m : Nat) (h : a + n ≤ 32) (h' : c + m ≤ 32)
    (k : KProg F α) (hc : c = a + n) :
    chunksK f a n h (chunksK f c m h' k) = chunksK f a (n + m) (by omega) k := by
  subst hc
  induction n generalizing a with
  | zero => simp only [chunksK]; congr 1 <;> omega
  | succ n ih =>
    have e := ih (a + 1) (by omega) (by omega)
    have e2 : a + 1 + n = a + (n + 1) := by omega
    simp only [e2] at e
    have e3 : n + 1 + m = (n + m) + 1 := by omega
    simp only [e3]
    rw [chunksK, chunksK, e]

theorem runL_bind {α β : Type} (a b n : BitVec 32) (hf : Fits a b n) (s c : Nat) (h : s + c ≤ 32) (k : KProg F α) (g : α → KProg F β) :
    (chunksK (secL (F := F) arg1 harg1 arg2 harg2 arg5 a b n hf) s c h k >>= g) = chunksK (secL (F := F) arg1 harg1 arg2 harg2 arg5 a b n hf) s c h (k >>= g) :=
  chunksK_bind _ _ g (fun j k => secL_bind arg1 harg1 arg2 harg2 arg5 a b n hf j k g) c s h k

theorem runW_bind {α β : Type} (a b n : BitVec 32) (hf : Fits a b n) (s c : Nat) (h : s + c ≤ 32) (k : KProg F α) (g : α → KProg F β) :
    (chunksK (secW (F := F) arg1 harg1 arg2 harg2 arg5 a b n hf) s c h k >>= g) = chunksK (secW (F := F) arg1 harg1 arg2 harg2 arg5 a b n hf) s c h (k >>= g) :=
  chunksK_bind _ _ g (fun j k => secW_bind arg1 harg1 arg2 harg2 arg5 a b n hf j k g) c s h k

theorem runR_bind {α β : Type} (d : Dev nD) (a e b n : BitVec 32) (hf : Fits a b n) (hg : Fits e b n) (s c : Nat) (h : s + c ≤ 32) (k : KProg F α) (g : α → KProg F β) :
    (chunksK (secR (F := F) arg1 harg1 arg2 harg2 arg3 arg4 d a e b n hf hg) s c h k >>= g) = chunksK (secR (F := F) arg1 harg1 arg2 harg2 arg3 arg4 d a e b n hf hg) s c h (k >>= g) :=
  chunksK_bind _ _ g (fun j k => secR_bind arg1 harg1 arg2 harg2 arg3 arg4 d a e b n hf hg j k g) c s h k

theorem runV_bind {α β : Type} (a e b n : BitVec 32) (hf : Fits a b n) (hg : Fits e b n) (s c : Nat) (h : s + c ≤ 32) (k : KProg F α) (g : α → KProg F β) :
    (chunksK (secV (F := F) arg1 harg1 arg2 harg2 arg3 arg4 a e b n hf hg) s c h k >>= g) = chunksK (secV (F := F) arg1 harg1 arg2 harg2 arg3 arg4 a e b n hf hg) s c h (k >>= g) :=
  chunksK_bind _ _ g (fun j k => secV_bind arg1 harg1 arg2 harg2 arg3 arg4 a e b n hf hg j k g) c s h k

theorem part1 (arg0 : Memref sig .tc .smem S2x7 .i32) (harg0 : arg0.IsWhole) (v0 : Sems sig S_) :
    k0_part1 (F := F) arg0 harg0 arg1 harg1 arg2 harg2 arg3 arg4 arg5 v0 =
      headK arg0 fun d n a e b h2 a2 b2 n2 h1 =>
        chunksK (secL (F := F) arg1 harg1 arg2 harg2 arg5 a2 b2 n2 (fits_of_chk1 h1)) 0 3 (by decide)
          (pure ⟨d, Scalar.remsi (Scalar.divsi (Dev.word d) 8#32) 2#32, Scalar.remsi (Scalar.divsi (Dev.word d) 1#32) 4#32,
            Scalar.subi 1#32 (Scalar.remsi (Scalar.divsi (Dev.word d) 4#32) 2#32), n, a, e, b, h2, a2, b2, n2, h1, 3#32⟩) := by
  rw [k0_part1_eq_skeleton]
  unfold k0_part1_skel
  unfold headK
  refine bindK _ _ _ fun d => ?_
  refine bindK _ _ _ fun n => ?_
  refine bindK _ _ _ fun a => ?_
  refine bindK _ _ _ fun e => ?_
  refine bindK _ _ _ fun b => ?_
  refine bindK _ _ _ fun h2 => ?_
  refine bindK _ _ _ fun a2 => ?_
  refine bindK _ _ _ fun b2 => ?_
  refine bindK _ _ _ fun n2 => ?_
  refine bindK _ _ _ fun h1 => ?_
  iterate 3 refine stepL arg1 harg1 arg2 harg2 arg5 a2 b2 n2 (fits_of_chk1 h1.down) _ _ _ _ _ ?_
  rfl

/-- The printed body is the reads followed by the four runs. -/
theorem body_eq (arg0 : Memref sig .tc .smem S2x7 .i32) (harg0 : arg0.IsWhole) (v0 : Sems sig S_) :
    cc0_wrapped_body (F := F) arg0 harg0 arg1 harg1 arg2 harg2 arg3 arg4 arg5 v0 =
      headK arg0 fun d n a e b h2 a2 b2 n2 h1 =>
        restK arg1 harg1 arg2 harg2 arg3 arg4 arg5 v0 d n a e b (fits_of_chk2 h2).1 (fits_of_chk2 h2).2 a2 b2 n2 (fits_of_chk1 h1) := by
  rw [cc0_wrapped_body_eq_skeleton]
  unfold cc0_wrapped_body_skel
  rw [part1, headK_bind]
  refine headK_congr _ _ _ fun d n a e b h2 a2 b2 n2 h1 => ?_
  simp -zeta only [runL_bind, runW_bind, runR_bind, runV_bind, Prog.pure_eq_ret, Prog.bind_ret,
    part2 arg1 harg1 arg2 harg2 arg3 arg4 arg5 arg0 harg0 v0 a2 b2 n2 h1 (fits_of_chk1 h1), part3 arg1 harg1 arg2 harg2 arg3 arg4 arg5 arg0 harg0 v0 a2 b2 n2 h1 (fits_of_chk1 h1), part4 arg1 harg1 arg2 harg2 arg3 arg4 arg5 arg0 harg0 v0 a2 b2 n2 h1 (fits_of_chk1 h1), part5 arg1 harg1 arg2 harg2 arg3 arg4 arg5 arg0 harg0 v0 a2 b2 n2 h1 (fits_of_chk1 h1), part6 arg1 harg1 arg2 harg2 arg3 arg4 arg5 arg0 harg0 v0 a2 b2 n2 h1 (fits_of_chk1 h1), part7 arg1 harg1 arg2 harg2 arg3 arg4 arg5 arg0 harg0 v0 a2 b2 n2 h1 (fits_of_chk1 h1),
    part8 arg1 harg1 arg2 harg2 arg3 arg4 arg5 arg0 harg0 v0 d (Scalar.remsi (Scalar.divsi (Dev.word d) 8#32) 2#32) (Scalar.remsi (Scalar.divsi (Dev.word d) 1#32) 4#32) (Scalar.subi 1#32 (Scalar.remsi (Scalar.divsi (Dev.word d) 4#32) 2#32)) n a e b h2 (fits_of_chk2 h2).1 (fits_of_chk2 h2).2 a2 b2 n2 h1 (fits_of_chk1 h1), part9 arg1 harg1 arg2 harg2 arg3 arg4 arg5 arg0 harg0 v0 d (Scalar.remsi (Scalar.divsi (Dev.word d) 8#32) 2#32) (Scalar.remsi (Scalar.divsi (Dev.word d) 1#32) 4#32) (Scalar.subi 1#32 (Scalar.remsi (Scalar.divsi (Dev.word d) 4#32) 2#32)) n a e b h2 (fits_of_chk2 h2).1 (fits_of_chk2 h2).2, part10 arg1 harg1 arg2 harg2 arg3 arg4 arg5 arg0 harg0 v0 d (Scalar.remsi (Scalar.divsi (Dev.word d) 8#32) 2#32) (Scalar.remsi (Scalar.divsi (Dev.word d) 1#32) 4#32) (Scalar.subi 1#32 (Scalar.remsi (Scalar.divsi (Dev.word d) 4#32) 2#32)) n a e b h2 (fits_of_chk2 h2).1 (fits_of_chk2 h2).2, part11 arg1 harg1 arg2 harg2 arg3 arg4 arg5 arg0 harg0 v0 d (Scalar.remsi (Scalar.divsi (Dev.word d) 8#32) 2#32) (Scalar.remsi (Scalar.divsi (Dev.word d) 1#32) 4#32) (Scalar.subi 1#32 (Scalar.remsi (Scalar.divsi (Dev.word d) 4#32) 2#32)) n a e b h2 (fits_of_chk2 h2).1 (fits_of_chk2 h2).2, part12 arg1 harg1 arg2 harg2 arg3 arg4 arg5 arg0 harg0 v0 (Scalar.remsi (Scalar.divsi (Dev.word d) 8#32) 2#32) (Scalar.remsi (Scalar.divsi (Dev.word d) 1#32) 4#32) (Scalar.subi 1#32 (Scalar.remsi (Scalar.divsi (Dev.word d) 4#32) 2#32)) n a e b h2 (fits_of_chk2 h2).1 (fits_of_chk2 h2).2, part13 arg1 harg1 arg2 harg2 arg3 arg4 arg5 arg0 harg0 v0 (Scalar.remsi (Scalar.divsi (Dev.word d) 8#32) 2#32) (Scalar.remsi (Scalar.divsi (Dev.word d) 1#32) 4#32) (Scalar.subi 1#32 (Scalar.remsi (Scalar.divsi (Dev.word d) 4#32) 2#32)) n a e b h2 (fits_of_chk2 h2).1 (fits_of_chk2 h2).2,
    bind_assoc]
  have key : ∀ T, T = chunksK (secV (F := F) arg1 harg1 arg2 harg2 arg3 arg4 a e b n (fits_of_chk2 h2).1 (fits_of_chk2 h2).2) 24 8 (by decide) (pure ⟨⟩) →
      chunksK (secL (F := F) arg1 harg1 arg2 harg2 arg5 a2 b2 n2 (fits_of_chk1 h1)) 0 3 (by decide) (chunksK (secL (F := F) arg1 harg1 arg2 harg2 arg5 a2 b2 n2 (fits_of_chk1 h1)) 3 10 (by decide) (chunksK (secL (F := F) arg1 harg1 arg2 harg2 arg5 a2 b2 n2 (fits_of_chk1 h1)) 13 10 (by decide) (chunksK (secL (F := F) arg1 harg1 arg2 harg2 arg5 a2 b2 n2 (fits_of_chk1 h1)) 23 9 (by decide)
       (chunksK (secW (F := F) arg1 harg1 arg2 harg2 arg5 a2 b2 n2 (fits_of_chk1 h1)) 0 1 (by decide) (chunksK (secW (F := F) arg1 harg1 arg2 harg2 arg5 a2 b2 n2 (fits_of_chk1 h1)) 1 10 (by decide) (chunksK (secW (F := F) arg1 harg1 arg2 harg2 arg5 a2 b2 n2 (fits_of_chk1 h1)) 11 10 (by decide) (chunksK (secW (F := F) arg1 harg1 arg2 harg2 arg5 a2 b2 n2 (fits_of_chk1 h1)) 21 10 (by decide) (chunksK (secW (F := F) arg1 harg1 arg2 harg2 arg5 a2 b2 n2 (fits_of_chk1 h1)) 31 1 (by decide)
       (semSignalWord (nbr d) v0.sem 1#32 >>= fun _ => semWaitWord v0.sem 1#32 >>= fun _ =>
        chunksK (secR (F := F) arg1 harg1 arg2 harg2 arg3 arg4 d a e b n (fits_of_chk2 h2).1 (fits_of_chk2 h2).2) 0 6 (by decide) (chunksK (secR (F := F) arg1 harg1 arg2 harg2 arg3 arg4 d a e b n (fits_of_chk2 h2).1 (fits_of_chk2 h2).2) 6 10 (by decide) (chunksK (secR (F := F) arg1 harg1 arg2 harg2 arg3 arg4 d a e b n (fits_of_chk2 h2).1 (fits_of_chk2 h2).2) 16 10 (by decide) (chunksK (secR (F := F) arg1 harg1 arg2 harg2 arg3 arg4 d a e b n (fits_of_chk2 h2).1 (fits_of_chk2 h2).2) 26 6 (by decide)
         (chunksK (secV (F := F) arg1 harg1 arg2 harg2 arg3 arg4 a e b n (fits_of_chk2 h2).1 (fits_of_chk2 h2).2) 0 4 (by decide) (chunksK (secV (F := F) arg1 harg1 arg2 harg2 arg3 arg4 a e b n (fits_of_chk2 h2).1 (fits_of_chk2 h2).2) 4 10 (by decide) (chunksK (secV (F := F) arg1 harg1 arg2 harg2 arg3 arg4 a e b n (fits_of_chk2 h2).1 (fits_of_chk2 h2).2) 14 10 (by decide) T)))))))))))))))
       = restK arg1 harg1 arg2 harg2 arg3 arg4 arg5 v0 d n a e b (fits_of_chk2 h2).1 (fits_of_chk2 h2).2 a2 b2 n2 (fits_of_chk1 h1) := by
    intro T hT
    subst hT
    unfold restK
    rw [runs_join _ _ _ _ _ _ _ _ rfl, runs_join _ _ _ _ _ _ _ _ rfl, runs_join _ _ _ _ _ _ _ _ rfl,
      runs_join _ _ _ _ _ _ _ _ rfl, runs_join _ _ _ _ _ _ _ _ rfl, runs_join _ _ _ _ _ _ _ _ rfl, runs_join _ _ _ _ _ _ _ _ rfl,
      runs_join _ _ _ _ _ _ _ _ rfl, runs_join _ _ _ _ _ _ _ _ rfl, runs_join _ _ _ _ _ _ _ _ rfl,
      runs_join _ _ _ _ _ _ _ _ rfl, runs_join _ _ _ _ _ _ _ _ rfl, runs_join _ _ _ _ _ _ _ _ rfl]
  refine key _ ?_
  iterate 8 refine stepV arg1 harg1 arg2 harg2 arg3 arg4 a e b n (fits_of_chk2 h2).1 (fits_of_chk2 h2).2 _ _ _ _ _ ?_
  rfl

end Cert.KernelIdeal.Move
end
-- ==== Proof.Plan.lean ====
/- The exchange's schedule: per device one ready cell and, per chunk, a cell for the local copy, one for
   the departure of a chunk sent and one for the landing of a chunk received; what each is paid with, and
   what each device owes at the start. -/
module

public import proofs.«01_k».proof.Proof.Shares
public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Move

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's own resources: the staging cells', the exchange's cells', and write mode's. -/
abbrev UU (F : FTy → Type) : Type := UR sig nD τ × (UR sig nD τ × WmRA nD τ sig (Elt F))

local notation "𝕄" => MT nD τ sig Unit (Elt F) ℕ (UU F) ℕ

abbrev EP : Emb (UR sig nD τ) (MT nD τ sig Unit (Elt F) ℕ (UU F) ℕ) := embL
def ER : Emb (UR sig nD τ) (MT nD τ sig Unit (Elt F) ℕ (UU F) ℕ) :=
  (Emb.inl : Emb (UR sig nD τ) (UR sig nD τ × WmRA nD τ sig (Elt F))).trans embR
instance ER_landsIn : (ER (F := F)).LandsIn (upEmb : UEmb _ (MT nD τ sig Unit (Elt F) ℕ (UU F) ℕ)) := by unfold ER; infer_instance
abbrev EW : UEmb (WmRA nD τ sig (Elt F)) (UU F) :=
  (UEmb.inr : UEmb (WmRA nD τ sig (Elt F)) (UR sig nD τ × WmRA nD τ sig (Elt F))).trans UEmb.inr

/-! ## The neighbour -/

theorem nbr_nbr (c : Dev nD) : nbr (nbr c) = c := by
  refine Fin.ext ?_
  show k0_dev1 (nbr c) = c.val
  rw [k0_dev1_eq]
  show (8 * (k0_dev1 c / 8) + k0_dev1 c % 4 + 4) - 4 * ((k0_dev1 c / 4) % 2) = c.val
  rw [k0_dev1_eq]
  have := c.isLt
  simp only [nD] at this
  omega

/-- Every device exchanged with its neighbour. -/
def swap : Dev nD ≃ Dev nD := ⟨nbr, nbr, nbr_nbr, nbr_nbr⟩

/-! ## The memrefs and cells -/

abbrev xM : Memref sig .tc .vmem S2048x8x128 .bf16 := Memref.whole cc0_stg1_0
abbrev oM : Memref sig .tc .vmem S2048x8x128 .bf16 := Memref.whole cc0_stg2_0

/-- The rows a core starts with, and where its result is put together. -/
abbrev xLoc (c : Dev nD) : Loc nD τ sig := (c : Thread nD τ).loc cc0_stg1_0
abbrev oLoc (c : Dev nD) : Loc nD τ sig := (c : Thread nD τ).loc cc0_stg2_0

/-- The cells of a device: ready, and per chunk local, departure and landing. -/
abbrev KI : Type := Option (Fin 3 × Fin 32)

abbrev osem : KI → SemLoc sig
  | none => .reg cc0_scoped0.sem
  | some (0, j) => .dma (semAt cc0_scratch2 j)
  | some (1, j) => .dma (semAt cc0_scratch0 j)
  | some (2, j) => .dma (semAt cc0_scratch1 j)

/-- Which of the cells a semaphore is. -/
def idx : SemLoc sig → Option KI
  | .reg _ => some none
  | .dma q =>
    if h : 3 ≤ q.val ∧ q.val < 35 then some (some (1, ⟨q.val - 3, by omega⟩))
    else if h : 35 ≤ q.val ∧ q.val < 67 then some (some (2, ⟨q.val - 35, by omega⟩))
    else if h : 67 ≤ q.val ∧ q.val < 99 then some (some (0, ⟨q.val - 67, by omega⟩))
    else none

theorem idx_osem (k : KI) : idx (osem k) = some k := by revert k; decide

theorem osem_inj : Function.Injective osem := fun k k' h => by
  have := congrArg idx h; rw [idx_osem, idx_osem] at this; exact Option.some.inj this

abbrev kcell (ck : Dev nD × KI) : GSem nD τ sig := ((ck.1 : Thread nD τ), osem ck.2)

/-- What one chunk's copy puts on a cell. -/
abbrev N : ℕ := sig.dmaCredit .tc (Kind.tc.table .vmem) (0 : Fin 2) S64x8x128 .bf16
theorem N_pos : 0 < N := sig.dmaCredit_pos _ _ _ _ _ (by decide)

/-! ## What moves -/

/-- The words each device acts on, what it starts with and what its result is to be: chunks fit, the two
    devices of a pair agree how many move, and every chunk copied is what is wanted where it goes. -/
structure Plan (F : FTy → Type) where
  n : Dev nD → BitVec 32
  a : Dev nD → BitVec 32
  e : Dev nD → BitVec 32
  b : Dev nD → BitVec 32
  a2 : Dev nD → BitVec 32
  b2 : Dev nD → BitVec 32
  n2 : Dev nD → BitVec 32
  hf : ∀ c, Fits (a c) (b c) (n c)
  hg : ∀ c, Fits (e c) (b c) (n c)
  hl : ∀ c, Fits (a2 c) (b2 c) (n2 c)
  hn : ∀ c, n (nbr c) = n c
  X : (c : Dev nD) → Buf (Elt F) (xLoc c)
  g : (c : Dev nD) → Tgt (Elt F) (oLoc c)
  hL : ∀ (c : Dev nD) (j : Fin 32) (h : gd j (n2 c) = 1#1),
    (chunk oM (off3 j (a2 c) (b2 c)) (hl c j h)).view.Admitted (Elt F) (g c)
      ((chunk xM (off3 j (a2 c) (b2 c)) (hl c j h)).view.read (Elt F) (X c)) Finset.univ
  hR : ∀ (c : Dev nD) (j : Fin 32) (h : gd j (n c) = 1#1),
    (chunk oM (off3 j (e c) (b c)) (hg c j h)).view.Admitted (Elt F) (g (nbr c))
      ((chunk xM (off3 j (a c) (b c)) (hf c j h)).view.read (Elt F) (X c)) Finset.univ

variable (P : Plan F)

/-- Where local chunk `j` goes. -/
def regL (c : Dev nD) (j : Fin 32) : Finset (Idx (oLoc c)) :=
  if h : gd j (P.n2 c) = 1#1 then (chunk oM (off3 j (P.a2 c) (P.b2 c)) (P.hl c j h)).view.set else ∅

/-- Where chunk `j` device `c` sends goes, on its neighbour. -/
def regS (c : Dev nD) (j : Fin 32) : Finset (Idx (oLoc (nbr c))) :=
  if h : gd j (P.n c) = 1#1 then (chunk oM (off3 j (P.e c) (P.b c)) (P.hg c j h)).view.set else ∅

/-- Where chunk `j` that device `c` receives goes. -/
def regR (c : Dev nD) (j : Fin 32) : Finset (Idx (oLoc c)) :=
  if h : gd j (P.n (nbr c)) = 1#1 then (chunk oM (off3 j (P.e (nbr c)) (P.b (nbr c))) (P.hg (nbr c) j h)).view.set else ∅

/-- A piece of a device's rows. -/
def xPts (c : Dev nD) (i : Nat) : sProp 𝕄 := (xLoc c) ↦[Finset.univ]{piece i} P.X c
/-- The part of it under chunk `j` copied locally, and the rest. -/
def xL (c : Dev nD) (j : Fin 32) (h : gd j (P.n2 c) = 1#1) : sProp 𝕄 :=
  (xLoc c) ↦[(chunk xM (off3 j (P.a2 c) (P.b2 c)) (P.hl c j h)).view.set]{piece j.val} P.X c
def xL' (c : Dev nD) (j : Fin 32) (h : gd j (P.n2 c) = 1#1) : sProp 𝕄 :=
  (xLoc c) ↦[Finset.univ \ (chunk xM (off3 j (P.a2 c) (P.b2 c)) (P.hl c j h)).view.set]{piece j.val} P.X c
/-- The part of it under chunk `j` sent, and the rest. -/
def xS (c : Dev nD) (j : Fin 32) (h : gd j (P.n c) = 1#1) : sProp 𝕄 :=
  (xLoc c) ↦[(chunk xM (off3 j (P.a c) (P.b c)) (P.hf c j h)).view.set]{piece (32 + j.val)} P.X c
def xS' (c : Dev nD) (j : Fin 32) (h : gd j (P.n c) = 1#1) : sProp 𝕄 :=
  (xLoc c) ↦[Finset.univ \ (chunk xM (off3 j (P.a c) (P.b c)) (P.hf c j h)).view.set]{piece (32 + j.val)} P.X c
/-- A piece of a device's result in the making. -/
def oPc (c : Dev nD) (i : Nat) (W : Finset (Idx (oLoc c))) : sProp 𝕄 := wb EW (oLoc c) (piece i) (P.g c) W

instance xPts_storable (c : Dev nD) (i : Nat) : Storable (upEmb : UEmb _ 𝕄) (xPts P c i) := by unfold xPts; infer_instance
instance xL_storable (c : Dev nD) (j : Fin 32) (h) : Storable (upEmb : UEmb _ 𝕄) (xL P c j h) := by unfold xL; infer_instance
instance xS_storable (c : Dev nD) (j : Fin 32) (h) : Storable (upEmb : UEmb _ 𝕄) (xS P c j h) := by unfold xS; infer_instance
instance oPc_storable (c : Dev nD) (i : Nat) (W) : Storable (upEmb : UEmb _ 𝕄) (oPc P c i W) := by unfold oPc; infer_instance

/-! ## The schedule -/

/-- Whether a cell of device `c` is used. -/
def On (c : Dev nD) : Option KI → Prop
  | none => False
  | some none => True
  | some (some (0, j)) => gd j (P.n2 c) = 1#1
  | some (some (1, j)) => gd j (P.n c) = 1#1
  | some (some (2, j)) => gd j (P.n c) = 1#1

instance On_dec (c : Dev nD) (k : Option KI) : Decidable (On P c k) := Classical.propDecidable _

/-- What a device's word that it is ready hands its neighbour: a piece of its result for each chunk to come. -/
def readyPay (c : Dev nD) : sProp 𝕄 :=
  bigSep Finset.univ fun j : Fin 32 => if gd j (P.n (nbr c)) = 1#1 then oPc P (nbr c) (32 + j.val) ∅ else iprop(emp)
def locPay (c : Dev nD) (j : Fin 32) : sProp 𝕄 :=
  if h : gd j (P.n2 c) = 1#1 then iprop(oPc P c j.val (regL P c j) ∗ xL P c j h) else iprop(emp)
def sendPay (c : Dev nD) (j : Fin 32) : sProp 𝕄 :=
  if h : gd j (P.n c) = 1#1 then xS P c j h else iprop(emp)
def recvPay (c : Dev nD) (j : Fin 32) : sProp 𝕄 := oPc P c (32 + j.val) (regR P c j)

def pay (c : Dev nD) : Option KI → sProp 𝕄
  | none => iprop(emp)
  | some none => readyPay P c
  | some (some (0, j)) => locPay P c j
  | some (some (1, j)) => sendPay P c j
  | some (some (2, j)) => recvPay P c j

def amt : Option KI → ℕ
  | some none => 1
  | _ => N

instance readyPay_storable (c : Dev nD) : Storable (upEmb : UEmb _ 𝕄) (readyPay P c) := by
  unfold readyPay
  have : ∀ j : Fin 32, Storable (upEmb : UEmb _ 𝕄) (if gd j (P.n (nbr c)) = 1#1 then oPc P (nbr c) (32 + j.val) ∅ else iprop(emp)) := fun j => by
    split <;> infer_instance
  infer_instance

instance pay_storable (c : Dev nD) (k : Option KI) : Storable (upEmb : UEmb _ 𝕄) (pay P c k) := by
  rcases k with _ | _ | ⟨i, j⟩
  · unfold pay; infer_instance
  · unfold pay; infer_instance
  · fin_cases i
    · show Storable upEmb (locPay P c j); unfold locPay; split <;> infer_instance
    · show Storable upEmb (sendPay P c j); unfold sendPay; split <;> infer_instance
    · show Storable upEmb (recvPay P c j); unfold recvPay; infer_instance

def Rd : Rounds.Schedule (GSem nD τ sig) Unit 𝕄 where
  duties g r := if r = 0 ∧ g.1.2 = .tc ∧ On P g.1.1 (idx g.2) then {()} else ∅
  unitless _ := False
  amount g _ _ := amt (idx g.2)
  payload g _ _ := pay P g.1.1 (idx g.2)
  amount_pos g _ _ _ := by
    unfold amt; split
    · exact Nat.one_pos
    · exact N_pos

instance Rd_payload_storable (g : GSem nD τ sig) (r : ℕ) (d : Unit) : Storable (upEmb : UEmb _ 𝕄) ((Rd P).payload g r d) := by
  show Storable upEmb (pay P g.1.1 (idx g.2)); infer_instance

theorem duties_on (c : Dev nD) (k : KI) (h : On P c (some k)) : (Rd P).duties (kcell (c, k)) 0 = {()} := by
  dsimp only [Rd]; rw [idx_osem]; exact if_pos ⟨rfl, rfl, h⟩
theorem duties_off (c : Dev nD) (k : KI) (h : ¬On P c (some k)) (r : ℕ) : (Rd P).duties (kcell (c, k)) r = ∅ := by
  dsimp only [Rd]; rw [idx_osem]; exact if_neg fun h' => h h'.2.2
theorem duties_later (g : GSem nD τ sig) : ∀ r, 1 ≤ r → (Rd P).duties g r = ∅ :=
  fun r hr => by dsimp only [Rd]; exact if_neg fun h => by omega
theorem amount_at (c : Dev nD) (k : KI) (u : Unit) : (Rd P).amount (kcell (c, k)) 0 u = amt (some k) := by
  dsimp only [Rd]; rw [idx_osem]
theorem payload_at (c : Dev nD) (k : KI) (u : Unit) : (Rd P).payload (kcell (c, k)) 0 u = pay P c (some k) := by
  dsimp only [Rd]; rw [idx_osem]
theorem expect_on (c : Dev nD) (k : KI) (h : On P c (some k)) : (Rd P).expect (kcell (c, k)) 0 = amt (some k) := by
  unfold Schedule.expect Schedule.amountOf; rw [duties_on P c k h, Finset.sum_singleton, amount_at]
theorem rest_on (c : Dev nD) (k : KI) (h : On P c (some k)) :
    bigSep ((Rd P).duties (kcell (c, k)) 0 \ ∅) (fun u => (Rd P).payload (kcell (c, k)) 0 u) = pay P c (some k) := by
  rw [Finset.sdiff_empty, duties_on P c k h, bigSep_singleton, payload_at]

/-! ## What each core owes at the start; the levels -/

/-- What chunk `j` device `c` sends will put on its neighbour's landing cell. -/
def owe (c : Dev nD) (j : Fin 32) : CellTallies nD τ sig Unit :=
  if gd j (P.n c) = 1#1 then tallyAt (kcell (nbr c, some (2, j))) () N else 0

/-- What is still owed when the chunks below `i` have been sent. -/
def oweFrom (c : Dev nD) (i : Nat) : CellTallies nD τ sig Unit := ∑ j ∈ from_ i, owe P c j

theorem oweFrom_step (c : Dev nD) (j : Fin 32) : oweFrom P c j.val = oweFrom P c (j.val + 1) + owe P c j := by
  unfold oweFrom; rw [from_step, Finset.sum_insert (from_notMem j), add_comm]
theorem oweFrom_end (c : Dev nD) : oweFrom P c 32 = 0 := by unfold oweFrom; rw [from_end, Finset.sum_empty]

def O₀ (c : Dev nD) : CellTallies nD τ sig Unit := oweFrom P c 0 + tallyAt (kcell (nbr c, none)) () 1

def L (g : GSem nD τ sig) : Finset Unit := if g.1.2 = .tc then {()} else ∅
def lvl : Option KI → ℕ
  | some none => 1
  | some (some (2, _)) => 2
  | _ => 0
def lv (g : GSem nD τ sig) (_ : Unit) : ℕ := lvl (idx g.2)
theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {j : Fin 32} {g : GSem nD τ sig} {u : Unit} (h : 0 < owe P c j g u) : g = kcell (nbr c, some (2, j)) := by
  unfold owe at h
  split at h
  · rw [tallyAt_apply] at h
    by_contra hn
    rw [if_neg (fun h' => hn h'.1)] at h
    exact Nat.lt_irrefl 0 h
  · exact absurd h (Nat.lt_irrefl 0)

theorem oweFrom_pos {c : Dev nD} {i : Nat} {g : GSem nD τ sig} {u : Unit} (h : 0 < oweFrom P c i g u) :
    ∃ j : Fin 32, g = kcell (nbr c, some (2, j)) := by
  unfold oweFrom at h
  rw [Finset.sum_apply, Finsupp.finset_sum_apply] at h
  obtain ⟨j, _, hj⟩ : ∃ j ∈ from_ i, 0 < owe P c j g u := by
    by_contra hn
    simp only [not_exists, not_and, not_lt] at hn
    rw [Finset.sum_eq_zero fun j hj => Nat.le_zero.mp (hn j hj)] at h
    exact Nat.lt_irrefl 0 h
  exact ⟨j, owe_pos P hj⟩

theorem O₀_pos {c : Dev nD} {g : GSem nD τ sig} {u : Unit} (h : 0 < O₀ P c g u) :
    (∃ j : Fin 32, g = kcell (nbr c, some (2, j))) ∨ g = kcell (nbr c, none) := by
  unfold O₀ at h
  rw [Pi.add_apply, Finsupp.add_apply] at h
  by_cases h1 : 0 < oweFrom P c 0 g u
  · exact .inl (oweFrom_pos P h1)
  · right
    rw [tallyAt_apply] at h
    by_contra hn
    rw [if_neg (fun h' => hn h'.1)] at h
    omega

/-- A cell below the ready cell may be waited on while anything is owed. -/
theorem mayWait_low (c : Dev nD) (sm : SemLoc sig) (hs : lvl (idx sm) = 0) (O : CellTallies nD τ sig Unit) (hO : O = O₀ P c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos P hg with ⟨j, rfl⟩ | rfl <;> exact Finset.mem_singleton_self _)
      (fun p hp => by rw [Finset.mem_singleton.mp hp]; dsimp only [lv]; rw [hs])
      (fun g u hg => by
        rcases O₀_pos P hg with ⟨j, rfl⟩ | rfl
        · dsimp only [lv]; rw [idx_osem]; show 0 < 2; decide
        · dsimp only [lv]; rw [idx_osem]; decide)
  · rw [MayWait_zero]; iintro -; iempintro

theorem mayWait_ready (c : Dev nD) : (levAts L lv : sProp 𝕄) ⊢ MayWait (c : Thread nD τ) (osem none) () (oweFrom P c 0) :=
  MayOwe.of_cut (L := L) (lev := lv) 1 (fun p hp => by rw [Finset.mem_singleton.mp hp, L_tc]; exact Finset.mem_singleton_self _)
    (fun g u hg => by obtain ⟨j, rfl⟩ := oweFrom_pos P hg; exact Finset.mem_singleton_self _)
    (fun p hp => by rw [Finset.mem_singleton.mp hp]; dsimp only [lv]; rw [idx_osem]; decide)
    (fun g u hg => by obtain ⟨j, rfl⟩ := oweFrom_pos P hg; dsimp only [lv]; rw [idx_osem]; show 1 < 2; decide)

end Cert.KernelIdeal.Move
end
-- ==== Proof.Steps.lean ====
/- One section of each run against the schedule: starting a local copy, waiting for it, sending a chunk,
   and waiting for a chunk to have left and for the neighbour's to have landed; and a run of sections. -/
module

public import proofs.«01_k».proof.Proof.Plan

@[expose] public section

noncomputable section

namespace Cert.KernelIdeal.Move

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

abbrev 𝒱₀ : Variants := Variants.none

/-- Device `c` runs `p` to a state `Q` describes. -/
abbrev runs (c : Dev nD) {α : Type} (p : KProg F α) (Q : α → sProp 𝕄) : sProp 𝕄 :=
  wp frame (wpE (defs₀ (F := F)) 𝒱₀ (c : Thread nD τ) none) Set.univ p Q

/-- A run of sections, given one. -/
theorem run_chunks (c : Dev nD) {α : Type} (f : Fin 32 → KProg F α → KProg F α) (St : Nat → sProp 𝕄) (A B : Fin 32 → sProp 𝕄)
    (R : sProp 𝕄) [BI.Persistent R] (Q : α → sProp 𝕄)
    (h : ∀ (j : Fin 32) (k : KProg F α), iprop(R ∗ St j.val ∗ A j ∗ ((St (j.val + 1) ∗ B j) -∗ runs c k Q)) ⊢ runs c (f j k) Q)
    (k : KProg F α) :
    iprop(R ∗ St 0 ∗ bigSep Finset.univ A ∗ ((St 32 ∗ bigSep Finset.univ B) -∗ runs c k Q)) ⊢ runs c (chunksK f 0 32 (by decide) k) Q := by
  have key : ∀ (n a : Nat) (ha : a + n = 32),
      iprop(R ∗ St a ∗ bigSep (from_ a) A ∗ ((St 32 ∗ bigSep (from_ a) B) -∗ runs c k Q)) ⊢ runs c (chunksK f a n (by omega) k) Q := by
    intro n
    induction n with
    | zero =>
      intro a ha
      have ha' : a = 32 := by omega
      subst ha'
      rw [from_end, bigSep_empty, bigSep_empty, chunksK]
      iintro ⟨-, HS, -, Hk⟩
      iapply Hk
      isplitl [HS]; · iexact HS
      iempintro
    | succ n ih =>
      intro a ha
      have hl : a < 32 := by omega
      have e := from_step ⟨a, hl⟩
      have hn := from_notMem ⟨a, hl⟩
      simp only [] at e hn
      have eA : bigSep (from_ a) A ⊢ iprop(A ⟨a, hl⟩ ∗ bigSep (from_ (a + 1)) A) := by rw [e, bigSep_insert hn]; exact .rfl
      have eB : iprop(B ⟨a, hl⟩ ∗ bigSep (from_ (a + 1)) B) ⊢ bigSep (from_ a) B := by rw [e, bigSep_insert hn]; exact .rfl
      rw [chunksK]
      iintro ⟨#HR, HS, HA', Hk⟩
      ihave HA2 := eA $$ HA'
      icases HA2 with ⟨HA, HAs⟩
      iapply (h ⟨a, hl⟩ _)
      isplitr; · iexact HR
      isplitl [HS]; · iexact HS
      isplitl [HA]; · iexact HA
      iintro ⟨HS, HB⟩
      iapply (ih (a + 1) (by omega))
      isplitr; · iexact HR
      isplitl [HS]; · iexact HS
      isplitl [HAs]; · iexact HAs
      iintro ⟨HS, HBs⟩
      iapply Hk
      isplitl [HS]; · iexact HS
      iapply eB
      isplitl [HB] <;> iassumption
  have := key 32 0 rfl
  rwa [from_zero] at this

variable (P : Plan F) (K : Dev nD × KI → ℕ) (ιwm : ℕ)

/-- What every device knows: each cell's invariant, that each is at its first round, and write mode's. -/
def ctx : sProp 𝕄 :=
  iprop((bigSep Finset.univ fun ck : Dev nD × KI => cellInv ER (Rd P) (K ck) (kcell ck))
    ∗ (bigSep Finset.univ fun ck : Dev nD × KI => reached ER (kcell ck) 0) ∗ wmInv EW ιwm)

instance ctx_persistent : BI.Persistent (ctx P K ιwm) := by unfold ctx; infer_instance

theorem ctx_inv (ck : Dev nD × KI) : ctx P K ιwm ⊢ cellInv ER (Rd P) (K ck) (kcell ck) := by
  have h : (bigSep Finset.univ fun ck : Dev nD × KI => cellInv ER (Rd P) (K ck) (kcell ck)) ⊢ cellInv ER (Rd P) (K ck) (kcell ck) :=
    bigSep_elim (Finset.mem_univ ck)
  unfold ctx; iintro ⟨H, -⟩
  iapply h; iexact H
theorem ctx_reached (ck : Dev nD × KI) : ctx P K ιwm ⊢ reached ER (kcell ck) 0 := by
  have h : (bigSep Finset.univ fun ck : Dev nD × KI => (reached ER (kcell ck) 0 : sProp 𝕄)) ⊢ reached ER (kcell ck) 0 :=
    bigSep_elim (Finset.mem_univ ck)
  unfold ctx; iintro ⟨-, H, -⟩
  iapply h; iexact H
theorem ctx_wm : ctx P K ιwm ⊢ wmInv EW ιwm := by
  unfold ctx; iintro ⟨-, -, H⟩; iexact H

variable (c : Dev nD)

/-! ## The local copies -/

/-- Before chunk `j`'s local copy, while it is on its way, and after. -/
def locA (j : Fin 32) : sProp 𝕄 := iprop(xPts P c j.val ∗ oPc P c j.val ∅ ∗ dutyTok ER (kcell (c, some (0, j))) 0 ())
def locB (j : Fin 32) : sProp 𝕄 :=
  if h : gd j (P.n2 c) = 1#1 then iprop(xL' P c j h ∗ cred (tallyAt (kcell (c, some (0, j))) () N)) else iprop(xPts P c j.val ∗ oPc P c j.val ∅)
def locC (j : Fin 32) : sProp 𝕄 := iprop(xPts P c j.val ∗ oPc P c j.val (regL P c j) ∗ semVal (kcell (c, some (0, j))) 0)

theorem wp_secL {α : Type} (Q : α → sProp 𝕄) (j : Fin 32) (k : KProg F α) :
    iprop(ctx P K ιwm ∗ emp ∗ locA P c j ∗ ((emp ∗ locB P c j) -∗ runs c k Q))
      ⊢ runs c (secL xM (Memref.isWhole_whole _) oM (Memref.isWhole_whole _) cc0_scratch2 (P.a2 c) (P.b2 c) (P.n2 c) (P.hl c) j k) Q := by
  unfold locA locB secL
  by_cases h : gd j (P.n2 c) = 1#1
  · rw [dif_pos h, dif_pos h]
    iintro ⟨#Hctx, -, ⟨Hx, Ho, Ht⟩, Hk⟩
    unfold xPts oPc wb
    icases Ho with ⟨%f, Ho⟩
    ihave Hx2 := (pointsTo_split_subset (Finset.subset_univ (chunk xM (off3 j (P.a2 c) (P.b2 c)) (P.hl c j h)).view.set)).1 $$ Hx
    icases Hx2 with ⟨Hx, Hx'⟩
    iapply (Rounds.wp_copy 𝒱₀ ER (Rd P) (c : Thread nD τ) none (κ := K (c, some (0, j))) (r := 0) (d := ())
        (src := chunk xM (off3 j (P.a2 c) (P.b2 c)) (P.hl c j h)) (dst := chunk oM (off3 j (P.a2 c) (P.b2 c)) (P.hl c j h))
        (sem := .dma (semAt cc0_scratch2 j)) (fs := P.X c) (q := piece j.val)
        (R := willBeTo EW (oLoc c) Finset.univ (piece j.val) f (P.g c) (∅ ∪ (chunk oM (off3 j (P.a2 c) (P.b2 c)) (P.hl c j h)).view.set))
        (by rw [duties_on P c (some (0, j)) h]; exact Finset.mem_singleton_self _) () N rfl (amount_at P c (some (0, j)) ())
        (by
          rw [payload_at P c (some (0, j)) ()]
          show _ ⊢ locPay P c j
          unfold locPay oPc wb regL xL
          rw [dif_pos h, dif_pos h, Finset.empty_union]
          iintro ⟨Ho, Hx⟩
          isplitl [Ho]; · iexists f; iexact Ho
          iexact Hx)) $$ [Hx Ho Ht]
    · isplitr; · iapply (ctx_inv P K ιwm (c, some (0, j))); iexact Hctx
      isplitl [Hx]; · iexact Hx
      isplitl [Ho]
      · iapply (willBeTo_writeUpdate (emb := EW) (ιwm := ιwm) (c : Thread nD τ) (Finset.subset_univ _) (P.hL c j h))
        isplitr; · iapply (ctx_wm P K ιwm); iexact Hctx
        iexact Ho
      isplitl [Ht]; · iexact Ht
      iapply (ctx_reached P K ιwm (c, some (0, j))); iexact Hctx
    iintro Hc
    iapply Hk
    isplitr; · iempintro
    unfold xL'
    isplitl [Hx'] <;> iassumption
  · rw [dif_neg h, dif_neg h]
    iintro ⟨-, -, ⟨Hx, Ho, -⟩, Hk⟩
    iapply Hk
    isplitr; · iempintro
    isplitl [Hx] <;> iassumption

/-- The owner of a used cell waits for all it is to be paid. -/
theorem wait_close {α : Type} (Q : α → sProp 𝕄) (c : Dev nD) (k : KI) (h : On P c (some k)) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (osem k) (amt (some k)) K)
    (O : CellTallies nD τ sig Unit) (W : Waits sig Unit) (kk : PUnit → KProg F α) :
    iprop(ctx P K ιwm ∗ cred (tallyAt (kcell (c, k)) () (amt (some k))) ∗ owes (c : Thread nD τ) O W ∗ MayWait (c : Thread nD τ) (osem k) () O
        ∗ atPos ER (kcell (c, k)) 0 ∅ 0)
      ⊢ iprop((((∃ W, owes (c : Thread nD τ) O W) ∗ semVal (kcell (c, k)) 0 ∗ pay P c (some k)) -∗ runs c (kk ⟨⟩) Q)
          -∗ runs c (.op w kk) Q) := by
  iintro ⟨#Hctx, Hc, HO, Hm, Hat⟩ Hk
  iapply (Rounds.wp_wait_rest_token 𝒱₀ ER (Rd P) (c : Thread nD τ) none (κ := K (c, k)) (sm := osem k) hw (Set.mem_univ _) () (O := O) (W := W)
      (R := 0) (m := 0) (T := ∅) (by rw [Nat.zero_add]; exact (expect_on P c k h).symm)) $$ [Hc HO Hm Hat]
  · isplitr; · iapply (ctx_inv P K ιwm (c, k)); iexact Hctx
    isplitl [Hc]; · iexact Hc
    isplitl [HO]; · iexact HO
    isplitl [Hm] <;> iassumption
  iintro ⟨HO, Hat, -, Hpay⟩
  ihave Hp := (Entails.of_eq (rest_on P c k h)) $$ Hpay
  imod (Rounds.cell_close ER (Rd P) (Set.mem_univ (K (c, k))) (fun h => h) (R := 0 + 1) (duties_later P (kcell (c, k)))) $$ [Hat] with Hz
  · isplitr; · iapply (ctx_inv P K ιwm (c, k)); iexact Hctx
    iexact Hat
  iapply Hk
  isplitl [HO]; · iexists _; iexact HO
  isplitl [Hz] <;> iassumption

/-- A cell not used is closed as it stands. -/
theorem idle_close (c : Dev nD) (k : KI) (h : ¬On P c (some k)) :
    iprop(ctx P K ιwm ∗ atPos ER (kcell (c, k)) 0 ∅ 0) ⊢ |={Set.univ}=> semVal (kcell (c, k)) 0 := by
  iintro ⟨#Hctx, Hat⟩
  iapply (Rounds.cell_close ER (Rd P) (Set.mem_univ (K (c, k))) (fun h => h) (R := 0) (fun r _ => duties_off P c k h r))
  isplitr; · iapply (ctx_inv P K ιwm (c, k)); iexact Hctx
  iexact Hat

theorem wp_secW {α : Type} (Q : α → sProp 𝕄) (j : Fin 32) (k : KProg F α) :
    iprop((ctx P K ιwm ∗ levAts L lv) ∗ (∃ W, owes (c : Thread nD τ) (O₀ P c) W) ∗ (locB P c j ∗ atPos ER (kcell (c, some (0, j))) 0 ∅ 0)
        ∗ (((∃ W, owes (c : Thread nD τ) (O₀ P c) W) ∗ locC P c j) -∗ runs c k Q))
      ⊢ runs c (secW xM (Memref.isWhole_whole _) oM (Memref.isWhole_whole _) cc0_scratch2 (P.a2 c) (P.b2 c) (P.n2 c) (P.hl c) j k) Q := by
  unfold locB locC secW
  by_cases h : gd j (P.n2 c) = 1#1
  · rw [dif_pos h, dif_pos h]
    iintro ⟨⟨#Hctx, #Hlev⟩, ⟨%W, HO⟩, ⟨⟨Hx', Hc⟩, Hat⟩, Hk⟩
    iapply (wait_close P K ιwm Q c (some (0, j)) h (fun K0 => wpE_waitDma2_eq 𝒱₀ (c : Thread nD τ) none Set.univ K0) (O₀ P c) W (fun _ => k)) $$ [Hc HO Hat]
    · isplitr; · iexact Hctx
      isplitl [Hc]; · iexact Hc
      isplitl [HO]; · iexact HO
      isplitr
      · iapply (mayWait_low P c (osem (some (0, j))) (by rw [idx_osem]; rfl) (O₀ P c) (.inl rfl)); iexact Hlev
      iexact Hat
    iintro ⟨HO, Hz, Hpay⟩
    iapply Hk
    isplitl [HO]; · iexact HO
    ihave Hp := (show pay P c (some (some (0, j))) ⊢ iprop(oPc P c j.val (regL P c j) ∗ xL P c j h) from by
      show locPay P c j ⊢ _
      unfold locPay; rw [dif_pos h]) $$ Hpay
    icases Hp with ⟨Ho, Hx⟩
    isplitl [Hx Hx']
    · unfold xPts xL xL'
      iapply (pointsTo_split_subset (Finset.subset_univ (chunk xM (off3 j (P.a2 c) (P.b2 c)) (P.hl c j h)).view.set)).2
      isplitl [Hx] <;> iassumption
    isplitl [Ho] <;> iassumption
  · rw [dif_neg h, dif_neg h]
    iintro ⟨⟨#Hctx, -⟩, HO, ⟨⟨Hx, Ho⟩, Hat⟩, Hk⟩
    imod (idle_close P K ιwm c (some (0, j)) h) $$ [Hat] with Hz
    · isplitr; · iexact Hctx
      iexact Hat
    iapply Hk
    isplitl [HO]; · iexact HO
    isplitl [Hx]; · iexact Hx
    isplitl [Ho]
    · unfold regL; rw [dif_neg h]; iexact Ho
    iexact Hz

/-! ## The copies to the neighbour -/

/-- A piece of the neighbour's result, handed over for chunk `j`. -/
def given (j : Fin 32) : sProp 𝕄 := if gd j (P.n c) = 1#1 then oPc P (nbr c) (32 + j.val) ∅ else iprop(emp)
/-- A piece of a device's own result no chunk will come for. -/
def kept (j : Fin 32) : sProp 𝕄 := if gd j (P.n c) = 1#1 then iprop(emp) else oPc P c (32 + j.val) ∅
/-- What chunk `j` coming will put on the landing cell. -/
def due (j : Fin 32) : sProp 𝕄 := if gd j (P.n c) = 1#1 then cred (tallyAt (kcell (c, some (2, j))) () N) else iprop(emp)

def remA (j : Fin 32) : sProp 𝕄 :=
  iprop(xPts P c (32 + j.val) ∗ given P c j ∗ dutyTok ER (kcell (c, some (1, j))) 0 () ∗ dutyTok ER (kcell (nbr c, some (2, j))) 0 ())
def remB (j : Fin 32) : sProp 𝕄 :=
  if h : gd j (P.n c) = 1#1 then iprop(xS' P c j h ∗ cred (tallyAt (kcell (c, some (1, j))) () N)) else xPts P c (32 + j.val)
def remC (j : Fin 32) : sProp 𝕄 :=
  iprop(xPts P c (32 + j.val) ∗ oPc P c (32 + j.val) (regR P c j) ∗ semVal (kcell (c, some (1, j))) 0 ∗ semVal (kcell (c, some (2, j))) 0)

theorem regS_eq (j : Fin 32) (h : gd j (P.n c) = 1#1) :
    regR P (nbr c) j = (chunk oM (off3 j (P.e c) (P.b c)) (P.hg c j h)).view.set := by
  have key : ∀ d : Dev nD, d = c → ∀ (h : gd j (P.n c) = 1#1), (if h : gd j (P.n d) = 1#1 then (chunk oM (off3 j (P.e d) (P.b d)) (P.hg d j h)).view.set else ∅)
      = (chunk oM (off3 j (P.e c) (P.b c)) (P.hg c j h)).view.set := by
    intro d hd h; subst hd; rw [dif_pos h]
  exact key (nbr (nbr c)) (nbr_nbr c) h

theorem wp_secR {α : Type} (Q : α → sProp 𝕄) (j : Fin 32) (k : KProg F α) :
    iprop(ctx P K ιwm ∗ (∃ W, owes (c : Thread nD τ) (oweFrom P c j.val) W) ∗ remA P c j
        ∗ (((∃ W, owes (c : Thread nD τ) (oweFrom P c (j.val + 1)) W) ∗ remB P c j) -∗ runs c k Q))
      ⊢ runs c (secR xM (Memref.isWhole_whole _) oM (Memref.isWhole_whole _) cc0_scratch0 cc0_scratch1 c (P.a c) (P.e c) (P.b c) (P.n c) (P.hf c) (P.hg c) j k) Q := by
  unfold remA remB secR given
  by_cases h : gd j (P.n c) = 1#1
  · rw [dif_pos h, dif_pos h, if_pos h]
    have hon : On P (nbr c) (some (some (2, j))) := by show gd j (P.n (nbr c)) = 1#1; rw [P.hn]; exact h
    iintro ⟨#Hctx, ⟨%W, HO⟩, ⟨Hx, Ho, Ht, Ht2⟩, Hk⟩
    unfold xPts oPc wb
    icases Ho with ⟨%f, Ho⟩
    ihave Hx2 := (pointsTo_split_subset (Finset.subset_univ (chunk xM (off3 j (P.a c) (P.b c)) (P.hf c j h)).view.set)).1 $$ Hx
    icases Hx2 with ⟨Hx, Hx'⟩
    iapply (Rounds.wp_send 𝒱₀ ER (Rd P) (c : Thread nD τ) none (κ₁ := K (c, some (1, j))) (κ₂ := K (nbr c, some (2, j)))
        (c' := (Dev.tc (nbr c) : Thread nD τ))
        (r₁ := 0) (r₂ := 0) (d₁ := ()) (d₂ := ())
        (src := chunk xM (off3 j (P.a c) (P.b c)) (P.hf c j h)) (dst := chunk oM (off3 j (P.e c) (P.b c)) (P.hg c j h))
        (sS := .dma (semAt cc0_scratch0 j)) (sem := .dma (semAt cc0_scratch1 j)) (fs := P.X c) (q := piece (32 + j.val))
        (R := willBeTo EW (oLoc (nbr c)) Finset.univ (piece (32 + j.val)) f (P.g (nbr c)) (∅ ∪ (chunk oM (off3 j (P.e c) (P.b c)) (P.hg c j h)).view.set))
        (by rw [duties_on P c (some (1, j)) h]; exact Finset.mem_singleton_self _)
        (by rw [duties_on P (nbr c) (some (2, j)) hon]; exact Finset.mem_singleton_self _)
        () () N rfl (amount_at P c (some (1, j)) ()) (amount_at P (nbr c) (some (2, j)) ()) (oweFrom P c (j.val + 1))
        (by rw [oweFrom_step]; unfold owe; rw [if_pos h]) (O₀ := oweFrom P c j.val) (W := W)
        (by
          rw [payload_at P c (some (1, j)) ()]
          show _ ⊢ sendPay P c j
          unfold sendPay xS
          rw [dif_pos h])
        (by
          rw [payload_at P (nbr c) (some (2, j)) ()]
          show _ ⊢ recvPay P (nbr c) j
          unfold recvPay oPc wb
          rw [regS_eq P c j h, Finset.empty_union]
          iintro Ho
          iexists f; iexact Ho)) $$ [Hx Ho HO Ht Ht2]
    · isplitr; · iapply (ctx_inv P K ιwm (c, some (1, j))); iexact Hctx
      isplitr; · iapply (ctx_inv P K ιwm (nbr c, some (2, j))); iexact Hctx
      isplitl [Hx]; · iexact Hx
      isplitl [Ho]
      · iapply (willBeTo_writeUpdate (emb := EW) (ιwm := ιwm) (Dev.tc (nbr c) : Thread nD τ) (Finset.subset_univ _) (P.hR c j h))
        isplitr; · iapply (ctx_wm P K ιwm); iexact Hctx
        iexact Ho
      isplitl [HO]; · iexact HO
      isplitl [Ht]; · iexact Ht
      isplitr; · iapply (ctx_reached P K ιwm (c, some (1, j))); iexact Hctx
      isplitl [Ht2]; · iexact Ht2
      iapply (ctx_reached P K ιwm (nbr c, some (2, j))); iexact Hctx
    iintro ⟨Hc, HO⟩
    iapply Hk
    isplitl [HO]; · iexists W; iexact HO
    unfold xS'
    isplitl [Hx'] <;> iassumption
  · rw [dif_neg h, dif_neg h]
    iintro ⟨-, HO, ⟨Hx, -, -, -⟩, Hk⟩
    iapply Hk
    isplitl [HO]
    · rw [show oweFrom P c (j.val + 1) = oweFrom P c j.val from by rw [oweFrom_step]; unfold owe; rw [if_neg h, add_zero]]
      iexact HO
    iexact Hx

theorem wp_secV {α : Type} (Q : α → sProp 𝕄) (j : Fin 32) (k : KProg F α) :
    iprop(ctx P K ιwm ∗ (∃ W, owes (c : Thread nD τ) 0 W)
        ∗ (remB P c j ∗ kept P c j ∗ due P c j ∗ atPos ER (kcell (c, some (1, j))) 0 ∅ 0 ∗ atPos ER (kcell (c, some (2, j))) 0 ∅ 0)
        ∗ (((∃ W, owes (c : Thread nD τ) 0 W) ∗ remC P c j) -∗ runs c k Q))
      ⊢ runs c (secV xM (Memref.isWhole_whole _) oM (Memref.isWhole_whole _) cc0_scratch0 cc0_scratch1 (P.a c) (P.e c) (P.b c) (P.n c) (P.hf c) (P.hg c) j k) Q := by
  unfold remB remC secV kept due
  by_cases h : gd j (P.n c) = 1#1
  · rw [dif_pos h, dif_pos h, if_pos h, if_pos h]
    iintro ⟨#Hctx, ⟨%W, HO⟩, ⟨⟨Hx', Hc⟩, -, Hd, Hat1, Hat2⟩, Hk⟩
    iapply (wait_close P K ιwm Q c (some (1, j)) h (fun K0 => wpE_waitDma2_eq 𝒱₀ (c : Thread nD τ) none Set.univ K0) 0 W _) $$ [Hc HO Hat1]
    · isplitr; · iexact Hctx
      isplitl [Hc]; · iexact Hc
      isplitl [HO]; · iexact HO
      isplitr; · rw [MayWait_zero]; iempintro
      iexact Hat1
    iintro ⟨⟨%W', HO⟩, Hz1, Hpay⟩
    ihave Hx := (show pay P c (some (some (1, j))) ⊢ xS P c j h from by
      show sendPay P c j ⊢ _
      unfold sendPay; rw [dif_pos h]) $$ Hpay
    iapply (wait_close P K ιwm Q c (some (2, j)) h (fun K0 => wpE_waitDma2_eq 𝒱₀ (c : Thread nD τ) none Set.univ K0) 0 W' (fun _ => k)) $$ [Hd HO Hat2]
    · isplitr; · iexact Hctx
      isplitl [Hd]; · iexact Hd
      isplitl [HO]; · iexact HO
      isplitr; · rw [MayWait_zero]; iempintro
      iexact Hat2
    iintro ⟨HO, Hz2, Hpay⟩
    iapply Hk
    isplitl [HO]; · iexact HO
    isplitl [Hx Hx']
    · unfold xPts xS xS'
      iapply (pointsTo_split_subset (Finset.subset_univ (chunk xM (off3 j (P.a c) (P.b c)) (P.hf c j h)).view.set)).2
      isplitl [Hx] <;> iassumption
    isplitl [Hpay]; · iapply (show pay P c (some (some (2, j))) ⊢ oPc P c (32 + j.val) (regR P c j) from .rfl); iexact Hpay
    isplitl [Hz1] <;> iassumption
  · rw [dif_neg h, dif_neg h, if_neg h]
    iintro ⟨#Hctx, HO, ⟨Hx, Ho, -, Hat1, Hat2⟩, Hk⟩
    imod (idle_close P K ιwm c (some (1, j)) h) $$ [Hat1] with Hz1
    · isplitr; · iexact Hctx
      iexact Hat1
    imod (idle_close P K ιwm c (some (2, j)) h) $$ [Hat2] with Hz2
    · isplitr; · iexact Hctx
      iexact Hat2
    iapply Hk
    isplitl [HO]; · iexact HO
    isplitl [Hx]; · iexact Hx
    isplitl [Ho]
    · unfold regR; rw [dif_neg (by rw [P.hn]; exact h)]; iexact Ho
    isplitl [Hz1] <;> iassumption

end Cert.KernelIdeal.Move
end
-- ==== Proof.Run.lean ====
/- The body past its reads, run against the schedule: the rows dealt into pieces, the local copies started
   and awaited, ready said and heard, every chunk sent, every departure and landing awaited, and the
   pieces gathered again. -/
module

public import proofs.«01_k».proof.Proof.Steps

@[expose] public section

noncomputable section

namespace Cert.KernelIdeal.Move

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

/-- A family over a device's cells, by kind. -/
theorem bigSep_KI (Φ : KI → sProp 𝕄) :
    bigSep Finset.univ Φ = iprop(Φ none ∗ (bigSep Finset.univ fun j : Fin 32 => Φ (some (0, j)))
      ∗ (bigSep Finset.univ fun j : Fin 32 => Φ (some (1, j))) ∗ (bigSep Finset.univ fun j : Fin 32 => Φ (some (2, j)))) := by
  have e : (Finset.univ : Finset KI) = insert none (Finset.univ.map Function.Embedding.some) := by
    ext k; cases k <;> simp
  rw [e, bigSep_insert (by simp), bigSep_map, bigSep_univ_prod]
  rw [bigSep_univ_eq_bigSepL [0, 1, 2] (by decide) (by decide) (fun i : Fin 3 => bigSep Finset.univ fun j : Fin 32 => Φ (Function.Embedding.some (i, j)))]
  rfl

variable (P : Plan F) (K : Dev nD × KI → ℕ) (ιwm : ℕ) (c : Dev nD)

/-- What the result holds at the end: at every place a chunk was copied to, what was wanted there. -/
def Rel (f' : Buf (Elt F) (oLoc c)) : Prop :=
  ∀ i ∈ Finset.univ.biUnion (regL P c) ∪ (Finset.univ.biUnion (regR P c) ∪ ∅), ∀ u, P.g c i = some u → f' i = u

/-- The rights to pay that device `c` has: its own local copies and departures, its neighbour's landings and ready. -/
def toks : sProp 𝕄 :=
  iprop(dutyTok ER (kcell (nbr c, none)) 0 () ∗ (bigSep Finset.univ fun j : Fin 32 => dutyTok ER (kcell (c, some (0, j))) 0 ())
    ∗ (bigSep Finset.univ fun j : Fin 32 => dutyTok ER (kcell (c, some (1, j))) 0 ())
    ∗ (bigSep Finset.univ fun j : Fin 32 => dutyTok ER (kcell (nbr c, some (2, j))) 0 ()))

/-- What device `c` is bound to be paid by its neighbour. -/
def dues : sProp 𝕄 := iprop(cred (tallyAt (kcell (c, none)) () 1) ∗ bigSep Finset.univ fun j : Fin 32 => due P c j)

/-- A piece of a device's own result is handed over or kept. -/
theorem hand_over (j : Fin 32) : oPc P c (32 + j.val) ∅ ⊢ iprop((if gd j (P.n c) = 1#1 then oPc P c (32 + j.val) ∅ else iprop(emp)) ∗ kept P c j) := by
  unfold kept
  by_cases h : gd j (P.n c) = 1#1
  · rw [if_pos h, if_pos h]; iintro H; isplitl [H]; · iexact H
    iempintro
  · rw [if_neg h, if_neg h]; iintro H; isplitr; · iempintro
    iexact H

theorem readyPay_out : (bigSep Finset.univ fun j : Fin 32 => if gd j (P.n c) = 1#1 then oPc P c (32 + j.val) ∅ else iprop(emp)) ⊢ readyPay P (nbr c) := by
  unfold readyPay; rw [nbr_nbr]

theorem readyPay_in : readyPay P c ⊢ bigSep Finset.univ (given P c) := by
  unfold readyPay given; rw [P.hn]

abbrev restP : KProg F PUnit :=
  restK xM (Memref.isWhole_whole _) oM (Memref.isWhole_whole _) cc0_scratch0 cc0_scratch1 cc0_scratch2 cc0_scoped0 c
    (P.n c) (P.a c) (P.e c) (P.b c) (P.hf c) (P.hg c) (P.a2 c) (P.b2 c) (P.n2 c) (P.hl c)

/-- What the body starts from and what it ends with. -/
def begins : sProp 𝕄 :=
  iprop((bigSep Finset.univ fun k : KI => atPos ER (kcell (c, k)) 0 ∅ 0) ∗ toks c ∗ dues P c
    ∗ (∃ W, owes (c : Thread nD τ) (O₀ P c) W) ∗ ((xLoc c) ↦{fullShare} P.X c) ∗ (∃ f, (oLoc c) ↦{fullShare} f))
def ends : sProp 𝕄 :=
  iprop((bigSep Finset.univ fun k : KI => semVal (kcell (c, k)) 0) ∗ (∃ W, owes (c : Thread nD τ) 0 W)
    ∗ ((xLoc c) ↦{fullShare} P.X c) ∗ (∃ f', ⌜Rel P c f'⌝ ∗ (oLoc c) ↦{fullShare} f'))

set_option maxHeartbeats 800000 in
theorem wp_rest (Q : PUnit → sProp 𝕄) :
    iprop((ctx P K ιwm ∗ levAts L lv) ∗ begins P c ∗ (ends P c -∗ Q ⟨⟩)) ⊢ runs c (restP P c) Q := by
  unfold restP restK begins toks dues ends
  rw [bigSep_KI, bigSep_KI]
  simp only [semSignalWord, semWaitWord, Prog.lift, Prog.bind_op, Prog.bind_ret, Prog.pure_eq_ret]
  iintro ⟨⟨#Hctx, #Hlev⟩, ⟨⟨Hat, HatL, HatS, HatR⟩, ⟨Ht, HtL, HtS, HtR⟩, ⟨Hc, Hd⟩, HO, Hx, ⟨%f, Ho⟩⟩, Hk⟩
  -- the rows and the result in pieces
  ihave Hxs := (pts_split (P.X c)) $$ Hx
  icases Hxs with ⟨HxL, HxS, Hxr⟩
  imod (pointsTo_castIn (emb := EW) (ιwm := ιwm) (P.g c)) $$ [Ho] with Ho
  · isplitr; · iapply (ctx_wm P K ιwm); iexact Hctx
    iexact Ho
  ihave Ho := (show willBeTo EW (oLoc c) Finset.univ fullShare f (P.g c) ∅ ⊢ wb EW (oLoc c) fullShare (P.g c) ∅ from by
    unfold wb; iintro H; iexists f; iexact H) $$ Ho
  ihave Hos := (wbs_split (P.g c)) $$ Ho
  icases Hos with ⟨HoL, HoR, Hor⟩
  -- the local copies
  iapply (run_chunks c _ (fun _ => iprop(emp)) (locA P c) (locB P c) (ctx P K ιwm) Q (fun j k => wp_secL P K ιwm c Q j k))
  isplitr; · iexact Hctx
  isplitr; · iempintro
  isplitl [HxL HoL HtL]
  · unfold locA xPts oPc
    rw [bigSep_sep', bigSep_sep']
    isplitl [HxL]; · iexact HxL
    isplitl [HoL] <;> iassumption
  iintro ⟨-, HB⟩
  iapply (run_chunks c _ (fun _ => iprop(∃ W, owes (c : Thread nD τ) (O₀ P c) W)) _ (locC P c) iprop(ctx P K ιwm ∗ levAts L lv) Q (fun j k => wp_secW P K ιwm c Q j k))
  isplitr
  · isplitl; · iexact Hctx
    iexact Hlev
  isplitl [HO]; · iexact HO
  isplitl [HB HatL]
  · rw [bigSep_sep']
    isplitl [HB] <;> iassumption
  iintro ⟨⟨%W, HO⟩, HC⟩
  -- ready
  ihave HoR2 := (show (bigSep Finset.univ fun j : Fin 32 => wb EW (oLoc c) (piece (32 + j.val)) (P.g c) ∅)
      ⊢ iprop(readyPay P (nbr c) ∗ bigSep Finset.univ (kept P c)) from by
    refine (bigSep_mono fun j _ => hand_over P c j).trans ?_
    rw [bigSep_sep']
    exact sep_mono_left (readyPay_out P c)) $$ HoR
  icases HoR2 with ⟨Hpay, Hkept⟩
  iapply (Rounds.wp_signal 𝒱₀ ER (Rd P) (c : Thread nD τ) none (dst := (Dev.tc (nbr c) : Thread nD τ)) (κ := K (nbr c, none)) (r := 0) (d := ())
      (by rw [duties_on P (nbr c) none trivial]; exact Finset.mem_singleton_self _) ((amount_at P (nbr c) none ()).trans (by decide)) () (oweFrom P c 0) rfl)
    $$ [HO Ht Hpay]
  · isplitr; · iapply (ctx_inv P K ιwm (nbr c, none)); iexact Hctx
    isplitl [HO]; · iexact HO
    isplitl [Ht]; · iexact Ht
    isplitl [Hpay]
    · rw [payload_at P (nbr c) none ()]
      iapply (show readyPay P (nbr c) ⊢ pay P (nbr c) (some none) from .rfl); iexact Hpay
    iapply (ctx_reached P K ιwm (nbr c, none)); iexact Hctx
  iintro HO
  iapply (Rounds.wp_wait_rest_token 𝒱₀ ER (Rd P) (c : Thread nD τ) none (κ := K (c, none)) (sm := osem none)
      (wpE_semWait_eq 𝒱₀ (c : Thread nD τ) none Set.univ) (Set.mem_univ _) () (O := oweFrom P c 0) (W := W) (R := 0) (m := 0) (T := ∅)
      (by rw [expect_on P c none trivial]; decide)) $$ [Hc HO Hat]
  · isplitr; · iapply (ctx_inv P K ιwm (c, none)); iexact Hctx
    isplitl [Hc]; · iexact Hc
    isplitl [HO]; · iexact HO
    isplitr; · iapply (mayWait_ready P c); iexact Hlev
    iexact Hat
  iintro ⟨HO, Hat, -, Hpay⟩
  ihave Hp := ((Entails.of_eq (rest_on P c none trivial)).trans (show pay P c (some none) ⊢ bigSep Finset.univ (given P c) from readyPay_in P c)) $$ Hpay
  imod (Rounds.cell_close ER (Rd P) (Set.mem_univ (K (c, none))) (fun h => h) (R := 0 + 1) (duties_later P (kcell (c, none)))) $$ [Hat] with Hz
  · isplitr; · iapply (ctx_inv P K ιwm (c, none)); iexact Hctx
    iexact Hat
  -- the chunks sent
  iapply (run_chunks c _ (fun i => iprop(∃ W, owes (c : Thread nD τ) (oweFrom P c i) W)) (remA P c) (remB P c) (ctx P K ιwm) Q (fun j k => wp_secR P K ιwm c Q j k))
  isplitr; · iexact Hctx
  isplitl [HO]; · iexists _; iexact HO
  isplitl [HxS Hp HtS HtR]
  · unfold remA xPts
    rw [bigSep_sep', bigSep_sep', bigSep_sep']
    isplitl [HxS]; · iexact HxS
    isplitl [Hp]; · iexact Hp
    isplitl [HtS] <;> iassumption
  iintro ⟨HO, HB⟩
  iapply (run_chunks c _ (fun _ => iprop(∃ W, owes (c : Thread nD τ) 0 W)) _ (remC P c) (ctx P K ιwm) Q (fun j k => wp_secV P K ιwm c Q j k))
  isplitr; · iexact Hctx
  isplitl [HO]; · rw [oweFrom_end]; iexact HO
  isplitl [HB Hkept Hd HatS HatR]
  · rw [bigSep_sep', bigSep_sep', bigSep_sep', bigSep_sep']
    isplitl [HB]; · iexact HB
    isplitl [Hkept]; · iexact Hkept
    isplitl [Hd]; · iexact Hd
    isplitl [HatS] <;> iassumption
  iintro ⟨HO, HD⟩
  -- the pieces gathered
  ihave HC2 := (show bigSep Finset.univ (locC P c) ⊢ iprop((bigSep Finset.univ fun j : Fin 32 => xPts P c j.val)
      ∗ (bigSep Finset.univ fun j : Fin 32 => oPc P c j.val (regL P c j)) ∗ bigSep Finset.univ fun j : Fin 32 => semVal (kcell (c, some (0, j))) 0) from by
    unfold locC; rw [bigSep_sep', bigSep_sep']) $$ HC
  icases HC2 with ⟨HxL, HoL, HzL⟩
  ihave HD2 := (show bigSep Finset.univ (remC P c) ⊢ iprop((bigSep Finset.univ fun j : Fin 32 => xPts P c (32 + j.val))
      ∗ (bigSep Finset.univ fun j : Fin 32 => oPc P c (32 + j.val) (regR P c j)) ∗ (bigSep Finset.univ fun j : Fin 32 => semVal (kcell (c, some (1, j))) 0)
      ∗ bigSep Finset.univ fun j : Fin 32 => semVal (kcell (c, some (2, j))) 0) from by
    unfold remC; rw [bigSep_sep', bigSep_sep', bigSep_sep']) $$ HD
  icases HD2 with ⟨HxS, HoR, HzS, HzR⟩
  ihave Hx := (pts_gather (P.X c)) $$ [HxL HxS Hxr]
  · isplitl [HxL]; · unfold xPts; iexact HxL
    isplitl [HxS]; · unfold xPts; iexact HxS
    iexact Hxr
  ihave Ho := (wbs_gather (P.g c) (regL P c) (regR P c)) $$ [HoL HoR Hor]
  · isplitl [HoL]; · unfold oPc; iexact HoL
    isplitl [HoR]; · unfold oPc; iexact HoR
    iexact Hor
  unfold wb
  icases Ho with ⟨%f1, Ho⟩
  imod (willBeTo_castOut (emb := EW) (ιwm := ιwm)) $$ [Ho] with ⟨%f', %hf', Ho⟩
  · isplitr; · iapply (ctx_wm P K ιwm); iexact Hctx
    iexact Ho
  rw [wp_ret]; imodintro
  iapply Hk
  isplitl [Hz HzL HzS HzR]
  · isplitl [Hz]; · iexact Hz
    isplitl [HzL]; · iexact HzL
    isplitl [HzS] <;> iassumption
  isplitl [HO]; · iexact HO
  isplitl [Hx]; · iexact Hx
  iexists f'
  isplitr; · ipureintro; exact fun i hi u hu => (hf' i (Finset.mem_univ i)).2 hi u hu
  iexact Ho

end Cert.KernelIdeal.Move
end
-- ==== Proof.Head.lean ====
/- The reads the body begins with: each device's seven words of the table, and that its chunks fit. -/
module

public import proofs.«01_k».proof.Proof.Run

@[expose] public section

noncomputable section

namespace Cert.KernelIdeal.Move

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

/-- A device's rank along the exchanged axis, and the place of word `k` of its row of the table. -/
def rank (d : Dev nD) : Fin 2 := ⟨(d.val / 4) % 2, Nat.mod_lt _ (by decide)⟩
def spot (r : Fin 2) (k : Fin 7) : S2x7.Idx := fun a => match a with
  | ⟨0, _⟩ => r
  | ⟨1, _⟩ => k

abbrev tM : Memref sig .tc .smem S2x7 .i32 := Memref.whole cc0_stg0_0
abbrev tLoc (c : Dev nD) : Loc nD τ sig := (c : Thread nD τ).loc cc0_stg0_0

theorem wp_word (c : Dev nD) {α : Type} (off : Fin 2 → Nat) (k : Fin 7) (hoff : off = ![(c.val / 4) % 2, k.val]) (inb) (h1 : S1x1.numel = 1) (hp)
    (f : S2x7.Idx → BitVec 32) (K : BitVec 32 → KProg F α) (Q : α → sProp 𝕄) :
    iprop(((tLoc c) ↦{fullShare} f) ∗ (((tLoc c) ↦{fullShare} f) -∗ runs c (K (f (spot (rank c) k))) Q))
      ⊢ runs c (smemLoad tM (Rect.unit (s := S2x7) off S1x1.size inb) h1 hp >>= K) Q := by
  unfold smemLoad
  simp only [Prog.bind_op, Prog.bind_ret]
  iintro ⟨H, Hk⟩
  iapply (wp_load 𝒱₀ (c : Thread nD τ) none Set.univ (m := tM) (Finset.subset_univ _)) $$ H
  iintro H
  ihave H2 := Hk $$ H
  have e : ∀ x, tM.view.readAt (Elt F) (Rect.unit (s := S2x7) off S1x1.size inb).toLoadRect f x = f (spot (rank c) k) := by
    intro x
    subst hoff
    rw [View.readAt_apply]
    show View.read (Elt F) (View.whole cc0_stg0_0) f _ = _
    rw [View.read_whole]
    refine congrArg f (funext fun a => Fin.ext ?_)
    have hx : (x a).val = 0 := by have := (x a).isLt; fin_cases a <;> exact Nat.lt_one_iff.mp this
    fin_cases a
    · show (c.val / 4) % 2 + 1 * (x 0).val = (c.val / 4) % 2
      have : (x 0).val = 0 := hx
      omega
    · show k.val + 1 * (x 1).val = k.val
      have : (x 1).val = 0 := hx
      omega
  ihave H3 := (Entails.of_eq (congrArg (fun w => runs c (K w) Q) (e (Shape.Idx.first (h1.symm ▸ Nat.one_pos))).symm)) $$ H2
  iexact H3

/-- The words read from a device's table are the ones its plan is about. -/
structure Reads (P : Plan F) (c : Dev nD) (f : S2x7.Idx → BitVec 32) : Prop where
  n : f (spot (rank c) 0) = P.n c
  a : f (spot (rank c) 1) = P.a c
  e : f (spot (rank c) 2) = P.e c
  b : f (spot (rank c) 3) = P.b c
  a2 : f (spot (rank c) 4) = P.a2 c
  b2 : f (spot (rank c) 5) = P.b2 c
  n2 : f (spot (rank c) 6) = P.n2 c

theorem rest_congr (P : Plan F) (c : Dev nD) {n a e b a2 b2 n2 : BitVec 32} (en : n = P.n c) (ea : a = P.a c) (ee : e = P.e c) (eb : b = P.b c)
    (ea2 : a2 = P.a2 c) (eb2 : b2 = P.b2 c) (en2 : n2 = P.n2 c) (hf : Fits a b n) (hg : Fits e b n) (hl : Fits a2 b2 n2) :
    restK (F := F) xM (Memref.isWhole_whole _) oM (Memref.isWhole_whole _) cc0_scratch0 cc0_scratch1 cc0_scratch2 cc0_scoped0 c n a e b hf hg a2 b2 n2 hl
      = restP P c := by
  subst en ea ee eb ea2 eb2 en2; rfl

theorem wp_head (P : Plan F) (c : Dev nD) (f : S2x7.Idx → BitVec 32) (hr : Reads P c f) (Q : PUnit → sProp 𝕄) :
    iprop(((tLoc c) ↦{fullShare} f) ∗ (((tLoc c) ↦{fullShare} f) -∗ runs c (restP P c) Q))
      ⊢ runs c (headK tM fun d n a e b h2 a2 b2 n2 h1 =>
          restK xM (Memref.isWhole_whole _) oM (Memref.isWhole_whole _) cc0_scratch0 cc0_scratch1 cc0_scratch2 cc0_scoped0 d n a e b
            (fits_of_chk2 h2).1 (fits_of_chk2 h2).2 a2 b2 n2 (fits_of_chk1 h1)) Q := by
  have c2 : k0_chk2 (f (spot (rank c) 0)) (f (spot (rank c) 1)) (f (spot (rank c) 2)) (f (spot (rank c) 3)) := by
    rw [hr.n, hr.a, hr.e, hr.b]; exact chk2_of (P.hf c) (P.hg c)
  have c1 : k0_chk1 (f (spot (rank c) 4)) (f (spot (rank c) 5)) (f (spot (rank c) 6)) := by
    rw [hr.a2, hr.b2, hr.n2]; exact chk1_of (P.hl c)
  unfold headK
  iintro ⟨H, Hk⟩
  simp only [Prog.lift, Prog.bind_op, Prog.bind_ret, wp_deviceId]
  iapply (wp_word c (k0_off1 c) 0 (k0_off1_eq c) (k0_off1_inb c) _ _ f _ Q)
  isplitl [H]; · iexact H
  iintro H
  iapply (wp_word c (k0_off2 c) 1 (k0_off2_eq c) (k0_off2_inb c) _ _ f _ Q)
  isplitl [H]; · iexact H
  iintro H
  iapply (wp_word c (k0_off3 c) 2 (k0_off3_eq c) (k0_off3_inb c) _ _ f _ Q)
  isplitl [H]; · iexact H
  iintro H
  iapply (wp_word c (k0_off4 c) 3 (k0_off4_eq c) (k0_off4_inb c) _ _ f _ Q)
  isplitl [H]; · iexact H
  iintro H
  iapply (wp_assume 𝒱₀ (c : Thread nD τ) none Set.univ c2)
  iapply (wp_word c (k0_off5 c) 4 (k0_off5_eq c) (k0_off5_inb c) _ _ f _ Q)
  isplitl [H]; · iexact H
  iintro H
  iapply (wp_word c (k0_off6 c) 5 (k0_off6_eq c) (k0_off6_inb c) _ _ f _ Q)
  isplitl [H]; · iexact H
  iintro H
  iapply (wp_word c (k0_off7 c) 6 (k0_off7_eq c) (k0_off7_inb c) _ _ f _ Q)
  isplitl [H]; · iexact H
  iintro H
  iapply (wp_assume 𝒱₀ (c : Thread nD τ) none Set.univ c1)
  ihave H2 := Hk $$ H
  ihave H3 := (Entails.of_eq (congrArg (fun p => runs c p Q)
    (rest_congr P c hr.n hr.a hr.e hr.b hr.a2 hr.b2 hr.n2 (fits_of_chk2 c2).1 (fits_of_chk2 c2).2 (fits_of_chk1 c1)).symm)) $$ H2
  iexact H3

end Cert.KernelIdeal.Move
end
-- ==== Proof.Ghost.lean ====
/- What a launch sets up for the exchange: every cell's rounds and invariant, the rights to pay dealt to who
   pays, write mode's invariant, and the credit each device is owed. -/
module

public import proofs.«01_k».proof.Proof.Head

@[expose] public section

noncomputable section

namespace Cert.KernelIdeal.Move

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

variable (P : Plan F)

/-! ## The cells -/

theorem kcell_inj : Function.Injective kcell := by
  rintro ⟨c, k⟩ ⟨c', k'⟩ h
  have h1 : c = c' := congrArg (fun g : GSem nD τ sig => g.1.1) h
  have h2 : osem k = osem k' := congrArg Prod.snd h
  rw [h1, osem_inj h2]

def allCells : Finset (GSem nD τ sig) := Finset.univ.map ⟨kcell, kcell_inj⟩
def allToks : Finset (GSem nD τ sig × ℕ × Unit) :=
  Finset.univ.map ⟨fun ck : Dev nD × KI => (kcell ck, 0, ()), fun _ _ h => kcell_inj (congrArg Prod.fst h)⟩

/-- What a launch holds of the protocol's own resources. -/
def u₀ : UU F :=
  (initOf (Pipeline.cells cfgs cellOf_inj) (Pipeline.launchToks cfgs cellOf_inj), (initOf allCells allToks, wm₀ nD τ sig (Elt F)))

/-- A device's own cells' rights to be paid. -/
def ownToks (c : Dev nD) : sProp 𝕄 := bigSep Finset.univ fun k : KI => dutyTok ER (kcell (c, k)) 0 ()

def G (c : Dev nD) : sProp 𝕄 :=
  iprop((bigSep Finset.univ fun k : KI => roundState ER (Rd P) (kcell (c, k)) 0)
    ∗ (bigSep Finset.univ fun k : KI => atPos ER (kcell (c, k)) 0 ∅ 0)
    ∗ (bigSep Finset.univ fun k : KI => reached ER (kcell (c, k)) 0) ∗ ownToks c ∗ ∃ ιwm : ℕ, wmInv EW ιwm)

def G' (c : Dev nD) : sProp 𝕄 :=
  iprop(∃ (K : Dev nD × KI → ℕ) (ιwm : ℕ), ctx P K ιwm ∗ (bigSep Finset.univ fun k : KI => atPos ER (kcell (c, k)) 0 ∅ 0) ∗ toks c)

theorem bigSep_cells (Φ : GSem nD τ sig → sProp 𝕄) :
    bigSep allCells Φ = bigSep Finset.univ fun c : Dev nD => bigSep Finset.univ fun k : KI => Φ (kcell (c, k)) := by
  unfold allCells; rw [bigSep_map, bigSep_univ_prod]; rfl

theorem bigSep_toks :
    bigSep allToks (fun x => (dutyTok ER x.1 x.2.1 x.2.2 : sProp 𝕄)) = bigSep Finset.univ fun c : Dev nD => ownToks c := by
  unfold allToks; rw [bigSep_map, bigSep_univ_prod]; rfl

/-- What persists may be had by everyone. -/
theorem bigSep_along_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem fund_all (s : MemSt nD τ sig (Elt F)) : (ownU (u₀ : UU F) : sProp 𝕄)
    ⊢ |={Set.univ}=> iprop(BI.own (EP (initOf (Pipeline.cells cfgs cellOf_inj) (Pipeline.launchToks cfgs cellOf_inj))) ∗ bigSep Finset.univ (G P)) := by
  have hw : (BI.own (((Emb.inr : Emb (WmRA nD τ sig (Elt F)) (UR sig nD τ × WmRA nD τ sig (Elt F))).trans embR) (wm₀ nD τ sig (Elt F))) : sProp 𝕄)
      ⊢ ownU (EW (wm₀ nD τ sig (Elt F))) := Entails.of_eq rfl
  unfold u₀
  iintro Hu
  ihave H := (ownU_pair _ _) $$ Hu
  icases H with ⟨HP, HX⟩
  ihave H2 := (own_pair_emb _ _ _) $$ HX
  icases H2 with ⟨HX, HW⟩
  imod (hw.trans (wmInv_alloc (emb := EW) (Ix := Unit) (Name := ℕ) (Lvl := ℕ) s ∅)) $$ HW with ⟨%ιwm, -, #HW⟩
  imod (Rounds.fund ER (Rd P) allCells allToks) $$ [HX] with ⟨Hst, Hr, Hat, Htok⟩
  · iexact HX
  imodintro
  isplitl [HP]; · iexact HP
  ihave Hst' := (Entails.of_eq (bigSep_cells fun g => roundState ER (Rd P) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_toks) $$ Htok
  have h : ∀ c ∈ (Finset.univ : Finset (Dev nD)), iprop(wmInv EW ιwm ∗ ((bigSep Finset.univ fun k : KI => roundState ER (Rd P) (kcell (c, k)) 0)
      ∗ (bigSep Finset.univ fun k : KI => atPos ER (kcell (c, k)) 0 ∅ 0)
      ∗ (bigSep Finset.univ fun k : KI => reached ER (kcell (c, k)) 0) ∗ ownToks c)) ⊢ G P c := by
    intro c _
    unfold G
    iintro ⟨HW, H1, H2, H3, H4⟩
    isplitl [H1]; · iexact H1
    isplitl [H2]; · iexact H2
    isplitl [H3]; · iexact H3
    isplitl [H4]; · iexact H4
    iexists ιwm; iexact HW
  iapply (bigSep_along_persistent (R := wmInv EW ιwm) h)
  isplitr; · iexact HW
  rw [bigSep_sep', bigSep_sep', bigSep_sep']
  isplitl [Hst']; · iexact Hst'
  isplitl [Hat']; · iexact Hat'
  isplitl [Hr'] <;> iassumption

abbrev zeros (c : Dev nD) : sProp 𝕄 := Pipeline.ownSems0 (Ix := Unit) (Name := ℕ) (U := UU F) (Lvl := ℕ) (Val := Elt F) (τ := τ) osem c

theorem zeros_eq (c : Dev nD) : (zeros c : sProp 𝕄) = bigSep Finset.univ fun k : KI => semVal (kcell (c, k)) 0 := rfl

/-- A device's cells become invariants. -/
theorem core_alloc (c : Dev nD) :
    iprop(zeros c ∗ G P c)
      ⊢ |={Set.univ}=> iprop((bigSep Finset.univ fun k => iprop(∃ κ : ℕ, cellInv ER (Rd P) κ (kcell (c, k))))
          ∗ (bigSep Finset.univ fun k : KI => atPos ER (kcell (c, k)) 0 ∅ 0)
          ∗ (bigSep Finset.univ fun k : KI => reached ER (kcell (c, k)) 0) ∗ ownToks c ∗ ∃ ιwm : ℕ, wmInv EW ιwm) := by
  have h : iprop((bigSep Finset.univ fun k : KI => semVal (kcell (c, k)) 0) ∗ bigSep Finset.univ fun k : KI => roundState ER (Rd P) (kcell (c, k)) 0)
      ⊢ (|={Set.univ}=> bigSep Finset.univ fun k => iprop(∃ κ : ℕ, cellInv ER (Rd P) κ (kcell (c, k))) : sProp 𝕄) := by
    rw [← bigSep_sep']
    exact (bigSep_mono fun k _ => (Rounds.body_intro ER (Rd P) (kcell (c, k))).trans inv_alloc).trans (bigSep_fupd _ _)
  unfold G
  rw [zeros_eq]
  iintro ⟨Hv, Hst, Hrest⟩
  imod h $$ [Hv Hst] with Hinv
  · isplitl [Hv] <;> iassumption
  imodintro
  isplitl [Hinv] <;> iassumption

/-- The rights to pay dealt to who pays: ready and landings to the neighbour. -/
theorem toks_around : (bigSep Finset.univ fun c : Dev nD => (ownToks c : sProp 𝕄)) ⊢ bigSep Finset.univ fun c : Dev nD => toks c := by
  unfold toks ownToks
  simp only [bigSep_KI]
  rw [bigSep_sep', bigSep_sep', bigSep_sep', bigSep_sep', bigSep_sep', bigSep_sep',
    bigSep_univ_equiv swap (fun c : Dev nD => (dutyTok ER (kcell (c, none)) 0 () : sProp 𝕄)),
    bigSep_univ_equiv swap (fun c : Dev nD => (bigSep Finset.univ fun j : Fin 32 => dutyTok ER (kcell (c, some (2, j))) 0 () : sProp 𝕄))]
  exact .rfl

theorem regroup :
    (bigSep Finset.univ fun c : Dev nD => iprop((bigSep Finset.univ fun k => iprop(∃ κ : ℕ, cellInv ER (Rd P) κ (kcell (c, k))))
          ∗ (bigSep Finset.univ fun k : KI => atPos ER (kcell (c, k)) 0 ∅ 0)
          ∗ (bigSep Finset.univ fun k : KI => reached ER (kcell (c, k)) 0) ∗ ownToks c ∗ ∃ ιwm : ℕ, wmInv EW ιwm) : sProp 𝕄)
      ⊢ bigSep Finset.univ (G' P) := by
  have hW : (bigSep Finset.univ fun _ : Dev nD => (iprop(∃ ιwm : ℕ, wmInv EW ιwm) : sProp 𝕄)) ⊢ iprop(∃ ιwm : ℕ, wmInv EW ιwm) :=
    bigSep_elim (Finset.mem_univ (0 : Fin 16))
  rw [bigSep_sep', bigSep_sep', bigSep_sep', bigSep_sep', ← bigSep_univ_prod (fun ck : Dev nD × KI => iprop(∃ κ : ℕ, cellInv ER (Rd P) κ (kcell ck))),
    ← bigSep_univ_prod (fun ck : Dev nD × KI => (reached ER (kcell ck) 0 : sProp 𝕄))]
  iintro ⟨HI, Hat, #HR, Htok, HWs⟩
  ihave HK := (BI.bigSep_exists_pi Finset.univ (fun (ck : Dev nD × KI) (κ : ℕ) => (cellInv ER (Rd P) κ (kcell ck) : sProp 𝕄))) $$ HI
  icases HK with ⟨%K, #HI⟩
  ihave HW := hW $$ HWs
  icases HW with ⟨%ιwm, #HW⟩
  ihave Htk := (toks_around (F := F)) $$ Htok
  have h : ∀ c ∈ (Finset.univ : Finset (Dev nD)), iprop(ctx P K ιwm ∗ ((bigSep Finset.univ fun k : KI => atPos ER (kcell (c, k)) 0 ∅ 0) ∗ toks c)) ⊢ G' P c := by
    intro c _
    unfold G'
    iintro H
    iexists K, ιwm
    iexact H
  iapply (bigSep_along_persistent (R := ctx P K ιwm) h)
  isplitr
  · unfold ctx
    isplitl; · iexact HI
    isplitl; · iexact HR
    iexact HW
  rw [bigSep_sep']
  isplitl [Hat] <;> iassumption

theorem glob : (bigSep Finset.univ fun c => iprop(zeros c ∗ G P c) : sProp 𝕄) ⊢ |={Set.univ}=> bigSep Finset.univ (G' P) :=
  ((bigSep_mono fun c _ => core_alloc P c).trans (bigSep_fupd _ _)).trans (BI.fupd_mono (regroup P))

/-! ## The credit -/

/-- What chunk `j` coming will bring to device `c`'s landing cell. -/
def mine (c : Dev nD) (j : Fin 32) : CellTallies nD τ sig Unit :=
  if gd j (P.n c) = 1#1 then tallyAt (kcell (c, some (2, j))) () N else 0

theorem cred_mine (c : Dev nD) (j : Fin 32) : (cred (mine P c j) : sProp 𝕄) ⊢ due P c j := by
  unfold mine due
  by_cases h : gd j (P.n c) = 1#1
  · rw [if_pos h, if_pos h]
  · rw [if_neg h, if_neg h, cred_zero]

theorem creds (c : Dev nD) : (Pipeline.launchCred (O₀ P) c : sProp 𝕄) ⊢ dues P c := by
  have e : O₀ P = fun d => (∑ j ∈ (Finset.univ : Finset (Fin 32)), owe P d j) + tallyAt (kcell (nbr d, none)) () 1 := by
    funext d; unfold O₀ oweFrom; rw [from_zero]
  rw [e, Pipeline.launchCred_add (fun d => ∑ j ∈ (Finset.univ : Finset (Fin 32)), owe P d j) (fun d => tallyAt (kcell (nbr d, none)) () 1) c,
    Pipeline.launchCred_sum Finset.univ (fun j d => owe P d j) c]
  have h1 : (bigSep Finset.univ fun j : Fin 32 => (Pipeline.launchCred (fun d => owe P d j) c : sProp 𝕄)) ⊢ bigSep Finset.univ fun j : Fin 32 => due P c j := by
    refine bigSep_mono fun j _ => ?_
    rw [Pipeline.launchCred_of_sum (fun d => owe P d j) (fun d => mine P d j) ?_ ?_ c]
    · exact cred_mine P c j
    · rw [← Equiv.sum_comp swap (fun d => mine P d j)]
      refine Finset.sum_congr rfl fun d _ => ?_
      show owe P d j = mine P (nbr d) j
      unfold owe mine; rw [P.hn]
    · intro d g hg
      unfold mine at hg
      split at hg
      · by_contra hn
        exact hg (tallyAt_ne_cell (fun h => hn (congrArg Prod.fst h)) () N)
      · exact absurd rfl hg
  have h2 : (Pipeline.launchCred (fun d => tallyAt (kcell (nbr d, none)) () 1) c : sProp 𝕄) ⊢ cred (tallyAt (kcell (c, none)) () 1) :=
    Pipeline.launchCred_tallyAt (osem none) nbr nbr nbr_nbr nbr_nbr () 1 c
  unfold dues
  iintro ⟨Ha, Hb⟩
  isplitl [Hb]; · iapply h2; iexact Hb
  iapply h1; iexact Ha

end Cert.KernelIdeal.Move
end
-- ==== Proof.Launch.lean ====
/- The launch: the body's obligation to the pipeline, and what a whole run leaves, for any plan the table's
   words and the rows given agree with. -/
module

public import proofs.«01_k».proof.Proof.Head
public import proofs.«01_k».proof.Proof.Ghost
public import proofs.«01_k».proof.Proof.Gen.KernelIdeal.Frame
public import Idealize.ShloMosaic.Lib.Pipeline.ArrRel

@[expose] public section

noncomputable section

namespace Cert.KernelIdeal.Move

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

variable (m : (ℓ : Loc nD τ sig) → Buf (Elt F) ℓ) (ρ : Dev nD → PrngReg) (P : Plan F)

/-- What a device starts the body with besides its buffers and what it owes. -/
def start (c : Dev nD) : sProp 𝕄 := iprop(G' P c ∗ dues P c ∗ levAts L lv)

/-- The proof's data: the arrays as given; the table and the rows left as found, the result as wanted. -/
def rdats (p : Fin 1) (c : Dev nD) : Pipeline.RDat τ (Elt F) Unit ℕ (UU F) ℕ (cfgs p) c := match p with
  | 0 =>
    { A := fun w => m (((cfg0.win w).arr.view.loc (c : Thread nD τ)))
      after := fun w _ => match w with
        | 0 => fun Y X => X = Y
        | 1 => fun Y X => X = Y
        | 2 => fun _ X => Rel P c X
        | ⟨_ + 3, h⟩ => absurd h (Nat.not_lt.2 (Nat.le_add_left _ _))
      Φ := fun t => if t.val = 0 then start P c else zeros c
      q := fun _ => fullShare
      owed := fun t => if t.val = 0 then O₀ P c else 0 }

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The plan is about what the launch was given. -/
structure Agrees : Prop where
  rows : ∀ c, P.X c = m ((c : Thread nD τ).loc main_arg1)
  words : ∀ c, Reads P c (m ((c : Thread nD τ).loc main_arg0))

theorem found_table (c : Dev nD) (Y : S2x7.Idx → BitVec 32) (h : (rdats m P 0 c).Finds (0 : Fin 3) t0_0 Y) :
    Y = m ((c : Thread nD τ).loc main_arg0) := by
  obtain ⟨d, hd⟩ := ((rdats m P 0 c).finds_of_fetch (fetch0_0 t0_0) Y).mp h
  rw [hd]
  funext j
  show m ((c : Thread nD τ).loc main_arg0) (((cfg0.win (0 : Fin 3)).blk t0_0).view.emb j) = _
  refine congrArg _ (funext fun a => Fin.ext ?_)
  have e : (((((cfg0.win (0 : Fin 3)).blk t0_0).view.emb j) a).val) = 0 * S2x7.size a + 1 * (j a).val := by fin_cases a <;> rfl
  rw [e]; omega

theorem found_rows (c : Dev nD) (Y : Buf (Elt F) (xLoc c)) (h : (rdats m P 0 c).Finds (1 : Fin 3) t0_0 Y) :
    Y = m ((c : Thread nD τ).loc main_arg1) := by
  obtain ⟨d, hd⟩ := ((rdats m P 0 c).finds_of_fetch (fetch0_1 t0_0) Y).mp h
  rw [hd]
  funext j
  show m ((c : Thread nD τ).loc main_arg1) (((cfg0.win (1 : Fin 3)).blk t0_0).view.emb j) = _
  refine congrArg _ (funext fun a => Fin.ext ?_)
  have e : (((((cfg0.win (1 : Fin 3)).blk t0_0).view.emb j) a).val) = 0 * S2048x8x128.size a + 1 * (j a).val := by fin_cases a <;> rfl
  rw [e]; omega

theorem body_obligation (hA : Agrees m P) (c : Dev nD) : (rdats m P 0 c).BodyObligation (defs₀ (F := F)) 𝒱₀ () Set.univ := fun t Y hY => by
  obtain rfl : t = t0_0 := fin_N0 t
  have e0 : Y 0 = m ((c : Thread nD τ).loc main_arg0) := found_table m P c _ (hY 0)
  have e1 : Y 1 = P.X c := (found_rows m P c _ (hY 1)).trans (hA.rows c).symm
  have hr : Reads P c (Y 0) := by rw [e0]; exact hA.words c
  rw [bigSep_W0, bigSep_W0]
  show iprop(start P c ∗ (rdats m P 0 c).owesAt () t0_0.castSucc ∗ owns (c : Thread nD τ) (Memref.whole cc0_stg0_0) fullShare (Y 0)
      ∗ owns (c : Thread nD τ) (Memref.whole cc0_stg1_0) fullShare (Y 1) ∗ owns (c : Thread nD τ) (Memref.whole cc0_stg2_0) fullShare (Y 2))
    ⊢ runs c (cc0_wrapped_body (Memref.whole cc0_stg0_0) (Memref.isWhole_whole _) (Memref.whole cc0_stg1_0) (Memref.isWhole_whole _)
        (Memref.whole cc0_stg2_0) (Memref.isWhole_whole _) cc0_scratch0 cc0_scratch1 cc0_scratch2 cc0_scoped0) fun _ =>
      iprop(zeros c ∗ (rdats m P 0 c).owesAt () t0_0.succ
        ∗ (∃ X : S2x7.Idx → BitVec 32, ⌜X = Y 0⌝ ∗ owns (c : Thread nD τ) (Memref.whole cc0_stg0_0) fullShare X)
        ∗ (∃ X : Buf (Elt F) (xLoc c), ⌜X = Y 1⌝ ∗ owns (c : Thread nD τ) (Memref.whole cc0_stg1_0) fullShare X)
        ∗ (∃ X : Buf (Elt F) (oLoc c), ⌜Rel P c X⌝ ∗ owns (c : Thread nD τ) (Memref.whole cc0_stg2_0) fullShare X))
  rw [body_eq]
  simp only [owns_whole_eq]
  unfold start G' Pipeline.RDat.owesAt Pipeline.owesWithin
  rw [show (rdats m P 0 c).owed t0_0.castSucc = O₀ P c from rfl, show (rdats m P 0 c).owed t0_0.succ = 0 from rfl]
  iintro ⟨⟨⟨%K, %ιwm, #Hctx, Hat, Htk⟩, Hd, #Hlev⟩, ⟨%W, %hW, HO⟩, ⟨%f0, %h0, Ht⟩, ⟨%f1, %h1, Hx⟩, ⟨%f2, %h2, Ho⟩⟩
  subst h0
  have h1' : f1 = P.X c := h1.trans e1
  subst h1'
  iapply (wp_head P c (Y 0) hr _)
  isplitl [Ht]; · iexact Ht
  iintro Ht
  iapply (wp_rest P K ιwm c _)
  isplitr
  · isplitl; · iexact Hctx
    iexact Hlev
  isplitl [Hat Htk Hd HO Hx Ho]
  · unfold begins
    isplitl [Hat]; · iexact Hat
    isplitl [Htk]; · iexact Htk
    isplitl [Hd]; · iexact Hd
    isplitl [HO]; · iexists W; iexact HO
    isplitl [Hx]; · iexact Hx
    iexists f2; iexact Ho
  unfold ends
  iintro ⟨Hz, ⟨%W', HO⟩, Hx, ⟨%f', %hf', Ho⟩⟩
  isplitl [Hz]; · rw [zeros_eq]; iexact Hz
  isplitl [HO]
  · iexists W'
    isplitr; · ipureintro; exact fun _ _ => Or.inl trivial
    iexact HO
  isplitl [Ht]
  · iexists _; isplitr; · (ipureintro; rfl)
    iexists _; isplitr; · (ipureintro; rfl)
    iexact Ht
  isplitl [Hx]
  · iexists _; isplitr; · (ipureintro; exact e1.symm)
    iexists _; isplitr; · (ipureintro; rfl)
    iexact Hx
  iexists f'; isplitr; · (ipureintro; exact hf')
  iexists _; isplitr; · (ipureintro; rfl)
  iexact Ho

/-! ## The launch -/

theorem ownSemFacts : Pipeline.OwnSemFacts cfg0.spec osem :=
  ⟨by decide, osem_inj, by decide⟩

theorem share_eq (c : Dev nD) (w : Fin cfg0.W) : (rdats m P 0 c).share w = fullShare := by unfold Pipeline.RDat.share; split <;> rfl

theorem glob_un :
    (bigSep Finset.univ fun c => iprop(zeros c ∗ unscopedSems0 c ∗ G P c) : sProp 𝕄) ⊢ |={Set.univ}=> bigSep Finset.univ (G' P) := by
  have h : ∀ c ∈ (Finset.univ : Finset (Dev nD)), (iprop(zeros c ∗ unscopedSems0 c ∗ G P c) : sProp 𝕄) ⊢ iprop(zeros c ∗ G P c) := by
    intro c _
    iintro ⟨Hz, -, HG⟩
    isplitl [Hz] <;> iassumption
  exact (bigSep_mono h).trans (glob P)

theorem start_intro (c : Dev nD) :
    iprop(Pipeline.unscopedRestP Pipeline.Prefetch.none cfg0.spec c (fun b => m ((c : Thread nD τ).loc b)) ∗ levAts L lv
        ∗ Pipeline.launchCred (O₀ P) c ∗ prngReg c (ρ c) ∗ G' P c)
      ⊢ |={Set.univ}=> iprop(start P c ∗ emp) := by
  iintro ⟨-, Hlev, Hcr, -, HG⟩
  ihave Hc := (creds P c) $$ Hcr
  imodintro
  unfold start
  isplitl
  · isplitl [HG]; · iexact HG
    isplitl [Hc]; · iexact Hc
    iexact Hlev
  · iempintro

theorem phi0_intro (c : Dev nD) :
    iprop(start P c ∗ Pipeline.prefHeld Pipeline.Prefetch.none c (fun _ => fullShare.right) (fun k => k.elim0) ∗ Pipeline.scopedRest cfg0.spec c)
      ⊢ (rdats m P 0 c).Φ 0 := by
  rw [show (rdats m P 0 c).Φ 0 = start P c from rfl]
  iintro ⟨Hs, -, -⟩
  iexact Hs

theorem phi1_exit (c : Dev nD) :
    (rdats m P 0 c).Φ (Fin.last cfg0.N) ⊢ iprop(emp ∗ Pipeline.ownSems0 osem c ∗ Pipeline.scopedRest cfg0.spec c) := by
  rw [show (rdats m P 0 c).Φ (Fin.last cfg0.N) = zeros c from rfl, scopedRest0_eq]
  iintro Hz
  isplitr; · iempintro
  isplitl [Hz]; · iexact Hz
  iempintro

theorem waits (c : Dev nD) : (levAts L lv : sProp 𝕄) ⊢ Pipeline.RDat.cellsWaits cfgs (rdats m P) () 0 c :=
  Pipeline.RDat.cellsWaits_intro cfgs (rdats m P) () 0 c fun w s t =>
    mayWait_low P c _ (by fin_cases w <;> fin_cases s <;> decide) _ (by
      rcases t with ⟨_ | _, ht⟩
      · exact Or.inl rfl
      · exact Or.inr rfl)

/-- What every device holds at the end of a run. -/
def Done (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ Rel P c (r.2.mem ((c : Thread nD τ).loc main_v1)))
  ∧ r.2.sem = fun _ => 0

theorem whole_at : (cfg0.win (2 : Fin 3)).WholeAt t0_0 := by
  decide +kernel

theorem result_of (c : Dev nD) (G : Buf (Elt F) ((c : Thread nD τ).loc main_v1)) (h : (rdats m P 0 c).ArrAt (2 : Fin 3) cfg0.N G) : Rel P c G := by
  obtain ⟨X, ⟨Y, -, hX⟩, hG⟩ := Pipeline.RDat.ArrAt.emb_eq_of_wholeAt (rd := rdats m P 0 c) h whole_at
  have hX' : Rel P c X := hX
  intro i hi u hu
  exact (hG i).trans (hX' i hi u hu)

theorem run_main (hA : Agrees m P) : θ_run defs (onTc (τ := τ) (main (F := F))) ⟨m, fun _ => 0, ρ⟩ (Done m P) :=
  Pipeline.RDat.θ_run_region_owing_glob_pf (fun p => (cfgs p).toPCfg) (fun p => (cfgs p).toPCfg_adm) (rdats m P) () cellOf_inj (0 : Fin 1)
    winFacts0.to₀ ownSemFacts (Pipeline.PreFacts.none _) EP defs₀ 𝒱₀ m ρ main
    (hmain := fun _ => rfl)
    (hbody := body_obligation m P hA) (hne := fun w => by fin_cases w <;> exact Nat.succ_pos _) (harr := arr_whole0) (hstage := stage_whole0) (hshare := share_eq m P)
    (hdistinct := winFacts0.arr_inj)
    (O₀ := O₀ P) (howed₀ := fun _ => rfl) (howedN := fun _ => rfl)
    (L := L) (lv := lv) (hL := L_of_ne) (hwaits := waits m P)
    (G := G P) (G' := G' P) (u₀ := u₀) (hu₀ := fund_all P ⟨m, fun _ => 0, ρ⟩)
    (hglob := glob_un P)
    (hA := fun _ _ => rfl) (hpf := fun _ k => k.elim0)
    (X := start P) (Y := fun _ => iprop(emp)) (Z := fun _ => iprop(emp))
    (hX := start_intro m ρ P) (hin := phi0_intro m P) (hout := phi1_exit m P)
    (QY := fun _ _ => True)
    (hY := fun c s' => by
      iintro ⟨-, -, HSI⟩
      imodintro
      isplitr; · ipureintro; trivial
      iexact HSI)
    (hQ := fun s h hs => ⟨fun c => by
      have h0 := (h c).1 0
      have h1 := (h c).1 1
      rw [Pipeline.RDat.ArrAt_in _ _ rfl] at h0 h1
      exact ⟨h0, h1, result_of m P c _ ((h c).1 2)⟩, sem_eq_zero_of_scoped (by decide) hs⟩)

end Cert.KernelIdeal.Move
end
-- ==== Proof.Fill.lean ====
/- The plan of a run from the tables its devices hold, when nothing is asked of the result; and the run. -/
module

public import proofs.«01_k».proof.Proof.Launch
public import proofs.«01_k».proof.Proof.Rows

@[expose] public section

noncomputable section

namespace Cert.KernelIdeal.Move

open Cert.KernelIdeal Cert.KernelIdeal.Gen Cert.Table
open Idealize.ShloMosaic
open Idealize.ShloMosaic.TcCoe
open Idealize.SL.Sem

variable {F : FTy → Type} [FloatOps F]

theorem rank_nbr (c : Dev nD) : rank (nbr c) = 1 - rank c := by revert c; decide +kernel

theorem fits_of {a b n : BitVec 32} (hb : 64 ≤ b.toNat) (h : a.toNat + b.toNat ≤ 2048) : Fits a b n := by
  intro j _ i
  have e : firstRow j.val a b = _ := firstRow_eq j.isLt (by omega) hb (by omega)
  fin_cases i
  · show firstRow j.val a b + 64 ≤ 2048
    rw [e]; omega
  · show 0 + 8 ≤ 8; omega
  · show 0 + 128 ≤ 128; omega

section
variable (t : Dev nD → S2x7.Idx → BitVec 32) (K q : Dev nD → BitVec 32) (hG : ∀ c, Good (t c) (K c) (q c))

/-- Word `k` of a device's row. -/
def word (c : Dev nD) (k : Fin 7) : BitVec 32 := row (K c) (q c) (rank c) k

include hG

theorem two_sub (c : Dev nD) : (2048#32 - K c).toNat = 2048 - (K c).toNat := by
  have := (hG c).hi
  rw [BitVec.toNat_sub, BitVec.toNat_ofNat]; omega

/-- A device's words as numbers. -/
theorem word_nat (c : Dev nD) :
    (word K q c 0).toNat = 16 ∧ (word K q c 3).toNat = (K c).toNat ∧ (word K q c 5).toNat = 2048 - (K c).toNat ∧ (word K q c 6) = q c
      ∧ (rank c = 0 → (word K q c 1).toNat = 2048 - (K c).toNat ∧ (word K q c 2).toNat = 0 ∧ (word K q c 4).toNat = 0)
      ∧ (rank c = 1 → (word K q c 1).toNat = 0 ∧ (word K q c 2).toNat = 2048 - (K c).toNat ∧ (word K q c 4).toNat = (K c).toNat) := by
  have e := two_sub t K q hG c
  unfold word
  obtain hr | hr : rank c = 0 ∨ rank c = 1 := by generalize rank c = r; revert r; decide
  · rw [hr]; exact ⟨rfl, rfl, e, rfl, fun _ => ⟨e, rfl, rfl⟩, fun h => absurd h (by decide)⟩
  · rw [hr]; exact ⟨rfl, rfl, e, rfl, fun h => absurd h (by decide), fun _ => ⟨rfl, e, rfl⟩⟩

theorem rank_cases (c : Dev nD) : rank c = 0 ∨ rank c = 1 := by generalize rank c = r; revert r; decide

theorem fitsF (c : Dev nD) : Fits (word K q c 1) (word K q c 3) (word K q c 0) := by
  have := (hG c).hi; have := (hG c).lo
  obtain ⟨h0, h3, h5, h6, hr0, hr1⟩ := word_nat t K q hG c
  refine fits_of (by omega) ?_
  obtain hr | hr := rank_cases t K q hG c
  · have := hr0 hr; omega
  · have := hr1 hr; omega
theorem fitsG (c : Dev nD) : Fits (word K q c 2) (word K q c 3) (word K q c 0) := by
  have := (hG c).hi; have := (hG c).lo
  obtain ⟨h0, h3, h5, h6, hr0, hr1⟩ := word_nat t K q hG c
  refine fits_of (by omega) ?_
  obtain hr | hr := rank_cases t K q hG c
  · have := hr0 hr; omega
  · have := hr1 hr; omega
theorem fitsL (c : Dev nD) : Fits (word K q c 4) (word K q c 5) (word K q c 6) := by
  have := (hG c).hi; have := (hG c).lo
  obtain ⟨h0, h3, h5, h6, hr0, hr1⟩ := word_nat t K q hG c
  refine fits_of (by omega) ?_
  obtain hr | hr := rank_cases t K q hG c
  · have := hr0 hr; omega
  · have := hr1 hr; omega

end

/-- The plan that asks nothing of the result. -/
def quiet (t : Dev nD → S2x7.Idx → BitVec 32) (K q : Dev nD → BitVec 32) (hG : ∀ c, Good (t c) (K c) (q c))
    (X : (c : Dev nD) → Buf (Elt F) (xLoc c)) : Plan F where
  n c := word K q c 0
  a c := word K q c 1
  e c := word K q c 2
  b c := word K q c 3
  a2 c := word K q c 4
  b2 c := word K q c 5
  n2 c := word K q c 6
  hf := fitsF t K q hG
  hg := fitsG t K q hG
  hl := fitsL t K q hG
  hn c := BitVec.eq_of_toNat_eq ((word_nat t K q hG (nbr c)).1.trans (word_nat t K q hG c).1.symm)
  X := X
  g _ _ := none
  hL c j h x _ u hu := absurd hu (by rw [View.read_apply]; exact fun h => nomatch h)
  hR c j h x _ u hu := absurd hu (by rw [View.read_apply]; exact fun h => nomatch h)

theorem reads_of (t : Dev nD → S2x7.Idx → BitVec 32) (K q : Dev nD → BitVec 32) (hG : ∀ c, Good (t c) (K c) (q c)) (c : Dev nD) (k : Fin 7) :
    t c (spot (rank c) k) = word K q c k := by
  have e : spot (rank c) k = ix2 (rank c) k := by funext a; fin_cases a <;> rfl
  rw [e]; exact (hG c).words (rank c) k

variable (m : (ℓ : Loc nD τ sig) → Buf (Elt F) ℓ) (ρ : Dev nD → PrngReg)

/-- Where every device's table is good, the run ends with the arguments as they were and every counter at zero. -/
theorem run_quiet (K q : Dev nD → BitVec 32) (hG : ∀ c : Dev nD, Good (m ((c : Thread nD τ).loc main_arg0)) (K c) (q c)) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun r h => ⟨fun c => ⟨(h.1 c).1, (h.1 c).2.1⟩, h.2⟩)
    (run_main m ρ (quiet (fun c : Dev nD => m ((c : Thread nD τ).loc main_arg0)) K q hG fun c : Dev nD => m ((c : Thread nD τ).loc main_arg1))
      ⟨fun _ => rfl, fun c =>
        have w := reads_of (fun c : Dev nD => m ((c : Thread nD τ).loc main_arg0)) K q hG c
        ⟨w 0, w 1, w 2, w 3, w 4, w 5, w 6⟩⟩)

end Cert.KernelIdeal.Move
end
-- ==== Proof.Want.lean ====
/- The plan that says where every row is to come from, and that its chunks fill the result. -/
module

public import proofs.«01_k».proof.Proof.Fill

@[expose] public section

noncomputable section

namespace Cert.KernelIdeal.Move

open Cert.KernelIdeal Cert.KernelIdeal.Gen Cert.Table
open Idealize.ShloMosaic
open Idealize.ShloMosaic.TcCoe
open Idealize.SL.Sem

variable {F : FTy → Type} [FloatOps F]

/-! ## Where rows come from -/

/-- The place in the rows of where it came from of an element of the result. -/
def from_ (K : Nat) (y : Fin 2) (i : S2048x8x128.Idx) : S2048x8x128.Idx := fun a => match a with
  | ⟨0, _⟩ => ⟨old K y (i 0).val % 2048, Nat.mod_lt _ (by decide)⟩
  | ⟨1, _⟩ => i 1
  | ⟨2, _⟩ => i 2

/-- What a device's result is to be: its own rows that stay and its neighbour's that come, all in order. -/
def want (K : Nat) (X : Dev nD → S2048x8x128.Idx → Elt F .bf16) (c : Dev nD) (i : S2048x8x128.Idx) : Elt F .bf16 :=
  X (if Own K (rank c) (i 0).val then c else nbr c) (from_ K (rank c) i)

/-- Element `x` of the chunk at `off`, in the array. -/
def place (off : Fin 3 → Nat) (h : Inb off) (x : S64x8x128.Idx) : S2048x8x128.Idx := fun a => ⟨off a + (x a).val, by
  have := h a; have : (x a).val < S64x8x128.size a := (x a).isLt
  show _ < S2048x8x128.size a; omega⟩

theorem read_x (off : Fin 3 → Nat) (h : Inb off) (f : S2048x8x128.Idx → Elt F .bf16) (x : S64x8x128.Idx) :
    (chunk xM off h).view.read (Elt F) f x = f (place off h x) := by
  show f _ = f _
  refine congrArg f (funext fun a => Fin.ext ?_)
  show off a + 1 * (x a).val = off a + (x a).val
  omega

theorem admitted_of (off : Fin 3 → Nat) (h : Inb off) (g : S2048x8x128.Idx → Elt F .bf16) (w : S64x8x128.Idx → Elt F .bf16)
    (hw : ∀ x, w x = g (place off h x)) :
    (chunk oM off h).view.Admitted (Elt F) (fun i => some (g i)) w Finset.univ := by
  refine View.admitted_some_iff.mpr fun x _ => (hw x).trans ?_
  show g _ = g _
  refine congrArg g (funext fun a => Fin.ext ?_)
  show off a + (x a).val = off a + 1 * (x a).val
  omega

theorem mem_chunk (off : Fin 3 → Nat) (h : Inb off) (h1 : off 1 = 0) (h2 : off 2 = 0) (i : S2048x8x128.Idx) (hl : off 0 ≤ (i 0).val)
    (hr : (i 0).val < off 0 + 64) : i ∈ (chunk oM off h).view.set := by
  have e : (chunk oM off h).view.set = (Rect.unit (s := S2048x8x128) off S64x8x128.size h).set := View.set_slice_whole _ _
  rw [e]
  refine Rect.mem_set_unit.mpr fun a => ?_
  fin_cases a
  · exact ⟨hl, hr⟩
  · have : (i 1).val < 8 := (i 1).isLt
    show off 1 ≤ (i 1).val ∧ (i 1).val < off 1 + 8
    omega
  · have : (i 2).val < 128 := (i 2).isLt
    show off 2 ≤ (i 2).val ∧ (i 2).val < off 2 + 128
    omega

/-- An element of the result and where it was, told by their coordinates. -/
theorem want_eq (K : Nat) (X : Dev nD → S2048x8x128.Idx → Elt F .bf16) (c d : Dev nD) (i i' : S2048x8x128.Idx)
    (hd : d = if Own K (rank c) (i 0).val then c else nbr c) (h0 : (i' 0).val = old K (rank c) (i 0).val)
    (h1 : (i' 1).val = (i 1).val) (h2 : (i' 2).val = (i 2).val) : X d i' = want K X c i := by
  unfold want
  rw [hd]
  refine congrArg _ (funext fun a => Fin.ext ?_)
  fin_cases a
  · have : (i' 0).val < 2048 := (i' 0).isLt
    show (i' 0).val = old K (rank c) (i 0).val % 2048
    rw [← h0]; omega
  · exact h1
  · exact h2

section
variable (t : S2x7.Idx → BitVec 32) (K q : BitVec 32) (hG : Good t K q)

/-- The plan that asks every row of where it is to come from. -/
def moves (X : (c : Dev nD) → Buf (Elt F) (xLoc c)) : Plan F where
  n c := word (fun _ => K) (fun _ => q) c 0
  a c := word (fun _ => K) (fun _ => q) c 1
  e c := word (fun _ => K) (fun _ => q) c 2
  b c := word (fun _ => K) (fun _ => q) c 3
  a2 c := word (fun _ => K) (fun _ => q) c 4
  b2 c := word (fun _ => K) (fun _ => q) c 5
  n2 c := word (fun _ => K) (fun _ => q) c 6
  hf := fitsF (fun _ => t) (fun _ => K) (fun _ => q) fun _ => hG
  hg := fitsG (fun _ => t) (fun _ => K) (fun _ => q) fun _ => hG
  hl := fitsL (fun _ => t) (fun _ => K) (fun _ => q) fun _ => hG
  hn _ := (quiet (F := F) (fun _ => t) (fun _ => K) (fun _ => q) (fun _ => hG) X).hn _
  X := X
  g c i := some (want K.toNat X c i)
  hL c j h := by
    refine admitted_of _ _ _ _ fun x => (read_x _ _ _ x).trans ?_
    have hx : (x 0).val < 64 := (x 0).isLt
    have hlo := hG.lo; have hhi := hG.hi; have hre := hG.reach; have hne := hG.near
    obtain ⟨h0, h3, h5, h6, hr0, hr1⟩ := word_nat (fun _ => t) (fun _ => K) (fun _ => q) (fun _ => hG) c
    have hs : firstRow j.val (word (fun _ => K) (fun _ => q) c 4) (word (fun _ => K) (fun _ => q) c 5) = _ :=
      firstRow_eq j.isLt (by obtain hr | hr := rank_cases (fun _ => t) (fun _ => K) (fun _ => q) (fun _ => hG) c
                             · have := hr0 hr; omega
                             · have := hr1 hr; omega) (by omega) (by omega)
    have ho : Own K.toNat (rank c) (firstRow j.val (word (fun _ => K) (fun _ => q) c 4) (word (fun _ => K) (fun _ => q) c 5) + (x 0).val) := by
      rw [hs]; unfold Own
      obtain hr | hr := rank_cases (fun _ => t) (fun _ => K) (fun _ => q) (fun _ => hG) c
      · have := hr0 hr; rw [if_pos hr]; omega
      · have := hr1 hr; rw [if_neg (by rw [hr]; decide)]; omega
    exact want_eq _ X c c _ _ (if_pos ho).symm (by unfold old; exact (if_pos ho).symm) rfl rfl
  hR c j h := by
    refine admitted_of _ _ _ _ fun x => (read_x _ _ _ x).trans ?_
    have hx : (x 0).val < 64 := (x 0).isLt
    have hlo := hG.lo; have hhi := hG.hi
    obtain ⟨h0, h3, h5, h6, hr0, hr1⟩ := word_nat (fun _ => t) (fun _ => K) (fun _ => q) (fun _ => hG) c
    have hs : firstRow j.val (word (fun _ => K) (fun _ => q) c 1) (word (fun _ => K) (fun _ => q) c 3) = _ :=
      firstRow_eq j.isLt (by obtain hr | hr := rank_cases (fun _ => t) (fun _ => K) (fun _ => q) (fun _ => hG) c
                             · have := hr0 hr; omega
                             · have := hr1 hr; omega) (by omega) (by omega)
    have hs' : firstRow j.val (word (fun _ => K) (fun _ => q) c 2) (word (fun _ => K) (fun _ => q) c 3) = _ :=
      firstRow_eq j.isLt (by obtain hr | hr := rank_cases (fun _ => t) (fun _ => K) (fun _ => q) (fun _ => hG) c
                             · have := hr0 hr; omega
                             · have := hr1 hr; omega) (by omega) (by omega)
    have ho : ¬ Own K.toNat (rank (nbr c)) (firstRow j.val (word (fun _ => K) (fun _ => q) c 2) (word (fun _ => K) (fun _ => q) c 3) + (x 0).val) := by
      rw [hs', rank_nbr]; unfold Own
      obtain hr | hr := rank_cases (fun _ => t) (fun _ => K) (fun _ => q) (fun _ => hG) c
      · have := hr0 hr; rw [hr, if_neg (by decide)]; omega
      · have := hr1 hr; rw [hr, if_pos (by decide)]; omega
    refine want_eq _ X (nbr c) c _ _ (by rw [nbr_nbr]; exact (if_neg ho).symm) ?_ rfl rfl
    unfold old
    refine Eq.trans ?_ (if_neg ho).symm
    show firstRow j.val (word (fun _ => K) (fun _ => q) c 1) (word (fun _ => K) (fun _ => q) c 3) + (x 0).val
      = if rank (nbr c) = 0 then firstRow j.val (word (fun _ => K) (fun _ => q) c 2) (word (fun _ => K) (fun _ => q) c 3) + (x 0).val - (2048 - K.toNat)
        else firstRow j.val (word (fun _ => K) (fun _ => q) c 2) (word (fun _ => K) (fun _ => q) c 3) + (x 0).val + (2048 - K.toNat)
    rw [hs, hs', rank_nbr]
    obtain hr | hr := rank_cases (fun _ => t) (fun _ => K) (fun _ => q) (fun _ => hG) c
    · have := hr0 hr; rw [hr, if_neg (by decide)]; omega
    · have := hr1 hr; rw [hr, if_pos (by decide)]; omega

/-- Every element of the result is in some chunk that lands there. -/
theorem filled (X : (c : Dev nD) → Buf (Elt F) (xLoc c)) (c : Dev nD) (f' : Buf (Elt F) (oLoc c)) (h : Rel (moves t K q hG X) c f') :
    f' = want K.toNat X c := by
  refine funext fun (i : S2048x8x128.Idx) => h i ?_ _ rfl
  have hlo := hG.lo; have hhi := hG.hi; have hre := hG.reach; have hne := hG.near
  have hi : (i 0).val < 2048 := (i 0).isLt
  obtain ⟨h0, h3, h5, h6, hr0, hr1⟩ := word_nat (fun _ => t) (fun _ => K) (fun _ => q) (fun _ => hG) c
  obtain ⟨k0, k3, k5, k6, kr0, kr1⟩ := word_nat (fun _ => t) (fun _ => K) (fun _ => q) (fun _ => hG) (nbr c)
  by_cases ho : Own K.toNat (rank c) (i 0).val
  · refine Finset.mem_union_left _ ?_
    obtain ⟨j, hj, hl, hr⟩ := covered (a := word (fun _ => K) (fun _ => q) c 4) (b := word (fun _ => K) (fun _ => q) c 5)
      (n := word (fun _ => K) (fun _ => q) c 6) (r := (i 0).val)
      (by obtain hr | hr := rank_cases (fun _ => t) (fun _ => K) (fun _ => q) (fun _ => hG) c
          · have := hr0 hr; omega
          · have := hr1 hr; omega) (by omega) (by omega) (by rw [h6]; omega) (by rw [h6]; omega)
      (by unfold Own at ho
          obtain hr | hr := rank_cases (fun _ => t) (fun _ => K) (fun _ => q) (fun _ => hG) c
          · have := hr0 hr; rw [if_pos hr] at ho; omega
          · have := hr1 hr; rw [if_neg (by rw [hr]; decide)] at ho; omega)
      (by unfold Own at ho
          obtain hr | hr := rank_cases (fun _ => t) (fun _ => K) (fun _ => q) (fun _ => hG) c
          · have := hr0 hr; rw [if_pos hr] at ho; omega
          · have := hr1 hr; rw [if_neg (by rw [hr]; decide)] at ho; omega)
    refine Finset.mem_biUnion.mpr ⟨j, Finset.mem_univ _, ?_⟩
    unfold regL
    rw [dif_pos (show gd j ((moves t K q hG X).n2 c) = 1#1 from hj)]
    exact mem_chunk _ _ rfl rfl i hl hr
  · refine Finset.mem_union_right _ (Finset.mem_union_left _ ?_)
    rw [rank_nbr] at kr0 kr1
    obtain ⟨j, hj, hl, hr⟩ := covered (a := word (fun _ => K) (fun _ => q) (nbr c) 2) (b := word (fun _ => K) (fun _ => q) (nbr c) 3)
      (n := word (fun _ => K) (fun _ => q) (nbr c) 0) (r := (i 0).val)
      (by obtain hr | hr := rank_cases (fun _ => t) (fun _ => K) (fun _ => q) (fun _ => hG) c
          · have := kr1 (by rw [hr]; rfl); omega
          · have := kr0 (by rw [hr]; rfl); omega) (by omega) (by omega) (by omega) (by omega)
      (by unfold Own at ho
          obtain hr | hr := rank_cases (fun _ => t) (fun _ => K) (fun _ => q) (fun _ => hG) c
          · have := kr1 (by rw [hr]; rfl); rw [if_pos hr] at ho; omega
          · have := kr0 (by rw [hr]; rfl); rw [if_neg (by rw [hr]; decide)] at ho; omega)
      (by unfold Own at ho
          obtain hr | hr := rank_cases (fun _ => t) (fun _ => K) (fun _ => q) (fun _ => hG) c
          · have := kr1 (by rw [hr]; rfl); rw [if_pos hr] at ho; omega
          · have := kr0 (by rw [hr]; rfl); rw [if_neg (by rw [hr]; decide)] at ho; omega)
    refine Finset.mem_biUnion.mpr ⟨j, Finset.mem_univ _, ?_⟩
    unfold regR
    rw [dif_pos (show gd j ((moves t K q hG X).n (nbr c)) = 1#1 from hj)]
    exact mem_chunk _ _ rfl rfl i hl hr

end

end Cert.KernelIdeal.Move
end
-- ==== Proof.Sorted.lean ====
/- The stable sort of 4096 rows by a 0/1 key that cuts both halves in two: it exchanges two blocks of rows. -/
module

public import Idealize.ShloMosaic.Lib.SortFacts

@[expose] public section

namespace Cert.Order

open Idealize.ShloMosaic

/-- Which row comes to row `i`: the last `K` rows of the first half and the first `K` of the second change places. -/
def across (K i : Nat) : Nat := if i < 2048 - K then i else if i < 2048 then i + K else if i < 2048 + K then i - K else i

/-- Which half row `i` is for. -/
def half (K i : Nat) : Nat := if i < 2048 - K ∨ (2048 ≤ i ∧ i < 2048 + K) then 0 else 1

theorem across_lt {K i : Nat} (hK : K ≤ 2048) (hi : i < 4096) : across K i < 4096 := by
  unfold across; split_ifs <;> omega

theorem across_across {K i : Nat} (hK : K ≤ 2048) : across K (across K i) = i := by
  unfold across; split_ifs <;> omega

/-- A later row goes before an earlier one just when its half is the smaller. -/
theorem half_lt {K a b : Nat} (hK : K ≤ 2048) (h : a < b) : half K b < half K a ↔ across K b < across K a := by
  unfold half across; split_ifs <;> omega

/-- The exchange of the two blocks, as a permutation of the rows. -/
def exchange (K : Nat) (hK : K ≤ 2048) : Equiv.Perm (Fin 4096) where
  toFun i := ⟨across K i.val, across_lt hK i.isLt⟩
  invFun i := ⟨across K i.val, across_lt hK i.isLt⟩
  left_inv _ := Fin.ext (across_across hK)
  right_inv _ := Fin.ext (across_across hK)

/-- A stable sort of an increasing list asks only how later elements compare with earlier ones. -/
theorem stableSort_later {n : Nat} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_later R R' h l hl.2]
    exact insertBefore_congr R R' a _ fun b hb => h a b (hl.1 b ((perm_stableSort R' l).mem_iff.mp hb))

/-- What stands at a place of a sorted list that lists a permutation. -/
theorem sortedFrom_listed {n : Nat} (σ : Equiv.Perm (Fin n)) (R : Fin n → Fin n → Bool) (e : sortPositions n R = List.ofFn σ) (k : Fin n) :
    sortedFrom R k = σ k := by
  unfold sortedFrom
  rw [List.get_of_eq e]
  simp

/-- The stable sort by the halves is the exchange. -/
theorem sortedFrom_exchange {K : Nat} (hK : K ≤ 2048) (R : Fin 4096 → Fin 4096 → Bool)
    (hR : ∀ a b : Fin 4096, R b a = decide (half K b.val < half K a.val)) (k : Fin 4096) : (sortedFrom R k).val = across K k.val := by
  have e : sortPositions 4096 R = List.ofFn (exchange K hK) := by
    rw [← sortPositions_of_perm]
    refine stableSort_later _ _ (fun a b hab => ?_) _ (List.pairwise_lt_finRange 4096)
    rw [hR]
    exact decide_eq_decide.mpr (half_lt hK hab)
  exact congrArg Fin.val (sortedFrom_listed _ R e k)

end Cert.Order
-- ==== Proof.Ref.lean ====
/- What the reference computes, read at an index: the rows with the two middle blocks exchanged. -/
module

public import proofs.«01_k».proof.Proof.Sorted
public import proofs.«01_k».proof.Proof.Gen.ReferenceIdeal.Run
public import Idealize.ShloMosaic.Lib.Pointwise
public import Idealize.ShloMosaic.Lib.WordCmp
public import Idealize.ShloMosaic.Lib.Affine

@[expose] public section

noncomputable section

namespace Cert.ReferenceIdeal.Rows

open Cert.ReferenceIdeal Cert.ReferenceIdeal.Gen Cert.ReferenceIdeal.Value Cert.Order
open Idealize.ShloMosaic
open Idealize.ShloMosaic.TcCoe

variable {F : FTy → Type} [FloatOps F]

/-- The divisor of the remainder, 2048. -/
def two : IVec S_ 32 := select (cmpi .eq (id (constantI S_ 32 2048#32)) (constantI S_ 32 0#32)) (constantI S_ 32 1#32) (id (constantI S_ 32 2048#32))

/-- The remainder as the division leaves it. -/
def left : IVec S4096 32 := Host.remsi (iotaInDim S4096 32 0) (broadcastInDim S4096 ![] bcast_S_S4096 two)

/-- The row's place in its half. -/
def within : IVec S4096 32 :=
  select (andi (cmpi .ne (cmpi .slt left (broadcastInDim S4096 ![] bcast_S_S4096 (constantI S_ 32 0#32)))
      (broadcastInDim S4096 ![] bcast_S_S4096 (cmpi .slt two (constantI S_ 32 0#32))))
    (cmpi .ne left (broadcastInDim S4096 ![] bcast_S_S4096 (constantI S_ 32 0#32))))
    (addi left (broadcastInDim S4096 ![] bcast_S_S4096 two)) left

/-- How many rows of the row's half are for the first half. -/
def firsts (t : IVec S2x7 32) : IVec S4096 32 :=
  shapeCast _ (broadcastInDim S2x2048 ![0] bcast_S2_S2x2048_0 (concatenate S2 0
    [⟨S1, (broadcastInDim S1 ![] bcast_S_S1 (shapeCast _ (extractStridedSlice S1x1 ![0, 5] t slices_S2x7_S1x1_0_5) shapeCasts_S1x1_S_))⟩,
     ⟨S1, (broadcastInDim S1 ![] bcast_S_S1 (shapeCast _ (extractStridedSlice S1x1 ![1, 3] t slices_S2x7_S1x1_1_3) shapeCasts_S1x1_S_))⟩]
    concatenates_S1_S1_S2_d0)) shapeCasts_S2x2048_S4096

/-- The key each row is sorted by. -/
def keys (t : IVec S2x7 32) : IVec S4096 32 := extui 32 (cmpi .sge within (firsts t)) natLt_1_32

/-- The rows in sorted order. -/
def order (t : IVec S2x7 32) : IVec S4096 32 := (Host.sort2 S4096 0 comparator_i32_i32_d0 (keys t) (iotaInDim S4096 32 0)).2

/-- The rows as they are read. -/
def picks (t : IVec S2x7 32) : IVec S4096 32 :=
  select (cmpi .slt (order t) (broadcastInDim S4096 ![] bcast_S_S4096 (constantI S_ 32 0#32)))
    (addi (order t) (broadcastInDim S4096 ![] bcast_S_S4096 (constantI S_ 32 4096#32))) (order t)

theorem res_eq (m : (ℓ : Loc nD τ sig) → Buf (Elt F) ℓ) (c : Dev nD) :
    res_main_v20 m c = Host.gather gather_S4096x8x128_S4096x1_S4096x8x128_12_0_n_n_0_1_18128 (m ((c.tc : Thread nD τ).loc main_arg1))
      (broadcastInDim S4096x1 ![0] bcast_S4096_S4096x1_0 (picks (m ((c.tc : Thread nD τ).loc main_arg0)))) := rfl

theorem within_at (k : Fin 4096) : within (ix1 k) = BitVec.ofNat 32 (k.val % 2048) := by
  have hl : left (ix1 k) = BitVec.ofNat 32 (k.val % 2048) := by
    refine BitVec.eq_of_toNat_eq ?_
    show (IntOp.remsi .host (BitVec.ofNat 32 k.val) (BitVec.ofNat 32 2048)).toNat = _
    have hk : (BitVec.ofNat 32 k.val).toNat = k.val := by rw [BitVec.toNat_ofNat]; omega
    rw [IntOp.toNat_remsi .host (by rw [hk]; omega) 2048 (by omega) (by omega), hk, BitVec.toNat_ofNat]
    omega
  show (if IntOp.andi (IntOp.cmpi .ne (IntOp.cmpi .slt (left (ix1 k)) 0#32) (0#1)) (IntOp.cmpi .ne (left (ix1 k)) 0#32) = 1#1 then _ else left (ix1 k)) = _
  have hs : IntOp.cmpi .slt (left (ix1 k)) 0#32 = 0#1 := by
    rw [hl, WordCmp.cmpi_slt_eq, WordCmp.toInt_ofNat_of_lt (by omega)]
    rw [decide_eq_false (by simp; omega)]; rfl
  rw [hs, if_neg (by generalize IntOp.cmpi .ne (left (ix1 k)) 0#32 = z; revert z; decide), hl]

theorem firsts_at (t : IVec S2x7 32) (k : Fin 4096) : firsts t (ix1 k) = if k.val < 2048 then t (ix2 0 5) else t (ix2 1 3) := by
  have e : firsts t (ix1 k) = if k.val / 2048 < 1 then t (ix2 0 5) else t (ix2 1 3) := by
    unfold firsts
    pointwise
    rfl
  rw [e]
  exact if_congr (by omega) rfl rfl

/-- A sort of two vectors, the second read at an index. -/
theorem sort2_at {n : Nat} {α β : Type} (cmp : α × β → α × β → BitVec 1) (x : (⟨1, ![n]⟩ : Shape).Idx → α)
    (y : (⟨1, ![n]⟩ : Shape).Idx → β) (k : Fin n) : (Host.sort2 ⟨1, ![n]⟩ 0 cmp x y).2 (ix1 k)
      = y (ix1 (sortedFrom (fun a b => cmp (x (ix1 a), y (ix1 a)) (x (ix1 b), y (ix1 b)) == 1#1) k)) := by
  have ea (a : Fin n) : (ix1 k : (⟨1, ![n]⟩ : Shape).Idx).along ⟨0, Nat.zero_lt_one⟩ a = ix1 a := by
    refine funext fun b => ?_
    obtain rfl : b = 0 := Subsingleton.elim _ _
    exact Fin.ext (by simp [Shape.Idx.along]; rfl)
  unfold Host.sort2
  rw [dif_pos (show 0 < (⟨1, ![n]⟩ : Shape).rank from Nat.zero_lt_one)]
  have eR : (fun a b : Fin n => cmp (x ((ix1 k).along ⟨0, Nat.zero_lt_one⟩ a), y ((ix1 k).along ⟨0, Nat.zero_lt_one⟩ a))
      (x ((ix1 k).along ⟨0, Nat.zero_lt_one⟩ b), y ((ix1 k).along ⟨0, Nat.zero_lt_one⟩ b)) == 1#1)
      = fun a b => cmp (x (ix1 a), y (ix1 a)) (x (ix1 b), y (ix1 b)) == 1#1 := by
    funext a b
    rw [ea, ea]
  exact (congrArg y (ea _)).trans (congrArg (fun R : Fin n → Fin n → Bool => y (ix1 (sortedFrom R k))) eR)

/-- A word that is not negative is read as it stands. -/
theorem wrap_at {s : Shape} (x z w : IVec s 32) (i : s.Idx) (hz : z i = 0#32) (hx : 2 * (x i).toNat < 2 ^ 32) :
    select (cmpi .slt x z) (addi x w) x i = x i := by
  show (if IntOp.cmpi .slt (x i) (z i) = 1#1 then _ else x i) = _
  rw [hz, WordCmp.cmpi_slt_eq, WordCmp.toInt_eq_toNat_of_lt_half (by omega), if_neg]
  rw [decide_eq_false (by simp)]; decide

section
variable {t : IVec S2x7 32} {K : Nat} (hK : K ≤ 2048) (h0 : (t (ix2 0 5)).toNat = 2048 - K) (h1 : (t (ix2 1 3)).toNat = K)
include hK h0 h1

theorem keys_at (k : Fin 4096) : keys t (ix1 k) = BitVec.ofNat 32 (half K k.val) := by
  show (IntOp.cmpi .sge (within (ix1 k)) (firsts t (ix1 k))).setWidth 32 = _
  have e : (firsts t (ix1 k)).toNat = if k.val < 2048 then 2048 - K else K := by
    rw [firsts_at]; split_ifs <;> assumption
  have hb : (firsts t (ix1 k)).toNat ≤ 2048 := by rw [e]; split_ifs <;> omega
  have hk := k.isLt
  have hc : IntOp.cmpi .sge (within (ix1 k)) (firsts t (ix1 k)) = BitVec.ofBool (decide (half K k.val = 1)) := by
    rw [WordCmp.cmpi_sge_eq, within_at, WordCmp.toInt_eq_toNat_of_lt_half (x := firsts t (ix1 k)) (by omega),
      WordCmp.toInt_ofNat_of_lt (by omega), e]
    clear e hb
    congr 1
    refine decide_eq_decide.mpr ?_
    unfold half
    by_cases h : k.val < 2048
    · rw [if_pos h]; split_ifs <;> constructor <;> intro hh <;> first | omega | exact hh.elim
    · rw [if_neg h]; split_ifs <;> constructor <;> intro hh <;> first | omega | exact hh.elim
  rw [hc]
  have : half K k.val = 0 ∨ half K k.val = 1 := by unfold half; split_ifs <;> simp
  rcases this with h | h <;> rw [h] <;> decide

theorem order_at (k : Fin 4096) : order t (ix1 k) = BitVec.ofNat 32 (across K k.val) := by
  unfold order
  rw [sort2_at]
  refine congrArg (BitVec.ofNat 32) (sortedFrom_exchange hK _ (fun a b => ?_) k)
  show (IntOp.cmpi .slt (keys t (ix1 b)) (keys t (ix1 a)) == 1#1) = _
  rw [keys_at hK h0 h1, keys_at hK h0 h1]
  have (x : Nat) : half K x = 0 ∨ half K x = 1 := by unfold half; split_ifs <;> simp
  rcases this a.val with h | h <;> rcases this b.val with h' | h' <;> rw [h, h'] <;> decide

theorem picks_at (k : Fin 4096) : picks t (ix1 k) = BitVec.ofNat 32 (across K k.val) := by
  have hb := across_lt hK k.isLt
  have e := order_at hK h0 h1 k
  unfold picks
  rw [wrap_at _ _ _ _ rfl (by rw [e, BitVec.toNat_ofNat]; omega), e]

end

/-- The row an element of the result comes from. -/
def pick (K : Nat) (i : S4096x8x128.Idx) : S4096x8x128.Idx := fun a => match a with
  | ⟨0, _⟩ => ⟨across K (i 0).val % 4096, Nat.mod_lt _ (by decide)⟩
  | ⟨1, _⟩ => i 1
  | ⟨2, _⟩ => i 2

/-- A gather of whole rows, read at an index. -/
theorem gather_at (x : S4096x8x128.Idx → F .bf16) (w : IVec S4096 32) (i : S4096x8x128.Idx) (K : Nat) (hK : K ≤ 2048)
    (hw : w (ix1 (i 0)) = BitVec.ofNat 32 (across K (i 0).val)) :
    Host.gather gather_S4096x8x128_S4096x1_S4096x8x128_12_0_n_n_0_1_18128 x (broadcastInDim S4096x1 ![0] bcast_S4096_S4096x1_0 w) i
      = x (pick K i) := by
  have hb : across K (i 0).val < 4096 := across_lt hK (i 0).isLt
  unfold Host.gather
  refine congrArg x (funext fun a => Fin.ext ?_)
  set d := gather_S4096x8x128_S4096x1_S4096x8x128_12_0_n_n_0_1_18128 with hd
  set v := broadcastInDim S4096x1 ![0] bcast_S4096_S4096x1_0 w with hv
  show d.start i v a + d.batchCoord i a + d.offCoord i a = _
  rw [d.batchCoord_eq_zero _ _ List.not_mem_nil, Nat.add_zero]
  have hs : v (d.siIdx i ⟨d.startIndexMap.idxOf 0, List.idxOf_lt_length_iff.2 (List.mem_singleton.mpr rfl)⟩) = BitVec.ofNat 32 (across K (i 0).val) := by
    rw [← hw, show d.siIdx i ⟨d.startIndexMap.idxOf 0, List.idxOf_lt_length_iff.2 (List.mem_singleton.mpr rfl)⟩ = ix2 (i 0) (0 : Fin 1) from ?_]
    · rw [hv]; pointwise
    · funext b; refine Fin.ext ?_
      match b with
      | ⟨0, _⟩ => rfl
      | ⟨1, _⟩ => rfl
  match a with
  | ⟨0, _⟩ =>
    have hk : (0 : Fin 3) ∉ d.sKept := fun h => ((d.mem_sKept 0).1 h).1 (List.mem_singleton.2 rfl)
    show d.start i v 0 + d.offCoord i 0 = across K (i 0).val % 4096
    rw [d.offCoord_eq_zero _ _ hk, Nat.add_zero]
    unfold GatherDims.start
    rw [dif_pos (show (0 : Fin 3) ∈ d.startIndexMap from List.mem_singleton.mpr rfl)]
    rw [hs, WordCmp.toInt_ofNat_of_lt (by omega)]
    show min (across K (i 0).val) (4096 - 1) = _
    omega
  | ⟨1, _⟩ =>
    show d.start i v 1 + d.offCoord i 1 = (i 1).val
    unfold GatherDims.start GatherDims.offCoord
    rw [dif_neg (show (1 : Fin 3) ∉ d.startIndexMap by decide), dif_pos (show (1 : Fin 3) ∈ d.sKept by decide), Nat.zero_add]
    rfl
  | ⟨2, _⟩ =>
    show d.start i v 2 + d.offCoord i 2 = (i 2).val
    unfold GatherDims.start GatherDims.offCoord
    rw [dif_neg (show (2 : Fin 3) ∉ d.startIndexMap by decide), dif_pos (show (2 : Fin 3) ∈ d.sKept by decide), Nat.zero_add]
    rfl

theorem res_at (m : (ℓ : Loc nD τ sig) → Buf (Elt F) ℓ) (c : Dev nD) (K : Nat) (hK : K ≤ 2048)
    (h0 : ((m ((c.tc : Thread nD τ).loc main_arg0) : IVec S2x7 32) (ix2 0 5)).toNat = 2048 - K)
    (h1 : ((m ((c.tc : Thread nD τ).loc main_arg0) : IVec S2x7 32) (ix2 1 3)).toNat = K) (i : S4096x8x128.Idx) :
    res_main_v20 m c i = (m ((c.tc : Thread nD τ).loc main_arg1) : S4096x8x128.Idx → F .bf16) (pick K i) := by
  rw [res_eq]
  exact gather_at _ _ i K hK (picks_at hK h0 h1 (i 0))

end Cert.ReferenceIdeal.Rows
end
-- ==== Proof.Blocks.lean ====
/- The devices' results are the blocks of the reference's: the two descriptions of the exchanged rows meet, and the
   kernel's run ends with the blocks. -/
module

public import proofs.«01_k».proof.Proof.Want
public import proofs.«01_k».proof.Proof.Ref
public import Idealize.ShloMosaic.Lib.Layout

@[expose] public section

noncomputable section

namespace Cert.KernelIdeal.Move

open Cert.KernelIdeal Cert.KernelIdeal.Gen Cert.Table Cert.Order
open Idealize.ShloMosaic
open Idealize.ShloMosaic.TcCoe
open Idealize.SL.Sem

variable {F : FTy → Type} [FloatOps F]

/-- The rows of all ranks. -/
abbrev All : Shape := ⟨3, ![4096, 8, 128]⟩

/-- A device's block of the rows of all ranks. -/
abbrev part (V : All.Idx → Elt F .bf16) (c : Dev nD) : S2048x8x128.Idx → Elt F .bf16 :=
  Layout.blockN ⟨3, ![2048, 8, 128]⟩ ⟨3, ![4096, 8, 128]⟩ (Layout.meshBlock [2, 2, 4] ![[1], [], []] c) V

/-- Where an element of a device's block stands among all rows. -/
def spread (y : Fin 2) (i : S2048x8x128.Idx) : All.Idx := fun a => match a with
  | ⟨0, _⟩ => ⟨2048 * y.val + (i 0).val, by have : (i 0).val < 2048 := (i 0).isLt; show _ < 4096; omega⟩
  | ⟨1, _⟩ => i 1
  | ⟨2, _⟩ => i 2

theorem part_at (V : All.Idx → Elt F .bf16) (c : Dev nD) (i : S2048x8x128.Idx) : part V c i = V (spread (rank c) i) := by
  refine congrArg V (funext fun a => Fin.ext ?_)
  match a with
  | ⟨0, _⟩ =>
    show (((c.val / 4) % 2) * 1 + 0) * 2048 + (i 0).val = 2048 * ((c.val / 4) % 2) + (i 0).val
    omega
  | ⟨1, _⟩ => show 0 * 8 + (i 1).val = (i 1).val; omega
  | ⟨2, _⟩ => show 0 * 128 + (i 2).val = (i 2).val; omega

/-- The row a row comes from, told by rank and told among all rows. -/
theorem across_spread {K : Nat} (hK : K ≤ 1024) (y : Fin 2) {r : Nat} (hr : r < 2048) :
    across K (2048 * y.val + r) = 2048 * (if Own K y r then y.val else 1 - y.val) + old K y r ∧ old K y r < 2048 := by
  have hy : y = 0 ∨ y = 1 := by revert y; decide
  unfold old Own across
  obtain rfl | rfl := hy
  · simp only [if_true, Fin.val_zero, Nat.mul_zero, Nat.zero_add]
    split_ifs <;> omega
  · simp only [Fin.one_eq_zero_iff, Fin.val_one, show ¬ (2 = 1) by decide, if_false]
    split_ifs <;> omega

/-- What the devices are to hold is the blocks of the exchanged rows. -/
theorem want_part {K : Nat} (hK : K ≤ 1024) (V : All.Idx → Elt F .bf16) (c : Dev nD) :
    want K (part V) c = part (fun i => V (Cert.ReferenceIdeal.Rows.pick K i)) c := by
  funext i
  have hr : (i 0).val < 2048 := (i 0).isLt
  obtain ⟨e, hb⟩ := across_spread hK (rank c) hr
  rw [part_at]
  unfold want
  rw [part_at]
  refine congrArg V (funext fun a => Fin.ext ?_)
  match a with
  | ⟨1, _⟩ => rfl
  | ⟨2, _⟩ => rfl
  | ⟨0, _⟩ =>
    show 2048 * (rank (if Own K (rank c) (i 0).val then c else nbr c)).val + old K (rank c) (i 0).val % 2048
      = across K (2048 * (rank c).val + (i 0).val) % 4096
    have hn : (rank (nbr c)).val = 1 - (rank c).val := by rw [rank_nbr]; generalize rank c = y; revert y; decide
    have hy : (rank c).val < 2 := (rank c).isLt
    have hd : (rank (if Own K (rank c) (i 0).val then c else nbr c)).val = if Own K (rank c) (i 0).val then (rank c).val else 1 - (rank c).val := by
      split_ifs <;> first | rfl | exact hn
    rw [hd, e]
    split_ifs <;> omega

variable (m : (ℓ : Loc nD τ sig) → Buf (Elt F) ℓ) (ρ : Dev nD → PrngReg)

/-- The kernel's run, where all devices hold one good table. -/
theorem run_want (t : S2x7.Idx → BitVec 32) (K q : BitVec 32) (hG : Good t K q)
    (ht : ∀ c : Dev nD, m ((c : Thread nD τ).loc main_arg0) = t) :
    θ_run defs (onTc (τ := τ) (main (F := F))) ⟨m, fun _ => 0, ρ⟩ (fun r => ∀ c : Dev nD,
      r.2.mem ((c : Thread nD τ).loc main_v1) = want K.toNat (fun c : Dev nD => m ((c : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨filled t K q hG _ c _ (h.1 c).2.2, (h.1 c).1, (h.1 c).2.1⟩)
    (run_main m ρ (moves t K q hG fun c : Dev nD => m ((c : Thread nD τ).loc main_arg1))
      ⟨fun _ => rfl, fun c =>
        have w (k : Fin 7) : (m ((c : Thread nD τ).loc main_arg0) : S2x7.Idx → BitVec 32) (spot (rank c) k) = word (fun _ => K) (fun _ => q) c k :=
          (congrFun (ht c) _).trans (reads_of (fun _ => t) (fun _ => K) (fun _ => q) (fun _ => hG) c k)
        ⟨w 0, w 1, w 2, w 3, w 4, w 5, w 6⟩⟩)

/-- The words of the table that say where each half divides. -/
theorem cuts_of {t : S2x7.Idx → BitVec 32} {K q : BitVec 32} (hG : Good t K q) :
    (t (ix2 0 5)).toNat = 2048 - K.toNat ∧ (t (ix2 1 3)).toNat = K.toNat := by
  have hh := hG.hi
  refine ⟨?_, ?_⟩
  · rw [hG.words]
    show (2048#32 - K).toNat = _
    rw [BitVec.toNat_sub, BitVec.toNat_ofNat]; omega
  · rw [hG.words]; rfl

end Cert.KernelIdeal.Move
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_even_Kernel
public import proofs.«01_k».proof.Proof.Gen.Pre_even_ReferenceIdeal
public import proofs.«01_k».proof.Proof.Word.Fill
public import proofs.«01_k».proof.Proof.Blocks

@[expose] public section

noncomputable section

namespace Cert.Proof

open Idealize.ShloMosaic Idealize.SL.Sem Cert.Table

/-- The program itself: it ends, its arguments as they were, every counter at zero. -/
theorem frame_word : Cert.quiescent_Kernel := fun m ρ hP =>
  Cert.Kernel.Move.run_quiet m ρ _ _ fun c => good_of (hP c)

/-- The same, of the program over exact numbers. -/
theorem frame_ideal : Cert.quiescent_KernelIdeal := fun m ρ hP =>
  Cert.KernelIdeal.Move.run_quiet m ρ _ _ fun c => good_of (hP c)

/-- The reference ends with its arguments as they were; it has no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The devices' results are the blocks of the reference's. -/
theorem values : Cert.algebraic_KernelIdeal_ReferenceIdeal := fun m ρ m' ρ' hP hA => by
  have hG := good_of (hP 0)
  rw [(hA 0).1] at hG
  have hc := Cert.KernelIdeal.Move.cuts_of hG
  refine ⟨Cert.ReferenceIdeal.Value.res_main_v20 m' 0, ?_, (θ_run Cert.ReferenceIdeal.defs _ _).mono (fun r h => h 0) (Cert.ReferenceIdeal.Value.run m' ρ')⟩
  refine (θ_run Cert.KernelIdeal.defs _ _).mono (fun r h c => ⟨(h c).1.trans ?_, (h c).2⟩)
    (Cert.KernelIdeal.Move.run_want m ρ _ _ _ hG fun c => (hA c).1)
  rw [show (Cert.ReferenceIdeal.Value.res_main_v20 m' 0) = _ from
    funext fun i => Cert.ReferenceIdeal.Rows.res_at m' 0 _ (hG.hi.trans (by decide)) hc.1 hc.2 i]
  exact (congrArg (fun X => Cert.KernelIdeal.Move.want _ X c) (funext fun d => (hA d).2)).trans
    (Cert.KernelIdeal.Move.want_part hG.hi _ c)

/-- Everything that is claimed. -/
theorem claim : Cert.Claim :=
  ⟨Cert.Kernel.Gen.facts, Cert.KernelIdeal.Gen.facts, Cert.ReferenceIdeal.Gen.facts, Cert.Pre_even_Kernel.Gen.facts,
    Cert.Pre_even_ReferenceIdeal.Gen.facts, frame_word, frame_ideal, frame_ref, fun m ρ _ => frame_ref m ρ trivial, trivial, values⟩

end Cert.Proof

end
